-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_conv [hPre_finite_conv : Cert.Pre_finite_conv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_conv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_conv [hPre_finite_conv : Cert.Pre_finite_conv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_conv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge [hPre_own_shard : Cert.Pre_own_shard.Facts] (m : (ℓ : Loc Cert.Merge.nD Cert.Merge.τ Cert.Merge.sig) → Buf (Elt Bits) ℓ) : Prop :=
  ∀ c : Dev Cert.Merge.nD,
    (Cert.Pre_own_shard.fn (F := Bits) (m ((c.tc : Thread Cert.Merge.nD Cert.Merge.τ).loc Cert.Merge.main_arg0)) (m ((c.tc : Thread Cert.Merge.nD Cert.Merge.τ).loc Cert.Merge.main_arg1)) (m ((c.tc : Thread Cert.Merge.nD Cert.Merge.τ).loc Cert.Merge.main_arg2)) (m ((c.tc : Thread Cert.Merge.nD Cert.Merge.τ).loc Cert.Merge.main_arg3)) (m ((c.tc : Thread Cert.Merge.nD Cert.Merge.τ).loc Cert.Merge.main_arg4)) (m ((c.tc : Thread Cert.Merge.nD Cert.Merge.τ).loc Cert.Merge.main_arg5)) (m ((c.tc : Thread Cert.Merge.nD Cert.Merge.τ).loc Cert.Merge.main_arg6)) (m ((c.tc : Thread Cert.Merge.nD Cert.Merge.τ).loc Cert.Merge.main_arg7)) (m ((c.tc : Thread Cert.Merge.nD Cert.Merge.τ).loc Cert.Merge.main_arg8))) = (fun _ => 1#1)

def Pre_MergeIdeal [hPre_own_shard : Cert.Pre_own_shard.Facts] (m : (ℓ : Loc Cert.MergeIdeal.nD Cert.MergeIdeal.τ Cert.MergeIdeal.sig) → Buf (Elt Ideal) ℓ) : Prop :=
  ∀ c : Dev Cert.MergeIdeal.nD,
    (Cert.Pre_own_shard.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_own_shard [hPre_own_shard : Cert.Pre_own_shard.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_own_shard.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_InputProjection (m : (ℓ : Loc Cert.InputProjection.nD Cert.InputProjection.τ Cert.InputProjection.sig) → Buf (Elt Bits) ℓ) : Prop :=
  True

def Pre_InputProjectionIdeal (m : (ℓ : Loc Cert.InputProjectionIdeal.nD Cert.InputProjectionIdeal.τ Cert.InputProjectionIdeal.sig) → Buf (Elt Ideal) ℓ) : Prop :=
  True

def Pre_InputProjectionReferenceIdeal (m : (ℓ : Loc Cert.InputProjectionReferenceIdeal.nD Cert.InputProjectionReferenceIdeal.τ Cert.InputProjectionReferenceIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormReferenceIdeal (m : (ℓ : Loc Cert.PrenormReferenceIdeal.nD Cert.PrenormReferenceIdeal.τ Cert.PrenormReferenceIdeal.sig) → Buf (Elt Ideal) ℓ) : Prop :=
  True

def Pre_PrenormGrad (m : (ℓ : Loc Cert.PrenormGrad.nD Cert.PrenormGrad.τ Cert.PrenormGrad.sig) → Buf (Elt Bits) ℓ) : Prop :=
  True

def Pre_PrenormGradIdeal (m : (ℓ : Loc Cert.PrenormGradIdeal.nD Cert.PrenormGradIdeal.τ Cert.PrenormGradIdeal.sig) → Buf (Elt Ideal) ℓ) : Prop :=
  True

def Pre_PrenormGradReferenceIdeal (m : (ℓ : Loc Cert.PrenormGradReferenceIdeal.nD Cert.PrenormGradReferenceIdeal.τ Cert.PrenormGradReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_conv [hKernelIdeal : Cert.KernelIdeal.Facts] [hPre_finite_conv : Cert.Pre_finite_conv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_conv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_conv [hReferenceIdeal : Cert.ReferenceIdeal.Facts] [hPre_finite_conv : Cert.Pre_finite_conv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_conv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] [hPre_own_shard : Cert.Pre_own_shard.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] [hPre_own_shard : Cert.Pre_own_shard.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_MergeReferenceIdeal_pre_own_shard [hMergeReferenceIdeal : Cert.MergeReferenceIdeal.Facts] [hPre_own_shard : Cert.Pre_own_shard.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_own_shard m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3))
      ∧ r.2.sem = fun _ => 0)

def quiescent_InputProjection [hInputProjection : Cert.InputProjection.Facts] : Prop :=
  ∀ (m : (ℓ : Loc Cert.InputProjection.nD Cert.InputProjection.τ Cert.InputProjection.sig) → Buf (Elt Bits) ℓ) (g : Dev Cert.InputProjection.nD → PrngReg), Pre_InputProjection m →
    θ_run (Cert.InputProjection.defs (F := Bits)) (onTc (τ := Cert.InputProjection.τ) (Cert.InputProjection.main (F := Bits))) ⟨m, fun _ => 0, g⟩ (fun r => (∀ c : Dev Cert.InputProjection.nD,
      r.2.mem ((c.tc : Thread Cert.InputProjection.nD Cert.InputProjection.τ).loc Cert.InputProjection.main_arg0) = m ((c.tc : Thread Cert.InputProjection.nD Cert.InputProjection.τ).loc Cert.InputProjection.main_arg0)
      ∧ r.2.mem ((c.tc : Thread Cert.InputProjection.nD Cert.InputProjection.τ).loc Cert.InputProjection.main_arg1) = m ((c.tc : Thread Cert.InputProjection.nD Cert.InputProjection.τ).loc Cert.InputProjection.main_arg1)
      ∧ r.2.mem ((c.tc : Thread Cert.InputProjection.nD Cert.InputProjection.τ).loc Cert.InputProjection.main_arg2) = m ((c.tc : Thread Cert.InputProjection.nD Cert.InputProjection.τ).loc Cert.InputProjection.main_arg2)
      ∧ r.2.mem ((c.tc : Thread Cert.InputProjection.nD Cert.InputProjection.τ).loc Cert.InputProjection.main_arg3) = m ((c.tc : Thread Cert.InputProjection.nD Cert.InputProjection.τ).loc Cert.InputProjection.main_arg3)
      ∧ r.2.mem ((c.tc : Thread Cert.InputProjection.nD Cert.InputProjection.τ).loc Cert.InputProjection.main_arg4) = m ((c.tc : Thread Cert.InputProjection.nD Cert.InputProjection.τ).loc Cert.InputProjection.main_arg4)
      ∧ r.2.mem ((c.tc : Thread Cert.InputProjection.nD Cert.InputProjection.τ).loc Cert.InputProjection.main_arg5) = m ((c.tc : Thread Cert.InputProjection.nD Cert.InputProjection.τ).loc Cert.InputProjection.main_arg5))
      ∧ r.2.sem = fun _ => 0)

def quiescent_InputProjectionIdeal [hInputProjectionIdeal : Cert.InputProjectionIdeal.Facts] : Prop :=
  ∀ (m : (ℓ : Loc Cert.InputProjectionIdeal.nD Cert.InputProjectionIdeal.τ Cert.InputProjectionIdeal.sig) → Buf (Elt Ideal) ℓ) (g : Dev Cert.InputProjectionIdeal.nD → PrngReg), Pre_InputProjectionIdeal m →
    θ_run (Cert.InputProjectionIdeal.defs (F := Ideal)) (onTc (τ := Cert.InputProjectionIdeal.τ) (Cert.InputProjectionIdeal.main (F := Ideal))) ⟨m, fun _ => 0, g⟩ (fun r => (∀ c : Dev Cert.InputProjectionIdeal.nD,
      r.2.mem ((c.tc : Thread Cert.InputProjectionIdeal.nD Cert.InputProjectionIdeal.τ).loc Cert.InputProjectionIdeal.main_arg0) = m ((c.tc : Thread Cert.InputProjectionIdeal.nD Cert.InputProjectionIdeal.τ).loc Cert.InputProjectionIdeal.main_arg0)
      ∧ r.2.mem ((c.tc : Thread Cert.InputProjectionIdeal.nD Cert.InputProjectionIdeal.τ).loc Cert.InputProjectionIdeal.main_arg1) = m ((c.tc : Thread Cert.InputProjectionIdeal.nD Cert.InputProjectionIdeal.τ).loc Cert.InputProjectionIdeal.main_arg1)
      ∧ r.2.mem ((c.tc : Thread Cert.InputProjectionIdeal.nD Cert.InputProjectionIdeal.τ).loc Cert.InputProjectionIdeal.main_arg2) = m ((c.tc : Thread Cert.InputProjectionIdeal.nD Cert.InputProjectionIdeal.τ).loc Cert.InputProjectionIdeal.main_arg2)
      ∧ r.2.mem ((c.tc : Thread Cert.InputProjectionIdeal.nD Cert.InputProjectionIdeal.τ).loc Cert.InputProjectionIdeal.main_arg3) = m ((c.tc : Thread Cert.InputProjectionIdeal.nD Cert.InputProjectionIdeal.τ).loc Cert.InputProjectionIdeal.main_arg3)
      ∧ r.2.mem ((c.tc : Thread Cert.InputProjectionIdeal.nD Cert.InputProjectionIdeal.τ).loc Cert.InputProjectionIdeal.main_arg4) = m ((c.tc : Thread Cert.InputProjectionIdeal.nD Cert.InputProjectionIdeal.τ).loc Cert.InputProjectionIdeal.main_arg4)
      ∧ r.2.mem ((c.tc : Thread Cert.InputProjectionIdeal.nD Cert.InputProjectionIdeal.τ).loc Cert.InputProjectionIdeal.main_arg5) = m ((c.tc : Thread Cert.InputProjectionIdeal.nD Cert.InputProjectionIdeal.τ).loc Cert.InputProjectionIdeal.main_arg5))
      ∧ r.2.sem = fun _ => 0)

def quiescent_InputProjectionReferenceIdeal [hInputProjectionReferenceIdeal : Cert.InputProjectionReferenceIdeal.Facts] : Prop :=
  ∀ (m : (ℓ : Loc Cert.InputProjectionReferenceIdeal.nD Cert.InputProjectionReferenceIdeal.τ Cert.InputProjectionReferenceIdeal.sig) → Buf (Elt Ideal) ℓ) (g : Dev Cert.InputProjectionReferenceIdeal.nD → PrngReg), Pre_InputProjectionReferenceIdeal m →
    θ_run (Cert.InputProjectionReferenceIdeal.defs (F := Ideal)) (onTc (τ := Cert.InputProjectionReferenceIdeal.τ) (Cert.InputProjectionReferenceIdeal.main (F := Ideal))) ⟨m, fun _ => 0, g⟩ (fun r => (∀ c : Dev Cert.InputProjectionReferenceIdeal.nD,
      r.2.mem ((c.tc : Thread Cert.InputProjectionReferenceIdeal.nD Cert.InputProjectionReferenceIdeal.τ).loc Cert.InputProjectionReferenceIdeal.main_arg0) = m ((c.tc : Thread Cert.InputProjectionReferenceIdeal.nD Cert.InputProjectionReferenceIdeal.τ).loc Cert.InputProjectionReferenceIdeal.main_arg0)
      ∧ r.2.mem ((c.tc : Thread Cert.InputProjectionReferenceIdeal.nD Cert.InputProjectionReferenceIdeal.τ).loc Cert.InputProjectionReferenceIdeal.main_arg1) = m ((c.tc : Thread Cert.InputProjectionReferenceIdeal.nD Cert.InputProjectionReferenceIdeal.τ).loc Cert.InputProjectionReferenceIdeal.main_arg1)
      ∧ r.2.mem ((c.tc : Thread Cert.InputProjectionReferenceIdeal.nD Cert.InputProjectionReferenceIdeal.τ).loc Cert.InputProjectionReferenceIdeal.main_arg2) = m ((c.tc : Thread Cert.InputProjectionReferenceIdeal.nD Cert.InputProjectionReferenceIdeal.τ).loc Cert.InputProjectionReferenceIdeal.main_arg2)
      ∧ r.2.mem ((c.tc : Thread Cert.InputProjectionReferenceIdeal.nD Cert.InputProjectionReferenceIdeal.τ).loc Cert.InputProjectionReferenceIdeal.main_arg3) = m ((c.tc : Thread Cert.InputProjectionReferenceIdeal.nD Cert.InputProjectionReferenceIdeal.τ).loc Cert.InputProjectionReferenceIdeal.main_arg3)
      ∧ r.2.mem ((c.tc : Thread Cert.InputProjectionReferenceIdeal.nD Cert.InputProjectionReferenceIdeal.τ).loc Cert.InputProjectionReferenceIdeal.main_arg4) = m ((c.tc : Thread Cert.InputProjectionReferenceIdeal.nD Cert.InputProjectionReferenceIdeal.τ).loc Cert.InputProjectionReferenceIdeal.main_arg4)
      ∧ r.2.mem ((c.tc : Thread Cert.InputProjectionReferenceIdeal.nD Cert.InputProjectionReferenceIdeal.τ).loc Cert.InputProjectionReferenceIdeal.main_arg5) = m ((c.tc : Thread Cert.InputProjectionReferenceIdeal.nD Cert.InputProjectionReferenceIdeal.τ).loc Cert.InputProjectionReferenceIdeal.main_arg5))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ r.2.sem = fun _ => 0)

def quiescent_PrenormReferenceIdeal [hPrenormReferenceIdeal : Cert.PrenormReferenceIdeal.Facts] : Prop :=
  ∀ (m : (ℓ : Loc Cert.PrenormReferenceIdeal.nD Cert.PrenormReferenceIdeal.τ Cert.PrenormReferenceIdeal.sig) → Buf (Elt Ideal) ℓ) (g : Dev Cert.PrenormReferenceIdeal.nD → PrngReg), Pre_PrenormReferenceIdeal m →
    θ_run (Cert.PrenormReferenceIdeal.defs (F := Ideal)) (onTc (τ := Cert.PrenormReferenceIdeal.τ) (Cert.PrenormReferenceIdeal.main (F := Ideal))) ⟨m, fun _ => 0, g⟩ (fun r => (∀ c : Dev Cert.PrenormReferenceIdeal.nD,
      r.2.mem ((c.tc : Thread Cert.PrenormReferenceIdeal.nD Cert.PrenormReferenceIdeal.τ).loc Cert.PrenormReferenceIdeal.main_arg0) = m ((c.tc : Thread Cert.PrenormReferenceIdeal.nD Cert.PrenormReferenceIdeal.τ).loc Cert.PrenormReferenceIdeal.main_arg0)
      ∧ r.2.mem ((c.tc : Thread Cert.PrenormReferenceIdeal.nD Cert.PrenormReferenceIdeal.τ).loc Cert.PrenormReferenceIdeal.main_arg1) = m ((c.tc : Thread Cert.PrenormReferenceIdeal.nD Cert.PrenormReferenceIdeal.τ).loc Cert.PrenormReferenceIdeal.main_arg1)
      ∧ r.2.mem ((c.tc : Thread Cert.PrenormReferenceIdeal.nD Cert.PrenormReferenceIdeal.τ).loc Cert.PrenormReferenceIdeal.main_arg2) = m ((c.tc : Thread Cert.PrenormReferenceIdeal.nD Cert.PrenormReferenceIdeal.τ).loc Cert.PrenormReferenceIdeal.main_arg2))
      ∧ r.2.sem = fun _ => 0)

def quiescent_PrenormGrad [hPrenormGrad : Cert.PrenormGrad.Facts] : Prop :=
  ∀ (m : (ℓ : Loc Cert.PrenormGrad.nD Cert.PrenormGrad.τ Cert.PrenormGrad.sig) → Buf (Elt Bits) ℓ) (g : Dev Cert.PrenormGrad.nD → PrngReg), Pre_PrenormGrad m →
    θ_run (Cert.PrenormGrad.defs (F := Bits)) (onTc (τ := Cert.PrenormGrad.τ) (Cert.PrenormGrad.main (F := Bits))) ⟨m, fun _ => 0, g⟩ (fun r => (∀ c : Dev Cert.PrenormGrad.nD,
      r.2.mem ((c.tc : Thread Cert.PrenormGrad.nD Cert.PrenormGrad.τ).loc Cert.PrenormGrad.main_arg0) = m ((c.tc : Thread Cert.PrenormGrad.nD Cert.PrenormGrad.τ).loc Cert.PrenormGrad.main_arg0)
      ∧ r.2.mem ((c.tc : Thread Cert.PrenormGrad.nD Cert.PrenormGrad.τ).loc Cert.PrenormGrad.main_arg1) = m ((c.tc : Thread Cert.PrenormGrad.nD Cert.PrenormGrad.τ).loc Cert.PrenormGrad.main_arg1)
      ∧ r.2.mem ((c.tc : Thread Cert.PrenormGrad.nD Cert.PrenormGrad.τ).loc Cert.PrenormGrad.main_arg2) = m ((c.tc : Thread Cert.PrenormGrad.nD Cert.PrenormGrad.τ).loc Cert.PrenormGrad.main_arg2)
      ∧ r.2.mem ((c.tc : Thread Cert.PrenormGrad.nD Cert.PrenormGrad.τ).loc Cert.PrenormGrad.main_arg3) = m ((c.tc : Thread Cert.PrenormGrad.nD Cert.PrenormGrad.τ).loc Cert.PrenormGrad.main_arg3)
      ∧ r.2.mem ((c.tc : Thread Cert.PrenormGrad.nD Cert.PrenormGrad.τ).loc Cert.PrenormGrad.main_arg4) = m ((c.tc : Thread Cert.PrenormGrad.nD Cert.PrenormGrad.τ).loc Cert.PrenormGrad.main_arg4)
      ∧ r.2.mem ((c.tc : Thread Cert.PrenormGrad.nD Cert.PrenormGrad.τ).loc Cert.PrenormGrad.main_arg5) = m ((c.tc : Thread Cert.PrenormGrad.nD Cert.PrenormGrad.τ).loc Cert.PrenormGrad.main_arg5)
      ∧ r.2.mem ((c.tc : Thread Cert.PrenormGrad.nD Cert.PrenormGrad.τ).loc Cert.PrenormGrad.main_arg6) = m ((c.tc : Thread Cert.PrenormGrad.nD Cert.PrenormGrad.τ).loc Cert.PrenormGrad.main_arg6)
      ∧ r.2.mem ((c.tc : Thread Cert.PrenormGrad.nD Cert.PrenormGrad.τ).loc Cert.PrenormGrad.main_arg7) = m ((c.tc : Thread Cert.PrenormGrad.nD Cert.PrenormGrad.τ).loc Cert.PrenormGrad.main_arg7)
      ∧ r.2.mem ((c.tc : Thread Cert.PrenormGrad.nD Cert.PrenormGrad.τ).loc Cert.PrenormGrad.main_arg8) = m ((c.tc : Thread Cert.PrenormGrad.nD Cert.PrenormGrad.τ).loc Cert.PrenormGrad.main_arg8))
      ∧ r.2.sem = fun _ => 0)

def quiescent_PrenormGradIdeal [hPrenormGradIdeal : Cert.PrenormGradIdeal.Facts] : Prop :=
  ∀ (m : (ℓ : Loc Cert.PrenormGradIdeal.nD Cert.PrenormGradIdeal.τ Cert.PrenormGradIdeal.sig) → Buf (Elt Ideal) ℓ) (g : Dev Cert.PrenormGradIdeal.nD → PrngReg), Pre_PrenormGradIdeal m →
    θ_run (Cert.PrenormGradIdeal.defs (F := Ideal)) (onTc (τ := Cert.PrenormGradIdeal.τ) (Cert.PrenormGradIdeal.main (F := Ideal))) ⟨m, fun _ => 0, g⟩ (fun r => (∀ c : Dev Cert.PrenormGradIdeal.nD,
      r.2.mem ((c.tc : Thread Cert.PrenormGradIdeal.nD Cert.PrenormGradIdeal.τ).loc Cert.PrenormGradIdeal.main_arg0) = m ((c.tc : Thread Cert.PrenormGradIdeal.nD Cert.PrenormGradIdeal.τ).loc Cert.PrenormGradIdeal.main_arg0)
      ∧ r.2.mem ((c.tc : Thread Cert.PrenormGradIdeal.nD Cert.PrenormGradIdeal.τ).loc Cert.PrenormGradIdeal.main_arg1) = m ((c.tc : Thread Cert.PrenormGradIdeal.nD Cert.PrenormGradIdeal.τ).loc Cert.PrenormGradIdeal.main_arg1)
      ∧ r.2.mem ((c.tc : Thread Cert.PrenormGradIdeal.nD Cert.PrenormGradIdeal.τ).loc Cert.PrenormGradIdeal.main_arg2) = m ((c.tc : Thread Cert.PrenormGradIdeal.nD Cert.PrenormGradIdeal.τ).loc Cert.PrenormGradIdeal.main_arg2)
      ∧ r.2.mem ((c.tc : Thread Cert.PrenormGradIdeal.nD Cert.PrenormGradIdeal.τ).loc Cert.PrenormGradIdeal.main_arg3) = m ((c.tc : Thread Cert.PrenormGradIdeal.nD Cert.PrenormGradIdeal.τ).loc Cert.PrenormGradIdeal.main_arg3)
      ∧ r.2.mem ((c.tc : Thread Cert.PrenormGradIdeal.nD Cert.PrenormGradIdeal.τ).loc Cert.PrenormGradIdeal.main_arg4) = m ((c.tc : Thread Cert.PrenormGradIdeal.nD Cert.PrenormGradIdeal.τ).loc Cert.PrenormGradIdeal.main_arg4)
      ∧ r.2.mem ((c.tc : Thread Cert.PrenormGradIdeal.nD Cert.PrenormGradIdeal.τ).loc Cert.PrenormGradIdeal.main_arg5) = m ((c.tc : Thread Cert.PrenormGradIdeal.nD Cert.PrenormGradIdeal.τ).loc Cert.PrenormGradIdeal.main_arg5)
      ∧ r.2.mem ((c.tc : Thread Cert.PrenormGradIdeal.nD Cert.PrenormGradIdeal.τ).loc Cert.PrenormGradIdeal.main_arg6) = m ((c.tc : Thread Cert.PrenormGradIdeal.nD Cert.PrenormGradIdeal.τ).loc Cert.PrenormGradIdeal.main_arg6)
      ∧ r.2.mem ((c.tc : Thread Cert.PrenormGradIdeal.nD Cert.PrenormGradIdeal.τ).loc Cert.PrenormGradIdeal.main_arg7) = m ((c.tc : Thread Cert.PrenormGradIdeal.nD Cert.PrenormGradIdeal.τ).loc Cert.PrenormGradIdeal.main_arg7)
      ∧ r.2.mem ((c.tc : Thread Cert.PrenormGradIdeal.nD Cert.PrenormGradIdeal.τ).loc Cert.PrenormGradIdeal.main_arg8) = m ((c.tc : Thread Cert.PrenormGradIdeal.nD Cert.PrenormGradIdeal.τ).loc Cert.PrenormGradIdeal.main_arg8))
      ∧ r.2.sem = fun _ => 0)

def quiescent_PrenormGradReferenceIdeal [hPrenormGradReferenceIdeal : Cert.PrenormGradReferenceIdeal.Facts] : Prop :=
  ∀ (m : (ℓ : Loc Cert.PrenormGradReferenceIdeal.nD Cert.PrenormGradReferenceIdeal.τ Cert.PrenormGradReferenceIdeal.sig) → Buf (Elt Ideal) ℓ) (g : Dev Cert.PrenormGradReferenceIdeal.nD → PrngReg), Pre_PrenormGradReferenceIdeal m →
    θ_run (Cert.PrenormGradReferenceIdeal.defs (F := Ideal)) (onTc (τ := Cert.PrenormGradReferenceIdeal.τ) (Cert.PrenormGradReferenceIdeal.main (F := Ideal))) ⟨m, fun _ => 0, g⟩ (fun r => (∀ c : Dev Cert.PrenormGradReferenceIdeal.nD,
      r.2.mem ((c.tc : Thread Cert.PrenormGradReferenceIdeal.nD Cert.PrenormGradReferenceIdeal.τ).loc Cert.PrenormGradReferenceIdeal.main_arg0) = m ((c.tc : Thread Cert.PrenormGradReferenceIdeal.nD Cert.PrenormGradReferenceIdeal.τ).loc Cert.PrenormGradReferenceIdeal.main_arg0)
      ∧ r.2.mem ((c.tc : Thread Cert.PrenormGradReferenceIdeal.nD Cert.PrenormGradReferenceIdeal.τ).loc Cert.PrenormGradReferenceIdeal.main_arg1) = m ((c.tc : Thread Cert.PrenormGradReferenceIdeal.nD Cert.PrenormGradReferenceIdeal.τ).loc Cert.PrenormGradReferenceIdeal.main_arg1)
      ∧ r.2.mem ((c.tc : Thread Cert.PrenormGradReferenceIdeal.nD Cert.PrenormGradReferenceIdeal.τ).loc Cert.PrenormGradReferenceIdeal.main_arg2) = m ((c.tc : Thread Cert.PrenormGradReferenceIdeal.nD Cert.PrenormGradReferenceIdeal.τ).loc Cert.PrenormGradReferenceIdeal.main_arg2)
      ∧ r.2.mem ((c.tc : Thread Cert.PrenormGradReferenceIdeal.nD Cert.PrenormGradReferenceIdeal.τ).loc Cert.PrenormGradReferenceIdeal.main_arg3) = m ((c.tc : Thread Cert.PrenormGradReferenceIdeal.nD Cert.PrenormGradReferenceIdeal.τ).loc Cert.PrenormGradReferenceIdeal.main_arg3)
      ∧ r.2.mem ((c.tc : Thread Cert.PrenormGradReferenceIdeal.nD Cert.PrenormGradReferenceIdeal.τ).loc Cert.PrenormGradReferenceIdeal.main_arg4) = m ((c.tc : Thread Cert.PrenormGradReferenceIdeal.nD Cert.PrenormGradReferenceIdeal.τ).loc Cert.PrenormGradReferenceIdeal.main_arg4)
      ∧ r.2.mem ((c.tc : Thread Cert.PrenormGradReferenceIdeal.nD Cert.PrenormGradReferenceIdeal.τ).loc Cert.PrenormGradReferenceIdeal.main_arg5) = m ((c.tc : Thread Cert.PrenormGradReferenceIdeal.nD Cert.PrenormGradReferenceIdeal.τ).loc Cert.PrenormGradReferenceIdeal.main_arg5)
      ∧ r.2.mem ((c.tc : Thread Cert.PrenormGradReferenceIdeal.nD Cert.PrenormGradReferenceIdeal.τ).loc Cert.PrenormGradReferenceIdeal.main_arg6) = m ((c.tc : Thread Cert.PrenormGradReferenceIdeal.nD Cert.PrenormGradReferenceIdeal.τ).loc Cert.PrenormGradReferenceIdeal.main_arg6)
      ∧ r.2.mem ((c.tc : Thread Cert.PrenormGradReferenceIdeal.nD Cert.PrenormGradReferenceIdeal.τ).loc Cert.PrenormGradReferenceIdeal.main_arg7) = m ((c.tc : Thread Cert.PrenormGradReferenceIdeal.nD Cert.PrenormGradReferenceIdeal.τ).loc Cert.PrenormGradReferenceIdeal.main_arg7)
      ∧ r.2.mem ((c.tc : Thread Cert.PrenormGradReferenceIdeal.nD Cert.PrenormGradReferenceIdeal.τ).loc Cert.PrenormGradReferenceIdeal.main_arg8) = m ((c.tc : Thread Cert.PrenormGradReferenceIdeal.nD Cert.PrenormGradReferenceIdeal.τ).loc Cert.PrenormGradReferenceIdeal.main_arg8))
      ∧ r.2.sem = fun _ => 0)

def preserves_Kernel_KernelIdeal : Prop :=
  True

def algebraic_KernelIdeal_ReferenceIdeal_pre_finite_conv [hKernelIdeal : Cert.KernelIdeal.Facts] [hReferenceIdeal : Cert.ReferenceIdeal.Facts] [hPre_finite_conv : Cert.Pre_finite_conv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_conv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] [hPre_own_shard : Cert.Pre_own_shard.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)) (v5 : (c : Dev Cert.MergeIdeal.nD) → Buf (Elt Ideal) ((c.tc : Thread Cert.MergeIdeal.nD Cert.MergeIdeal.τ).loc Cert.MergeIdeal.main_v0_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_v0_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v76) = v0 c
          ∧ r.2.mem ((c.tc : Thread Cert.MergeReferenceIdeal.nD Cert.MergeReferenceIdeal.τ).loc Cert.MergeReferenceIdeal.main_v104) = v1 c
          ∧ r.2.mem ((c.tc : Thread Cert.MergeReferenceIdeal.nD Cert.MergeReferenceIdeal.τ).loc Cert.MergeReferenceIdeal.main_v103) = v2 c
          ∧ r.2.mem ((c.tc : Thread Cert.MergeReferenceIdeal.nD Cert.MergeReferenceIdeal.τ).loc Cert.MergeReferenceIdeal.main_v110) = v3 c
          ∧ r.2.mem ((c.tc : Thread Cert.MergeReferenceIdeal.nD Cert.MergeReferenceIdeal.τ).loc Cert.MergeReferenceIdeal.main_v112) = v4 c
          ∧ r.2.mem ((c.tc : Thread Cert.MergeReferenceIdeal.nD Cert.MergeReferenceIdeal.τ).loc Cert.MergeReferenceIdeal.main_v114) = v5 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)) →
    ∃ (v0 : (c : Dev Cert.ProjectionsIdeal.nD) → Buf (Elt Ideal) ((c.tc : Thread Cert.ProjectionsIdeal.nD Cert.ProjectionsIdeal.τ).loc Cert.ProjectionsIdeal.main_v0)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v0) = v0 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v20) = v0 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3))

def preserves_InputProjection_InputProjectionIdeal : Prop :=
  True

def algebraic_InputProjectionIdeal_InputProjectionReferenceIdeal [hInputProjectionIdeal : Cert.InputProjectionIdeal.Facts] [hInputProjectionReferenceIdeal : Cert.InputProjectionReferenceIdeal.Facts] : Prop :=
  ∀ (m : (ℓ : Loc Cert.InputProjectionIdeal.nD Cert.InputProjectionIdeal.τ Cert.InputProjectionIdeal.sig) → Buf (Elt Ideal) ℓ) (g : Dev Cert.InputProjectionIdeal.nD → PrngReg)
    (m' : (ℓ : Loc Cert.InputProjectionReferenceIdeal.nD Cert.InputProjectionReferenceIdeal.τ Cert.InputProjectionReferenceIdeal.sig) → Buf (Elt Ideal) ℓ) (g' : Dev Cert.InputProjectionReferenceIdeal.nD → PrngReg), Pre_InputProjectionIdeal m →
    (∀ c : Dev Cert.InputProjectionIdeal.nD,
      m' ((c.tc : Thread Cert.InputProjectionReferenceIdeal.nD Cert.InputProjectionReferenceIdeal.τ).loc Cert.InputProjectionReferenceIdeal.main_arg0) = m ((c.tc : Thread Cert.InputProjectionIdeal.nD Cert.InputProjectionIdeal.τ).loc Cert.InputProjectionIdeal.main_arg0)
      ∧ m' ((c.tc : Thread Cert.InputProjectionReferenceIdeal.nD Cert.InputProjectionReferenceIdeal.τ).loc Cert.InputProjectionReferenceIdeal.main_arg1) = m ((c.tc : Thread Cert.InputProjectionIdeal.nD Cert.InputProjectionIdeal.τ).loc Cert.InputProjectionIdeal.main_arg1)
      ∧ m' ((c.tc : Thread Cert.InputProjectionReferenceIdeal.nD Cert.InputProjectionReferenceIdeal.τ).loc Cert.InputProjectionReferenceIdeal.main_arg2) = m ((c.tc : Thread Cert.InputProjectionIdeal.nD Cert.InputProjectionIdeal.τ).loc Cert.InputProjectionIdeal.main_arg2)
      ∧ m' ((c.tc : Thread Cert.InputProjectionReferenceIdeal.nD Cert.InputProjectionReferenceIdeal.τ).loc Cert.InputProjectionReferenceIdeal.main_arg3) = m ((c.tc : Thread Cert.InputProjectionIdeal.nD Cert.InputProjectionIdeal.τ).loc Cert.InputProjectionIdeal.main_arg3)
      ∧ m' ((c.tc : Thread Cert.InputProjectionReferenceIdeal.nD Cert.InputProjectionReferenceIdeal.τ).loc Cert.InputProjectionReferenceIdeal.main_arg4) = m ((c.tc : Thread Cert.InputProjectionIdeal.nD Cert.InputProjectionIdeal.τ).loc Cert.InputProjectionIdeal.main_arg4)
      ∧ m' ((c.tc : Thread Cert.InputProjectionReferenceIdeal.nD Cert.InputProjectionReferenceIdeal.τ).loc Cert.InputProjectionReferenceIdeal.main_arg5) = m ((c.tc : Thread Cert.InputProjectionIdeal.nD Cert.InputProjectionIdeal.τ).loc Cert.InputProjectionIdeal.main_arg5)) →
    ∃ (v0 : (c : Dev Cert.InputProjectionIdeal.nD) → Buf (Elt Ideal) ((c.tc : Thread Cert.InputProjectionIdeal.nD Cert.InputProjectionIdeal.τ).loc Cert.InputProjectionIdeal.main_v0)),
      θ_run (Cert.InputProjectionIdeal.defs (F := Ideal)) (onTc (τ := Cert.InputProjectionIdeal.τ) (Cert.InputProjectionIdeal.main (F := Ideal))) ⟨m, fun _ => 0, g⟩ (fun r => ∀ c : Dev Cert.InputProjectionIdeal.nD,
          r.2.mem ((c.tc : Thread Cert.InputProjectionIdeal.nD Cert.InputProjectionIdeal.τ).loc Cert.InputProjectionIdeal.main_v0) = v0 c
          ∧ r.2.mem ((c.tc : Thread Cert.InputProjectionIdeal.nD Cert.InputProjectionIdeal.τ).loc Cert.InputProjectionIdeal.main_arg0) = m ((c.tc : Thread Cert.InputProjectionIdeal.nD Cert.InputProjectionIdeal.τ).loc Cert.InputProjectionIdeal.main_arg0)
          ∧ r.2.mem ((c.tc : Thread Cert.InputProjectionIdeal.nD Cert.InputProjectionIdeal.τ).loc Cert.InputProjectionIdeal.main_arg1) = m ((c.tc : Thread Cert.InputProjectionIdeal.nD Cert.InputProjectionIdeal.τ).loc Cert.InputProjectionIdeal.main_arg1)
          ∧ r.2.mem ((c.tc : Thread Cert.InputProjectionIdeal.nD Cert.InputProjectionIdeal.τ).loc Cert.InputProjectionIdeal.main_arg2) = m ((c.tc : Thread Cert.InputProjectionIdeal.nD Cert.InputProjectionIdeal.τ).loc Cert.InputProjectionIdeal.main_arg2)
          ∧ r.2.mem ((c.tc : Thread Cert.InputProjectionIdeal.nD Cert.InputProjectionIdeal.τ).loc Cert.InputProjectionIdeal.main_arg3) = m ((c.tc : Thread Cert.InputProjectionIdeal.nD Cert.InputProjectionIdeal.τ).loc Cert.InputProjectionIdeal.main_arg3)
          ∧ r.2.mem ((c.tc : Thread Cert.InputProjectionIdeal.nD Cert.InputProjectionIdeal.τ).loc Cert.InputProjectionIdeal.main_arg4) = m ((c.tc : Thread Cert.InputProjectionIdeal.nD Cert.InputProjectionIdeal.τ).loc Cert.InputProjectionIdeal.main_arg4)
          ∧ r.2.mem ((c.tc : Thread Cert.InputProjectionIdeal.nD Cert.InputProjectionIdeal.τ).loc Cert.InputProjectionIdeal.main_arg5) = m ((c.tc : Thread Cert.InputProjectionIdeal.nD Cert.InputProjectionIdeal.τ).loc Cert.InputProjectionIdeal.main_arg5))
      ∧ θ_run (Cert.InputProjectionReferenceIdeal.defs (F := Ideal)) (onTc (τ := Cert.InputProjectionReferenceIdeal.τ) (Cert.InputProjectionReferenceIdeal.main (F := Ideal))) ⟨m', fun _ => 0, g'⟩ (fun r => ∀ c : Dev Cert.InputProjectionReferenceIdeal.nD,
          r.2.mem ((c.tc : Thread Cert.InputProjectionReferenceIdeal.nD Cert.InputProjectionReferenceIdeal.τ).loc Cert.InputProjectionReferenceIdeal.main_v14) = v0 c
          ∧ r.2.mem ((c.tc : Thread Cert.InputProjectionReferenceIdeal.nD Cert.InputProjectionReferenceIdeal.τ).loc Cert.InputProjectionReferenceIdeal.main_arg0) = m' ((c.tc : Thread Cert.InputProjectionReferenceIdeal.nD Cert.InputProjectionReferenceIdeal.τ).loc Cert.InputProjectionReferenceIdeal.main_arg0)
          ∧ r.2.mem ((c.tc : Thread Cert.InputProjectionReferenceIdeal.nD Cert.InputProjectionReferenceIdeal.τ).loc Cert.InputProjectionReferenceIdeal.main_arg1) = m' ((c.tc : Thread Cert.InputProjectionReferenceIdeal.nD Cert.InputProjectionReferenceIdeal.τ).loc Cert.InputProjectionReferenceIdeal.main_arg1)
          ∧ r.2.mem ((c.tc : Thread Cert.InputProjectionReferenceIdeal.nD Cert.InputProjectionReferenceIdeal.τ).loc Cert.InputProjectionReferenceIdeal.main_arg2) = m' ((c.tc : Thread Cert.InputProjectionReferenceIdeal.nD Cert.InputProjectionReferenceIdeal.τ).loc Cert.InputProjectionReferenceIdeal.main_arg2)
          ∧ r.2.mem ((c.tc : Thread Cert.InputProjectionReferenceIdeal.nD Cert.InputProjectionReferenceIdeal.τ).loc Cert.InputProjectionReferenceIdeal.main_arg3) = m' ((c.tc : Thread Cert.InputProjectionReferenceIdeal.nD Cert.InputProjectionReferenceIdeal.τ).loc Cert.InputProjectionReferenceIdeal.main_arg3)
          ∧ r.2.mem ((c.tc : Thread Cert.InputProjectionReferenceIdeal.nD Cert.InputProjectionReferenceIdeal.τ).loc Cert.InputProjectionReferenceIdeal.main_arg4) = m' ((c.tc : Thread Cert.InputProjectionReferenceIdeal.nD Cert.InputProjectionReferenceIdeal.τ).loc Cert.InputProjectionReferenceIdeal.main_arg4)
          ∧ r.2.mem ((c.tc : Thread Cert.InputProjectionReferenceIdeal.nD Cert.InputProjectionReferenceIdeal.τ).loc Cert.InputProjectionReferenceIdeal.main_arg5) = m' ((c.tc : Thread Cert.InputProjectionReferenceIdeal.nD Cert.InputProjectionReferenceIdeal.τ).loc Cert.InputProjectionReferenceIdeal.main_arg5))

def preserves_Prenorm_PrenormIdeal : Prop :=
  True

def algebraic_PrenormIdeal_PrenormReferenceIdeal [hPrenormIdeal : Cert.PrenormIdeal.Facts] [hPrenormReferenceIdeal : Cert.PrenormReferenceIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormReferenceIdeal.nD Cert.PrenormReferenceIdeal.τ Cert.PrenormReferenceIdeal.sig) → Buf (Elt Ideal) ℓ) (g' : Dev Cert.PrenormReferenceIdeal.nD → PrngReg), Pre_PrenormIdeal m →
    (∀ c : Dev Cert.PrenormIdeal.nD,
      m' ((c.tc : Thread Cert.PrenormReferenceIdeal.nD Cert.PrenormReferenceIdeal.τ).loc Cert.PrenormReferenceIdeal.main_arg0) = m ((c.tc : Thread Cert.PrenormIdeal.nD Cert.PrenormIdeal.τ).loc Cert.PrenormIdeal.main_arg0)
      ∧ m' ((c.tc : Thread Cert.PrenormReferenceIdeal.nD Cert.PrenormReferenceIdeal.τ).loc Cert.PrenormReferenceIdeal.main_arg1) = m ((c.tc : Thread Cert.PrenormIdeal.nD Cert.PrenormIdeal.τ).loc Cert.PrenormIdeal.main_arg1)
      ∧ m' ((c.tc : Thread Cert.PrenormReferenceIdeal.nD Cert.PrenormReferenceIdeal.τ).loc Cert.PrenormReferenceIdeal.main_arg2) = m ((c.tc : Thread Cert.PrenormIdeal.nD Cert.PrenormIdeal.τ).loc Cert.PrenormIdeal.main_arg2)) →
    ∃ (v0 : (c : Dev Cert.PrenormIdeal.nD) → Buf (Elt Ideal) ((c.tc : Thread Cert.PrenormIdeal.nD Cert.PrenormIdeal.τ).loc Cert.PrenormIdeal.main_v0_0)) (v1 : (c : Dev Cert.PrenormIdeal.nD) → Buf (Elt Ideal) ((c.tc : Thread Cert.PrenormIdeal.nD Cert.PrenormIdeal.τ).loc Cert.PrenormIdeal.main_v0_1)) (v2 : (c : Dev Cert.PrenormIdeal.nD) → Buf (Elt Ideal) ((c.tc : Thread Cert.PrenormIdeal.nD Cert.PrenormIdeal.τ).loc Cert.PrenormIdeal.main_v0_2)) (v3 : (c : Dev Cert.PrenormIdeal.nD) → Buf (Elt Ideal) ((c.tc : Thread Cert.PrenormIdeal.nD Cert.PrenormIdeal.τ).loc Cert.PrenormIdeal.main_v0_3)) (v4 : (c : Dev Cert.PrenormIdeal.nD) → Buf (Elt Ideal) ((c.tc : Thread Cert.PrenormIdeal.nD Cert.PrenormIdeal.τ).loc Cert.PrenormIdeal.main_v0_4)) (v5 : (c : Dev Cert.PrenormIdeal.nD) → Buf (Elt Ideal) ((c.tc : Thread Cert.PrenormIdeal.nD Cert.PrenormIdeal.τ).loc Cert.PrenormIdeal.main_v0_5)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0_0) = v0 c
          ∧ r.2.mem ((c.tc : Thread Cert.PrenormIdeal.nD Cert.PrenormIdeal.τ).loc Cert.PrenormIdeal.main_v0_1) = v1 c
          ∧ r.2.mem ((c.tc : Thread Cert.PrenormIdeal.nD Cert.PrenormIdeal.τ).loc Cert.PrenormIdeal.main_v0_2) = v2 c
          ∧ r.2.mem ((c.tc : Thread Cert.PrenormIdeal.nD Cert.PrenormIdeal.τ).loc Cert.PrenormIdeal.main_v0_3) = v3 c
          ∧ r.2.mem ((c.tc : Thread Cert.PrenormIdeal.nD Cert.PrenormIdeal.τ).loc Cert.PrenormIdeal.main_v0_4) = v4 c
          ∧ r.2.mem ((c.tc : Thread Cert.PrenormIdeal.nD Cert.PrenormIdeal.τ).loc Cert.PrenormIdeal.main_v0_5) = v5 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2))
      ∧ θ_run (Cert.PrenormReferenceIdeal.defs (F := Ideal)) (onTc (τ := Cert.PrenormReferenceIdeal.τ) (Cert.PrenormReferenceIdeal.main (F := Ideal))) ⟨m', fun _ => 0, g'⟩ (fun r => ∀ c : Dev Cert.PrenormReferenceIdeal.nD,
          r.2.mem ((c.tc : Thread Cert.PrenormReferenceIdeal.nD Cert.PrenormReferenceIdeal.τ).loc Cert.PrenormReferenceIdeal.main_v41) = v0 c
          ∧ r.2.mem ((c.tc : Thread Cert.PrenormReferenceIdeal.nD Cert.PrenormReferenceIdeal.τ).loc Cert.PrenormReferenceIdeal.main_v42) = v1 c
          ∧ r.2.mem ((c.tc : Thread Cert.PrenormReferenceIdeal.nD Cert.PrenormReferenceIdeal.τ).loc Cert.PrenormReferenceIdeal.main_v43) = v2 c
          ∧ r.2.mem ((c.tc : Thread Cert.PrenormReferenceIdeal.nD Cert.PrenormReferenceIdeal.τ).loc Cert.PrenormReferenceIdeal.main_v44) = v3 c
          ∧ r.2.mem ((c.tc : Thread Cert.PrenormReferenceIdeal.nD Cert.PrenormReferenceIdeal.τ).loc Cert.PrenormReferenceIdeal.main_v45) = v4 c
          ∧ r.2.mem ((c.tc : Thread Cert.PrenormReferenceIdeal.nD Cert.PrenormReferenceIdeal.τ).loc Cert.PrenormReferenceIdeal.main_v47) = v5 c
          ∧ r.2.mem ((c.tc : Thread Cert.PrenormReferenceIdeal.nD Cert.PrenormReferenceIdeal.τ).loc Cert.PrenormReferenceIdeal.main_arg0) = m' ((c.tc : Thread Cert.PrenormReferenceIdeal.nD Cert.PrenormReferenceIdeal.τ).loc Cert.PrenormReferenceIdeal.main_arg0)
          ∧ r.2.mem ((c.tc : Thread Cert.PrenormReferenceIdeal.nD Cert.PrenormReferenceIdeal.τ).loc Cert.PrenormReferenceIdeal.main_arg1) = m' ((c.tc : Thread Cert.PrenormReferenceIdeal.nD Cert.PrenormReferenceIdeal.τ).loc Cert.PrenormReferenceIdeal.main_arg1)
          ∧ r.2.mem ((c.tc : Thread Cert.PrenormReferenceIdeal.nD Cert.PrenormReferenceIdeal.τ).loc Cert.PrenormReferenceIdeal.main_arg2) = m' ((c.tc : Thread Cert.PrenormReferenceIdeal.nD Cert.PrenormReferenceIdeal.τ).loc Cert.PrenormReferenceIdeal.main_arg2))

def preserves_PrenormGrad_PrenormGradIdeal : Prop :=
  True

def algebraic_PrenormGradIdeal_PrenormGradReferenceIdeal [hPrenormGradIdeal : Cert.PrenormGradIdeal.Facts] [hPrenormGradReferenceIdeal : Cert.PrenormGradReferenceIdeal.Facts] : Prop :=
  ∀ (m : (ℓ : Loc Cert.PrenormGradIdeal.nD Cert.PrenormGradIdeal.τ Cert.PrenormGradIdeal.sig) → Buf (Elt Ideal) ℓ) (g : Dev Cert.PrenormGradIdeal.nD → PrngReg)
    (m' : (ℓ : Loc Cert.PrenormGradReferenceIdeal.nD Cert.PrenormGradReferenceIdeal.τ Cert.PrenormGradReferenceIdeal.sig) → Buf (Elt Ideal) ℓ) (g' : Dev Cert.PrenormGradReferenceIdeal.nD → PrngReg), Pre_PrenormGradIdeal m →
    (∀ c : Dev Cert.PrenormGradIdeal.nD,
      m' ((c.tc : Thread Cert.PrenormGradReferenceIdeal.nD Cert.PrenormGradReferenceIdeal.τ).loc Cert.PrenormGradReferenceIdeal.main_arg0) = m ((c.tc : Thread Cert.PrenormGradIdeal.nD Cert.PrenormGradIdeal.τ).loc Cert.PrenormGradIdeal.main_arg0)
      ∧ m' ((c.tc : Thread Cert.PrenormGradReferenceIdeal.nD Cert.PrenormGradReferenceIdeal.τ).loc Cert.PrenormGradReferenceIdeal.main_arg1) = m ((c.tc : Thread Cert.PrenormGradIdeal.nD Cert.PrenormGradIdeal.τ).loc Cert.PrenormGradIdeal.main_arg1)
      ∧ m' ((c.tc : Thread Cert.PrenormGradReferenceIdeal.nD Cert.PrenormGradReferenceIdeal.τ).loc Cert.PrenormGradReferenceIdeal.main_arg2) = m ((c.tc : Thread Cert.PrenormGradIdeal.nD Cert.PrenormGradIdeal.τ).loc Cert.PrenormGradIdeal.main_arg2)
      ∧ m' ((c.tc : Thread Cert.PrenormGradReferenceIdeal.nD Cert.PrenormGradReferenceIdeal.τ).loc Cert.PrenormGradReferenceIdeal.main_arg3) = m ((c.tc : Thread Cert.PrenormGradIdeal.nD Cert.PrenormGradIdeal.τ).loc Cert.PrenormGradIdeal.main_arg3)
      ∧ m' ((c.tc : Thread Cert.PrenormGradReferenceIdeal.nD Cert.PrenormGradReferenceIdeal.τ).loc Cert.PrenormGradReferenceIdeal.main_arg4) = m ((c.tc : Thread Cert.PrenormGradIdeal.nD Cert.PrenormGradIdeal.τ).loc Cert.PrenormGradIdeal.main_arg4)
      ∧ m' ((c.tc : Thread Cert.PrenormGradReferenceIdeal.nD Cert.PrenormGradReferenceIdeal.τ).loc Cert.PrenormGradReferenceIdeal.main_arg5) = m ((c.tc : Thread Cert.PrenormGradIdeal.nD Cert.PrenormGradIdeal.τ).loc Cert.PrenormGradIdeal.main_arg5)
      ∧ m' ((c.tc : Thread Cert.PrenormGradReferenceIdeal.nD Cert.PrenormGradReferenceIdeal.τ).loc Cert.PrenormGradReferenceIdeal.main_arg6) = m ((c.tc : Thread Cert.PrenormGradIdeal.nD Cert.PrenormGradIdeal.τ).loc Cert.PrenormGradIdeal.main_arg6)
      ∧ m' ((c.tc : Thread Cert.PrenormGradReferenceIdeal.nD Cert.PrenormGradReferenceIdeal.τ).loc Cert.PrenormGradReferenceIdeal.main_arg7) = m ((c.tc : Thread Cert.PrenormGradIdeal.nD Cert.PrenormGradIdeal.τ).loc Cert.PrenormGradIdeal.main_arg7)
      ∧ m' ((c.tc : Thread Cert.PrenormGradReferenceIdeal.nD Cert.PrenormGradReferenceIdeal.τ).loc Cert.PrenormGradReferenceIdeal.main_arg8) = m ((c.tc : Thread Cert.PrenormGradIdeal.nD Cert.PrenormGradIdeal.τ).loc Cert.PrenormGradIdeal.main_arg8)) →
    ∃ (v0 : (c : Dev Cert.PrenormGradIdeal.nD) → Buf (Elt Ideal) ((c.tc : Thread Cert.PrenormGradIdeal.nD Cert.PrenormGradIdeal.τ).loc Cert.PrenormGradIdeal.main_v0_0)) (v1 : (c : Dev Cert.PrenormGradIdeal.nD) → Buf (Elt Ideal) ((c.tc : Thread Cert.PrenormGradIdeal.nD Cert.PrenormGradIdeal.τ).loc Cert.PrenormGradIdeal.main_v0_1)),
      θ_run (Cert.PrenormGradIdeal.defs (F := Ideal)) (onTc (τ := Cert.PrenormGradIdeal.τ) (Cert.PrenormGradIdeal.main (F := Ideal))) ⟨m, fun _ => 0, g⟩ (fun r => ∀ c : Dev Cert.PrenormGradIdeal.nD,
          r.2.mem ((c.tc : Thread Cert.PrenormGradIdeal.nD Cert.PrenormGradIdeal.τ).loc Cert.PrenormGradIdeal.main_v0_0) = v0 c
          ∧ r.2.mem ((c.tc : Thread Cert.PrenormGradIdeal.nD Cert.PrenormGradIdeal.τ).loc Cert.PrenormGradIdeal.main_v0_1) = v1 c
          ∧ r.2.mem ((c.tc : Thread Cert.PrenormGradIdeal.nD Cert.PrenormGradIdeal.τ).loc Cert.PrenormGradIdeal.main_arg0) = m ((c.tc : Thread Cert.PrenormGradIdeal.nD Cert.PrenormGradIdeal.τ).loc Cert.PrenormGradIdeal.main_arg0)
          ∧ r.2.mem ((c.tc : Thread Cert.PrenormGradIdeal.nD Cert.PrenormGradIdeal.τ).loc Cert.PrenormGradIdeal.main_arg1) = m ((c.tc : Thread Cert.PrenormGradIdeal.nD Cert.PrenormGradIdeal.τ).loc Cert.PrenormGradIdeal.main_arg1)
          ∧ r.2.mem ((c.tc : Thread Cert.PrenormGradIdeal.nD Cert.PrenormGradIdeal.τ).loc Cert.PrenormGradIdeal.main_arg2) = m ((c.tc : Thread Cert.PrenormGradIdeal.nD Cert.PrenormGradIdeal.τ).loc Cert.PrenormGradIdeal.main_arg2)
          ∧ r.2.mem ((c.tc : Thread Cert.PrenormGradIdeal.nD Cert.PrenormGradIdeal.τ).loc Cert.PrenormGradIdeal.main_arg3) = m ((c.tc : Thread Cert.PrenormGradIdeal.nD Cert.PrenormGradIdeal.τ).loc Cert.PrenormGradIdeal.main_arg3)
          ∧ r.2.mem ((c.tc : Thread Cert.PrenormGradIdeal.nD Cert.PrenormGradIdeal.τ).loc Cert.PrenormGradIdeal.main_arg4) = m ((c.tc : Thread Cert.PrenormGradIdeal.nD Cert.PrenormGradIdeal.τ).loc Cert.PrenormGradIdeal.main_arg4)
          ∧ r.2.mem ((c.tc : Thread Cert.PrenormGradIdeal.nD Cert.PrenormGradIdeal.τ).loc Cert.PrenormGradIdeal.main_arg5) = m ((c.tc : Thread Cert.PrenormGradIdeal.nD Cert.PrenormGradIdeal.τ).loc Cert.PrenormGradIdeal.main_arg5)
          ∧ r.2.mem ((c.tc : Thread Cert.PrenormGradIdeal.nD Cert.PrenormGradIdeal.τ).loc Cert.PrenormGradIdeal.main_arg6) = m ((c.tc : Thread Cert.PrenormGradIdeal.nD Cert.PrenormGradIdeal.τ).loc Cert.PrenormGradIdeal.main_arg6)
          ∧ r.2.mem ((c.tc : Thread Cert.PrenormGradIdeal.nD Cert.PrenormGradIdeal.τ).loc Cert.PrenormGradIdeal.main_arg7) = m ((c.tc : Thread Cert.PrenormGradIdeal.nD Cert.PrenormGradIdeal.τ).loc Cert.PrenormGradIdeal.main_arg7)
          ∧ r.2.mem ((c.tc : Thread Cert.PrenormGradIdeal.nD Cert.PrenormGradIdeal.τ).loc Cert.PrenormGradIdeal.main_arg8) = m ((c.tc : Thread Cert.PrenormGradIdeal.nD Cert.PrenormGradIdeal.τ).loc Cert.PrenormGradIdeal.main_arg8))
      ∧ θ_run (Cert.PrenormGradReferenceIdeal.defs (F := Ideal)) (onTc (τ := Cert.PrenormGradReferenceIdeal.τ) (Cert.PrenormGradReferenceIdeal.main (F := Ideal))) ⟨m', fun _ => 0, g'⟩ (fun r => ∀ c : Dev Cert.PrenormGradReferenceIdeal.nD,
          r.2.mem ((c.tc : Thread Cert.PrenormGradReferenceIdeal.nD Cert.PrenormGradReferenceIdeal.τ).loc Cert.PrenormGradReferenceIdeal.main_v65) = v0 c
          ∧ r.2.mem ((c.tc : Thread Cert.PrenormGradReferenceIdeal.nD Cert.PrenormGradReferenceIdeal.τ).loc Cert.PrenormGradReferenceIdeal.main_v67) = v1 c
          ∧ r.2.mem ((c.tc : Thread Cert.PrenormGradReferenceIdeal.nD Cert.PrenormGradReferenceIdeal.τ).loc Cert.PrenormGradReferenceIdeal.main_arg0) = m' ((c.tc : Thread Cert.PrenormGradReferenceIdeal.nD Cert.PrenormGradReferenceIdeal.τ).loc Cert.PrenormGradReferenceIdeal.main_arg0)
          ∧ r.2.mem ((c.tc : Thread Cert.PrenormGradReferenceIdeal.nD Cert.PrenormGradReferenceIdeal.τ).loc Cert.PrenormGradReferenceIdeal.main_arg1) = m' ((c.tc : Thread Cert.PrenormGradReferenceIdeal.nD Cert.PrenormGradReferenceIdeal.τ).loc Cert.PrenormGradReferenceIdeal.main_arg1)
          ∧ r.2.mem ((c.tc : Thread Cert.PrenormGradReferenceIdeal.nD Cert.PrenormGradReferenceIdeal.τ).loc Cert.PrenormGradReferenceIdeal.main_arg2) = m' ((c.tc : Thread Cert.PrenormGradReferenceIdeal.nD Cert.PrenormGradReferenceIdeal.τ).loc Cert.PrenormGradReferenceIdeal.main_arg2)
          ∧ r.2.mem ((c.tc : Thread Cert.PrenormGradReferenceIdeal.nD Cert.PrenormGradReferenceIdeal.τ).loc Cert.PrenormGradReferenceIdeal.main_arg3) = m' ((c.tc : Thread Cert.PrenormGradReferenceIdeal.nD Cert.PrenormGradReferenceIdeal.τ).loc Cert.PrenormGradReferenceIdeal.main_arg3)
          ∧ r.2.mem ((c.tc : Thread Cert.PrenormGradReferenceIdeal.nD Cert.PrenormGradReferenceIdeal.τ).loc Cert.PrenormGradReferenceIdeal.main_arg4) = m' ((c.tc : Thread Cert.PrenormGradReferenceIdeal.nD Cert.PrenormGradReferenceIdeal.τ).loc Cert.PrenormGradReferenceIdeal.main_arg4)
          ∧ r.2.mem ((c.tc : Thread Cert.PrenormGradReferenceIdeal.nD Cert.PrenormGradReferenceIdeal.τ).loc Cert.PrenormGradReferenceIdeal.main_arg5) = m' ((c.tc : Thread Cert.PrenormGradReferenceIdeal.nD Cert.PrenormGradReferenceIdeal.τ).loc Cert.PrenormGradReferenceIdeal.main_arg5)
          ∧ r.2.mem ((c.tc : Thread Cert.PrenormGradReferenceIdeal.nD Cert.PrenormGradReferenceIdeal.τ).loc Cert.PrenormGradReferenceIdeal.main_arg6) = m' ((c.tc : Thread Cert.PrenormGradReferenceIdeal.nD Cert.PrenormGradReferenceIdeal.τ).loc Cert.PrenormGradReferenceIdeal.main_arg6)
          ∧ r.2.mem ((c.tc : Thread Cert.PrenormGradReferenceIdeal.nD Cert.PrenormGradReferenceIdeal.τ).loc Cert.PrenormGradReferenceIdeal.main_arg7) = m' ((c.tc : Thread Cert.PrenormGradReferenceIdeal.nD Cert.PrenormGradReferenceIdeal.τ).loc Cert.PrenormGradReferenceIdeal.main_arg7)
          ∧ r.2.mem ((c.tc : Thread Cert.PrenormGradReferenceIdeal.nD Cert.PrenormGradReferenceIdeal.τ).loc Cert.PrenormGradReferenceIdeal.main_arg8) = m' ((c.tc : Thread Cert.PrenormGradReferenceIdeal.nD Cert.PrenormGradReferenceIdeal.τ).loc Cert.PrenormGradReferenceIdeal.main_arg8))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProjections : Cert.Projections.Facts) (hProjectionsIdeal : Cert.ProjectionsIdeal.Facts) (hProjectionsReferenceIdeal : Cert.ProjectionsReferenceIdeal.Facts) (hInputProjection : Cert.InputProjection.Facts) (hInputProjectionIdeal : Cert.InputProjectionIdeal.Facts) (hInputProjectionReferenceIdeal : Cert.InputProjectionReferenceIdeal.Facts) (hPrenorm : Cert.Prenorm.Facts) (hPrenormIdeal : Cert.PrenormIdeal.Facts) (hPrenormReferenceIdeal : Cert.PrenormReferenceIdeal.Facts) (hPrenormGrad : Cert.PrenormGrad.Facts) (hPrenormGradIdeal : Cert.PrenormGradIdeal.Facts) (hPrenormGradReferenceIdeal : Cert.PrenormGradReferenceIdeal.Facts) (hPre_finite_conv : Cert.Pre_finite_conv.Facts) (hPre_own_shard : Cert.Pre_own_shard.Facts),
    quiescent_Kernel (hKernel := hKernel)
    ∧ quiescent_KernelIdeal (hKernelIdeal := hKernelIdeal)
    ∧ quiescent_KernelIdeal_pre_finite_conv (hKernelIdeal := hKernelIdeal) (hPre_finite_conv := hPre_finite_conv)
    ∧ quiescent_ReferenceIdeal (hReferenceIdeal := hReferenceIdeal)
    ∧ quiescent_ReferenceIdeal_pre_finite_conv (hReferenceIdeal := hReferenceIdeal) (hPre_finite_conv := hPre_finite_conv)
    ∧ quiescent_Merge (hMerge := hMerge) (hPre_own_shard := hPre_own_shard)
    ∧ quiescent_MergeIdeal (hMergeIdeal := hMergeIdeal) (hPre_own_shard := hPre_own_shard)
    ∧ quiescent_MergeReferenceIdeal (hMergeReferenceIdeal := hMergeReferenceIdeal)
    ∧ quiescent_MergeReferenceIdeal_pre_own_shard (hMergeReferenceIdeal := hMergeReferenceIdeal) (hPre_own_shard := hPre_own_shard)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_InputProjection (hInputProjection := hInputProjection)
    ∧ quiescent_InputProjectionIdeal (hInputProjectionIdeal := hInputProjectionIdeal)
    ∧ quiescent_InputProjectionReferenceIdeal (hInputProjectionReferenceIdeal := hInputProjectionReferenceIdeal)
    ∧ quiescent_Prenorm (hPrenorm := hPrenorm)
    ∧ quiescent_PrenormIdeal (hPrenormIdeal := hPrenormIdeal)
    ∧ quiescent_PrenormReferenceIdeal (hPrenormReferenceIdeal := hPrenormReferenceIdeal)
    ∧ quiescent_PrenormGrad (hPrenormGrad := hPrenormGrad)
    ∧ quiescent_PrenormGradIdeal (hPrenormGradIdeal := hPrenormGradIdeal)
    ∧ quiescent_PrenormGradReferenceIdeal (hPrenormGradReferenceIdeal := hPrenormGradReferenceIdeal)
    ∧ preserves_Kernel_KernelIdeal
    ∧ algebraic_KernelIdeal_ReferenceIdeal_pre_finite_conv (hKernelIdeal := hKernelIdeal) (hReferenceIdeal := hReferenceIdeal) (hPre_finite_conv := hPre_finite_conv)
    ∧ preserves_Merge_MergeIdeal
    ∧ algebraic_MergeIdeal_MergeReferenceIdeal (hMergeIdeal := hMergeIdeal) (hMergeReferenceIdeal := hMergeReferenceIdeal) (hPre_own_shard := hPre_own_shard)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_InputProjection_InputProjectionIdeal
    ∧ algebraic_InputProjectionIdeal_InputProjectionReferenceIdeal (hInputProjectionIdeal := hInputProjectionIdeal) (hInputProjectionReferenceIdeal := hInputProjectionReferenceIdeal)
    ∧ preserves_Prenorm_PrenormIdeal
    ∧ algebraic_PrenormIdeal_PrenormReferenceIdeal (hPrenormIdeal := hPrenormIdeal) (hPrenormReferenceIdeal := hPrenormReferenceIdeal)
    ∧ preserves_PrenormGrad_PrenormGradIdeal
    ∧ algebraic_PrenormGradIdeal_PrenormGradReferenceIdeal (hPrenormGradIdeal := hPrenormGradIdeal) (hPrenormGradReferenceIdeal := hPrenormGradReferenceIdeal)
-- ==== Pre_finite_conv.lean ====
abbrev S8192x4096 : Shape := ⟨2, ![8192, 4096]⟩
abbrev S8192x1024 : Shape := ⟨2, ![8192, 1024]⟩
abbrev S8x1024 : Shape := ⟨2, ![8, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8192x4096 .bf16) (main_arg1 : FVec F S8192x1024 .f32) (main_arg2 : FVec F S8x1024 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S8x1024 .f32 := Host.absf main_arg2
  let main_cst_2 : FVec F S_ .f32 := constant S_ .f32 0x7F800000#32
  let main_v11 : FVec F S8x1024 .f32 := broadcastInDim S8x1024 ![] bcast_S_S8x1024 main_cst_2
  let main_v12 : IVec S8x1024 1 := cmpf .olt main_v10 main_v11
  let main_c_3 : IVec S_ 1 := constantI S_ 1 1#1
  let main_v13 : IVec S_ 1 := (fun x v => Host.reduce IntOp.andi x v reducesTo_S8x1024_S_d0_1 h_S_) main_v12 main_c_3
  let main_v14 : IVec S_ 1 := andi main_v9 main_v13
  main_v14
-- ==== Pre_own_shard.lean ====
abbrev S8192x1024 : Shape := ⟨2, ![8192, 1024]⟩
abbrev S8192x2048 : Shape := ⟨2, ![8192, 2048]⟩
abbrev S1x1024 : Shape := ⟨2, ![1, 1024]⟩
abbrev S3x1024x1024 : Shape := ⟨3, ![3, 1024, 1024]⟩
abbrev S3x256x1024 : Shape := ⟨3, ![3, 256, 1024]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S8192x1024 .bf16) (main_arg1 : FVec F S8192x1024 .bf16) (main_arg2 : FVec F S8192x2048 .bf16) (main_arg3 : FVec F S8192x1024 .f32) (main_arg4 : FVec F S8192x1024 .f32) (main_arg5 : FVec F S1x1024 .f32) (main_arg6 : FVec F S3x1024x1024 .bf16) (main_arg7 : FVec F S3x256x1024 .bf16) (main_arg8 : IVec S1 32) : IVec S_ 1 :=
  let main_c : IVec S_ 32 := constantI S_ 32 0#32
  let main_v0 : IVec S1 32 := broadcastInDim S1 ![] bcast_S_S1 main_c
  let main_v1 : IVec S1 1 := cmpi .sge main_arg8 main_v0
  let main_c_0 : IVec S_ 32 := constantI S_ 32 4#32
  let main_v2 : IVec S1 32 := broadcastInDim S1 ![] bcast_S_S1 main_c_0
  let main_v3 : IVec S1 1 := cmpi .slt main_arg8 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Kernel.lean ====
abbrev S8192x4096 : Shape := ⟨2, ![8192, 4096]⟩
abbrev S8192x1024 : Shape := ⟨2, ![8192, 1024]⟩
abbrev S8x1024 : Shape := ⟨2, ![8, 1024]⟩
abbrev S2048x1024 : Shape := ⟨2, ![2048, 1024]⟩
abbrev S2048x256 : Shape := ⟨2, ![2048, 256]⟩
abbrev S8x256 : Shape := ⟨2, ![8, 256]⟩
abbrev S2048x128 : Shape := ⟨2, ![2048, 128]⟩
abbrev S8x128 : Shape := ⟨2, ![8, 128]⟩
abbrev S1x128 : Shape := ⟨2, ![1, 128]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8x1024, .f32⟩
  | .hbm, ⟨3, _⟩ => ⟨S8192x4096, .bf16⟩
  | .hbm, ⟨4, _⟩ => ⟨S8x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .f32⟩
  | .local _ .vmem, ⟨3, _⟩ => ⟨S2048x256, .f32⟩
  | .local _ .vmem, ⟨4, _⟩ => ⟨S8x256, .f32⟩
  | .local _ .vmem, ⟨5, _⟩ => ⟨S8x256, .f32⟩
  | .local _ .vmem, ⟨6, _⟩ => ⟨S2048x1024, .bf16⟩
  | .local _ .vmem, ⟨7, _⟩ => ⟨S2048x1024, .bf16⟩
  | .local _ .vmem, ⟨8, _⟩ => ⟨S8x256, .f32⟩
  | .local _ .vmem, ⟨9, _⟩ => ⟨S8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x4096 : Shape := ⟨2, ![8192, 4096]⟩
abbrev S8192x1024 : Shape := ⟨2, ![8192, 1024]⟩
abbrev S8x1024 : Shape := ⟨2, ![8, 1024]⟩
abbrev S4x2048x8x4x128 : Shape := ⟨5, ![4, 2048, 8, 4, 128]⟩
abbrev S4x2048x8x1x128 : Shape := ⟨5, ![4, 2048, 8, 1, 128]⟩
abbrev S4x2048x8x128 : Shape := ⟨4, ![4, 2048, 8, 128]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 135
  | .vmem => 0
  | .smem => 0
  | _ => 0

abbrev hbmTy0_0 (i : Nat) : BufTy := match i % 128 with
  | 0 => ⟨S8192x4096, .bf16⟩
  | 1 => ⟨S8192x1024, .f32⟩
  | 2 => ⟨S8x1024, .f32⟩
  | 3 => ⟨S8192x4096, .f32⟩
  | 4 => ⟨S4x2048x8x4x128, .f32⟩
  | 5 => ⟨S4x2048x8x1x128, .f32⟩
  | 6 => ⟨S4x2048x8x128, .f32⟩
  | 7 => ⟨S4x2048x1024, .f32⟩
  | 8 => ⟨S4x2048x8x1x128, .f32⟩
  | 9 => ⟨S4x2048x8x128, .f32⟩
  | 10 => ⟨S4x2048x1024, .f32⟩
  | 11 => ⟨S4x2048x8x1x128, .f32⟩
  | 12 => ⟨S4x2048x8x128, .f32⟩
  | 13 => ⟨S4x2048x1024, .f32⟩
  | 14 => ⟨S4x2048x8x1x128, .f32⟩
  | 15 => ⟨S4x2048x8x128, .f32⟩
  | 16 => ⟨S4x2048x1024, .f32⟩
  | 17 => ⟨S4x2048x1024, .f32⟩
  | 18 => ⟨S4x2048x1024, .f32⟩
  | 19 => ⟨S_, .f32⟩
  | 20 => ⟨S4x2048x1024, .f32⟩
  | 21 => ⟨S4x2048x1024, .f32⟩
  | 22 => ⟨S_, .f32⟩
  | 23 => ⟨S4x2048x1024, .f32⟩
  | 24 => ⟨S4x2048x1024, .f32⟩
  | 25 => ⟨S_, .f32⟩
  | 26 => ⟨S4x2048x1024, .f32⟩
  | 27 => ⟨S4x2048x1024, .f32⟩
  | 28 => ⟨S4x2048x1024, .f32⟩
  | 29 => ⟨S4x2048x1024, .f32⟩
  | 30 => ⟨S4x2048x1024, .f32⟩
  | 31 => ⟨S_, .f32⟩
  | 32 => ⟨S4x2x1024, .f32⟩
  | 33 => ⟨S4x2050x1024, .f32⟩
  | 34 => ⟨S_, .f32⟩
  | 35 => ⟨S4x2x1024, .f32⟩
  | 36 => ⟨S1x1024, .f32⟩
  | 37 => ⟨S1024, .f32⟩
  | 38 => ⟨S4x2048x1024, .f32⟩
  | 39 => ⟨S1x1x1024, .f32⟩
  | 40 => ⟨S4x2048x1024, .f32⟩
  | 41 => ⟨S4x2048x1024, .f32⟩
  | 42 => ⟨S1x1024, .f32⟩
  | 43 => ⟨S1024, .f32⟩
  | 44 => ⟨S4x2048x1024, .f32⟩
  | 45 => ⟨S1x1x1024, .f32⟩
  | 46 => ⟨S4x2048x1024, .f32⟩
  | 47 => ⟨S4x2048x1024, .f32⟩
  | 48 => ⟨S4x2048x1024, .f32⟩
  | 49 => ⟨S1x1024, .f32⟩
  | 50 => ⟨S1024, .f32⟩
  | 51 => ⟨S4x2048x1024, .f32⟩
  | 52 => ⟨S1x1x1024, .f32⟩
  | 53 => ⟨S4x2048x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S_, .f32⟩
  | 67 => ⟨S1024, .f32⟩
  | 68 => ⟨S1x1x1024, .f32⟩
  | 69 => ⟨S_, .f32⟩
  | 70 => ⟨S1024, .f32⟩
  | 71 => ⟨S_, .f32⟩
  | 72 => ⟨S4x2050x1024, .f32⟩
  | 73 => ⟨S1x1024, .f32⟩
  | 74 => ⟨S_, .f32⟩
  | 75 => ⟨S8x1024, .f32⟩
  | 76 => ⟨S4x2048x1024, .f32⟩
  | 77 => ⟨S4x2048x1024, .f32⟩
  | 78 => ⟨S4x2048x1024, .f32⟩
  | 79 => ⟨S_, .f32⟩
  | 80 => ⟨S1024, .f32⟩
  | 81 => ⟨S1x1x1024, .f32⟩
  | 82 => ⟨S_, .f32⟩
  | 83 => ⟨S1024, .f32⟩
  | 84 => ⟨S_, .f32⟩
  | 85 => ⟨S4x2050x1024, .f32⟩
  | 86 => ⟨S4x2050x1024, .f32⟩
  | 87 => ⟨S1x1024, .f32⟩
  | 88 => ⟨S_, .f32⟩
  | 89 => ⟨S8x1024, .f32⟩
  | 90 => ⟨S8x1024, .f32⟩
  | 91 => ⟨S4x2048x1024, .f32⟩
  | 92 => ⟨S4x2048x1024, .f32⟩
  | 93 => ⟨S4x2048x1024, .f32⟩
  | 94 => ⟨S_, .f32⟩
  | 95 => ⟨S1024, .f32⟩
  | 96 => ⟨S1x1x1024, .f32⟩
  | 97 => ⟨S_, .f32⟩
  | 98 => ⟨S1024, .f32⟩
  | 99 => ⟨S_, .f32⟩
  | 100 => ⟨S4x2050x1024, .f32⟩
  | 101 => ⟨S4x2050x1024, .f32⟩
  | 102 => ⟨S1x1024, .f32⟩
  | 103 => ⟨S_, .f32⟩
  | 104 => ⟨S8x1024, .f32⟩
  | 105 => ⟨S8x1024, .f32⟩
  | 106 => ⟨S4x2x1024, .f32⟩
  | 107 => ⟨S4x2048x1024, .f32⟩
  | 108 => ⟨S4x2048x1024, .f32⟩
  | 109 => ⟨S4x2048x1024, .f32⟩
  | 110 => ⟨S4x2048x1024, .f32⟩
  | 111 => ⟨S4x2048x1024, .f32⟩
  | 112 => ⟨S4x2048x1024, .f32⟩
  | 113 => ⟨S4x2048x1024, .f32⟩
  | 114 => ⟨S4x2048x8x128, .f32⟩
  | 115 => ⟨S4x2048x8x1x128, .f32⟩
  | 116 => ⟨S_, .f32⟩
  | 117 => ⟨S4x2048x8x4x128, .f32⟩
  | 118 => ⟨S4x2048x8x128, .f32⟩
  | 119 => ⟨S4x2048x8x1x128, .f32⟩
  | 120 => ⟨S_, .f32⟩
  | 121 => ⟨S4x2048x8x4x128, .f32⟩
  | 122 => ⟨S4x2048x8x4x128, .f32⟩
  | 123 => ⟨S4x2048x8x128, .f32⟩
  | 124 => ⟨S4x2048x8x1x128, .f32⟩
  | 125 => ⟨S_, .f32⟩
  | 126 => ⟨S4x2048x8x4x128, .f32⟩
  | 127 => ⟨S4x2048x8x4x128, .f32⟩
  | _ => ⟨S8192x4096, .bf16⟩

abbrev hbmTy0_1 (i : Nat) : BufTy := match i % 128 with
  | 0 => ⟨S4x2048x8x128, .f32⟩
  | 1 => ⟨S4x2048x8x1x128, .f32⟩
  | 2 => ⟨S_, .f32⟩
  | 3 => ⟨S4x2048x8x4x128, .f32⟩
  | 4 => ⟨S4x2048x8x4x128, .f32⟩
  | 5 => ⟨S8192x4096, .f32⟩
  | 6 => ⟨S8192x4096, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v14_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v14_1 : Ref sig .tc := ⟨.hbm, 28, rfl⟩
abbrev main_v14_0 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_1 : Ref sig .tc := ⟨.hbm, 66, rfl⟩
abbrev main_v49 : Ref sig .tc := ⟨.hbm, 67, rfl⟩
abbrev main_v50 : Ref sig .tc := ⟨.hbm, 68, rfl⟩
abbrev main_cst_2 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_9 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_13 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_14 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_15 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_16 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S1x1024 : Shape := ⟨2, ![1, 1024]⟩
abbrev S3x1024x1024 : Shape := ⟨3, ![3, 1024, 1024]⟩
abbrev S3x256x1024 : Shape := ⟨3, ![3, 256, 1024]⟩
abbrev S1 : Shape := ⟨1, ![1]⟩
abbrev S8192x4096 : Shape := ⟨2, ![8192, 4096]⟩
abbrev S8x1024 : Shape := ⟨2, ![8, 1024]⟩
abbrev S512x1024 : Shape := ⟨2, ![512, 1024]⟩
abbrev S512x2048 : Shape := ⟨2, ![512, 2048]⟩
abbrev S512x4096 : Shape := ⟨2, ![512, 4096]⟩
abbrev S_ : Shape := ⟨0, ![]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 23
  | .smem => 1
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S3x1024x1024, .bf16⟩
  | .hbm, ⟨7, _⟩ => ⟨S3x256x1024, .bf16⟩
  | .hbm, ⟨8, _⟩ => ⟨S1, .i32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x2048, .bf16⟩
  | .hbm, ⟨13, _⟩ => ⟨S8192x4096, .bf16⟩
  | .hbm, ⟨14, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S512x4096, .bf16⟩
  | .local _ .vmem, ⟨20, _⟩ => ⟨S512x4096, .bf16⟩
  | .local _ .vmem, ⟨21, _⟩ => ⟨S8x1024, .f32⟩
  | .local _ .vmem, ⟨22, _⟩ => ⟨S3x1024x1024, .bf16⟩
  | .local _ .smem, ⟨0, _⟩ => ⟨S1, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_scratch0 : Ref sig .tc := ⟨.vmem, 22, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v104 : BitVec 32) : BitVec 32 :=
  let c256_i32 : BitVec 32 := 256#32
  let v105 : BitVec 32 := Scalar.muli v104 c256_i32
  v105

def k0_off1 (v104 : BitVec 32) : Fin 3 → Nat :=
  let c0_i32_69 : BitVec 32 := 0#32
  let c256_i32 : BitVec 32 := 256#32
  let v105 : BitVec 32 := Scalar.muli v104 c256_i32
  let v106 : BitVec 32 := v105
  let c0_i32_70 : BitVec 32 := 0#32
  ![0, v106.toNat, 0]

def k0_chk1 (i : grid0.Coords) (v104 : BitVec 32) : Prop :=
  (∀ (k0_h1 : k0_cond1 i = 1#1), 256 ∣ (k0_mult1 v104).toNat) ∧
  (∀ (k0_h1 : k0_cond1 i = 1#1), ∀ a, (k0_off1 v104) a + S3x256x1024.size a ≤ S3x1024x1024.size a) ∧
  (∀ (k0_h1 : k0_cond1 i = 1#1), ∀ (hinb : ∀ a, (k0_off1 v104) a + S3x256x1024.size a ≤ S3x1024x1024.size a), (Rect.unit (s := S3x1024x1024) (k0_off1 v104) S3x256x1024.size hinb).WholeWords (EltTy.packing .bf16))
theorem k0_mult1_dvd : ∀ (i : grid0.Coords) (v104 : BitVec 32) (k0_hw1 : k0_chk1 i v104), ∀ (k0_h1 : k0_cond1 i = 1#1), 256 ∣ (k0_mult1 v104).toNat := fun i v104 k0_hw1 k0_h1 => k0_hw1.1 k0_h1
theorem k0_off1_inb : ∀ (i : grid0.Coords) (v104 : BitVec 32) (k0_hw1 : k0_chk1 i v104), ∀ (k0_h1 : k0_cond1 i = 1#1), ∀ a, (k0_off1 v104) a + S3x256x1024.size a ≤ S3x1024x1024.size a := fun i v104 k0_hw1 k0_h1 => k0_hw1.2.1 k0_h1
theorem k0_off1_wordsbf16 : ∀ (i : grid0.Coords) (v104 : BitVec 32) (k0_hw1 : k0_chk1 i v104), ∀ (k0_h1 : k0_cond1 i = 1#1), (Rect.unit (s := S3x1024x1024) (k0_off1 v104) S3x256x1024.size (k0_off1_inb i v104 k0_hw1 k0_h1)).WholeWords (EltTy.packing .bf16) := fun i v104 k0_hw1 k0_h1 => k0_hw1.2.2 k0_h1 (k0_off1_inb i v104 k0_hw1 k0_h1)

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeReferenceIdeal.lean ====
abbrev S8192x1024 : Shape := ⟨2, ![8192, 1024]⟩
abbrev S8192x2048 : Shape := ⟨2, ![8192, 2048]⟩
abbrev S1x1024 : Shape := ⟨2, ![1, 1024]⟩
abbrev S3x1024x1024 : Shape := ⟨3, ![3, 1024, 1024]⟩
abbrev S3x256x1024 : Shape := ⟨3, ![3, 256, 1024]⟩
abbrev S1 : Shape := ⟨1, ![1]⟩
abbrev S4 : Shape := ⟨1, ![4]⟩
abbrev S_ : Shape := ⟨0, ![]⟩
abbrev S1x4x1x1 : Shape := ⟨4, ![1, 4, 1, 1]⟩
abbrev S3x1x256x1024 : Shape := ⟨4, ![3, 1, 256, 1024]⟩
abbrev S3x4x256x1024 : Shape := ⟨4, ![3, 4, 256, 1024]⟩
abbrev S1x1024x1024 : Shape := ⟨3, ![1, 1024, 1024]⟩
abbrev S1024x1024 : Shape := ⟨2, ![1024, 1024]⟩
abbrev S8192 : Shape := ⟨1, ![8192]⟩
abbrev S8192x1 : Shape := ⟨2, ![8192, 1]⟩
abbrev S1024 : Shape := ⟨1, ![1024]⟩
abbrev S8192x4096 : Shape := ⟨2, ![8192, 4096]⟩
abbrev S6x1024 : Shape := ⟨2, ![6, 1024]⟩
abbrev S8x1024 : Shape := ⟨2, ![8, 1024]⟩

abbrev nBuf : Space → Nat
  | .hbm => 150
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x2048, .bf16⟩
  | 3 => ⟨S8192x1024, .f32⟩
  | 4 => ⟨S8192x1024, .f32⟩
  | 5 => ⟨S1x1024, .f32⟩
  | 6 => ⟨S3x1024x1024, .bf16⟩
  | 7 => ⟨S3x256x1024, .bf16⟩
  | 8 => ⟨S1, .i32⟩
  | 9 => ⟨S4, .i32⟩
  | 10 => ⟨S_, .i32⟩
  | 11 => ⟨S4, .i32⟩
  | 12 => ⟨S4, .i1⟩
  | 13 => ⟨S1x4x1x1, .i1⟩
  | 14 => ⟨S3x256x1024, .f32⟩
  | 15 => ⟨S3x1x256x1024, .f32⟩
  | 16 => ⟨S3x1024x1024, .f32⟩
  | 17 => ⟨S3x4x256x1024, .f32⟩
  | 18 => ⟨S3x4x256x1024, .i1⟩
  | 19 => ⟨S3x4x256x1024, .f32⟩
  | 20 => ⟨S3x4x256x1024, .f32⟩
  | 21 => ⟨S3x1024x1024, .f32⟩
  | 22 => ⟨S8192x1024, .f32⟩
  | 23 => ⟨S8192x1024, .f32⟩
  | 24 => ⟨S8192x2048, .f32⟩
  | 25 => ⟨S1x1024x1024, .f32⟩
  | 26 => ⟨S1024x1024, .f32⟩
  | 27 => ⟨S1x1024x1024, .f32⟩
  | 28 => ⟨S1024x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S1x1024x1024, .f32⟩
  | 61 => ⟨S1024x1024, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192, .f32⟩
  | 90 => ⟨S_, .f32⟩
  | 91 => ⟨S8192, .f32⟩
  | 92 => ⟨S8192, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S8192, .f32⟩
  | 101 => ⟨S_, .f32⟩
  | 102 => ⟨S8192, .f32⟩
  | 103 => ⟨S8192, .f32⟩
  | 104 => ⟨S8192x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S8192x1024, .f32⟩
  | 117 => ⟨S8192x1024, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192, .f32⟩
  | 124 => ⟨S8192x1024, .f32⟩
  | 125 => ⟨S8192x1024, .f32⟩
  | 126 => ⟨S8192x1024, .f32⟩
  | 127 => ⟨S8192x1024, .f32⟩
  | _ => ⟨S8192x1024, .bf16⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S_, .f32⟩
  | 13 => ⟨S1024, .f32⟩
  | 14 => ⟨S1x1024, .f32⟩
  | 15 => ⟨S8192x2048, .f32⟩
  | 16 => ⟨S8192x2048, .bf16⟩
  | 17 => ⟨S8192x4096, .f32⟩
  | 18 => ⟨S8192x4096, .bf16⟩
  | 19 => ⟨S_, .f32⟩
  | 20 => ⟨S6x1024, .f32⟩
  | 21 => ⟨S8x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_cst_14 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_cst_16 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_cst_20 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_21 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_22 : Ref sig .tc := ⟨.hbm, 147, rfl⟩
abbrev main_v113 : Ref sig .tc := ⟨.hbm, 148, rfl⟩
abbrev main_v114 : Ref sig .tc := ⟨.hbm, 149, rfl⟩

abbrev nD : Nat := 1
abbrev τ : Topo := Topo.v7x

variable {F : FTy → Type} [FloatOps F]
-- ==== Projections.lean ====
abbrev S8192x1024 : Shape := ⟨2, ![8192, 1024]⟩
abbrev S8192x4096 : Shape := ⟨2, ![8192, 4096]⟩
abbrev S8x128 : Shape := ⟨2, ![8, 128]⟩
abbrev S3x1024x1024 : Shape := ⟨3, ![3, 1024, 1024]⟩
abbrev S1024x1024 : Shape := ⟨2, ![1024, 1024]⟩
abbrev S1x1024x1024 : Shape := ⟨3, ![1, 1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8x128, .f32⟩
  | .hbm, ⟨4, _⟩ => ⟨S3x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024x1024, .f32⟩
  | .local _ .vmem, ⟨13, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32_0 : BitVec 32 := 0#32
  let v1 : BitVec 1 := Scalar.cmpi .eq arg0 c0_i32_0
  let v2 : BitVec 32 := Scalar.extui v1
  let c0_i32_1 : BitVec 32 := 0#32
  let v3 : BitVec 1 := Scalar.cmpi .ne v2 c0_i32_1
  v3

def k0_cond2 (i : grid0.Coords) : BitVec 1 :=
  let arg0 : BitVec 32 := BitVec.ofNat 32 (i 0).val
  let c1_i32 : BitVec 32 := 1#32
  let v4 : BitVec 1 := Scalar.cmpi .eq arg0 c1_i32
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c2_i32 : BitVec 32 := 2#32
  let v7 : BitVec 1 := Scalar.cmpi .eq arg0 c2_i32
  let v8 : BitVec 32 := Scalar.extui v7
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c1_i32 : BitVec 32 := 1#32
  let c0_i32_0 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c2_i32 : BitVec 32 := 2#32
  let c0_i32_1 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c3_i32 : BitVec 32 := 3#32
  let c0_i32_0 : BitVec 32 := 0#32
  ![v1.toNat, c3_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjectionsReferenceIdeal.lean ====
abbrev S8192x1024 : Shape := ⟨2, ![8192, 1024]⟩
abbrev S8192x4096 : Shape := ⟨2, ![8192, 4096]⟩
abbrev S8x128 : Shape := ⟨2, ![8, 128]⟩
abbrev S_ : Shape := ⟨0, ![]⟩
abbrev S1024x1024 : Shape := ⟨2, ![1024, 1024]⟩
abbrev S1x1024x1024 : Shape := ⟨3, ![1, 1024, 1024]⟩
abbrev S3x1024x1024 : Shape := ⟨3, ![3, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x4096, .bf16⟩
  | .hbm, ⟨3, _⟩ => ⟨S8x128, .f32⟩
  | .hbm, ⟨4, _⟩ => ⟨S8192x1024, .f32⟩
  | .hbm, ⟨5, _⟩ => ⟨S8192x1024, .f32⟩
  | .hbm, ⟨6, _⟩ => ⟨S8192x4096, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1x1024x1024, .f32⟩
  | .hbm, ⟨23, _⟩ => ⟨S1x1024x1024, .f32⟩
  | .hbm, ⟨24, _⟩ => ⟨S1x1024x1024, .f32⟩
  | .hbm, ⟨25, _⟩ => ⟨S3x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== InputProjection.lean ====
abbrev S1024x8192 : Shape := ⟨2, ![1024, 8192]⟩
abbrev S8192x4096 : Shape := ⟨2, ![8192, 4096]⟩
abbrev S8192x1024 : Shape := ⟨2, ![8192, 1024]⟩
abbrev S8192x256 : Shape := ⟨2, ![8192, 256]⟩
abbrev S8192x2048 : Shape := ⟨2, ![8192, 2048]⟩
abbrev S1024x8448 : Shape := ⟨2, ![1024, 8448]⟩
abbrev S1024x2048 : Shape := ⟨2, ![1024, 2048]⟩
abbrev S2048x1024 : Shape := ⟨2, ![2048, 1024]⟩
abbrev S2048x256 : Shape := ⟨2, ![2048, 256]⟩
abbrev S1024x1024 : Shape := ⟨2, ![1024, 1024]⟩
abbrev S8 : Shape := ⟨1, ![8]⟩
abbrev S1 : Shape := ⟨1, ![1]⟩
abbrev S_ : Shape := ⟨0, ![]⟩
abbrev S1024x128 : Shape := ⟨2, ![1024, 128]⟩
abbrev S1024x256 : Shape := ⟨2, ![1024, 256]⟩

abbrev nBuf : Space → Nat
  | .hbm => 7
  | .vmem => 13
  | .smem => 0
  | _ => 0

abbrev bufTy : (tb : Table) → Fin (tcTables nBuf tb) → BufTy
  | .hbm, ⟨0, _⟩ => ⟨S1024x8192, .bf16⟩
  | .hbm, ⟨1, _⟩ => ⟨S8192x4096, .bf16⟩
  | .hbm, ⟨2, _⟩ => ⟨S8192x1024, .bf16⟩
  | .hbm, ⟨3, _⟩ => ⟨S8192x256, .bf16⟩
  | .hbm, ⟨4, _⟩ => ⟨S8192x1024, .bf16⟩
  | .hbm, ⟨5, _⟩ => ⟨S8192x2048, .bf16⟩
  | .hbm, ⟨6, _⟩ => ⟨S1024x8448, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x256, .bf16⟩
  | .local _ .vmem, ⟨7, _⟩ => ⟨S2048x256, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_18 : BitVec 32 := 0#32
  let v38 : BitVec 1 := Scalar.cmpi .ne v37 c0_i32_18
  v38

def k0_mult1 (i : grid0.Coords) : BitVec 32 :=
  let c0_i32_20 : BitVec 32 := 0#32
  let c2_i32 : BitVec 32 := 2#32
  let arg0 : BitVec 32 := BitVec.ofNat 32 (i 0).val
  let c0_i32_19 : BitVec 32 := 0#32
  let v39 : BitVec 32 := Scalar.subi arg0 c0_i32_19
  let v40 : BitVec 32 := Scalar.muli c2_i32 v39
  let v41 : BitVec 32 := Scalar.addi c0_i32_20 v40
  let c0_i32_21 : BitVec 32 := 0#32
  let v42 : BitVec 32 := Scalar.addi v41 c0_i32_21
  let c128_i32 : BitVec 32 := 128#32
  let v43 : BitVec 32 := Scalar.muli v42 c128_i32
  v43
def k0_mult2 (i : grid0.Coords) : BitVec 32 :=
  let c8_i32 : BitVec 32 := 8#32
  let c2_i32_22 : BitVec 32 := 2#32
  let arg0 : BitVec 32 := BitVec.ofNat 32 (i 0).val
  let c0_i32_19 : BitVec 32 := 0#32
  let v39 : BitVec 32 := Scalar.subi arg0 c0_i32_19
  let v45 : BitVec 32 := Scalar.muli c2_i32_22 v39
  let v46 : BitVec 32 := Scalar.addi c8_i32 v45
  let c0_i32_23 : BitVec 32 := 0#32
  let v47 : BitVec 32 := Scalar.addi v46 c0_i32_23
  let c128_i32_24 : BitVec 32 := 128#32
  let v48 : BitVec 32 := Scalar.muli v47 c128_i32_24
  v48
def k0_mult3 (i : grid0.Coords) : BitVec 32 :=
  let c16_i32 : BitVec 32 := 16#32
  let c2_i32_25 : BitVec 32 := 2#32
  let arg0 : BitVec 32 := BitVec.ofNat 32 (i 0).val
  let c0_i32_19 : BitVec 32 := 0#32
  let v39 : BitVec 32 := Scalar.subi arg0 c0_i32_19
  let v50 : BitVec 32 := Scalar.muli c2_i32_25 v39
  let v51 : BitVec 32 := Scalar.addi c16_i32 v50
  let c0_i32_26 : BitVec 32 := 0#32
  let v52 : BitVec 32 := Scalar.addi v51 c0_i32_26
  let c128_i32_27 : BitVec 32 := 128#32
  let v53 : BitVec 32 := Scalar.muli v52 c128_i32_27
  v53
def k0_mult4 (i : grid0.Coords) : BitVec 32 :=
  let c24_i32 : BitVec 32 := 24#32
  let c2_i32_28 : BitVec 32 := 2#32
  let arg0 : BitVec 32 := BitVec.ofNat 32 (i 0).val
  let c0_i32_19 : BitVec 32 := 0#32
  let v39 : BitVec 32 := Scalar.subi arg0 c0_i32_19
  let v55 : BitVec 32 := Scalar.muli c2_i32_28 v39
  let v56 : BitVec 32 := Scalar.addi c24_i32 v55
  let c0_i32_29 : BitVec 32 := 0#32
  let v57 : BitVec 32 := Scalar.addi v56 c0_i32_29
  let c128_i32_30 : BitVec 32 := 128#32
  let v58 : BitVec 32 := Scalar.muli v57 c128_i32_30
  v58
def k0_mult5 (i : grid0.Coords) : BitVec 32 :=
  let c0_i32_32 : BitVec 32 := 0#32
  let c2_i32_31 : BitVec 32 := 2#32
  let arg0 : BitVec 32 := BitVec.ofNat 32 (i 0).val
  let c0_i32_19 : BitVec 32 := 0#32
  let v39 : BitVec 32 := Scalar.subi arg0 c0_i32_19
  let v60 : BitVec 32 := Scalar.muli c2_i32_31 v39
  let v61 : BitVec 32 := Scalar.addi c0_i32_32 v60
  let c1_i32 : BitVec 32 := 1#32
  let v62 : BitVec 32 := Scalar.addi v61 c1_i32
  let c128_i32_33 : BitVec 32 := 128#32
  let v63 : BitVec 32 := Scalar.muli v62 c128_i32_33
  v63
def k0_mult6 (i : grid0.Coords) : BitVec 32 :=
  let c8_i32_35 : BitVec 32 := 8#32
  let c2_i32_34 : BitVec 32 := 2#32
  let arg0 : BitVec 32 := BitVec.ofNat 32 (i 0).val
  let c0_i32_19 : BitVec 32 := 0#32
  let v39 : BitVec 32 := Scalar.subi arg0 c0_i32_19
  let v65 : BitVec 32 := Scalar.muli c2_i32_34 v39
  let v66 : BitVec 32 := Scalar.addi c8_i32_35 v65
  let c1_i32_36 : BitVec 32 := 1#32
  let v67 : BitVec 32 := Scalar.addi v66 c1_i32_36
  let c128_i32_37 : BitVec 32 := 128#32
  let v68 : BitVec 32 := Scalar.muli v67 c128_i32_37
  v68
def k0_mult7 (i : grid0.Coords) : BitVec 32 :=
  let c16_i32_39 : BitVec 32 := 16#32
  let c2_i32_38 : BitVec 32 := 2#32
  let arg0 : BitVec 32 := BitVec.ofNat 32 (i 0).val
  let c0_i32_19 : BitVec 32 := 0#32
  let v39 : BitVec 32 := Scalar.subi arg0 c0_i32_19
  let v70 : BitVec 32 := Scalar.muli c2_i32_38 v39
  let v71 : BitVec 32 := Scalar.addi c16_i32_39 v70
  let c1_i32_40 : BitVec 32 := 1#32
  let v72 : BitVec 32 := Scalar.addi v71 c1_i32_40
  let c128_i32_41 : BitVec 32 := 128#32
  let v73 : BitVec 32 := Scalar.muli v72 c128_i32_41
  v73
def k0_mult8 (i : grid0.Coords) : BitVec 32 :=
  let c24_i32_43 : BitVec 32 := 24#32
  let c2_i32_42 : BitVec 32 := 2#32
  let arg0 : BitVec 32 := BitVec.ofNat 32 (i 0).val
  let c0_i32_19 : BitVec 32 := 0#32
  let v39 : BitVec 32 := Scalar.subi arg0 c0_i32_19
  let v75 : BitVec 32 := Scalar.muli c2_i32_42 v39
  let v76 : BitVec 32 := Scalar.addi c24_i32_43 v75
  let c1_i32_44 : BitVec 32 := 1#32
  let v77 : BitVec 32 := Scalar.addi v76 c1_i32_44
  let c128_i32_45 : BitVec 32 := 128#32
  let v78 : BitVec 32 := Scalar.muli v77 c128_i32_45
  v78
def k0_off1 (i : grid0.Coords) (c0_i32_20 : BitVec 32) (c0_i32_21 : BitVec 32) : Fin 2 → Nat :=
  let c0_i32_47 : BitVec 32 := 0#32
  let c2_i32 : BitVec 32 := 2#32
  let arg0 : BitVec 32 := BitVec.ofNat 32 (i 0).val
  let c0_i32_19 : BitVec 32 := 0#32
  let v39 : BitVec 32 := Scalar.subi arg0 c0_i32_19
  let v40 : BitVec 32 := Scalar.muli c2_i32 v39
  let v41 : BitVec 32 := Scalar.addi c0_i32_20 v40
  let v42 : BitVec 32 := Scalar.addi v41 c0_i32_21
  let c128_i32 : BitVec 32 := 128#32
  let v43 : BitVec 32 := Scalar.muli v42 c128_i32
  let v44 : BitVec 32 := v43
  ![0, v44.toNat]
def k0_cond3 (i : grid0.Coords) : BitVec 1 :=
  let arg0 : BitVec 32 := BitVec.ofNat 32 (i 0).val
  let c4_i32_1 : BitVec 32 := 4#32
  let v5 : BitVec 1 := Scalar.cmpi .sge arg0 c4_i32_1
  let c5_i32 : BitVec 32 := 5#32
  let v6 : BitVec 1 := Scalar.cmpi .slt arg0 c5_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond4 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_18 : BitVec 32 := 0#32
  let v38 : BitVec 1 := Scalar.cmpi .ne v37 c0_i32_18
  v38

def k0_mult9 (i : grid0.Coords) : BitVec 32 :=
  let c4096_i32 : BitVec 32 := 4096#32
  let arg0 : BitVec 32 := BitVec.ofNat 32 (i 0).val
  let c4_i32_19 : BitVec 32 := 4#32
  let v39 : BitVec 32 := Scalar.subi arg0 c4_i32_19
  let c1024_i32 : BitVec 32 := 1024#32
  let v40 : BitVec 32 := Scalar.muli v39 c1024_i32
  let v41 : BitVec 32 := Scalar.addi c4096_i32 v40
  v41
def k0_off2 (i : grid0.Coords) : Fin 2 → Nat :=
  let c0_i32_21 : BitVec 32 := 0#32
  let c4096_i32 : BitVec 32 := 4096#32
  let arg0 : BitVec 32 := BitVec.ofNat 32 (i 0).val
  let c4_i32_19 : BitVec 32 := 4#32
  let v39 : BitVec 32 := Scalar.subi arg0 c4_i32_19
  let c1024_i32 : BitVec 32 := 1024#32
  let v40 : BitVec 32 := Scalar.muli v39 c1024_i32
  let v41 : BitVec 32 := Scalar.addi c4096_i32 v40
  let v42 : BitVec 32 := v41
  ![0, v42.toNat]
def k0_cond5 (i : grid0.Coords) : BitVec 1 :=
  let arg0 : BitVec 32 := BitVec.ofNat 32 (i 0).val
  let c5_i32_3 : BitVec 32 := 5#32
  let v10 : BitVec 1 := Scalar.cmpi .sge arg0 c5_i32_3
  let c6_i32 : BitVec 32 := 6#32
  let v11 : BitVec 1 := Scalar.cmpi .slt arg0 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond6 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_18 : BitVec 32 := 0#32
  let v38 : BitVec 1 := Scalar.cmpi .ne v37 c0_i32_18
  v38

def k0_mult10 (i : grid0.Coords) : BitVec 32 :=
  let c5120_i32 : BitVec 32 := 5120#32
  let arg0 : BitVec 32 := BitVec.ofNat 32 (i 0).val
  let c5_i32_19 : BitVec 32 := 5#32
  let v39 : BitVec 32 := Scalar.subi arg0 c5_i32_19
  let c256_i32 : BitVec 32 := 256#32
  let v40 : BitVec 32 := Scalar.muli v39 c256_i32
  let v41 : BitVec 32 := Scalar.addi c5120_i32 v40
  v41
def k0_off3 (i : grid0.Coords) : Fin 2 → Nat :=
  let c0_i32_21 : BitVec 32 := 0#32
  let c5120_i32 : BitVec 32 := 5120#32
  let arg0 : BitVec 32 := BitVec.ofNat 32 (i 0).val
  let c5_i32_19 : BitVec 32 := 5#32
  let v39 : BitVec 32 := Scalar.subi arg0 c5_i32_19
  let c256_i32 : BitVec 32 := 256#32
  let v40 : BitVec 32 := Scalar.muli v39 c256_i32
  let v41 : BitVec 32 := Scalar.addi c5120_i32 v40
  let v42 : BitVec 32 := v41
  ![0, v42.toNat]
def k0_cond7 (i : grid0.Coords) : BitVec 1 :=
  let arg0 : BitVec 32 := BitVec.ofNat 32 (i 0).val
  let c6_i32_5 : BitVec 32 := 6#32
  let v15 : BitVec 1 := Scalar.cmpi .sge arg0 c6_i32_5
  let c7_i32 : BitVec 32 := 7#32
  let v16 : BitVec 1 := Scalar.cmpi .slt arg0 c7_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond8 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_18 : BitVec 32 := 0#32
  let v38 : BitVec 1 := Scalar.cmpi .ne v37 c0_i32_18
  v38

def k0_mult11 (i : grid0.Coords) : BitVec 32 :=
  let c5376_i32 : BitVec 32 := 5376#32
  let arg0 : BitVec 32 := BitVec.ofNat 32 (i 0).val
  let c6_i32_19 : BitVec 32 := 6#32
  let v39 : BitVec 32 := Scalar.subi arg0 c6_i32_19
  let c1024_i32 : BitVec 32 := 1024#32
  let v40 : BitVec 32 := Scalar.muli v39 c1024_i32
  let v41 : BitVec 32 := Scalar.addi c5376_i32 v40
  v41
def k0_off4 (i : grid0.Coords) : Fin 2 → Nat :=
  let c0_i32_21 : BitVec 32 := 0#32
  let c5376_i32 : BitVec 32 := 5376#32
  let arg0 : BitVec 32 := BitVec.ofNat 32 (i 0).val
  let c6_i32_19 : BitVec 32 := 6#32
  let v39 : BitVec 32 := Scalar.subi arg0 c6_i32_19
  let c1024_i32 : BitVec 32 := 1024#32
  let v40 : BitVec 32 := Scalar.muli v39 c1024_i32
  let v41 : BitVec 32 := Scalar.addi c5376_i32 v40
  let v42 : BitVec 32 := v41
  ![0, v42.toNat]
def k0_cond9 (i : grid0.Coords) : BitVec 1 :=
  let arg0 : BitVec 32 := BitVec.ofNat 32 (i 0).val
  let c7_i32_7 : BitVec 32 := 7#32
  let v20 : BitVec 1 := Scalar.cmpi .sge arg0 c7_i32_7
  let c9_i32 : BitVec 32 := 9#32
  let v21 : BitVec 1 := Scalar.cmpi .slt arg0 c9_i32
  let v22 : BitVec 1 := Scalar.andi v20 v21
  let v23 : BitVec 32 := Scalar.extui v22
  let c0_i32_8 : BitVec 32 := 0#32
  let v24 : BitVec 1 := Scalar.cmpi .ne v23 c0_i32_8
  v24

def k0_cond10 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_18 : BitVec 32 := 0#32
  let v38 : BitVec 1 := Scalar.cmpi .ne v37 c0_i32_18
  v38

def k0_mult12 (i : grid0.Coords) : BitVec 32 :=
  let c6400_i32 : BitVec 32 := 6400#32
  let arg0 : BitVec 32 := BitVec.ofNat 32 (i 0).val
  let c7_i32_19 : BitVec 32 := 7#32
  let v39 : BitVec 32 := Scalar.subi arg0 c7_i32_19
  let c1024_i32 : BitVec 32 := 1024#32
  let v40 : BitVec 32 := Scalar.muli v39 c1024_i32
  let v41 : BitVec 32 := Scalar.addi c6400_i32 v40
  v41
def k0_off5 (i : grid0.Coords) : Fin 2 → Nat :=
  let c0_i32_21 : BitVec 32 := 0#32
  let c6400_i32 : BitVec 32 := 6400#32
  let arg0 : BitVec 32 := BitVec.ofNat 32 (i 0).val
  let c7_i32_19 : BitVec 32 := 7#32
  let v39 : BitVec 32 := Scalar.subi arg0 c7_i32_19
  let c1024_i32 : BitVec 32 := 1024#32
  let v40 : BitVec 32 := Scalar.muli v39 c1024_i32
  let v41 : BitVec 32 := Scalar.addi c6400_i32 v40
  let v42 : BitVec 32 := v41
  ![0, v42.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c4_i32 : BitVec 32 := 4#32
  let v1 : BitVec 1 := Scalar.cmpi .sge arg0 c4_i32
  let c3_i32 : BitVec 32 := 3#32
  let v2 : BitVec 32 := Scalar.select v1 c3_i32 arg1
  let c0_i32_0 : BitVec 32 := 0#32
  let v3 : BitVec 32 := Scalar.select v0 c0_i32_0 v2
  let c0_i32_1 : BitVec 32 := 0#32
  let v4 : BitVec 32 := Scalar.subi arg0 c0_i32_1
  let c0_i32_2 : BitVec 32 := 0#32
  let c3_i32_3 : BitVec 32 := 3#32
  let v5 : BitVec 32 := Scalar.maxsi c0_i32_2 v4
  let v6 : BitVec 32 := Scalar.minsi c3_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c5_i32 : BitVec 32 := 5#32
  let v1 : BitVec 1 := Scalar.cmpi .sge arg0 c5_i32
  let c3_i32 : BitVec 32 := 3#32
  let v2 : BitVec 32 := Scalar.select v1 c3_i32 arg1
  let c0_i32 : BitVec 32 := 0#32
  let v3 : BitVec 32 := Scalar.select v0 c0_i32 v2
  let c4_i32_0 : BitVec 32 := 4#32
  let v4 : BitVec 32 := Scalar.subi arg0 c4_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .slt arg0 c5_i32
  let c6_i32 : BitVec 32 := 6#32
  let v1 : BitVec 1 := Scalar.cmpi .sge arg0 c6_i32
  let c3_i32 : BitVec 32 := 3#32
  let v2 : BitVec 32 := Scalar.select v1 c3_i32 arg1
  let c0_i32 : BitVec 32 := 0#32
  let v3 : BitVec 32 := Scalar.select v0 c0_i32 v2
  let c5_i32_0 : BitVec 32 := 5#32
  let v4 : BitVec 32 := Scalar.subi arg0 c5_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c7_i32 : BitVec 32 := 7#32
  let v1 : BitVec 1 := Scalar.cmpi .sge arg0 c7_i32
  let c3_i32 : BitVec 32 := 3#32
  let v2 : BitVec 32 := Scalar.select v1 c3_i32 arg1
  let c0_i32 : BitVec 32 := 0#32
  let v3 : BitVec 32 := Scalar.select v0 c0_i32 v2
  let c6_i32_0 : BitVec 32 := 6#32
  let v4 : BitVec 32 := Scalar.subi arg0 c6_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .slt arg0 c7_i32
  let c9_i32 : BitVec 32 := 9#32
  let v1 : BitVec 1 := Scalar.cmpi .sge arg0 c9_i32
  let c3_i32 : BitVec 32 := 3#32
  let v2 : BitVec 32 := Scalar.select v1 c3_i32 arg1
  let c0_i32 : BitVec 32 := 0#32
  let v3 : BitVec 32 := Scalar.select v0 c0_i32 v2
  let c7_i32_0 : BitVec 32 := 7#32
  let v4 : BitVec 32 := Scalar.subi arg0 c7_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InputProjectionReferenceIdeal.lean ====
abbrev S1024x8192 : Shape := ⟨2, ![1024, 8192]⟩
abbrev S8192x4096 : Shape := ⟨2, ![8192, 4096]⟩
abbrev S8192x1024 : Shape := ⟨2, ![8192, 1024]⟩
abbrev S8192x256 : Shape := ⟨2, ![8192, 256]⟩
abbrev S8192x2048 : Shape := ⟨2, ![8192, 2048]⟩
abbrev S8192x8x4x128 : Shape := ⟨4, ![8192, 8, 4, 128]⟩
abbrev S8192x4x8x128 : Shape := ⟨4, ![8192, 4, 8, 128]⟩
abbrev S8192x8448 : Shape := ⟨2, ![8192, 8448]⟩
abbrev S_ : Shape := ⟨0, ![]⟩
abbrev S1024x8448 : Shape := ⟨2, ![1024, 8448]⟩
abbrev S8448x1024 : Shape := ⟨2, ![8448, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x4096, .bf16⟩
  | .hbm, ⟨2, _⟩ => ⟨S8192x1024, .bf16⟩
  | .hbm, ⟨3, _⟩ => ⟨S8192x256, .bf16⟩
  | .hbm, ⟨4, _⟩ => ⟨S8192x1024, .bf16⟩
  | .hbm, ⟨5, _⟩ => ⟨S8192x2048, .bf16⟩
  | .hbm, ⟨6, _⟩ => ⟨S1024x8192, .f32⟩
  | .hbm, ⟨7, _⟩ => ⟨S8192x4096, .f32⟩
  | .hbm, ⟨8, _⟩ => ⟨S8192x1024, .f32⟩
  | .hbm, ⟨9, _⟩ => ⟨S8192x256, .f32⟩
  | .hbm, ⟨10, _⟩ => ⟨S8192x1024, .f32⟩
  | .hbm, ⟨11, _⟩ => ⟨S8192x2048, .f32⟩
  | .hbm, ⟨12, _⟩ => ⟨S8192x8x4x128, .f32⟩
  | .hbm, ⟨13, _⟩ => ⟨S8192x4x8x128, .f32⟩
  | .hbm, ⟨14, _⟩ => ⟨S8192x4096, .f32⟩
  | .hbm, ⟨15, _⟩ => ⟨S8192x8448, .f32⟩
  | .hbm, ⟨16, _⟩ => ⟨S_, .f32⟩
  | .hbm, ⟨17, _⟩ => ⟨S1024x8448, .f32⟩
  | .hbm, ⟨18, _⟩ => ⟨S8192x1024, .f32⟩
  | .hbm, ⟨19, _⟩ => ⟨S8192x8448, .f32⟩
  | .hbm, ⟨20, _⟩ => ⟨S8448x1024, .f32⟩
  | .hbm, ⟨21, _⟩ => ⟨S1024x8448, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Prenorm.lean ====
abbrev S8192x1024 : Shape := ⟨2, ![8192, 1024]⟩
abbrev S1x1024 : Shape := ⟨2, ![1, 1024]⟩
abbrev S4x1024x2176 : Shape := ⟨3, ![4, 1024, 2176]⟩
abbrev S8192x4096 : Shape := ⟨2, ![8192, 4096]⟩
abbrev S8192x256 : Shape := ⟨2, ![8192, 256]⟩
abbrev S8192x2048 : Shape := ⟨2, ![8192, 2048]⟩
abbrev S1024x8192 : Shape := ⟨2, ![1024, 8192]⟩
abbrev S512x1024 : Shape := ⟨2, ![512, 1024]⟩
abbrev S512x4096 : Shape := ⟨2, ![512, 4096]⟩
abbrev S512x256 : Shape := ⟨2, ![512, 256]⟩
abbrev S512x2048 : Shape := ⟨2, ![512, 2048]⟩
abbrev S1024x512 : Shape := ⟨2, ![1024, 512]⟩
abbrev S1024x8448 : Shape := ⟨2, ![1024, 8448]⟩
abbrev S4x1024x128 : Shape := ⟨3, ![4, 1024, 128]⟩
abbrev S2 : Shape := ⟨1, ![2]⟩
abbrev S1 : Shape := ⟨1, ![1]⟩
abbrev S_ : Shape := ⟨0, ![]⟩
abbrev S1024x128 : Shape := ⟨2, ![1024, 128]⟩
abbrev S1x1024x128 : Shape := ⟨3, ![1, 1024, 128]⟩
abbrev S1024x256 : Shape := ⟨2, ![1024, 256]⟩
abbrev S1x1024x256 : Shape := ⟨3, ![1, 1024, 256]⟩
abbrev S1024x2048 : Shape := ⟨2, ![1024, 2048]⟩
abbrev S1x1024x2048 : Shape := ⟨3, ![1, 1024, 2048]⟩
abbrev S512 : Shape := ⟨1, ![512]⟩
abbrev S512x1 : Shape := ⟨2, ![512, 1]⟩
abbrev S1024x4096 : Shape := ⟨2, ![1024, 4096]⟩
abbrev S1024x1024 : Shape := ⟨2, ![1024, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x2176, .bf16⟩
  | .hbm, ⟨3, _⟩ => ⟨S8192x4096, .bf16⟩
  | .hbm, ⟨4, _⟩ => ⟨S8192x1024, .bf16⟩
  | .hbm, ⟨5, _⟩ => ⟨S8192x256, .bf16⟩
  | .hbm, ⟨6, _⟩ => ⟨S8192x1024, .bf16⟩
  | .hbm, ⟨7, _⟩ => ⟨S8192x2048, .bf16⟩
  | .hbm, ⟨8, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x4096, .bf16⟩
  | .local _ .vmem, ⟨4, _⟩ => ⟨S512x4096, .bf16⟩
  | .local _ .vmem, ⟨5, _⟩ => ⟨S512x1024, .bf16⟩
  | .local _ .vmem, ⟨6, _⟩ => ⟨S512x1024, .bf16⟩
  | .local _ .vmem, ⟨7, _⟩ => ⟨S512x256, .bf16⟩
  | .local _ .vmem, ⟨8, _⟩ => ⟨S512x256, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S1024x512, .bf16⟩
  | .local _ .vmem, ⟨14, _⟩ => ⟨S1024x512, .bf16⟩
  | .local _ .vmem, ⟨15, _⟩ => ⟨S1024x8448, .bf16⟩
  | .local _ .vmem, ⟨16, _⟩ => ⟨S4x1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PrenormReferenceIdeal.lean ====
abbrev S8192x1024 : Shape := ⟨2, ![8192, 1024]⟩
abbrev S1x1024 : Shape := ⟨2, ![1, 1024]⟩
abbrev S4x1024x2176 : Shape := ⟨3, ![4, 1024, 2176]⟩
abbrev S_ : Shape := ⟨0, ![]⟩
abbrev S8192 : Shape := ⟨1, ![8192]⟩
abbrev S8192x1 : Shape := ⟨2, ![8192, 1]⟩
abbrev S1x1024x2176 : Shape := ⟨3, ![1, 1024, 2176]⟩
abbrev S1024x2176 : Shape := ⟨2, ![1024, 2176]⟩
abbrev S1024x2048 : Shape := ⟨2, ![1024, 2048]⟩
abbrev S1024x128 : Shape := ⟨2, ![1024, 128]⟩
abbrev S1024x8448 : Shape := ⟨2, ![1024, 8448]⟩
abbrev S8192x8448 : Shape := ⟨2, ![8192, 8448]⟩
abbrev S8192x4096 : Shape := ⟨2, ![8192, 4096]⟩
abbrev S8192x4x8x128 : Shape := ⟨4, ![8192, 4, 8, 128]⟩
abbrev S8192x8x4x128 : Shape := ⟨4, ![8192, 8, 4, 128]⟩
abbrev S8192x256 : Shape := ⟨2, ![8192, 256]⟩
abbrev S8192x2048 : Shape := ⟨2, ![8192, 2048]⟩
abbrev S1024x8192 : Shape := ⟨2, ![1024, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x2176, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024x2176, .bf16⟩
  | .hbm, ⟨19, _⟩ => ⟨S1024x2176, .bf16⟩
  | .hbm, ⟨20, _⟩ => ⟨S1x1024x2176, .bf16⟩
  | .hbm, ⟨21, _⟩ => ⟨S1024x2176, .bf16⟩
  | .hbm, ⟨22, _⟩ => ⟨S1x1024x2176, .bf16⟩
  | .hbm, ⟨23, _⟩ => ⟨S1024x2176, .bf16⟩
  | .hbm, ⟨24, _⟩ => ⟨S1x1024x2176, .bf16⟩
  | .hbm, ⟨25, _⟩ => ⟨S1024x2176, .bf16⟩
  | .hbm, ⟨26, _⟩ => ⟨S1024x2048, .bf16⟩
  | .hbm, ⟨27, _⟩ => ⟨S1024x128, .bf16⟩
  | .hbm, ⟨28, _⟩ => ⟨S1024x128, .bf16⟩
  | .hbm, ⟨29, _⟩ => ⟨S1024x128, .bf16⟩
  | .hbm, ⟨30, _⟩ => ⟨S1024x2048, .bf16⟩
  | .hbm, ⟨31, _⟩ => ⟨S1024x2048, .bf16⟩
  | .hbm, ⟨32, _⟩ => ⟨S1024x128, .bf16⟩
  | .hbm, ⟨33, _⟩ => ⟨S1024x128, .bf16⟩
  | .hbm, ⟨34, _⟩ => ⟨S1024x128, .bf16⟩
  | .hbm, ⟨35, _⟩ => ⟨S1024x2048, .bf16⟩
  | .hbm, ⟨36, _⟩ => ⟨S1024x8448, .bf16⟩
  | .hbm, ⟨37, _⟩ => ⟨S1024x8448, .f32⟩
  | .hbm, ⟨38, _⟩ => ⟨S8192x8448, .f32⟩
  | .hbm, ⟨39, _⟩ => ⟨S8192x4096, .f32⟩
  | .hbm, ⟨40, _⟩ => ⟨S8192x4x8x128, .f32⟩
  | .hbm, ⟨41, _⟩ => ⟨S8192x8x4x128, .f32⟩
  | .hbm, ⟨42, _⟩ => ⟨S8192x4096, .f32⟩
  | .hbm, ⟨43, _⟩ => ⟨S8192x1024, .f32⟩
  | .hbm, ⟨44, _⟩ => ⟨S8192x256, .f32⟩
  | .hbm, ⟨45, _⟩ => ⟨S8192x1024, .f32⟩
  | .hbm, ⟨46, _⟩ => ⟨S8192x2048, .f32⟩
  | .hbm, ⟨47, _⟩ => ⟨S8192x4096, .bf16⟩
  | .hbm, ⟨48, _⟩ => ⟨S8192x1024, .bf16⟩
  | .hbm, ⟨49, _⟩ => ⟨S8192x256, .bf16⟩
  | .hbm, ⟨50, _⟩ => ⟨S8192x1024, .bf16⟩
  | .hbm, ⟨51, _⟩ => ⟨S8192x2048, .bf16⟩
  | .hbm, ⟨52, _⟩ => ⟨S1024x8192, .f32⟩
  | .hbm, ⟨53, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩

abbrev nD : Nat := 1
abbrev τ : Topo := Topo.v7x

variable {F : FTy → Type} [FloatOps F]
-- ==== PrenormGrad.lean ====
abbrev S8192x4096 : Shape := ⟨2, ![8192, 4096]⟩
abbrev S8192x1024 : Shape := ⟨2, ![8192, 1024]⟩
abbrev S8192x256 : Shape := ⟨2, ![8192, 256]⟩
abbrev S8192x2048 : Shape := ⟨2, ![8192, 2048]⟩
abbrev S1x1024 : Shape := ⟨2, ![1, 1024]⟩
abbrev S4x1024x2176 : Shape := ⟨3, ![4, 1024, 2176]⟩
abbrev S8x1024 : Shape := ⟨2, ![8, 1024]⟩
abbrev S512x4096 : Shape := ⟨2, ![512, 4096]⟩
abbrev S512x1024 : Shape := ⟨2, ![512, 1024]⟩
abbrev S512x256 : Shape := ⟨2, ![512, 256]⟩
abbrev S512x2048 : Shape := ⟨2, ![512, 2048]⟩
abbrev S1024x8448 : Shape := ⟨2, ![1024, 8448]⟩
abbrev S4x1024x128 : Shape := ⟨3, ![4, 1024, 128]⟩
abbrev S2 : Shape := ⟨1, ![2]⟩
abbrev S1 : Shape := ⟨1, ![1]⟩
abbrev S_ : Shape := ⟨0, ![]⟩
abbrev S1024x128 : Shape := ⟨2, ![1024, 128]⟩
abbrev S1x1024x128 : Shape := ⟨3, ![1, 1024, 128]⟩
abbrev S1024x256 : Shape := ⟨2, ![1024, 256]⟩
abbrev S1x1024x256 : Shape := ⟨3, ![1, 1024, 256]⟩
abbrev S1024x2048 : Shape := ⟨2, ![1024, 2048]⟩
abbrev S1x1024x2048 : Shape := ⟨3, ![1, 1024, 2048]⟩
abbrev S1024x8192 : Shape := ⟨2, ![1024, 8192]⟩
abbrev S1024x4096 : Shape := ⟨2, ![1024, 4096]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x256, .bf16⟩
  | .hbm, ⟨3, _⟩ => ⟨S8192x1024, .bf16⟩
  | .hbm, ⟨4, _⟩ => ⟨S8192x2048, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S4x1024x2176, .bf16⟩
  | .hbm, ⟨9, _⟩ => ⟨S8192x1024, .f32⟩
  | .hbm, ⟨10, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S1024x8448, .bf16⟩
  | .local _ .vmem, ⟨19, _⟩ => ⟨S4x1024x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PrenormGradReferenceIdeal.lean ====
abbrev S8192x4096 : Shape := ⟨2, ![8192, 4096]⟩
abbrev S8192x1024 : Shape := ⟨2, ![8192, 1024]⟩
abbrev S8192x256 : Shape := ⟨2, ![8192, 256]⟩
abbrev S8192x2048 : Shape := ⟨2, ![8192, 2048]⟩
abbrev S1x1024 : Shape := ⟨2, ![1, 1024]⟩
abbrev S4x1024x2176 : Shape := ⟨3, ![4, 1024, 2176]⟩
abbrev S8192x8x4x128 : Shape := ⟨4, ![8192, 8, 4, 128]⟩
abbrev S8192x4x8x128 : Shape := ⟨4, ![8192, 4, 8, 128]⟩
abbrev S8192x8448 : Shape := ⟨2, ![8192, 8448]⟩
abbrev S1x1024x2176 : Shape := ⟨3, ![1, 1024, 2176]⟩
abbrev S1024x2176 : Shape := ⟨2, ![1024, 2176]⟩
abbrev S1024x2048 : Shape := ⟨2, ![1024, 2048]⟩
abbrev S1024x128 : Shape := ⟨2, ![1024, 128]⟩
abbrev S1024x8448 : Shape := ⟨2, ![1024, 8448]⟩
abbrev S_ : Shape := ⟨0, ![]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x256, .bf16⟩
  | .hbm, ⟨3, _⟩ => ⟨S8192x1024, .bf16⟩
  | .hbm, ⟨4, _⟩ => ⟨S8192x2048, .bf16⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S4x1024x2176, .bf16⟩
  | .hbm, ⟨9, _⟩ => ⟨S8192x4096, .f32⟩
  | .hbm, ⟨10, _⟩ => ⟨S8192x1024, .f32⟩
  | .hbm, ⟨11, _⟩ => ⟨S8192x256, .f32⟩
  | .hbm, ⟨12, _⟩ => ⟨S8192x1024, .f32⟩
  | .hbm, ⟨13, _⟩ => ⟨S8192x2048, .f32⟩
  | .hbm, ⟨14, _⟩ => ⟨S8192x8x4x128, .f32⟩
  | .hbm, ⟨15, _⟩ => ⟨S8192x4x8x128, .f32⟩
  | .hbm, ⟨16, _⟩ => ⟨S8192x4096, .f32⟩
  | .hbm, ⟨17, _⟩ => ⟨S8192x8448, .f32⟩
  | .hbm, ⟨18, _⟩ => ⟨S1x1024x2176, .bf16⟩
  | .hbm, ⟨19, _⟩ => ⟨S1024x2176, .bf16⟩
  | .hbm, ⟨20, _⟩ => ⟨S1x1024x2176, .bf16⟩
  | .hbm, ⟨21, _⟩ => ⟨S1024x2176, .bf16⟩
  | .hbm, ⟨22, _⟩ => ⟨S1x1024x2176, .bf16⟩
  | .hbm, ⟨23, _⟩ => ⟨S1024x2176, .bf16⟩
  | .hbm, ⟨24, _⟩ => ⟨S1x1024x2176, .bf16⟩
  | .hbm, ⟨25, _⟩ => ⟨S1024x2176, .bf16⟩
  | .hbm, ⟨26, _⟩ => ⟨S1024x2048, .bf16⟩
  | .hbm, ⟨27, _⟩ => ⟨S1024x128, .bf16⟩
  | .hbm, ⟨28, _⟩ => ⟨S1024x128, .bf16⟩
  | .hbm, ⟨29, _⟩ => ⟨S1024x128, .bf16⟩
  | .hbm, ⟨30, _⟩ => ⟨S1024x2048, .bf16⟩
  | .hbm, ⟨31, _⟩ => ⟨S1024x2048, .bf16⟩
  | .hbm, ⟨32, _⟩ => ⟨S1024x128, .bf16⟩
  | .hbm, ⟨33, _⟩ => ⟨S1024x128, .bf16⟩
  | .hbm, ⟨34, _⟩ => ⟨S1024x128, .bf16⟩
  | .hbm, ⟨35, _⟩ => ⟨S1024x2048, .bf16⟩
  | .hbm, ⟨36, _⟩ => ⟨S1024x8448, .bf16⟩
  | .hbm, ⟨37, _⟩ => ⟨S1024x8448, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x8448, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S7x1024, .f32⟩
  | .hbm, ⟨85, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst : Ref sig .tc := ⟨.hbm, 39, rfl⟩
abbrev main_v30 : Ref sig .tc := ⟨.hbm, 40, rfl⟩
abbrev main_v31 : Ref sig .tc := ⟨.hbm, 41, rfl⟩
abbrev main_cst_0 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Proof.ConvCol.lean ====
/- One channel of one sequence of the gated short convolution, and its gradient, over the extended reals. -/
module

public import Mathlib.Data.EReal.Operations
public import Idealize.ShloMosaic.PureOps.Ideal.Laws
public import Idealize.ShloMosaic.Lib.Pointwise

@[expose] public section

noncomputable section

namespace Cert.Conv

/-- A sequence of 2048 tokens, read `k` tokens earlier; zero before its start. -/
def back (k : ℕ) (u : Fin 2048 → EReal) (s : Fin 2048) : EReal :=
  if h : k ≤ s.val then u ⟨s.val - k, by omega⟩ else 0

/-- A sequence of 2048 tokens, read `k` tokens later; zero past its end. -/
def ahead (k : ℕ) (u : Fin 2048 → EReal) (s : Fin 2048) : EReal :=
  if h : s.val + k < 2048 then u ⟨s.val + k, h⟩ else 0

/-- The data of one channel: the four projections, the gradient that arrives, the three taps. -/
structure Col where
  x : Fin 2048 → EReal
  b : Fin 2048 → EReal
  c : Fin 2048 → EReal
  z : Fin 2048 → EReal
  g : Fin 2048 → EReal
  w : Fin 3 → EReal

namespace Col

variable (q : Col)

/-- The gated input of the convolution. -/
def u (s : Fin 2048) : EReal := q.c s * q.x s

/-- The convolution of three taps. -/
def y (s : Fin 2048) : EReal := q.w 0 * back 2 q.u s + q.w 1 * back 1 q.u s + q.w 2 * q.u s

/-- The logistic function of the gate's argument. -/
def sg (s : Fin 2048) : EReal := Idealize.ShloMosaic.Ideal.logistic (q.z s)

/-- The gradient with respect to the gated convolution, before the gate `b`. -/
def dc (s : Fin 2048) : EReal := q.g s * (q.z s * q.sg s)

/-- The gradient with respect to the convolution. -/
def dy (s : Fin 2048) : EReal := q.dc s * q.b s

/-- The gradient with respect to the gated input. -/
def du (s : Fin 2048) : EReal := q.w 2 * q.dy s + q.w 1 * ahead 1 q.dy s + q.w 0 * ahead 2 q.dy s

/-- The gradient of the SiLU gate's argument, in the kernel's arrangement. -/
def dz (s : Fin 2048) : EReal := q.g s * (q.b s * q.y s) * (q.sg s * (1 + q.z s * (1 - q.sg s)))

/-- The gradients of the four projections, by kind. -/
def grad (k : Fin 4) (s : Fin 2048) : EReal :=
  match k with
  | 0 => q.du s * q.c s
  | 1 => q.dc s * q.y s
  | 2 => q.du s * q.x s
  | 3 => q.dz s

/-- The gradient of tap `r` of this sequence. -/
def gw (r : Fin 3) : EReal :=
  match r with
  | 0 => ∑ s, q.dy s * back 2 q.u s
  | 1 => ∑ s, q.dy s * back 1 q.u s
  | 2 => ∑ s, q.dy s * q.u s

end Col

end Cert.Conv

end
-- ==== Proof.ConvTile.lean ====
/- The values of the convolution's backward kernel on one channel tile, channel by channel. -/
module

public import proofs.«01_k».proof.Proof.ConvCol
public import proofs.«01_k».proof.Proof.Gen.KernelIdeal.Frame
public import Idealize.ShloMosaic.Lib.Pointwise

@[expose] public section

set_option maxRecDepth 16384

noncomputable section

namespace Cert.Conv

open Cert.KernelIdeal Cert.KernelIdeal.Gen Idealize.ShloMosaic Idealize.ShloMosaic.TcCoe Idealize.SL.Sem

/-- The mask of tokens with one before them. -/
theorem sge1 : ∀ s : Fin 2048, IntOp.cmpi .sge (BitVec.ofNat 32 s.val) 1#32 = BitVec.ofBool (decide (1 ≤ s.val)) := by
  decide +kernel
/-- The mask of tokens with two before them. -/
theorem sge2 : ∀ s : Fin 2048, IntOp.cmpi .sge (BitVec.ofNat 32 s.val) 2#32 = BitVec.ofBool (decide (2 ≤ s.val)) := by
  decide +kernel
/-- The mask of tokens with one after them. -/
theorem slt1 : ∀ s : Fin 2048, IntOp.cmpi .slt (BitVec.ofNat 32 s.val) 2047#32 = BitVec.ofBool (decide (s.val + 1 < 2048)) := by
  decide +kernel
/-- The mask of tokens with two after them. -/
theorem slt2 : ∀ s : Fin 2048, IntOp.cmpi .slt (BitVec.ofNat 32 s.val) 2046#32 = BitVec.ofBool (decide (s.val + 2 < 2048)) := by
  decide +kernel

/-- A masked rotation by `k` rows downwards reads `k` tokens earlier. -/
theorem select_back (k : ℕ) (hk : k ≤ 2048) (w : BitVec 32) (s : Fin 2048) (u : Fin 2048 → EReal) (p : Fin 2048)
    (hw : IntOp.cmpi .sge (BitVec.ofNat 32 s.val) w = BitVec.ofBool (decide (k ≤ s.val)))
    (hp : p.val = (s.val + 2048 - k) % 2048) (a : EReal) :
    Scalar.select (IntOp.cmpi .sge (BitVec.ofNat 32 s.val) w) (a * u p) 0 = a * back k u s := by
  rw [hw]
  unfold back
  by_cases h : k ≤ s.val
  · have : p = ⟨s.val - k, by omega⟩ := Fin.ext (by rw [hp]; show _ = s.val - k; omega)
    simp [h, Scalar.select, this]
  · simp [h, Scalar.select]

/-- A masked rotation by `2048 - k` rows reads `k` tokens later. -/
theorem select_ahead (k : ℕ) (hk : k ≤ 2048) (w : BitVec 32) (s : Fin 2048) (u : Fin 2048 → EReal) (p : Fin 2048)
    (hw : IntOp.cmpi .slt (BitVec.ofNat 32 s.val) w = BitVec.ofBool (decide (s.val + k < 2048)))
    (hp : p.val = (s.val + 2048 - (2048 - k)) % 2048) (a : EReal) :
    Scalar.select (IntOp.cmpi .slt (BitVec.ofNat 32 s.val) w) (a * u p) 0 = a * ahead k u s := by
  rw [hw]
  unfold ahead
  by_cases h : s.val + k < 2048
  · have : p = ⟨s.val + k, h⟩ := Fin.ext (by rw [hp]; show _ = s.val + k; omega)
    simp [h, Scalar.select, this]
  · simp [h, Scalar.select]

variable (q : Col) (l : Fin 128)

variable {v3 v5 v7 v9 : Vec Ideal S2048x128 .bf16} {v11 : Vec Ideal S2048x128 .f32} {v12 : Vec Ideal S8x128 .f32}
  {v4 v6 v8 v10 v36 v40 : FVec Ideal S2048x128 .f32}

/-- The input of the convolution in a tile. -/
theorem pay8_at (hx : ∀ s, v3 (ix2 s l) = q.x s) (hc : ∀ s, v7 (ix2 s l) = q.c s) (s : Fin 2048) :
    k0_pay8 (F := Ideal) v3 v7 (ix2 s l) = q.u s := by
  pointwise [k0_pay8, k0_pay6, k0_pay4]
  rw [hx, hc]; rfl

/-- The input of the convolution one token earlier. -/
theorem pay9_at (hx : ∀ s, v3 (ix2 s l) = q.x s) (hc : ∀ s, v7 (ix2 s l) = q.c s) (s : Fin 2048) :
    k0_pay9 (F := Ideal) v3 v7 (ix2 s l) = back 1 q.u s := by
  have h := pay8_at q l hx hc
  unfold k0_pay9
  generalize k0_pay8 (F := Ideal) v3 v7 = V at h
  pointwise
  have := select_back 1 (by omega) 1#32 s (fun s => V (ix2 s l)) ⟨(s.val + 2048 - 1) % 2048, by omega⟩ (sge1 s) rfl 1
  simp only [one_mul] at this
  rw [this]; simp only [h]

/-- The input of the convolution two tokens earlier. -/
theorem pay10_at (hx : ∀ s, v3 (ix2 s l) = q.x s) (hc : ∀ s, v7 (ix2 s l) = q.c s) (s : Fin 2048) :
    k0_pay10 (F := Ideal) v3 v7 (ix2 s l) = back 2 q.u s := by
  have h := pay8_at q l hx hc
  unfold k0_pay10
  generalize k0_pay8 (F := Ideal) v3 v7 = V at h
  pointwise
  have := select_back 2 (by omega) 2#32 s (fun s => V (ix2 s l)) ⟨(s.val + 2048 - 2) % 2048, by omega⟩ (sge2 s) rfl 1
  simp only [one_mul] at this
  rw [this]; simp only [h]

/-- The convolution in a tile. -/
theorem pay11_at (hx : ∀ s, v3 (ix2 s l) = q.x s) (hc : ∀ s, v7 (ix2 s l) = q.c s)
    (hw : ∀ k : Fin 3, v12 (ix2 ⟨k.val, by omega⟩ l) = q.w k) (s : Fin 2048) :
    k0_pay11 (F := Ideal) v3 v7 v12 (ix2 s l) = q.y s := by
  have h8 := pay8_at q l hx hc s
  have h9 := pay9_at q l hx hc s
  have h10 := pay10_at q l hx hc s
  have w0 : v12 (ix2 0 l) = q.w 0 := hw 0
  have w1 : v12 (ix2 1 l) = q.w 1 := hw 1
  have w2 : v12 (ix2 2 l) = q.w 2 := hw 2
  unfold k0_pay11
  generalize k0_pay8 (F := Ideal) v3 v7 = V8 at *
  generalize k0_pay9 (F := Ideal) v3 v7 = V9 at *
  generalize k0_pay10 (F := Ideal) v3 v7 = V10 at *
  pointwise
  rw [h8, h9, h10, w0, w1, w2]; rfl

/-- The gradient that comes in times the activation. -/
theorem pay13_at (hz : ∀ s, v10 (ix2 s l) = q.z s) (hg : ∀ s, v11 (ix2 s l) = q.g s) (s : Fin 2048) :
    k0_pay13 (F := Ideal) v10 v11 (ix2 s l) = q.dc s := by
  pointwise [k0_pay13, k0_pay12]
  rw [hz, hg]; rfl

/-- The convolution's gradient in a tile. -/
theorem pay14_at (hb : ∀ s, v6 (ix2 s l) = q.b s) (hz : ∀ s, v10 (ix2 s l) = q.z s)
    (hg : ∀ s, v11 (ix2 s l) = q.g s) (s : Fin 2048) :
    k0_pay14 (F := Ideal) v6 v10 v11 (ix2 s l) = q.dy s := by
  pointwise [k0_pay14, k0_pay13, k0_pay12]
  rw [hz, hg, hb]; rfl

/-- The gradient of the convolution's input in a tile. -/
theorem pay15_at (hb : ∀ s, v6 (ix2 s l) = q.b s) (hz : ∀ s, v10 (ix2 s l) = q.z s)
    (hg : ∀ s, v11 (ix2 s l) = q.g s) (hw : ∀ k : Fin 3, v12 (ix2 ⟨k.val, by omega⟩ l) = q.w k) (s : Fin 2048) :
    k0_pay15 (F := Ideal) v6 v10 v11 v12 (ix2 s l) = q.du s := by
  have h := pay14_at q l hb hz hg
  have w0 : v12 (ix2 0 l) = q.w 0 := hw 0
  have w1 : v12 (ix2 1 l) = q.w 1 := hw 1
  have w2 : v12 (ix2 2 l) = q.w 2 := hw 2
  unfold k0_pay15
  generalize k0_pay14 (F := Ideal) v6 v10 v11 = V at *
  pointwise
  have h1 := select_ahead 1 (by omega) 2047#32 s (fun s => V (ix2 s l)) ⟨(s.val + 2048 - 2047) % 2048, by omega⟩ (slt1 s) rfl (v12 (ix2 1 l))
  have h2 := select_ahead 2 (by omega) 2046#32 s (fun s => V (ix2 s l)) ⟨(s.val + 2048 - 2046) % 2048, by omega⟩ (slt2 s) rfl (v12 (ix2 0 l))
  rw [h1, h2, w0, w1, w2]; simp only [h]; rfl

/-- The gate's gradient in a tile. -/
theorem pay16_at (hb : ∀ s, v6 (ix2 s l) = q.b s) (hz : ∀ s, v10 (ix2 s l) = q.z s)
    (hg : ∀ s, v11 (ix2 s l) = q.g s) (hy : ∀ s, v36 (ix2 s l) = q.y s) (s : Fin 2048) :
    k0_pay16 (F := Ideal) v6 v10 v11 v36 (ix2 s l) = q.dz s := by
  pointwise [k0_pay16, k0_pay12]
  rw [hz, hg, hb, hy]; rfl

/-- The data of channel `l` of one tile. -/
def tileCol (v3 v5 v7 v9 : Vec Ideal S2048x128 .bf16) (v11 : Vec Ideal S2048x128 .f32) (v12 : Vec Ideal S8x128 .f32)
    (l : Fin 128) : Col where
  x s := v3 (ix2 s l)
  b s := v5 (ix2 s l)
  c s := v7 (ix2 s l)
  z s := v9 (ix2 s l)
  g s := v11 (ix2 s l)
  w k := v12 (ix2 ⟨k.val, by omega⟩ l)

/-- The four stored tiles of the first channel tile are the gradients of the four projections. -/
theorem tile0 (v3 v5 v7 v9 : Vec Ideal S2048x128 .bf16) (v11 : Vec Ideal S2048x128 .f32) (v12 : Vec Ideal S8x128 .f32)
    (l : Fin 128) (s : Fin 2048) :
    k0_pay17 (F := Ideal) (k0_pay5 v5) (k0_pay6 v7) (k0_pay7 v9) v11 v12 (ix2 s l) = (tileCol v3 v5 v7 v9 v11 v12 l).grad 0 s := by
  have h := pay15_at (tileCol v3 v5 v7 v9 v11 v12 l) l (v6 := k0_pay5 v5) (v10 := k0_pay7 v9) (v11 := v11) (v12 := v12)
    (fun _ => rfl) (fun _ => rfl) (fun _ => rfl) (fun _ => rfl) s
  unfold k0_pay17
  generalize k0_pay15 (F := Ideal) _ _ _ _ = V at *
  pointwise [k0_pay6]
  rw [h]; rfl

/-- The second stored tile is the second projection's gradient. -/
theorem tile1 (v3 v5 v7 v9 : Vec Ideal S2048x128 .bf16) (v11 : Vec Ideal S2048x128 .f32) (v12 : Vec Ideal S8x128 .f32)
    (l : Fin 128) (s : Fin 2048) :
    k0_pay18 (F := Ideal) (k0_pay7 v9) v11 (k0_pay11 v3 v7 v12) (ix2 s l) = (tileCol v3 v5 v7 v9 v11 v12 l).grad 1 s := by
  have h := pay11_at (tileCol v3 v5 v7 v9 v11 v12 l) l (v3 := v3) (v7 := v7) (v12 := v12)
    (fun _ => rfl) (fun _ => rfl) (fun _ => rfl) s
  have h' := pay13_at (tileCol v3 v5 v7 v9 v11 v12 l) l (v10 := k0_pay7 v9) (v11 := v11)
    (fun _ => rfl) (fun _ => rfl) s
  unfold k0_pay18
  generalize k0_pay11 (F := Ideal) _ _ _ = V at *
  generalize k0_pay13 (F := Ideal) _ _ = V' at *
  pointwise
  rw [h, h']; rfl

/-- The third stored tile is the third projection's gradient. -/
theorem tile2 (v3 v5 v7 v9 : Vec Ideal S2048x128 .bf16) (v11 : Vec Ideal S2048x128 .f32) (v12 : Vec Ideal S8x128 .f32)
    (l : Fin 128) (s : Fin 2048) :
    k0_pay19 (F := Ideal) (k0_pay4 v3) (k0_pay5 v5) (k0_pay7 v9) v11 v12 (ix2 s l) = (tileCol v3 v5 v7 v9 v11 v12 l).grad 2 s := by
  have h := pay15_at (tileCol v3 v5 v7 v9 v11 v12 l) l (v6 := k0_pay5 v5) (v10 := k0_pay7 v9) (v11 := v11) (v12 := v12)
    (fun _ => rfl) (fun _ => rfl) (fun _ => rfl) (fun _ => rfl) s
  unfold k0_pay19
  generalize k0_pay15 (F := Ideal) _ _ _ _ = V at *
  pointwise [k0_pay4]
  rw [h]; rfl

/-- The fourth stored tile is the fourth projection's gradient. -/
theorem tile3 (v3 v5 v7 v9 : Vec Ideal S2048x128 .bf16) (v11 : Vec Ideal S2048x128 .f32) (v12 : Vec Ideal S8x128 .f32)
    (l : Fin 128) (s : Fin 2048) :
    k0_pay20 (F := Ideal) (k0_pay16 (k0_pay5 v5) (k0_pay7 v9) v11 (k0_pay11 v3 v7 v12)) (ix2 s l) = (tileCol v3 v5 v7 v9 v11 v12 l).grad 3 s := by
  have h := pay16_at (tileCol v3 v5 v7 v9 v11 v12 l) l (v6 := k0_pay5 v5) (v10 := k0_pay7 v9) (v11 := v11) (v36 := k0_pay11 v3 v7 v12)
    (fun _ => rfl) (fun _ => rfl) (fun _ => rfl) (pay11_at (tileCol v3 v5 v7 v9 v11 v12 l) l (fun _ => rfl) (fun _ => rfl) (fun _ => rfl)) s
  unfold k0_pay20
  generalize k0_pay16 (F := Ideal) _ _ _ _ = V at *
  pointwise
  rw [h]; rfl

/-- Each sum over the tokens adds one tap's gradient to the row that it reads. -/
theorem tileW0 (v3 v5 v7 v9 : Vec Ideal S2048x128 .bf16) (v11 : Vec Ideal S2048x128 .f32) (v12 : Vec Ideal S8x128 .f32)
    (r : Vec Ideal S1x128 .f32) (l : Fin 128) :
    k0_pay21 (F := Ideal) (k0_pay10 v3 v7) (k0_pay14 (k0_pay5 v5) (k0_pay7 v9) v11) r (ix2 0 l)
      = r (ix2 0 l) + (tileCol v3 v5 v7 v9 v11 v12 l).gw 0 := by
  have h := pay10_at (tileCol v3 v5 v7 v9 v11 v12 l) l (v3 := v3) (v7 := v7) (fun _ => rfl) (fun _ => rfl)
  have h' := pay14_at (tileCol v3 v5 v7 v9 v11 v12 l) l (v6 := k0_pay5 v5) (v10 := k0_pay7 v9) (v11 := v11)
    (fun _ => rfl) (fun _ => rfl) (fun _ => rfl)
  unfold k0_pay21
  generalize k0_pay10 (F := Ideal) _ _ = V at *
  generalize k0_pay14 (F := Ideal) _ _ _ = V' at *
  pointwise
  simp only [h, h']; rfl

/-- The second tap's sum over the tokens adds the second tap's gradient. -/
theorem tileW1 (v3 v5 v7 v9 : Vec Ideal S2048x128 .bf16) (v11 : Vec Ideal S2048x128 .f32) (v12 : Vec Ideal S8x128 .f32)
    (r : Vec Ideal S1x128 .f32) (l : Fin 128) :
    k0_pay22 (F := Ideal) (k0_pay9 v3 v7) (k0_pay14 (k0_pay5 v5) (k0_pay7 v9) v11) r (ix2 0 l)
      = r (ix2 0 l) + (tileCol v3 v5 v7 v9 v11 v12 l).gw 1 := by
  have h := pay9_at (tileCol v3 v5 v7 v9 v11 v12 l) l (v3 := v3) (v7 := v7) (fun _ => rfl) (fun _ => rfl)
  have h' := pay14_at (tileCol v3 v5 v7 v9 v11 v12 l) l (v6 := k0_pay5 v5) (v10 := k0_pay7 v9) (v11 := v11)
    (fun _ => rfl) (fun _ => rfl) (fun _ => rfl)
  unfold k0_pay22
  generalize k0_pay9 (F := Ideal) _ _ = V at *
  generalize k0_pay14 (F := Ideal) _ _ _ = V' at *
  pointwise
  simp only [h, h']; rfl

/-- The third tap's sum over the tokens adds the third tap's gradient. -/
theorem tileW2 (v3 v5 v7 v9 : Vec Ideal S2048x128 .bf16) (v11 : Vec Ideal S2048x128 .f32) (v12 : Vec Ideal S8x128 .f32)
    (r : Vec Ideal S1x128 .f32) (l : Fin 128) :
    k0_pay23 (F := Ideal) (k0_pay8 v3 v7) (k0_pay14 (k0_pay5 v5) (k0_pay7 v9) v11) r (ix2 0 l)
      = r (ix2 0 l) + (tileCol v3 v5 v7 v9 v11 v12 l).gw 2 := by
  have h := pay8_at (tileCol v3 v5 v7 v9 v11 v12 l) l (v3 := v3) (v7 := v7) (fun _ => rfl) (fun _ => rfl)
  have h' := pay14_at (tileCol v3 v5 v7 v9 v11 v12 l) l (v6 := k0_pay5 v5) (v10 := k0_pay7 v9) (v11 := v11)
    (fun _ => rfl) (fun _ => rfl) (fun _ => rfl)
  unfold k0_pay23
  generalize k0_pay8 (F := Ideal) _ _ = V at *
  generalize k0_pay14 (F := Ideal) _ _ _ = V' at *
  pointwise
  simp only [h, h']; rfl

end Cert.Conv

end
-- ==== Proof.ConvBlock.lean ====
/- What one point of the convolution's backward kernel leaves in its two output blocks. -/
module

public import proofs.«01_k».proof.Proof.ConvTile
public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Conv

open Cert.KernelIdeal Cert.KernelIdeal.Gen Idealize.ShloMosaic Idealize.ShloMosaic.TcCoe Idealize.SL.Sem

/-- Channel `l` of channel tile `jj` of one block. -/
def blockCol (x0 : Vec Ideal S2048x1024 .bf16) (x1 : Vec Ideal S2048x256 .f32) (x2 : Vec Ideal S8x256 .f32)
    (jj : Fin 2) (l : Fin 128) : Col where
  x s := x0 (ix2 s ⟨512 * jj.val + l.val, by omega⟩)
  b s := x0 (ix2 s ⟨512 * jj.val + 128 + l.val, by omega⟩)
  c s := x0 (ix2 s ⟨512 * jj.val + 256 + l.val, by omega⟩)
  z s := x0 (ix2 s ⟨512 * jj.val + 384 + l.val, by omega⟩)
  g s := x1 (ix2 s ⟨128 * jj.val + l.val, by omega⟩)
  w k := x2 (ix2 ⟨k.val, by omega⟩ ⟨128 * jj.val + l.val, by omega⟩)

/-- The tile of 128 columns of a block from column `o` on. -/
theorem ld_tile (x0 : Vec Ideal S2048x1024 .bf16) (o : ℕ) (ho : o + 128 ≤ 1024) (inb) (s : Fin 2048) (l : Fin 128) :
    View.ld x0 (Rect.unit (s := S2048x1024) ![0, o] ![2048, 128] inb) (ix2 s l) = x0 (ix2 s ⟨o + l.val, by omega⟩) := by
  pointwise

/-- The loads of the first tile read the first tile's channels of the blocks. -/
theorem tileCol_zero (x0 : Vec Ideal S2048x1024 .bf16) (x1 : Vec Ideal S2048x256 .f32) (x2 : Vec Ideal S8x256 .f32) (i0 i1 i2 i3 i4 i5) (l : Fin 128) :
    tileCol (View.ld x0 (Rect.unit (s := S2048x1024) ![0, 0] ![2048, 128] i0)) (View.ld x0 (Rect.unit (s := S2048x1024) ![0, 128] ![2048, 128] i1))
      (View.ld x0 (Rect.unit (s := S2048x1024) ![0, 256] ![2048, 128] i2)) (View.ld x0 (Rect.unit (s := S2048x1024) ![0, 384] ![2048, 128] i3))
      (View.ld x1 (Rect.unit (s := S2048x256) ![0, 0] ![2048, 128] i4)) (View.ld x2 (Rect.unit (s := S8x256) ![0, 0] ![8, 128] i5)) l
      = blockCol x0 x1 x2 0 l := by
  unfold tileCol blockCol
  congr 1 <;> funext s <;> pointwise <;> rfl

/-- The loads of the second tile read the second tile's channels of the blocks. -/
theorem tileCol_one (x0 : Vec Ideal S2048x1024 .bf16) (x1 : Vec Ideal S2048x256 .f32) (x2 : Vec Ideal S8x256 .f32) (i0 i1 i2 i3 i4 i5) (l : Fin 128) :
    tileCol (View.ld x0 (Rect.unit (s := S2048x1024) ![0, 512] ![2048, 128] i0)) (View.ld x0 (Rect.unit (s := S2048x1024) ![0, 640] ![2048, 128] i1))
      (View.ld x0 (Rect.unit (s := S2048x1024) ![0, 768] ![2048, 128] i2)) (View.ld x0 (Rect.unit (s := S2048x1024) ![0, 896] ![2048, 128] i3))
      (View.ld x1 (Rect.unit (s := S2048x256) ![0, 128] ![2048, 128] i4)) (View.ld x2 (Rect.unit (s := S8x256) ![0, 128] ![8, 128] i5)) l
      = blockCol x0 x1 x2 1 l := by
  unfold tileCol blockCol
  congr 1 <;> funext s <;> pointwise <;> rfl

/-- Where a tile's element lies in the block decides its channel tile, its kind, its token and its channel. -/
theorem cell {s : Fin 2048} {jj : Fin 2} {k : Fin 4} {l : Fin 128} {j0 j1 : ℕ} (h0 : j0 = s.val)
    (h1 : j1 = 512 * jj.val + 128 * k.val + l.val) {o a b : ℕ} (hb : b < 128) (g0 : j0 = 0 + a)
    (g1 : j1 = o + b) (J : Fin 2) (K : Fin 4) (ho : o = 512 * J.val + 128 * K.val) :
    jj = J ∧ k = K ∧ s.val = a ∧ l.val = b := by
  refine ⟨Fin.ext ?_, Fin.ext ?_, ?_, ?_⟩ <;> omega

/-- The eight tiles that a point stores in the block of the projections' gradients, last first. -/
abbrev pieces (y0 : Vec Ideal S2048x1024 .bf16) (y1 : Vec Ideal S2048x256 .f32) (y2 : Vec Ideal S8x256 .f32) :
    List (View.Piece (Elt Ideal) S2048x1024 .bf16) :=
  [⟨Rect.unit ![0, 896] ![2048, 128] inb_S2048x1024_S2048x128_0_896, k0_pay20 (k0_pay16 (k0_pay5 (View.ld y0 (Rect.unit ![0, 640] ![2048, 128] inb_S2048x1024_S2048x128_0_640))) (k0_pay7 (View.ld y0 (Rect.unit ![0, 896] ![2048, 128] inb_S2048x1024_S2048x128_0_896))) (View.ld y1 (Rect.unit ![0, 128] ![2048, 128] inb_S2048x256_S2048x128_0_128)) (k0_pay11 (View.ld y0 (Rect.unit ![0, 512] ![2048, 128] inb_S2048x1024_S2048x128_0_512)) (View.ld y0 (Rect.unit ![0, 768] ![2048, 128] inb_S2048x1024_S2048x128_0_768)) (View.ld y2 (Rect.unit ![0, 128] ![8, 128] inb_S8x256_S8x128_0_128))))⟩,
    ⟨Rect.unit ![0, 768] ![2048, 128] inb_S2048x1024_S2048x128_0_768, k0_pay19 (k0_pay4 (View.ld y0 (Rect.unit ![0, 512] ![2048, 128] inb_S2048x1024_S2048x128_0_512))) (k0_pay5 (View.ld y0 (Rect.unit ![0, 640] ![2048, 128] inb_S2048x1024_S2048x128_0_640))) (k0_pay7 (View.ld y0 (Rect.unit ![0, 896] ![2048, 128] inb_S2048x1024_S2048x128_0_896))) (View.ld y1 (Rect.unit ![0, 128] ![2048, 128] inb_S2048x256_S2048x128_0_128)) (View.ld y2 (Rect.unit ![0, 128] ![8, 128] inb_S8x256_S8x128_0_128))⟩,
    ⟨Rect.unit ![0, 640] ![2048, 128] inb_S2048x1024_S2048x128_0_640, k0_pay18 (k0_pay7 (View.ld y0 (Rect.unit ![0, 896] ![2048, 128] inb_S2048x1024_S2048x128_0_896))) (View.ld y1 (Rect.unit ![0, 128] ![2048, 128] inb_S2048x256_S2048x128_0_128)) (k0_pay11 (View.ld y0 (Rect.unit ![0, 512] ![2048, 128] inb_S2048x1024_S2048x128_0_512)) (View.ld y0 (Rect.unit ![0, 768] ![2048, 128] inb_S2048x1024_S2048x128_0_768)) (View.ld y2 (Rect.unit ![0, 128] ![8, 128] inb_S8x256_S8x128_0_128)))⟩,
    ⟨Rect.unit ![0, 512] ![2048, 128] inb_S2048x1024_S2048x128_0_512, k0_pay17 (k0_pay5 (View.ld y0 (Rect.unit ![0, 640] ![2048, 128] inb_S2048x1024_S2048x128_0_640))) (k0_pay6 (View.ld y0 (Rect.unit ![0, 768] ![2048, 128] inb_S2048x1024_S2048x128_0_768))) (k0_pay7 (View.ld y0 (Rect.unit ![0, 896] ![2048, 128] inb_S2048x1024_S2048x128_0_896))) (View.ld y1 (Rect.unit ![0, 128] ![2048, 128] inb_S2048x256_S2048x128_0_128)) (View.ld y2 (Rect.unit ![0, 128] ![8, 128] inb_S8x256_S8x128_0_128))⟩,
    ⟨Rect.unit ![0, 384] ![2048, 128] inb_S2048x1024_S2048x128_0_384, k0_pay20 (k0_pay16 (k0_pay5 (View.ld y0 (Rect.unit ![0, 128] ![2048, 128] inb_S2048x1024_S2048x128_0_128))) (k0_pay7 (View.ld y0 (Rect.unit ![0, 384] ![2048, 128] inb_S2048x1024_S2048x128_0_384))) (View.ld y1 (Rect.unit ![0, 0] ![2048, 128] inb_S2048x256_S2048x128_0_0)) (k0_pay11 (View.ld y0 (Rect.unit ![0, 0] ![2048, 128] inb_S2048x1024_S2048x128_0_0)) (View.ld y0 (Rect.unit ![0, 256] ![2048, 128] inb_S2048x1024_S2048x128_0_256)) (View.ld y2 (Rect.unit ![0, 0] ![8, 128] inb_S8x256_S8x128_0_0))))⟩,
    ⟨Rect.unit ![0, 256] ![2048, 128] inb_S2048x1024_S2048x128_0_256, k0_pay19 (k0_pay4 (View.ld y0 (Rect.unit ![0, 0] ![2048, 128] inb_S2048x1024_S2048x128_0_0))) (k0_pay5 (View.ld y0 (Rect.unit ![0, 128] ![2048, 128] inb_S2048x1024_S2048x128_0_128))) (k0_pay7 (View.ld y0 (Rect.unit ![0, 384] ![2048, 128] inb_S2048x1024_S2048x128_0_384))) (View.ld y1 (Rect.unit ![0, 0] ![2048, 128] inb_S2048x256_S2048x128_0_0)) (View.ld y2 (Rect.unit ![0, 0] ![8, 128] inb_S8x256_S8x128_0_0))⟩,
    ⟨Rect.unit ![0, 128] ![2048, 128] inb_S2048x1024_S2048x128_0_128, k0_pay18 (k0_pay7 (View.ld y0 (Rect.unit ![0, 384] ![2048, 128] inb_S2048x1024_S2048x128_0_384))) (View.ld y1 (Rect.unit ![0, 0] ![2048, 128] inb_S2048x256_S2048x128_0_0)) (k0_pay11 (View.ld y0 (Rect.unit ![0, 0] ![2048, 128] inb_S2048x1024_S2048x128_0_0)) (View.ld y0 (Rect.unit ![0, 256] ![2048, 128] inb_S2048x1024_S2048x128_0_256)) (View.ld y2 (Rect.unit ![0, 0] ![8, 128] inb_S8x256_S8x128_0_0)))⟩,
    ⟨Rect.unit ![0, 0] ![2048, 128] inb_S2048x1024_S2048x128_0_0, k0_pay17 (k0_pay5 (View.ld y0 (Rect.unit ![0, 128] ![2048, 128] inb_S2048x1024_S2048x128_0_128))) (k0_pay6 (View.ld y0 (Rect.unit ![0, 256] ![2048, 128] inb_S2048x1024_S2048x128_0_256))) (k0_pay7 (View.ld y0 (Rect.unit ![0, 384] ![2048, 128] inb_S2048x1024_S2048x128_0_384))) (View.ld y1 (Rect.unit ![0, 0] ![2048, 128] inb_S2048x256_S2048x128_0_0)) (View.ld y2 (Rect.unit ![0, 0] ![8, 128] inb_S8x256_S8x128_0_0))⟩]

/-- Every element of the block is the gradient that its tile says. -/
theorem canon_pieces (y0 : Vec Ideal S2048x1024 .bf16) (y1 : Vec Ideal S2048x256 .f32) (y2 : Vec Ideal S8x256 .f32)
    (s : Fin 2048) (jj : Fin 2) (k : Fin 4) (l : Fin 128) (j : S2048x1024.Idx)
    (h0 : (j 0).val = s.val) (h1 : (j 1).val = 512 * jj.val + 128 * k.val + l.val) :
    View.canon (pieces y0 y1 y2) j = (blockCol y0 y1 y2 jj l).grad k s := by
  canon_tiles x g
  all_goals idx_vars x
  · obtain ⟨rfl, rfl, e0, e1⟩ := cell h0 h1 x1_lt (g0.trans (Nat.zero_add _).symm) g1 1 3 rfl
    obtain rfl := Fin.ext e0; obtain rfl := Fin.ext e1
    exact (tile3 (View.ld y0 (Rect.unit ![0, 512] ![2048, 128] inb_S2048x1024_S2048x128_0_512)) (View.ld y0 (Rect.unit ![0, 640] ![2048, 128] inb_S2048x1024_S2048x128_0_640)) (View.ld y0 (Rect.unit ![0, 768] ![2048, 128] inb_S2048x1024_S2048x128_0_768)) (View.ld y0 (Rect.unit ![0, 896] ![2048, 128] inb_S2048x1024_S2048x128_0_896)) (View.ld y1 (Rect.unit ![0, 128] ![2048, 128] inb_S2048x256_S2048x128_0_128)) (View.ld y2 (Rect.unit ![0, 128] ![8, 128] inb_S8x256_S8x128_0_128)) _ _).trans (congrArg (fun q => Col.grad q 3 s) (tileCol_one ..))
  · obtain ⟨rfl, rfl, e0, e1⟩ := cell h0 h1 x1_lt (g0.trans (Nat.zero_add _).symm) g1 1 2 rfl
    obtain rfl := Fin.ext e0; obtain rfl := Fin.ext e1
    exact (tile2 (View.ld y0 (Rect.unit ![0, 512] ![2048, 128] inb_S2048x1024_S2048x128_0_512)) (View.ld y0 (Rect.unit ![0, 640] ![2048, 128] inb_S2048x1024_S2048x128_0_640)) (View.ld y0 (Rect.unit ![0, 768] ![2048, 128] inb_S2048x1024_S2048x128_0_768)) (View.ld y0 (Rect.unit ![0, 896] ![2048, 128] inb_S2048x1024_S2048x128_0_896)) (View.ld y1 (Rect.unit ![0, 128] ![2048, 128] inb_S2048x256_S2048x128_0_128)) (View.ld y2 (Rect.unit ![0, 128] ![8, 128] inb_S8x256_S8x128_0_128)) _ _).trans (congrArg (fun q => Col.grad q 2 s) (tileCol_one ..))
  · obtain ⟨rfl, rfl, e0, e1⟩ := cell h0 h1 x1_lt (g0.trans (Nat.zero_add _).symm) g1 1 1 rfl
    obtain rfl := Fin.ext e0; obtain rfl := Fin.ext e1
    exact (tile1 (View.ld y0 (Rect.unit ![0, 512] ![2048, 128] inb_S2048x1024_S2048x128_0_512)) (View.ld y0 (Rect.unit ![0, 640] ![2048, 128] inb_S2048x1024_S2048x128_0_640)) (View.ld y0 (Rect.unit ![0, 768] ![2048, 128] inb_S2048x1024_S2048x128_0_768)) (View.ld y0 (Rect.unit ![0, 896] ![2048, 128] inb_S2048x1024_S2048x128_0_896)) (View.ld y1 (Rect.unit ![0, 128] ![2048, 128] inb_S2048x256_S2048x128_0_128)) (View.ld y2 (Rect.unit ![0, 128] ![8, 128] inb_S8x256_S8x128_0_128)) _ _).trans (congrArg (fun q => Col.grad q 1 s) (tileCol_one ..))
  · obtain ⟨rfl, rfl, e0, e1⟩ := cell h0 h1 x1_lt (g0.trans (Nat.zero_add _).symm) g1 1 0 rfl
    obtain rfl := Fin.ext e0; obtain rfl := Fin.ext e1
    exact (tile0 (View.ld y0 (Rect.unit ![0, 512] ![2048, 128] inb_S2048x1024_S2048x128_0_512)) (View.ld y0 (Rect.unit ![0, 640] ![2048, 128] inb_S2048x1024_S2048x128_0_640)) (View.ld y0 (Rect.unit ![0, 768] ![2048, 128] inb_S2048x1024_S2048x128_0_768)) (View.ld y0 (Rect.unit ![0, 896] ![2048, 128] inb_S2048x1024_S2048x128_0_896)) (View.ld y1 (Rect.unit ![0, 128] ![2048, 128] inb_S2048x256_S2048x128_0_128)) (View.ld y2 (Rect.unit ![0, 128] ![8, 128] inb_S8x256_S8x128_0_128)) _ _).trans (congrArg (fun q => Col.grad q 0 s) (tileCol_one ..))
  · obtain ⟨rfl, rfl, e0, e1⟩ := cell h0 h1 x1_lt (g0.trans (Nat.zero_add _).symm) g1 0 3 rfl
    obtain rfl := Fin.ext e0; obtain rfl := Fin.ext e1
    exact (tile3 (View.ld y0 (Rect.unit ![0, 0] ![2048, 128] inb_S2048x1024_S2048x128_0_0)) (View.ld y0 (Rect.unit ![0, 128] ![2048, 128] inb_S2048x1024_S2048x128_0_128)) (View.ld y0 (Rect.unit ![0, 256] ![2048, 128] inb_S2048x1024_S2048x128_0_256)) (View.ld y0 (Rect.unit ![0, 384] ![2048, 128] inb_S2048x1024_S2048x128_0_384)) (View.ld y1 (Rect.unit ![0, 0] ![2048, 128] inb_S2048x256_S2048x128_0_0)) (View.ld y2 (Rect.unit ![0, 0] ![8, 128] inb_S8x256_S8x128_0_0)) _ _).trans (congrArg (fun q => Col.grad q 3 s) (tileCol_zero ..))
  · obtain ⟨rfl, rfl, e0, e1⟩ := cell h0 h1 x1_lt (g0.trans (Nat.zero_add _).symm) g1 0 2 rfl
    obtain rfl := Fin.ext e0; obtain rfl := Fin.ext e1
    exact (tile2 (View.ld y0 (Rect.unit ![0, 0] ![2048, 128] inb_S2048x1024_S2048x128_0_0)) (View.ld y0 (Rect.unit ![0, 128] ![2048, 128] inb_S2048x1024_S2048x128_0_128)) (View.ld y0 (Rect.unit ![0, 256] ![2048, 128] inb_S2048x1024_S2048x128_0_256)) (View.ld y0 (Rect.unit ![0, 384] ![2048, 128] inb_S2048x1024_S2048x128_0_384)) (View.ld y1 (Rect.unit ![0, 0] ![2048, 128] inb_S2048x256_S2048x128_0_0)) (View.ld y2 (Rect.unit ![0, 0] ![8, 128] inb_S8x256_S8x128_0_0)) _ _).trans (congrArg (fun q => Col.grad q 2 s) (tileCol_zero ..))
  · obtain ⟨rfl, rfl, e0, e1⟩ := cell h0 h1 x1_lt (g0.trans (Nat.zero_add _).symm) g1 0 1 rfl
    obtain rfl := Fin.ext e0; obtain rfl := Fin.ext e1
    exact (tile1 (View.ld y0 (Rect.unit ![0, 0] ![2048, 128] inb_S2048x1024_S2048x128_0_0)) (View.ld y0 (Rect.unit ![0, 128] ![2048, 128] inb_S2048x1024_S2048x128_0_128)) (View.ld y0 (Rect.unit ![0, 256] ![2048, 128] inb_S2048x1024_S2048x128_0_256)) (View.ld y0 (Rect.unit ![0, 384] ![2048, 128] inb_S2048x1024_S2048x128_0_384)) (View.ld y1 (Rect.unit ![0, 0] ![2048, 128] inb_S2048x256_S2048x128_0_0)) (View.ld y2 (Rect.unit ![0, 0] ![8, 128] inb_S8x256_S8x128_0_0)) _ _).trans (congrArg (fun q => Col.grad q 1 s) (tileCol_zero ..))
  · obtain ⟨rfl, rfl, e0, e1⟩ := cell h0 h1 x1_lt (g0.trans (Nat.zero_add _).symm) (g1.trans (Nat.zero_add _).symm) 0 0 rfl
    obtain rfl := Fin.ext e0; obtain rfl := Fin.ext e1
    exact (tile0 (View.ld y0 (Rect.unit ![0, 0] ![2048, 128] inb_S2048x1024_S2048x128_0_0)) (View.ld y0 (Rect.unit ![0, 128] ![2048, 128] inb_S2048x1024_S2048x128_0_128)) (View.ld y0 (Rect.unit ![0, 256] ![2048, 128] inb_S2048x1024_S2048x128_0_256)) (View.ld y0 (Rect.unit ![0, 384] ![2048, 128] inb_S2048x1024_S2048x128_0_384)) (View.ld y1 (Rect.unit ![0, 0] ![2048, 128] inb_S2048x256_S2048x128_0_0)) (View.ld y2 (Rect.unit ![0, 0] ![8, 128] inb_S8x256_S8x128_0_0)) _ _).trans (congrArg (fun q => Col.grad q 0 s) (tileCol_zero ..))

/-- What a point of case A leaves in the block of the projections' gradients. -/
theorem out3_A (c : Dev nD) (i : grid0.Coords) (arg2 : Memref sig .tc .vmem S2048x1024 .bf16) (harg2 : arg2.IsWhole) (arg3 : Memref sig .tc .vmem S2048x256 .f32) (harg3 : arg3.IsWhole) (arg4 : Memref sig .tc .vmem S8x256 .f32) (harg4 : arg4.IsWhole) (arg5 : Memref sig .tc .vmem S2048x1024 .bf16) (harg5 : arg5.IsWhole) (arg6 : Memref sig .tc .vmem S8x256 .f32) (harg6 : arg6.IsWhole) (hc0 : cond0_0 i)
    (y0 : Vec Ideal S2048x1024 .bf16) (y1 : Vec Ideal S2048x256 .f32) (y2 : Vec Ideal S8x256 .f32)
    (s : Fin 2048) (jj : Fin 2) (k : Fin 4) (l : Fin 128) (j : S2048x1024.Idx)
    (h0 : (j 0).val = s.val) (h1 : (j 1).val = 512 * jj.val + 128 * k.val + l.val) :
    out0_A_3 (F := Ideal) c i arg2 harg2 arg3 harg3 arg4 harg4 arg5 harg5 arg6 harg6 hc0 y0 y1 y2 j = (blockCol y0 y1 y2 jj l).grad k s := by
  frame_out
  exact canon_pieces y0 y1 y2 s jj k l j h0 h1

/-- What a point of case B leaves in the block of the projections' gradients. -/
theorem out3_B (c : Dev nD) (i : grid0.Coords) (arg2 : Memref sig .tc .vmem S2048x1024 .bf16) (harg2 : arg2.IsWhole) (arg3 : Memref sig .tc .vmem S2048x256 .f32) (harg3 : arg3.IsWhole) (arg4 : Memref sig .tc .vmem S8x256 .f32) (harg4 : arg4.IsWhole) (arg5 : Memref sig .tc .vmem S2048x1024 .bf16) (harg5 : arg5.IsWhole) (arg6 : Memref sig .tc .vmem S8x256 .f32) (harg6 : arg6.IsWhole) (hc0 : ¬cond0_0 i)
    (y0 : Vec Ideal S2048x1024 .bf16) (y1 : Vec Ideal S2048x256 .f32) (y2 : Vec Ideal S8x256 .f32) (y4 : Vec Ideal S8x256 .f32)
    (s : Fin 2048) (jj : Fin 2) (k : Fin 4) (l : Fin 128) (j : S2048x1024.Idx)
    (h0 : (j 0).val = s.val) (h1 : (j 1).val = 512 * jj.val + 128 * k.val + l.val) :
    out0_B_3 (F := Ideal) c i arg2 harg2 arg3 harg3 arg4 harg4 arg5 harg5 arg6 harg6 hc0 y0 y1 y2 y4 j = (blockCol y0 y1 y2 jj l).grad k s := by
  frame_out
  exact canon_pieces y0 y1 y2 s jj k l j h0 h1

/-- The block of the taps' gradients after a point, over what it held before. -/
def wBlock (y0 : Vec Ideal S2048x1024 .bf16) (y1 : Vec Ideal S2048x256 .f32) (y2 : Vec Ideal S8x256 .f32) (y4 : Vec Ideal S8x256 .f32)
    (j : S8x256.Idx) : EReal :=
  if h : (j 0).val < 3 then
    y4 j + (blockCol y0 y1 y2 ⟨(j 1).val / 128, by have : (j 1).val < 256 := (j 1).isLt; omega⟩ ⟨(j 1).val % 128, by omega⟩).gw ⟨(j 0).val, h⟩
  else y4 j

/-- An entry of the taps' block after a point, by tap, tile and channel. -/
theorem wBlock_at (y0 : Vec Ideal S2048x1024 .bf16) (y1 : Vec Ideal S2048x256 .f32) (y2 : Vec Ideal S8x256 .f32) (y4 : Vec Ideal S8x256 .f32)
    (r : Fin 3) (jj : Fin 2) (l : Fin 128) (j : S8x256.Idx) (h0 : (j 0).val = r.val) (h1 : (j 1).val = 128 * jj.val + l.val) :
    wBlock y0 y1 y2 y4 j = y4 j + (blockCol y0 y1 y2 jj l).gw r := by
  have e1 : ∀ h, (⟨(j 1).val / 128, h⟩ : Fin 2) = jj := fun h => Fin.ext (by show (j 1).val / 128 = _; omega)
  have e2 : ∀ h, (⟨(j 1).val % 128, h⟩ : Fin 128) = l := fun h => Fin.ext (by show (j 1).val % 128 = _; omega)
  have e3 : ∀ h, (⟨(j 0).val, h⟩ : Fin 3) = r := fun h => Fin.ext h0
  unfold wBlock
  rw [dif_pos (by omega), e1, e2, e3]

/-- The six rows that a point stores in the block of the taps' gradients, last first. -/
abbrev wPieces (y0 : Vec Ideal S2048x1024 .bf16) (y1 : Vec Ideal S2048x256 .f32) (y2 : Vec Ideal S8x256 .f32) (y4 : Vec Ideal S8x256 .f32) :
    List (View.Piece (Elt Ideal) S8x256 .f32) :=
  [⟨Rect.unit ![2, 128] ![1, 128] inb_S8x256_S1x128_2_128, k0_pay23 (k0_pay8 (View.ld y0 (Rect.unit ![0, 512] ![2048, 128] inb_S2048x1024_S2048x128_0_512)) (View.ld y0 (Rect.unit ![0, 768] ![2048, 128] inb_S2048x1024_S2048x128_0_768))) (k0_pay14 (k0_pay5 (View.ld y0 (Rect.unit ![0, 640] ![2048, 128] inb_S2048x1024_S2048x128_0_640))) (k0_pay7 (View.ld y0 (Rect.unit ![0, 896] ![2048, 128] inb_S2048x1024_S2048x128_0_896))) (View.ld y1 (Rect.unit ![0, 128] ![2048, 128] inb_S2048x256_S2048x128_0_128))) (View.ld y4 (Rect.unit ![2, 128] ![1, 128] inb_S8x256_S1x128_2_128))⟩,
    ⟨Rect.unit ![1, 128] ![1, 128] inb_S8x256_S1x128_1_128, k0_pay22 (k0_pay9 (View.ld y0 (Rect.unit ![0, 512] ![2048, 128] inb_S2048x1024_S2048x128_0_512)) (View.ld y0 (Rect.unit ![0, 768] ![2048, 128] inb_S2048x1024_S2048x128_0_768))) (k0_pay14 (k0_pay5 (View.ld y0 (Rect.unit ![0, 640] ![2048, 128] inb_S2048x1024_S2048x128_0_640))) (k0_pay7 (View.ld y0 (Rect.unit ![0, 896] ![2048, 128] inb_S2048x1024_S2048x128_0_896))) (View.ld y1 (Rect.unit ![0, 128] ![2048, 128] inb_S2048x256_S2048x128_0_128))) (View.ld y4 (Rect.unit ![1, 128] ![1, 128] inb_S8x256_S1x128_1_128))⟩,
    ⟨Rect.unit ![0, 128] ![1, 128] inb_S8x256_S1x128_0_128, k0_pay21 (k0_pay10 (View.ld y0 (Rect.unit ![0, 512] ![2048, 128] inb_S2048x1024_S2048x128_0_512)) (View.ld y0 (Rect.unit ![0, 768] ![2048, 128] inb_S2048x1024_S2048x128_0_768))) (k0_pay14 (k0_pay5 (View.ld y0 (Rect.unit ![0, 640] ![2048, 128] inb_S2048x1024_S2048x128_0_640))) (k0_pay7 (View.ld y0 (Rect.unit ![0, 896] ![2048, 128] inb_S2048x1024_S2048x128_0_896))) (View.ld y1 (Rect.unit ![0, 128] ![2048, 128] inb_S2048x256_S2048x128_0_128))) (View.ld y4 (Rect.unit ![0, 128] ![1, 128] inb_S8x256_S1x128_0_128))⟩,
    ⟨Rect.unit ![2, 0] ![1, 128] inb_S8x256_S1x128_2_0, k0_pay23 (k0_pay8 (View.ld y0 (Rect.unit ![0, 0] ![2048, 128] inb_S2048x1024_S2048x128_0_0)) (View.ld y0 (Rect.unit ![0, 256] ![2048, 128] inb_S2048x1024_S2048x128_0_256))) (k0_pay14 (k0_pay5 (View.ld y0 (Rect.unit ![0, 128] ![2048, 128] inb_S2048x1024_S2048x128_0_128))) (k0_pay7 (View.ld y0 (Rect.unit ![0, 384] ![2048, 128] inb_S2048x1024_S2048x128_0_384))) (View.ld y1 (Rect.unit ![0, 0] ![2048, 128] inb_S2048x256_S2048x128_0_0))) (View.ld y4 (Rect.unit ![2, 0] ![1, 128] inb_S8x256_S1x128_2_0))⟩,
    ⟨Rect.unit ![1, 0] ![1, 128] inb_S8x256_S1x128_1_0, k0_pay22 (k0_pay9 (View.ld y0 (Rect.unit ![0, 0] ![2048, 128] inb_S2048x1024_S2048x128_0_0)) (View.ld y0 (Rect.unit ![0, 256] ![2048, 128] inb_S2048x1024_S2048x128_0_256))) (k0_pay14 (k0_pay5 (View.ld y0 (Rect.unit ![0, 128] ![2048, 128] inb_S2048x1024_S2048x128_0_128))) (k0_pay7 (View.ld y0 (Rect.unit ![0, 384] ![2048, 128] inb_S2048x1024_S2048x128_0_384))) (View.ld y1 (Rect.unit ![0, 0] ![2048, 128] inb_S2048x256_S2048x128_0_0))) (View.ld y4 (Rect.unit ![1, 0] ![1, 128] inb_S8x256_S1x128_1_0))⟩,
    ⟨Rect.unit ![0, 0] ![1, 128] inb_S8x256_S1x128_0_0, k0_pay21 (k0_pay10 (View.ld y0 (Rect.unit ![0, 0] ![2048, 128] inb_S2048x1024_S2048x128_0_0)) (View.ld y0 (Rect.unit ![0, 256] ![2048, 128] inb_S2048x1024_S2048x128_0_256))) (k0_pay14 (k0_pay5 (View.ld y0 (Rect.unit ![0, 128] ![2048, 128] inb_S2048x1024_S2048x128_0_128))) (k0_pay7 (View.ld y0 (Rect.unit ![0, 384] ![2048, 128] inb_S2048x1024_S2048x128_0_384))) (View.ld y1 (Rect.unit ![0, 0] ![2048, 128] inb_S2048x256_S2048x128_0_0))) (View.ld y4 (Rect.unit ![0, 0] ![1, 128] inb_S8x256_S1x128_0_0))⟩]

/-- The six stored rows are the rows of the taps' block. -/
theorem wPieces_of (y0 : Vec Ideal S2048x1024 .bf16) (y1 : Vec Ideal S2048x256 .f32) (y2 : Vec Ideal S8x256 .f32) (y4 : Vec Ideal S8x256 .f32) :
    View.PiecesOf (Val := Elt Ideal) (e := .f32) (wBlock y0 y1 y2 y4) (wPieces y0 y1 y2 y4) := by
  refine ⟨?_, ?_, ?_, ?_, ?_, ?_, trivial⟩
  · intro x
    idx_vars x
    obtain rfl : x0 = 0 := Fin.fin_one_eq_zero x0
    refine (tileW2 (View.ld y0 (Rect.unit ![0, 512] ![2048, 128] inb_S2048x1024_S2048x128_0_512)) (View.ld y0 (Rect.unit ![0, 640] ![2048, 128] inb_S2048x1024_S2048x128_0_640)) (View.ld y0 (Rect.unit ![0, 768] ![2048, 128] inb_S2048x1024_S2048x128_0_768)) (View.ld y0 (Rect.unit ![0, 896] ![2048, 128] inb_S2048x1024_S2048x128_0_896)) (View.ld y1 (Rect.unit ![0, 128] ![2048, 128] inb_S2048x256_S2048x128_0_128)) (View.ld y2 (Rect.unit ![0, 128] ![8, 128] inb_S8x256_S8x128_0_128)) (View.ld y4 (Rect.unit ![2, 128] ![1, 128] inb_S8x256_S1x128_2_128)) x1).trans ?_
    rw [tileCol_one]
    exact (wBlock_at y0 y1 y2 y4 2 1 x1 _ rfl (by pointwise)).symm
  · intro x
    idx_vars x
    obtain rfl : x0 = 0 := Fin.fin_one_eq_zero x0
    refine (tileW1 (View.ld y0 (Rect.unit ![0, 512] ![2048, 128] inb_S2048x1024_S2048x128_0_512)) (View.ld y0 (Rect.unit ![0, 640] ![2048, 128] inb_S2048x1024_S2048x128_0_640)) (View.ld y0 (Rect.unit ![0, 768] ![2048, 128] inb_S2048x1024_S2048x128_0_768)) (View.ld y0 (Rect.unit ![0, 896] ![2048, 128] inb_S2048x1024_S2048x128_0_896)) (View.ld y1 (Rect.unit ![0, 128] ![2048, 128] inb_S2048x256_S2048x128_0_128)) (View.ld y2 (Rect.unit ![0, 128] ![8, 128] inb_S8x256_S8x128_0_128)) (View.ld y4 (Rect.unit ![1, 128] ![1, 128] inb_S8x256_S1x128_1_128)) x1).trans ?_
    rw [tileCol_one]
    exact (wBlock_at y0 y1 y2 y4 1 1 x1 _ rfl (by pointwise)).symm
  · intro x
    idx_vars x
    obtain rfl : x0 = 0 := Fin.fin_one_eq_zero x0
    refine (tileW0 (View.ld y0 (Rect.unit ![0, 512] ![2048, 128] inb_S2048x1024_S2048x128_0_512)) (View.ld y0 (Rect.unit ![0, 640] ![2048, 128] inb_S2048x1024_S2048x128_0_640)) (View.ld y0 (Rect.unit ![0, 768] ![2048, 128] inb_S2048x1024_S2048x128_0_768)) (View.ld y0 (Rect.unit ![0, 896] ![2048, 128] inb_S2048x1024_S2048x128_0_896)) (View.ld y1 (Rect.unit ![0, 128] ![2048, 128] inb_S2048x256_S2048x128_0_128)) (View.ld y2 (Rect.unit ![0, 128] ![8, 128] inb_S8x256_S8x128_0_128)) (View.ld y4 (Rect.unit ![0, 128] ![1, 128] inb_S8x256_S1x128_0_128)) x1).trans ?_
    rw [tileCol_one]
    exact (wBlock_at y0 y1 y2 y4 0 1 x1 _ rfl (by pointwise)).symm
  · intro x
    idx_vars x
    obtain rfl : x0 = 0 := Fin.fin_one_eq_zero x0
    refine (tileW2 (View.ld y0 (Rect.unit ![0, 0] ![2048, 128] inb_S2048x1024_S2048x128_0_0)) (View.ld y0 (Rect.unit ![0, 128] ![2048, 128] inb_S2048x1024_S2048x128_0_128)) (View.ld y0 (Rect.unit ![0, 256] ![2048, 128] inb_S2048x1024_S2048x128_0_256)) (View.ld y0 (Rect.unit ![0, 384] ![2048, 128] inb_S2048x1024_S2048x128_0_384)) (View.ld y1 (Rect.unit ![0, 0] ![2048, 128] inb_S2048x256_S2048x128_0_0)) (View.ld y2 (Rect.unit ![0, 0] ![8, 128] inb_S8x256_S8x128_0_0)) (View.ld y4 (Rect.unit ![2, 0] ![1, 128] inb_S8x256_S1x128_2_0)) x1).trans ?_
    rw [tileCol_zero]
    exact (wBlock_at y0 y1 y2 y4 2 0 x1 _ rfl (by pointwise)).symm
  · intro x
    idx_vars x
    obtain rfl : x0 = 0 := Fin.fin_one_eq_zero x0
    refine (tileW1 (View.ld y0 (Rect.unit ![0, 0] ![2048, 128] inb_S2048x1024_S2048x128_0_0)) (View.ld y0 (Rect.unit ![0, 128] ![2048, 128] inb_S2048x1024_S2048x128_0_128)) (View.ld y0 (Rect.unit ![0, 256] ![2048, 128] inb_S2048x1024_S2048x128_0_256)) (View.ld y0 (Rect.unit ![0, 384] ![2048, 128] inb_S2048x1024_S2048x128_0_384)) (View.ld y1 (Rect.unit ![0, 0] ![2048, 128] inb_S2048x256_S2048x128_0_0)) (View.ld y2 (Rect.unit ![0, 0] ![8, 128] inb_S8x256_S8x128_0_0)) (View.ld y4 (Rect.unit ![1, 0] ![1, 128] inb_S8x256_S1x128_1_0)) x1).trans ?_
    rw [tileCol_zero]
    exact (wBlock_at y0 y1 y2 y4 1 0 x1 _ rfl (by pointwise)).symm
  · intro x
    idx_vars x
    obtain rfl : x0 = 0 := Fin.fin_one_eq_zero x0
    refine (tileW0 (View.ld y0 (Rect.unit ![0, 0] ![2048, 128] inb_S2048x1024_S2048x128_0_0)) (View.ld y0 (Rect.unit ![0, 128] ![2048, 128] inb_S2048x1024_S2048x128_0_128)) (View.ld y0 (Rect.unit ![0, 256] ![2048, 128] inb_S2048x1024_S2048x128_0_256)) (View.ld y0 (Rect.unit ![0, 384] ![2048, 128] inb_S2048x1024_S2048x128_0_384)) (View.ld y1 (Rect.unit ![0, 0] ![2048, 128] inb_S2048x256_S2048x128_0_0)) (View.ld y2 (Rect.unit ![0, 0] ![8, 128] inb_S8x256_S8x128_0_0)) (View.ld y4 (Rect.unit ![0, 0] ![1, 128] inb_S8x256_S1x128_0_0)) x1).trans ?_
    rw [tileCol_zero]
    exact (wBlock_at y0 y1 y2 y4 0 0 x1 _ rfl (by pointwise)).symm

/-- The six rows cover the first three rows of the block, and nothing else. -/
theorem wPieces_cover (y0 : Vec Ideal S2048x1024 .bf16) (y1 : Vec Ideal S2048x256 .f32) (y2 : Vec Ideal S8x256 .f32) (y4 : Vec Ideal S8x256 .f32)
    (j : S8x256.Idx) (h : (j 0).val < 3) : ∃ p ∈ wPieces y0 y1 y2 y4, j ∈ p.1.set := by
  have h1 : (j 1).val < 256 := (j 1).isLt
  have key : ∀ (r o : ℕ) (inb : ∀ a : Fin 2, (![r, o] : Fin 2 → ℕ) a + (![1, 128] : Fin 2 → ℕ) a ≤ S8x256.size a), (j 0).val = r → o ≤ (j 1).val → (j 1).val < o + 128 →
      j ∈ (Rect.unit (s := S8x256) ![r, o] ![1, 128] inb).set := by
    intro r o inb e0 e1 e2
    rw [Rect.mem_set_unit]
    intro a
    match a with
    | ⟨0, _⟩ => exact ⟨by show r ≤ (j 0).val; omega, by show (j 0).val < r + 1; omega⟩
    | ⟨1, _⟩ => exact ⟨e1, e2⟩
  rcases Nat.lt_or_ge (j 1).val 128 with hc | hc
  · rcases (by omega : (j 0).val = 0 ∨ (j 0).val = 1 ∨ (j 0).val = 2) with e | e | e
    · exact ⟨_, .tail _ (.tail _ (.tail _ (.tail _ (.tail _ (.head _))))), key _ _ inb_S8x256_S1x128_0_0 e (by omega) (by omega)⟩
    · exact ⟨_, .tail _ (.tail _ (.tail _ (.tail _ (.head _)))), key _ _ inb_S8x256_S1x128_1_0 e (by omega) (by omega)⟩
    · exact ⟨_, .tail _ (.tail _ (.tail _ (.head _))), key _ _ inb_S8x256_S1x128_2_0 e (by omega) (by omega)⟩
  · rcases (by omega : (j 0).val = 0 ∨ (j 0).val = 1 ∨ (j 0).val = 2) with e | e | e
    · exact ⟨_, .tail _ (.tail _ (.head _)), key _ _ inb_S8x256_S1x128_0_128 e (by omega) (by omega)⟩
    · exact ⟨_, .tail _ (.head _), key _ _ inb_S8x256_S1x128_1_128 e (by omega) (by omega)⟩
    · exact ⟨_, .head _, key _ _ inb_S8x256_S1x128_2_128 e (by omega) (by omega)⟩

/-- The six rows leave the rows past the taps alone. -/
theorem wPieces_miss (y0 : Vec Ideal S2048x1024 .bf16) (y1 : Vec Ideal S2048x256 .f32) (y2 : Vec Ideal S8x256 .f32) (y4 : Vec Ideal S8x256 .f32)
    (j : S8x256.Idx) (h : ¬(j 0).val < 3) : ∀ p ∈ wPieces y0 y1 y2 y4, j ∉ p.1.set := by
  have key : ∀ (r o : ℕ) (inb : ∀ a : Fin 2, (![r, o] : Fin 2 → ℕ) a + (![1, 128] : Fin 2 → ℕ) a ≤ S8x256.size a), r < 3 →
      j ∉ (Rect.unit (s := S8x256) ![r, o] ![1, 128] inb).set := by
    intro r o inb e0 hm
    rw [Rect.mem_set_unit] at hm
    have := (hm 0).2
    have h2 : (j 0).val < r + 1 := this
    omega
  intro p hp
  simp only [wPieces, List.mem_cons, List.not_mem_nil, or_false] at hp
  rcases hp with rfl | rfl | rfl | rfl | rfl | rfl
  · exact key _ _ inb_S8x256_S1x128_2_128 (by omega)
  · exact key _ _ inb_S8x256_S1x128_1_128 (by omega)
  · exact key _ _ inb_S8x256_S1x128_0_128 (by omega)
  · exact key _ _ inb_S8x256_S1x128_2_0 (by omega)
  · exact key _ _ inb_S8x256_S1x128_1_0 (by omega)
  · exact key _ _ inb_S8x256_S1x128_0_0 (by omega)

/-- An element that no later store covers keeps what the fill of the whole block left there. -/
theorem canon_over_fill (L : List (View.Piece (Elt Ideal) S8x256 .f32)) (inb) (w : S8x256.Idx → Elt Ideal .f32) (j : S8x256.Idx)
    (h : ∀ p ∈ L, j ∉ p.1.set) :
    View.canon (L ++ [⟨Rect.unit (s := S8x256) ![0, 0] ![8, 256] inb, w⟩]) j = w j := by
  induction L with
  | nil => exact congrFun (View.canon_cons_unit_lit (S := S8x256) inb w [] (by decide)) j
  | cons p L ih =>
    rw [List.cons_append, View.canon_cons_of_not_mem _ _ (h p (.head _))]
    exact ih fun q hq => h q (.tail _ hq)

/-- What a point of case B leaves in the block of the taps' gradients. -/
theorem out4_B (c : Dev nD) (i : grid0.Coords) (arg2 : Memref sig .tc .vmem S2048x1024 .bf16) (harg2 : arg2.IsWhole) (arg3 : Memref sig .tc .vmem S2048x256 .f32) (harg3 : arg3.IsWhole) (arg4 : Memref sig .tc .vmem S8x256 .f32) (harg4 : arg4.IsWhole) (arg5 : Memref sig .tc .vmem S2048x1024 .bf16) (harg5 : arg5.IsWhole) (arg6 : Memref sig .tc .vmem S8x256 .f32) (harg6 : arg6.IsWhole) (hc0 : ¬cond0_0 i)
    (y0 : Vec Ideal S2048x1024 .bf16) (y1 : Vec Ideal S2048x256 .f32) (y2 : Vec Ideal S8x256 .f32) (y4 : Vec Ideal S8x256 .f32) :
    out0_B_4 (F := Ideal) c i arg2 harg2 arg3 harg3 arg4 harg4 arg5 harg5 arg6 harg6 hc0 y0 y1 y2 y4 = wBlock y0 y1 y2 y4 := by
  frame_out
  funext j
  by_cases h : (j 0).val < 3
  · exact arg6.view.read_writes_apply_of_pieces _ (wBlock y0 y1 y2 y4) (wPieces y0 y1 y2 y4) (wPieces_of y0 y1 y2 y4).mem j (wPieces_cover y0 y1 y2 y4 j h)
  · refine (arg6.view.read_writes_apply_of_forall_not_mem _ j (wPieces y0 y1 y2 y4) (wPieces_miss y0 y1 y2 y4 j h)).trans ?_
    rw [harg6.read_unread]
    unfold wBlock
    rw [dif_neg h]

/-- The six rows over a zero block make the taps' block from zero. -/
theorem canon_w (y0 : Vec Ideal S2048x1024 .bf16) (y1 : Vec Ideal S2048x256 .f32) (y2 : Vec Ideal S8x256 .f32)
    (L : List (View.Piece (Elt Ideal) S8x256 .f32))
    (hL : L = wPieces y0 y1 y2 (k0_pay3 (F := Ideal)) ++ [⟨Rect.unit ![0, 0] ![8, 256] inb_S8x256_S8x256_0_0, k0_pay3 (F := Ideal)⟩]) :
    View.canon L = wBlock y0 y1 y2 (k0_pay3 (F := Ideal)) := by
  subst hL
  funext j
  by_cases h : (j 0).val < 3
  · exact View.canon_append_of_piecesOf (wBlock y0 y1 y2 (k0_pay3 (F := Ideal))) _ (wPieces y0 y1 y2 (k0_pay3 (F := Ideal))) (wPieces_of y0 y1 y2 _) j (wPieces_cover y0 y1 y2 _ j h)
  · refine (canon_over_fill (wPieces y0 y1 y2 (k0_pay3 (F := Ideal))) inb_S8x256_S8x256_0_0 (k0_pay3 (F := Ideal)) j (wPieces_miss y0 y1 y2 _ j h)).trans ?_
    unfold wBlock
    rw [dif_neg h]

/-- What a point of case A leaves in the block of the taps' gradients: it starts from zero. -/
theorem out4_A (c : Dev nD) (i : grid0.Coords) (arg2 : Memref sig .tc .vmem S2048x1024 .bf16) (harg2 : arg2.IsWhole) (arg3 : Memref sig .tc .vmem S2048x256 .f32) (harg3 : arg3.IsWhole) (arg4 : Memref sig .tc .vmem S8x256 .f32) (harg4 : arg4.IsWhole) (arg5 : Memref sig .tc .vmem S2048x1024 .bf16) (harg5 : arg5.IsWhole) (arg6 : Memref sig .tc .vmem S8x256 .f32) (harg6 : arg6.IsWhole) (hc0 : cond0_0 i)
    (y0 : Vec Ideal S2048x1024 .bf16) (y1 : Vec Ideal S2048x256 .f32) (y2 : Vec Ideal S8x256 .f32) :
    out0_A_4 (F := Ideal) c i arg2 harg2 arg3 harg3 arg4 harg4 arg5 harg5 arg6 harg6 hc0 y0 y1 y2 = wBlock y0 y1 y2 (k0_pay3 (F := Ideal)) := by
  frame_open
  simp (disch := decide) only [↓ View.readCov_skip, ↓ View.readCov_cons_toLoadRect, ↓ View.readCov_fill]
  frame_out
  exact canon_w y0 y1 y2 _ rfl

end Cert.Conv

end
-- ==== Proof.ConvArray.lean ====
/- What the convolution's backward kernel leaves in its two result arrays. -/
module

public import proofs.«01_k».proof.Proof.ConvBlock

@[expose] public section

set_option maxRecDepth 16384

noncomputable section

namespace Cert.Conv

open Cert.KernelIdeal Cert.KernelIdeal.Gen Idealize.ShloMosaic Idealize.ShloMosaic.TcCoe Idealize.SL.Sem
open Idealize.ShloMosaic.Pipeline (Dat)

/-- Channel `128 * j + l` of sequence `b` in the argument arrays. -/
def col (P : S8192x4096.Idx → EReal) (G : S8192x1024.Idx → EReal) (W : S8x1024.Idx → EReal)
    (b : Fin 4) (j : Fin 8) (l : Fin 128) : Col where
  x s := P (ix2 ⟨2048 * b.val + s.val, by omega⟩ ⟨512 * j.val + l.val, by omega⟩)
  b s := P (ix2 ⟨2048 * b.val + s.val, by omega⟩ ⟨512 * j.val + 128 + l.val, by omega⟩)
  c s := P (ix2 ⟨2048 * b.val + s.val, by omega⟩ ⟨512 * j.val + 256 + l.val, by omega⟩)
  z s := P (ix2 ⟨2048 * b.val + s.val, by omega⟩ ⟨512 * j.val + 384 + l.val, by omega⟩)
  g s := G (ix2 ⟨2048 * b.val + s.val, by omega⟩ ⟨128 * j.val + l.val, by omega⟩)
  w k := W (ix2 ⟨k.val, by omega⟩ ⟨128 * j.val + l.val, by omega⟩)

/-- The array of the projections' gradients. -/
def dP (P : S8192x4096.Idx → EReal) (G : S8192x1024.Idx → EReal) (W : S8x1024.Idx → EReal) (i : S8192x4096.Idx) : EReal :=
  have h0 : (i 0).val < 8192 := (i 0).isLt
  have h1 : (i 1).val < 4096 := (i 1).isLt
  (col P G W ⟨(i 0).val / 2048, by omega⟩ ⟨(i 1).val / 512, by omega⟩ ⟨(i 1).val % 128, by omega⟩).grad
    ⟨(i 1).val / 128 % 4, by omega⟩ ⟨(i 0).val % 2048, by omega⟩

/-- The array of the taps' gradients: the first three rows sum over the sequences, the others are zero. -/
def dW (P : S8192x4096.Idx → EReal) (G : S8192x1024.Idx → EReal) (W : S8x1024.Idx → EReal) (i : S8x1024.Idx) : EReal :=
  have h1 : (i 1).val < 1024 := (i 1).isLt
  if h : (i 0).val < 3 then
    ∑ b : Fin 4, (col P G W b ⟨(i 1).val / 128, by omega⟩ ⟨(i 1).val % 128, by omega⟩).gw ⟨(i 0).val, h⟩
  else 0

variable (m : (ℓ : Loc nD τ sig) → Buf (Elt Ideal) ℓ)

/-- The block that each window holds at a grid point. -/
theorem idx : ∀ t : Fin cfg0.N, win0_0.index t = ![t.val % 4, t.val / 4] ∧ win0_1.index t = ![t.val % 4, t.val / 4]
    ∧ win0_2.index t = ![0, t.val / 4] ∧ win0_3.index t = ![t.val % 4, t.val / 4] ∧ win0_4.index t = ![0, t.val / 4] :=
  (by decide +kernel : ∀ t : Fin grid0.N, win0_0.index t = ![t.val % 4, t.val / 4] ∧ win0_1.index t = ![t.val % 4, t.val / 4]
    ∧ win0_2.index t = ![0, t.val / 4] ∧ win0_3.index t = ![t.val % 4, t.val / 4] ∧ win0_4.index t = ![0, t.val / 4])

/-- The blocks of a point hold the columns of the point's sequence and channel group. -/
theorem blockCol_eq (c : Dev nD) (t : Fin cfg0.N) (jj : Fin 2) (l : Fin 128) (b : Fin 4) (j : Fin 8)
    (hb : b.val = t.val % 4) (hj : j.val = 2 * (t.val / 4) + jj.val) :
    blockCol (iblk m c 0 t) (iblk m c 1 t) (iblk m c 2 t) jj l
      = col (m ((c : Thread nD τ).loc main_arg0)) (m ((c : Thread nD τ).loc main_arg1)) (m ((c : Thread nD τ).loc main_arg2)) b j l := by
  obtain ⟨e0, e1, e2, -, -⟩ := idx t
  have hN : t.val < 16 := t.isLt
  unfold blockCol col
  congr 1 <;> funext s
  all_goals blk_ext [iblk, V, e0, e1, e2]

/-- An entry of the projections' gradients, by sequence, token, tile, kind and channel. -/
theorem dP_at (P : S8192x4096.Idx → EReal) (G : S8192x1024.Idx → EReal) (W : S8x1024.Idx → EReal) (i : S8192x4096.Idx)
    (b : Fin 4) (j : Fin 8) (k : Fin 4) (l : Fin 128) (s : Fin 2048)
    (h0 : (i 0).val = 2048 * b.val + s.val) (h1 : (i 1).val = 512 * j.val + 128 * k.val + l.val) :
    dP P G W i = (col P G W b j l).grad k s := by
  unfold dP
  have e1 : ∀ h, (⟨(i 0).val / 2048, h⟩ : Fin 4) = b := fun h => Fin.ext (by show (i 0).val / 2048 = _; omega)
  have e2 : ∀ h, (⟨(i 1).val / 512, h⟩ : Fin 8) = j := fun h => Fin.ext (by show (i 1).val / 512 = _; omega)
  have e3 : ∀ h, (⟨(i 1).val % 128, h⟩ : Fin 128) = l := fun h => Fin.ext (by show (i 1).val % 128 = _; omega)
  have e4 : ∀ h, (⟨(i 1).val / 128 % 4, h⟩ : Fin 4) = k := fun h => Fin.ext (by show (i 1).val / 128 % 4 = _; omega)
  have e5 : ∀ h, (⟨(i 0).val % 2048, h⟩ : Fin 2048) = s := fun h => Fin.ext (by show (i 0).val % 2048 = _; omega)
  simp only [e1, e2, e3, e4, e5]

/-- A point leaves the gradients of its own columns in the first output block. -/
theorem outs3 (c : Dev nD) (t : Fin cfg0.N) (s : Fin 2048) (jj : Fin 2) (k : Fin 4) (l : Fin 128) (j : S2048x1024.Idx)
    (h0 : (j 0).val = s.val) (h1 : (j 1).val = 512 * jj.val + 128 * k.val + l.val) :
    (outsAt0 (F := Ideal) m c t.val t.isLt).1 j = (blockCol (iblk m c 0 t) (iblk m c 1 t) (iblk m c 2 t) jj l).grad k s := by
  by_cases h : t.val % 4 = 0
  · refine (congrFun (congrArg Prod.fst (outsAt0_A m c t h)) j).trans ?_
    dsimp only
    exact out3_A _ _ _ _ _ _ _ _ _ _ _ _ _ _ _ _ s jj k l j h0 h1
  · refine (congrFun (congrArg Prod.fst (outsAt0_B m c t h)) j).trans ?_
    dsimp only
    exact out3_B _ _ _ _ _ _ _ _ _ _ _ _ _ _ _ _ _ s jj k l j h0 h1

/-- The first result array. -/
theorem final3 (c : Dev nD) : (dats (F := Ideal) m 0 c).arrAt 3 cfg0.N
    = dP (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e3, -⟩ := idx t
  blk_simp
  rw [after0_3]
  have hN : t.val < 16 := t.isLt
  have hy0 : (y 0).val < 2048 := (y 0).isLt
  have hy1 : (y 1).val < 1024 := (y 1).isLt
  refine (outs3 m c t ⟨(y 0).val, hy0⟩ ⟨(y 1).val / 512, by omega⟩ ⟨(y 1).val / 128 % 4, by omega⟩ ⟨(y 1).val % 128, by omega⟩ y rfl
    (by show (y 1).val = 512 * ((y 1).val / 512) + 128 * ((y 1).val / 128 % 4) + (y 1).val % 128; omega)).trans ?_
  rw [blockCol_eq m c t _ _ ⟨t.val % 4, by omega⟩ ⟨2 * (t.val / 4) + (y 1).val / 512, by omega⟩ rfl rfl]
  refine (dP_at _ _ _ _ _ _ _ _ _ ?_ ?_).symm
  · blk_simp [e3]
    dsimp only
    omega
  · blk_simp [e3]
    dsimp only
    omega

/-- The taps' block after a point: its own terms over what it held before, over zero at the first point of a channel group. -/
def term (c : Dev nD) (t : Fin cfg0.N) (j : S8x256.Idx) : EReal :=
  wBlock (iblk m c 0 t) (iblk m c 1 t) (iblk m c 2 t) (k0_pay3 (F := Ideal)) j

/-- The block stored over the taps before the first point is zero. -/
theorem zero_at (j : S8x256.Idx) : k0_pay3 (F := Ideal) j = 0 := by
  unfold k0_pay3
  pointwise

/-- A point adds its own terms to the taps' block. -/
theorem wBlock_split (y0 : Vec Ideal S2048x1024 .bf16) (y1 : Vec Ideal S2048x256 .f32) (y2 y4 : Vec Ideal S8x256 .f32) (j : S8x256.Idx) :
    wBlock y0 y1 y2 y4 j = y4 j + wBlock y0 y1 y2 (k0_pay3 (F := Ideal)) j := by
  unfold wBlock
  split <;> simp only [zero_at, zero_add, add_zero]

/-- At the first point of a channel group the taps' block holds that point's terms. -/
theorem outs4_A (c : Dev nD) (t : Fin cfg0.N) (h : t.val % 4 = 0) (j : S8x256.Idx) :
    (outsAt0 (F := Ideal) m c t.val t.isLt).2 j = 0 + term m c t j := by
  refine (congrFun (congrArg Prod.snd (outsAt0_A m c t h)) j).trans ?_
  dsimp only
  rw [zero_add]
  exact congrFun (out4_A _ _ _ _ _ _ _ _ _ _ _ _ _ _ _ _) j

/-- At a later point the taps' block holds what the point before left, and the point's terms. -/
theorem outs4_B (c : Dev nD) (t : Fin cfg0.N) (h : ¬t.val % 4 = 0) (j : S8x256.Idx) :
    (outsAt0 (F := Ideal) m c t.val t.isLt).2 j
      = (outsAt0 (F := Ideal) m c (t.val - 1) (Nat.lt_of_le_of_lt (Nat.sub_le _ _) t.isLt)).2 j + term m c t j := by
  refine (congrFun (congrArg Prod.snd (outsAt0_B m c t h)) j).trans ?_
  dsimp only
  exact (congrFun (out4_B _ _ _ _ _ _ _ _ _ _ _ _ _ _ _ _ _) j).trans (wBlock_split _ _ _ _ j)

/-- A tap's gradient is the sum over the four sequences. -/
theorem dW_at (P : S8192x4096.Idx → EReal) (G : S8192x1024.Idx → EReal) (W : S8x1024.Idx → EReal) (i : S8x1024.Idx)
    (j : Fin 8) (l : Fin 128) (r : Fin 3) (h0 : (i 0).val = r.val) (h1 : (i 1).val = 128 * j.val + l.val) :
    dW P G W i = ∑ b : Fin 4, (col P G W b j l).gw r := by
  unfold dW
  have e1 : ∀ h, (⟨(i 1).val / 128, h⟩ : Fin 8) = j := fun h => Fin.ext (by show (i 1).val / 128 = _; omega)
  have e2 : ∀ h, (⟨(i 1).val % 128, h⟩ : Fin 128) = l := fun h => Fin.ext (by show (i 1).val % 128 = _; omega)
  have e3 : ∀ h, (⟨(i 0).val, h⟩ : Fin 3) = r := fun h => Fin.ext h0
  rw [dif_pos (by omega)]
  simp only [e1, e2, e3]

/-- Rows past the three taps are zero. -/
theorem dW_out (P : S8192x4096.Idx → EReal) (G : S8192x1024.Idx → EReal) (W : S8x1024.Idx → EReal) (i : S8x1024.Idx)
    (h : ¬(i 0).val < 3) : dW P G W i = 0 := by
  unfold dW
  rw [dif_neg h]

/-- The second result array. -/
theorem final4 (c : Dev nD) : (dats (F := Ideal) m 0 c).arrAt 4 cfg0.N
    = dW (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨-, -, -, -, e4⟩ := idx t
  have hr : t.val % 4 = 4 - 1 := (flush0_4 t).mp hf
  blk_simp
  rw [after0_4]
  have hN : t.val < 16 := t.isLt
  refine (Pipeline.eq_sum_fin_of_reset_step_apply_of_flush (fun n h => (outsAt0 (F := Ideal) m c n h).2) 4 (fun _ => 0) (term m c)
    (fun t h j => outs4_A m c t h j) (fun t h j => outs4_B m c t h j) t hr y).trans ?_
  dsimp only
  rw [zero_add]
  have hy1 : (y 1).val < 256 := (y 1).isLt
  by_cases h : (y 0).val < 3
  · rw [dW_at _ _ _ _ ⟨2 * (t.val / 4) + (y 1).val / 128, by omega⟩ ⟨(y 1).val % 128, by omega⟩ ⟨(y 0).val, h⟩ ?_ ?_]
    · refine Finset.sum_congr rfl fun s _ => ?_
      unfold term
      rw [wBlock_at _ _ _ _ ⟨(y 0).val, h⟩ ⟨(y 1).val / 128, by omega⟩ ⟨(y 1).val % 128, by omega⟩ y rfl (by dsimp only; omega), zero_at, zero_add]
      have hs := s.isLt
      rw [blockCol_eq m c _ _ _ s ⟨2 * (t.val / 4) + (y 1).val / 128, by omega⟩ (by dsimp only; omega) (by dsimp only; omega)]
    · blk_simp [e4]
      try dsimp only
    · blk_simp [e4]
      try dsimp only
      omega
  · unfold dW
    rw [dif_neg (by blk_simp [e4]; omega)]
    refine Finset.sum_eq_zero fun s _ => ?_
    unfold term wBlock
    rw [dif_neg h, zero_at]

end Cert.Conv

end
-- ==== Proof.ConvRef.lean ====
/- The reference's two results, one entry at a time. -/
module

public import proofs.«01_k».proof.Proof.ConvArray
public import proofs.«01_k».proof.Proof.Gen.ReferenceIdeal.Read

@[expose] public section

set_option maxRecDepth 16384

noncomputable section

namespace Cert.Conv

open Cert.ReferenceIdeal Cert.ReferenceIdeal.Gen Cert.ReferenceIdeal.Read Idealize.ShloMosaic Idealize.ShloMosaic.TcCoe

variable (P : S8192x4096.Idx → EReal) (G : S8192x1024.Idx → EReal) (W : S8x1024.Idx → EReal)

/-- Channel `128 * j + l` among the 1024. -/
def chan (j : Fin 8) (l : Fin 128) : Fin 1024 := ⟨128 * j.val + l.val, by omega⟩

/-- A sum over the first two of three axes, an entry at a time. -/
theorem sum_front {n0 n1 n2 : Nat} (h : (⟨3, ![n0, n1, n2]⟩ : Shape).ReducesTo [0, 1] ⟨1, ![n2]⟩)
    (v : (⟨3, ![n0, n1, n2]⟩ : Shape).Idx → EReal) (z : EReal) (c : Fin n2) :
    Ideal.hostReduceAdd h v z (ix1 c) = z + ∑ a : Fin n0, ∑ b : Fin n1, v (ix3 a b c) := by
  unfold Ideal.hostReduceAdd
  congr 1
  rw [← Fintype.sum_prod_type' (fun (a : Fin n0) (b : Fin n1) => v (ix3 a b c))]
  refine Finset.sum_bij' (fun i _ => (i 0, i 1)) (fun p _ => ix3 p.1 p.2 c) (fun _ _ => Finset.mem_univ _) ?_ ?_ (fun _ _ => rfl) ?_
  · intro p _
    refine Finset.mem_filter.mpr ⟨Finset.mem_univ _, ?_⟩
    funext a
    match a with
    | ⟨0, _⟩ => rfl
  · intro i hi
    funext a
    match a with
    | ⟨0, _⟩ => rfl
    | ⟨1, _⟩ => rfl
    | ⟨2, _⟩ => exact Fin.ext (congrArg Fin.val (congrFun (Finset.mem_filter.mp hi).2 0)).symm
  · intro i hi
    congr 1
    funext a
    match a with
    | ⟨0, _⟩ => rfl
    | ⟨1, _⟩ => rfl
    | ⟨2, _⟩ => exact Fin.ext (congrArg Fin.val (congrFun (Finset.mem_filter.mp hi).2 0))

/-- The reference's view of the projections by sequence, row, channel group, kind and lane. -/
theorem v1_at (b : Fin 4) (s : Fin 2048) (j : Fin 8) (k : Fin 4) (l : Fin 128) (n : Nat) (hn : 512 * j.val + n + l.val < 4096) (e : n = 128 * k.val) :
    val_main_v1 (F := Ideal) P (ix5 b s j k l) = P (ix2 ⟨2048 * b.val + s.val, by omega⟩ ⟨512 * j.val + n + l.val, hn⟩) := by
  subst e
  unfold val_main_v1 val_main_v0
  pointwise
  congr 2 <;> exact Fin.ext (by dsimp only; omega)

section
variable (b : Fin 4) (s : Fin 2048) (j : Fin 8) (l : Fin 128)

/-- The first projection, as the reference cuts it out. -/
theorem v4_at : val_main_v4 (F := Ideal) P (ix3 b s (chan j l)) = (col P G W b j l).x s := by
  refine Eq.trans ?_ (v1_at P b s j 0 l 0 (by omega) rfl)
  unfold val_main_v4 val_main_v3 val_main_v2 chan
  generalize val_main_v1 (F := Ideal) P = y
  pointwise

/-- The second projection, as the reference cuts it out. -/
theorem v7_at : val_main_v7 (F := Ideal) P (ix3 b s (chan j l)) = (col P G W b j l).b s := by
  refine Eq.trans ?_ (v1_at P b s j 1 l 128 (by omega) rfl)
  unfold val_main_v7 val_main_v6 val_main_v5 chan
  generalize val_main_v1 (F := Ideal) P = y
  pointwise

/-- The third projection, as the reference cuts it out. -/
theorem v10_at : val_main_v10 (F := Ideal) P (ix3 b s (chan j l)) = (col P G W b j l).c s := by
  refine Eq.trans ?_ (v1_at P b s j 2 l 256 (by omega) rfl)
  unfold val_main_v10 val_main_v9 val_main_v8 chan
  generalize val_main_v1 (F := Ideal) P = y
  pointwise

/-- The fourth projection, as the reference cuts it out. -/
theorem v13_at : val_main_v13 (F := Ideal) P (ix3 b s (chan j l)) = (col P G W b j l).z s := by
  refine Eq.trans ?_ (v1_at P b s j 3 l 384 (by omega) rfl)
  unfold val_main_v13 val_main_v12 val_main_v11 chan
  generalize val_main_v1 (F := Ideal) P = y
  pointwise

/-- The gradient that comes in. -/
theorem v41_at : val_main_v41 (F := Ideal) G (ix3 b s (chan j l)) = (col P G W b j l).g s := by
  unfold val_main_v41 chan col
  pointwise
  congr 2
  exact Fin.ext (by dsimp only; omega)

/-- The input of the convolution. -/
theorem v15_at : val_main_v15 (F := Ideal) P (ix3 b s (chan j l)) = (col P G W b j l).u s :=
  congrArg₂ (· * ·) (v10_at P G W b s j l) (v4_at P G W b s j l)

/-- The input of the convolution behind two rows of zeros. -/
theorem v17_at (q : Fin 2050) : val_main_v17 (F := Ideal) P (ix3 b q (chan j l))
    = if h : q.val < 2 then 0 else (col P G W b j l).u ⟨q.val - 2, by omega⟩ := by
  have e : ∀ h, val_main_v15 (F := Ideal) P (ix3 b ⟨q.val - 2, h⟩ (chan j l)) = (col P G W b j l).u ⟨q.val - 2, h⟩ := fun h => v15_at P G W b _ j l
  unfold val_main_v17 val_main_v16 val_main_cst
  generalize val_main_v15 (F := Ideal) P = y at e ⊢
  pointwise
  split
  · rfl
  · exact e _

/-- The row two tokens earlier. -/
theorem v21_at : val_main_v21 (F := Ideal) P (ix3 b s (chan j l)) = back 2 (col P G W b j l).u s := by
  have e := v17_at P G W b j l
  unfold val_main_v21
  generalize val_main_v17 (F := Ideal) P = y at e ⊢
  pointwise
  rw [e]
  dsimp only
  unfold back
  split
  · rw [dif_neg (by omega)]
  · rw [dif_pos (by omega)]

/-- The row one token earlier. -/
theorem v27_at : val_main_v27 (F := Ideal) P (ix3 b s (chan j l)) = back 1 (col P G W b j l).u s := by
  have e := v17_at P G W b j l
  unfold val_main_v27
  generalize val_main_v17 (F := Ideal) P = y at e ⊢
  pointwise
  rw [e]
  dsimp only
  unfold back
  split
  · rw [dif_neg (by omega)]
  · rw [dif_pos (by omega)]
    exact congrArg _ (Fin.ext (by dsimp only; omega))

/-- The row itself. -/
theorem v34_at : val_main_v34 (F := Ideal) P (ix3 b s (chan j l)) = (col P G W b j l).u s := by
  have e := v17_at P G W b j l
  unfold val_main_v34
  generalize val_main_v17 (F := Ideal) P = y at e ⊢
  pointwise
  rw [e]
  dsimp only
  rw [dif_neg (by omega)]
  exact congrArg _ (Fin.ext (by dsimp only; omega))

/-- The first tap. -/
theorem w0_at : val_main_v23 (F := Ideal) W (ix3 b s (chan j l)) = (col P G W b j l).w 0 := by
  unfold val_main_v23 val_main_v22 val_main_v20 val_main_v19 chan col
  pointwise

/-- The second tap. -/
theorem w1_at : val_main_v29 (F := Ideal) W (ix3 b s (chan j l)) = (col P G W b j l).w 1 := by
  unfold val_main_v29 val_main_v28 val_main_v26 val_main_v25 chan col
  pointwise

/-- The third tap. -/
theorem w2_at : val_main_v36 (F := Ideal) W (ix3 b s (chan j l)) = (col P G W b j l).w 2 := by
  unfold val_main_v36 val_main_v35 val_main_v33 val_main_v32 chan col
  pointwise

/-- The gate's logistic function. -/
theorem sg_at : val_main_v14_2 (F := Ideal) P (ix3 b s (chan j l)) = (col P G W b j l).sg s := by
  have e := v13_at P G W b s j l
  unfold val_main_v14_2 val_main_call0_v4 val_main_call0_v3 val_main_call0_v2 val_main_call0_v1 val_main_call0_v0 val_main_call0_cst val_main_call0_cst_0 Col.sg
  generalize val_main_v13 (F := Ideal) P = y at e ⊢
  pointwise
  rw [e]
  rfl

/-- The convolution. -/
theorem y_at : val_main_v38 (F := Ideal) P W (ix3 b s (chan j l)) = (col P G W b j l).y s :=
  congrArg₂ (· + ·) (congrArg₂ (· + ·) (congrArg₂ (· * ·) (w0_at P G W b s j l) (v21_at P G W b s j l))
    (congrArg₂ (· * ·) (w1_at P G W b s j l) (v27_at P G W b s j l))) (congrArg₂ (· * ·) (w2_at P G W b s j l) (v34_at P G W b s j l))

/-- The gradient that comes in times the activation. -/
theorem dc_at : val_main_v42 (F := Ideal) P G (ix3 b s (chan j l)) = (col P G W b j l).dc s :=
  (congrArg₂ (· * ·) (congrArg₂ (· * ·) (v13_at P G W b s j l) (sg_at P G W b s j l)) (v41_at P G W b s j l)).trans (mul_comm _ _)

/-- The convolution's gradient. -/
theorem dy_at : val_main_v44 (F := Ideal) P G (ix3 b s (chan j l)) = (col P G W b j l).dy s :=
  (congrArg₂ (· * ·) (v7_at P G W b s j l) (dc_at P G W b s j l)).trans (mul_comm _ _)

/-- The second projection's gradient. -/
theorem db_at : val_main_v45 (F := Ideal) P G W (ix3 b s (chan j l)) = (col P G W b j l).dc s * (col P G W b j l).y s :=
  congrArg₂ (· * ·) (dc_at P G W b s j l) (y_at P G W b s j l)

/-- The gradient that the gate's activation sees. -/
theorem gate_at : val_main_v43 (F := Ideal) P G W (ix3 b s (chan j l))
    = (col P G W b j l).g s * ((col P G W b j l).b s * (col P G W b j l).y s) :=
  congrArg₂ (· * ·) (v41_at P G W b s j l) (congrArg₂ (· * ·) (v7_at P G W b s j l) (y_at P G W b s j l))

/-- The third tap times the convolution's gradient. -/
theorem v47_at : val_main_v47 (F := Ideal) P G W (ix3 b s (chan j l)) = (col P G W b j l).w 2 * (col P G W b j l).dy s :=
  congrArg₂ (· * ·) (w2_at P G W b s j l) (dy_at P G W b s j l)

/-- The second tap times the convolution's gradient. -/
theorem v56_at : val_main_v56 (F := Ideal) P G W (ix3 b s (chan j l)) = (col P G W b j l).w 1 * (col P G W b j l).dy s :=
  congrArg₂ (· * ·) (w1_at P G W b s j l) (dy_at P G W b s j l)

/-- The first tap times the convolution's gradient. -/
theorem v67_at : val_main_v67 (F := Ideal) P G W (ix3 b s (chan j l)) = (col P G W b j l).w 0 * (col P G W b j l).dy s :=
  congrArg₂ (· * ·) (w0_at P G W b s j l) (dy_at P G W b s j l)

/-- The gradient of the convolution's input. -/
theorem du_at : val_main_v78 (F := Ideal) P G W (ix3 b s (chan j l)) = (col P G W b j l).du s := by
  have e2 := fun s => v47_at P G W b s j l
  have e1 := fun s => v56_at P G W b s j l
  have e0 := fun s => v67_at P G W b s j l
  unfold val_main_v78 val_main_v73 val_main_v62 val_main_v52 val_main_v61 val_main_v72 val_main_cst_3 val_main_cst_7 val_main_cst_11 Col.du ahead
  generalize val_main_v47 (F := Ideal) P G W = y2 at e2 ⊢
  generalize val_main_v56 (F := Ideal) P G W = y1 at e1 ⊢
  generalize val_main_v67 (F := Ideal) P G W = y0 at e0 ⊢
  pointwise
  rw [e2]
  refine congrArg₂ (· + ·) (congrArg₂ (· + ·) rfl ?_) ?_
  · by_cases h : s.val + 1 < 2048
    · rw [dif_pos (by omega), dif_pos h, ← e1]
      exact congrArg (fun t => y1 (ix3 b t (chan j l))) (Fin.ext (by dsimp only; omega))
    · rw [dif_neg (by omega), dif_neg h, mul_zero]
  · by_cases h : s.val + 2 < 2048
    · rw [dif_pos (by omega), dif_pos h, ← e0]
      exact congrArg (fun t => y0 (ix3 b t (chan j l))) (Fin.ext (by dsimp only; omega))
    · rw [dif_neg (by omega), dif_neg h, mul_zero]

/-- The activation's gradient as the reference computes it. -/
theorem dz_at : val_main_v81 (F := Ideal) P G W (ix3 b s (chan j l))
    = (col P G W b j l).g s * ((col P G W b j l).b s * (col P G W b j l).y s) * (col P G W b j l).sg s
      + (col P G W b j l).z s * ((col P G W b j l).g s * ((col P G W b j l).b s * (col P G W b j l).y s))
        * ((col P G W b j l).sg s * (1 - (col P G W b j l).sg s)) := by
  have e1 := sg_at P G W b s j l
  have e2 := gate_at P G W b s j l
  have e3 := v13_at P G W b s j l
  unfold val_main_v81 val_main_call1_v1 val_main_call1_v2 val_main_call1_v0 val_main_v14_1 val_main_call0_v7 val_main_call0_v6 val_main_call0_cst_1
  generalize val_main_v14_2 (F := Ideal) P = y1 at e1 ⊢
  generalize val_main_v43 (F := Ideal) P G W = y2 at e2 ⊢
  generalize val_main_v13 (F := Ideal) P = y3 at e3 ⊢
  pointwise
  rw [e1, e2, e3]

/-- The gradients of the projections by kind, as the reference computes them. -/
def refGrad (q : Col) (k : Fin 4) (s : Fin 2048) : EReal :=
  match k with
  | 0 => q.c s * q.du s
  | 1 => q.dc s * q.y s
  | 2 => q.du s * q.x s
  | 3 => q.g s * (q.b s * q.y s) * q.sg s + q.z s * (q.g s * (q.b s * q.y s)) * (q.sg s * (1 - q.sg s))

/-- The four projections' gradients stacked by kind. -/
theorem grad_at (k : Fin 4) : val_main_v96 (F := Ideal) P G W (ix5 b s j k l) = refGrad (col P G W b j l) k s := by
  have e0 : val_main_v79 (F := Ideal) P G W (ix3 b s (chan j l)) = _ := congrArg₂ (· * ·) (v10_at P G W b s j l) (du_at P G W b s j l)
  have e1 := db_at P G W b s j l
  have e2 : val_main_v80 (F := Ideal) P G W (ix3 b s (chan j l)) = _ := congrArg₂ (· * ·) (du_at P G W b s j l) (v4_at P G W b s j l)
  have e3 := dz_at P G W b s j l
  unfold val_main_v96 val_main_v95 val_main_v94 val_main_v93 val_main_v92 val_main_v91 val_main_v90 val_main_v89 val_main_v88 val_main_v87 val_main_v86 val_main_v85 val_main_v84 val_main_v83 val_main_v82 val_main_cst_13 val_main_cst_14 val_main_cst_15 val_main_cst_16
  generalize val_main_v79 (F := Ideal) P G W = y0 at e0 ⊢
  generalize val_main_v45 (F := Ideal) P G W = y1 at e1 ⊢
  generalize val_main_v80 (F := Ideal) P G W = y2 at e2 ⊢
  generalize val_main_v81 (F := Ideal) P G W = y3 at e3 ⊢
  unfold chan at e0 e1 e2 e3
  pointwise
  have ej : ∀ h, (⟨j.val * 128 + l.val, h⟩ : Fin 1024) = ⟨128 * j.val + l.val, by omega⟩ := fun h => Fin.ext (by dsimp only; omega)
  simp only [ej, e0, e1, e2, e3]
  fin_vals k with hk
  all_goals
    simp only [hk]
    unfold refGrad
  · obtain rfl : k = 0 := Fin.ext hk
    simp
  · obtain rfl : k = 1 := Fin.ext hk
    simp
  · obtain rfl : k = 2 := Fin.ext hk
    simp
  · obtain rfl : k = 3 := Fin.ext hk
    simp

/-- The place of an entry of the projections' gradients. -/
theorem v98_at (k : Fin 4) (i : S8192x4096.Idx) (h0 : (i 0).val = 2048 * b.val + s.val) (h1 : (i 1).val = 512 * j.val + 128 * k.val + l.val) :
    val_main_v98 (F := Ideal) P G W i = refGrad (col P G W b j l) k s := by
  refine Eq.trans ?_ (grad_at P G W b s j l k)
  idx_vars i
  unfold val_main_v98 val_main_v97
  generalize val_main_v96 (F := Ideal) P G W = y
  pointwise
  have a0 : ∀ h, (⟨i0.val / 2048, h⟩ : Fin 4) = b := fun h => Fin.ext (by dsimp only; omega)
  have a1 : ∀ h, (⟨i0.val % 2048, h⟩ : Fin 2048) = s := fun h => Fin.ext (by dsimp only; omega)
  have a2 : ∀ h, (⟨i1.val / 512, h⟩ : Fin 8) = j := fun h => Fin.ext (by dsimp only; omega)
  have a3 : ∀ h, (⟨i1.val / 128 % 4, h⟩ : Fin 4) = k := fun h => Fin.ext (by dsimp only; omega)
  have a4 : ∀ h, (⟨i1.val % 128, h⟩ : Fin 128) = l := fun h => Fin.ext (by dsimp only; omega)
  simp only [a0, a1, a2, a3, a4]

end

/-- The third tap's gradient is a sum over sequences and tokens. -/
theorem v51_at (c : Fin 1024) : val_main_v51 (F := Ideal) P G (ix1 c) = ∑ b : Fin 4, ∑ s : Fin 2048, val_main_v48 (F := Ideal) P G (ix3 b s c) := by
  unfold val_main_v51 val_main_v50 val_main_v49 val_main_cst_2 val_main_cst_1
  generalize val_main_v48 (F := Ideal) P G = y
  pointwise
  rw [sum_front]
  pointwise
  rw [sum_front]
  simp only [zero_add, Finset.univ_unique, Finset.sum_singleton]

/-- The second tap's gradient is a sum over sequences and tokens. -/
theorem v60_at (c : Fin 1024) : val_main_v60 (F := Ideal) P G (ix1 c) = ∑ b : Fin 4, ∑ s : Fin 2048, val_main_v57 (F := Ideal) P G (ix3 b s c) := by
  unfold val_main_v60 val_main_v59 val_main_v58 val_main_cst_6 val_main_cst_5
  generalize val_main_v57 (F := Ideal) P G = y
  pointwise
  rw [sum_front]
  pointwise
  rw [sum_front]
  simp only [zero_add, Finset.univ_unique, Finset.sum_singleton]

/-- The first tap's gradient is a sum over sequences and tokens. -/
theorem v71_at (c : Fin 1024) : val_main_v71 (F := Ideal) P G (ix1 c) = ∑ b : Fin 4, ∑ s : Fin 2048, val_main_v68 (F := Ideal) P G (ix3 b s c) := by
  unfold val_main_v71 val_main_v70 val_main_v69 val_main_cst_10 val_main_cst_9
  generalize val_main_v68 (F := Ideal) P G = y
  pointwise
  rw [sum_front]
  pointwise
  rw [sum_front]
  simp only [zero_add, Finset.univ_unique, Finset.sum_singleton]

/-- The taps' gradients by row, zero past the three taps. -/
theorem v76_at (r : Fin 8) (c : Fin 1024) : val_main_v76 (F := Ideal) P G (ix2 r c)
   = if r.val = 0 then val_main_v71 (F := Ideal) P G (ix1 c) else if r.val = 1 then val_main_v60 (F := Ideal) P G (ix1 c) else if r.val = 2 then val_main_v51 (F := Ideal) P G (ix1 c) else 0 := by
  unfold val_main_v76 val_main_v75 val_main_v74 val_main_v65 val_main_v64 val_main_v63 val_main_v54 val_main_v53 val_main_cst_4 val_main_cst_8 val_main_cst_12
  generalize val_main_v71 (F := Ideal) P G = y0
  generalize val_main_v60 (F := Ideal) P G = y1
  generalize val_main_v51 (F := Ideal) P G = y2
  pointwise
  fin_vals r with hr
  all_goals simp [hr]

/-- The taps' gradients, as the reference computes them. -/
theorem v76_eq : val_main_v76 (F := Ideal) P G = dW P G W := by
  funext i
  idx_vars i
  obtain ⟨j, l, rfl⟩ : ∃ j l, i1 = chan j l :=
    ⟨⟨i1.val / 128, by omega⟩, ⟨i1.val % 128, by omega⟩, Fin.ext (by show i1.val = 128 * (i1.val / 128) + i1.val % 128; omega)⟩
  rw [v76_at]
  by_cases h : i0.val < 3
  · rw [dW_at P G W _ j l ⟨i0.val, h⟩ rfl rfl]
    by_cases h0 : i0.val = 0
    · rw [if_pos h0, v71_at]
      obtain e : (⟨i0.val, h⟩ : Fin 3) = 0 := Fin.ext h0
      rw [e]
      exact Finset.sum_congr rfl fun b _ => Finset.sum_congr rfl fun s _ =>
        congrArg₂ (· * ·) (dy_at P G W b s j l) (v21_at P G W b s j l)
    · by_cases h1 : i0.val = 1
      · rw [if_neg h0, if_pos h1, v60_at]
        obtain e : (⟨i0.val, h⟩ : Fin 3) = 1 := Fin.ext h1
        rw [e]
        exact Finset.sum_congr rfl fun b _ => Finset.sum_congr rfl fun s _ =>
          congrArg₂ (· * ·) (dy_at P G W b s j l) (v27_at P G W b s j l)
      · rw [if_neg h0, if_neg h1, if_pos (by omega), v51_at]
        obtain e : (⟨i0.val, h⟩ : Fin 3) = 2 := Fin.ext (by show i0.val = 2; omega)
        rw [e]
        exact Finset.sum_congr rfl fun b _ => Finset.sum_congr rfl fun s _ =>
          congrArg₂ (· * ·) (dy_at P G W b s j l) (v34_at P G W b s j l)
  · rw [if_neg (by omega), if_neg (by omega), if_neg (by omega)]
    exact (dW_out P G W _ h).symm

end Cert.Conv

end
-- ==== Proof.ConvEq.lean ====
/- On finite arguments the kernel's results are the reference's. -/
module

public import proofs.«01_k».proof.Defs
public import proofs.«01_k».proof.Proof.ConvRef
public import proofs.«01_k».proof.Proof.Gen.KernelIdeal.Value
public import proofs.«01_k».proof.Proof.Gen.Pre_finite_conv
public import Idealize.ShloMosaic.Lib.ReduceAll

@[expose] public section

set_option maxRecDepth 16384

noncomputable section

namespace Cert.Conv

open Idealize.ShloMosaic Idealize.ShloMosaic.TcCoe Idealize.SL.Sem

/-- An extended real that is a real number. -/
def Fin' (e : EReal) : Prop := ∃ r : ℝ, e = r

/-- Sums of real numbers are real numbers. -/
theorem Fin'.add {a b : EReal} (ha : Fin' a) (hb : Fin' b) : Fin' (a + b) := by
  obtain ⟨r, rfl⟩ := ha
  obtain ⟨s, rfl⟩ := hb
  exact ⟨r + s, (EReal.coe_add r s).symm⟩

/-- Products of real numbers are real numbers. -/
theorem Fin'.mul {a b : EReal} (ha : Fin' a) (hb : Fin' b) : Fin' (a * b) := by
  obtain ⟨r, rfl⟩ := ha
  obtain ⟨s, rfl⟩ := hb
  exact ⟨r * s, (EReal.coe_mul r s).symm⟩

/-- A shifted row of real numbers is a row of real numbers. -/
theorem Fin'.back {u : Fin 2048 → EReal} (h : ∀ s, Fin' (u s)) (k : ℕ) (s : Fin 2048) : Fin' (back k u s) := by
  unfold Conv.back
  split
  · exact h _
  · exact ⟨0, EReal.coe_zero.symm⟩

/-- What has a finite absolute value is a real number. -/
theorem fin_of_abs {e : EReal} (h : max e (-e) < ⊤) : Fin' e := by
  induction e with
  | bot => exact absurd h (by simp)
  | top => exact absurd h (by simp)
  | coe r => exact ⟨r, rfl⟩

/-- A channel whose data are all real numbers. -/
structure Col.IsFin (q : Col) : Prop where
  x : ∀ s, Fin' (q.x s)
  b : ∀ s, Fin' (q.b s)
  c : ∀ s, Fin' (q.c s)
  z : ∀ s, Fin' (q.z s)
  g : ∀ s, Fin' (q.g s)
  w : ∀ k, Fin' (q.w k)

/-- The kernel's and the reference's gradients of one channel agree where the data are real numbers. -/
theorem grad_eq (q : Col) (h : q.IsFin) (k : Fin 4) (s : Fin 2048) : q.grad k s = refGrad q k s := by
  match k with
  | 0 => exact mul_comm _ _
  | 1 => rfl
  | 2 => rfl
  | 3 =>
    have hu : ∀ s, Fin' (q.u s) := fun s => (h.c s).mul (h.x s)
    have hy : Fin' (q.y s) := (((h.w 0).mul (Fin'.back hu 2 s)).add ((h.w 1).mul (Fin'.back hu 1 s))).add ((h.w 2).mul (hu s))
    obtain ⟨t, ht⟩ := (h.g s).mul ((h.b s).mul hy)
    obtain ⟨z, hz⟩ := h.z s
    show q.g s * (q.b s * q.y s) * (q.sg s * (1 + q.z s * (1 - q.sg s)))
      = q.g s * (q.b s * q.y s) * q.sg s + q.z s * (q.g s * (q.b s * q.y s)) * (q.sg s * (1 - q.sg s))
    rw [ht]
    unfold Col.sg
    rw [hz, Ideal.logistic_coe]
    norm_cast
    ring

/-- A conjunction of bits is one where both are. -/
theorem both {a b : BitVec 1} : IntOp.andi a b = 1#1 ↔ a = 1#1 ∧ b = 1#1 := by
  revert a b
  decide

variable (P : FVec Ideal Cert.Pre_finite_conv.S8192x4096 .bf16) (G : FVec Ideal Cert.Pre_finite_conv.S8192x1024 .f32) (W : FVec Ideal Cert.Pre_finite_conv.S8x1024 .f32)

/-- An entry that passes the comparison with infinity is a real number. -/
theorem fin_of_bit {e : EReal} (h : BitVec.ofBool (decide (FloatOps.absf (F := Ideal) (φ := .f32) e < Ideal.ofBits FTy.f32 2139095040#32)) = 1#1) : Fin' e := by
  refine fin_of_abs ?_
  have e' : Ideal.ofBits FTy.f32 2139095040#32 = ⊤ := by simp [Ideal.ofBits, Ideal.ieee]
  rw [e'] at h
  by_contra hn
  have : decide (FloatOps.absf (F := Ideal) (φ := .f32) e < ⊤) = false := decide_eq_false hn
  rw [this] at h
  exact absurd h (by decide)

/-- The precondition, entry by entry. -/
theorem fin_of_pre (h : Cert.Pre_finite_conv.fn (F := Ideal) P G W = fun _ => 1#1) : (∀ i, Fin' (P i)) ∧ (∀ i, Fin' (G i)) ∧ (∀ i, Fin' (W i)) := by
  have h0 := congrFun h (fun a => a.elim0)
  unfold Cert.Pre_finite_conv.fn at h0
  dsimp only at h0
  obtain ⟨h12, h3⟩ := both.mp h0
  obtain ⟨h1, h2⟩ := both.mp h12
  refine ⟨fun i => ?_, fun i => ?_, fun i => ?_⟩
  · have e := Host.reduce_andi_all _ _ _ _ _ h1 i
    pointwise at e
    exact fin_of_bit e
  · have e := Host.reduce_andi_all _ _ _ _ _ h2 i
    pointwise at e
    exact fin_of_bit e
  · have e := Host.reduce_andi_all _ _ _ _ _ h3 i
    pointwise at e
    exact fin_of_bit e

/-- A channel of real arrays is real. -/
theorem col_fin (h : (∀ i, Fin' (P i)) ∧ (∀ i, Fin' (G i)) ∧ (∀ i, Fin' (W i))) (b : Fin 4) (j : Fin 8) (l : Fin 128) : (col P G W b j l).IsFin :=
  ⟨fun _ => h.1 _, fun _ => h.1 _, fun _ => h.1 _, fun _ => h.1 _, fun _ => h.2.1 _, fun _ => h.2.2 _⟩

/-- The reference's gradients of the projections are the kernel's. -/
theorem v98_eq (h : Cert.Pre_finite_conv.fn (F := Ideal) P G W = fun _ => 1#1) :
    Cert.ReferenceIdeal.Read.val_main_v98 (F := Ideal) P G W = dP P G W := by
  have hf := fin_of_pre P G W h
  funext i
  have h0 : (i 0).val < 8192 := (i 0).isLt
  have h1 : (i 1).val < 4096 := (i 1).isLt
  rw [v98_at P G W ⟨(i 0).val / 2048, by omega⟩ ⟨(i 0).val % 2048, by omega⟩ ⟨(i 1).val / 512, by omega⟩ ⟨(i 1).val % 128, by omega⟩
    ⟨(i 1).val / 128 % 4, by omega⟩ i (by dsimp only; omega) (by dsimp only; omega)]
  exact (grad_eq _ (col_fin P G W hf _ _ _) _ _).symm

/-- The claim of equal results. -/
theorem algebraic : Cert.algebraic_KernelIdeal_ReferenceIdeal_pre_finite_conv := by
  intro m g m' g' hpre hagree
  refine ⟨_, _, Cert.KernelIdeal.Value.run_blocks (F := Ideal) m g, ?_⟩
  refine (θ_run _ _ _).mono (fun r h c => ?_) (Cert.ReferenceIdeal.Value.run (F := Ideal) m' g')
  obtain ⟨e0, e1, e2⟩ := hagree c
  refine ⟨((h c).1.trans (Cert.ReferenceIdeal.Read.val_main_v98_eq m' c)).trans ?_,
    ((h c).2.1.trans (Cert.ReferenceIdeal.Read.val_main_v76_eq m' c)).trans ?_, (h c).2.2⟩
  · rw [final3, e0, e1, e2]
    exact v98_eq _ _ _ (hpre c)
  · rw [final4, e0, e1, v76_eq _ _ (m ((c.tc : Thread _ _).loc Cert.KernelIdeal.main_arg2))]

end Cert.Conv

end
-- ==== Proof.MergeRuns.lean ====
/- The set-up of the run of the merge kernel: windows, blocks, conditions, invariant. -/
module

public import proofs.«01_k».proof.Proof.Gen.MergeIdeal.Launch
public import proofs.«01_k».proof.Proof.Gen.MergeIdeal.Skeleton
public import proofs.«01_k».proof.Proof.Gen.MergeIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Argument 0 is as launched. -/
theorem V_main_arg0 (c : Dev nD) : V m c main_arg0 = m ((c : Thread nD τ).loc main_arg0) := rfl
/-- Argument 1 is as launched. -/
theorem V_main_arg1 (c : Dev nD) : V m c main_arg1 = m ((c : Thread nD τ).loc main_arg1) := rfl
/-- Argument 2 is as launched. -/
theorem V_main_arg2 (c : Dev nD) : V m c main_arg2 = m ((c : Thread nD τ).loc main_arg2) := rfl
/-- Argument 3 is as launched. -/
theorem V_main_arg3 (c : Dev nD) : V m c main_arg3 = m ((c : Thread nD τ).loc main_arg3) := rfl
/-- Argument 4 is as launched. -/
theorem V_main_arg4 (c : Dev nD) : V m c main_arg4 = m ((c : Thread nD τ).loc main_arg4) := rfl
/-- Argument 5 is as launched. -/
theorem V_main_arg5 (c : Dev nD) : V m c main_arg5 = m ((c : Thread nD τ).loc main_arg5) := rfl
/-- Argument 6 is as launched. -/
theorem V_main_arg6 (c : Dev nD) : V m c main_arg6 = m ((c : Thread nD τ).loc main_arg6) := rfl
/-- Argument 7 is as launched. -/
theorem V_main_arg7 (c : Dev nD) : V m c main_arg7 = m ((c : Thread nD τ).loc main_arg7) := rfl
/-- Argument 8 is as launched. -/
theorem V_main_arg8 (c : Dev nD) : V m c main_arg8 = m ((c : Thread nD τ).loc main_arg8) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MergeIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 6).trans (((dats 0 c).arrAt_in 6 rfl _).trans ((hA c 6).trans (V_main_arg8 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 7, through which its contents are stated (`View.read_writes_of_cover`: the
    choice does not matter). -/
abbrev VO0_7 : View sig .tc .vmem S512x1024 .f32 := (Memref.whole cc0_stg7_0 : Memref sig .tc .vmem S512x1024 .f32).view
/-- One staging buffer of output window 8, through which its contents are stated (`View.read_writes_of_cover`: the
    choice does not matter). -/
abbrev VO0_8 : View sig .tc .vmem S512x1024 .f32 := (Memref.whole cc0_stg8_0 : Memref sig .tc .vmem S512x1024 .f32).view
/-- One staging buffer of output window 9, through which its contents are stated (`View.read_writes_of_cover`: the
    choice does not matter). -/
abbrev VO0_9 : View sig .tc .vmem S512x1024 .f32 := (Memref.whole cc0_stg9_0 : Memref sig .tc .vmem S512x1024 .f32).view
/-- One staging buffer of output window 10, through which its contents are stated (`View.read_writes_of_cover`: the
    choice does not matter). -/
abbrev VO0_10 : View sig .tc .vmem S512x2048 .bf16 := (Memref.whole cc0_stg10_0 : Memref sig .tc .vmem S512x2048 .bf16).view
/-- One staging buffer of output window 11, through which its contents are stated (`View.read_writes_of_cover`: the
    choice does not matter). -/
abbrev VO0_11 : View sig .tc .vmem S512x4096 .bf16 := (Memref.whole cc0_stg11_0 : Memref sig .tc .vmem S512x4096 .bf16).view
/-- One staging buffer of output window 12, through which its contents are stated (`View.read_writes_of_cover`: the
    choice does not matter). -/
abbrev VO0_12 : View sig .tc .vmem S8x1024 .f32 := (Memref.whole cc0_stg12_0 : Memref sig .tc .vmem S8x1024 .f32).view
/-- Each window's current staging memref at point `t`, spelled as the pipeline passes it (`bodyAt0`), and its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x4096 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x1024 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S3x1024x1024 .bf16 := Memref.whole cc0_scratch0
/-- The scratch `arg16` the kernel carries between points, as a view: what it holds is stated through it. -/
abbrev VS0_0 : View sig .tc .vmem S3x1024x1024 .bf16 := scM0_0.view
/-- The operands left in HBM that the body copies into scratch itself, whole. -/
abbrev hbM0_0 : Memref sig .tc .hbm S3x1024x1024 .bf16 := Memref.whole main_arg6
abbrev hbM0_1 : Memref sig .tc .hbm S3x256x1024 .bf16 := Memref.whole main_arg7
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 23] : Fin 1 → SemLoc sig) j
/-- The body's own counter belongs to no window. -/
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 23) 0) := by
  rw [Pipeline.ownSems0_eq_of_list c osem0 [0] (by decide) (by decide)]; rfl
/-- The HBM operands the body moves, as references: unscoped, no window's array (`Pipeline.restRefs`). -/
def H0 : Finset (Ref sig .tc) := {main_arg6, main_arg7}
/-- The moved operands are not arrays of windows. -/
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg6) ∗ hbPt0 c hbM0_1 (V m c main_arg7)) := by
  rw [BI.bigSep_eq_bigSepL_of_eq [main_arg6, main_arg7] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 23) 0) ∗ iprop(hbPt0 c hbM0_0 (V m c main_arg6) ∗ hbPt0 c hbM0_1 (V m c main_arg7))) := by
  rw [Pipeline.ΦD_eq, scopedRest0_eq, ownSems00_eq, hbmPts0_eq]; simp only [scM0_0, owns_whole]; try rfl

end Cert.MergeIdeal.Hand

end
-- ==== Proof.MergeRunA.lean ====
/- The body's run at the first grid point. -/
module

public import proofs.«01_k».proof.Proof.MergeRuns
public import Idealize.ShloMosaic.Lib.VecWindow
public import Idealize.ShloMosaic.Lib.ValueIdxCore

@[expose] public section

-- membership in a rectangle of production extents (`View.cover_of_tiled`): the elaborator's structural look
-- recurses once per coordinate of the long axes
set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
/-- The one index of the array that holds the shard's number. -/
theorem one_word (y : S1.Idx) : y = Idealize.ShloMosaic.ValueIdx.ix1 0 :=
  funext fun a => by
    obtain ⟨a, ha⟩ := a
    obtain rfl : a = 0 := by change a < 1 at ha; omega
    exact Fin.ext (by have : (y ⟨0, ha⟩).val < 1 := (y ⟨0, ha⟩).isLt; show (y ⟨0, ha⟩).val = 0; omega)

/-- The weights the body multiplies by: the stacked matrices `f0` with this shard's own rows `f1` put over them where the shard's number says. -/
def weights (wd : Elt F .i32) (f0 : Vec F S3x1024x1024 .bf16) (f1 : Vec F S3x256x1024 .bf16) : Vec F S3x1024x1024 .bf16 :=
  VecWindow.put f0 (k0_off1 wd) S3x256x1024.size f1

/-- Writing `w1` through a window of a buffer that holds `w0` leaves the buffer at `w0` with the window put over it. -/
theorem rows_put (mm : Memref sig .tc .vmem S3x1024x1024 .bf16) (h : mm.IsWhole) (f : mm.view.ty.Contents (Elt F))
    (w0 : Vec F S3x1024x1024 .bf16) (off : Fin 3 → ℕ) (inb : ∀ a, off a + S3x256x1024.size a ≤ S3x1024x1024.size a)
    (hz) (w1 : Vec F S3x256x1024 .bf16) :
    View.write (Elt F) (mm.slice (Rect.unit off S3x256x1024.size inb) hz).view
        (mm.view.writes (Elt F) f [⟨Rect.whole S3x1024x1024, w0⟩]) w1 Finset.univ
      = h.unread (VecWindow.put w0 off S3x256x1024.size w1) := by
  refine h.eq_unread (funext fun y => ?_)
  refine (View.read_writes_cons_unit mm.view f inb w1 [⟨Rect.whole S3x1024x1024, w0⟩] y rfl).trans ?_
  rw [View.read_writes_whole]
  rfl

set_option maxHeartbeats 1000000 in
/-- The body at the first grid point, run once: what its stores leave in each output, and the proof that it runs.  It copies the weights into
    scratch, puts this shard's rows over them, and goes on with them; the inputs, the copied operands and the counter are left as they were. -/
noncomputable def kernelRun0_A (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg9 : Memref sig .tc .smem S1 .i32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x2048 .bf16) (harg13 : arg13.IsWhole) (arg14 : Memref sig .tc .vmem S512x4096 .bf16) (harg14 : arg14.IsWhole) (arg15 : Memref sig .tc .vmem S8x1024 .f32) (harg15 : arg15.IsWhole) (arg16 : Memref sig .tc .vmem S3x1024x1024 .bf16) (harg16 : arg16.IsWhole) (hc0 : cond0_0 i)
    (x0 : Vec F S512x1024 .bf16) (x1 : Vec F S512x1024 .bf16) (x2 : Vec F S512x2048 .bf16) (x3 : Vec F S512x1024 .f32) (x4 : Vec F S512x1024 .f32) (x5 : Vec F S1x1024 .f32) (x6 : Vec F S1 .i32) (fh0 : HbBuf0 (F := F) c hbM0_0) (fh1 : HbBuf0 (F := F) c hbM0_1) (hw : ∀ y, k0_chk1 i (x6 y)) :
    Σ' (L7 : List (View.Piece (Elt F) S512x1024 .f32)), Σ' (L8 : List (View.Piece (Elt F) S512x1024 .f32)), Σ' (L9 : List (View.Piece (Elt F) S512x1024 .f32)), Σ' (L10 : List (View.Piece (Elt F) S512x2048 .bf16)), Σ' (L11 : List (View.Piece (Elt F) S512x4096 .bf16)), { L12 : List (View.Piece (Elt F) S8x1024 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ semVal ((c : Thread nD τ), SemLoc.dma 23) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ owns (c : Thread nD τ) arg16 fullShare (weights (x6 (Idealize.ShloMosaic.ValueIdx.ix1 0)) (hbM0_0.view.read (Elt F) fh0) (hbM0_1.view.read (Elt F) fh1)) ∗ semVal ((c : Thread nD τ), SemLoc.dma 23) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_merge i arg1 harg1 arg2 harg2 arg3 harg3 arg4 harg4 arg5 harg5 arg6 harg6 (Memref.whole main_arg6) (Memref.isWhole_whole _) (Memref.whole main_arg7) (Memref.isWhole_whole _) arg9 harg9 arg10 harg10 arg11 harg11 arg12 harg12 arg13 harg13 arg14 harg14 arg15 harg15 arg16 harg16 cc0_scratch1) K } := by
  refine ⟨?_, ?_, ?_, ?_, ?_, ?_, fun W K => ?run⟩
  case run =>
    simp only [cc0_merge_eq_skeleton]; unfold cc0_merge_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, H12, ⟨%ds0, %fs0, -, HS0⟩, Hq0, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf6
    sl_exec (disch := first | sl_exact hc0 | (unfold kernelRun0_A.sl.r; simp only [View.readAt_apply, Memref.IsWhole.read_unread]; exact hw _))
    unfold kernelRun0_A.sl.HS0_w1
    rw [rows_put _ harg16]
    rw [show VecWindow.put (kernelRun0_A.sl.dma0 c fh0) (k0_off1 (kernelRun0_A.sl.r c arg9 harg9 x6)) S3x256x1024.size (kernelRun0_A.sl.dma1 c fh1)
        = weights (x6 (Idealize.ShloMosaic.ValueIdx.ix1 0)) (hbM0_0.view.read (Elt F) fh0) (hbM0_1.view.read (Elt F) fh1) from by
      rw [show kernelRun0_A.sl.r c arg9 harg9 x6 = x6 (Idealize.ShloMosaic.ValueIdx.ix1 0) from by
        unfold kernelRun0_A.sl.r
        simp only [View.readAt_apply, Memref.IsWhole.read_unread]
        exact congrArg x6 (one_word _)]
      unfold kernelRun0_A.sl.dma0 kernelRun0_A.sl.dma1 weights
      rfl]
    icases H12 with ⟨%d12, %f12, -, H12⟩
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _; isplitr; · ipureintro; exact harg16.read_unread _
      iexact HS0
    isplitl [Hq0]; · iexact Hq0
    isplitl [Hh0]; · iexact Hh0
    isplitl [Hh1]; · iexact Hh1
    iexists _; iexact HW

end Cert.MergeIdeal.Hand

end
-- ==== Proof.MergeRunB.lean ====
/- The body's run at every later grid point. -/
module

public import proofs.«01_k».proof.Proof.MergeRunA

@[expose] public section

-- membership in a rectangle of production extents (`View.cover_of_tiled`): the elaborator's structural look
-- recurses once per coordinate of the long axes
set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at a later grid point, run once: what its stores leave in each output, and the proof that it runs.  It reads the weights the scratch
    holds and adds to the row sums it finds; the inputs, the scratch and the counter are left as they were. -/
noncomputable def kernelRun0_B (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg9 : Memref sig .tc .smem S1 .i32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x2048 .bf16) (harg13 : arg13.IsWhole) (arg14 : Memref sig .tc .vmem S512x4096 .bf16) (harg14 : arg14.IsWhole) (arg15 : Memref sig .tc .vmem S8x1024 .f32) (harg15 : arg15.IsWhole) (arg16 : Memref sig .tc .vmem S3x1024x1024 .bf16) (harg16 : arg16.IsWhole) (hc0 : ¬cond0_0 i)
    (x0 : Vec F S512x1024 .bf16) (x1 : Vec F S512x1024 .bf16) (x2 : Vec F S512x2048 .bf16) (x3 : Vec F S512x1024 .f32) (x4 : Vec F S512x1024 .f32) (x5 : Vec F S1x1024 .f32) (x6 : Vec F S1 .i32) (xo12 : Vec F S8x1024 .f32) (xs0 : Vec F S3x1024x1024 .bf16) (fh0 : HbBuf0 (F := F) c hbM0_0) (fh1 : HbBuf0 (F := F) c hbM0_1) :
    Σ' (L7 : List (View.Piece (Elt F) S512x1024 .f32)), Σ' (L8 : List (View.Piece (Elt F) S512x1024 .f32)), Σ' (L9 : List (View.Piece (Elt F) S512x1024 .f32)), Σ' (L10 : List (View.Piece (Elt F) S512x2048 .bf16)), Σ' (L11 : List (View.Piece (Elt F) S512x4096 .bf16)), Σ' (L12 : List (View.Piece (Elt F) S8x1024 .f32)), { LS0 : List (View.Piece (Elt F) S3x1024x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xo12 ∗ owns (c : Thread nD τ) arg16 fullShare xs0 ∗ semVal ((c : Thread nD τ), SemLoc.dma 23) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (arg15.view.loc (c : Thread nD τ) ↦[arg15.view.set]{fullShare} arg15.view.writes (Elt F) (harg15.unread xo12) L12) ∗ owns (c : Thread nD τ) arg16 fullShare xs0 ∗ semVal ((c : Thread nD τ), SemLoc.dma 23) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_merge i arg1 harg1 arg2 harg2 arg3 harg3 arg4 harg4 arg5 harg5 arg6 harg6 (Memref.whole main_arg6) (Memref.isWhole_whole _) (Memref.whole main_arg7) (Memref.isWhole_whole _) arg9 harg9 arg10 harg10 arg11 harg11 arg12 harg12 arg13 harg13 arg14 harg14 arg15 harg15 arg16 harg16 cc0_scratch1) K } := by
  refine ⟨?_, ?_, ?_, ?_, ?_, ?_, [], fun W K => ?run⟩
  case run =>
    simp only [cc0_merge_eq_skeleton]; unfold cc0_merge_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%fs0, %hfs0, HS0⟩, Hq0, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf6; obtain rfl := harg15.eq_unread hf12; obtain rfl := harg16.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexact H12
    isplitl [HS0]
    · iexists _; isplitr; · ipureintro; exact harg16.read_unread _
      iexact HS0
    isplitl [Hq0]; · iexact Hq0
    isplitl [Hh0]; · iexact Hh0
    isplitl [Hh1]; · iexact Hh1
    iexists _; iexact HW

end Cert.MergeIdeal.Hand

end
-- ==== Proof.MergeFrame.lean ====
/- The merge kernel's frame: what each grid point leaves, and the whole launch. -/
module

public import proofs.«01_k».proof.Proof.MergeRunA
public import proofs.«01_k».proof.Proof.MergeRunB
public import Idealize.ShloMosaic.Lib.Claim

@[expose] public section

-- membership in a rectangle of production extents (`View.cover_of_tiled`): the elaborator's structural look
-- recurses once per coordinate of the long axes
set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first grid point is the one at which the weights are copied in. -/
theorem first_iff (t : Fin cfg0.N) : cond0_0 (grid0.coords t) ↔ t.val = 0 := by
  have hN : t.val < 16 := lt_of_lt_of_eq t.isLt (show cfg0.N = 16 from N_0)
  rw [hcond0_0]; omega

/-- The shard's number, as each point's copy of it holds it, is one the program's own check lets pass. -/
def ShardOk : Prop := ∀ (c : Dev nD) (t : Fin cfg0.N) (y : S1.Idx), k0_chk1 (grid0.coords t) (iblk m c 6 t y)

variable (hok : ShardOk m)

/-- The first grid point. -/
abbrev pt0 : Fin cfg0.N := ⟨0, by rw [show cfg0.N = 16 from N_0]; omega⟩

/-- The weights every point multiplies by, assembled at the first one. -/
def wts (c : Dev nD) : Vec F S3x1024x1024 .bf16 :=
  weights (iblk m c 6 pt0 (Idealize.ShloMosaic.ValueIdx.ix1 0)) (hbM0_0.view.read (Elt F) (V m c main_arg6)) (hbM0_1.view.read (Elt F) (V m c main_arg7))

/-- The run at the first point, at that point's blocks. -/
def runA (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((first_iff t).mpr h) (iblk m c 0 t) (iblk m c 1 t) (iblk m c 2 t) (iblk m c 3 t) (iblk m c 4 t) (iblk m c 5 t) (iblk m c 6 t) (V m c main_arg6) (V m c main_arg7) (hok c t)

/-- The run at a later point, at that point's blocks, over the row sums `x12` so far. -/
def runB (c : Dev nD) (t : Fin cfg0.N) (h : t.val ≠ 0) (x12 : Vec F S8x1024 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun e => h ((first_iff t).mp e)) (iblk m c 0 t) (iblk m c 1 t) (iblk m c 2 t) (iblk m c 3 t) (iblk m c 4 t) (iblk m c 5 t) (iblk m c 6 t) x12 (wts m c) (V m c main_arg6) (V m c main_arg7)

/-- The row sums after the first point. -/
def smallA (c : Dev nD) (t : Fin cfg0.N) (h : t.val = 0) : Vec F S8x1024 .f32 :=
  VO0_12.read (Elt F) (VO0_12.writes (Elt F) VO0_12.junk (runA m hok c t h).2.2.2.2.2.1)

/-- The row sums after a later point, over those before it. -/
def smallB (c : Dev nD) (t : Fin cfg0.N) (h : t.val ≠ 0) (x12 : Vec F S8x1024 .f32) : Vec F S8x1024 .f32 :=
  (ms0_12 t).view.read (Elt F) ((ms0_12 t).view.writes (Elt F) ((hs0_12 t).unread x12) (runB m c t h x12).2.2.2.2.2.1)

/-- The row sums after the body at position `n`. -/
def smallAt (c : Dev nD) : (n : ℕ) → n < cfg0.N → Vec F S8x1024 .f32
  | 0, hn => smallA m hok c ⟨0, hn⟩ rfl
  | n + 1, hn => smallB m c ⟨n + 1, hn⟩ (Nat.succ_ne_zero n) (smallAt c n (Nat.lt_of_succ_lt hn))

/-- The row sums before a point that is not the first. -/
abbrev smallPrev (c : Dev nD) (t : Fin cfg0.N) : Vec F S8x1024 .f32 := smallAt m hok c (t.val - 1) (Nat.lt_of_le_of_lt (Nat.sub_le _ _) t.isLt)

/-- The row sums after the first point. -/
theorem smallAt_A (c : Dev nD) (t : Fin cfg0.N) (h : t.val = 0) :
    smallAt m hok c t.val t.isLt = smallA m hok c t h := by
  obtain ⟨n, hn⟩ := t
  cases n with
  | zero => rfl
  | succ n => exact absurd h (Nat.succ_ne_zero n)

/-- The row sums after a later point. -/
theorem smallAt_B (c : Dev nD) (t : Fin cfg0.N) (h : t.val ≠ 0) :
    smallAt m hok c t.val t.isLt = smallB m c t h (smallPrev m hok c t) := by
  obtain ⟨n, hn⟩ := t
  cases n with
  | zero => exact absurd rfl h
  | succ n => rfl

/-- What the body leaves in output 7 at point `t`. -/
def out7 (c : Dev nD) (t : Fin cfg0.N) : Vec F S512x1024 .f32 :=
  if h : t.val = 0 then VO0_7.read (Elt F) (VO0_7.writes (Elt F) VO0_7.junk (runA m hok c t h).1)
  else VO0_7.read (Elt F) (VO0_7.writes (Elt F) VO0_7.junk (runB m c t h (smallPrev m hok c t)).1)

/-- The first point's stores cover output 7's block. -/
theorem coverA_7 (c : Dev nD) (t : Fin cfg0.N) (h : t.val = 0) (y : S512x1024.Idx) : ∃ pc ∈ (runA m hok c t h).1, y ∈ pc.1.set :=
  View.cover_of_tiledL (runA m hok c t h).1 S512x1024.size (by sl_kernel_rfl) y

/-- A later point's stores cover output 7's block. -/
theorem coverB_7 (c : Dev nD) (t : Fin cfg0.N) (h : t.val ≠ 0) (x12 : Vec F S8x1024 .f32) (y : S512x1024.Idx) : ∃ pc ∈ (runB m c t h x12).1, y ∈ pc.1.set :=
  View.cover_of_tiledL (runB m c t h x12).1 S512x1024.size (by sl_kernel_rfl) y

/-- What the body leaves in output 8 at point `t`. -/
def out8 (c : Dev nD) (t : Fin cfg0.N) : Vec F S512x1024 .f32 :=
  if h : t.val = 0 then VO0_8.read (Elt F) (VO0_8.writes (Elt F) VO0_8.junk (runA m hok c t h).2.1)
  else VO0_8.read (Elt F) (VO0_8.writes (Elt F) VO0_8.junk (runB m c t h (smallPrev m hok c t)).2.1)

/-- The first point's stores cover output 8's block. -/
theorem coverA_8 (c : Dev nD) (t : Fin cfg0.N) (h : t.val = 0) (y : S512x1024.Idx) : ∃ pc ∈ (runA m hok c t h).2.1, y ∈ pc.1.set :=
  View.cover_of_tiledL (runA m hok c t h).2.1 S512x1024.size (by sl_kernel_rfl) y

/-- A later point's stores cover output 8's block. -/
theorem coverB_8 (c : Dev nD) (t : Fin cfg0.N) (h : t.val ≠ 0) (x12 : Vec F S8x1024 .f32) (y : S512x1024.Idx) : ∃ pc ∈ (runB m c t h x12).2.1, y ∈ pc.1.set :=
  View.cover_of_tiledL (runB m c t h x12).2.1 S512x1024.size (by sl_kernel_rfl) y

/-- What the body leaves in output 9 at point `t`. -/
def out9 (c : Dev nD) (t : Fin cfg0.N) : Vec F S512x1024 .f32 :=
  if h : t.val = 0 then VO0_9.read (Elt F) (VO0_9.writes (Elt F) VO0_9.junk (runA m hok c t h).2.2.1)
  else VO0_9.read (Elt F) (VO0_9.writes (Elt F) VO0_9.junk (runB m c t h (smallPrev m hok c t)).2.2.1)

/-- The first point's stores cover output 9's block. -/
theorem coverA_9 (c : Dev nD) (t : Fin cfg0.N) (h : t.val = 0) (y : S512x1024.Idx) : ∃ pc ∈ (runA m hok c t h).2.2.1, y ∈ pc.1.set :=
  View.cover_of_tiledL (runA m hok c t h).2.2.1 S512x1024.size (by sl_kernel_rfl) y

/-- A later point's stores cover output 9's block. -/
theorem coverB_9 (c : Dev nD) (t : Fin cfg0.N) (h : t.val ≠ 0) (x12 : Vec F S8x1024 .f32) (y : S512x1024.Idx) : ∃ pc ∈ (runB m c t h x12).2.2.1, y ∈ pc.1.set :=
  View.cover_of_tiledL (runB m c t h x12).2.2.1 S512x1024.size (by sl_kernel_rfl) y

/-- What the body leaves in output 10 at point `t`. -/
def out10 (c : Dev nD) (t : Fin cfg0.N) : Vec F S512x2048 .bf16 :=
  if h : t.val = 0 then VO0_10.read (Elt F) (VO0_10.writes (Elt F) VO0_10.junk (runA m hok c t h).2.2.2.1)
  else VO0_10.read (Elt F) (VO0_10.writes (Elt F) VO0_10.junk (runB m c t h (smallPrev m hok c t)).2.2.2.1)

/-- The first point's stores cover output 10's block. -/
theorem coverA_10 (c : Dev nD) (t : Fin cfg0.N) (h : t.val = 0) (y : S512x2048.Idx) : ∃ pc ∈ (runA m hok c t h).2.2.2.1, y ∈ pc.1.set :=
  View.cover_of_tiledL (runA m hok c t h).2.2.2.1 S512x1024.size (by sl_kernel_rfl) y

/-- A later point's stores cover output 10's block. -/
theorem coverB_10 (c : Dev nD) (t : Fin cfg0.N) (h : t.val ≠ 0) (x12 : Vec F S8x1024 .f32) (y : S512x2048.Idx) : ∃ pc ∈ (runB m c t h x12).2.2.2.1, y ∈ pc.1.set :=
  View.cover_of_tiledL (runB m c t h x12).2.2.2.1 S512x1024.size (by sl_kernel_rfl) y

/-- What the body leaves in output 11 at point `t`. -/
def out11 (c : Dev nD) (t : Fin cfg0.N) : Vec F S512x4096 .bf16 :=
  if h : t.val = 0 then VO0_11.read (Elt F) (VO0_11.writes (Elt F) VO0_11.junk (runA m hok c t h).2.2.2.2.1)
  else VO0_11.read (Elt F) (VO0_11.writes (Elt F) VO0_11.junk (runB m c t h (smallPrev m hok c t)).2.2.2.2.1)

/-- The first point's stores cover output 11's block. -/
theorem coverA_11 (c : Dev nD) (t : Fin cfg0.N) (h : t.val = 0) (y : S512x4096.Idx) : ∃ pc ∈ (runA m hok c t h).2.2.2.2.1, y ∈ pc.1.set :=
  View.cover_of_tiledL (runA m hok c t h).2.2.2.2.1 S512x1024.size (by sl_kernel_rfl) y

/-- A later point's stores cover output 11's block. -/
theorem coverB_11 (c : Dev nD) (t : Fin cfg0.N) (h : t.val ≠ 0) (x12 : Vec F S8x1024 .f32) (y : S512x4096.Idx) : ∃ pc ∈ (runB m c t h x12).2.2.2.2.1, y ∈ pc.1.set :=
  View.cover_of_tiledL (runB m c t h x12).2.2.2.2.1 S512x1024.size (by sl_kernel_rfl) y

/-- The first point's stores cover the block of row sums. -/
theorem coverA_12 (c : Dev nD) (t : Fin cfg0.N) (h : t.val = 0) (y : S8x1024.Idx) : ∃ pc ∈ (runA m hok c t h).2.2.2.2.2.1, y ∈ pc.1.set :=
  View.cover_of_tiledBy (runA m hok c t h).2.2.2.2.2.1 ![1, 1024] (by sl_kernel_rfl) y

/-- The invariant before position `n`: before the first point everything as launched, afterwards the scratch holding the weights. -/
def PhiS (c : Dev nD) : ℕ → sProp 𝕄
  | 0 => Pipeline.ΦD osem0 spec0 H0 (V m) c
  | _ + 1 => iprop(iprop(owns (c : Thread nD τ) scM0_0 fullShare (wts m c)) ∗ (∃ r, prngReg c r) ∗ iprop(semVal ((c : Thread nD τ), SemLoc.dma 23) 0) ∗ iprop(hbPt0 c hbM0_0 (V m c main_arg6) ∗ hbPt0 c hbM0_1 (V m c main_arg7)))

/-- The invariant before the first point. -/
theorem PhiS_zero (c : Dev nD) (n : ℕ) (hz : n = 0) : PhiS m c n = Pipeline.ΦD osem0 spec0 H0 (V m) c := by
  subst hz; rfl

/-- The invariant before a later point. -/
theorem PhiS_pos (c : Dev nD) (n : ℕ) (hz : n ≠ 0) :
    PhiS m c n = iprop(iprop(owns (c : Thread nD τ) scM0_0 fullShare (wts m c)) ∗ (∃ r, prngReg c r) ∗ iprop(semVal ((c : Thread nD τ), SemLoc.dma 23) 0) ∗ iprop(hbPt0 c hbM0_0 (V m c main_arg6) ∗ hbPt0 c hbM0_1 (V m c main_arg7))) := by
  cases n with
  | zero => exact absurd rfl hz
  | succ n => rfl

/-- The launch's proof data: the arrays as launched; after each point an input's buffer at its block, an output's at what the body leaves; the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m hok c t
    | ⟨8, _⟩ => out8 m hok c t
    | ⟨9, _⟩ => out9 m hok c t
    | ⟨10, _⟩ => out10 m hok c t
    | ⟨11, _⟩ => out11 m hok c t
    | ⟨12, _⟩ => smallAt m hok c t.val t.isLt
  Φ t := PhiS m c t.val
  q _ := fullShare
  owed _ := 0

/-- The proof data's arrays are the launched ones. -/
theorem A_eq (c : Dev nD) (w : Fin cfg0.W) : (dats m hok 0 c).A w = V m c (Pipeline.arrRef spec0 w) := by
  dsimp only [dats]

/-- Input window 0 holds its block after a point. -/
theorem after_0 (c : Dev nD) (t : Fin cfg0.N) : (dats m hok 0 c).after 0 t = iblk m c 0 t := by dsimp only [dats]
/-- Input window 1 holds its block after a point. -/
theorem after_1 (c : Dev nD) (t : Fin cfg0.N) : (dats m hok 0 c).after 1 t = iblk m c 1 t := by dsimp only [dats]
/-- Input window 2 holds its block after a point. -/
theorem after_2 (c : Dev nD) (t : Fin cfg0.N) : (dats m hok 0 c).after 2 t = iblk m c 2 t := by dsimp only [dats]
/-- Input window 3 holds its block after a point. -/
theorem after_3 (c : Dev nD) (t : Fin cfg0.N) : (dats m hok 0 c).after 3 t = iblk m c 3 t := by dsimp only [dats]
/-- Input window 4 holds its block after a point. -/
theorem after_4 (c : Dev nD) (t : Fin cfg0.N) : (dats m hok 0 c).after 4 t = iblk m c 4 t := by dsimp only [dats]
/-- Input window 5 holds its block after a point. -/
theorem after_5 (c : Dev nD) (t : Fin cfg0.N) : (dats m hok 0 c).after 5 t = iblk m c 5 t := by dsimp only [dats]
/-- Input window 6 holds its block after a point. -/
theorem after_6 (c : Dev nD) (t : Fin cfg0.N) : (dats m hok 0 c).after 6 t = iblk m c 6 t := by dsimp only [dats]
/-- Output window 7 holds what the point computes. -/
theorem after_7 (c : Dev nD) (t : Fin cfg0.N) : (dats m hok 0 c).after 7 t = out7 m hok c t := by dsimp only [dats]
/-- Output window 8 holds what the point computes. -/
theorem after_8 (c : Dev nD) (t : Fin cfg0.N) : (dats m hok 0 c).after 8 t = out8 m hok c t := by dsimp only [dats]
/-- Output window 9 holds what the point computes. -/
theorem after_9 (c : Dev nD) (t : Fin cfg0.N) : (dats m hok 0 c).after 9 t = out9 m hok c t := by dsimp only [dats]
/-- Output window 10 holds what the point computes. -/
theorem after_10 (c : Dev nD) (t : Fin cfg0.N) : (dats m hok 0 c).after 10 t = out10 m hok c t := by dsimp only [dats]
/-- Output window 11 holds what the point computes. -/
theorem after_11 (c : Dev nD) (t : Fin cfg0.N) : (dats m hok 0 c).after 11 t = out11 m hok c t := by dsimp only [dats]
/-- The block of row sums after a point. -/
theorem after_12 (c : Dev nD) (t : Fin cfg0.N) : (dats m hok 0 c).after 12 t = smallAt m hok c t.val t.isLt := by dsimp only [dats]

/-- Input window 0 holds its block before a point. -/
theorem before_0 (c : Dev nD) (t : Fin cfg0.N) (d) : (dats m hok 0 c).before 0 t d = iblk m c 0 t :=
  before0_0_of m (dats m hok 0 c) (A_eq m hok c 0) (after_0 m hok c) t d
/-- Input window 1 holds its block before a point. -/
theorem before_1 (c : Dev nD) (t : Fin cfg0.N) (d) : (dats m hok 0 c).before 1 t d = iblk m c 1 t :=
  before0_1_of m (dats m hok 0 c) (A_eq m hok c 1) (after_1 m hok c) t d
/-- Input window 2 holds its block before a point. -/
theorem before_2 (c : Dev nD) (t : Fin cfg0.N) (d) : (dats m hok 0 c).before 2 t d = iblk m c 2 t :=
  before0_2_of m (dats m hok 0 c) (A_eq m hok c 2) (after_2 m hok c) t d
/-- Input window 3 holds its block before a point. -/
theorem before_3 (c : Dev nD) (t : Fin cfg0.N) (d) : (dats m hok 0 c).before 3 t d = iblk m c 3 t :=
  before0_3_of m (dats m hok 0 c) (A_eq m hok c 3) (after_3 m hok c) t d
/-- Input window 4 holds its block before a point. -/
theorem before_4 (c : Dev nD) (t : Fin cfg0.N) (d) : (dats m hok 0 c).before 4 t d = iblk m c 4 t :=
  before0_4_of m (dats m hok 0 c) (A_eq m hok c 4) (after_4 m hok c) t d
/-- Input window 5 holds its block before a point. -/
theorem before_5 (c : Dev nD) (t : Fin cfg0.N) (d) : (dats m hok 0 c).before 5 t d = iblk m c 5 t :=
  before0_5_of m (dats m hok 0 c) (A_eq m hok c 5) (after_5 m hok c) t d
/-- Input window 6 holds its block before a point. -/
theorem before_6 (c : Dev nD) (t : Fin cfg0.N) (d) : (dats m hok 0 c).before 6 t d = iblk m c 6 t :=
  before0_6_of m (dats m hok 0 c) (A_eq m hok c 6) (after_6 m hok c) t d
/-- At a later point the block of row sums still holds what the point before left. -/
theorem before_12 (c : Dev nD) (t : Fin cfg0.N) (h0 : t.val ≠ 0) (d) :
    (dats m hok 0 c).before 12 t d = smallPrev m hok c t := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

/-- What the body is called with at point `t`, window by window. -/
def bodyPre (c : Dev nD) (t : Fin cfg0.N) : sProp 𝕄 :=
  iprop((dats m hok 0 c).Φ t.castSucc ∗ (dats m hok 0 c).owesAt () t.castSucc
    ∗ (∃ d, owns (c : Thread nD τ) (ms0_0 t) fullShare ((dats m hok 0 c).before 0 t d))
    ∗ (∃ d, owns (c : Thread nD τ) (ms0_1 t) fullShare ((dats m hok 0 c).before 1 t d))
    ∗ (∃ d, owns (c : Thread nD τ) (ms0_2 t) fullShare ((dats m hok 0 c).before 2 t d))
    ∗ (∃ d, owns (c : Thread nD τ) (ms0_3 t) fullShare ((dats m hok 0 c).before 3 t d))
    ∗ (∃ d, owns (c : Thread nD τ) (ms0_4 t) fullShare ((dats m hok 0 c).before 4 t d))
    ∗ (∃ d, owns (c : Thread nD τ) (ms0_5 t) fullShare ((dats m hok 0 c).before 5 t d))
    ∗ (∃ d, owns (c : Thread nD τ) (ms0_6 t) fullShare ((dats m hok 0 c).before 6 t d))
    ∗ (∃ d, owns (c : Thread nD τ) (ms0_7 t) fullShare ((dats m hok 0 c).before 7 t d))
    ∗ (∃ d, owns (c : Thread nD τ) (ms0_8 t) fullShare ((dats m hok 0 c).before 8 t d))
    ∗ (∃ d, owns (c : Thread nD τ) (ms0_9 t) fullShare ((dats m hok 0 c).before 9 t d))
    ∗ (∃ d, owns (c : Thread nD τ) (ms0_10 t) fullShare ((dats m hok 0 c).before 10 t d))
    ∗ (∃ d, owns (c : Thread nD τ) (ms0_11 t) fullShare ((dats m hok 0 c).before 11 t d))
    ∗ (∃ d, owns (c : Thread nD τ) (ms0_12 t) fullShare ((dats m hok 0 c).before 12 t d)))

/-- What it gives back. -/
def bodyPost (c : Dev nD) (t : Fin cfg0.N) : sProp 𝕄 :=
  iprop((dats m hok 0 c).Φ t.succ ∗ (dats m hok 0 c).owesAt () t.succ
    ∗ owns (c : Thread nD τ) (ms0_0 t) fullShare ((dats m hok 0 c).after 0 t)
    ∗ owns (c : Thread nD τ) (ms0_1 t) fullShare ((dats m hok 0 c).after 1 t)
    ∗ owns (c : Thread nD τ) (ms0_2 t) fullShare ((dats m hok 0 c).after 2 t)
    ∗ owns (c : Thread nD τ) (ms0_3 t) fullShare ((dats m hok 0 c).after 3 t)
    ∗ owns (c : Thread nD τ) (ms0_4 t) fullShare ((dats m hok 0 c).after 4 t)
    ∗ owns (c : Thread nD τ) (ms0_5 t) fullShare ((dats m hok 0 c).after 5 t)
    ∗ owns (c : Thread nD τ) (ms0_6 t) fullShare ((dats m hok 0 c).after 6 t)
    ∗ owns (c : Thread nD τ) (ms0_7 t) fullShare ((dats m hok 0 c).after 7 t)
    ∗ owns (c : Thread nD τ) (ms0_8 t) fullShare ((dats m hok 0 c).after 8 t)
    ∗ owns (c : Thread nD τ) (ms0_9 t) fullShare ((dats m hok 0 c).after 9 t)
    ∗ owns (c : Thread nD τ) (ms0_10 t) fullShare ((dats m hok 0 c).after 10 t)
    ∗ owns (c : Thread nD τ) (ms0_11 t) fullShare ((dats m hok 0 c).after 11 t)
    ∗ owns (c : Thread nD τ) (ms0_12 t) fullShare ((dats m hok 0 c).after 12 t))

/-- The weights as the first point assembles them. -/
theorem wts_at (c : Dev nD) (t : Fin cfg0.N) (h : t.val = 0) :
    wts m c = weights (iblk m c 6 t (Idealize.ShloMosaic.ValueIdx.ix1 0)) (hbM0_0.view.read (Elt F) (V m c main_arg6)) (hbM0_1.view.read (Elt F) (V m c main_arg7)) := by
  obtain rfl : t = pt0 := Fin.ext h
  rfl

set_option maxHeartbeats 4000000 in
/-- The body at any point: from the inputs' blocks and the invariant to what the point leaves and the invariant after it. -/
theorem sound_body (c : Dev nD) (t : Fin cfg0.N) :
    bodyPre m hok c t ⊢ wp frame (wpE (defs₀ (F := F)) Variants.none c none) Set.univ (bodyAt0 t) (fun _ => bodyPost m hok c t) := by
  unfold bodyPre bodyPost bodyAt0
  simp only [before_0, before_1, before_2, before_3, before_4, before_5, before_6]
  rw [show (dats m hok 0 c).Φ t.succ = PhiS m c (t.val + 1) from rfl, PhiS_pos m c _ (Nat.succ_ne_zero _), show (dats m hok 0 c).Φ t.castSucc = PhiS m c t.val from rfl,
    after_0, after_1, after_2, after_3, after_4, after_5, after_6, after_7, after_8, after_9, after_10, after_11, after_12]
  unfold Dat.owesAt Pipeline.owesWithin
  rw [show (dats m hok 0 c).owed t.castSucc = 0 from rfl, show (dats m hok 0 c).owed t.succ = 0 from rfl]
  have hN : t.val < 16 := lt_of_lt_of_eq t.isLt (show cfg0.N = 16 from N_0)
  by_cases hz : t.val = 0
  · rw [PhiS_zero m c _ hz, PhiD0_eq, smallAt_A m hok c t hz]
    unfold out7 out8 out9 out10 out11 smallA; simp only [dif_pos hz]
    iintro ⟨⟨HS0, Hg, Hq0, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runA m hok c t hz).2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [Hq0]; · iexact Hq0
    isplitl [Hh0]; · iexact Hh0
    isplitl [Hh1]; · iexact Hh1
    isplitl [HW]; · iexact HW
    iintro ⟨H0, H1, H2, H3, H4, H5, H6, ⟨%e7, H7⟩, ⟨%e8, H8⟩, ⟨%e9, H9⟩, ⟨%e10, H10⟩, ⟨%e11, H11⟩, ⟨%e12, H12⟩, HS0, Hq0, Hh0, Hh1, ⟨%W', HW'⟩⟩
    isplitl [HS0 Hg Hq0 Hh0 Hh1]
    · isplitl [HS0]
      · rw [wts_at m c t hz]; iexact HS0
      isplitl [Hg]
      · iexact Hg
      isplitl [Hq0]
      · iexact Hq0
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 m hok c t hz)
    isplitl [H8]
    · unfold owns; iexists _; isplitr
      swap; · iexact H8
      ipureintro; exact View.read_writes_of_cover _ _ _ _ _ (coverA_8 m hok c t hz)
    isplitl [H9]
    · unfold owns; iexists _; isplitr
      swap; · iexact H9
      ipureintro; exact View.read_writes_of_cover _ _ _ _ _ (coverA_9 m hok c t hz)
    isplitl [H10]
    · unfold owns; iexists _; isplitr
      swap; · iexact H10
      ipureintro; exact View.read_writes_of_cover _ _ _ _ _ (coverA_10 m hok c t hz)
    isplitl [H11]
    · unfold owns; iexists _; isplitr
      swap; · iexact H11
      ipureintro; exact View.read_writes_of_cover _ _ _ _ _ (coverA_11 m hok c t hz)
    unfold owns; iexists _; isplitr
    swap; · iexact H12
    ipureintro; exact View.read_writes_of_cover _ _ _ _ _ (coverA_12 m hok c t hz)
  · rw [PhiS_pos m c _ hz, smallAt_B m hok c t hz]
    simp only [before_12 m hok c t hz]
    unfold out7 out8 out9 out10 out11 smallB; simp only [dif_neg hz]
    iintro ⟨⟨HS0, Hg, Hq0, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB m c t hz (smallPrev m hok c t)).2.2.2.2.2.2.2 W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexact H12
    isplitl [HS0]; · iexact HS0
    isplitl [Hq0]; · iexact Hq0
    isplitl [Hh0]; · iexact Hh0
    isplitl [Hh1]; · iexact Hh1
    isplitl [HW]; · iexact HW
    iintro ⟨H0, H1, H2, H3, H4, H5, H6, ⟨%e7, H7⟩, ⟨%e8, H8⟩, ⟨%e9, H9⟩, ⟨%e10, H10⟩, ⟨%e11, H11⟩, H12, HS0, Hq0, Hh0, Hh1, ⟨%W', HW'⟩⟩
    isplitl [HS0 Hg Hq0 Hh0 Hh1]
    · isplitl [HS0]
      · iexact HS0
      isplitl [Hg]
      · iexact Hg
      isplitl [Hq0]
      · iexact Hq0
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverB_7 m c t hz _)
    isplitl [H8]
    · unfold owns; iexists _; isplitr
      swap; · iexact H8
      ipureintro; exact View.read_writes_of_cover _ _ _ _ _ (coverB_8 m c t hz _)
    isplitl [H9]
    · unfold owns; iexists _; isplitr
      swap; · iexact H9
      ipureintro; exact View.read_writes_of_cover _ _ _ _ _ (coverB_9 m c t hz _)
    isplitl [H10]
    · unfold owns; iexists _; isplitr
      swap; · iexact H10
      ipureintro; exact View.read_writes_of_cover _ _ _ _ _ (coverB_10 m c t hz _)
    isplitl [H11]
    · unfold owns; iexists _; isplitr
      swap; · iexact H11
      ipureintro; exact View.read_writes_of_cover _ _ _ _ _ (coverB_11 m c t hz _)
    unfold owns; iexists _; isplitr
    swap; · iexact H12
    ipureintro; rfl

/-- The body at point `t`'s buffers. -/
theorem defs₀_row (t : Fin cfg0.N) :
    defs₀ (F := F) .tc cfg0.body (cfg0.bodyArgs t (cfg0.slots t)) = bodyAt0 t := by
  unfold defs₀; rw [Defs.onTc_tc]

/-- The body's triple at every point, as the launch rule asks for it. -/
theorem body_obligation (c : Dev nD) : BodyObligation (dats (F := F) m hok 0 c) (defs₀ (F := F)) Variants.none () Set.univ := fun t => by
  rw [bigSep_W0, bigSep_W0, defs₀_row]
  exact triple_restated (sound_body m hok c t) rfl .rfl fun _ => .rfl

/-- What the launch hands over is the invariant before the first point. -/
theorem hin (c : Dev nD) : Pipeline.ΦD osem0 spec0 H0 (V m) c ⊢ (dats m hok 0 c).Φ 0 := by
  rw [show (dats m hok 0 c).Φ 0 = PhiS m c 0 from rfl, PhiS_zero m c 0 rfl]
  try exact Idealize.SL.BI.Entails.refl _

/-- After any point but the first the invariant gives the launch's own back, the scratch's contents forgotten. -/
theorem Phi_out (c : Dev nD) (t : Fin (cfg0.N + 1)) (ht : t.val ≠ 0) : (dats m hok 0 c).Φ t ⊢ Pipeline.ΦD osem0 spec0 H0 (V m) c := by
  rw [show (dats m hok 0 c).Φ t = PhiS m c t.val from rfl, PhiS_pos m c _ ht, PhiD0_eq]
  iintro ⟨HS0, Hg, Hq0, ⟨Hh0, Hh1⟩⟩
  isplitl [HS0]
  · iexists _; iexact HS0
  isplitl [Hg]; · iexact Hg
  isplitl [Hq0]
  · iexact Hq0
  isplitl [Hh0]; · iexact Hh0
  iexact Hh1

/-- The same after the last point. -/
theorem hout (c : Dev nD) : (dats m hok 0 c).Φ (Fin.last cfg0.N) ⊢ Pipeline.ΦD osem0 spec0 H0 (V m) c :=
  Phi_out m hok c _ (by rw [Fin.val_last]; have : cfg0.N = 16 := N_0; omega)

/-! ## The run and the frame -/

include hok

set_option backward.isDefEq.respectTransparency.types false in
/-- The launch: every array at what the proof data computes, every counter at zero. -/
theorem run_main_quiescent : θ_run defs (onTc (τ := τ) (main (F := F))) (s₀ m ρ) (fun r => (Pipeline.FramePost cfgs (dats m hok) 0 (V m)) r ∧ r.2.sem = fun _ => 0) :=
  Pipeline.θ_run_frame_dma (Q' := _) cfgs (dats m hok) (0 : Fin 1) launch0 osem0 defs₀ Variants.none ownSemFacts0 H0 H0_sub m ρ main
    (hbody := fun c => (body_obligation m hok c).loose) (hshare := fun c => (dats m hok 0 c).share_full fun _ => rfl)
    (howed := fun _ _ => rfl) (V := V m) (hmain := hmain m Variants.none) (hA := A_eq m hok)
    (hin := hin m hok) (hout := hout m hok)

/-- The launch, without the counters. -/
theorem run_main : θ_run defs (onTc (τ := τ) (main (F := F))) (s₀ m ρ) (Pipeline.FramePost cfgs (dats m hok) 0 (V m)) :=
  (θ_run defs _ _).mono (fun _ h => h.1) (run_main_quiescent m ρ hok)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m hok) (A_eq m hok) (run_main m ρ hok)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hok) ((θ_run defs _ _).mono (fun _ h => h.2) (run_main_quiescent m ρ hok))

end Cert.MergeIdeal.Hand

end
-- ==== Proof.MergePre.lean ====
/- The merge kernel's precondition: the shard's number is 0, 1, 2 or 3. -/
module

public import proofs.«01_k».proof.Proof.MergeFrame
public import proofs.«01_k».proof.Defs
public import proofs.«01_k».proof.Proof.Gen.Pre_own_shard
public import proofs.«01_k».proof.Proof.Gen.Merge.Skeleton
public import Idealize.ShloMosaic.Lib.ReduceAll

@[expose] public section

set_option maxRecDepth 16384

noncomputable section

namespace Cert.MergeIdeal.Hand

open Cert.MergeIdeal Cert.MergeIdeal.Gen
open Idealize.ShloMosaic Idealize.ShloMosaic.TcCoe Idealize.SL.Sem

/-- A number below 4 passes the program's check on the copy's offset. -/
theorem chk_of_lt (i : grid0.Coords) (w : BitVec 32) (h : w.toNat < 4) : k0_chk1 i w := by
  obtain ⟨k, hk⟩ : ∃ k : Fin 4, w = BitVec.ofNat 32 k.val := ⟨⟨w.toNat, h⟩, by simp⟩
  subst hk
  refine ⟨fun _ => ?_, fun _ => ?_, fun _ => ?_⟩
  · revert k; decide
  · revert k; decide
  · revert k; decide +kernel

variable {F : FTy → Type} [FloatOps F]

/-- What the precondition says of the word, at any floating-point values. -/
theorem shard_lt (a0 a1 : FVec F S8192x1024 .bf16) (a2 : FVec F S8192x2048 .bf16) (a3 a4 : FVec F S8192x1024 .f32) (a5 : FVec F S1x1024 .f32)
    (a6 : FVec F S3x1024x1024 .bf16) (a7 : FVec F S3x256x1024 .bf16) (a8 : IVec S1 32)
    (h : ∀ y, Cert.Pre_own_shard.fn (F := F) a0 a1 a2 a3 a4 a5 a6 a7 a8 y = 1#1) (y : S1.Idx) : (a8 y).toNat < 4 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := h (fun a => a.elim0)
  unfold Cert.Pre_own_shard.fn at e
  dsimp only at e
  have : Subsingleton Cert.Pre_own_shard.S_.Idx := ⟨fun a b => funext fun k => k.elim0⟩
  have e' := Host.reduce_andi_all _ _ _ _ _ e y
  simp only [andi, cmpi, broadcastInDim, constantI, IntOp.cmpi, andi_ofBool, ofBool_eq_one, Bool.and_eq_true] at e'
  obtain ⟨hge, hlt⟩ := e'
  simp only [BitVec.sle, BitVec.slt, decide_eq_true_eq, BitVec.toInt, BitVec.toNat_ofNat] at hge hlt
  omega

/-- Under the bound on the word every point's copy of it passes the check. -/
theorem shardOk_of_lt (m : (ℓ : Loc nD τ sig) → Buf (Elt F) ℓ) (h : ∀ (c : Dev nD) (y : S1.Idx), BitVec.toNat (w := 32) (m ((c : Thread nD τ).loc main_arg8) y) < 4) : ShardOk m :=
  fun c t y => chk_of_lt _ _ (by unfold iblk; rw [View.read_apply, cast_eq]; exact h c _)

/-- The two printed texts' body tables are one. -/
theorem defs₀_eq : @Cert.Merge.defs₀ F _ Cert.Merge.Gen.facts = @Cert.MergeIdeal.defs₀ F _ Cert.MergeIdeal.Gen.facts := by
  unfold Cert.Merge.defs₀ Cert.MergeIdeal.defs₀
  refine congrArg Defs.onTc ?_
  funext l a
  match l, a with
  | 0, (t, s) => rfl
  | ⟨_ + 1, h⟩, _ => exact absurd h (Nat.not_lt.2 (Nat.le_add_left _ _))

/-- The two printed texts' programs are one. -/
theorem defs_eq : @Cert.Merge.defs F _ Cert.Merge.Gen.facts = @Cert.MergeIdeal.defs F _ Cert.MergeIdeal.Gen.facts := by
  unfold Cert.Merge.defs Cert.MergeIdeal.defs
  exact congrArg (Idealize.ShloMosaic.Pipeline.defs (Cert.MergeIdeal.pcfgs (F := F))) defs₀_eq

/-- The frame of the merge kernel as it runs. -/
theorem merge_frame : Cert.quiescent_Merge := fun m ρ h => by
  rw [defs_eq]
  exact Cert.MergeIdeal.Hand.frame (F := Bits) m ρ (shardOk_of_lt m fun c y => shard_lt _ _ _ _ _ _ _ _ _ (fun z => congrFun (h c) z) y)

/-- The frame of the idealized merge kernel. -/
theorem mergeIdeal_frame : Cert.quiescent_MergeIdeal := fun m ρ h =>
  Cert.MergeIdeal.Hand.frame (F := Ideal) m ρ (shardOk_of_lt m fun c y => shard_lt _ _ _ _ _ _ _ _ _ (fun z => congrFun (h c) z) y)

end Cert.MergeIdeal.Hand

end
-- ==== Proof.MergeRefRun.lean ====
/- The merge reference's run, its results in its operations' terms. -/
module

public import proofs.«01_k».proof.Proof.Gen.MergeReferenceIdeal.Read

@[expose] public section

set_option maxRecDepth 16384

noncomputable section

namespace Cert.Merge

open Cert.MergeReferenceIdeal Cert.MergeReferenceIdeal.Gen Cert.MergeReferenceIdeal.Read Idealize.ShloMosaic Idealize.ShloMosaic.TcCoe Idealize.SL.Sem Idealize.ShloMosaic.StableHlo

/-- The reference's run: each result in its operations' terms, the arguments unchanged. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v104) = val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v103) = val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v110) = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v112) = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v114) = val_main_v114 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (val_main_v76_eq (launchContents m c)),
      (h c).2.1.trans (val_main_v104_eq (launchContents m c)),
      (h c).2.2.1.trans (val_main_v103_eq (launchContents m c)),
      (h c).2.2.2.1.trans (val_main_v110_eq (launchContents m c)),
      (h c).2.2.2.2.1.trans (val_main_v112_eq (launchContents m c)),
      (h c).2.2.2.2.2.1.trans (val_main_v114_eq (launchContents m c)), (h c).2.2.2.2.2.2⟩)
    (Cert.MergeReferenceIdeal.Value.run (F := Ideal) m ρ)

end Cert.Merge

end
-- ==== Proof.MergeRow.lean ====
/- One token's row of the merge: its forward values and its gradients, as plain formulas over the extended reals. -/
module

public import Idealize.ShloMosaic.Lib.Pointwise

@[expose] public section

noncomputable section

namespace Cert.Merge

open Idealize.ShloMosaic

/-- What one token's row of the merge reads: the two branches, their gates, the residual, the target, the norm's gain and the three weight matrices. -/
structure Row where
  ua : Fin 1024 → EReal
  ub : Fin 1024 → EReal
  ga : Fin 1024 → EReal
  gb : Fin 1024 → EReal
  x : Fin 1024 → EReal
  t : Fin 1024 → EReal
  g : Fin 1024 → EReal
  w : Fin 3 → Fin 1024 → Fin 1024 → EReal

namespace Row

variable (R : Row)

/-- The first branch's projection. -/
def ya (q : Fin 1024) : EReal := ∑ k, R.ua k * R.w 0 k q

/-- The second branch's projection. -/
def yb (q : Fin 1024) : EReal := ∑ k, R.ub k * R.w 1 k q

/-- The first branch's gate. -/
def sa (q : Fin 1024) : EReal := Ideal.logistic (R.ga q)

/-- The second branch's gate. -/
def sb (q : Fin 1024) : EReal := Ideal.logistic (R.gb q)

/-- The gated sum of the branches. -/
def mb (q : Fin 1024) : EReal := R.sa q * R.ya q + R.sb q * R.yb q

/-- The merged row after the output projection. -/
def y (q : Fin 1024) : EReal := ∑ k, R.mb k * R.w 2 k q

/-- The mean square of the row, with the norm's small constant added. -/
def ms : EReal := Ideal.div (∑ q, R.y q * R.y q) 1024 + Ideal.ofBits .f32 0x358637BD#32

/-- The reciprocal root of the mean square. -/
def rstd : EReal := Ideal.rsqrt R.ms

/-- The normed row. -/
def yhat (q : Fin 1024) : EReal := R.y q * R.rstd

/-- The block's output less the target. -/
def diff (q : Fin 1024) : EReal := R.x q + R.yhat q * R.g q - R.t q

/-- The loss's gradient in the output. -/
def dout (q : Fin 1024) : EReal := Ideal.div (R.diff q) 1024

/-- The gradient in the normed row. -/
def dyhat (q : Fin 1024) : EReal := R.dout q * R.g q

/-- The gradient in the row before the norm. -/
def dy (q : Fin 1024) : EReal :=
  R.rstd * (R.dyhat q - R.yhat q * Ideal.div (∑ k, R.dyhat k * R.yhat k) 1024)

/-- The gradient in the gated sum. -/
def dm (q : Fin 1024) : EReal := ∑ k, R.dy k * R.w 2 q k

/-- The gradient in the first branch's projection. -/
def dya (q : Fin 1024) : EReal := R.dm q * R.sa q

/-- The gradient in the second branch's projection. -/
def dyb (q : Fin 1024) : EReal := R.dm q * R.sb q

/-- The gradient in the first branch's gate, before the sigmoid. -/
def dga (q : Fin 1024) : EReal := R.dm q * R.ya q * (R.sa q * (1 - R.sa q))

/-- The gradient in the second branch's gate, before the sigmoid. -/
def dgb (q : Fin 1024) : EReal := R.dm q * R.yb q * (R.sb q * (1 - R.sb q))

/-- The gradient in the first branch. -/
def dua (q : Fin 1024) : EReal := ∑ k, R.dya k * R.w 0 q k

/-- The gradient in the second branch. -/
def dub (q : Fin 1024) : EReal := ∑ k, R.dyb k * R.w 1 q k

/-- The gates' gradients, first branch and second. -/
def gates (k : Fin 2) (q : Fin 1024) : EReal := if k = 0 then R.dga q else R.dgb q

/-- The four rows kept for the weights' gradients. -/
def acts (k : Fin 4) (q : Fin 1024) : EReal :=
  if k = 0 then R.mb q else if k = 1 then R.dy q else if k = 2 then R.dya q else R.dyb q

end Row

end Cert.Merge
-- ==== Proof.MergeBlock.lean ====
/- What the values the merge kernel's body computes are, one row of a block at a time. -/
module

public import proofs.«01_k».proof.Proof.MergeRow
public import proofs.«01_k».proof.Proof.Gen.MergeIdeal.Skeleton
public import Idealize.ShloMosaic.Lib.Pointwise

@[expose] public section

set_option maxRecDepth 16384

noncomputable section

namespace Cert.Merge

open Cert.MergeIdeal Cert.MergeIdeal.Gen Idealize.ShloMosaic Idealize.ShloMosaic.TcCoe

/-- The constant 1024 as its float bits read. -/
theorem bits_1024 : Ideal.ofBits .f32 0x44800000#32 = (1024 : EReal) := by
  simp [Ideal.ofBits, Ideal.ieee]
  rw [← EReal.coe_mul]
  norm_num
  rfl

variable (v3 v4 : Vec Ideal S512x1024 .bf16) (v5 v8 v21 : Vec Ideal S1x1024x1024 .bf16) (v11 v13 : Vec Ideal S512x1024 .bf16)
  (v34 : Vec Ideal S1x1024 .f32) (v35 v39 : Vec Ideal S512x1024 .f32)

/-- The body's loads hold the rows `R`: branches, weights, gates, gain, residual and target. -/
structure Reads (R : Fin 512 → Row) : Prop where
  ua : ∀ r k, v3 (ix2 r k) = (R r).ua k
  ub : ∀ r k, v4 (ix2 r k) = (R r).ub k
  w0 : ∀ r k q, v5 (ix3 0 k q) = (R r).w 0 k q
  w1 : ∀ r k q, v8 (ix3 0 k q) = (R r).w 1 k q
  w2 : ∀ r k q, v21 (ix3 0 k q) = (R r).w 2 k q
  ga : ∀ r k, v11 (ix2 r k) = (R r).ga k
  gb : ∀ r k, v13 (ix2 r k) = (R r).gb k
  g : ∀ r k, v34 (ix2 0 k) = (R r).g k
  x : ∀ r k, v35 (ix2 r k) = (R r).x k
  t : ∀ r k, v39 (ix2 r k) = (R r).t k

variable {v3 v4 v5 v8 v21 v11 v13 v34 v35 v39}
variable {R : Fin 512 → Row} (H : Reads v3 v4 v5 v8 v21 v11 v13 v34 v35 v39 R) (r : Fin 512) (q : Fin 1024)

include H

/-- The first branch's product. -/
theorem ya_at : k0_pay3 (F := Ideal) v3 v5 (ix2 r q) = (R r).ya q := by
  unfold k0_pay3
  pointwise
  simp only [H.ua, H.w0 r]
  rfl

/-- The second branch's product. -/
theorem yb_at : k0_pay4 (F := Ideal) v4 v8 (ix2 r q) = (R r).yb q := by
  unfold k0_pay4
  pointwise
  simp only [H.ub, H.w1 r]
  rfl

/-- The first branch's gate. -/
theorem sa_at : k0_pay5 (F := Ideal) v11 (ix2 r q) = (R r).sa q := by
  unfold k0_pay5
  pointwise
  rw [H.ga]
  rfl

/-- The second branch's gate. -/
theorem sb_at : k0_pay6 (F := Ideal) v13 (ix2 r q) = (R r).sb q := by
  unfold k0_pay6
  pointwise
  rw [H.gb]
  rfl

/-- The gated sum. -/
theorem mb_at : k0_pay7 (F := Ideal) v3 v4 v5 v8 v11 v13 (ix2 r q) = (R r).mb q :=
  congrArg₂ (· + ·) (congrArg₂ (· * ·) (sa_at H r q) (ya_at H r q)) (congrArg₂ (· * ·) (sb_at H r q) (yb_at H r q))

/-- The merged row. -/
theorem y_at : k0_pay8 (F := Ideal) v3 v4 v5 v8 v11 v13 v21 (ix2 r q) = (R r).y q := by
  have e := mb_at H r
  unfold k0_pay8
  generalize k0_pay7 (F := Ideal) v3 v4 v5 v8 v11 v13 = z at e ⊢
  pointwise
  simp only [e, H.w2 r]
  rfl

/-- The row's reciprocal root. -/
theorem rstd_at (o : Fin 1) : k0_pay9 (F := Ideal) v3 v4 v5 v8 v11 v13 v21 (ix2 r o) = (R r).rstd := by
  have e := y_at H r
  unfold k0_pay9
  generalize k0_pay8 (F := Ideal) v3 v4 v5 v8 v11 v13 v21 = z at e ⊢
  pointwise
  simp only [e]
  rw [bits_1024]
  rfl

/-- The reciprocal root, spread along the row. -/
theorem rb_at : k0_pay10 (F := Ideal) v3 v4 v5 v8 v11 v13 v21 (ix2 r q) = (R r).rstd := by
  have e := rstd_at H r
  unfold k0_pay10
  generalize k0_pay9 (F := Ideal) v3 v4 v5 v8 v11 v13 v21 = z at e ⊢
  pointwise
  exact e 0

/-- The reciprocal root, spread once more for the gradient. -/
theorem rb'_at : k0_pay17 (F := Ideal) (k0_pay9 (F := Ideal) v3 v4 v5 v8 v11 v13 v21) (ix2 r q) = (R r).rstd := by
  have e := rstd_at H r
  generalize k0_pay9 (F := Ideal) v3 v4 v5 v8 v11 v13 v21 = z at e ⊢
  unfold k0_pay17
  pointwise
  exact e 0

/-- The normed row. -/
theorem yhat_at : k0_pay11 (F := Ideal) (k0_pay8 (F := Ideal) v3 v4 v5 v8 v11 v13 v21) (k0_pay10 (F := Ideal) v3 v4 v5 v8 v11 v13 v21) (ix2 r q) = (R r).yhat q :=
  congrArg₂ (· * ·) (y_at H r q) (rb_at H r q)

/-- The output less the target. -/
theorem diff_at : k0_pay12 (F := Ideal) (k0_pay8 (F := Ideal) v3 v4 v5 v8 v11 v13 v21) (k0_pay10 (F := Ideal) v3 v4 v5 v8 v11 v13 v21) v34 v35 v39 (ix2 r q) = (R r).diff q := by
  have e := yhat_at H r q
  unfold k0_pay12
  generalize k0_pay11 (F := Ideal) (k0_pay8 (F := Ideal) v3 v4 v5 v8 v11 v13 v21) (k0_pay10 (F := Ideal) v3 v4 v5 v8 v11 v13 v21) = z at e ⊢
  pointwise
  rw [e, H.g r, H.x, H.t]
  rfl

/-- The gradient in the output. -/
theorem dout_at : k0_pay13 (F := Ideal) (k0_pay8 (F := Ideal) v3 v4 v5 v8 v11 v13 v21) (k0_pay10 (F := Ideal) v3 v4 v5 v8 v11 v13 v21) v34 v35 v39 (ix2 r q) = (R r).dout q := by
  have e := diff_at H r q
  unfold k0_pay13
  generalize k0_pay12 (F := Ideal) (k0_pay8 (F := Ideal) v3 v4 v5 v8 v11 v13 v21) (k0_pay10 (F := Ideal) v3 v4 v5 v8 v11 v13 v21) v34 v35 v39 = z at e ⊢
  pointwise
  rw [e, bits_1024]
  rfl

/-- The gain's gradient, summed over the block's rows onto what was there. -/
theorem dg_at (v44 : Vec Ideal S1x1024 .f32) (o : Fin 1) :
    k0_pay14 (F := Ideal) (k0_pay8 (F := Ideal) v3 v4 v5 v8 v11 v13 v21) (k0_pay10 (F := Ideal) v3 v4 v5 v8 v11 v13 v21) v34 v35 v39 v44 (ix2 o q) = v44 (ix2 o q) + ∑ r, (R r).dout q * (R r).yhat q := by
  have e := fun r => yhat_at H r q
  have e' := fun r => dout_at H r q
  unfold k0_pay14
  generalize k0_pay11 (F := Ideal) (k0_pay8 (F := Ideal) v3 v4 v5 v8 v11 v13 v21) (k0_pay10 (F := Ideal) v3 v4 v5 v8 v11 v13 v21) = z at e ⊢
  generalize k0_pay13 (F := Ideal) (k0_pay8 (F := Ideal) v3 v4 v5 v8 v11 v13 v21) (k0_pay10 (F := Ideal) v3 v4 v5 v8 v11 v13 v21) v34 v35 v39 = z' at e' ⊢
  pointwise
  simp only [e, e']

/-- The squared differences, summed over the block's rows onto what was there. -/
theorem sq_at (v51 : Vec Ideal S1x1024 .f32) (o : Fin 1) :
    k0_pay15 (F := Ideal) (k0_pay8 (F := Ideal) v3 v4 v5 v8 v11 v13 v21) (k0_pay10 (F := Ideal) v3 v4 v5 v8 v11 v13 v21) v34 v35 v39 v51 (ix2 o q) = v51 (ix2 o q) + ∑ r, (R r).diff q * (R r).diff q := by
  have e := fun r => diff_at H r q
  unfold k0_pay15
  generalize k0_pay12 (F := Ideal) (k0_pay8 (F := Ideal) v3 v4 v5 v8 v11 v13 v21) (k0_pay10 (F := Ideal) v3 v4 v5 v8 v11 v13 v21) v34 v35 v39 = z at e ⊢
  pointwise
  simp only [e]

/-- The bracket of the norm's gradient. -/
theorem br_at : k0_pay16 (F := Ideal) (k0_pay8 (F := Ideal) v3 v4 v5 v8 v11 v13 v21) (k0_pay10 (F := Ideal) v3 v4 v5 v8 v11 v13 v21) v34 v35 v39 (ix2 r q)
    = (R r).dyhat q - (R r).yhat q * Ideal.div (∑ k, (R r).dyhat k * (R r).yhat k) 1024 := by
  have e := fun q => yhat_at H r q
  have e' := fun q => dout_at H r q
  unfold k0_pay16
  generalize k0_pay11 (F := Ideal) (k0_pay8 (F := Ideal) v3 v4 v5 v8 v11 v13 v21) (k0_pay10 (F := Ideal) v3 v4 v5 v8 v11 v13 v21) = z at e ⊢
  generalize k0_pay13 (F := Ideal) (k0_pay8 (F := Ideal) v3 v4 v5 v8 v11 v13 v21) (k0_pay10 (F := Ideal) v3 v4 v5 v8 v11 v13 v21) v34 v35 v39 = z' at e' ⊢
  pointwise
  simp only [e, e', H.g r]
  rw [bits_1024]
  rfl

/-- The gradient before the norm. -/
theorem dy_at : k0_pay18 (F := Ideal) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) (ix2 r q) = (R r).dy q :=
  congrArg₂ (· * ·) (rb'_at H r q) (br_at H r q)

/-- The gradient in the gated sum. -/
theorem dm_at : k0_pay19 (F := Ideal) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 (ix2 r q) = (R r).dm q := by
  have e := dy_at H r
  unfold k0_pay19
  generalize k0_pay18 (F := Ideal) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) = z at e ⊢
  pointwise
  simp only [e, H.w2 r]
  rfl

/-- The gradient in the first branch's product. -/
theorem dya_at : k0_pay20 (F := Ideal) (k0_pay5 (F := Ideal) v11) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 (ix2 r q) = (R r).dya q :=
  congrArg₂ (· * ·) (dm_at H r q) (sa_at H r q)

/-- The gradient in the second branch's product. -/
theorem dyb_at : k0_pay21 (F := Ideal) (k0_pay6 (F := Ideal) v13) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 (ix2 r q) = (R r).dyb q :=
  congrArg₂ (· * ·) (dm_at H r q) (sb_at H r q)

/-- The gradient in the first branch's gate. -/
theorem dga_at : k0_pay22 (F := Ideal) (k0_pay3 (F := Ideal) v3 v5) (k0_pay5 (F := Ideal) v11) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 (ix2 r q) = (R r).dga q := by
  have e := dm_at H r q
  have e1 := ya_at H r q
  have e2 := sa_at H r q
  unfold k0_pay22
  generalize k0_pay19 (F := Ideal) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 = z at e ⊢
  generalize k0_pay3 (F := Ideal) v3 v5 = z1 at e1 ⊢
  generalize k0_pay5 (F := Ideal) v11 = z2 at e2 ⊢
  pointwise
  rw [e, e1, e2]
  rfl

/-- The gradient in the second branch's gate. -/
theorem dgb_at : k0_pay23 (F := Ideal) (k0_pay4 (F := Ideal) v4 v8) (k0_pay6 (F := Ideal) v13) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 (ix2 r q) = (R r).dgb q := by
  have e := dm_at H r q
  have e1 := yb_at H r q
  have e2 := sb_at H r q
  unfold k0_pay23
  generalize k0_pay19 (F := Ideal) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 = z at e ⊢
  generalize k0_pay4 (F := Ideal) v4 v8 = z1 at e1 ⊢
  generalize k0_pay6 (F := Ideal) v13 = z2 at e2 ⊢
  pointwise
  rw [e, e1, e2]
  rfl

/-- The gradient in the first branch. -/
theorem dua_at : k0_pay24 (F := Ideal) (k0_pay5 (F := Ideal) v11) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 v5 (ix2 r q) = (R r).dua q := by
  have e := dya_at H r
  unfold k0_pay24
  generalize k0_pay20 (F := Ideal) (k0_pay5 (F := Ideal) v11) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 = z at e ⊢
  pointwise
  simp only [e, H.w0 r]
  rfl

/-- The gradient in the second branch. -/
theorem dub_at : k0_pay1 (F := Ideal) (k0_pay21 (F := Ideal) (k0_pay6 (F := Ideal) v13) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21) v8 (ix2 r q) = (R r).dub q := by
  have e := dyb_at H r
  generalize k0_pay21 (F := Ideal) (k0_pay6 (F := Ideal) v13) (k0_pay16 (F := Ideal) (k0_pay8 (F := Ideal) v3 v4 v5 v8 v11 v13 v21) (k0_pay10 (F := Ideal) v3 v4 v5 v8 v11 v13 v21) v34 v35 v39) (k0_pay17 (F := Ideal) (k0_pay9 (F := Ideal) v3 v4 v5 v8 v11 v13 v21)) v21 = z at e ⊢
  unfold k0_pay1
  pointwise
  simp only [e, H.w1 r]
  rfl

end Cert.Merge
-- ==== Proof.MergeVjp.lean ====
/- The norm's gradient in the form the reverse pass gives it, and that it is the kernel's. -/
module

public import proofs.«01_k».proof.Proof.MergeBlock

@[expose] public section

set_option maxRecDepth 16384

noncomputable section

namespace Cert.Merge

open Idealize.ShloMosaic

/-- Dividing by 1024 is multiplying by its inverse. -/
theorem div_1024 (a : EReal) : Ideal.div a 1024 = a * (1024 : EReal)⁻¹ := by
  unfold Ideal.div
  rw [if_neg]
  exact_mod_cast (by norm_num : (1024 : ℝ) ≠ 0)

/-- The f32 constant one half. -/
theorem bits_half : Ideal.ofBits .f32 0x3F000000#32 = ((1 / 2 : ℝ) : EReal) := by
  simp [Ideal.ofBits, Ideal.ieee]
  rw [← EReal.coe_mul]; norm_num

/-- The f32 constant minus one half. -/
theorem bits_neg_half : Ideal.ofBits .f32 0xBF000000#32 = ((-(1 / 2) : ℝ) : EReal) := by
  simp [Ideal.ofBits, Ideal.ieee]
  rw [← EReal.coe_mul]; norm_num

/-- The f32 constant two. -/
theorem bits_two : Ideal.ofBits .f32 0x40000000#32 = ((2 : ℝ) : EReal) := by
  simp [Ideal.ofBits, Ideal.ieee]
  rw [← EReal.coe_mul]; norm_num

/-- The small constant of the norm is positive. -/
theorem eps_pos : 0 < Ideal.ofBits .f32 0x358637BD#32 := by
  simp [Ideal.ofBits, Ideal.ieee]
  rw [← EReal.coe_mul]
  exact_mod_cast (by norm_num)

/-- A square is nonnegative. -/
theorem sq_nonneg' (a : EReal) : 0 ≤ a * a := by
  rw [EReal.mul_nonneg_iff]
  rcases le_total 0 a with h | h
  · exact Or.inl ⟨h, h⟩
  · exact Or.inr ⟨h, h⟩

/-- A value added to itself is twice it. -/
theorem add_self (a : EReal) : a + a = ((2 : ℝ) : EReal) * a := by
  have h := EReal.right_distrib_of_nonneg (a := 1) (b := 1) (c := a) zero_le_one zero_le_one
  rw [one_mul] at h
  rw [← h]
  congr 1
  norm_num
  rfl

/-- A nonnegative real factor goes into a sum. -/
theorem real_mul_sum {ι : Type} (s : Finset ι) (r : ℝ) (hr : 0 ≤ r) (f : ι → EReal) :
    (r : EReal) * ∑ k ∈ s, f k = ∑ k ∈ s, (r : EReal) * f k := by
  classical
  refine Finset.induction_on s (by simp) fun a s ha ih => ?_
  rw [Finset.sum_insert ha, Finset.sum_insert ha,
    EReal.left_distrib_of_nonneg_of_ne_top (by exact_mod_cast hr) (EReal.coe_ne_top r), ih]

namespace Row

variable (R : Row)

/-- The mean square is positive. -/
theorem ms_pos : 0 < R.ms := by
  unfold ms
  refine lt_of_lt_of_le eps_pos (le_add_of_nonneg_left ?_)
  rw [div_1024]
  refine EReal.mul_nonneg (Finset.sum_nonneg fun q _ => sq_nonneg' _) (EReal.inv_nonneg_of_nonneg ?_)
  exact_mod_cast (by norm_num : (0 : ℝ) ≤ 1024)

/-- The loss's gradient as the reverse pass scales it. -/
def vDout (q : Fin 1024) : EReal :=
  Ideal.div (Ideal.ofBits .f32 0x3F000000#32 * Ideal.ofBits .f32 0x3F800000#32) 1024 * (Ideal.ofBits .f32 0x40000000#32 * R.diff q)

/-- The half and the two of the square cancel. -/
theorem vDout_eq (q : Fin 1024) : R.vDout q = R.dout q := by
  unfold vDout dout
  rw [div_1024, div_1024, bits_half, bits_two, Ideal.ofBits_one_f32, mul_one]
  have e : (((1 / 2 : ℝ) : EReal) * ((2 : ℝ) : EReal)) = 1 := by rw [← EReal.coe_mul]; norm_num
  calc ((1 / 2 : ℝ) : EReal) * (1024 : EReal)⁻¹ * (((2 : ℝ) : EReal) * R.diff q)
      = (((1 / 2 : ℝ) : EReal) * ((2 : ℝ) : EReal)) * (R.diff q * (1024 : EReal)⁻¹) := by ac_rfl
    _ = R.diff q * (1024 : EReal)⁻¹ := by rw [e, one_mul]

/-- The gradient the reverse pass hands to each square of the mean. -/
def vK : EReal :=
  Ideal.div ((∑ k, R.y k * R.dyhat k) * (Ideal.ofBits .f32 0xBF000000#32 * Ideal.div R.rstd R.ms)) 1024

/-- The gradient in the row before the norm, as the reverse pass sums it. -/
def vDy (q : Fin 1024) : EReal := R.dyhat q * R.rstd + R.y q * R.vK + R.vK * R.y q

/-- The reverse pass's gradient is the kernel's. -/
theorem vDy_eq (q : Fin 1024) : R.vDy q = R.dy q := by
  have hpos := R.ms_pos
  unfold vDy dy vK yhat rstd
  rw [div_1024, div_1024, bits_neg_half]
  generalize R.ms = z at hpos ⊢
  induction z with
  | bot => exact absurd hpos (by simp)
  | top =>
    have e : Ideal.rsqrt ⊤ = 0 := rfl
    have e' : Ideal.div 0 ⊤ = 0 := by unfold Ideal.div; rw [if_neg (by simp), zero_mul]
    simp only [e, e', mul_zero, zero_mul, add_zero]
  | coe a =>
    have ha : 0 < a := by exact_mod_cast hpos
    have e : Ideal.rsqrt (a : EReal) = (((Real.sqrt a)⁻¹ : ℝ) : EReal) := by
      show (if a < 0 then ⊥ else if a = 0 then ⊤ else (((Real.sqrt a)⁻¹ : ℝ) : EReal)) = _
      rw [if_neg (not_lt.2 ha.le), if_neg ha.ne']
    have hr : 0 < (Real.sqrt a)⁻¹ := inv_pos.2 (Real.sqrt_pos.2 ha)
    have hrr : (Real.sqrt a)⁻¹ * (Real.sqrt a)⁻¹ = a⁻¹ := by rw [← mul_inv, Real.mul_self_sqrt ha.le]
    have ed : Ideal.div (((Real.sqrt a)⁻¹ : ℝ) : EReal) (a : EReal) = (((Real.sqrt a)⁻¹ * a⁻¹ : ℝ) : EReal) := by
      unfold Ideal.div
      rw [if_neg (by exact_mod_cast ha.ne'), ← EReal.coe_inv, ← EReal.coe_mul]
    rw [e, ed]
    generalize (Real.sqrt a)⁻¹ = r at hr hrr ⊢
    rw [← hrr]
    have es : ∑ k, R.dyhat k * (R.y k * (r : EReal)) = (r : EReal) * ∑ k, R.y k * R.dyhat k := by
      rw [real_mul_sum _ r hr.le]
      exact Finset.sum_congr rfl fun k _ => by ac_rfl
    rw [es, sub_eq_add_neg, EReal.left_distrib_of_nonneg_of_ne_top (by exact_mod_cast hr.le) (EReal.coe_ne_top r), add_assoc]
    generalize (∑ k, R.y k * R.dyhat k) = S
    generalize R.y q = y
    generalize R.dyhat q = c
    refine congrArg₂ (· + ·) (mul_comm _ _) ?_
    rw [mul_comm _ y, add_self, mul_neg, EReal.coe_mul r, EReal.coe_mul r]
    have e2 : ((2 : ℝ) : EReal) * ((-(1 / 2) : ℝ) : EReal) = -1 := by rw [← EReal.coe_mul]; norm_num
    calc ((2 : ℝ) : EReal) * (y * (S * (((-(1 / 2) : ℝ) : EReal) * ((r : EReal) * ((r : EReal) * (r : EReal)))) * (1024 : EReal)⁻¹))
        = (((2 : ℝ) : EReal) * ((-(1 / 2) : ℝ) : EReal)) * ((r : EReal) * (y * (r : EReal) * ((r : EReal) * S * (1024 : EReal)⁻¹))) := by ac_rfl
      _ = -((r : EReal) * (y * (r : EReal) * ((r : EReal) * S * (1024 : EReal)⁻¹))) := by rw [e2, neg_one_mul]

end Row

end Cert.Merge

end
-- ==== Proof.MergeOut.lean ====
/- What each point of the merge kernel leaves in its output blocks. -/
module

public import proofs.«01_k».proof.Proof.MergeFrame
public import proofs.«01_k».proof.Proof.MergeBlock
public import Idealize.ShloMosaic.Lib.Pointwise
public import Idealize.ShloMosaic.Lib.WholeRead
public import Idealize.ShloMosaic.Lib.Pipeline.ValueKit
public import Idealize.ShloMosaic.Lib.Pipeline.ReadBack

@[expose] public section

set_option maxRecDepth 16384

noncomputable section

namespace Cert.Merge

open Cert.MergeIdeal Cert.MergeIdeal.Gen Cert.MergeIdeal.Hand Idealize.ShloMosaic Idealize.ShloMosaic.TcCoe Idealize.SL.Sem

variable (m : (ℓ : Loc nD τ sig) → Buf (Elt Ideal) ℓ) (hok : ShardOk m) (c : Dev nD) (t : Fin cfg0.N)

/-- Row `r` of point `t`'s blocks. -/
def blkRow (r : Fin 512) : Row where
  ua k := iblk m c 0 t (ix2 r k)
  ub k := iblk m c 1 t (ix2 r k)
  ga k := iblk m c 2 t (ix2 r ⟨k.val, by omega⟩)
  gb k := iblk m c 2 t (ix2 r ⟨1024 + k.val, by omega⟩)
  x k := iblk m c 3 t (ix2 r k)
  t k := iblk m c 4 t (ix2 r k)
  g k := iblk m c 5 t (ix2 0 k)
  w j a b := wts m c (ix3 j a b)

/-- The body's loads at point `t` are that point's rows, `W` being what the scratch holds. -/
theorem reads_of (W : Vec Ideal S3x1024x1024 .bf16) (hW : W = wts m c)
    (hm : (scM0_0).IsWhole) :
    Reads
      (View.readAt (Elt Ideal) (ms0_0 t).view (Rect.unit ![0, 0] S512x1024.size inb_S512x1024_S512x1024_0_0).toLoadRect ((hs0_0 t).unread (iblk m c 0 t)))
      (View.readAt (Elt Ideal) (ms0_1 t).view (Rect.unit ![0, 0] S512x1024.size inb_S512x1024_S512x1024_0_0).toLoadRect ((hs0_1 t).unread (iblk m c 1 t)))
      (View.readAt (Elt Ideal) scM0_0.view (Rect.unit (s := S3x1024x1024) ![0, 0, 0] S1x1024x1024.size inb_S3x1024x1024_S1x1024x1024_0_0_0).toLoadRect (hm.unread W))
      (View.readAt (Elt Ideal) scM0_0.view (Rect.unit (s := S3x1024x1024) ![1, 0, 0] S1x1024x1024.size inb_S3x1024x1024_S1x1024x1024_1_0_0).toLoadRect (hm.unread W))
      (View.readAt (Elt Ideal) scM0_0.view (Rect.unit (s := S3x1024x1024) ![2, 0, 0] S1x1024x1024.size inb_S3x1024x1024_S1x1024x1024_2_0_0).toLoadRect (hm.unread W))
      (View.readAt (Elt Ideal) (ms0_2 t).view (Rect.unit (s := S512x2048) ![0, 0] S512x1024.size inb_S512x2048_S512x1024_0_0).toLoadRect ((hs0_2 t).unread (iblk m c 2 t)))
      (View.readAt (Elt Ideal) (ms0_2 t).view (Rect.unit (s := S512x2048) ![0, 1024] S512x1024.size inb_S512x2048_S512x1024_0_1024).toLoadRect ((hs0_2 t).unread (iblk m c 2 t)))
      (View.readAt (Elt Ideal) (ms0_5 t).view (Rect.unit ![0, 0] S1x1024.size inb_S1x1024_S1x1024_0_0).toLoadRect ((hs0_5 t).unread (iblk m c 5 t)))
      (View.readAt (Elt Ideal) (ms0_3 t).view (Rect.unit ![0, 0] S512x1024.size inb_S512x1024_S512x1024_0_0).toLoadRect ((hs0_3 t).unread (iblk m c 3 t)))
      (View.readAt (Elt Ideal) (ms0_4 t).view (Rect.unit ![0, 0] S512x1024.size inb_S512x1024_S512x1024_0_0).toLoadRect ((hs0_4 t).unread (iblk m c 4 t)))
      (blkRow m c t) := by
  subst hW
  constructor
  all_goals intros
  all_goals rw [View.readAt_eq_ld, Memref.IsWhole.read_unread]
  all_goals unfold blkRow
  all_goals pointwise

/-- One store over a whole block leaves its value there. -/
theorem canon_all (w : Vec Ideal S512x1024 .f32) :
    View.canon (Val := Elt Ideal) (e := .f32) [⟨Rect.unit (s := S512x1024) ![0, 0] S512x1024.size inb_S512x1024_S512x1024_0_0, w⟩] = w := by
  simp (disch := decide) only [View.canon_cons_unit_lit']

/-- The loss's gradient, as the first point leaves it. -/
theorem out7_A (h : t.val = 0) (r : Fin 512) (q : Fin 1024) :
    View.canon (runA m hok c t h).1 (ix2 r q) = (blkRow m c t r).dout q := by
  obtain rfl : t = pt0 := Fin.ext h
  refine (congrFun (canon_all _) _).trans ?_
  exact dout_at (reads_of m c pt0 _ rfl (Memref.isWhole_whole _)) r q

/-- The loss's gradient, as a later point leaves it. -/
theorem out7_B (h : t.val ≠ 0) (x12) (r : Fin 512) (q : Fin 1024) :
    View.canon (runB m c t h x12).1 (ix2 r q) = (blkRow m c t r).dout q := by
  refine (congrFun (canon_all _) _).trans ?_
  exact dout_at (reads_of m c t _ rfl (Memref.isWhole_whole _)) r q

/-- The first branch's gradient, as the first point leaves it. -/
theorem out8_A (h : t.val = 0) (r : Fin 512) (q : Fin 1024) :
    View.canon (runA m hok c t h).2.1 (ix2 r q) = (blkRow m c t r).dua q := by
  obtain rfl : t = pt0 := Fin.ext h
  refine (congrFun (canon_all _) _).trans ?_
  exact dua_at (reads_of m c pt0 _ rfl (Memref.isWhole_whole _)) r q

/-- The first branch's gradient, as a later point leaves it. -/
theorem out8_B (h : t.val ≠ 0) (x12) (r : Fin 512) (q : Fin 1024) :
    View.canon (runB m c t h x12).2.1 (ix2 r q) = (blkRow m c t r).dua q := by
  refine (congrFun (canon_all _) _).trans ?_
  exact dua_at (reads_of m c t _ rfl (Memref.isWhole_whole _)) r q

/-- The second branch's gradient, as the first point leaves it. -/
theorem out9_A (h : t.val = 0) (r : Fin 512) (q : Fin 1024) :
    View.canon (runA m hok c t h).2.2.1 (ix2 r q) = (blkRow m c t r).dub q := by
  obtain rfl : t = pt0 := Fin.ext h
  refine (congrFun (canon_all _) _).trans ?_
  exact dub_at (reads_of m c pt0 _ rfl (Memref.isWhole_whole _)) r q

/-- The second branch's gradient, as a later point leaves it. -/
theorem out9_B (h : t.val ≠ 0) (x12) (r : Fin 512) (q : Fin 1024) :
    View.canon (runB m c t h x12).2.2.1 (ix2 r q) = (blkRow m c t r).dub q := by
  refine (congrFun (canon_all _) _).trans ?_
  exact dub_at (reads_of m c t _ rfl (Memref.isWhole_whole _)) r q

/-- What lies in the gates' block after two stores, one over each half. -/
theorem canon_gates (u v : Vec Ideal S512x1024 .bf16) (R : Fin 512 → Row)
    (hu : ∀ r q, u (ix2 r q) = (R r).dga q) (hv : ∀ r q, v (ix2 r q) = (R r).dgb q)
    (r : Fin 512) (k : Fin 2) (q : Fin 1024) (j : S512x2048.Idx) (h0 : (j 0).val = r.val) (h1 : (j 1).val = 1024 * k.val + q.val) :
    View.canon (Val := Elt Ideal) (e := .bf16) [⟨Rect.unit (s := S512x2048) ![0, 1024] S512x1024.size inb_S512x2048_S512x1024_0_1024, v⟩,
      ⟨Rect.unit (s := S512x2048) ![0, 0] S512x1024.size inb_S512x2048_S512x1024_0_0, u⟩] j = (R r).gates k q := by
  canon_tiles x g
  all_goals idx_vars x
  · obtain rfl : k = 1 := Fin.ext (by show k.val = 1; omega)
    obtain rfl : x0 = r := Fin.ext (by omega)
    obtain rfl : x1 = q := Fin.ext (by have : ((1 : Fin 2) : ℕ) = 1 := rfl; omega)
    exact hv _ _
  · obtain rfl : k = 0 := Fin.ext (by show k.val = 0; omega)
    obtain rfl : x0 = r := Fin.ext (by omega)
    obtain rfl : x1 = q := Fin.ext (by have : ((0 : Fin 2) : ℕ) = 0 := rfl; omega)
    exact hu _ _

/-- What lies in the kept rows' block after four stores, one over each quarter. -/
theorem canon_acts (u0 u1 u2 u3 : Vec Ideal S512x1024 .bf16) (R : Fin 512 → Row)
    (h0 : ∀ r q, u0 (ix2 r q) = (R r).mb q) (h1 : ∀ r q, u1 (ix2 r q) = (R r).dy q)
    (h2 : ∀ r q, u2 (ix2 r q) = (R r).dya q) (h3 : ∀ r q, u3 (ix2 r q) = (R r).dyb q)
    (r : Fin 512) (k : Fin 4) (q : Fin 1024) (j : S512x4096.Idx) (hj0 : (j 0).val = r.val) (hj1 : (j 1).val = 1024 * k.val + q.val) :
    View.canon (Val := Elt Ideal) (e := .bf16) [⟨Rect.unit (s := S512x4096) ![0, 3072] S512x1024.size inb_S512x4096_S512x1024_0_3072, u3⟩,
      ⟨Rect.unit (s := S512x4096) ![0, 2048] S512x1024.size inb_S512x4096_S512x1024_0_2048, u2⟩,
      ⟨Rect.unit (s := S512x4096) ![0, 1024] S512x1024.size inb_S512x4096_S512x1024_0_1024, u1⟩,
      ⟨Rect.unit (s := S512x4096) ![0, 0] S512x1024.size inb_S512x4096_S512x1024_0_0, u0⟩] j = (R r).acts k q := by
  canon_tiles x g
  all_goals idx_vars x
  · obtain rfl : k = 3 := Fin.ext (by show k.val = 3; omega)
    obtain rfl : x0 = r := Fin.ext (by omega)
    obtain rfl : x1 = q := Fin.ext (by have : ((3 : Fin 4) : ℕ) = 3 := rfl; omega)
    exact h3 _ _
  · obtain rfl : k = 2 := Fin.ext (by show k.val = 2; omega)
    obtain rfl : x0 = r := Fin.ext (by omega)
    obtain rfl : x1 = q := Fin.ext (by have : ((2 : Fin 4) : ℕ) = 2 := rfl; omega)
    exact h2 _ _
  · obtain rfl : k = 1 := Fin.ext (by show k.val = 1; omega)
    obtain rfl : x0 = r := Fin.ext (by omega)
    obtain rfl : x1 = q := Fin.ext (by have : ((1 : Fin 4) : ℕ) = 1 := rfl; omega)
    exact h1 _ _
  · obtain rfl : k = 0 := Fin.ext (by show k.val = 0; omega)
    obtain rfl : x0 = r := Fin.ext (by omega)
    obtain rfl : x1 = q := Fin.ext (by have : ((0 : Fin 4) : ℕ) = 0 := rfl; omega)
    exact h0 _ _

/-- The gates' gradients, as the first point leaves them. -/
theorem out10_A (h : t.val = 0) (r : Fin 512) (k : Fin 2) (q : Fin 1024) (j : S512x2048.Idx) (h0 : (j 0).val = r.val) (h1 : (j 1).val = 1024 * k.val + q.val) :
    View.canon (runA m hok c t h).2.2.2.1 j = (blkRow m c t r).gates k q := by
  obtain rfl : t = pt0 := Fin.ext h
  exact canon_gates _ _ _ (dga_at (reads_of m c pt0 _ rfl (Memref.isWhole_whole _))) (dgb_at (reads_of m c pt0 _ rfl (Memref.isWhole_whole _))) r k q j h0 h1

/-- The gates' gradients, as a later point leaves them. -/
theorem out10_B (h : t.val ≠ 0) (x12) (r : Fin 512) (k : Fin 2) (q : Fin 1024) (j : S512x2048.Idx) (h0 : (j 0).val = r.val) (h1 : (j 1).val = 1024 * k.val + q.val) :
    View.canon (runB m c t h x12).2.2.2.1 j = (blkRow m c t r).gates k q :=
  canon_gates _ _ _ (dga_at (reads_of m c t _ rfl (Memref.isWhole_whole _))) (dgb_at (reads_of m c t _ rfl (Memref.isWhole_whole _))) r k q j h0 h1

/-- The kept rows, as the first point leaves them. -/
theorem out11_A (h : t.val = 0) (r : Fin 512) (k : Fin 4) (q : Fin 1024) (j : S512x4096.Idx) (h0 : (j 0).val = r.val) (h1 : (j 1).val = 1024 * k.val + q.val) :
    View.canon (runA m hok c t h).2.2.2.2.1 j = (blkRow m c t r).acts k q := by
  obtain rfl : t = pt0 := Fin.ext h
  exact canon_acts _ _ _ _ _ (mb_at (reads_of m c pt0 _ rfl (Memref.isWhole_whole _))) (dy_at (reads_of m c pt0 _ rfl (Memref.isWhole_whole _)))
    (dya_at (reads_of m c pt0 _ rfl (Memref.isWhole_whole _))) (dyb_at (reads_of m c pt0 _ rfl (Memref.isWhole_whole _))) r k q j h0 h1

/-- The kept rows, as a later point leaves them. -/
theorem out11_B (h : t.val ≠ 0) (x12) (r : Fin 512) (k : Fin 4) (q : Fin 1024) (j : S512x4096.Idx) (h0 : (j 0).val = r.val) (h1 : (j 1).val = 1024 * k.val + q.val) :
    View.canon (runB m c t h x12).2.2.2.2.1 j = (blkRow m c t r).acts k q :=
  canon_acts _ _ _ _ _ (mb_at (reads_of m c t _ rfl (Memref.isWhole_whole _))) (dy_at (reads_of m c t _ rfl (Memref.isWhole_whole _)))
    (dya_at (reads_of m c t _ rfl (Memref.isWhole_whole _))) (dyb_at (reads_of m c t _ rfl (Memref.isWhole_whole _))) r k q j h0 h1

/-- What a point's rows add to the two row sums; the other rows of that block stay as they are. -/
def addRows (R : Fin 512 → Row) (p : Fin 8) (q : Fin 1024) : EReal :=
  if p.val = 1 then ∑ r, (R r).diff q * (R r).diff q else if p.val = 0 then ∑ r, (R r).dout q * (R r).yhat q else 0

/-- What the row sums' block reads after a store of row 0 and then one of row 1. -/
theorem small_read (v : View sig .tc .vmem S8x1024 .f32) (f : v.ty.Contents (Elt Ideal)) (u0 u1 : Vec Ideal S1x1024 .f32)
    (L : List (View.Piece (Elt Ideal) S8x1024 .f32)) (p : Fin 8) (q : Fin 1024) :
    v.read (Elt Ideal) (v.writes (Elt Ideal) f (⟨Rect.unit (s := S8x1024) ![1, 0] S1x1024.size inb_S8x1024_S1x1024_1_0, u1⟩ ::
        ⟨Rect.unit (s := S8x1024) ![0, 0] S1x1024.size inb_S8x1024_S1x1024_0_0, u0⟩ :: L)) (ix2 p q)
      = if p.val = 1 then u1 (ix2 0 q) else if p.val = 0 then u0 (ix2 0 q) else v.read (Elt Ideal) (v.writes (Elt Ideal) f L) (ix2 p q) := by
  split
  · exact View.read_writes_cons_rows_of_mem (o := 1) v f inb_S8x1024_S1x1024_1_0 u1 _ (ix2 p q) (ix2 (n0 := 1) 0 q) rfl (by assumption) rfl
  · refine (View.read_writes_cons_rows_of_not_mem (o := 1) v f inb_S8x1024_S1x1024_1_0 u1 _ (ix2 p q) (W := 1) rfl rfl (by show p.val < 1 ∨ 1 + 1 ≤ p.val; omega)).trans ?_
    split
    · exact View.read_writes_cons_rows_of_mem (o := 0) v f inb_S8x1024_S1x1024_0_0 u0 _ (ix2 p q) (ix2 (n0 := 1) 0 q) rfl (by show p.val = 0 + 0; assumption) rfl
    · exact View.read_writes_cons_rows_of_not_mem (o := 0) v f inb_S8x1024_S1x1024_0_0 u0 _ (ix2 p q) (W := 1) rfl rfl (by show p.val < 0 ∨ 0 + 1 ≤ p.val; omega)

/-- The row sums after a later point: what that point's rows give, added to what was there. -/
theorem smallB_at (h : t.val ≠ 0) (x12) (p : Fin 8) (q : Fin 1024) :
    smallB m c t h x12 (ix2 p q) = x12 (ix2 p q) + addRows (blkRow m c t) p q := by
  unfold smallB
  refine (small_read _ _ _ _ _ p q).trans ?_
  unfold addRows
  split
  · rename_i hp
    obtain rfl : p = 1 := Fin.ext hp
    refine (sq_at (reads_of m c t _ rfl (Memref.isWhole_whole _)) q _ 0).trans ?_
    refine congrArg₂ (· + ·) ?_ rfl
    refine (Memref.IsWhole.readAt_unread (hs0_12 t) x12 (Rect.unit (s := S8x1024) ![1, 0] S1x1024.size inb_S8x1024_S1x1024_1_0).toLoadRect (ix2 (n0 := 1) 0 q)).trans ?_
    exact congrArg x12 (by funext a; match a with | ⟨0, _⟩ => rfl | ⟨1, _⟩ => exact Fin.ext (by simp))
  · split
    · rename_i hp
      obtain rfl : p = 0 := Fin.ext hp
      refine (dg_at (reads_of m c t _ rfl (Memref.isWhole_whole _)) q _ 0).trans ?_
      refine congrArg₂ (· + ·) ?_ rfl
      refine (Memref.IsWhole.readAt_unread (hs0_12 t) x12 (Rect.unit (s := S8x1024) ![0, 0] S1x1024.size inb_S8x1024_S1x1024_0_0).toLoadRect (ix2 (n0 := 1) 0 q)).trans ?_
      exact congrArg x12 (by funext a; match a with | ⟨0, _⟩ => rfl | ⟨1, _⟩ => exact Fin.ext (by simp))
    · exact (congrFun (Memref.IsWhole.read_unread (hs0_12 t) x12) _).trans (add_zero _).symm

/-- The zeros that the first point stores. -/
theorem zeros_at (j) : k0_pay2 (F := Ideal) j = 0 := by
  unfold k0_pay2
  pointwise

/-- The row sums after the first point. -/
theorem smallA_at (h : t.val = 0) (p : Fin 8) (q : Fin 1024) :
    smallA m hok c t h (ix2 p q) = addRows (blkRow m c t) p q := by
  obtain rfl : t = pt0 := Fin.ext h
  unfold smallA
  refine (small_read _ _ _ _ _ p q).trans ?_
  unfold addRows
  split
  · rename_i hp
    refine (sq_at (reads_of m c pt0 _ rfl (Memref.isWhole_whole _)) q _ 0).trans ?_
    refine (congrArg₂ (· + ·) ?_ rfl).trans (zero_add _)
    unfold kernelRun0_A.sl.v51 kernelRun0_A.sl.H12_2 kernelRun0_A.sl.H12_1
    rw [View.readCov_skip _ _ _ _ _ (by decide), View.readCov_fill _ _ _ _ _ (by decide)]
    exact zeros_at _
  · split
    · refine (dg_at (reads_of m c pt0 _ rfl (Memref.isWhole_whole _)) q _ 0).trans ?_
      refine (congrArg₂ (· + ·) ?_ rfl).trans (zero_add _)
      unfold kernelRun0_A.sl.v44 kernelRun0_A.sl.H12_1
      rw [View.readCov_fill _ _ _ _ _ (by decide)]
      exact zeros_at _
    · refine (View.read_writes_cons_rows_of_mem (o := 0) _ _ inb_S8x1024_S8x1024_0_0 _ _ (ix2 p q) (ix2 (n0 := 8) p q) rfl (by simp) rfl).trans ?_
      exact zeros_at _

end Cert.Merge
-- ==== Proof.MergeArray.lean ====
/- What the merge kernel leaves in its six result arrays. -/
module

public import proofs.«01_k».proof.Proof.MergeOut

@[expose] public section

set_option maxRecDepth 16384

noncomputable section

namespace Cert.Merge

open Cert.MergeIdeal Cert.MergeIdeal.Gen Cert.MergeIdeal.Hand Idealize.ShloMosaic Idealize.ShloMosaic.TcCoe Idealize.SL.Sem
open Idealize.ShloMosaic.Pipeline (Dat)

/-- Row `n` of the argument arrays, under the assembled weights `W`. -/
def arrRow (UA UB : S8192x1024.Idx → EReal) (GG : S8192x2048.Idx → EReal) (X T : S8192x1024.Idx → EReal) (G : S1x1024.Idx → EReal)
    (W : S3x1024x1024.Idx → EReal) (n : Fin 8192) : Row where
  ua k := UA (ix2 n k)
  ub k := UB (ix2 n k)
  ga k := GG (ix2 n ⟨k.val, by omega⟩)
  gb k := GG (ix2 n ⟨1024 + k.val, by omega⟩)
  x k := X (ix2 n k)
  t k := T (ix2 n k)
  g k := G (ix2 0 k)
  w j a b := W (ix3 j a b)

/-- The array of one value per row and column. -/
def perRow (f : Fin 8192 → Fin 1024 → EReal) (i : S8192x1024.Idx) : EReal :=
  have h0 : (i 0).val < 8192 := (i 0).isLt
  have h1 : (i 1).val < 1024 := (i 1).isLt
  f ⟨(i 0).val, h0⟩ ⟨(i 1).val, h1⟩

/-- The array of the gates' gradients, the first branch's columns before the second's. -/
def gatesArr (R : Fin 8192 → Row) (i : S8192x2048.Idx) : EReal :=
  have h0 : (i 0).val < 8192 := (i 0).isLt
  have h1 : (i 1).val < 2048 := (i 1).isLt
  (R ⟨(i 0).val, h0⟩).gates ⟨(i 1).val / 1024, by omega⟩ ⟨(i 1).val % 1024, by omega⟩

/-- The array of the rows kept for the weights' gradients. -/
def actsArr (R : Fin 8192 → Row) (i : S8192x4096.Idx) : EReal :=
  have h0 : (i 0).val < 8192 := (i 0).isLt
  have h1 : (i 1).val < 4096 := (i 1).isLt
  (R ⟨(i 0).val, h0⟩).acts ⟨(i 1).val / 1024, by omega⟩ ⟨(i 1).val % 1024, by omega⟩

/-- The row sums over every token: the gain's gradient, then the squared differences, then zeros. -/
def sums (R : Fin 8192 → Row) (p : Fin 8) (q : Fin 1024) : EReal :=
  if p.val = 1 then ∑ n, (R n).diff q * (R n).diff q else if p.val = 0 then ∑ n, (R n).dout q * (R n).yhat q else 0

/-- The array of the row sums. -/
def sumsArr (R : Fin 8192 → Row) (i : S8x1024.Idx) : EReal :=
  have h0 : (i 0).val < 8 := (i 0).isLt
  have h1 : (i 1).val < 1024 := (i 1).isLt
  sums R ⟨(i 0).val, h0⟩ ⟨(i 1).val, h1⟩

/-- The array of one value per row and column at an index. -/
theorem perRow_at (f : Fin 8192 → Fin 1024 → EReal) (n : Fin 8192) (q : Fin 1024) (i : S8192x1024.Idx)
    (h0 : (i 0).val = n.val) (h1 : (i 1).val = q.val) : perRow f i = f n q := by
  unfold perRow
  dsimp only
  congr 1 <;> exact Fin.ext (by assumption)

/-- The gates' gradients at an index. -/
theorem gatesArr_at (R : Fin 8192 → Row) (n : Fin 8192) (k : Fin 2) (q : Fin 1024) (i : S8192x2048.Idx)
    (h0 : (i 0).val = n.val) (h1 : (i 1).val = 1024 * k.val + q.val) : gatesArr R i = (R n).gates k q := by
  unfold gatesArr
  dsimp only
  congr 1
  · exact congrArg R (Fin.ext h0)
  · exact Fin.ext (by dsimp only; omega)
  · exact Fin.ext (by dsimp only; omega)

/-- The kept rows at an index. -/
theorem actsArr_at (R : Fin 8192 → Row) (n : Fin 8192) (k : Fin 4) (q : Fin 1024) (i : S8192x4096.Idx)
    (h0 : (i 0).val = n.val) (h1 : (i 1).val = 1024 * k.val + q.val) : actsArr R i = (R n).acts k q := by
  unfold actsArr
  dsimp only
  congr 1
  · exact congrArg R (Fin.ext h0)
  · exact Fin.ext (by dsimp only; omega)
  · exact Fin.ext (by dsimp only; omega)

/-- The row sums at an index. -/
theorem sumsArr_at (R : Fin 8192 → Row) (p : Fin 8) (q : Fin 1024) (i : S8x1024.Idx)
    (h0 : (i 0).val = p.val) (h1 : (i 1).val = q.val) : sumsArr R i = sums R p q := by
  unfold sumsArr
  dsimp only
  congr 1 <;> exact Fin.ext (by assumption)

variable (m : (ℓ : Loc nD τ sig) → Buf (Elt Ideal) ℓ) (hok : ShardOk m) (c : Dev nD) (t : Fin cfg0.N)

/-- Which block of each array a point works on. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0])

/-- Which block of each result a point writes. -/
theorem idxOut : ∀ t : Fin cfg0.N, win0_7.index t = ![t.val, 0] ∧ win0_8.index t = ![t.val, 0] ∧ win0_9.index t = ![t.val, 0]
    ∧ win0_10.index t = ![t.val, 0] ∧ win0_11.index t = ![t.val, 0] ∧ win0_12.index t = ![0, 0] :=
  (by decide +kernel : ∀ t : Fin grid0.N, win0_7.index t = ![t.val, 0] ∧ win0_8.index t = ![t.val, 0] ∧ win0_9.index t = ![t.val, 0]
    ∧ win0_10.index t = ![t.val, 0] ∧ win0_11.index t = ![t.val, 0] ∧ win0_12.index t = ![0, 0])

/-- The arrays' rows at the launch, under the weights the first point assembles. -/
abbrev rows (c : Dev nD) : Fin 8192 → Row :=
  arrRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (wts m c)

/-- A point's rows are the arrays' rows of its block. -/
theorem blkRow_eq (r : Fin 512) (n : Fin 8192) (hn : n.val = t.val * 512 + r.val) : blkRow m c t r = rows m c n := by
  obtain ⟨e0, e1, e2, e3, e4, e5⟩ := idx t
  have hN : t.val < 16 := t.isLt
  unfold blkRow rows arrRow
  congr 1 <;> funext k
  all_goals blk_ext [iblk, V, e0, e1, e2, e3, e4, e5]

/-- The loss's gradient after any point. -/
theorem out7_at (r : Fin 512) (q : Fin 1024) : out7 m hok c t (ix2 r q) = (blkRow m c t r).dout q := by
  unfold out7
  split <;> rw [View.read_writes_junk_eq_canon]
  · exact out7_A m hok c t _ r q
  · exact out7_B m c t _ _ r q

/-- The first branch's gradient after any point. -/
theorem out8_at (r : Fin 512) (q : Fin 1024) : out8 m hok c t (ix2 r q) = (blkRow m c t r).dua q := by
  unfold out8
  split <;> rw [View.read_writes_junk_eq_canon]
  · exact out8_A m hok c t _ r q
  · exact out8_B m c t _ _ r q

/-- The second branch's gradient after any point. -/
theorem out9_at (r : Fin 512) (q : Fin 1024) : out9 m hok c t (ix2 r q) = (blkRow m c t r).dub q := by
  unfold out9
  split <;> rw [View.read_writes_junk_eq_canon]
  · exact out9_A m hok c t _ r q
  · exact out9_B m c t _ _ r q

/-- The gates' gradients after any point. -/
theorem out10_at (r : Fin 512) (k : Fin 2) (q : Fin 1024) (j : S512x2048.Idx) (h0 : (j 0).val = r.val) (h1 : (j 1).val = 1024 * k.val + q.val) :
    out10 m hok c t j = (blkRow m c t r).gates k q := by
  unfold out10
  split <;> rw [View.read_writes_junk_eq_canon]
  · exact out10_A m hok c t _ r k q j h0 h1
  · exact out10_B m c t _ _ r k q j h0 h1

/-- The kept rows after any point. -/
theorem out11_at (r : Fin 512) (k : Fin 4) (q : Fin 1024) (j : S512x4096.Idx) (h0 : (j 0).val = r.val) (h1 : (j 1).val = 1024 * k.val + q.val) :
    out11 m hok c t j = (blkRow m c t r).acts k q := by
  unfold out11
  split <;> rw [View.read_writes_junk_eq_canon]
  · exact out11_A m hok c t _ r k q j h0 h1
  · exact out11_B m c t _ _ r k q j h0 h1

/-- The array of the loss's gradient. -/
theorem final7 : (dats (F := Ideal) m hok 0 c).arrAt 7 cfg0.N = perRow fun n => (rows m c n).dout := by
  refine (dats m hok 0 c).arrAt_eq_of_covers 7 _ (by decide +kernel) fun t hf y => ?_
  obtain ⟨e, -⟩ := idxOut t
  blk_simp
  rw [after_7]
  have hN : t.val < 16 := t.isLt
  have hy0 : (y 0).val < 512 := (y 0).isLt
  have hy1 : (y 1).val < 1024 := (y 1).isLt
  refine (congrArg (out7 m hok c t) (eq_ix2 y)).trans ((out7_at m hok c t (y 0) (y 1)).trans ?_)
  rw [blkRow_eq m c t (y 0) ⟨t.val * 512 + (y 0).val, by omega⟩ rfl]
  refine (perRow_at (fun n => (rows m c n).dout) _ _ _ ?_ ?_).symm
  · blk_simp [e]
    try dsimp only
    try omega
  · blk_simp [e]
    try dsimp only
    try omega

/-- The array of the first branch's gradient. -/
theorem final8 : (dats (F := Ideal) m hok 0 c).arrAt 8 cfg0.N = perRow fun n => (rows m c n).dua := by
  refine (dats m hok 0 c).arrAt_eq_of_covers 8 _ (by decide +kernel) fun t hf y => ?_
  obtain ⟨-, e, -⟩ := idxOut t
  blk_simp
  rw [after_8]
  have hN : t.val < 16 := t.isLt
  have hy0 : (y 0).val < 512 := (y 0).isLt
  have hy1 : (y 1).val < 1024 := (y 1).isLt
  refine (congrArg (out8 m hok c t) (eq_ix2 y)).trans ((out8_at m hok c t (y 0) (y 1)).trans ?_)
  rw [blkRow_eq m c t (y 0) ⟨t.val * 512 + (y 0).val, by omega⟩ rfl]
  refine (perRow_at (fun n => (rows m c n).dua) _ _ _ ?_ ?_).symm
  · blk_simp [e]
    try dsimp only
    try omega
  · blk_simp [e]
    try dsimp only
    try omega

/-- The array of the second branch's gradient. -/
theorem final9 : (dats (F := Ideal) m hok 0 c).arrAt 9 cfg0.N = perRow fun n => (rows m c n).dub := by
  refine (dats m hok 0 c).arrAt_eq_of_covers 9 _ (by decide +kernel) fun t hf y => ?_
  obtain ⟨-, -, e, -⟩ := idxOut t
  blk_simp
  rw [after_9]
  have hN : t.val < 16 := t.isLt
  have hy0 : (y 0).val < 512 := (y 0).isLt
  have hy1 : (y 1).val < 1024 := (y 1).isLt
  refine (congrArg (out9 m hok c t) (eq_ix2 y)).trans ((out9_at m hok c t (y 0) (y 1)).trans ?_)
  rw [blkRow_eq m c t (y 0) ⟨t.val * 512 + (y 0).val, by omega⟩ rfl]
  refine (perRow_at (fun n => (rows m c n).dub) _ _ _ ?_ ?_).symm
  · blk_simp [e]
    try dsimp only
    try omega
  · blk_simp [e]
    try dsimp only
    try omega

/-- The array of the gates' gradients. -/
theorem final10 : (dats (F := Ideal) m hok 0 c).arrAt 10 cfg0.N = gatesArr (rows m c) := by
  refine (dats m hok 0 c).arrAt_eq_of_covers 10 _ (by decide +kernel) fun t hf y => ?_
  obtain ⟨-, -, -, e, -⟩ := idxOut t
  blk_simp
  rw [after_10]
  have hN : t.val < 16 := t.isLt
  have hy0 : (y 0).val < 512 := (y 0).isLt
  have hy1 : (y 1).val < 2048 := (y 1).isLt
  refine (out10_at m hok c t ⟨(y 0).val, hy0⟩ ⟨(y 1).val / 1024, by omega⟩ ⟨(y 1).val % 1024, by omega⟩ y rfl (by dsimp only; omega)).trans ?_
  rw [blkRow_eq m c t ⟨(y 0).val, hy0⟩ ⟨t.val * 512 + (y 0).val, by omega⟩ rfl]
  refine (gatesArr_at (rows m c) _ _ _ _ ?_ ?_).symm
  · blk_simp [e]
    try dsimp only
    try omega
  · blk_simp [e]
    try dsimp only
    try omega

/-- The array of the kept rows. -/
theorem final11 : (dats (F := Ideal) m hok 0 c).arrAt 11 cfg0.N = actsArr (rows m c) := by
  refine (dats m hok 0 c).arrAt_eq_of_covers 11 _ (by decide +kernel) fun t hf y => ?_
  obtain ⟨-, -, -, -, e, -⟩ := idxOut t
  blk_simp
  rw [after_11]
  have hN : t.val < 16 := t.isLt
  have hy0 : (y 0).val < 512 := (y 0).isLt
  have hy1 : (y 1).val < 4096 := (y 1).isLt
  refine (out11_at m hok c t ⟨(y 0).val, hy0⟩ ⟨(y 1).val / 1024, by omega⟩ ⟨(y 1).val % 1024, by omega⟩ y rfl (by dsimp only; omega)).trans ?_
  rw [blkRow_eq m c t ⟨(y 0).val, hy0⟩ ⟨t.val * 512 + (y 0).val, by omega⟩ rfl]
  refine (actsArr_at (rows m c) _ _ _ _ ?_ ?_).symm
  · blk_simp [e]
    try dsimp only
    try omega
  · blk_simp [e]
    try dsimp only
    try omega

/-- The sixteen blocks' sums make the sums over every row. -/
theorem sum_addRows (p : Fin 8) (q : Fin 1024) (T : Fin 16 → Fin cfg0.N) (hT : ∀ s, (T s).val = s.val) :
    ∑ s : Fin 16, addRows (blkRow m c (T s)) p q = sums (rows m c) p q := by
  have key : ∀ f : Row → EReal, ∑ s : Fin 16, ∑ r : Fin 512, f (blkRow m c (T s) r) = ∑ n : Fin 8192, f (rows m c n) := by
    intro f
    rw [← Fin.sum_mul_add_fin 16 512 (fun n => f (rows m c n)) rfl]
    refine Finset.sum_congr rfl fun s _ => Finset.sum_congr rfl fun r _ => ?_
    rw [blkRow_eq m c (T s) r ⟨s.val * 512 + r.val, by omega⟩ (by dsimp only; rw [hT])]
  unfold addRows sums
  by_cases h1 : p.val = 1
  · have hp : p = 1 := Fin.ext h1
    subst hp
    simp only [if_true, show ((1 : Fin 8) : ℕ) = 1 from rfl]
    exact key fun R => R.diff q * R.diff q
  · by_cases h0 : p.val = 0
    · have hp : p = 0 := Fin.ext h0
      subst hp
      exact key fun R => R.dout q * R.yhat q
    · have e1 : ¬p = 1 := fun h => h1 (by rw [h]; rfl)
      have e0 : ¬p = 0 := fun h => h0 (by rw [h]; rfl)
      simp only [if_neg e1, if_neg e0, if_neg h1, if_neg h0, Finset.sum_const_zero]

/-- One block's addition to the row sums. -/
def term (c : Dev nD) (t : Fin cfg0.N) (j : S8x1024.Idx) : EReal := addRows (blkRow m c t) (j 0) (j 1)

/-- The first point leaves its own sums. -/
theorem small_first (t : Fin cfg0.N) (h : t.val % 16 = 0) (j : S8x1024.Idx) : smallAt m hok c t.val t.isLt j = 0 + term m c t j := by
  have hN : t.val < 16 := t.isLt
  rw [smallAt_A m hok c t (by omega), zero_add]
  exact (congrArg (smallA m hok c t _) (eq_ix2 j)).trans (smallA_at m hok c t _ (j 0) (j 1))

/-- Every later point adds its own sums to what it finds. -/
theorem small_next (t : Fin cfg0.N) (h : ¬t.val % 16 = 0) (j : S8x1024.Idx) :
    smallAt m hok c t.val t.isLt j = smallPrev m hok c t j + term m c t j := by
  have hN : t.val < 16 := t.isLt
  rw [smallAt_B m hok c t (by omega)]
  refine (congrArg (smallB m c t _ _) (eq_ix2 j)).trans ((smallB_at m c t _ _ (j 0) (j 1)).trans ?_)
  exact congrArg₂ (· + ·) (congrArg (smallPrev m hok c t) (eq_ix2 j).symm) rfl

/-- The array of the row sums. -/
theorem final12 : (dats (F := Ideal) m hok 0 c).arrAt 12 cfg0.N = sumsArr (rows m c) := by
  refine (dats m hok 0 c).arrAt_eq_of_covers 12 _ (by decide +kernel) fun t hf y => ?_
  obtain ⟨-, -, -, -, -, e⟩ := idxOut t
  blk_simp
  rw [after_12]
  have hN : t.val < 16 := t.isLt
  have hy0 : (y 0).val < 8 := (y 0).isLt
  have hy1 : (y 1).val < 1024 := (y 1).isLt
  have hr : t.val % 16 = 16 - 1 := (flush0_12 t).mp hf
  refine (Pipeline.eq_sum_fin_of_reset_step_apply_of_flush (fun n h => smallAt (F := Ideal) m hok c n h) 16 (fun _ => 0) (term m c)
    (fun t h j => small_first m hok c t h j) (fun t h j => small_next m hok c t h j) t hr y).trans ?_
  dsimp only
  rw [zero_add]
  refine (sum_addRows m c (y 0) (y 1) _ (fun s => by dsimp only; omega)).trans ?_
  refine (sumsArr_at (rows m c) _ _ _ ?_ ?_).symm
  · blk_simp [e]
    try dsimp only
    try omega
  · blk_simp [e]
    try dsimp only
    try omega

include hok in
/-- The kernel's run: each result array in closed form, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = (perRow fun n => (rows m c n).dout)
      ∧ r.2.mem ((c.tc : Thread nD τ).loc main_v0_1) = (perRow fun n => (rows m c n).dua)
      ∧ r.2.mem ((c.tc : Thread nD τ).loc main_v0_2) = (perRow fun n => (rows m c n).dub)
      ∧ r.2.mem ((c.tc : Thread nD τ).loc main_v0_3) = (gatesArr (rows m c))
      ∧ r.2.mem ((c.tc : Thread nD τ).loc main_v0_4) = (actsArr (rows m c))
      ∧ r.2.mem ((c.tc : Thread nD τ).loc main_v0_5) = (sumsArr (rows m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.1 c).1 7).trans (final7 m hok c), ((h.1 c).1 8).trans (final8 m hok c), ((h.1 c).1 9).trans (final9 m hok c), ((h.1 c).1 10).trans (final10 m hok c), ((h.1 c).1 11).trans (final11 m hok c), ((h.1 c).1 12).trans (final12 m hok c), h.2 c⟩)
    (θ_run_and (run_main m ρ hok) (unchanged m ρ hok))

end Cert.Merge

end
-- ==== Proof.MergeRef.lean ====
/- The merge reference's values, one row at a time. -/
module

public import proofs.«01_k».proof.Proof.MergeVjp
public import proofs.«01_k».proof.Proof.MergeArray
public import proofs.«01_k».proof.Proof.Gen.MergeReferenceIdeal.Read

@[expose] public section

set_option maxRecDepth 16384

noncomputable section

namespace Cert.Merge

open Cert.MergeReferenceIdeal Cert.MergeReferenceIdeal.Gen Cert.MergeReferenceIdeal.Read Idealize.ShloMosaic Idealize.ShloMosaic.TcCoe

variable (x0 x1 : S8192x1024.Idx → EReal) (x2 : S8192x2048.Idx → EReal) (x3 x4 : S8192x1024.Idx → EReal) (x5 : S1x1024.Idx → EReal)
  (x6 : S3x1024x1024.Idx → EReal) (x7 : S3x256x1024.Idx → EReal) (x8 : S1.Idx → BitVec 32)

/-- The rows of the reference's arguments, under the weights with this device's shard laid in. -/
abbrev refRows : Fin 8192 → Row := arrRow x0 x1 x2 x3 x4 x5 (val_main_v10 (F := Ideal) x6 x7 x8)

variable (n : Fin 8192) (q : Fin 1024)

/-- The first projection's weights. -/
theorem v15_at (a b : Fin 1024) : val_main_v15 (F := Ideal) x6 x7 x8 (ix2 a b) = val_main_v10 (F := Ideal) x6 x7 x8 (ix3 0 a b) := by
  unfold val_main_v15 val_main_v14
  generalize val_main_v10 (F := Ideal) x6 x7 x8 = y
  pointwise

/-- The second projection's weights. -/
theorem v17_at (a b : Fin 1024) : val_main_v17 (F := Ideal) x6 x7 x8 (ix2 a b) = val_main_v10 (F := Ideal) x6 x7 x8 (ix3 1 a b) := by
  unfold val_main_v17 val_main_v16
  generalize val_main_v10 (F := Ideal) x6 x7 x8 = y
  pointwise

/-- The output projection's weights. -/
theorem v44_at (a b : Fin 1024) : val_main_v44 (F := Ideal) x6 x7 x8 (ix2 a b) = val_main_v10 (F := Ideal) x6 x7 x8 (ix3 2 a b) := by
  unfold val_main_v44 val_main_v43
  generalize val_main_v10 (F := Ideal) x6 x7 x8 = y
  pointwise

/-- The first branch's projection. -/
theorem v18_at : val_main_v18 (F := Ideal) x0 x6 x7 x8 (ix2 n q) = (refRows x0 x1 x2 x3 x4 x5 x6 x7 x8 n).ya q := by
  have e := v15_at x6 x7 x8
  unfold val_main_v18 val_main_v11
  generalize val_main_v15 (F := Ideal) x6 x7 x8 = y at e ⊢
  pointwise
  simp only [e]
  rfl

/-- The second branch's projection. -/
theorem v19_at : val_main_v19 (F := Ideal) x1 x6 x7 x8 (ix2 n q) = (refRows x0 x1 x2 x3 x4 x5 x6 x7 x8 n).yb q := by
  have e := v17_at x6 x7 x8
  unfold val_main_v19 val_main_v12
  generalize val_main_v17 (F := Ideal) x6 x7 x8 = y at e ⊢
  pointwise
  simp only [e]
  rfl

/-- The first branch's gate. -/
theorem v27_at : val_main_v27 (F := Ideal) x2 (ix2 n q)
    = (refRows x0 x1 x2 x3 x4 x5 x6 x7 x8 n).sa q := by
  unfold val_main_v27 val_main_v26 val_main_v25 val_main_v24 val_main_v23 val_main_v22 val_main_v20 val_main_v13 val_main_cst_0 val_main_cst
  pointwise
  rfl

/-- The second branch's gate. -/
theorem v37_at : val_main_v37 (F := Ideal) x2 (ix2 n q)
    = (refRows x0 x1 x2 x3 x4 x5 x6 x7 x8 n).sb q := by
  unfold val_main_v37 val_main_v36 val_main_v35 val_main_v34 val_main_v33 val_main_v32 val_main_v21 val_main_v13 val_main_cst_3 val_main_cst_2
  pointwise
  rfl

/-- The gated sum. -/
theorem v42_at : val_main_v42 (F := Ideal) x0 x1 x2 x6 x7 x8 (ix2 n q)
    = (refRows x0 x1 x2 x3 x4 x5 x6 x7 x8 n).mb q := by
  exact congrArg₂ (· + ·) (congrArg₂ (· * ·) (v27_at x0 x1 x2 x3 x4 x5 x6 x7 x8 n q) (v18_at x0 x1 x2 x3 x4 x5 x6 x7 x8 n q)) (congrArg₂ (· * ·) (v37_at x0 x1 x2 x3 x4 x5 x6 x7 x8 n q) (v19_at x0 x1 x2 x3 x4 x5 x6 x7 x8 n q))

/-- The merged row after the output projection. -/
theorem v45_at : val_main_v45 (F := Ideal) x0 x1 x2 x6 x7 x8 (ix2 n q)
    = (refRows x0 x1 x2 x3 x4 x5 x6 x7 x8 n).y q := by
  have e42 := fun q => v42_at x0 x1 x2 x3 x4 x5 x6 x7 x8 n q
  have e44 := v44_at x6 x7 x8
  unfold val_main_v45
  generalize val_main_v42 (F := Ideal) x0 x1 x2 x6 x7 x8 = y42 at e42 ⊢
  generalize val_main_v44 (F := Ideal) x6 x7 x8 = y44 at e44 ⊢
  pointwise
  simp only [e42, e44]
  rfl

/-- The mean square of the row. -/
theorem v52_at : val_main_v52 (F := Ideal) x0 x1 x2 x6 x7 x8 (ix2 n 0)
    = (refRows x0 x1 x2 x3 x4 x5 x6 x7 x8 n).ms := by
  have e45 := fun q => v45_at x0 x1 x2 x3 x4 x5 x6 x7 x8 n q
  unfold val_main_v52 val_main_v51 val_main_v50 val_main_v49 val_main_v48 val_main_v47 val_main_v46 val_main_cst_5 val_main_cst_6 val_main_cst_7
  generalize val_main_v45 (F := Ideal) x0 x1 x2 x6 x7 x8 = y45 at e45 ⊢
  pointwise
  simp only [e45, zero_add, bits_1024]
  rfl

/-- The reciprocal root of the mean square. -/
theorem v53_at : val_main_v53 (F := Ideal) x0 x1 x2 x6 x7 x8 (ix2 n 0)
    = (refRows x0 x1 x2 x3 x4 x5 x6 x7 x8 n).rstd := by
  exact congrArg Ideal.rsqrt (v52_at x0 x1 x2 x3 x4 x5 x6 x7 x8 n)

/-- The normed row. -/
theorem v58_at : val_main_v58 (F := Ideal) x0 x1 x2 x6 x7 x8 (ix2 n q)
    = (refRows x0 x1 x2 x3 x4 x5 x6 x7 x8 n).yhat q := by
  have e45 := fun q => v45_at x0 x1 x2 x3 x4 x5 x6 x7 x8 n q
  have e53 := v53_at x0 x1 x2 x3 x4 x5 x6 x7 x8 n
  unfold val_main_v58 val_main_v57
  generalize val_main_v45 (F := Ideal) x0 x1 x2 x6 x7 x8 = y45 at e45 ⊢
  generalize val_main_v53 (F := Ideal) x0 x1 x2 x6 x7 x8 = y53 at e53 ⊢
  pointwise
  rw [e45, e53]
  rfl

/-- The block's output less the target. -/
theorem v62_at : val_main_v62 (F := Ideal) x0 x1 x2 x3 x4 x5 x6 x7 x8 (ix2 n q)
    = (refRows x0 x1 x2 x3 x4 x5 x6 x7 x8 n).diff q := by
  have e58 := fun q => v58_at x0 x1 x2 x3 x4 x5 x6 x7 x8 n q
  unfold val_main_v62 val_main_v61 val_main_v60 val_main_v59
  generalize val_main_v58 (F := Ideal) x0 x1 x2 x6 x7 x8 = y58 at e58 ⊢
  pointwise
  rw [e58]
  rfl

/-- The same difference, taken again for the sum of squares. -/
theorem v105_at : val_main_v105 (F := Ideal) x0 x1 x2 x3 x4 x5 x6 x7 x8 (ix2 n q)
    = (refRows x0 x1 x2 x3 x4 x5 x6 x7 x8 n).diff q := by
  exact v62_at x0 x1 x2 x3 x4 x5 x6 x7 x8 n q

/-- The loss's gradient. -/
theorem v76_at : val_main_v76 (F := Ideal) x0 x1 x2 x3 x4 x5 x6 x7 x8 (ix2 n q)
    = (refRows x0 x1 x2 x3 x4 x5 x6 x7 x8 n).dout q := by
  have e62 := fun q => v62_at x0 x1 x2 x3 x4 x5 x6 x7 x8 n q
  rw [← Row.vDout_eq]
  unfold val_main_v76 val_main_v75 val_main_v74 val_main_v73 val_main_v72 val_main_v71 val_main_v65 val_main_v64 val_main_cst_16 val_main_cst_15 val_main_cst_14 val_main_cst_9
  generalize val_main_v62 (F := Ideal) x0 x1 x2 x3 x4 x5 x6 x7 x8 = y62 at e62 ⊢
  pointwise
  rw [e62]
  unfold Row.vDout
  simp only [bits_1024, Ideal.ofBits_one_f32, mul_one]

/-- The gradient in the normed row. -/
theorem v81_at : val_main_v81 (F := Ideal) x0 x1 x2 x3 x4 x5 x6 x7 x8 (ix2 n q)
    = (refRows x0 x1 x2 x3 x4 x5 x6 x7 x8 n).dyhat q := by
  have e76 := fun q => v76_at x0 x1 x2 x3 x4 x5 x6 x7 x8 n q
  unfold val_main_v81 val_main_v80
  generalize val_main_v76 (F := Ideal) x0 x1 x2 x3 x4 x5 x6 x7 x8 = y76 at e76 ⊢
  pointwise
  rw [e76]
  rfl

/-- What the reverse pass hands to each square of the mean. -/
theorem v91_at : val_main_v91 (F := Ideal) x0 x1 x2 x3 x4 x5 x6 x7 x8 (ix2 n q)
    = (refRows x0 x1 x2 x3 x4 x5 x6 x7 x8 n).vK := by
  have e45 := fun q => v45_at x0 x1 x2 x3 x4 x5 x6 x7 x8 n q
  have e81 := fun q => v81_at x0 x1 x2 x3 x4 x5 x6 x7 x8 n q
  have e52 := v52_at x0 x1 x2 x3 x4 x5 x6 x7 x8 n
  have e53 := v53_at x0 x1 x2 x3 x4 x5 x6 x7 x8 n
  unfold val_main_v91 val_main_v90 val_main_v89 val_main_v88 val_main_v87 val_main_v84 val_main_v83 val_main_v82 val_main_v56 val_main_v55 val_main_v54 val_main_cst_20 val_main_cst_19 val_main_cst_18 val_main_cst_8
  generalize val_main_v45 (F := Ideal) x0 x1 x2 x6 x7 x8 = y45 at e45 ⊢
  generalize val_main_v81 (F := Ideal) x0 x1 x2 x3 x4 x5 x6 x7 x8 = y81 at e81 ⊢
  generalize val_main_v52 (F := Ideal) x0 x1 x2 x6 x7 x8 = y52 at e52 ⊢
  generalize val_main_v53 (F := Ideal) x0 x1 x2 x6 x7 x8 = y53 at e53 ⊢
  pointwise
  have hq : (default : Fin 1) = 0 := rfl
  simp only [Finset.univ_unique, Finset.sum_singleton, hq, e45, e81, e52, e53, zero_add, bits_1024]
  rfl

/-- The gradient in the row before the norm. -/
theorem v95_at : val_main_v95 (F := Ideal) x0 x1 x2 x3 x4 x5 x6 x7 x8 (ix2 n q)
    = (refRows x0 x1 x2 x3 x4 x5 x6 x7 x8 n).dy q := by
  have e45 := fun q => v45_at x0 x1 x2 x3 x4 x5 x6 x7 x8 n q
  have e81 := fun q => v81_at x0 x1 x2 x3 x4 x5 x6 x7 x8 n q
  have e91 := fun q => v91_at x0 x1 x2 x3 x4 x5 x6 x7 x8 n q
  have e53 := v53_at x0 x1 x2 x3 x4 x5 x6 x7 x8 n
  rw [← Row.vDy_eq]
  unfold val_main_v95 val_main_v94 val_main_v93 val_main_v92 val_main_v86 val_main_v85
  generalize val_main_v45 (F := Ideal) x0 x1 x2 x6 x7 x8 = y45 at e45 ⊢
  generalize val_main_v81 (F := Ideal) x0 x1 x2 x3 x4 x5 x6 x7 x8 = y81 at e81 ⊢
  generalize val_main_v91 (F := Ideal) x0 x1 x2 x3 x4 x5 x6 x7 x8 = y91 at e91 ⊢
  generalize val_main_v53 (F := Ideal) x0 x1 x2 x6 x7 x8 = y53 at e53 ⊢
  pointwise
  rw [e45, e81, e91, e53]
  rfl

/-- The gradient in the gated sum. -/
theorem v96_at : val_main_v96 (F := Ideal) x0 x1 x2 x3 x4 x5 x6 x7 x8 (ix2 n q)
    = (refRows x0 x1 x2 x3 x4 x5 x6 x7 x8 n).dm q := by
  have e95 := fun q => v95_at x0 x1 x2 x3 x4 x5 x6 x7 x8 n q
  have e44 := v44_at x6 x7 x8
  unfold val_main_v96
  generalize val_main_v95 (F := Ideal) x0 x1 x2 x3 x4 x5 x6 x7 x8 = y95 at e95 ⊢
  generalize val_main_v44 (F := Ideal) x6 x7 x8 = y44 at e44 ⊢
  pointwise
  simp only [e95, e44]
  rfl

/-- The gradient in the first branch's projection. -/
theorem v100_at : val_main_v100 (F := Ideal) x0 x1 x2 x3 x4 x5 x6 x7 x8 (ix2 n q)
    = (refRows x0 x1 x2 x3 x4 x5 x6 x7 x8 n).dya q := by
  exact (congrArg₂ (· * ·) (v27_at x0 x1 x2 x3 x4 x5 x6 x7 x8 n q) (v96_at x0 x1 x2 x3 x4 x5 x6 x7 x8 n q)).trans (mul_comm _ _)

/-- The gradient in the second branch's projection. -/
theorem v97_at : val_main_v97 (F := Ideal) x0 x1 x2 x3 x4 x5 x6 x7 x8 (ix2 n q)
    = (refRows x0 x1 x2 x3 x4 x5 x6 x7 x8 n).dyb q := by
  exact (congrArg₂ (· * ·) (v37_at x0 x1 x2 x3 x4 x5 x6 x7 x8 n q) (v96_at x0 x1 x2 x3 x4 x5 x6 x7 x8 n q)).trans (mul_comm _ _)

/-- The gradient in the first branch's gate. -/
theorem v102_at : val_main_v102 (F := Ideal) x0 x1 x2 x3 x4 x5 x6 x7 x8 (ix2 n q)
    = (refRows x0 x1 x2 x3 x4 x5 x6 x7 x8 n).dga q := by
  have e96 := fun q => v96_at x0 x1 x2 x3 x4 x5 x6 x7 x8 n q
  have e18 := fun q => v18_at x0 x1 x2 x3 x4 x5 x6 x7 x8 n q
  have e27 := fun q => v27_at x0 x1 x2 x3 x4 x5 x6 x7 x8 n q
  unfold val_main_v102 val_main_v101 val_main_v30 val_main_v29 val_main_v28 val_main_cst_1
  generalize val_main_v96 (F := Ideal) x0 x1 x2 x3 x4 x5 x6 x7 x8 = y96 at e96 ⊢
  generalize val_main_v18 (F := Ideal) x0 x6 x7 x8 = y18 at e18 ⊢
  generalize val_main_v27 (F := Ideal) x2 = y27 at e27 ⊢
  pointwise
  rw [e96, e18, e27]
  rfl

/-- The gradient in the second branch's gate. -/
theorem v99_at : val_main_v99 (F := Ideal) x0 x1 x2 x3 x4 x5 x6 x7 x8 (ix2 n q)
    = (refRows x0 x1 x2 x3 x4 x5 x6 x7 x8 n).dgb q := by
  have e96 := fun q => v96_at x0 x1 x2 x3 x4 x5 x6 x7 x8 n q
  have e19 := fun q => v19_at x0 x1 x2 x3 x4 x5 x6 x7 x8 n q
  have e37 := fun q => v37_at x0 x1 x2 x3 x4 x5 x6 x7 x8 n q
  unfold val_main_v99 val_main_v98 val_main_v40 val_main_v39 val_main_v38 val_main_cst_4
  generalize val_main_v96 (F := Ideal) x0 x1 x2 x3 x4 x5 x6 x7 x8 = y96 at e96 ⊢
  generalize val_main_v19 (F := Ideal) x1 x6 x7 x8 = y19 at e19 ⊢
  generalize val_main_v37 (F := Ideal) x2 = y37 at e37 ⊢
  pointwise
  rw [e96, e19, e37]
  rfl

/-- The gradient in the first branch. -/
theorem v104_at : val_main_v104 (F := Ideal) x0 x1 x2 x3 x4 x5 x6 x7 x8 (ix2 n q)
    = (refRows x0 x1 x2 x3 x4 x5 x6 x7 x8 n).dua q := by
  have e100 := fun q => v100_at x0 x1 x2 x3 x4 x5 x6 x7 x8 n q
  have e15 := v15_at x6 x7 x8
  unfold val_main_v104
  generalize val_main_v100 (F := Ideal) x0 x1 x2 x3 x4 x5 x6 x7 x8 = y100 at e100 ⊢
  generalize val_main_v15 (F := Ideal) x6 x7 x8 = y15 at e15 ⊢
  pointwise
  simp only [e100, e15]
  rfl

/-- The gradient in the second branch. -/
theorem v103_at : val_main_v103 (F := Ideal) x0 x1 x2 x3 x4 x5 x6 x7 x8 (ix2 n q)
    = (refRows x0 x1 x2 x3 x4 x5 x6 x7 x8 n).dub q := by
  have e97 := fun q => v97_at x0 x1 x2 x3 x4 x5 x6 x7 x8 n q
  have e17 := v17_at x6 x7 x8
  unfold val_main_v103
  generalize val_main_v97 (F := Ideal) x0 x1 x2 x3 x4 x5 x6 x7 x8 = y97 at e97 ⊢
  generalize val_main_v17 (F := Ideal) x6 x7 x8 = y17 at e17 ⊢
  pointwise
  simp only [e97, e17]
  rfl

/-- The gain's gradient. -/
theorem v78_at : val_main_v78 (F := Ideal) x0 x1 x2 x3 x4 x5 x6 x7 x8 (ix1 q)
    = ∑ n, (refRows x0 x1 x2 x3 x4 x5 x6 x7 x8 n).dout q * (refRows x0 x1 x2 x3 x4 x5 x6 x7 x8 n).yhat q := by
  have e58 := fun n => v58_at x0 x1 x2 x3 x4 x5 x6 x7 x8 n q
  have e76 := fun n => v76_at x0 x1 x2 x3 x4 x5 x6 x7 x8 n q
  unfold val_main_v78 val_main_v77 val_main_cst_17
  generalize val_main_v58 (F := Ideal) x0 x1 x2 x6 x7 x8 = y58 at e58 ⊢
  generalize val_main_v76 (F := Ideal) x0 x1 x2 x3 x4 x5 x6 x7 x8 = y76 at e76 ⊢
  pointwise
  simp only [e58, e76, zero_add]
  exact Finset.sum_congr rfl fun n _ => mul_comm _ _

/-- The squared differences' sum. -/
theorem v107_at : val_main_v107 (F := Ideal) x0 x1 x2 x3 x4 x5 x6 x7 x8 (ix1 q)
    = ∑ n, (refRows x0 x1 x2 x3 x4 x5 x6 x7 x8 n).diff q * (refRows x0 x1 x2 x3 x4 x5 x6 x7 x8 n).diff q := by
  have e105 := fun n => v105_at x0 x1 x2 x3 x4 x5 x6 x7 x8 n q
  unfold val_main_v107 val_main_v106 val_main_cst_21
  generalize val_main_v105 (F := Ideal) x0 x1 x2 x3 x4 x5 x6 x7 x8 = y105 at e105 ⊢
  pointwise
  simp only [e105, zero_add]

/-- The array of the loss's gradient. -/
theorem v76_eq : val_main_v76 (F := Ideal) x0 x1 x2 x3 x4 x5 x6 x7 x8 = perRow fun n => (refRows x0 x1 x2 x3 x4 x5 x6 x7 x8 n).dout := by
  funext i
  idx_vars i
  exact v76_at x0 x1 x2 x3 x4 x5 x6 x7 x8 i0 i1

/-- The array of the first branch's gradient. -/
theorem v104_eq : val_main_v104 (F := Ideal) x0 x1 x2 x3 x4 x5 x6 x7 x8 = perRow fun n => (refRows x0 x1 x2 x3 x4 x5 x6 x7 x8 n).dua := by
  funext i
  idx_vars i
  exact v104_at x0 x1 x2 x3 x4 x5 x6 x7 x8 i0 i1

/-- The array of the second branch's gradient. -/
theorem v103_eq : val_main_v103 (F := Ideal) x0 x1 x2 x3 x4 x5 x6 x7 x8 = perRow fun n => (refRows x0 x1 x2 x3 x4 x5 x6 x7 x8 n).dub := by
  funext i
  idx_vars i
  exact v103_at x0 x1 x2 x3 x4 x5 x6 x7 x8 i0 i1

/-- The reference's gates' gradients. -/
theorem v110_eq : val_main_v110 (F := Ideal) x0 x1 x2 x3 x4 x5 x6 x7 x8 = gatesArr (refRows x0 x1 x2 x3 x4 x5 x6 x7 x8) := by
  have e102 := fun n q => v102_at x0 x1 x2 x3 x4 x5 x6 x7 x8 n q
  have e99 := fun n q => v99_at x0 x1 x2 x3 x4 x5 x6 x7 x8 n q
  funext i
  idx_vars i
  unfold val_main_v110 val_main_v109
  generalize val_main_v102 (F := Ideal) x0 x1 x2 x3 x4 x5 x6 x7 x8 = y102 at e102 ⊢
  generalize val_main_v99 (F := Ideal) x0 x1 x2 x3 x4 x5 x6 x7 x8 = y99 at e99 ⊢
  by_cases h : i1.val < 1024
  · rw [gatesArr_at _ i0 0 ⟨i1.val, h⟩ _ rfl (by show i1.val = 1024 * 0 + i1.val; omega)]
    refine Eq.trans ?_ (e102 i0 ⟨i1.val, h⟩)
    pointwise
    simp [h]
  · rw [gatesArr_at _ i0 1 ⟨i1.val - 1024, by omega⟩ _ rfl (by show i1.val = 1024 * 1 + (i1.val - 1024); omega)]
    refine Eq.trans ?_ (e99 i0 ⟨i1.val - 1024, by omega⟩)
    pointwise
    simp [h]

/-- The reference's kept rows. -/
theorem v112_eq : val_main_v112 (F := Ideal) x0 x1 x2 x3 x4 x5 x6 x7 x8 = actsArr (refRows x0 x1 x2 x3 x4 x5 x6 x7 x8) := by
  have e42 := fun n q => v42_at x0 x1 x2 x3 x4 x5 x6 x7 x8 n q
  have e95 := fun n q => v95_at x0 x1 x2 x3 x4 x5 x6 x7 x8 n q
  have e100 := fun n q => v100_at x0 x1 x2 x3 x4 x5 x6 x7 x8 n q
  have e97 := fun n q => v97_at x0 x1 x2 x3 x4 x5 x6 x7 x8 n q
  funext i
  idx_vars i
  unfold val_main_v112 val_main_v111
  generalize val_main_v42 (F := Ideal) x0 x1 x2 x6 x7 x8 = y42 at e42 ⊢
  generalize val_main_v95 (F := Ideal) x0 x1 x2 x3 x4 x5 x6 x7 x8 = y95 at e95 ⊢
  generalize val_main_v100 (F := Ideal) x0 x1 x2 x3 x4 x5 x6 x7 x8 = y100 at e100 ⊢
  generalize val_main_v97 (F := Ideal) x0 x1 x2 x3 x4 x5 x6 x7 x8 = y97 at e97 ⊢
  obtain h | h | h | h : i1.val < 1024 ∨ 1024 ≤ i1.val ∧ i1.val < 2048 ∨ 2048 ≤ i1.val ∧ i1.val < 3072 ∨ 3072 ≤ i1.val := by omega
  · rw [actsArr_at _ i0 0 ⟨i1.val - 0, by omega⟩ _ rfl (by show i1.val = 1024 * 0 + (i1.val - 0); omega)]
    refine Eq.trans ?_ (e42 i0 ⟨i1.val - 0, by omega⟩)
    pointwise
    rw [dif_pos (by omega)]
  · rw [actsArr_at _ i0 1 ⟨i1.val - 1024, by omega⟩ _ rfl (by show i1.val = 1024 * 1 + (i1.val - 1024); omega)]
    refine Eq.trans ?_ (e95 i0 ⟨i1.val - 1024, by omega⟩)
    pointwise
    rw [dif_neg (by omega), dif_pos (by omega)]
  · rw [actsArr_at _ i0 2 ⟨i1.val - 2048, by omega⟩ _ rfl (by show i1.val = 1024 * 2 + (i1.val - 2048); omega)]
    refine Eq.trans ?_ (e100 i0 ⟨i1.val - 2048, by omega⟩)
    pointwise
    rw [dif_neg (by omega), dif_neg (by omega), dif_pos (by omega)]
    exact congrArg (fun t => y100 (ix2 i0 t)) (Fin.ext (by dsimp only; omega))
  · rw [actsArr_at _ i0 3 ⟨i1.val - 3072, by omega⟩ _ rfl (by show i1.val = 1024 * 3 + (i1.val - 3072); omega)]
    refine Eq.trans ?_ (e97 i0 ⟨i1.val - 3072, by omega⟩)
    pointwise
    rw [dif_neg (by omega), dif_neg (by omega), dif_neg (by omega)]
    exact congrArg (fun t => y97 (ix2 i0 t)) (Fin.ext (by dsimp only; omega))

/-- The reference's row sums. -/
theorem v114_eq : val_main_v114 (F := Ideal) x0 x1 x2 x3 x4 x5 x6 x7 x8 = sumsArr (refRows x0 x1 x2 x3 x4 x5 x6 x7 x8) := by
  have e78 := fun q => v78_at x0 x1 x2 x3 x4 x5 x6 x7 x8 q
  have e107 := fun q => v107_at x0 x1 x2 x3 x4 x5 x6 x7 x8 q
  funext i
  idx_vars i
  rw [sumsArr_at _ i0 i1 _ rfl rfl]
  unfold sums val_main_v114 val_main_v113 val_main_v108 val_main_v79 val_main_cst_22
  rw [← e78, ← e107]
  generalize val_main_v78 (F := Ideal) x0 x1 x2 x3 x4 x5 x6 x7 x8 = y78
  generalize val_main_v107 (F := Ideal) x0 x1 x2 x3 x4 x5 x6 x7 x8 = y107
  pointwise
  fin_vals i0 with hi
  all_goals simp [hi]

end Cert.Merge

end
-- ==== Proof.MergeEq.lean ====
/- The merge kernel and its reference agree. -/
module

public import proofs.«01_k».proof.Proof.MergeRef
public import proofs.«01_k».proof.Proof.MergePre
public import proofs.«01_k».proof.Proof.MergeRefRun

@[expose] public section

set_option maxRecDepth 16384

noncomputable section

namespace Cert.Merge

open Idealize.ShloMosaic Idealize.ShloMosaic.TcCoe Idealize.SL.Sem Cert.MergeReferenceIdeal.Read
open Cert.MergeIdeal.Hand (weights wts ShardOk one_word shard_lt shardOk_of_lt)

/-- The reference's weights: the quarter of the rows that the shard's number names comes from the shard. -/
theorem v10_at (x6 : Cert.MergeReferenceIdeal.S3x1024x1024.Idx → EReal) (x7 : Cert.MergeReferenceIdeal.S3x256x1024.Idx → EReal)
    (x8 : Cert.MergeReferenceIdeal.S1.Idx → BitVec 32) (j : Fin 3) (a b : Fin 1024) :
    val_main_v10 (F := Ideal) x6 x7 x8 (ix3 j a b)
      = if BitVec.ofNat 32 (a.val / 256) = x8 (ValueIdx.ix1 0) then x7 (ix3 j ⟨a.val % 256, by omega⟩ b) else x6 (ix3 j a b) := by
  unfold val_main_v10 val_main_v9 val_main_v8 val_main_v7 val_main_call0_v0 val_main_call0_v1 val_main_v6 val_main_v5 val_main_v4 val_main_v3
    val_main_v2 val_main_v1 val_main_v0
  pointwise
  rw [one_word (ix1 0)]
  generalize x8 (ValueIdx.ix1 0) = w
  by_cases h : BitVec.ofNat 32 (a.val / 256) = w
  · rw [if_pos h, h]
    simp [IntOp.cmpi, Scalar.select]
  · rw [if_neg h]
    have hb : BitVec.ofBool (BitVec.ofNat 32 (a.val / 256) == w) ≠ 1#1 := by
      rw [beq_eq_false_iff_ne.mpr h]; decide
    exact if_neg hb

/-- The weights the kernel assembles are the reference's. -/
theorem weights_eq (x6 : Cert.MergeReferenceIdeal.S3x1024x1024.Idx → EReal) (x7 : Cert.MergeReferenceIdeal.S3x256x1024.Idx → EReal)
    (x8 : Cert.MergeReferenceIdeal.S1.Idx → BitVec 32) (h : (x8 (ValueIdx.ix1 0)).toNat < 4) :
    weights (F := Ideal) (x8 (ValueIdx.ix1 0)) x6 x7 = val_main_v10 (F := Ideal) x6 x7 x8 := by
  have hoff : Cert.MergeIdeal.k0_off1 (x8 (ValueIdx.ix1 0)) = (![0, 256 * (x8 (ValueIdx.ix1 0)).toNat, 0] : Fin 3 → ℕ) := by
    generalize x8 (ValueIdx.ix1 0) = w at h ⊢
    funext a
    have e : (Scalar.muli w 256#32).toNat = 256 * w.toNat := by
      show (w * 256#32).toNat = _
      rw [BitVec.toNat_mul]
      show w.toNat * 256 % 2 ^ 32 = _
      omega
    fin_cases a
    · rfl
    · exact e
    · rfl
  funext y
  idx_vars y
  rw [v10_at]
  unfold weights VecWindow.put
  rw [hoff]
  generalize x8 (ValueIdx.ix1 0) = w at h ⊢
  have hw : BitVec.ofNat 32 (y1.val / 256) = w ↔ y1.val / 256 = w.toNat := by
    rw [← BitVec.toNat_inj, BitVec.toNat_ofNat, Nat.mod_eq_of_lt (by omega)]
  have hin : (∀ a : Fin 3, (![0, 256 * w.toNat, 0] : Fin 3 → ℕ) a ≤ (ix3 y0 y1 y2 a).val
      ∧ (ix3 y0 y1 y2 a).val < (![0, 256 * w.toNat, 0] : Fin 3 → ℕ) a + Cert.MergeIdeal.S3x256x1024.size a) ↔ y1.val / 256 = w.toNat := by
    constructor
    · intro hh
      have h1 : 256 * w.toNat ≤ y1.val ∧ y1.val < 256 * w.toNat + 256 := hh 1
      omega
    · intro hh a
      fin_cases a
      · show 0 ≤ y0.val ∧ y0.val < 0 + 3
        omega
      · show 256 * w.toNat ≤ y1.val ∧ y1.val < 256 * w.toNat + 256
        omega
      · show 0 ≤ y2.val ∧ y2.val < 0 + 1024
        omega
  by_cases hq : y1.val / 256 = w.toNat
  · rw [dif_pos (hin.mpr hq), if_pos (hw.mpr hq)]
    refine congrArg x7 (funext fun a => ?_)
    fin_cases a
    · exact Fin.ext (show y0.val - 0 = y0.val by omega)
    · exact Fin.ext (show y1.val - 256 * w.toNat = y1.val % 256 by omega)
    · exact Fin.ext (show y2.val - 0 = y2.val by omega)
  · rw [dif_neg (fun hh => hq (hin.mp hh)), if_neg (fun hh => hq (hw.mp hh))]

/-- The weights the first point assembles are the reference's, of the launch's arrays. -/
theorem wts_eq (m : (ℓ : Loc Cert.MergeIdeal.nD Cert.MergeIdeal.τ Cert.MergeIdeal.sig) → Buf (Elt Ideal) ℓ) (c : Dev Cert.MergeIdeal.nD)
    (h : BitVec.toNat (w := 32) (m ((c.tc : Thread _ _).loc Cert.MergeIdeal.main_arg8) (ValueIdx.ix1 0)) < 4) :
    wts m c = val_main_v10 (F := Ideal) (m ((c.tc : Thread _ _).loc Cert.MergeIdeal.main_arg6)) (m ((c.tc : Thread _ _).loc Cert.MergeIdeal.main_arg7)) (m ((c.tc : Thread _ _).loc Cert.MergeIdeal.main_arg8)) := by
  have e : Cert.MergeIdeal.Hand.iblk m c 6 Cert.MergeIdeal.Hand.pt0 (ValueIdx.ix1 0) = m ((c.tc : Thread _ _).loc Cert.MergeIdeal.main_arg8) (ValueIdx.ix1 0) := by
    unfold Cert.MergeIdeal.Hand.iblk
    rw [View.read_apply, cast_eq]
    exact congrArg (m ((c.tc : Thread _ _).loc Cert.MergeIdeal.main_arg8)) (one_word _)
  rw [← weights_eq _ _ _ h, ← e]
  unfold wts
  rfl

/-- The claim of equal results. -/
theorem algebraic : Cert.algebraic_MergeIdeal_MergeReferenceIdeal := by
  intro m g m' g' hpre hagree
  have hlt : ∀ (c : Dev Cert.MergeIdeal.nD) (y : Cert.MergeIdeal.S1.Idx), BitVec.toNat (w := 32) (m ((c.tc : Thread _ _).loc Cert.MergeIdeal.main_arg8) y) < 4 :=
    fun c y => shard_lt _ _ _ _ _ _ _ _ _ (fun z => congrFun (hpre c) z) y
  have hok : ShardOk m := shardOk_of_lt m hlt
  refine ⟨_, _, _, _, _, _, run m hok g, ?_⟩
  refine (θ_run _ _ _).mono (fun r h c => ?_) (refRun m' g')
  obtain ⟨e0, e1, e2, e3, e4, e5, e6, e7, e8⟩ := hagree c
  obtain ⟨h0, h1, h2, h3, h4, h5, hargs⟩ := h c
  have hrows : rows m c = refRows (m ((c.tc : Thread _ _).loc Cert.MergeIdeal.main_arg0)) (m ((c.tc : Thread _ _).loc Cert.MergeIdeal.main_arg1)) (m ((c.tc : Thread _ _).loc Cert.MergeIdeal.main_arg2)) (m ((c.tc : Thread _ _).loc Cert.MergeIdeal.main_arg3)) (m ((c.tc : Thread _ _).loc Cert.MergeIdeal.main_arg4)) (m ((c.tc : Thread _ _).loc Cert.MergeIdeal.main_arg5)) (m ((c.tc : Thread _ _).loc Cert.MergeIdeal.main_arg6)) (m ((c.tc : Thread _ _).loc Cert.MergeIdeal.main_arg7)) (m ((c.tc : Thread _ _).loc Cert.MergeIdeal.main_arg8)) := by
    unfold rows refRows
    rw [wts_eq m c (hlt c _)]
  rw [e0, e1, e2, e3, e4, e5, e6, e7, e8] at h0 h1 h2 h3 h4 h5
  rw [hrows]
  exact ⟨h0.trans (v76_eq ..), h1.trans (v104_eq ..), h2.trans (v103_eq ..), h3.trans (v110_eq ..), h4.trans (v112_eq ..), h5.trans (v114_eq ..), hargs⟩

end Cert.Merge

end
-- ==== Proof.ProjFrame.lean ====
/- The projections' gradients: the body's run, what each grid point leaves, and the whole launch. -/
module

public import proofs.«01_k».proof.Proof.Gen.ProjectionsIdeal.Frame
public import proofs.«01_k».proof.Proof.Gen.ProjectionsIdeal.Skeleton
public import Idealize.ShloMosaic.Lib.VecWindow
public import Idealize.ShloMosaic.Lib.Claim

@[expose] public section

set_option maxRecDepth 16384

noncomputable section

namespace Cert.ProjectionsIdeal.Hand

open Cert.ProjectionsIdeal Cert.ProjectionsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The coordinates of a grid point: which product it works on, and which rows. -/
theorem coords (t : Fin cfg0.N) : (grid0.coords t 0).val = t.val / 8 ∧ (grid0.coords t 1).val = t.val % 8 := by
  have ht : t.val < 24 := Nat.lt_of_lt_of_eq t.isLt N_0
  have e0 : (grid0.coords t 0).val = t.val / 8 % 3 := Pipeline.Grid.coords_val t 0 (by decide) rfl
  have e1 : (grid0.coords t 1).val = t.val / 1 % 8 := Pipeline.Grid.coords_val t 1 (by decide) rfl
  exact ⟨by omega, by omega⟩

/-- The first coordinate says which product the body works on. -/
theorem cond_iff (i : grid0.Coords) : (k0_cond1 i = 1#1 ↔ (i 0).val = 0) ∧ (k0_cond2 i = 1#1 ↔ (i 0).val = 1) ∧ (k0_cond3 i = 1#1 ↔ (i 0).val = 2) := by
  have hi : (i 0).val < 3 := (i 0).isLt
  unfold k0_cond1 k0_cond2 k0_cond3
  dsimp only
  generalize (i 0).val = n at hi ⊢
  refine ⟨?_, ?_, ?_⟩ <;> word_cmp

/-- What a point makes of the sums so far, `x6`, and of its blocks. -/
def step (i : grid0.Coords) (x0 x1 x2 x3 x4 x5 : Vec F S1024x1024 .bf16) (x6 : Vec F S1x1024x1024 .f32) : Vec F S1x1024x1024 .f32 :=
  if k0_cond1 i = 1#1 then k0_pay1 i x6 x0 x4 else if k0_cond2 i = 1#1 then k0_pay2 i x6 x1 x5 else k0_pay3 i x6 x2 x3

/-- At a point of the first block of rows the sums so far do not matter. -/
theorem step_first (i : grid0.Coords) (h : (i 1).val = 0) (x0 x1 x2 x3 x4 x5 : Vec F S1024x1024 .bf16) (x6 x6' : Vec F S1x1024x1024 .f32) :
    step i x0 x1 x2 x3 x4 x5 x6 = step i x0 x1 x2 x3 x4 x5 x6' := by
  have e : Scalar.cmpi .eq (BitVec.ofNat 32 (i 1).val) 0#32 = 1#1 := by rw [h]; rfl
  unfold step k0_pay1 k0_pay2 k0_pay3
  simp only [e]
  rfl

/-- The body run once, whichever product it is at: it leaves `step` of what it finds. -/
theorem kernelRun (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg9 : Memref sig .tc .vmem S1x1024x1024 .f32) (harg9 : arg9.IsWhole)
    (h : (k0_cond1 i = 1#1 ∧ ¬k0_cond2 i = 1#1 ∧ ¬k0_cond3 i = 1#1) ∨ (¬k0_cond1 i = 1#1 ∧ k0_cond2 i = 1#1 ∧ ¬k0_cond3 i = 1#1)
      ∨ (¬k0_cond1 i = 1#1 ∧ ¬k0_cond2 i = 1#1 ∧ k0_cond3 i = 1#1))
    (x0 x1 x2 x3 x4 x5 : Vec F S1024x1024 .bf16) (x6 : Vec F S1x1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (step i x0 x1 x2 x3 x4 x5 x6)) -∗ K ⟨⟩))
      ⊢ wp frame (wpE (defs₀ (F := F)) Variants.none c none) Set.univ (cc0_gw_proj i arg2 harg2 arg3 harg3 arg4 harg4 arg5 harg5 arg6 harg6 arg7 harg7 (Memref.whole main_arg3) (Memref.isWhole_whole _) arg9 harg9) K := by
  simp only [cc0_gw_proj_eq_skeleton]; unfold cc0_gw_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg9.eq_unread hf6
  obtain rfl := harg2.eq_unread hf0; obtain rfl := harg3.eq_unread hf1; obtain rfl := harg4.eq_unread hf2; obtain rfl := harg5.eq_unread hf3; obtain rfl := harg6.eq_unread hf4; obtain rfl := harg7.eq_unread hf5
  rcases h with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; swap; · iexact H6
    ipureintro
    refine (View.read_writes_full _ _ _ _ _).trans ?_
    unfold step
  · rw [if_pos hc0, View.readAt_full, View.readAt_full, View.readAt_full, hf6, hf0, hf4]
  · rw [if_neg hc0, if_pos hc1, View.readAt_full, View.readAt_full, View.readAt_full, hf6, hf1, hf5]
  · rw [if_neg hc0, if_neg hc1, View.readAt_full, View.readAt_full, View.readAt_full, hf6, hf2, hf3]

/-- The sums after the body at position `n`. -/
def sumsAt (c : Dev nD) : (n : ℕ) → n < cfg0.N → Vec F S1x1024x1024 .f32
  | 0, hn => step (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (constant S1x1024x1024 .f32 0x00000000#32)
  | n + 1, hn => step (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (sumsAt c n (Nat.lt_of_succ_lt hn))

/-- At a point of the first block of rows they are the point's step over anything. -/
theorem sumsAt_first (c : Dev nD) (t : Fin cfg0.N) (h : t.val % 8 = 0) (x6 : Vec F S1x1024x1024 .f32) :
    sumsAt m c t.val t.isLt = step (grid0.coords t) (iblk m c 0 t) (iblk m c 1 t) (iblk m c 2 t) (iblk m c 3 t) (iblk m c 4 t) (iblk m c 5 t) x6 := by
  obtain ⟨n, hn⟩ := t
  cases n with
  | zero => exact step_first _ ((coords ⟨0, hn⟩).2.trans h) _ _ _ _ _ _ _ _
  | succ n => exact step_first _ ((coords ⟨n + 1, hn⟩).2.trans h) _ _ _ _ _ _ _ _

/-- At a later point they are its step over those of the point before. -/
theorem sumsAt_next (c : Dev nD) (t : Fin cfg0.N) (h : ¬t.val % 8 = 0) :
    sumsAt m c t.val t.isLt = step (grid0.coords t) (iblk m c 0 t) (iblk m c 1 t) (iblk m c 2 t) (iblk m c 3 t) (iblk m c 4 t) (iblk m c 5 t) (sumsAt m c (t.val - 1) (Nat.lt_of_le_of_lt (Nat.sub_le _ _) t.isLt)) := by
  obtain ⟨n, hn⟩ := t
  cases n with
  | zero => exact absurd rfl h
  | succ n => rfl

/-- The launch's proof data: after each point an input's buffer at its block, the output's at the sums. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => sumsAt m c t.val t.isLt
  Φ _ := Pipeline.ΦA spec0 c
  q w := Pipeline.shareOf spec0 w
  owed _ := 0

/-- The proof data's arrays are the launched ones. -/
theorem A_eq (c : Dev nD) (w : Fin cfg0.W) : (dats m 0 c).A w = V m c (Pipeline.arrRef spec0 w) := by
  dsimp only [dats]

/-- What each input's buffer holds when the body is called: the point's block of its array. -/
theorem kept (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t) :=
  ⟨before0_0_of m (dats m 0 c) (A_eq m c 0) (fun _ => by dsimp only [dats]) t,
    before0_1_of m (dats m 0 c) (A_eq m c 1) (fun _ => by dsimp only [dats]) t,
    before0_2_of m (dats m 0 c) (A_eq m c 2) (fun _ => by dsimp only [dats]) t,
    before0_3_of m (dats m 0 c) (A_eq m c 3) (fun _ => by dsimp only [dats]) t,
    before0_4_of m (dats m 0 c) (A_eq m c 4) (fun _ => by dsimp only [dats]) t,
    before0_5_of m (dats m 0 c) (A_eq m c 5) (fun _ => by dsimp only [dats]) t⟩

/-- Every point works on one of the three products, so that the output is stored at each. -/
theorem live6 (i : grid0.Coords) : cfg0.idle 6 i = false := by
  have h := cond_iff i
  have hi : (i 0).val < 3 := (i 0).isLt
  show (!(k0_cond1 i == 1#1) && !(k0_cond2 i == 1#1) && !(k0_cond3 i == 1#1)) = false
  have : (i 0).val = 0 ∨ (i 0).val = 1 ∨ (i 0).val = 2 := by omega
  rcases this with e | e | e
  · simp [h.1.mpr e]
  · simp [h.2.1.mpr e]
  · simp [h.2.2.mpr e]

/-- At a later point of a product the output's buffer still holds the sums of the point before. -/
theorem before_sums (c : Dev nD) (t : Fin cfg0.N) (h : ¬t.val % 8 = 0) (d) :
    (dats m 0 c).before 6 t d = sumsAt m c (t.val - 1) (Nat.lt_of_le_of_lt (Nat.sub_le _ _) t.isLt) := by
  have hN : t.val < 24 := Nat.lt_of_lt_of_eq t.isLt N_0
  rw [Dat.before_out_kept _ 6 rfl t (by omega) (Bool.eq_false_iff.mpr fun h => by have := (flush0_6 _).mp h; dsimp only at this; omega)
    live6 (fun _ _ => rfl)]
  dsimp only [dats]

/-- Exactly one of the three conditions holds at a point. -/
theorem one_case (t : Fin cfg0.N) :
    (k0_cond1 (grid0.coords t) = 1#1 ∧ ¬k0_cond2 (grid0.coords t) = 1#1 ∧ ¬k0_cond3 (grid0.coords t) = 1#1)
      ∨ (¬k0_cond1 (grid0.coords t) = 1#1 ∧ k0_cond2 (grid0.coords t) = 1#1 ∧ ¬k0_cond3 (grid0.coords t) = 1#1)
      ∨ (¬k0_cond1 (grid0.coords t) = 1#1 ∧ ¬k0_cond2 (grid0.coords t) = 1#1 ∧ k0_cond3 (grid0.coords t) = 1#1) := by
  have hi : (grid0.coords t 0).val < 3 := (grid0.coords t 0).isLt
  obtain ⟨h1, h2, h3⟩ := cond_iff (grid0.coords t)
  rw [h1, h2, h3]
  omega

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

/-- The body at any point: from the blocks and the sums so far to the sums with the point's own. -/
theorem sound_body (c : Dev nD) (t : Fin cfg0.N) :
    bodyPre m c t ⊢ wp frame (wpE (defs₀ (F := F)) Variants.none c none) Set.univ (bodyAt0 t) (fun _ => bodyPost m c t) := by
  obtain ⟨b0, b1, b2, b3, b4, b5⟩ := kept m c t
  have hs : ∀ d, step (grid0.coords t) (iblk m c 0 t) (iblk m c 1 t) (iblk m c 2 t) (iblk m c 3 t) (iblk m c 4 t) (iblk m c 5 t) ((dats m 0 c).before 6 t d) = sumsAt m c t.val t.isLt := fun d => by
    by_cases h : t.val % 8 = 0
    · exact (sumsAt_first m c t h _).symm
    · rw [before_sums m c t h d, sumsAt_next m c t h]
  unfold bodyPre bodyPost bodyAt0
  simp only [b0, b1, b2, b3, b4, b5]
  rw [show (dats m 0 c).Φ t.succ = (dats m 0 c).Φ t.castSucc from rfl,
    show (dats m 0 c).owesAt () t.succ = (dats m 0 c).owesAt () t.castSucc from rfl,
    show (dats m 0 c).leavesExact 6 t = owns (c : Thread nD τ) (st0_6 t) fullShare ((dats m 0 c).after 6 t) from by
      unfold Dat.leavesExact; rw [live6]]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernelRun c (grid0.coords t) _ _ _ _ _ _ _ _ _ _ _ _ _ _ (one_case t) (iblk m c 0 t) (iblk m c 1 t) (iblk m c 2 t) (iblk m c 3 t) (iblk m c 4 t) (iblk m c 5 t) ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  rw [hs]
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it terminates with every array at what the points wrote back, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run : θ_run defs (onTc (τ := τ) (main (F := F))) (s₀ m ρ) (Pipeline.FramePost cfgs (dats m) 0 (V m)) :=
  (θ_run defs _ _).mono (fun _ h => h.1) (run_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

end Cert.ProjectionsIdeal.Hand

end
-- ==== Proof.ProjPre.lean ====
/- The projections' kernel: its two printed texts are one, and both leave their arguments unchanged. -/
module

public import proofs.«01_k».proof.Proof.ProjFrame
public import proofs.«01_k».proof.Defs
public import proofs.«01_k».proof.Proof.Gen.Projections.Skeleton

@[expose] public section

set_option maxRecDepth 16384

noncomputable section

namespace Cert.Proj

open Idealize.ShloMosaic Idealize.ShloMosaic.TcCoe Idealize.SL.Sem

variable {F : FTy → Type} [FloatOps F]

/-- The two printed texts' body tables are one. -/
theorem defs₀_eq : @Cert.Projections.defs₀ F _ Cert.Projections.Gen.facts = @Cert.ProjectionsIdeal.defs₀ F _ Cert.ProjectionsIdeal.Gen.facts := by
  unfold Cert.Projections.defs₀ Cert.ProjectionsIdeal.defs₀
  refine congrArg Defs.onTc ?_
  funext l a
  match l, a with
  | 0, (t, s) => rfl
  | ⟨_ + 1, h⟩, _ => exact absurd h (Nat.not_lt.2 (Nat.le_add_left _ _))

/-- And so are the tables with the launch's rounds. -/
theorem defs_eq : @Cert.Projections.defs F _ Cert.Projections.Gen.facts = @Cert.ProjectionsIdeal.defs F _ Cert.ProjectionsIdeal.Gen.facts := by
  unfold Cert.Projections.defs Cert.ProjectionsIdeal.defs
  exact congrArg (Idealize.ShloMosaic.Pipeline.defs (Cert.ProjectionsIdeal.pcfgs (F := F))) defs₀_eq

/-- The frame of the bit-exact reading. -/
theorem frame : Cert.quiescent_Projections := fun m ρ _ => by
  rw [defs_eq]
  exact Cert.ProjectionsIdeal.Hand.frame (F := Bits) m ρ

/-- The frame of the ideal reading. -/
theorem frameIdeal : Cert.quiescent_ProjectionsIdeal := fun m ρ _ =>
  Cert.ProjectionsIdeal.Hand.frame (F := Ideal) m ρ

end Cert.Proj

end
-- ==== Proof.ProjArray.lean ====
/- What the projections' kernel leaves in its result: three products, each summed over every token. -/
module

public import proofs.«01_k».proof.Proof.ProjFrame
public import Idealize.ShloMosaic.Lib.Pointwise
public import Idealize.ShloMosaic.Lib.WholeRead
public import Idealize.ShloMosaic.Lib.Pipeline.ValueKit
public import Idealize.ShloMosaic.Lib.Pipeline.ReadBack

@[expose] public section

set_option maxRecDepth 16384

noncomputable section

namespace Cert.Proj

open Cert.ProjectionsIdeal Cert.ProjectionsIdeal.Gen Cert.ProjectionsIdeal.Hand Idealize.ShloMosaic Idealize.ShloMosaic.TcCoe Idealize.SL.Sem
open Idealize.ShloMosaic.Pipeline (Dat)

/-- The input of projection `w` at token `n`: the first branch, the second, the merged one. -/
def input (UA UB : S8192x1024.Idx → EReal) (SD : S8192x4096.Idx → EReal) (w : Fin 3) (n : Fin 8192) (a : Fin 1024) : EReal :=
  if w.val = 0 then UA (ix2 n a) else if w.val = 1 then UB (ix2 n a) else SD (ix2 n ⟨a.val, by omega⟩)

/-- The gradient of its output at token `n`. -/
def grad (SD : S8192x4096.Idx → EReal) (w : Fin 3) (n : Fin 8192) (b : Fin 1024) : EReal :=
  if w.val = 0 then SD (ix2 n ⟨2048 + b.val, by omega⟩) else if w.val = 1 then SD (ix2 n ⟨3072 + b.val, by omega⟩)
  else SD (ix2 n ⟨1024 + b.val, by omega⟩)

/-- The gradient of a projection's weight: the two multiplied and summed over the tokens. -/
def weightGrad (UA UB : S8192x1024.Idx → EReal) (SD : S8192x4096.Idx → EReal) (w : Fin 3) (a b : Fin 1024) : EReal :=
  ∑ n, input UA UB SD w n a * grad SD w n b

/-- The array of the three weights' gradients. -/
def gradArr (UA UB : S8192x1024.Idx → EReal) (SD : S8192x4096.Idx → EReal) (i : S3x1024x1024.Idx) : EReal :=
  have h0 : (i 0).val < 3 := (i 0).isLt
  have h1 : (i 1).val < 1024 := (i 1).isLt
  have h2 : (i 2).val < 1024 := (i 2).isLt
  weightGrad UA UB SD ⟨(i 0).val, h0⟩ ⟨(i 1).val, h1⟩ ⟨(i 2).val, h2⟩

/-- That array at an index. -/
theorem gradArr_at (UA UB : S8192x1024.Idx → EReal) (SD : S8192x4096.Idx → EReal) (w : Fin 3) (a b : Fin 1024) (i : S3x1024x1024.Idx)
    (h0 : (i 0).val = w.val) (h1 : (i 1).val = a.val) (h2 : (i 2).val = b.val) : gradArr UA UB SD i = weightGrad UA UB SD w a b := by
  unfold gradArr
  dsimp only
  congr 1 <;> exact Fin.ext (by assumption)

/-- One step's value: the block's product onto the sums so far, or onto zero at the first block of rows. -/
theorem pay_at (i : grid0.Coords) (x6 : Vec Ideal S1x1024x1024 .f32) (x y : Vec Ideal S1024x1024 .bf16) (a b : Fin 1024) :
    k0_pay1 i x6 x y (ix3 0 a b) = (if (i 1).val = 0 then 0 else x6 (ix3 0 a b)) + ∑ n : Fin 1024, x (ix2 n a) * y (ix2 n b) := by
  have hi : (i 1).val < 8 := (i 1).isLt
  have hc : Scalar.cmpi .eq (BitVec.ofNat 32 (i 1).val) 0#32 = 1#1 ↔ (i 1).val = 0 := by
    generalize (i 1).val = n at hi ⊢
    word_cmp
  unfold k0_pay1
  dsimp only
  generalize Scalar.cmpi .eq (BitVec.ofNat 32 (i 1).val) 0#32 = w at hc ⊢
  by_cases h : (i 1).val = 0
  · rw [if_pos h]
    obtain rfl := hc.mpr h
    pointwise
  · rw [if_neg h]
    obtain rfl : w = 0#1 := (by decide : ∀ w : BitVec 1, ¬w = 1#1 → w = 0#1) w (mt hc.mp h)
    pointwise

variable (m : (ℓ : Loc nD τ sig) → Buf (Elt Ideal) ℓ) (c : Dev nD) (t : Fin cfg0.N)

/-- The block of rows of the left factor that a point multiplies. -/
def left : Vec Ideal S1024x1024 .bf16 :=
  if t.val / 8 = 0 then iblk m c 0 t else if t.val / 8 = 1 then iblk m c 1 t else iblk m c 2 t

/-- The block of rows of the right factor. -/
def right : Vec Ideal S1024x1024 .bf16 :=
  if t.val / 8 = 0 then iblk m c 4 t else if t.val / 8 = 1 then iblk m c 5 t else iblk m c 3 t

/-- A point's step, whichever product it is at. -/
theorem step_at (x6 : Vec Ideal S1x1024x1024 .f32) (j : S1x1024x1024.Idx) :
    step (grid0.coords t) (iblk m c 0 t) (iblk m c 1 t) (iblk m c 2 t) (iblk m c 3 t) (iblk m c 4 t) (iblk m c 5 t) x6 j
      = (if t.val % 8 = 0 then 0 else x6 j) + ∑ n : Fin 1024, left m c t (ix2 n (j 1)) * right m c t (ix2 n (j 2)) := by
  have e : step (grid0.coords t) (iblk m c 0 t) (iblk m c 1 t) (iblk m c 2 t) (iblk m c 3 t) (iblk m c 4 t) (iblk m c 5 t) x6
      = k0_pay1 (grid0.coords t) x6 (left m c t) (right m c t) := by
    obtain ⟨h1, h2, -⟩ := cond_iff (grid0.coords t)
    unfold step left right
    simp only [h1, h2, (coords t).1]
    split
    · rfl
    · split <;> rfl
  have ej : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  rw [e, ← (coords t).2]
  exact (congrArg _ ej).trans ((pay_at _ _ _ _ (j 1) (j 2)).trans
    (congrArg (fun z => (if (grid0.coords t 1).val = 0 then 0 else x6 z) + ∑ n : Fin 1024, left m c t (ix2 n (j 1)) * right m c t (ix2 n (j 2))) ej.symm))

/-- Which block of each array a point works on. -/
theorem idx : ∀ t : Fin cfg0.N, win0_0.index t = ![if t.val / 8 = 0 then t.val % 8 else 0, 0] ∧ win0_1.index t = ![if t.val / 8 = 1 then t.val % 8 else 0, 0]
    ∧ win0_2.index t = ![if t.val / 8 = 2 then t.val % 8 else 0, 0] ∧ win0_3.index t = ![if t.val / 8 = 2 then t.val % 8 else 0, 1]
    ∧ win0_4.index t = ![if t.val / 8 = 0 then t.val % 8 else 0, 2] ∧ win0_5.index t = ![if t.val / 8 = 1 then t.val % 8 else 0, 3]
    ∧ win0_6.index t = ![t.val / 8, 0, 0] :=
  (by decide +kernel : ∀ t : Fin grid0.N, win0_0.index t = ![if t.val / 8 = 0 then t.val % 8 else 0, 0] ∧ win0_1.index t = ![if t.val / 8 = 1 then t.val % 8 else 0, 0]
    ∧ win0_2.index t = ![if t.val / 8 = 2 then t.val % 8 else 0, 0] ∧ win0_3.index t = ![if t.val / 8 = 2 then t.val % 8 else 0, 1]
    ∧ win0_4.index t = ![if t.val / 8 = 0 then t.val % 8 else 0, 2] ∧ win0_5.index t = ![if t.val / 8 = 1 then t.val % 8 else 0, 3]
    ∧ win0_6.index t = ![t.val / 8, 0, 0])

/-- The left factor's rows are the projection's input at the tokens of the block. -/
theorem left_at (k a : Fin 1024) (w : Fin 3) (n : Fin 8192) (hw : w.val = t.val / 8) (hn : n.val = (t.val % 8) * 1024 + k.val) :
    left m c t (ix2 k a) = input (m ((c : Thread nD τ).loc main_arg0)) (m ((c : Thread nD τ).loc main_arg1)) (m ((c : Thread nD τ).loc main_arg2)) w n a := by
  obtain ⟨e0, e1, e2, e3, e4, e5, -⟩ := idx t
  have hN : t.val < 24 := t.isLt
  unfold left input
  rw [hw]
  split
  · rename_i h
    rw [if_pos h] at e0
    blk_ext [iblk, V, e0]
  · split
    · rename_i h
      rw [if_pos h] at e1
      blk_ext [iblk, V, e1]
    · rw [if_pos (by omega : t.val / 8 = 2)] at e2
      blk_ext [iblk, V, e2]

/-- The right factor's rows are its output's gradient at the tokens of the block. -/
theorem right_at (k b : Fin 1024) (w : Fin 3) (n : Fin 8192) (hw : w.val = t.val / 8) (hn : n.val = (t.val % 8) * 1024 + k.val) :
    right m c t (ix2 k b) = grad (m ((c : Thread nD τ).loc main_arg2)) w n b := by
  obtain ⟨e0, e1, e2, e3, e4, e5, -⟩ := idx t
  have hN : t.val < 24 := t.isLt
  unfold right grad
  rw [hw]
  split
  · rename_i h
    rw [if_pos h] at e4
    blk_ext [iblk, V, e4]
  · split
    · rename_i h
      rw [if_pos h] at e5
      blk_ext [iblk, V, e5]
    · rw [if_pos (by omega : t.val / 8 = 2)] at e3
      blk_ext [iblk, V, e3]

/-- One point's addition to the sums. -/
def term (c : Dev nD) (t : Fin cfg0.N) (j : S1x1024x1024.Idx) : EReal := ∑ n : Fin 1024, left m c t (ix2 n (j 1)) * right m c t (ix2 n (j 2))

/-- The first point of a product leaves its own addition. -/
theorem sums_first (t : Fin cfg0.N) (h : t.val % 8 = 0) (j : S1x1024x1024.Idx) : sumsAt m c t.val t.isLt j = 0 + term m c t j := by
  rw [sumsAt_first m c t h (fun _ => (0 : EReal)), step_at, if_pos h]
  rfl

/-- Every later point adds its own to what it finds. -/
theorem sums_next (t : Fin cfg0.N) (h : ¬t.val % 8 = 0) (j : S1x1024x1024.Idx) :
    sumsAt m c t.val t.isLt j = sumsAt m c (t.val - 1) (Nat.lt_of_le_of_lt (Nat.sub_le _ _) t.isLt) j + term m c t j := by
  rw [sumsAt_next m c t h, step_at, if_neg h]
  rfl

/-- The array of the three gradients. -/
theorem final6 : (dats (F := Ideal) m 0 c).arrAt 6 cfg0.N
    = gradArr (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨-, -, -, -, -, -, e⟩ := idx t
  blk_simp
  show sumsAt m c t.val t.isLt y = _
  have hN : t.val < 24 := t.isLt
  have hy0 : (y 0).val < 1 := (y 0).isLt
  have hy1 : (y 1).val < 1024 := (y 1).isLt
  have hy2 : (y 2).val < 1024 := (y 2).isLt
  have hr : t.val % 8 = 8 - 1 := (flush0_6 t).mp hf
  refine (Pipeline.eq_sum_fin_of_reset_step_apply_of_flush (fun n h => sumsAt (F := Ideal) m c n h) 8 (fun _ => 0) (term m c)
    (fun t h j => sums_first m c t h j) (fun t h j => sums_next m c t h j) t hr y).trans ?_
  dsimp only
  rw [zero_add]
  have key := Fin.sum_mul_add_fin 8 1024 (fun n : Fin 8192 => input (m ((c : Thread nD τ).loc main_arg0)) (m ((c : Thread nD τ).loc main_arg1)) (m ((c : Thread nD τ).loc main_arg2)) ⟨t.val / 8, by omega⟩ n ⟨(y 1).val, hy1⟩
      * grad (m ((c : Thread nD τ).loc main_arg2)) ⟨t.val / 8, by omega⟩ n ⟨(y 2).val, hy2⟩) rfl
  refine Eq.trans ?_ (key.trans ?_)
  · refine Finset.sum_congr rfl fun s _ => Finset.sum_congr rfl fun k _ => ?_
    have hs : s.val < 8 := s.isLt
    exact congrArg₂ (· * ·) (left_at m c _ k _ _ _ (by dsimp only; omega) (by dsimp only; omega))
      (right_at m c _ k _ _ _ (by dsimp only; omega) (by dsimp only; omega))
  · refine (gradArr_at _ _ _ ⟨t.val / 8, by omega⟩ ⟨(y 1).val, hy1⟩ ⟨(y 2).val, hy2⟩ _ ?_ ?_ ?_).symm
    all_goals
      blk_simp [e]
      try dsimp only
      try omega

/-- The kernel's run: the result in closed form, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = gradArr (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 6).trans (final6 m c), h.2.1 c⟩)
    (θ_run_and (Hand.run m ρ) (Hand.frame m ρ))

end Cert.Proj

end
-- ==== Proof.ProjEq.lean ====
/- The projections' kernel and its reference agree. -/
module

public import proofs.«01_k».proof.Proof.ProjArray
public import proofs.«01_k».proof.Proof.ProjPre
public import proofs.«01_k».proof.Proof.Gen.ProjectionsReferenceIdeal.Read

@[expose] public section

set_option maxRecDepth 16384

noncomputable section

namespace Cert.Proj

open Cert.ProjectionsReferenceIdeal Cert.ProjectionsReferenceIdeal.Gen Cert.ProjectionsReferenceIdeal.Read Idealize.ShloMosaic Idealize.ShloMosaic.TcCoe Idealize.SL.Sem Idealize.ShloMosaic.StableHlo

variable (x0 x1 : S8192x1024.Idx → EReal) (x2 : S8192x4096.Idx → EReal)

/-- The first branch's weight gradient in the reference. -/
theorem v14_at (a b : Fin 1024) : val_main_v14 (F := Ideal) x0 x2 (ix2 a b) = weightGrad x0 x1 x2 0 a b := by
  rw [val_main_v14_apply, val_main_v13_apply]
  refine Finset.sum_congr rfl fun n _ => ?_
  rw [val_main_v5_apply]
  refine (mul_comm _ _).trans (congrArg₂ (· * ·) ?_ ?_)
  · exact congrArg x0 (by funext d; match d with | ⟨0, _⟩ => rfl | ⟨1, _⟩ => rfl)
  · exact congrArg x2 (by funext d; match d with | ⟨0, _⟩ => rfl | ⟨1, _⟩ => rfl)

/-- The second branch's. -/
theorem v12_at (a b : Fin 1024) : val_main_v12 (F := Ideal) x1 x2 (ix2 a b) = weightGrad x0 x1 x2 1 a b := by
  rw [val_main_v12_apply, val_main_v11_apply]
  refine Finset.sum_congr rfl fun n _ => ?_
  rw [val_main_v6_apply]
  refine (mul_comm _ _).trans (congrArg₂ (· * ·) ?_ ?_)
  · exact congrArg x1 (by funext d; match d with | ⟨0, _⟩ => rfl | ⟨1, _⟩ => rfl)
  · exact congrArg x2 (by funext d; match d with | ⟨0, _⟩ => rfl | ⟨1, _⟩ => rfl)

/-- The output projection's. -/
theorem v16_at (a b : Fin 1024) : val_main_v16 (F := Ideal) x2 (ix2 a b) = weightGrad x0 x1 x2 2 a b := by
  rw [val_main_v16_apply, val_main_v15_apply]
  refine Finset.sum_congr rfl fun n _ => ?_
  rw [val_main_v4_apply, val_main_v3_apply]
  refine (mul_comm _ _).trans (congrArg₂ (· * ·) ?_ ?_)
  · exact congrArg x2 (by funext d; match d with | ⟨0, _⟩ => rfl | ⟨1, _⟩ => rfl)
  · exact congrArg x2 (by funext d; match d with | ⟨0, _⟩ => rfl | ⟨1, _⟩ => rfl)

/-- The reference's result is the array of the three gradients. -/
theorem v20_eq : gradArr x0 x1 x2 = val_main_v20 (F := Ideal) x0 x1 x2 := by
  have e0 := v14_at x0 x1 x2
  have e1 := v12_at x0 x1 x2
  have e2 := v16_at x0 x1 x2
  funext i
  idx_vars i
  rw [gradArr_at x0 x1 x2 i0 i1 i2 _ rfl rfl rfl]
  unfold val_main_v20 val_main_v17 val_main_v18 val_main_v19
  generalize val_main_v14 (F := Ideal) x0 x2 = y0 at e0 ⊢
  generalize val_main_v12 (F := Ideal) x1 x2 = y1 at e1 ⊢
  generalize val_main_v16 (F := Ideal) x2 = y2 at e2 ⊢
  pointwise
  simp only [e0, e1, e2]
  split
  · obtain rfl : i0 = 0 := Fin.ext (by omega)
    rfl
  · split
    · obtain rfl : i0 = 1 := Fin.ext (by have : ((1 : Fin 3) : ℕ) = 1 := rfl; omega)
      rfl
    · obtain rfl : i0 = 2 := Fin.ext (by have : ((2 : Fin 3) : ℕ) = 2 := rfl; omega)
      rfl

/-- The reference's run: the result in its operations' terms, the arguments unchanged. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = val_main_v20 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v20_eq _ _ _), (h c).2⟩)
    (Cert.ProjectionsReferenceIdeal.Value.run (F := Ideal) m ρ)

/-- The frame of the reference, which declares no semaphore. -/
theorem frameReference : Cert.quiescent_ProjectionsReferenceIdeal := fun m ρ _ =>
  (θ_run Cert.ProjectionsReferenceIdeal.defs _ _).mono (fun _ h => ⟨fun c => (h c).2, funext nofun⟩) (refRun m ρ)

/-- The claim of equal results. -/
theorem algebraic : Cert.algebraic_ProjectionsIdeal_ProjectionsReferenceIdeal := by
  intro m g m' g' hpre hagree
  refine ⟨_, run m g, ?_⟩
  refine (θ_run _ _ _).mono (fun r h c => ?_) (refRun m' g')
  obtain ⟨e0, e1, e2, e3⟩ := hagree c
  obtain ⟨h0, hargs⟩ := h c
  rw [e0, e1, e2] at h0
  exact ⟨h0.trans (v20_eq ..).symm, hargs⟩

end Cert.Proj

end
-- ==== Proof.GinRuns.lean ====
/- The input projection's gradient: what its body reads and writes, its conditions, and where its copies land. -/
module

public import proofs.«01_k».proof.Proof.Gen.InputProjectionIdeal.Launch
public import proofs.«01_k».proof.Proof.Gen.InputProjectionIdeal.Skeleton
public import proofs.«01_k».proof.Proof.Gen.InputProjectionIdeal.Points
public import Idealize.ShloMosaic.Lib.Pipeline.FrameBody
public import Idealize.ShloMosaic.Lib.Pipeline.FrameValue
public import Idealize.ShloMosaic.Lib.Tactic
public import Idealize.ShloMosaic.Lib.WordCmp
public import Idealize.ShloMosaic.Lib.VecWindow
public import Idealize.ShloMosaic.Lib.ValueIdx

@[expose] public section

set_option maxRecDepth 16384

noncomputable section

namespace Cert.InputProjectionIdeal.Hand

open Cert.InputProjectionIdeal Cert.InputProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F]

local notation "𝕄" => MT nD τ sig Unit (Elt F) ℕ (Pipeline.UD sig nD τ) ℕ

/-- The first coordinate says which piece of the cotangents the body works on. -/
theorem piece_iff (i : grid0.Coords) :
    (k0_cond1 i = 1#1 ↔ (i 0).val < 4) ∧ (k0_cond3 i = 1#1 ↔ (i 0).val = 4) ∧ (k0_cond5 i = 1#1 ↔ (i 0).val = 5)
      ∧ (k0_cond7 i = 1#1 ↔ (i 0).val = 6) ∧ (k0_cond9 i = 1#1 ↔ 7 ≤ (i 0).val) := by
  have hi : (i 0).val < 9 := (i 0).isLt
  unfold k0_cond1 k0_cond3 k0_cond5 k0_cond7 k0_cond9
  dsimp only
  generalize (i 0).val = n at hi ⊢
  refine ⟨?_, ?_, ?_, ?_, ?_⟩ <;> word_cmp

/-- The second says whether it is at the last rows, after which the sums are copied out. -/
theorem last_iff (i : grid0.Coords) :
    (k0_cond2 i = 1#1 ↔ (i 1).val = 3) ∧ (k0_cond4 i = 1#1 ↔ (i 1).val = 3) ∧ (k0_cond6 i = 1#1 ↔ (i 1).val = 3)
      ∧ (k0_cond8 i = 1#1 ↔ (i 1).val = 3) ∧ (k0_cond10 i = 1#1 ↔ (i 1).val = 3) := by
  have hi : (i 1).val < 4 := (i 1).isLt
  unfold k0_cond2 k0_cond4 k0_cond6 k0_cond8 k0_cond10
  dsimp only
  generalize (i 1).val = n at hi ⊢
  refine ⟨?_, ?_, ?_, ?_, ?_⟩ <;> word_cmp

/-- Where the copy of a tile of 128 channels of the conv branch lands: at the tile's columns. -/
theorem off1_eq (i : grid0.Coords) (kind jj : ℕ) (hk : kind < 4) (hj : jj < 2) :
    k0_off1 i (BitVec.ofNat 32 (8 * kind)) (BitVec.ofNat 32 jj) = ![0, 1024 * kind + 256 * (i 0).val + 128 * jj] := by
  have hi : (i 0).val < 9 := (i 0).isLt
  have h : ∀ (k : Fin 4) (j : Fin 2) (n : Fin 9), (Scalar.muli (Scalar.addi (Scalar.addi (BitVec.ofNat 32 (8 * k.val)) (Scalar.muli 2#32 (Scalar.subi (BitVec.ofNat 32 n.val) 0#32))) (BitVec.ofNat 32 j.val)) 128#32).toNat = 1024 * k.val + 256 * n.val + 128 * j.val := by decide +kernel
  unfold k0_off1
  dsimp only
  exact congrArg (fun v : ℕ => ![0, v]) (h ⟨kind, hk⟩ ⟨jj, hj⟩ ⟨(i 0).val, hi⟩)

/-- Where the single copies of the other pieces land. -/
theorem off2_eq (i : grid0.Coords) (h : (i 0).val = 4) : k0_off2 i = ![0, 4096] := by
  unfold k0_off2
  dsimp only
  rw [h]
  rfl
/-- The keys' and values' columns. -/
theorem off3_eq (i : grid0.Coords) (h : (i 0).val = 5) : k0_off3 i = ![0, 5120] := by
  unfold k0_off3
  dsimp only
  rw [h]
  rfl
/-- The attention gate's columns. -/
theorem off4_eq (i : grid0.Coords) (h : (i 0).val = 6) : k0_off4 i = ![0, 5376] := by
  unfold k0_off4
  dsimp only
  rw [h]
  rfl
/-- The two chunks of the branch gates' columns. -/
theorem off5_eq (i : grid0.Coords) (h : 7 ≤ (i 0).val) : k0_off5 i = ![0, 6400 + 1024 * ((i 0).val - 7)] := by
  have hi : (i 0).val < 9 := (i 0).isLt
  have h' : ∀ n : Fin 9, 7 ≤ n.val → (Scalar.addi 6400#32 (Scalar.muli (Scalar.subi (BitVec.ofNat 32 n.val) 7#32) 1024#32)).toNat = 6400 + 1024 * (n.val - 7) := by decide +kernel
  unfold k0_off5
  dsimp only
  exact congrArg (fun v : ℕ => ![0, v]) (h' ⟨(i 0).val, hi⟩ h)

instance (i : grid0.Coords) : ClosedOff (k0_off1 i 0#32 0#32) := ⟨![0, 256 * (i 0).val], (off1_eq i 0 0 (by decide) (by decide)).trans (by simp)⟩
instance (i : grid0.Coords) : ClosedOff (k0_off1 i 8#32 0#32) := ⟨![0, 1024 + 256 * (i 0).val], (off1_eq i 1 0 (by decide) (by decide)).trans (by simp)⟩
instance (i : grid0.Coords) : ClosedOff (k0_off1 i 16#32 0#32) := ⟨![0, 2048 + 256 * (i 0).val], (off1_eq i 2 0 (by decide) (by decide)).trans (by simp)⟩
instance (i : grid0.Coords) : ClosedOff (k0_off1 i 24#32 0#32) := ⟨![0, 3072 + 256 * (i 0).val], (off1_eq i 3 0 (by decide) (by decide)).trans (by simp)⟩
instance (i : grid0.Coords) : ClosedOff (k0_off1 i 0#32 1#32) := ⟨![0, 256 * (i 0).val + 128], (off1_eq i 0 1 (by decide) (by decide)).trans (by simp)⟩
instance (i : grid0.Coords) : ClosedOff (k0_off1 i 8#32 1#32) := ⟨![0, 1024 + 256 * (i 0).val + 128], (off1_eq i 1 1 (by decide) (by decide)).trans (by simp)⟩
instance (i : grid0.Coords) : ClosedOff (k0_off1 i 16#32 1#32) := ⟨![0, 2048 + 256 * (i 0).val + 128], (off1_eq i 2 1 (by decide) (by decide)).trans (by simp)⟩
instance (i : grid0.Coords) : ClosedOff (k0_off1 i 24#32 1#32) := ⟨![0, 3072 + 256 * (i 0).val + 128], (off1_eq i 3 1 (by decide) (by decide)).trans (by simp)⟩

/-- Columns `[c0, c0 + n)` of the result taken from columns `[s, s + n)` of the sums `a`, the others as they were. -/
def copied (c0 n s : ℕ) (a : Vec F S1024x1024 .f32) (g : Vec F S1024x8448 .f32) : Vec F S1024x8448 .f32 := fun y =>
  if c0 ≤ (y 1).val ∧ (y 1).val < c0 + n then a (ix2 (y 0) (Fin.ofNat 1024 (s + ((y 1).val - c0)))) else g y

/-- The chunk of columns (the first grid coordinate) that a column of the result is computed in. -/
def chunk (col : ℕ) : ℕ :=
  if col < 4096 then col / 256 % 4 else if col < 5120 then 4 else if col < 5376 then 5 else if col < 6400 then 6 else 7 + (col - 6400) / 1024

/-- Its column within the chunk. -/
def within (col : ℕ) : ℕ :=
  if col < 4096 then (4 * (col / 128 % 2) + col / 1024) * 128 + col % 128
  else if col < 5120 then col - 4096 else if col < 5376 then col - 5120 else if col < 6400 then col - 5376 else (col - 6400) % 1024

/-- The result after the sums `a` of chunk `j` are copied out: its columns from `a`, the others as they were. -/
def landed (j : ℕ) (a : Vec F S1024x1024 .f32) (g : Vec F S1024x8448 .f32) : Vec F S1024x8448 .f32 := fun y =>
  if chunk (y 1).val = j then a (ix2 (y 0) (Fin.ofNat 1024 (within (y 1).val))) else g y

/-- One piece's copy is its chunk's. -/
theorem copied_eq_landed (c0 n j : ℕ) (a : Vec F S1024x1024 .f32) (g : Vec F S1024x8448 .f32)
    (h : ∀ col < 8448, (chunk col = j ↔ c0 ≤ col ∧ col < c0 + n) ∧ (c0 ≤ col ∧ col < c0 + n → within col = col - c0)) :
    copied c0 n 0 a g = landed j a g := by
  funext y
  obtain ⟨h1, h2⟩ := h (y 1).val (y 1).isLt
  unfold copied landed
  by_cases hc : c0 ≤ (y 1).val ∧ (y 1).val < c0 + n
  · rw [if_pos hc, if_pos (h1.mpr hc), h2 hc, Nat.zero_add]
  · rw [if_neg hc, if_neg fun e => hc (h1.mp e)]

/-- The conv branch's eight copies are together its chunk's. -/
theorem tiles_eq_landed (j : ℕ) (hj : j < 4) (a : Vec F S1024x1024 .f32) (g : Vec F S1024x8448 .f32) :
    copied (1024 * 3 + 256 * j + 128 * 1) 128 896 a (copied (1024 * 2 + 256 * j + 128 * 1) 128 768 a
      (copied (1024 * 1 + 256 * j + 128 * 1) 128 640 a (copied (1024 * 0 + 256 * j + 128 * 1) 128 512 a
        (copied (1024 * 3 + 256 * j + 128 * 0) 128 384 a (copied (1024 * 2 + 256 * j + 128 * 0) 128 256 a
          (copied (1024 * 1 + 256 * j + 128 * 0) 128 128 a (copied (1024 * 0 + 256 * j + 128 * 0) 128 0 a g)))))))
      = landed j a g := by
  funext y
  unfold copied landed
  have hy : (y 1).val < 8448 := (y 1).isLt
  generalize (y 1).val = col at hy ⊢
  by_cases h : col < 4096
  · have e1 : chunk col = col / 256 % 4 := if_pos h
    have e2 : within col = (4 * (col / 128 % 2) + col / 1024) * 128 + col % 128 := if_pos h
    rw [e1, e2]
    split_ifs <;> first | rfl | (exfalso; omega) | exact congrArg (fun n => a (ix2 (y 0) (Fin.ofNat 1024 n))) (by omega)
  · have e1 : 4 ≤ chunk col := by unfold chunk; rw [if_neg h]; split_ifs <;> omega
    rw [if_neg (show ¬chunk col = j by omega)]
    iterate 8 rw [if_neg (by omega)]

/-- What a copy of `n` columns of the sums leaves in the result. -/
theorem read_copied (mo : Memref sig .tc .hbm S1024x8448 .f32) (fo : mo.view.ty.Contents (Elt F)) (mm : Memref sig .tc .vmem S1024x1024 .f32) (f : mm.view.ty.Contents (Elt F)) (off sz : Fin 2 → ℕ) (c0 n s : ℕ)
    (hoff : off = ![0, c0]) (hsz : sz = ![1024, n]) (inb : ∀ a, off a + sz a ≤ S1024x8448.size a) (hz)
    (inb' : ∀ a, (![0, s] : Fin 2 → ℕ) a + sz a ≤ S1024x1024.size a) (hz') (a : Vec F S1024x1024 .f32) (ha : mm.view.read (Elt F) f = a)
    (g : Vec F S1024x8448 .f32) (hg : mo.view.read (Elt F) fo = g) (w : (Rect.unit (s := S1024x8448) off sz inb).shape.Idx → Elt F .f32)
    (hw : w = View.read (Elt F) (mm.slice (Rect.unit (s := S1024x1024) ![0, s] sz inb') hz').view f) :
    mo.view.read (Elt F) (View.write (Elt F) (mo.slice (Rect.unit (s := S1024x8448) off sz inb) hz).view fo w Finset.univ) = copied c0 n s a g := by
  subst hoff hsz ha hg hw
  funext y
  refine (View.read_writes_cons_unit mo.view fo inb _ [] y rfl).trans ?_
  unfold copied
  by_cases h : c0 ≤ (y 1).val ∧ (y 1).val < c0 + n
  · rw [if_pos h, dif_pos (by intro b; match b with | 0 => exact ⟨Nat.zero_le _, by have := (y 0).isLt; simpa using this⟩ | 1 => exact h)]
    refine congrArg (mm.view.read (Elt F) f) (funext fun b => Fin.ext ?_)
    have hb : s + n ≤ 1024 := inb' 1
    match b with
    | 0 => show 0 + 1 * ((y 0).val - 0) = (y 0).val; omega
    | 1 => show s + 1 * ((y 1).val - c0) = (s + ((y 1).val - c0)) % 1024; omega
  · rw [if_neg h, dif_neg (fun H => h (H 1))]
    rfl

/-- What the body leaves in the sums at grid point `i` from sums at `a`: the piece's product of these rows is added, or stands alone at the
    first rows.  The piece of 256 columns works on the first 256 columns of the sums only. -/
noncomputable def step (i : grid0.Coords) (x0 : Vec F S1024x2048 .bf16) (x1 x2 : Vec F S2048x1024 .bf16) (x3 : Vec F S2048x256 .bf16)
    (x4 x5 : Vec F S2048x1024 .bf16) (a : Vec F S1024x1024 .f32) : Vec F S1024x1024 .f32 :=
  if (i 0).val < 4 then k0_pay1 i a x0 x1
  else if (i 0).val = 4 then k0_pay2 i a x0 x2
  else if (i 0).val = 5 then VecWindow.put a ![0, 0] S1024x256.size (k0_pay3 i (VecWindow.window a ![0, 0] S1024x256.size inb_S1024x1024_S1024x256_0_0) x0 x3)
  else if (i 0).val = 6 then k0_pay4 i a x0 x4
  else k0_pay5 i a x0 x5

/-- What it leaves in the result: the chunk's columns, at the last rows. -/
noncomputable def flush (i : grid0.Coords) (a : Vec F S1024x1024 .f32) (g : Vec F S1024x8448 .f32) : Vec F S1024x8448 .f32 :=
  if (i 1).val = 3 then landed (i 0).val a g else g

section
variable {i : grid0.Coords} {x0 : Vec F S1024x2048 .bf16} {x1 x2 : Vec F S2048x1024 .bf16} {x3 : Vec F S2048x256 .bf16} {x4 x5 : Vec F S2048x1024 .bf16}
  {a : Vec F S1024x1024 .f32} {g : Vec F S1024x8448 .f32}

/-- The step at the conv branch's chunks. -/
theorem step_1 (h : (i 0).val < 4) : step i x0 x1 x2 x3 x4 x5 a = k0_pay1 i a x0 x1 := if_pos h
/-- The step at the queries' chunk. -/
theorem step_2 (h : (i 0).val = 4) : step i x0 x1 x2 x3 x4 x5 a = k0_pay2 i a x0 x2 := (if_neg (by omega)).trans (if_pos h)
/-- The step at the keys' and values' chunk. -/
theorem step_3 (h : (i 0).val = 5) : step i x0 x1 x2 x3 x4 x5 a
    = VecWindow.put a ![0, 0] S1024x256.size (k0_pay3 i (VecWindow.window a ![0, 0] S1024x256.size inb_S1024x1024_S1024x256_0_0) x0 x3) :=
  (if_neg (by omega)).trans ((if_neg (by omega)).trans (if_pos h))
/-- The step at the attention gate's chunk. -/
theorem step_4 (h : (i 0).val = 6) : step i x0 x1 x2 x3 x4 x5 a = k0_pay4 i a x0 x4 :=
  (if_neg (by omega)).trans ((if_neg (by omega)).trans ((if_neg (by omega)).trans (if_pos h)))
/-- The step at the branch gates' chunks. -/
theorem step_5 (h : 7 ≤ (i 0).val) : step i x0 x1 x2 x3 x4 x5 a = k0_pay5 i a x0 x5 :=
  (if_neg (by omega)).trans ((if_neg (by omega)).trans ((if_neg (by omega)).trans (if_neg (by omega))))
/-- At the last rows the chunk's columns land. -/
theorem flush_last (h : (i 1).val = 3) : flush i a g = landed (i 0).val a g := if_pos h
/-- At the others the result is left as it was. -/
theorem flush_not (h : ¬(i 1).val = 3) : flush i a g = g := if_neg h

end

/-- A chunk copied at once. -/
theorem copied_chunk (j c0 n : ℕ) (h : 4 ≤ j ∧ j < 9) (hc : c0 = if j = 4 then 4096 else if j = 5 then 5120 else if j = 6 then 5376 else 6400 + 1024 * (j - 7))
    (hn : n = if j = 5 then 256 else 1024) (a : Vec F S1024x1024 .f32) (g : Vec F S1024x8448 .f32) : copied c0 n 0 a g = landed j a g := by
  refine copied_eq_landed c0 n j a g fun col hcol => ?_
  subst hc hn
  unfold chunk within
  constructor
  · split_ifs <;> omega
  · split_ifs <;> omega

/-- A store of the whole of the sums leaves its payload, computed from what the operands hold. -/
theorem wide (mm : Memref sig .tc .vmem S1024x1024 .f32) (hm : mm.IsWhole) (m0 : Memref sig .tc .vmem S1024x2048 .bf16) (h0 : m0.IsWhole)
    (m1 : Memref sig .tc .vmem S2048x1024 .bf16) (h1 : m1.IsWhole) (a : Vec F S1024x1024 .f32) (x0 : Vec F S1024x2048 .bf16) (x1 : Vec F S2048x1024 .bf16)
    (p : Vec F S1024x1024 .f32 → Vec F S1024x2048 .bf16 → Vec F S2048x1024 .bf16 → Vec F S1024x1024 .f32) :
    mm.view.read (Elt F) (mm.view.writes (Elt F) (hm.unread a) [⟨Rect.unit ![0, 0] S1024x1024.size inb_S1024x1024_S1024x1024_0_0,
        p (View.readAt (Elt F) mm.view (Rect.unit ![0, 0] S1024x1024.size inb_S1024x1024_S1024x1024_0_0).toLoadRect (hm.unread a))
          (View.readAt (Elt F) m0.view (Rect.unit ![0, 0] S1024x2048.size inb_S1024x2048_S1024x2048_0_0).toLoadRect (h0.unread x0))
          (View.readAt (Elt F) m1.view (Rect.unit ![0, 0] S2048x1024.size inb_S2048x1024_S2048x1024_0_0).toLoadRect (h1.unread x1))⟩]) = p a x0 x1 := by
  refine (View.read_writes_full mm.view (hm.unread a) inb_S1024x1024_S1024x1024_0_0 _ []).trans ?_
  rw [View.readAt_full, View.readAt_full, View.readAt_full, hm.read_unread, h0.read_unread, h1.read_unread]

/-- A store of its first 256 columns puts the payload over them. -/
theorem narrow (mm : Memref sig .tc .vmem S1024x1024 .f32) (hm : mm.IsWhole) (m0 : Memref sig .tc .vmem S1024x2048 .bf16) (h0 : m0.IsWhole)
    (m1 : Memref sig .tc .vmem S2048x256 .bf16) (h1 : m1.IsWhole) (a : Vec F S1024x1024 .f32) (x0 : Vec F S1024x2048 .bf16) (x1 : Vec F S2048x256 .bf16)
    (p : Vec F S1024x256 .f32 → Vec F S1024x2048 .bf16 → Vec F S2048x256 .bf16 → Vec F S1024x256 .f32) :
    mm.view.read (Elt F) (mm.view.writes (Elt F) (hm.unread a) [⟨Rect.unit ![0, 0] S1024x256.size inb_S1024x1024_S1024x256_0_0,
        p (View.readAt (Elt F) mm.view (Rect.unit (s := S1024x1024) ![0, 0] S1024x256.size inb_S1024x1024_S1024x256_0_0).toLoadRect (hm.unread a))
          (View.readAt (Elt F) m0.view (Rect.unit ![0, 0] S1024x2048.size inb_S1024x2048_S1024x2048_0_0).toLoadRect (h0.unread x0))
          (View.readAt (Elt F) m1.view (Rect.unit ![0, 0] S2048x256.size inb_S2048x256_S2048x256_0_0).toLoadRect (h1.unread x1))⟩])
      = VecWindow.put a ![0, 0] S1024x256.size (p (VecWindow.window a ![0, 0] S1024x256.size inb_S1024x1024_S1024x256_0_0) x0 x1) := by
  refine (View.read_writes_cons_put mm.view (hm.unread a) inb_S1024x1024_S1024x256_0_0 _ [] rfl).trans ?_
  rw [View.readAt_full, View.readAt_full, h0.read_unread, h1.read_unread]
  have e : mm.view.read (Elt F) (hm.unread a) = a := hm.read_unread a
  have e' : View.readAt (Elt F) mm.view (Rect.unit (s := S1024x1024) ![0, 0] S1024x256.size inb_S1024x1024_S1024x256_0_0).toLoadRect (hm.unread a)
      = VecWindow.window a ![0, 0] S1024x256.size inb_S1024x1024_S1024x256_0_0 := by
    conv_rhs => rw [← e]
    rfl
  rw [e', View.writes_nil, e]

/-- The result, which the body's copies write. -/
abbrev hbM : Memref sig .tc .hbm S1024x8448 .f32 := Memref.whole main_v0
/-- What the result holds on core `c`. -/
abbrev HbBuf (c : Dev nD) : Type := Buf (Elt F) (hbM.view.loc (c : Thread nD τ))
/-- The result held whole at `g`. -/
abbrev hbPt (c : Dev nD) (g : HbBuf (F := F) c) : sProp 𝕄 := hbM.view.loc (c : Thread nD τ) ↦{fullShare} g

/-- The body's eight copy counters at zero. -/
abbrev semsPt (c : Dev nD) : sProp 𝕄 :=
  iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0
    ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)

end Cert.InputProjectionIdeal.Hand

end
-- ==== Proof.GinRun.lean ====
/- The input projection's gradient: one run of the body, at any grid point. -/
module

public import proofs.«01_k».proof.Proof.GinRuns

@[expose] public section

set_option maxRecDepth 16384

noncomputable section

namespace Cert.InputProjectionIdeal.Hand

open Cert.InputProjectionIdeal Cert.InputProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The body at any grid point: from sums at `a` and a result at `g` it leaves the sums at `step`, the result at `flush`, its operands as they were
    and its copy counters at zero. -/
theorem run (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x256 .bf16) (harg5 : arg5.IsWhole) (arg6 : Memref sig .tc .vmem S2048x1024 .bf16) (harg6 : arg6.IsWhole) (arg7 : Memref sig .tc .vmem S2048x1024 .bf16) (harg7 : arg7.IsWhole) (arg9 : Memref sig .tc .vmem S1024x1024 .f32) (harg9 : arg9.IsWhole)
    (x0 : Vec F S1024x2048 .bf16) (x1 x2 : Vec F S2048x1024 .bf16) (x3 : Vec F S2048x256 .bf16) (x4 x5 : Vec F S2048x1024 .bf16) (a : Vec F S1024x1024 .f32) (g : HbBuf (F := F) c)
    (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare a ∗ hbPt c g ∗ semsPt c ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg9 fullShare (step i x0 x1 x2 x3 x4 x5 a)
            ∗ (∃ g' : HbBuf (F := F) c, ⌜hbM.view.read (Elt F) g' = flush i (step i x0 x1 x2 x3 x4 x5 a) (hbM.view.read (Elt F) g)⌝ ∗ hbPt c g') ∗ semsPt c ∗ (∃ W', owes (c : Thread nD τ) 0 W')) -∗ K ⟨⟩))
      ⊢ wp frame (wpE (defs₀ (F := F)) Variants.none c none) Set.univ (cc0_gw_in i arg2 harg2 arg3 harg3 arg4 harg4 arg5 harg5 arg6 harg6 arg7 harg7 (Memref.whole main_v0) (Memref.isWhole_whole _) arg9 harg9 cc0_scratch1) K := by
  simp only [cc0_gw_in_eq_skeleton]; unfold cc0_gw_in_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f9, %hf9, H9⟩, Hg, ⟨Hs0, Hs1, Hs2, Hs3, Hs4, Hs5, Hs6, Hs7⟩, HW, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg9.eq_unread hf9
  obtain ⟨p1, p3, p5, p7, p9⟩ := piece_iff i
  obtain ⟨p2, p4, p6, p8, p10⟩ := last_iff i
  have hj : (i 0).val < 9 := (i 0).isLt
  have hcase : ((i 0).val < 4 ∧ k0_cond1 i = 1#1 ∧ ¬k0_cond3 i = 1#1 ∧ ¬k0_cond5 i = 1#1 ∧ ¬k0_cond7 i = 1#1 ∧ ¬k0_cond9 i = 1#1)
      ∨ ((i 0).val = 4 ∧ ¬k0_cond1 i = 1#1 ∧ k0_cond3 i = 1#1 ∧ ¬k0_cond5 i = 1#1 ∧ ¬k0_cond7 i = 1#1 ∧ ¬k0_cond9 i = 1#1)
      ∨ ((i 0).val = 5 ∧ ¬k0_cond1 i = 1#1 ∧ ¬k0_cond3 i = 1#1 ∧ k0_cond5 i = 1#1 ∧ ¬k0_cond7 i = 1#1 ∧ ¬k0_cond9 i = 1#1)
      ∨ ((i 0).val = 6 ∧ ¬k0_cond1 i = 1#1 ∧ ¬k0_cond3 i = 1#1 ∧ ¬k0_cond5 i = 1#1 ∧ k0_cond7 i = 1#1 ∧ ¬k0_cond9 i = 1#1)
      ∨ (7 ≤ (i 0).val ∧ ¬k0_cond1 i = 1#1 ∧ ¬k0_cond3 i = 1#1 ∧ ¬k0_cond5 i = 1#1 ∧ ¬k0_cond7 i = 1#1 ∧ k0_cond9 i = 1#1) := by
    rw [p1, p3, p5, p7, p9]; omega
  have hlast : ((i 1).val = 3 ∧ k0_cond2 i = 1#1 ∧ k0_cond4 i = 1#1 ∧ k0_cond6 i = 1#1 ∧ k0_cond8 i = 1#1 ∧ k0_cond10 i = 1#1)
      ∨ (¬(i 1).val = 3 ∧ ¬k0_cond2 i = 1#1 ∧ ¬k0_cond4 i = 1#1 ∧ ¬k0_cond6 i = 1#1 ∧ ¬k0_cond8 i = 1#1 ∧ ¬k0_cond10 i = 1#1) := by
    rw [p2, p4, p6, p8, p10]; omega
  clear p1 p2 p3 p4 p5 p6 p7 p8 p9 p10
  rcases hcase with ⟨h, q1, q3, q5, q7, q9⟩ | ⟨h, q1, q3, q5, q7, q9⟩ | ⟨h, q1, q3, q5, q7, q9⟩ | ⟨h, q1, q3, q5, q7, q9⟩ | ⟨h, q1, q3, q5, q7, q9⟩ <;> rcases hlast with ⟨hk, q2, q4, q6, q8, q10⟩ | ⟨hk, q2, q4, q6, q8, q10⟩
  all_goals
    sl_exec (disch := first | sl_exact q1 | sl_exact q2 | sl_exact q3 | sl_exact q4 | sl_exact q5 | sl_exact q6 | sl_exact q7 | sl_exact q8 | sl_exact q9 | sl_exact q10)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H9]
    on_goal 1 =>
      iexists _
      isplitr
      on_goal 2 => iexact H9
      ipureintro
    rotate_left
    isplitl [Hg]
    on_goal 1 =>
      iexists _
      isplitr
      on_goal 2 => iexact Hg
      ipureintro
    rotate_left
    isplitr [HW]
    · isplitl [Hs0]
      · iexact Hs0
      isplitl [Hs1]
      · iexact Hs1
      isplitl [Hs2]
      · iexact Hs2
      isplitl [Hs3]
      · iexact Hs3
      isplitl [Hs4]
      · iexact Hs4
      isplitl [Hs5]
      · iexact Hs5
      isplitl [Hs6]
      · iexact Hs6
      iexact Hs7
    iexists _; iexact HW
  · unfold run.sl.H9_1
    exact (wide arg9 harg9 arg2 harg2 arg3 harg3 a x0 x1 (k0_pay1 i)).trans (step_1 h).symm
  · rw [flush_last hk, ← tiles_eq_landed _ h]
    unfold run.sl.Hg_w7 run.sl.Hg_w6 run.sl.Hg_w5 run.sl.Hg_w4 run.sl.Hg_w3 run.sl.Hg_w2 run.sl.Hg_w1 run.sl.Hg_w0
    have hsum := (wide arg9 harg9 arg2 harg2 arg3 harg3 a x0 x1 (k0_pay1 i)).trans (step_1 (x2 := x2) (x3 := x3) (x4 := x4) (x5 := x5) h).symm
    exact (read_copied hbM _ arg9 _ _ _ (1024 * 3 + 256 * (i 0).val + 128 * 1) 128 896 (off1_eq i 3 1 (by decide) (by decide)) rfl _ _ _ _ _ hsum _
      (read_copied hbM _ arg9 _ _ _ (1024 * 2 + 256 * (i 0).val + 128 * 1) 128 768 (off1_eq i 2 1 (by decide) (by decide)) rfl _ _ _ _ _ hsum _
      (read_copied hbM _ arg9 _ _ _ (1024 * 1 + 256 * (i 0).val + 128 * 1) 128 640 (off1_eq i 1 1 (by decide) (by decide)) rfl _ _ _ _ _ hsum _
      (read_copied hbM _ arg9 _ _ _ (1024 * 0 + 256 * (i 0).val + 128 * 1) 128 512 (off1_eq i 0 1 (by decide) (by decide)) rfl _ _ _ _ _ hsum _
      (read_copied hbM _ arg9 _ _ _ (1024 * 3 + 256 * (i 0).val + 128 * 0) 128 384 (off1_eq i 3 0 (by decide) (by decide)) rfl _ _ _ _ _ hsum _
      (read_copied hbM _ arg9 _ _ _ (1024 * 2 + 256 * (i 0).val + 128 * 0) 128 256 (off1_eq i 2 0 (by decide) (by decide)) rfl _ _ _ _ _ hsum _
      (read_copied hbM _ arg9 _ _ _ (1024 * 1 + 256 * (i 0).val + 128 * 0) 128 128 (off1_eq i 1 0 (by decide) (by decide)) rfl _ _ _ _ _ hsum _
      (read_copied hbM _ arg9 _ _ _ (1024 * 0 + 256 * (i 0).val + 128 * 0) 128 0 (off1_eq i 0 0 (by decide) (by decide)) rfl _ _ _ _ _ hsum _
      rfl _ rfl) _ rfl) _ rfl) _ rfl) _ rfl) _ rfl) _ rfl) _ rfl)
  · exact (wide arg9 harg9 arg2 harg2 arg3 harg3 a x0 x1 (k0_pay1 i)).trans (step_1 h).symm
  · rw [flush_not hk]
  · unfold run.sl.H9_1_1
    exact (wide arg9 harg9 arg2 harg2 arg4 harg4 a x0 x2 (k0_pay2 i)).trans (step_2 h).symm
  · rw [flush_last hk]
    unfold run.sl.Hg_w0_1
    have hsum := (wide arg9 harg9 arg2 harg2 arg4 harg4 a x0 x2 (k0_pay2 i)).trans (step_2 (x1 := x1) (x2 := x2) (x3 := x3) (x4 := x4) (x5 := x5) h).symm
    refine (read_copied hbM g arg9 _ (k0_off2 i) _ 4096 1024 0 (off2_eq i h) rfl _ _ _ _ _
      hsum _ rfl _ rfl).trans ?_
    exact copied_chunk (i 0).val 4096 1024 ⟨by omega, hj⟩ (by split_ifs <;> omega) (by split_ifs <;> omega) _ _
  · exact (wide arg9 harg9 arg2 harg2 arg4 harg4 a x0 x2 (k0_pay2 i)).trans (step_2 h).symm
  · rw [flush_not hk]
  · unfold run.sl.H9_1_2
    exact (narrow arg9 harg9 arg2 harg2 arg5 harg5 a x0 x3 (k0_pay3 i)).trans (step_3 h).symm
  · rw [flush_last hk]
    unfold run.sl.Hg_w0_2
    have hsum := (narrow arg9 harg9 arg2 harg2 arg5 harg5 a x0 x3 (k0_pay3 i)).trans (step_3 (x1 := x1) (x2 := x2) (x3 := x3) (x4 := x4) (x5 := x5) h).symm
    refine (read_copied hbM g arg9 _ (k0_off3 i) _ 5120 256 0 (off3_eq i h) rfl _ _ _ _ _
      hsum _ rfl _ rfl).trans ?_
    exact copied_chunk (i 0).val 5120 256 ⟨by omega, hj⟩ (by split_ifs <;> omega) (by split_ifs <;> omega) _ _
  · exact (narrow arg9 harg9 arg2 harg2 arg5 harg5 a x0 x3 (k0_pay3 i)).trans (step_3 h).symm
  · rw [flush_not hk]
  · unfold run.sl.H9_1_3
    exact (wide arg9 harg9 arg2 harg2 arg6 harg6 a x0 x4 (k0_pay4 i)).trans (step_4 h).symm
  · rw [flush_last hk]
    unfold run.sl.Hg_w0_3
    have hsum := (wide arg9 harg9 arg2 harg2 arg6 harg6 a x0 x4 (k0_pay4 i)).trans (step_4 (x1 := x1) (x2 := x2) (x3 := x3) (x4 := x4) (x5 := x5) h).symm
    refine (read_copied hbM g arg9 _ (k0_off4 i) _ 5376 1024 0 (off4_eq i h) rfl _ _ _ _ _
      hsum _ rfl _ rfl).trans ?_
    exact copied_chunk (i 0).val 5376 1024 ⟨by omega, hj⟩ (by split_ifs <;> omega) (by split_ifs <;> omega) _ _
  · exact (wide arg9 harg9 arg2 harg2 arg6 harg6 a x0 x4 (k0_pay4 i)).trans (step_4 h).symm
  · rw [flush_not hk]
  · unfold run.sl.H9_1_4
    exact (wide arg9 harg9 arg2 harg2 arg7 harg7 a x0 x5 (k0_pay5 i)).trans (step_5 h).symm
  · rw [flush_last hk]
    unfold run.sl.Hg_w0_4
    have hsum := (wide arg9 harg9 arg2 harg2 arg7 harg7 a x0 x5 (k0_pay5 i)).trans (step_5 (x1 := x1) (x2 := x2) (x3 := x3) (x4 := x4) (x5 := x5) h).symm
    refine (read_copied hbM g arg9 _ (k0_off5 i) _ (6400 + 1024 * ((i 0).val - 7)) 1024 0 (off5_eq i h) rfl _ _ _ _ _
      hsum _ rfl _ rfl).trans ?_
    exact copied_chunk (i 0).val (6400 + 1024 * ((i 0).val - 7)) 1024 ⟨by omega, hj⟩ (by split_ifs <;> omega) (by split_ifs <;> omega) _ _
  · exact (wide arg9 harg9 arg2 harg2 arg7 harg7 a x0 x5 (k0_pay5 i)).trans (step_5 h).symm
  · rw [flush_not hk]

end Cert.InputProjectionIdeal.Hand

end
-- ==== Proof.GinSums.lean ====
/- The input projection's gradient: what the sums and the result hold before each grid point, and that what the launch found in them does not matter. -/
module

public import proofs.«01_k».proof.Proof.GinRuns

@[expose] public section

set_option maxRecDepth 16384

noncomputable section

namespace Cert.InputProjectionIdeal.Hand

open Cert.InputProjectionIdeal Cert.InputProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix2)

variable {F : FTy → Type} [FloatOps F]

local notation "𝕄" => MT nD τ sig Unit (Elt F) ℕ (Pipeline.UD sig nD τ) ℕ

/-- Grid point `t` is at chunk `t / 4` of the columns and at quarter `t % 4` of the rows. -/
theorem coords (t : Fin cfg0.N) : (grid0.coords t 0).val = t.val / 4 ∧ (grid0.coords t 1).val = t.val % 4 := by
  have ht : t.val < 36 := Nat.lt_of_lt_of_eq t.isLt N_0
  have e0 : (grid0.coords t 0).val = t.val / 4 % 9 := Pipeline.Grid.coords_val t 0 (by decide) rfl
  have e1 : (grid0.coords t 1).val = t.val / 1 % 4 := Pipeline.Grid.coords_val t 1 (by decide) rfl
  exact ⟨by omega, by omega⟩

/-- Two states of the sums agree where chunk `j` uses them: everywhere, or in the first 256 columns for the keys' and values' chunk. -/
def Agree (j : ℕ) (a a' : Vec F S1024x1024 .f32) : Prop := ∀ y : S1024x1024.Idx, (j = 5 → (y 1).val < 256) → a y = a' y

/-- The payload at the first rows does not look at the sums before. -/
theorem pay1_first (i : grid0.Coords) (h : (i 1).val = 0) (a a' : Vec F S1024x1024 .f32) (x : Vec F S1024x2048 .bf16) (d : Vec F S2048x1024 .bf16) :
    k0_pay1 i a x d = k0_pay1 i a' x d := by
  have e : Scalar.cmpi .eq (BitVec.ofNat 32 (i 1).val) 0#32 = 1#1 := by rw [h]; rfl
  unfold k0_pay1
  simp only [e]
  rfl
/-- The same for the piece of 256 columns. -/
theorem pay3_first (i : grid0.Coords) (h : (i 1).val = 0) (a a' : Vec F S1024x256 .f32) (x : Vec F S1024x2048 .bf16) (d : Vec F S2048x256 .bf16) :
    k0_pay3 i a x d = k0_pay3 i a' x d := by
  have e : Scalar.cmpi .eq (BitVec.ofNat 32 (i 1).val) 0#32 = 1#1 := by rw [h]; rfl
  unfold k0_pay3
  simp only [e]
  rfl

/-- The block of cotangents the step at chunk `j` multiplies by, where it has 1024 columns. -/
def wideBlock (j : ℕ) (x1 x2 x4 x5 : Vec F S2048x1024 .bf16) : Vec F S2048x1024 .bf16 :=
  if j < 4 then x1 else if j = 4 then x2 else if j = 6 then x4 else x5

/-- The step at every chunk but the keys' and values' is one and the same. -/
theorem step_wide (i : grid0.Coords) (x0 : Vec F S1024x2048 .bf16) (x1 x2 : Vec F S2048x1024 .bf16) (x3 : Vec F S2048x256 .bf16)
    (x4 x5 : Vec F S2048x1024 .bf16) (a : Vec F S1024x1024 .f32) (h : (i 0).val ≠ 5) :
    step i x0 x1 x2 x3 x4 x5 a = k0_pay1 i a x0 (wideBlock (i 0).val x1 x2 x4 x5) := by
  unfold step wideBlock
  split_ifs <;> first | rfl | contradiction

/-- The step carries the agreement on, and starts it at the first rows. -/
theorem step_agree (i : grid0.Coords) (x0 : Vec F S1024x2048 .bf16) (x1 x2 : Vec F S2048x1024 .bf16) (x3 : Vec F S2048x256 .bf16)
    (x4 x5 : Vec F S2048x1024 .bf16) (a a' : Vec F S1024x1024 .f32) (h : (i 1).val = 0 ∨ Agree (i 0).val a a') :
    Agree (i 0).val (step i x0 x1 x2 x3 x4 x5 a) (step i x0 x1 x2 x3 x4 x5 a') := by
  intro y hy
  by_cases h5 : (i 0).val = 5
  · rw [step_3 h5, step_3 h5]
    have e : k0_pay3 i (VecWindow.window a ![0, 0] S1024x256.size inb_S1024x1024_S1024x256_0_0) x0 x3
        = k0_pay3 i (VecWindow.window a' ![0, 0] S1024x256.size inb_S1024x1024_S1024x256_0_0) x0 x3 := by
      rcases h with h | h
      · exact pay3_first i h _ _ _ _
      · refine congrArg (fun v => k0_pay3 i v x0 x3) (funext fun z => h _ fun _ => ?_)
        show 0 + 1 * (z 1).val < 256
        have : (z 1).val < 256 := (z 1).isLt
        omega
    rw [e]
    have hm : ∀ b, (![0, 0] : Fin 2 → ℕ) b ≤ (y b).val ∧ (y b).val < (![0, 0] : Fin 2 → ℕ) b + S1024x256.size b := by
      intro b
      match b with
      | 0 => exact ⟨Nat.zero_le _, by have : (y 0).val < 1024 := (y 0).isLt; show (y 0).val < 0 + 1024; omega⟩
      | 1 => exact ⟨Nat.zero_le _, by have := hy h5; show (y 1).val < 0 + 256; omega⟩
    unfold VecWindow.put
    rw [dif_pos hm, dif_pos hm]
  · rw [step_wide i _ _ _ _ _ _ _ h5, step_wide i _ _ _ _ _ _ _ h5]
    rcases h with h | h
    · rw [pay1_first i h a a']
    · rw [show a = a' from funext fun z => h z fun e => absurd e h5]

variable (m : (ℓ : Loc nD τ sig) → Buf (Elt F) ℓ)

/-- Core `c`'s arrays as launched. -/
abbrev V (c : Dev nD) (b : Ref sig .tc) : Buf (Elt F) ((c : Thread nD τ).loc b) := m ((c : Thread nD τ).loc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The step at grid point `t`, at that point's blocks. -/
def stepAt (c : Dev nD) (t : Fin cfg0.N) (a : Vec F S1024x1024 .f32) : Vec F S1024x1024 .f32 :=
  step (grid0.coords t) (iblk m c 0 t) (iblk m c 1 t) (iblk m c 2 t) (iblk m c 3 t) (iblk m c 4 t) (iblk m c 5 t) a

/-- The sums before grid point `n`, from `a` at the launch. -/
def sums (c : Dev nD) (a : Vec F S1024x1024 .f32) : ℕ → Vec F S1024x1024 .f32
  | 0 => a
  | n + 1 => if h : n < cfg0.N then stepAt m c ⟨n, h⟩ (sums c a n) else sums c a n

/-- The result before grid point `n`, from `a` and `g` at the launch. -/
def result (c : Dev nD) (a : Vec F S1024x1024 .f32) (g : Vec F S1024x8448 .f32) : ℕ → Vec F S1024x8448 .f32
  | 0 => g
  | n + 1 => if h : n < cfg0.N then flush (grid0.coords ⟨n, h⟩) (sums m c a (n + 1)) (result c a g n) else result c a g n

/-- The sums after a grid point. -/
theorem sums_succ (c : Dev nD) (a : Vec F S1024x1024 .f32) (t : Fin cfg0.N) : sums m c a (t.val + 1) = stepAt m c t (sums m c a t.val) := dif_pos t.isLt
/-- The result after a grid point. -/
theorem result_succ (c : Dev nD) (a : Vec F S1024x1024 .f32) (g : Vec F S1024x8448 .f32) (t : Fin cfg0.N) :
    result m c a g (t.val + 1) = flush (grid0.coords t) (sums m c a (t.val + 1)) (result m c a g t.val) := dif_pos t.isLt

/-- One grid point's step keeps two launches' sums agreeing, or brings them to agree. -/
theorem sums_agree_succ (c : Dev nD) (a a' : Vec F S1024x1024 .f32) (n : ℕ) (hn : n < 36)
    (h : n % 4 = 0 ∨ Agree (n / 4) (sums m c a n) (sums m c a' n)) : Agree (n / 4) (sums m c a (n + 1)) (sums m c a' (n + 1)) := by
  have hN : n < cfg0.N := Nat.lt_of_lt_of_eq hn N_0.symm
  obtain ⟨e0, e1⟩ := coords ⟨n, hN⟩
  have hs := step_agree (grid0.coords ⟨n, hN⟩) (iblk m c 0 ⟨n, hN⟩) (iblk m c 1 ⟨n, hN⟩) (iblk m c 2 ⟨n, hN⟩) (iblk m c 3 ⟨n, hN⟩) (iblk m c 4 ⟨n, hN⟩)
    (iblk m c 5 ⟨n, hN⟩) (sums m c a n) (sums m c a' n) (h.imp (fun e => e1.trans e) fun e => by rw [e0]; exact e)
  rw [e0] at hs
  rw [sums_succ m c a ⟨n, hN⟩, sums_succ m c a' ⟨n, hN⟩]
  exact hs

/-- When a chunk is done its sums do not depend on what the launch found. -/
theorem sums_agree (c : Dev nD) (a a' : Vec F S1024x1024 .f32) (j : ℕ) (hj : j < 9) : Agree j (sums m c a (4 * j + 4)) (sums m c a' (4 * j + 4)) := by
  have h1 := sums_agree_succ m c a a' (4 * j) (by omega) (.inl (by omega))
  rw [show 4 * j / 4 = j by omega] at h1
  have h2 := sums_agree_succ m c a a' (4 * j + 1) (by omega) (.inr (by rw [show (4 * j + 1) / 4 = j by omega]; exact h1))
  rw [show (4 * j + 1) / 4 = j by omega] at h2
  have h3 := sums_agree_succ m c a a' (4 * j + 2) (by omega) (.inr (by rw [show (4 * j + 2) / 4 = j by omega]; exact h2))
  rw [show (4 * j + 2) / 4 = j by omega] at h3
  have h4 := sums_agree_succ m c a a' (4 * j + 3) (by omega) (.inr (by rw [show (4 * j + 3) / 4 = j by omega]; exact h3))
  rw [show (4 * j + 3) / 4 = j by omega] at h4
  exact h4

/-- Before grid point `n` the columns of every chunk that is done hold that chunk's sums. -/
theorem result_done (c : Dev nD) (a : Vec F S1024x1024 .f32) (g : Vec F S1024x8448 .f32) (y : S1024x8448.Idx) (n : ℕ) (hn : n ≤ 36)
    (h : chunk (y 1).val < n / 4) :
    result m c a g n y = sums m c a (4 * chunk (y 1).val + 4) (ix2 (y 0) (Fin.ofNat 1024 (within (y 1).val))) := by
  induction n with
  | zero => omega
  | succ n ih =>
    have hN : n < cfg0.N := Nat.lt_of_lt_of_eq (by omega) N_0.symm
    obtain ⟨e0, e1⟩ := coords ⟨n, hN⟩
    dsimp only at e0 e1
    rw [result_succ m c a g ⟨n, hN⟩]
    dsimp only
    by_cases hl : n % 4 = 3
    · rw [flush_last (e1.trans hl), e0]
      unfold landed
      by_cases hc : chunk (y 1).val = n / 4
      · rw [if_pos hc, show 4 * chunk (y 1).val + 4 = n + 1 by omega]
      · rw [if_neg hc]; exact ih (by omega) (by omega)
    · rw [flush_not (fun e => hl (e1.symm.trans e))]; exact ih (by omega) (by omega)

/-- A column's place in its chunk. -/
theorem chunk_lt (col : ℕ) (h : col < 8448) : chunk col < 9 ∧ within col < 1024 ∧ (chunk col = 5 → within col < 256) := by
  unfold chunk within
  refine ⟨?_, ?_, ?_⟩ <;> split_ifs <;> omega

/-- The result at the end of the launch. -/
def final (c : Dev nD) : Vec F S1024x8448 .f32 := fun y =>
  sums m c (broadcast S1024x1024 (Scalar.ofBits .f32 0#32)) (4 * chunk (y 1).val + 4) (ix2 (y 0) (Fin.ofNat 1024 (within (y 1).val)))

/-- Whatever the launch found in the sums and in the result. -/
theorem result_final (c : Dev nD) (a : Vec F S1024x1024 .f32) (g : Vec F S1024x8448 .f32) : result m c a g cfg0.N = final m c := by
  funext y
  obtain ⟨h1, h2, h3⟩ := chunk_lt (y 1).val (y 1).isLt
  rw [show cfg0.N = 36 from N_0, result_done m c a g y 36 le_rfl (by omega)]
  refine sums_agree m c a _ (chunk (y 1).val) h1 _ fun e => ?_
  show within (y 1).val % 1024 < 256
  have := h3 e
  omega

end Cert.InputProjectionIdeal.Hand

end
-- ==== Proof.GinFrame.lean ====
/- The input projection's gradient: the launch. The arguments end unchanged, the counters at zero, and the result at what the chunks' sums say. -/
module

public import proofs.«01_k».proof.Proof.GinRun
public import proofs.«01_k».proof.Proof.GinSums
public import Idealize.ShloMosaic.Lib.Claim

@[expose] public section

set_option maxRecDepth 16384

noncomputable section

namespace Cert.InputProjectionIdeal.Hand

open Cert.InputProjectionIdeal Cert.InputProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's own resources -/

set_option maxHeartbeats 800000 in
/-- The program up to the call: the call alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The scratch that holds the sums. -/
abbrev scM : Memref sig .tc .vmem S1024x1024 .f32 := Memref.whole cc0_scratch0
/-- The body's copy counters. -/
abbrev osem0 : Fin 8 → SemLoc sig :=
  fun j => (![SemLoc.dma 12, SemLoc.dma 13, SemLoc.dma 14, SemLoc.dma 15, SemLoc.dma 16, SemLoc.dma 17, SemLoc.dma 18, SemLoc.dma 19] : Fin 8 → SemLoc sig) j
/-- They are no window's. -/
theorem ownSemFacts0 : Pipeline.OwnSemFacts spec0 osem0 := by decide
/-- The counters at zero, listed. -/
theorem ownSems00_eq (c : Dev nD) :
    (Pipeline.ownSems0 (Ix := Unit) (Name := ℕ) (U := Pipeline.UD sig nD τ) (Lvl := ℕ) (Val := Elt F) (τ := τ) osem0 c : sProp 𝕄) = semsPt c := by
  rw [Pipeline.ownSems0_eq_of_list c osem0 [0, 1, 2, 3, 4, 5, 6, 7] (by decide) (by decide)]; rfl
/-- The buffers the body writes by copies of its own: the result. -/
def R0 : Finset (Ref sig .tc) := {main_v0}
/-- It is no window's array. -/
theorem R0_sub : R0 ⊆ Pipeline.restRefs sig spec0 \ ∅ := by decide
/-- The body reads no other array by copies of its own. -/
theorem H0_sub : (∅ : Finset (Ref sig .tc)) ⊆ Pipeline.restRefs sig spec0 := Finset.empty_subset _

/-- The buffers at the end: the result at `final`, the others as launched. -/
def G (c : Dev nD) (b : Ref sig .tc) : Buf (Elt F) ((c : Thread nD τ).loc b) :=
  Function.update (V m c) main_v0 ((Memref.isWhole_whole main_v0).unread (final m c)) b

/-- What the launch hands over and takes back, conjunct by conjunct. -/
theorem PhiD_eq (G' : (c : Dev nD) → (b : Ref sig .tc) → Buf (Elt F) ((c.tc : Thread nD τ).loc b)) (c : Dev nD) :
    (Pipeline.ΦDRG osem0 spec0 ∅ R0 (V m) G' c : sProp 𝕄)
      = iprop(iprop(∃ d, owns (c : Thread nD τ) scM fullShare d) ∗ (∃ r, prngReg c r) ∗ semsPt c ∗ emp ∗ hbPt c (G' c main_v0)) := by
  rw [Pipeline.ΦDRG_eq, scopedRest0_eq, ownSems00_eq, BI.bigSep_empty]
  unfold R0
  rw [Pipeline.routed_singleton]
  simp only [scM, owns_whole]
  try rfl

/-! ## The proof data -/

/-- The invariant before grid point `n`: the sums and the result as the points so far leave them, from some contents at the launch. -/
def Inv (c : Dev nD) (n : ℕ) : sProp 𝕄 :=
  iprop(∃ a : Vec F S1024x1024 .f32, ∃ g : Vec F S1024x8448 .f32, owns (c : Thread nD τ) scM fullShare (sums m c a n) ∗ (∃ r, prngReg c r) ∗ semsPt c
    ∗ ∃ f : HbBuf (F := F) c, ⌜hbM.view.read (Elt F) f = result m c a g n⌝ ∗ hbPt c f)

/-- The proof data of the launch: every window keeps its block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := Inv m c t.val
  q _ := fullShare
  owed _ := 0

/-- The proof data's arrays are the launched ones. -/
theorem A_eq (c : Dev nD) (w : Fin cfg0.W) : (dats m 0 c).A w = V m c (Pipeline.arrRef spec0 w) := by
  dsimp only [dats]
/-- Window 0 holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; try rfl) t d).trans
    (by unfold Dat.fetched Dat.blockOf iblk; dsimp only [dats]; try rfl)
/-- Window 1 holds its block at every point. -/
theorem before_1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; try rfl) t d).trans
    (by unfold Dat.fetched Dat.blockOf iblk; dsimp only [dats]; try rfl)
/-- Window 2 holds its block at every point. -/
theorem before_2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; try rfl) t d).trans
    (by unfold Dat.fetched Dat.blockOf iblk; dsimp only [dats]; try rfl)
/-- Window 3 holds its block at every point. -/
theorem before_3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; try rfl) t d).trans
    (by unfold Dat.fetched Dat.blockOf iblk; dsimp only [dats]; try rfl)
/-- Window 4 holds its block at every point. -/
theorem before_4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; try rfl) t d).trans
    (by unfold Dat.fetched Dat.blockOf iblk; dsimp only [dats]; try rfl)
/-- Window 5 holds its block at every point. -/
theorem before_5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; try rfl) t d).trans
    (by unfold Dat.fetched Dat.blockOf iblk; dsimp only [dats]; try rfl)

/-! ## The body's triple -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t))

set_option maxHeartbeats 4000000 in
/-- The body at any point: from the inputs' blocks and the invariant to the blocks and the invariant after the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = Inv m c (t.val + 1) from rfl, show (dats m 0 c).Φ t.castSucc = Inv m c t.val from rfl]
  unfold Dat.owesAt Pipeline.owesWithin
  rw [show (dats m 0 c).owed t.castSucc = 0 from rfl, show (dats m 0 c).owed t.succ = 0 from rfl]
  unfold Inv
  iintro ⟨⟨%a, %g, HS, Hp, Hq, ⟨%f, %hf, Hf⟩⟩, ⟨%W, -, HW⟩, ⟨%d0, H0⟩, ⟨%d1, H1⟩, ⟨%d2, H2⟩, ⟨%d3, H3⟩, ⟨%d4, H4⟩, ⟨%d5, H5⟩⟩
  iapply (run c (grid0.coords t) (st0_0 t) _ (st0_1 t) _ (st0_2 t) _ (st0_3 t) _ (st0_4 t) _ (st0_5 t) _ scM _ (iblk m c 0 t) (iblk m c 1 t) (iblk m c 2 t)
    (iblk m c 3 t) (iblk m c 4 t) (iblk m c 5 t) (sums m c a t.val) f W _)
  isplitl [H0]; · iexact H0
  isplitl [H1]; · iexact H1
  isplitl [H2]; · iexact H2
  isplitl [H3]; · iexact H3
  isplitl [H4]; · iexact H4
  isplitl [H5]; · iexact H5
  isplitl [HS]; · iexact HS
  isplitl [Hf]; · iexact Hf
  isplitl [Hq]; · iexact Hq
  isplitl [HW]; · iexact HW
  iintro ⟨H0, H1, H2, H3, H4, H5, HS, ⟨%f', %hf', Hf⟩, Hq, ⟨%W', HW'⟩⟩
  isplitl [HS Hp Hf Hq]
  · iexists a; iexists g
    isplitl [HS]
    · rw [sums_succ]; unfold stepAt; iexact HS
    isplitl [Hp]; · iexact Hp
    isplitl [Hq]; · iexact Hq
    iexists f'
    isplitr
    · ipureintro
      rw [result_succ, sums_succ, hf', hf]
      unfold stepAt
      rfl
    iexact Hf
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body at point `t`'s buffers. -/
theorem defs₀_row (t : Fin cfg0.N) : defs₀ (F := F) .tc cfg0.body (cfg0.bodyArgs t (cfg0.slots t)) = bodyAt0 t := by
  unfold defs₀; rw [Defs.onTc_tc]

/-- The body's triple at every point, as the launch rule asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦDRG osem0 spec0 ∅ R0 (V m) (V m) c ⊢ (dats m 0 c).Φ 0 := by
  rw [PhiD_eq, show (dats m 0 c).Φ 0 = Inv m c 0 from rfl]
  unfold Inv
  iintro ⟨⟨%a, HS⟩, Hp, Hq, -, Hf⟩
  iexists a; iexists (hbM.view.read (Elt F) (V m c main_v0))
  isplitl [HS]; · iexact HS
  isplitl [Hp]; · iexact Hp
  isplitl [Hq]; · iexact Hq
  iexists _
  isplitr
  swap; · iexact Hf
  ipureintro; rfl

/-- The invariant after the last point gives the launch's own back, the result at `final`. -/
theorem hout (c : Dev nD) : (dats m 0 c).Φ (Fin.last cfg0.N) ⊢ Pipeline.ΦDRG osem0 spec0 ∅ R0 (V m) (G m) c := by
  rw [PhiD_eq, show (dats m 0 c).Φ (Fin.last cfg0.N) = Inv m c cfg0.N from rfl]
  unfold Inv
  iintro ⟨%a, %g, HS, Hp, Hq, ⟨%f, %hf, Hf⟩⟩
  rw [result_final] at hf
  have e : G m c main_v0 = f := by
    unfold G
    rw [Function.update_self]
    exact ((Memref.isWhole_whole main_v0).eq_unread hf).symm
  rw [e]
  isplitl [HS]
  · iexists _; iexact HS
  isplitl [Hp]; · iexact Hp
  isplitl [Hq]; · iexact Hq
  isplitr
  · iempintro
  iexact Hf

/-! ## The launch -/

set_option backward.isDefEq.respectTransparency.types false in
/-- The launch: the windows' arrays as the proof data says, the result at `final`, every counter at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 H0_sub R0_sub m ρ main
    (hbody := fun c => (body_obligation m c).loose) (hshare := fun c => (dats m 0 c).share_full fun _ => rfl)
    (howed := fun _ _ => rfl) (V := V m) (hmain := hmain m Variants.none) (hA := A_eq m) (G m) (hin := hin m) (hout := hout m)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 0).trans (((dats m 0 c).arrAt_in 0 rfl _).trans (A_eq m c 0)),
      ((h.1.1 c).1 1).trans (((dats m 0 c).arrAt_in 1 rfl _).trans (A_eq m c 1)),
      ((h.1.1 c).1 2).trans (((dats m 0 c).arrAt_in 2 rfl _).trans (A_eq m c 2)),
      ((h.1.1 c).1 3).trans (((dats m 0 c).arrAt_in 3 rfl _).trans (A_eq m c 3)),
      ((h.1.1 c).1 4).trans (((dats m 0 c).arrAt_in 4 rfl _).trans (A_eq m c 4)),
      ((h.1.1 c).1 5).trans (((dats m 0 c).arrAt_in 5 rfl _).trans (A_eq m c 5))⟩) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main m ρ))

/-- The result at the end of the launch. -/
theorem value : θ_run defs (onTc (τ := τ) (main (F := F))) ⟨m, fun _ => 0, ρ⟩ (fun r => ∀ c : Dev nD,
      r.2.mem ((c.tc : Thread nD τ).loc main_v0) = final m c) :=
  (θ_run defs _ _).mono (fun _ h c => ((h.1.2 c main_v0 (Finset.mem_singleton_self _)).trans (Function.update_self _ _ _)).trans ((Memref.isWhole_whole main_v0).read_unread (final m c))) (run_main m ρ)

end Cert.InputProjectionIdeal.Hand

end
-- ==== Proof.GinPre.lean ====
/- The input projection's gradient: its two printed texts are one, and both leave their arguments unchanged. -/
module

public import proofs.«01_k».proof.Proof.GinFrame
public import proofs.«01_k».proof.Defs
public import proofs.«01_k».proof.Proof.Gen.InputProjection.Skeleton

@[expose] public section

set_option maxRecDepth 16384

noncomputable section

namespace Cert.Gin

open Idealize.ShloMosaic Idealize.ShloMosaic.TcCoe Idealize.SL.Sem

variable {F : FTy → Type} [FloatOps F]

/-- The two printed texts' body tables are one. -/
theorem defs₀_eq : @Cert.InputProjection.defs₀ F _ Cert.InputProjection.Gen.facts = @Cert.InputProjectionIdeal.defs₀ F _ Cert.InputProjectionIdeal.Gen.facts := by
  unfold Cert.InputProjection.defs₀ Cert.InputProjectionIdeal.defs₀
  refine congrArg Defs.onTc ?_
  funext l a
  match l, a with
  | 0, (t, s) => rfl
  | ⟨_ + 1, h⟩, _ => exact absurd h (Nat.not_lt.2 (Nat.le_add_left _ _))

/-- And so are the tables with the launch's rounds. -/
theorem defs_eq : @Cert.InputProjection.defs F _ Cert.InputProjection.Gen.facts = @Cert.InputProjectionIdeal.defs F _ Cert.InputProjectionIdeal.Gen.facts := by
  unfold Cert.InputProjection.defs Cert.InputProjectionIdeal.defs
  exact congrArg (Idealize.ShloMosaic.Pipeline.defs (Cert.InputProjectionIdeal.pcfgs (F := F))) defs₀_eq

/-- The frame of the bit-exact reading. -/
theorem frame : Cert.quiescent_InputProjection := fun m ρ _ => by
  rw [defs_eq]
  exact Cert.InputProjectionIdeal.Hand.frame (F := Bits) m ρ

/-- The frame of the ideal reading. -/
theorem frameIdeal : Cert.quiescent_InputProjectionIdeal := fun m ρ _ =>
  Cert.InputProjectionIdeal.Hand.frame (F := Ideal) m ρ

end Cert.Gin

end
-- ==== Proof.GinArray.lean ====
/- What the input projection's kernel leaves in its result: one product, summed over every token, its columns the five pieces' in the weight's order. -/
module

public import proofs.«01_k».proof.Proof.GinFrame
public import Idealize.ShloMosaic.Lib.Pointwise
public import Idealize.ShloMosaic.Lib.WholeRead
public import Idealize.ShloMosaic.Lib.Pipeline.ValueKit
public import Idealize.ShloMosaic.Lib.Pipeline.ReadBack

@[expose] public section

set_option maxRecDepth 16384

noncomputable section

namespace Cert.Gin

open Cert.InputProjectionIdeal Cert.InputProjectionIdeal.Gen Cert.InputProjectionIdeal.Hand Idealize.ShloMosaic Idealize.ShloMosaic.TcCoe Idealize.SL.Sem

/-- The cotangent at token `n` of column `w` of chunk `j`: of the conv branch's piece, the queries', the keys' and values', the attention gate's or the
    branch gates'. -/
def cot (D1 : S8192x4096.Idx → EReal) (D2 : S8192x1024.Idx → EReal) (D3 : S8192x256.Idx → EReal) (D4 : S8192x1024.Idx → EReal)
    (D5 : S8192x2048.Idx → EReal) (j w : ℕ) (n : Fin 8192) : EReal :=
  if j < 4 then D1 (ix2 n (Fin.ofNat 4096 (1024 * j + w))) else if j = 4 then D2 (ix2 n (Fin.ofNat 1024 w)) else if j = 5 then D3 (ix2 n (Fin.ofNat 256 w))
  else if j = 6 then D4 (ix2 n (Fin.ofNat 1024 w)) else D5 (ix2 n (Fin.ofNat 2048 (1024 * (j - 7) + w)))

/-- The weight's gradient: feature by column, the input times the column's cotangent summed over the tokens. -/
def gradArr (H : S1024x8192.Idx → EReal) (D1 : S8192x4096.Idx → EReal) (D2 : S8192x1024.Idx → EReal) (D3 : S8192x256.Idx → EReal)
    (D4 : S8192x1024.Idx → EReal) (D5 : S8192x2048.Idx → EReal) (y : S1024x8448.Idx) : EReal :=
  ∑ n, H (ix2 (y 0) n) * cot D1 D2 D3 D4 D5 (chunk (y 1).val) (within (y 1).val) n

/-- Whether the sums are started anew. -/
theorem start_iff (i : grid0.Coords) : Scalar.cmpi .eq (BitVec.ofNat 32 (i 1).val) 0#32 = 1#1 ↔ (i 1).val = 0 := by
  have hi : (i 1).val < 4 := (i 1).isLt
  generalize (i 1).val = n at hi ⊢
  word_cmp

/-- One step's value where the piece's block has 1024 columns. -/
theorem pay1_at (i : grid0.Coords) (a : Vec Ideal S1024x1024 .f32) (h : Vec Ideal S1024x2048 .bf16) (d : Vec Ideal S2048x1024 .bf16) (x w : Fin 1024) :
    k0_pay1 i a h d (ix2 x w) = (if (i 1).val = 0 then 0 else a (ix2 x w)) + ∑ n : Fin 2048, h (ix2 x n) * d (ix2 n w) := by
  have hc := start_iff i
  unfold k0_pay1
  dsimp only
  generalize Scalar.cmpi .eq (BitVec.ofNat 32 (i 1).val) 0#32 = v at hc ⊢
  by_cases e : (i 1).val = 0
  · rw [if_pos e]
    obtain rfl := hc.mpr e
    pointwise
  · rw [if_neg e]
    obtain rfl : v = 0#1 := (by decide : ∀ w : BitVec 1, ¬w = 1#1 → w = 0#1) v (mt hc.mp e)
    pointwise

/-- And where it has 256. -/
theorem pay3_at (i : grid0.Coords) (a : Vec Ideal S1024x256 .f32) (h : Vec Ideal S1024x2048 .bf16) (d : Vec Ideal S2048x256 .bf16) (x : Fin 1024) (w : Fin 256) :
    k0_pay3 i a h d (ix2 x w) = (if (i 1).val = 0 then 0 else a (ix2 x w)) + ∑ n : Fin 2048, h (ix2 x n) * d (ix2 n w) := by
  have hc := start_iff i
  unfold k0_pay3
  dsimp only
  generalize Scalar.cmpi .eq (BitVec.ofNat 32 (i 1).val) 0#32 = v at hc ⊢
  by_cases e : (i 1).val = 0
  · rw [if_pos e]
    obtain rfl := hc.mpr e
    pointwise
  · rw [if_neg e]
    obtain rfl : v = 0#1 := (by decide : ∀ w : BitVec 1, ¬w = 1#1 → w = 0#1) v (mt hc.mp e)
    pointwise

/-- Which block of each array a point works on. -/
theorem idx : ∀ t : Fin cfg0.N, win0_0.index t = ![0, t.val % 4]
    ∧ (t.val / 4 < 4 → win0_1.index t = ![t.val % 4, t.val / 4]) ∧ (t.val / 4 = 4 → win0_2.index t = ![t.val % 4, 0])
    ∧ (t.val / 4 = 5 → win0_3.index t = ![t.val % 4, 0]) ∧ (t.val / 4 = 6 → win0_4.index t = ![t.val % 4, 0])
    ∧ (7 ≤ t.val / 4 → win0_5.index t = ![t.val % 4, t.val / 4 - 7]) :=
  (by decide +kernel : ∀ t : Fin grid0.N, win0_0.index t = ![0, t.val % 4]
    ∧ (t.val / 4 < 4 → win0_1.index t = ![t.val % 4, t.val / 4]) ∧ (t.val / 4 = 4 → win0_2.index t = ![t.val % 4, 0])
    ∧ (t.val / 4 = 5 → win0_3.index t = ![t.val % 4, 0]) ∧ (t.val / 4 = 6 → win0_4.index t = ![t.val % 4, 0])
    ∧ (7 ≤ t.val / 4 → win0_5.index t = ![t.val % 4, t.val / 4 - 7]))

variable (m : (ℓ : Loc nD τ sig) → Buf (Elt Ideal) ℓ) (c : Dev nD) (t : Fin cfg0.N)

/-- The cotangent, of the launched pieces. -/
abbrev cotOf (j w : ℕ) (n : Fin 8192) : EReal :=
  cot (m ((c : Thread nD τ).loc main_arg1)) (m ((c : Thread nD τ).loc main_arg2)) (m ((c : Thread nD τ).loc main_arg3)) (m ((c : Thread nD τ).loc main_arg4))
    (m ((c : Thread nD τ).loc main_arg5)) j w n

/-- The launched input, feature by token. -/
abbrev feat : S1024x8192.Idx → EReal := m ((c : Thread nD τ).loc main_arg0)

/-- The input's block. -/
abbrev inputBlock : Vec Ideal S1024x2048 .bf16 := iblk m c 0 t

/-- The input's block holds every feature at the point's tokens. -/
theorem input_at (x : Fin 1024) (k : Fin 2048) (n : Fin 8192) (hn : n.val = (t.val % 4) * 2048 + k.val) :
    inputBlock m c t (ix2 x k) = m ((c : Thread nD τ).loc main_arg0) (ix2 x n) := by
  obtain ⟨e, -⟩ := idx t
  blk_ext [iblk, V, e]

/-- The piece's block holds the chunk's cotangents at the point's tokens. -/
theorem wide_at (h5 : t.val / 4 ≠ 5) (k : Fin 2048) (w : Fin 1024) (n : Fin 8192) (hn : n.val = (t.val % 4) * 2048 + k.val) :
    wideBlock (F := Ideal) (t.val / 4) (iblk m c 1 t) (iblk m c 2 t) (iblk m c 4 t) (iblk m c 5 t) (ix2 k w) = cotOf m c (t.val / 4) w.val n := by
  obtain ⟨-, e1, e2, -, e4, e5⟩ := idx t
  have hN : t.val < 36 := Nat.lt_of_lt_of_eq t.isLt N_0
  unfold wideBlock cotOf cot
  by_cases h : t.val / 4 < 4
  · have e := e1 h
    rw [if_pos h, if_pos h]
    blk_ext [iblk, V, e]
    exact (by omega : t.val / 4 * 1024 + w.val = 1024 * (t.val / 4) + w.val).trans (Nat.mod_eq_of_lt (by omega)).symm
  · rw [if_neg h, if_neg h]
    by_cases h4 : t.val / 4 = 4
    · have e := e2 h4
      rw [if_pos h4, if_pos h4]
      blk_ext [iblk, V, e]
      exact (Nat.mod_eq_of_lt (by omega)).symm
    · rw [if_neg h4, if_neg h4, if_neg h5]
      by_cases h6 : t.val / 4 = 6
      · have e := e4 h6
        rw [if_pos h6, if_pos h6]
        blk_ext [iblk, V, e]
        exact (Nat.mod_eq_of_lt (by omega)).symm
      · rw [if_neg h6, if_neg h6]
        have e := e5 (by omega)
        blk_ext [iblk, V, e]
        exact (by omega : (t.val / 4 - 7) * 1024 + w.val = 1024 * (t.val / 4 - 7) + w.val).trans (Nat.mod_eq_of_lt (by omega)).symm

/-- The same of the keys' and values' piece. -/
theorem narrow_at (h5 : t.val / 4 = 5) (k : Fin 2048) (w : Fin 256) (n : Fin 8192) (hn : n.val = (t.val % 4) * 2048 + k.val) :
    iblk m c 3 t (ix2 k w) = cotOf m c (t.val / 4) w.val n := by
  obtain ⟨-, -, -, e3, -⟩ := idx t
  have e := e3 h5
  unfold cotOf cot
  rw [if_neg (by omega), if_neg (by omega), if_pos h5]
  blk_ext [iblk, V, e]
  exact (Nat.mod_eq_of_lt (by omega)).symm

/-- What a point adds to the sums at feature `x` and column `w`. -/
def term (x w : Fin 1024) : EReal :=
  ∑ k : Fin 2048, inputBlock m c t (ix2 x k) * cotOf m c (t.val / 4) w.val ⟨(t.val % 4) * 2048 + k.val, by omega⟩

/-- One point's step, wherever the chunk uses the sums. -/
theorem step_at (a : Vec Ideal S1024x1024 .f32) (x w : Fin 1024) (hw : t.val / 4 = 5 → w.val < 256) :
    stepAt m c t a (ix2 x w) = (if t.val % 4 = 0 then 0 else a (ix2 x w)) + term m c t x w := by
  obtain ⟨c0, c1⟩ := coords t
  unfold stepAt term
  by_cases h5 : t.val / 4 = 5
  · have hw := hw h5
    rw [step_3 (c0.trans h5)]
    have hm : ∀ b, (![0, 0] : Fin 2 → ℕ) b ≤ ((ix2 x w : S1024x1024.Idx) b).val
        ∧ ((ix2 x w : S1024x1024.Idx) b).val < (![0, 0] : Fin 2 → ℕ) b + S1024x256.size b := by
      intro b
      match b with
      | 0 => exact ⟨Nat.zero_le _, by show x.val < 0 + 1024; omega⟩
      | 1 => exact ⟨Nat.zero_le _, by show w.val < 0 + 256; omega⟩
    unfold VecWindow.put
    rw [dif_pos hm]
    refine Eq.trans (congrArg _ (?_ : _ = (ix2 x (⟨w.val, hw⟩ : Fin 256) : S1024x256.Idx))) ?_
    · funext b
      match b with
      | 0 => exact Fin.ext (Nat.sub_zero _)
      | 1 => exact Fin.ext (Nat.sub_zero _)
    rw [pay3_at, c1]
    refine congrArg₂ (· + ·) ?_ (Finset.sum_congr rfl fun k _ => congrArg (fun z : EReal => inputBlock m c t (ix2 x k) * z) (narrow_at m c t h5 k ⟨w.val, hw⟩ _ rfl))
    refine congrArg (fun z => if t.val % 4 = 0 then (0 : EReal) else a z) ?_
    funext b
    match b with
    | 0 => exact Fin.ext (by show 0 + 1 * x.val = x.val; omega)
    | 1 => exact Fin.ext (by show 0 + 1 * w.val = w.val; omega)
  · rw [step_wide _ _ _ _ _ _ _ _ (fun e => h5 (c0.symm.trans e)), c0, pay1_at, c1]
    exact congrArg (_ + ·) (Finset.sum_congr rfl fun k _ => congrArg (fun z : EReal => inputBlock m c t (ix2 x k) * z) (wide_at m c t h5 k w _ rfl))

/-- The sums when chunk `j` is done: the whole product. -/
theorem sums_done (a : Vec Ideal S1024x1024 .f32) (j : ℕ) (hj : j < 9) (x w : Fin 1024) (hw : j = 5 → w.val < 256) :
    sums m c a (4 * j + 4) (ix2 x w) = ∑ n, feat m c (ix2 x n) * cotOf m c j w.val n := by
  have hN : ∀ s : Fin 4, 4 * j + s.val < cfg0.N := fun s => Nat.lt_of_lt_of_eq (by omega) N_0.symm
  have hs : ∀ s : Fin 4, sums m c a (4 * j + s.val + 1) (ix2 x w)
      = (if s.val = 0 then 0 else sums m c a (4 * j + s.val) (ix2 x w)) + term m c ⟨4 * j + s.val, hN s⟩ x w := by
    intro s
    rw [sums_succ m c a ⟨4 * j + s.val, hN s⟩, step_at _ _ _ _ _ _ (fun e => hw (by dsimp only at e; omega))]
    dsimp only
    rw [show (4 * j + s.val) % 4 = s.val by omega]
  have ht : ∀ s : Fin 4, term m c ⟨4 * j + s.val, hN s⟩ x w
      = ∑ k : Fin 2048, feat m c (ix2 x (⟨s.val * 2048 + k.val, by omega⟩ : Fin 8192)) * cotOf m c j w.val ⟨s.val * 2048 + k.val, by omega⟩ := by
    intro s
    unfold term
    refine Finset.sum_congr rfl fun k _ => ?_
    have e1 : (4 * j + s.val) / 4 = j := by omega
    have e2 : (4 * j + s.val) % 4 = s.val := by omega
    refine congrArg₂ (· * ·) (input_at m c _ x k _ (by dsimp only; rw [e2])) ?_
    dsimp only
    rw [e1]
    exact congrArg _ (Fin.ext (by dsimp only; rw [e2]))
  have e0 := hs 0
  have e1 := hs 1
  have e2 := hs 2
  have e3 := hs 3
  rw [ht] at e0 e1 e2 e3
  rw [if_pos (show ((0 : Fin 4) : ℕ) = 0 from rfl)] at e0
  rw [if_neg (show ¬((1 : Fin 4) : ℕ) = 0 by decide)] at e1
  rw [if_neg (show ¬((2 : Fin 4) : ℕ) = 0 by decide)] at e2
  rw [if_neg (show ¬((3 : Fin 4) : ℕ) = 0 by decide)] at e3
  refine Eq.trans ?_ (Fin.sum_mul_add_fin 4 2048 (fun n : Fin 8192 => feat m c (ix2 x n) * cotOf m c j w.val n) rfl)
  rw [Fin.sum_univ_four]
  refine e3.trans (congrArg (· + _) (e2.trans (congrArg (· + _) (e1.trans (congrArg (· + _) (e0.trans (zero_add _)))))))

/-- The result at the end of the launch is the weight's gradient. -/
theorem final_eq : final m c = gradArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  funext y
  obtain ⟨h1, h2, h3⟩ := chunk_lt (y 1).val (y 1).isLt
  have e : (Fin.ofNat 1024 (within (y 1).val)).val = within (y 1).val := Nat.mod_eq_of_lt h2
  unfold final gradArr
  refine (sums_done m c _ (chunk (y 1).val) h1 (y 0) (Fin.ofNat 1024 (within (y 1).val)) (fun h => by rw [e]; exact h3 h)).trans ?_
  rw [e]

/-- The kernel's run: the result in closed form, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = gradArr (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).trans (final_eq m c), h.2.1 c⟩)
    (θ_run_and (Hand.value m ρ) (Hand.frame m ρ))

end Cert.Gin

end
-- ==== Proof.GinEq.lean ====
/- The input projection's kernel and its reference agree. -/
module

public import proofs.«01_k».proof.Proof.GinArray
public import proofs.«01_k».proof.Proof.GinPre
public import proofs.«01_k».proof.Proof.Gen.InputProjectionReferenceIdeal.Read

@[expose] public section

set_option maxRecDepth 16384

noncomputable section

namespace Cert.Gin

open Cert.InputProjectionReferenceIdeal Cert.InputProjectionReferenceIdeal.Gen Cert.InputProjectionReferenceIdeal.Read Idealize.ShloMosaic Idealize.ShloMosaic.TcCoe Idealize.SL.Sem Idealize.ShloMosaic.StableHlo
open Cert.InputProjectionIdeal.Hand (chunk within)

variable (x0 : S1024x8192.Idx → EReal) (x1 : S8192x4096.Idx → EReal) (x2 : S8192x1024.Idx → EReal) (x3 : S8192x256.Idx → EReal) (x4 : S8192x1024.Idx → EReal)
  (x5 : S8192x2048.Idx → EReal)

/-- The conv branch's piece with its columns in the weight's order. -/
theorem v8_at (n : Fin 8192) (col : Fin 4096) :
    val_main_v8 (F := Ideal) x1 (ix2 n col) = x1 (ix2 n (Fin.ofNat 4096 (1024 * (col.val / 256 % 4) + ((4 * (col.val / 128 % 2) + col.val / 1024) * 128 + col.val % 128)))) := by
  rw [val_main_v8_apply, val_main_v7_apply, val_main_v6_apply]
  have hn : n.val < 8192 := n.isLt
  have hc : col.val < 4096 := col.isLt
  have a1 : (n.val * 4096 + col.val) / 4096 = n.val := by omega
  have a2 : (n.val * 4096 + col.val) / 1024 % 4 = col.val / 1024 := by omega
  have a3 : (n.val * 4096 + col.val) / 128 % 8 = col.val / 128 % 8 := by omega
  have a4 : (n.val * 4096 + col.val) % 128 = col.val % 128 := by omega
  refine congrArg x1 ?_
  funext d
  match d with
  | ⟨0, _⟩ =>
    refine Fin.ext ?_
    show ((((n.val * 4096 + col.val) / 4096 * 8 + (n.val * 4096 + col.val) / 128 % 8) * 4 + (n.val * 4096 + col.val) / 1024 % 4) * 128
      + (n.val * 4096 + col.val) % 128) / 4096 = n.val
    rw [a1, a2, a3, a4]; omega
  | ⟨1, _⟩ =>
    refine Fin.ext (Eq.trans ?_ (Nat.mod_eq_of_lt (by omega)).symm)
    show ((((n.val * 4096 + col.val) / 4096 * 8 + (n.val * 4096 + col.val) / 128 % 8) * 4 + (n.val * 4096 + col.val) / 1024 % 4) * 128
      + (n.val * 4096 + col.val) % 128) % 4096 = _
    have b1 : col.val / 1024 = col.val / 128 / 8 := by omega
    have b2 : col.val / 256 = col.val / 128 / 2 := by omega
    have b3 : col.val / 128 < 32 := by omega
    have b4 : col.val % 128 < 128 := by omega
    rw [a1, a2, a3, a4, b1, b2]
    generalize col.val / 128 = q at b3 ⊢
    generalize col.val % 128 = r at b4 ⊢
    omega

/-- The cotangent at the conv branch's chunks. -/
theorem cot_1 (n : Fin 8192) (j w : ℕ) (h : j < 4) : cot x1 x2 x3 x4 x5 j w n = x1 (ix2 n (Fin.ofNat 4096 (1024 * j + w))) := if_pos h
/-- At the queries' chunk. -/
theorem cot_2 (n : Fin 8192) (w : ℕ) : cot x1 x2 x3 x4 x5 4 w n = x2 (ix2 n (Fin.ofNat 1024 w)) := by
  unfold cot; rw [if_neg (show ¬(4 : ℕ) < 4 by decide), if_pos (show (4 : ℕ) = 4 from rfl)]
/-- At the keys' and values'. -/
theorem cot_3 (n : Fin 8192) (w : ℕ) : cot x1 x2 x3 x4 x5 5 w n = x3 (ix2 n (Fin.ofNat 256 w)) := by
  unfold cot; rw [if_neg (show ¬(5 : ℕ) < 4 by decide), if_neg (show ¬(5 : ℕ) = 4 by decide), if_pos (show (5 : ℕ) = 5 from rfl)]
/-- At the attention gate's. -/
theorem cot_4 (n : Fin 8192) (w : ℕ) : cot x1 x2 x3 x4 x5 6 w n = x4 (ix2 n (Fin.ofNat 1024 w)) := by
  unfold cot
  rw [if_neg (show ¬(6 : ℕ) < 4 by decide), if_neg (show ¬(6 : ℕ) = 4 by decide), if_neg (show ¬(6 : ℕ) = 5 by decide), if_pos (show (6 : ℕ) = 6 from rfl)]
/-- At the branch gates'. -/
theorem cot_5 (n : Fin 8192) (j w : ℕ) (h : 7 ≤ j) : cot x1 x2 x3 x4 x5 j w n = x5 (ix2 n (Fin.ofNat 2048 (1024 * (j - 7) + w))) := by
  unfold cot
  rw [if_neg (show ¬j < 4 by omega), if_neg (show ¬j = 4 by omega), if_neg (show ¬j = 5 by omega), if_neg (show ¬j = 6 by omega)]

/-- One piece's column, its number written in two ways. -/
theorem at_col {W : ℕ} [NeZero W] (X : (⟨2, ![8192, W]⟩ : Shape).Idx → EReal) (n : Fin 8192) (a b : ℕ) (h : a < W) (e : a = b) :
    X (ix2 n ⟨a, h⟩) = X (ix2 n (Fin.ofNat W b)) := by
  subst e
  exact congrArg (fun z => X (ix2 n z)) (Fin.ext (Nat.mod_eq_of_lt h).symm)

/-- The pieces side by side: a column is its chunk's. -/
theorem v9_at (n : Fin 8192) (col : Fin 8448) :
    val_main_v9 (F := Ideal) x1 x2 x3 x4 x5 (ix2 n col) = cot x1 x2 x3 x4 x5 (chunk col.val) (within col.val) n := by
  have e8 := v8_at x1
  unfold val_main_v9 val_main_v2 val_main_v3 val_main_v4 val_main_v5
  generalize val_main_v8 (F := Ideal) x1 = y1 at e8 ⊢
  pointwise
  have hcol : col.val < 8448 := col.isLt
  unfold chunk within
  by_cases h1 : col.val < 4096
  · rw [dif_pos h1, e8]
    simp only [if_pos h1]
    exact (cot_1 x1 x2 x3 x4 x5 n _ _ (by omega)).symm
  rw [dif_neg h1]
  simp only [if_neg h1]
  by_cases h2 : col.val < 5120
  · rw [dif_pos (by omega)]
    simp only [if_pos h2]
    exact (at_col x2 n _ _ _ rfl).trans (cot_2 x1 x2 x3 x4 x5 n _).symm
  rw [dif_neg (by omega)]
  simp only [if_neg h2]
  by_cases h3 : col.val < 5376
  · rw [dif_pos (by omega)]
    simp only [if_pos h3]
    exact (at_col x3 n _ _ _ (by omega)).trans (cot_3 x1 x2 x3 x4 x5 n _).symm
  rw [dif_neg (by omega)]
  simp only [if_neg h3]
  by_cases h4 : col.val < 6400
  · rw [dif_pos (by omega)]
    simp only [if_pos h4]
    exact (at_col x4 n _ _ _ (by omega)).trans (cot_4 x1 x2 x3 x4 x5 n _).symm
  rw [dif_neg (by omega)]
  simp only [if_neg h4]
  exact (at_col x5 n _ _ _ (by omega)).trans (cot_5 x1 x2 x3 x4 x5 n _ _ (by omega)).symm

/-- The reference's result is the weight's gradient. -/
theorem v14_eq : gradArr x0 x1 x2 x3 x4 x5 = val_main_v14 (F := Ideal) x0 x1 x2 x3 x4 x5 := by
  funext i
  idx_vars i
  rw [val_main_v14_apply, val_main_v13_apply]
  unfold gradArr
  refine Finset.sum_congr rfl fun n _ => ?_
  rw [val_main_v11_apply]
  refine (mul_comm _ _).trans (congrArg₂ (· * ·) ?_ ?_)
  · refine (v9_at x1 x2 x3 x4 x5 n i1).symm.trans (congrArg _ ?_)
    funext d
    match d with
    | ⟨0, _⟩ => rfl
    | ⟨1, _⟩ => rfl
  · exact congrArg x0 (by funext d; match d with | ⟨0, _⟩ => rfl | ⟨1, _⟩ => rfl)

/-- The reference's run: the result in its operations' terms, the arguments unchanged. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = val_main_v14 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (val_main_v14_eq _ _ _ _ _ _), (h c).2⟩)
    (Cert.InputProjectionReferenceIdeal.Value.run (F := Ideal) m ρ)

/-- The frame of the reference, which declares no semaphore. -/
theorem frameReference : Cert.quiescent_InputProjectionReferenceIdeal := fun m ρ _ =>
  (θ_run Cert.InputProjectionReferenceIdeal.defs _ _).mono (fun _ h => ⟨fun c => (h c).2, funext nofun⟩) (refRun m ρ)

/-- The claim of equal results. -/
theorem algebraic : Cert.algebraic_InputProjectionIdeal_InputProjectionReferenceIdeal := by
  intro m g m' g' hpre hagree
  refine ⟨_, run m g, ?_⟩
  refine (θ_run _ _ _).mono (fun r h c => ?_) (refRun m' g')
  obtain ⟨e0, e1, e2, e3, e4, e5⟩ := hagree c
  obtain ⟨h0, hargs⟩ := h c
  rw [e0, e1, e2, e3, e4, e5] at h0
  exact ⟨h0.trans (v14_eq ..).symm, hargs⟩

end Cert.Gin

end
-- ==== Proof.PrenormRuns.lean ====
/- The set-up of the run of the normalisation-and-projection kernel: windows, blocks, conditions, invariant. -/
module

public import proofs.«01_k».proof.Proof.Gen.PrenormIdeal.Launch
public import proofs.«01_k».proof.Proof.Gen.PrenormIdeal.Skeleton
public import proofs.«01_k».proof.Proof.Gen.PrenormIdeal.Points
public import Idealize.ShloMosaic.Lib.Pipeline.FrameBody
public import Idealize.ShloMosaic.Lib.Ring
public import Idealize.ShloMosaic.Lib.Tactic
public import Idealize.ShloMosaic.Lib.WordCmp

@[expose] public section

-- the blocks' axes are long
set_option maxRecDepth 16384

noncomputable section

namespace Cert.PrenormIdeal.Hand

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The tokens are what the launch finds. -/
theorem V_main_arg0 (c : Dev nD) : V m c main_arg0 = m ((c : Thread nD τ).loc main_arg0) := rfl
/-- The gain is what the launch finds. -/
theorem V_main_arg1 (c : Dev nD) : V m c main_arg1 = m ((c : Thread nD τ).loc main_arg1) := rfl
/-- The shards are what the launch finds. -/
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_PrenormIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c)⟩) h

/-! ## The body's branch condition -/

/-- The condition under which the body loads the weights, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : cond0_0 (grid0.coords t) ↔ t.val / 1 % 16 = 0 := by
      simp only [cond0_0, e0]
      word_cmp
    rw [e1]; omega
   : ∀ t : Fin grid0.N, cond0_0 (grid0.coords t) ↔ t.val = 0)

/-- One staging buffer of output window 2, through which its contents are stated. -/
abbrev VO0_2 : View sig .tc .vmem S512x4096 .bf16 := (Memref.whole cc0_stg2_0 : Memref sig .tc .vmem S512x4096 .bf16).view
/-- One staging buffer of output window 3, through which its contents are stated. -/
abbrev VO0_3 : View sig .tc .vmem S512x1024 .bf16 := (Memref.whole cc0_stg3_0 : Memref sig .tc .vmem S512x1024 .bf16).view
/-- One staging buffer of output window 4, through which its contents are stated. -/
abbrev VO0_4 : View sig .tc .vmem S512x256 .bf16 := (Memref.whole cc0_stg4_0 : Memref sig .tc .vmem S512x256 .bf16).view
/-- One staging buffer of output window 5, through which its contents are stated. -/
abbrev VO0_5 : View sig .tc .vmem S512x1024 .bf16 := (Memref.whole cc0_stg5_0 : Memref sig .tc .vmem S512x1024 .bf16).view
/-- One staging buffer of output window 6, through which its contents are stated. -/
abbrev VO0_6 : View sig .tc .vmem S512x2048 .bf16 := (Memref.whole cc0_stg6_0 : Memref sig .tc .vmem S512x2048 .bf16).view
/-- One staging buffer of output window 7, through which its contents are stated. -/
abbrev VO0_7 : View sig .tc .vmem S1024x512 .bf16 := (Memref.whole cc0_stg7_0 : Memref sig .tc .vmem S1024x512 .bf16).view
/-- Each window's current staging memref at point `t`, spelled as the pipeline passes it, and its wholeness. -/
abbrev ms0_0 (t : Fin cfg0.N) : Memref sig .tc .vmem S512x1024 .f32 := win0_0.stage (cfg0.slots t 0)
/-- Window 0's block at a point is a whole buffer. -/
abbrev hs0_0 (t : Fin cfg0.N) : (ms0_0 t).IsWhole := hstage0_0 ((cfg0.slots t 0).cast nbuf0_0)
/-- Window 1's block at a point. -/
abbrev ms0_1 (t : Fin cfg0.N) : Memref sig .tc .vmem S1x1024 .f32 := win0_1.stage (cfg0.slots t 1)
/-- Window 1's block at a point is a whole buffer. -/
abbrev hs0_1 (t : Fin cfg0.N) : (ms0_1 t).IsWhole := hstage0_1 ((cfg0.slots t 1).cast nbuf0_1)
/-- Window 2's block at a point. -/
abbrev ms0_2 (t : Fin cfg0.N) : Memref sig .tc .vmem S512x4096 .bf16 := win0_2.stage (cfg0.slots t 2)
/-- Window 2's block at a point is a whole buffer. -/
abbrev hs0_2 (t : Fin cfg0.N) : (ms0_2 t).IsWhole := hstage0_2 ((cfg0.slots t 2).cast nbuf0_2)
/-- Window 3's block at a point. -/
abbrev ms0_3 (t : Fin cfg0.N) : Memref sig .tc .vmem S512x1024 .bf16 := win0_3.stage (cfg0.slots t 3)
/-- Window 3's block at a point is a whole buffer. -/
abbrev hs0_3 (t : Fin cfg0.N) : (ms0_3 t).IsWhole := hstage0_3 ((cfg0.slots t 3).cast nbuf0_3)
/-- Window 4's block at a point. -/
abbrev ms0_4 (t : Fin cfg0.N) : Memref sig .tc .vmem S512x256 .bf16 := win0_4.stage (cfg0.slots t 4)
/-- Window 4's block at a point is a whole buffer. -/
abbrev hs0_4 (t : Fin cfg0.N) : (ms0_4 t).IsWhole := hstage0_4 ((cfg0.slots t 4).cast nbuf0_4)
/-- Window 5's block at a point. -/
abbrev ms0_5 (t : Fin cfg0.N) : Memref sig .tc .vmem S512x1024 .bf16 := win0_5.stage (cfg0.slots t 5)
/-- Window 5's block at a point is a whole buffer. -/
abbrev hs0_5 (t : Fin cfg0.N) : (ms0_5 t).IsWhole := hstage0_5 ((cfg0.slots t 5).cast nbuf0_5)
/-- Window 6's block at a point. -/
abbrev ms0_6 (t : Fin cfg0.N) : Memref sig .tc .vmem S512x2048 .bf16 := win0_6.stage (cfg0.slots t 6)
/-- Window 6's block at a point is a whole buffer. -/
abbrev hs0_6 (t : Fin cfg0.N) : (ms0_6 t).IsWhole := hstage0_6 ((cfg0.slots t 6).cast nbuf0_6)
/-- Window 7's block at a point. -/
abbrev ms0_7 (t : Fin cfg0.N) : Memref sig .tc .vmem S1024x512 .bf16 := win0_7.stage (cfg0.slots t 7)
/-- Window 7's block at a point is a whole buffer. -/
abbrev hs0_7 (t : Fin cfg0.N) : (ms0_7 t).IsWhole := hstage0_7 ((cfg0.slots t 7).cast nbuf0_7)
/-- The scratch that holds the assembled weights, and the one for the two tiles that are sums of halves. -/
abbrev scM0_0 : Memref sig .tc .vmem S1024x8448 .bf16 := Memref.whole cc0_scratch0
/-- The scratch of the halves. -/
abbrev scM0_1 : Memref sig .tc .vmem S4x1024x128 .bf16 := Memref.whole cc0_scratch1
/-- The weights as they are stored, left in HBM, whole. -/
abbrev hbM0_0 : Memref sig .tc .hbm S4x1024x2176 .bf16 := Memref.whole main_arg2
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
/-- A buffer held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA counters. -/
abbrev osem0 : Fin 2 → SemLoc sig := fun j => (![SemLoc.dma 15, SemLoc.dma 16] : Fin 2 → SemLoc sig) j
/-- The body's counters are not the pipeline's. -/
theorem ownSemFacts0 : Pipeline.OwnSemFacts spec0 osem0 := by decide
/-- The counters at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0) := by
  rw [Pipeline.ownSems0_eq_of_list c osem0 [0, 1] (by decide) (by decide)]; rfl
/-- The operand the body copies from itself. -/
def H0 : Finset (Ref sig .tc) := {main_arg2}
/-- That operand is not a window of the pipeline. -/
theorem H0_sub : H0 ⊆ Pipeline.restRefs sig spec0 := by decide
/-- It is held at what the launch finds in it. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- What a body with transfers of its own keeps between points, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg2))) := by
  rw [Pipeline.ΦD_eq, scopedRest0_eq, ownSems00_eq, hbmPts0_eq]; simp only [scM0_0, scM0_1, owns_whole]; try rfl

end Cert.PrenormIdeal.Hand

end
-- ==== Proof.PrenormRun.lean ====
/- The normalisation-and-projection kernel: the run of a grid point that finds the weights gathered. -/
module

public import proofs.«01_k».proof.Proof.PrenormRuns
public import Idealize.ShloMosaic.Lib.MixedBatch
public import Idealize.ShloMosaic.Lib.ValueIdx
public import Idealize.ShloMosaic.Lib.ValueLayout

@[expose] public section

-- the blocks' axes are long
set_option maxRecDepth 16384

noncomputable section

namespace Cert.PrenormIdeal.Hand

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large)
set_option maxHeartbeats 1000000 in
/-- The body at a grid point that does not load, run once: what its stores leave in each output, and the proof that it runs.  It reads the weights the
    scratch holds; the inputs and the scratch are left as they were. -/
noncomputable def kernelRun0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole)
    (hc0 : ¬ cond0_0 i) (x0 : Vec F S512x1024 .f32) (x1 : Vec F S1x1024 .f32) (xs0 : Vec F S1024x8448 .bf16) :
    Σ' (L4 : List (View.Piece (Elt F) S512x4096 .bf16)), Σ' (L5 : List (View.Piece (Elt F) S512x1024 .bf16)), Σ' (L6 : List (View.Piece (Elt F) S512x256 .bf16)), Σ' (L7 : List (View.Piece (Elt F) S512x1024 .bf16)), Σ' (L8 : List (View.Piece (Elt F) S512x2048 .bf16)), { L9 : List (View.Piece (Elt F) S1024x512 .bf16) //
      ∀ (W : Waits sig Unit) (K : PUnit → sProp 𝕄),
        iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) scM0_0 fullShare xs0 ∗ owes (c : Thread nD τ) (0 : CellTallies nD τ sig Unit) W
            ∗ (iprop(owns (c : Thread nD τ) arg1 fullShare x0 ∗ owns (c : Thread nD τ) arg2 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ owns (c : Thread nD τ) scM0_0 fullShare xs0 ∗ (∃ W', owes (c : Thread nD τ) (0 : CellTallies nD τ sig Unit) W')) -∗ K ⟨⟩))
          ⊢ wp frame (wpE (defs₀ (F := F)) Variants.none c none) Set.univ (cc0_rms_inproj i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) K } := by
  refine ⟨?_, ?_, ?_, ?_, ?_, ?_, fun W K => ?run⟩
  case run =>
    simp only [cc0_rms_inproj_eq_skeleton]; unfold cc0_rms_inproj_skel
    simp only [k0_part9_eq_skeleton]
    unfold owns
    iintro ⟨⟨%f1, %hf1, H1⟩, ⟨%f2, %hf2, H2⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%fs0, %hfs0, HS0⟩, HW, Hk⟩
    obtain rfl := harg1.eq_unread hf1; obtain rfl := harg2.eq_unread hf2; obtain rfl := (Memref.isWhole_whole cc0_scratch0).eq_unread hfs0
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _; isplitr; · ipureintro; exact (Memref.isWhole_whole cc0_scratch0).read_unread _
      iexact HS0
    iexists _; iexact HW

end Cert.PrenormIdeal.Hand

end
-- ==== Proof.PrenormLoad.lean ====
/- The normalisation-and-projection kernel: how the first grid point gathers the weights. -/
module

public import proofs.«01_k».proof.Proof.PrenormRuns
public import Idealize.ShloMosaic.Lib.MixedBatch
public import Idealize.ShloMosaic.Lib.ValueIdx
public import Idealize.ShloMosaic.Lib.ValueLayout

@[expose] public section

-- the blocks' axes are long
set_option maxRecDepth 16384

noncomputable section

namespace Cert.PrenormIdeal.Hand

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Column offsets of the gathered pieces in the assembled weights. -/
def o10 : Fin 33 → ℕ := ![0, 512, 1024, 1536, 2048, 2560, 3072, 3584, 128, 640, 1152, 1664, 2176, 2688, 3200, 3712, 768, 1280, 1792, 2304, 2816, 3328, 3840, 384, 896, 1408, 1920, 2432, 2944, 3456, 3968, 4224, 6400]
/-- Their widths. -/
def w10 : Fin 33 → ℕ := ![128, 128, 128, 128, 128, 128, 128, 128, 128, 128, 128, 128, 128, 128, 128, 128, 128, 128, 128, 128, 128, 128, 128, 128, 128, 128, 128, 128, 128, 128, 256, 2048, 2048]
/-- The shard each comes from. -/
def k3 : Fin 33 → ℕ := ![0, 0, 0, 0, 0, 0, 0, 0, 0, 0, 0, 0, 0, 0, 0, 0, 1, 1, 1, 1, 1, 1, 1, 1, 1, 1, 1, 1, 1, 1, 1, 2, 3]
/-- The column it starts at there. -/
def o3 : Fin 33 → ℕ := ![0, 128, 256, 384, 512, 640, 768, 896, 1024, 1152, 1280, 1408, 1536, 1664, 1792, 1920, 128, 256, 384, 512, 640, 768, 896, 1024, 1152, 1280, 1408, 1536, 1664, 1792, 1920, 0, 128]
/-- The shard of each half that is only added, and its column there. -/
def k4 : Fin 4 → ℕ := ![0, 1, 2, 3]
/-- The column each of those starts at. -/
def o4 : Fin 4 → ℕ := ![2048, 0, 2048, 0]

/-! ## Pieces of a buffer lent one by one -/

section Rest
variable {T : Type} [Fintype T] [DecidableEq T] {n : ℕ} (K : Fin n → Finset T)

/-- What is left of a buffer once the first `t` pieces are lent. -/
def rest (t : ℕ) : Finset T := Finset.univ.filter fun i => ∀ j : Fin n, j.val < t → i ∉ K j

/-- Nothing lent yet: all of it. -/
theorem rest_zero : rest K 0 = Finset.univ := by ext i; simp [rest]

/-- The next piece has not been lent. -/
theorem sub_rest (hK : ∀ a b, a ≠ b → Disjoint (K a) (K b)) (t : ℕ) (ht : t < n) : K ⟨t, ht⟩ ⊆ rest K t := by
  intro i hi
  simp only [rest, Finset.mem_filter, Finset.mem_univ, true_and]
  intro j hj hij
  exact Finset.disjoint_left.mp (hK j ⟨t, ht⟩ (fun e => by rw [e] at hj; exact lt_irrefl _ hj)) hij hi

/-- Lending it leaves the rest. -/
theorem rest_succ (t : ℕ) (ht : t < n) : rest K t \ K ⟨t, ht⟩ = rest K (t + 1) := by
  ext i
  simp only [rest, Finset.mem_sdiff, Finset.mem_filter, Finset.mem_univ, true_and]
  constructor
  · rintro ⟨h1, h2⟩ j hj
    rcases Nat.lt_succ_iff_lt_or_eq.mp hj with h | h
    · exact h1 j h
    · have : j = ⟨t, ht⟩ := Fin.ext h
      rw [this]; exact h2
  · intro h
    exact ⟨fun j hj => h j (Nat.lt_succ_of_lt hj), h ⟨t, ht⟩ (Nat.lt_succ_self t)⟩

/-- The pieces and what is left at the end make the whole. -/
theorem univ_sdiff_rest : Finset.univ \ rest K n = Finset.univ.biUnion K := by
  ext i
  simp only [rest, Finset.mem_sdiff, Finset.mem_filter, Finset.mem_univ, true_and, Finset.mem_biUnion]
  constructor
  · intro h
    by_contra hc
    exact h fun j _ hj => hc ⟨j, hj⟩
  · rintro ⟨j, hj⟩ h
    exact h j j.isLt hj

end Rest

/-- Splitting off the next piece of a partly lent buffer. -/
theorem lend {ℓ : Loc nD τ sig} {q : PosShare TreeShare} {n : ℕ} (K : Fin n → Finset (Idx ℓ)) (f : Buf (Elt F) ℓ)
    (hK : ∀ a b, a ≠ b → Disjoint (K a) (K b)) (t : ℕ) (ht : t < n) :
    (ℓ ↦[rest K t]{q} f : sProp 𝕄) ⊢ iprop((ℓ ↦[K ⟨t, ht⟩]{q} f) ∗ ℓ ↦[rest K (t + 1)]{q} f) := by
  rw [← rest_succ K t ht]
  exact (pointsTo_split_subset (sub_rest K hK t ht)).1

/-- The pieces returned, all at contents `g`, over what was left at `f`: the whole buffer. -/
theorem regain {ℓ : Loc nD τ sig} {q : PosShare TreeShare} {n : ℕ} (K : Fin n → Finset (Idx ℓ)) (f g h : Buf (Elt F) ℓ)
    (hK : ∀ a b, a ≠ b → Disjoint (K a) (K b)) (hf : ∀ i ∈ rest K n, f i = h i) (hg : ∀ j, ∀ i ∈ K j, g i = h i) :
    iprop((ℓ ↦[rest K n]{q} f) ∗ bigSep Finset.univ (fun j => (ℓ ↦[K j]{q} g))) ⊢ (ℓ ↦[Finset.univ]{q} h : sProp 𝕄) := by
  rw [← pointsTo_biUnion Finset.univ K (fun a _ b _ hab => hK a b hab), ← univ_sdiff_rest, pointsTo_congr hf,
    pointsTo_congr (f := g) (g := h) (fun i hi => by
      rw [univ_sdiff_rest] at hi
      obtain ⟨j, -, hj⟩ := Finset.mem_biUnion.mp hi
      exact hg j i hj)]
  exact (pointsTo_split_subset (Finset.subset_univ _)).2

/-! ## The pieces -/

/-- The columns `[o, o + w)` of the assembled weights. -/
def cols (o w : ℕ) : Finset S1024x8448.Idx := Finset.univ.filter fun i => o ≤ (i 1).val ∧ (i 1).val < o + w
/-- The columns `[o, o + w)` of shard `k`. -/
def scols (k o w : ℕ) : Finset S4x1024x2176.Idx := Finset.univ.filter fun i => (i 0).val = k ∧ o ≤ (i 2).val ∧ (i 2).val < o + w
/-- One slot of the small scratch. -/
def slot (k : ℕ) : Finset S4x1024x128.Idx := Finset.univ.filter fun i => (i 0).val = k

/-- The elements of a piece of the assembled weights. -/
theorem set_cols {o w : ℕ} {inb} : (Rect.unit (s := S1024x8448) ![0, o] ![1024, w] inb).set = cols o w := by
  ext i
  rw [Rect.mem_set_unit]
  simp only [cols, Finset.mem_filter, Finset.mem_univ, true_and]
  constructor
  · intro h; exact h 1
  · intro h a
    have h0 : (i 0).val < 1024 := (i 0).isLt
    match a with
    | ⟨0, _⟩ => exact ⟨Nat.zero_le _, by show (i 0).val < 0 + 1024; omega⟩
    | ⟨1, _⟩ => exact h

/-- The elements of a piece of a shard. -/
theorem set_scols {k o w : ℕ} {inb} : (Rect.unit (s := S4x1024x2176) ![k, 0, o] ![1, 1024, w] inb).set = scols k o w := by
  ext i
  rw [Rect.mem_set_unit]
  simp only [scols, Finset.mem_filter, Finset.mem_univ, true_and]
  constructor
  · intro h
    have h0 : k ≤ (i 0).val ∧ (i 0).val < k + 1 := h 0
    exact ⟨by omega, h 2⟩
  · intro h a
    have h0 : (i 1).val < 1024 := (i 1).isLt
    match a with
    | ⟨0, _⟩ => exact (show k ≤ (i 0).val ∧ (i 0).val < k + 1 by omega)
    | ⟨1, _⟩ => exact ⟨Nat.zero_le _, by show (i 1).val < 0 + 1024; omega⟩
    | ⟨2, _⟩ => exact h.2

/-- The elements of a slot. -/
theorem set_slot {k : ℕ} {inb} : (Rect.unit (s := S4x1024x128) ![k, 0, 0] ![1, 1024, 128] inb).set = slot k := by
  ext i
  rw [Rect.mem_set_unit]
  simp only [slot, Finset.mem_filter, Finset.mem_univ, true_and]
  constructor
  · intro h
    have h0 : k ≤ (i 0).val ∧ (i 0).val < k + 1 := h 0
    omega
  · intro h a
    have h0 : (i 1).val < 1024 := (i 1).isLt
    have h2 : (i 2).val < 128 := (i 2).isLt
    match a with
    | ⟨0, _⟩ => exact (show k ≤ (i 0).val ∧ (i 0).val < k + 1 by omega)
    | ⟨1, _⟩ => exact ⟨Nat.zero_le _, by show (i 1).val < 0 + 1024; omega⟩
    | ⟨2, _⟩ => exact ⟨Nat.zero_le _, by show (i 2).val < 0 + 128; omega⟩

/-- The destinations, the sources, the slots and the sources of the slots. -/
def D10 (j : Fin 33) : Finset S1024x8448.Idx := cols (o10 j) (w10 j)
/-- The part of a shard that each copy reads. -/
def S3 (j : Fin 33) : Finset S4x1024x2176.Idx := scols (k3 j) (o3 j) (w10 j)
/-- The slot that each half lands in. -/
def D11 (j : Fin 4) : Finset S4x1024x128.Idx := slot j.val
/-- The part of a shard that each half is. -/
def S4 (j : Fin 4) : Finset S4x1024x2176.Idx := scols (k4 j) (o4 j) 128

/-- No two copies land on the same columns. -/
theorem sep10 : ∀ a b : Fin 33, a ≠ b → o10 a + w10 a ≤ o10 b ∨ o10 b + w10 b ≤ o10 a := by decide
/-- No two copies read the same columns of a shard. -/
theorem sep3 : ∀ a b : Fin 33, a ≠ b → k3 a ≠ k3 b ∨ o3 a + w10 a ≤ o3 b ∨ o3 b + w10 b ≤ o3 a := by decide
/-- The four halves come from four shards. -/
theorem sep4 : ∀ a b : Fin 4, a ≠ b → k4 a ≠ k4 b := by decide

/-- No two destinations overlap. -/
theorem D10_disj (a b : Fin 33) (h : a ≠ b) : Disjoint (D10 a) (D10 b) := by
  rw [Finset.disjoint_left]
  intro i ha hb
  simp only [D10, cols, Finset.mem_filter, Finset.mem_univ, true_and] at ha hb
  have := sep10 a b h
  omega
/-- No two sources overlap. -/
theorem S3_disj (a b : Fin 33) (h : a ≠ b) : Disjoint (S3 a) (S3 b) := by
  rw [Finset.disjoint_left]
  intro i ha hb
  simp only [S3, scols, Finset.mem_filter, Finset.mem_univ, true_and] at ha hb
  have := sep3 a b h
  omega
/-- No two slots overlap. -/
theorem D11_disj (a b : Fin 4) (h : a ≠ b) : Disjoint (D11 a) (D11 b) := by
  rw [Finset.disjoint_left]
  intro i ha hb
  simp only [D11, slot, Finset.mem_filter, Finset.mem_univ, true_and] at ha hb
  exact h (Fin.ext (by omega))
/-- No two sources of slots overlap. -/
theorem S4_disj (a b : Fin 4) (h : a ≠ b) : Disjoint (S4 a) (S4 b) := by
  rw [Finset.disjoint_left]
  intro i ha hb
  simp only [S4, scols, Finset.mem_filter, Finset.mem_univ, true_and] at ha hb
  have := sep4 a b h
  omega

/-! ## What is gathered -/

/-- The shard a column of the assembled weights comes from. -/
def shN (c : ℕ) : ℕ := if c < 4096 then (if c / 128 % 4 < 2 then 0 else 1) else if c < 4224 then 1 else if c < 6272 then 2 else 3
/-- Its column there. -/
def scN (c : ℕ) : ℕ :=
  if c < 4096 then c / 512 * 128 + (if c / 128 % 2 = 1 then 1024 else 0) + c % 128
  else if c < 4224 then c - 2048 else if c < 6272 then c - 4224 else c - 6272
/-- There are four shards. -/
theorem shN_lt (c : ℕ) : shN c < 4 := by unfold shN; split_ifs <;> omega

/-- The gathered weights, column by column (the two tiles that are sums of halves apart). -/
def G10 (x : Vec F S4x1024x2176 .bf16) : Vec F S1024x8448 .bf16 := fun i =>
  x (ValueIdx.ix3 (⟨shN (i 1).val, shN_lt _⟩ : Fin 4) (i 0 : Fin 1024) (⟨scN (i 1).val % 2176, Nat.mod_lt _ (by norm_num)⟩ : Fin 2176))
/-- There are four shards. -/
theorem k4_lt (k : Fin 4) : k4 k < 4 := by revert k; decide
/-- A half lies within its shard. -/
theorem o4_lt (k : Fin 4) (b : Fin 128) : o4 k + b.val < 2176 := by
  have : ∀ k : Fin 4, o4 k ≤ 2048 := by decide
  have := this k; omega
/-- The halves that are only added. -/
def G11 (x : Vec F S4x1024x2176 .bf16) : Vec F S4x1024x128 .bf16 := fun i =>
  x (ValueIdx.ix3 (⟨k4 (i 0), k4_lt _⟩ : Fin 4) (i 1 : Fin 1024) (⟨o4 (i 0) + (i 2).val, o4_lt _ _⟩ : Fin 2176))

/-! ## One copy issued -/

/-- The bytes each copy is counted by. -/
def A10 (j : Fin 33) : ℕ := (cc0_scratch0 : Ref sig .tc).dmaCredit ⟨2, ![1024, w10 j]⟩ .bf16
/-- The bytes of a half. -/
def A11 (_ : Fin 4) : ℕ := (cc0_scratch1 : Ref sig .tc).dmaCredit S1024x128 .bf16

variable (c : Dev nD) (x : Vec F S4x1024x2176 .bf16)

/-- The two buffers and the shards, piecewise. -/
abbrev p10 (I : Finset S1024x8448.Idx) (f : Vec F S1024x8448 .bf16) : sProp 𝕄 := scM0_0.view.loc (c : Thread nD τ) ↦[I]{fullShare} f
/-- The buffer of halves, piecewise. -/
abbrev p11 (I : Finset S4x1024x128.Idx) (f : Vec F S4x1024x128 .bf16) : sProp 𝕄 := scM0_1.view.loc (c : Thread nD τ) ↦[I]{fullShare} f
/-- The shards, piecewise. -/
abbrev p3 (q : PosShare TreeShare) (I : Finset S4x1024x2176.Idx) (f : Vec F S4x1024x2176 .bf16) : sProp 𝕄 := hbM0_0.view.loc (c : Thread nD τ) ↦[I]{q} f

/-- What each copy delivers. -/
def deliv10 (j : Fin 33) : sProp 𝕄 := iprop(p10 c (D10 j) (G10 x) ∗ p3 c fullShare.left (S3 j) x)
/-- What the copy of a half delivers. -/
def deliv11 (j : Fin 4) : sProp 𝕄 := iprop(p11 c (D11 j) (G11 x) ∗ p3 c fullShare.right (S4 j) x)

/-- After `t` copies on the first counter. -/
def St10 (f : Vec F S1024x8448 .bf16) (t : ℕ) : sProp 𝕄 :=
  iprop(p10 c (rest D10 t) f ∗ p3 c fullShare.left (rest S3 t) x ∗ Transfers.MixedBatch (Lvl := ℕ) (Name := ℕ) countersEmb (c : Thread nD τ) (SemLoc.dma 15) () A10 (deliv10 c x) t 0)
/-- After `t` copies on the second. -/
def St11 (f : Vec F S4x1024x128 .bf16) (t : ℕ) : sProp 𝕄 :=
  iprop(p11 c (rest D11 t) f ∗ p3 c fullShare.right (rest S4 t) x ∗ Transfers.MixedBatch (Lvl := ℕ) (Name := ℕ) countersEmb (c : Thread nD τ) (SemLoc.dma 16) () A11 (deliv11 c x) t 0)

/-- Where a piece's destination and source sit, element by element. -/
theorem at10 {k o o' w : ℕ} {inb inb'} {hr hr'} {sq} (hgeo : ∀ b < w, shN (o + b) = k ∧ scN (o + b) % 2176 = o' + b) (y : (⟨2, ![1024, w]⟩ : Shape).Idx) :
    (((hbM0_0.slice (Rect.unit (s := S4x1024x2176) ![k, 0, o'] ![1, 1024, w] inb') hr').squeeze ⟨2, ![1024, w]⟩ sq).view.read (Elt F) x) y
      = G10 x ((scM0_0.slice (Rect.unit (s := S1024x8448) ![0, o] ![1024, w] inb) hr).view.emb y) := by
  have hy : y = ValueIdx.ix2 (y 0 : Fin 1024) (y 1 : Fin w) := by
    funext a
    match a with
    | ⟨0, _⟩ => rfl
    | ⟨1, _⟩ => rfl
  obtain ⟨h1, h2⟩ := hgeo (y 1).val (y 1).isLt
  have e : Shape.reshapeEquiv sq.numel_eq y = ValueIdx.ix3 (⟨0, Nat.one_pos⟩ : Fin 1) (y 0 : Fin 1024) (y 1 : Fin w) :=
    (congrArg _ hy).trans (ValueIdx.reshapeEquiv_ix2_1ab (a := 1024) (b := w) sq.numel_eq (y 0 : Fin 1024) (y 1 : Fin w))
  show x ((Rect.unit (s := S4x1024x2176) ![k, 0, o'] ![1, 1024, w] inb').emb (Shape.reshapeEquiv sq.numel_eq y)) = x _
  rw [e]
  congr 1
  funext a
  apply Fin.ext
  match a with
  | ⟨0, _⟩ =>
    show k + 1 * 0 = shN (o + 1 * (y 1).val)
    rw [Nat.one_mul (y 1).val, h1]; rfl
  | ⟨1, _⟩ =>
    show 0 + 1 * (y 0).val = 0 + 1 * (y 0).val
    rfl
  | ⟨2, _⟩ =>
    show o' + 1 * (y 1).val = scN (o + 1 * (y 1).val) % 2176
    rw [Nat.one_mul (y 1).val, h2]

set_option maxHeartbeats 800000 in
/-- One copy on the first counter issued. -/
theorem step10 (f : Vec F S1024x8448 .bf16) (t : ℕ) (ht : t < 33) (k o o' w : ℕ)
    (hk : k3 ⟨t, ht⟩ = k) (ho : o10 ⟨t, ht⟩ = o) (ho' : o3 ⟨t, ht⟩ = o') (hw : w10 ⟨t, ht⟩ = w)
    (hgeo : ∀ b < w, shN (o + b) = k ∧ scN (o + b) % 2176 = o' + b)
    {inb inb'} {hr hr'} {sq} (sem : DmaSem sig) (hs : sem = (15 : Fin 17)) {h1 h2 h3} (Q : PUnit → sProp 𝕄) :
    St10 c x f t ⊢ iprop((St10 c x f (t + 1) -∗ Q ⟨⟩) -∗
      wp frame (wpE (defs₀ (F := F)) Variants.none (c : Thread nD τ) none) Set.univ
        (Prog.lift (.enqueueDma ((hbM0_0.slice (Rect.unit (s := S4x1024x2176) ![k, 0, o'] ![1, 1024, w] inb') hr').squeeze ⟨2, ![1024, w]⟩ sq)
          (.here (scM0_0.slice (Rect.unit (s := S1024x8448) ![0, o] ![1024, w] inb) hr)) (.dma sem) h1 h2 h3)) Q) := by
  subst hs
  have hd : D10 ⟨t, ht⟩ = cols o w := by unfold D10; rw [ho, hw]
  have hsS : S3 ⟨t, ht⟩ = scols k o' w := by unfold S3; rw [hk, ho', hw]
  have hset : (scM0_0.slice (Rect.unit (s := S1024x8448) ![0, o] ![1024, w] inb) hr).view.set = cols o w :=
    (View.set_slice_whole _ _).trans set_cols
  have hsrc : ((hbM0_0.slice (Rect.unit (s := S4x1024x2176) ![k, 0, o'] ![1, 1024, w] inb') hr').squeeze ⟨2, ![1024, w]⟩ sq).view.set = scols k o' w :=
    (View.set_reshape _ _).trans ((View.set_slice_whole _ _).trans set_scols)
  have hDs : (((hbM0_0.slice (Rect.unit (s := S4x1024x2176) ![k, 0, o'] ![1, 1024, w] inb') hr').squeeze ⟨2, ![1024, w]⟩ sq).view.loc (c : Thread nD τ)
      ↦[((hbM0_0.slice (Rect.unit (s := S4x1024x2176) ![k, 0, o'] ![1, 1024, w] inb') hr').squeeze ⟨2, ![1024, w]⟩ sq).view.set]{fullShare.left} x : sProp 𝕄)
      = p3 c fullShare.left (S3 ⟨t, ht⟩) x := by rw [hsrc, hsS]
  iintro H Hk
  unfold St10
  icases H with ⟨H10, H3, HB⟩
  ihave H10 := (lend D10 f D10_disj t ht) $$ H10
  icases H10 with ⟨Hd, H10⟩
  ihave H3 := (lend S3 x S3_disj t ht) $$ H3
  icases H3 with ⟨Hs, H3⟩
  iapply (Transfers.wp_dmaMixedBatch countersEmb Variants.none (c : Thread nD τ) none () A10 (Sd := D10 ⟨t, ht⟩) (fd := f) (fs := x) (q := fullShare.left)
    (D := deliv10 c x) (j := t) (u := 0) (hset.trans hd.symm).le ht (by unfold A10; rw [hw]) (Nat.zero_le _) (by
      unfold deliv10
      refine BI.sep_mono ?_ ?_
      · refine Entails.of_eq (pointsTo_congr fun i hi => ?_)
        rw [hd, ← hset] at hi
        obtain ⟨y, -, rfl⟩ := Finset.mem_map.mp hi
        rw [View.write_emb_of_mem _ _ (Finset.mem_univ _)]
        exact at10 x hgeo y
      · exact Entails.of_eq hDs)) $$ [Hs Hd HB]
  · isplitl [Hs]
    · rw [hDs]; iexact Hs
    isplitl [Hd]; · iexact Hd
    iexact HB
  iintro HB
  rw [wp_ret]; imodintro
  iapply Hk
  isplitl [H10]; · iexact H10
  isplitl [H3]; · iexact H3
  iexact HB

/-- Where a piece's destination and source sit, element by element. -/
theorem at11 {k o o' : ℕ} {inb inb'} {hr hr'} {sq} {sq2} (hgeo : ∀ h : o < 4, k4 ⟨o, h⟩ = k ∧ o4 ⟨o, h⟩ = o') (y : (⟨2, ![1024, 128]⟩ : Shape).Idx) :
    (((hbM0_0.slice (Rect.unit (s := S4x1024x2176) ![k, 0, o'] ![1, 1024, 128] inb') hr').squeeze ⟨2, ![1024, 128]⟩ sq).view.read (Elt F) x) y
      = G11 x (((scM0_1.slice (Rect.unit (s := S4x1024x128) ![o, 0, 0] ![1, 1024, 128] inb) hr).squeeze ⟨2, ![1024, 128]⟩ sq2).view.emb y) := by
  have hy : y = ValueIdx.ix2 (y 0 : Fin 1024) (y 1 : Fin 128) := by
    funext a
    match a with
    | ⟨0, _⟩ => rfl
    | ⟨1, _⟩ => rfl
  have ho : o < 4 := by
    have h : o + 1 ≤ 4 := inb 0
    omega
  obtain ⟨h1, h2⟩ := hgeo ho
  have e : Shape.reshapeEquiv sq.numel_eq y = ValueIdx.ix3 (⟨0, Nat.one_pos⟩ : Fin 1) (y 0 : Fin 1024) (y 1 : Fin 128) :=
    (congrArg _ hy).trans (ValueIdx.reshapeEquiv_ix2_1ab (a := 1024) (b := 128) sq.numel_eq (y 0 : Fin 1024) (y 1 : Fin 128))
  show x ((Rect.unit (s := S4x1024x2176) ![k, 0, o'] ![1, 1024, 128] inb').emb (Shape.reshapeEquiv sq.numel_eq y)) = G11 x ((Rect.unit (s := S4x1024x128) ![o, 0, 0] ![1, 1024, 128] inb).emb (Shape.reshapeEquiv sq2.numel_eq y))
  rw [e]
  unfold G11
  have e0 : ((Rect.unit (s := S4x1024x128) ![o, 0, 0] ![1, 1024, 128] inb).emb (ValueIdx.ix3 (⟨0, Nat.one_pos⟩ : Fin 1) (y 0 : Fin 1024) (y 1 : Fin 128)) 0 : Fin 4) = ⟨o, ho⟩ :=
    Fin.ext (show o + 1 * 0 = o by omega)
  congr 1
  funext a
  apply Fin.ext
  match a with
  | ⟨0, _⟩ => exact (show k + 1 * 0 = k by omega).trans (h1.symm.trans (congrArg k4 e0.symm))
  | ⟨1, _⟩ =>
    show 0 + 1 * (y 0).val = 0 + 1 * (y 0).val
    rfl
  | ⟨2, _⟩ =>
    have e2 : o4 ((Rect.unit (s := S4x1024x128) ![o, 0, 0] ![1, 1024, 128] inb).emb (ValueIdx.ix3 (⟨0, Nat.one_pos⟩ : Fin 1) (y 0 : Fin 1024) (y 1 : Fin 128)) 0 : Fin 4) = o' :=
      (congrArg o4 e0).trans h2
    exact (show o' + 1 * (y 1).val = o' + (0 + 1 * (y 1).val) by omega).trans (congrArg (· + (0 + 1 * (y 1).val)) e2.symm)

set_option maxHeartbeats 800000 in
/-- One copy on the second counter issued. -/
theorem step11 (f : Vec F S4x1024x128 .bf16) (t : ℕ) (ht : t < 4) (k o o' : ℕ)
    (hk : k4 ⟨t, ht⟩ = k) (ho : t = o) (ho' : o4 ⟨t, ht⟩ = o')
    (hgeo : ∀ h : o < 4, k4 ⟨o, h⟩ = k ∧ o4 ⟨o, h⟩ = o')
    {inb inb'} {hr hr'} {sq} {sq2} (sem : DmaSem sig) (hs : sem = (16 : Fin 17)) {h1 h2 h3} (Q : PUnit → sProp 𝕄) :
    St11 c x f t ⊢ iprop((St11 c x f (t + 1) -∗ Q ⟨⟩) -∗
      wp frame (wpE (defs₀ (F := F)) Variants.none (c : Thread nD τ) none) Set.univ
        (Prog.lift (.enqueueDma ((hbM0_0.slice (Rect.unit (s := S4x1024x2176) ![k, 0, o'] ![1, 1024, 128] inb') hr').squeeze ⟨2, ![1024, 128]⟩ sq)
          (.here ((scM0_1.slice (Rect.unit (s := S4x1024x128) ![o, 0, 0] ![1, 1024, 128] inb) hr).squeeze ⟨2, ![1024, 128]⟩ sq2)) (.dma sem) h1 h2 h3)) Q) := by
  subst hs
  have hd : D11 ⟨t, ht⟩ = slot o := by unfold D11; rw [← ho]
  have hsS : S4 ⟨t, ht⟩ = scols k o' 128 := by unfold S4; rw [hk, ho']
  have hset : ((scM0_1.slice (Rect.unit (s := S4x1024x128) ![o, 0, 0] ![1, 1024, 128] inb) hr).squeeze ⟨2, ![1024, 128]⟩ sq2).view.set = slot o :=
    (View.set_reshape _ _).trans ((View.set_slice_whole _ _).trans set_slot)
  have hsrc : ((hbM0_0.slice (Rect.unit (s := S4x1024x2176) ![k, 0, o'] ![1, 1024, 128] inb') hr').squeeze ⟨2, ![1024, 128]⟩ sq).view.set = scols k o' 128 :=
    (View.set_reshape _ _).trans ((View.set_slice_whole _ _).trans set_scols)
  have hDs : (((hbM0_0.slice (Rect.unit (s := S4x1024x2176) ![k, 0, o'] ![1, 1024, 128] inb') hr').squeeze ⟨2, ![1024, 128]⟩ sq).view.loc (c : Thread nD τ)
      ↦[((hbM0_0.slice (Rect.unit (s := S4x1024x2176) ![k, 0, o'] ![1, 1024, 128] inb') hr').squeeze ⟨2, ![1024, 128]⟩ sq).view.set]{fullShare.right} x : sProp 𝕄)
      = p3 c fullShare.right (S4 ⟨t, ht⟩) x := by rw [hsrc, hsS]
  iintro H Hk
  unfold St11
  icases H with ⟨H11, H3, HB⟩
  ihave H11 := (lend D11 f D11_disj t ht) $$ H11
  icases H11 with ⟨Hd, H11⟩
  ihave H3 := (lend S4 x S4_disj t ht) $$ H3
  icases H3 with ⟨Hs, H3⟩
  iapply (Transfers.wp_dmaMixedBatch countersEmb Variants.none (c : Thread nD τ) none () A11 (Sd := D11 ⟨t, ht⟩) (fd := f) (fs := x) (q := fullShare.right)
    (D := deliv11 c x) (j := t) (u := 0) (hset.trans hd.symm).le ht rfl (Nat.zero_le _) (by
      unfold deliv11
      refine BI.sep_mono ?_ ?_
      · refine Entails.of_eq (pointsTo_congr fun i hi => ?_)
        rw [hd, ← hset] at hi
        obtain ⟨y, -, rfl⟩ := Finset.mem_map.mp hi
        rw [View.write_emb_of_mem _ _ (Finset.mem_univ _)]
        exact at11 x hgeo y
      · exact Entails.of_eq hDs)) $$ [Hs Hd HB]
  · isplitl [Hs]
    · rw [hDs]; iexact Hs
    isplitl [Hd]; · iexact Hd
    iexact HB
  iintro HB
  rw [wp_ret]; imodintro
  iapply Hk
  isplitl [H11]; · iexact H11
  isplitl [H3]; · iexact H3
  iexact HB

end Cert.PrenormIdeal.Hand

end
-- ==== Proof.PrenormParts.lean ====
/- The normalisation-and-projection kernel: how the first grid point gathers the weights. -/
module

public import proofs.«01_k».proof.Proof.PrenormLoad
public import Idealize.ShloMosaic.Lib.MixedBatch
public import Idealize.ShloMosaic.Lib.ValueIdx
public import Idealize.ShloMosaic.Lib.ValueLayout

@[expose] public section

-- the blocks' axes are long
set_option maxRecDepth 16384

noncomputable section

namespace Cert.PrenormIdeal.Hand

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD) (x : Vec F S4x1024x2176 .bf16)

/-- The copies of part 1 issued. -/
theorem part1_spec (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (f : Vec F S1024x8448 .bf16) (Q : PUnit → sProp 𝕄) :
    St10 c x f 0 ⊢ iprop((St10 c x f 5 -∗ Q ⟨⟩) -∗
      wp frame (wpE (defs₀ (F := F)) Variants.none (c : Thread nD τ) none) Set.univ (k0_part1 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  rw [k0_part1_eq_skeleton]; unfold k0_part1_skel
  iintro H Hk
  rw [wp_bind]
  iapply (step10 c x f 0 (by norm_num) 0 0 0 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 1 (by norm_num) 0 512 128 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 2 (by norm_num) 0 1024 256 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 3 (by norm_num) 0 1536 384 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 4 (by norm_num) 0 2048 512 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 2 issued. -/
theorem part2_spec (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (f : Vec F S1024x8448 .bf16) (Q : PUnit → sProp 𝕄) :
    St10 c x f 5 ⊢ iprop((St10 c x f 10 -∗ Q ⟨⟩) -∗
      wp frame (wpE (defs₀ (F := F)) Variants.none (c : Thread nD τ) none) Set.univ (k0_part2 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  rw [k0_part2_eq_skeleton]; unfold k0_part2_skel
  iintro H Hk
  rw [wp_bind]
  iapply (step10 c x f 5 (by norm_num) 0 2560 640 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 6 (by norm_num) 0 3072 768 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 7 (by norm_num) 0 3584 896 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 8 (by norm_num) 0 128 1024 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 9 (by norm_num) 0 640 1152 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 3 issued. -/
theorem part3_spec (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (f : Vec F S1024x8448 .bf16) (Q : PUnit → sProp 𝕄) :
    St10 c x f 10 ⊢ iprop((St10 c x f 15 -∗ Q ⟨⟩) -∗
      wp frame (wpE (defs₀ (F := F)) Variants.none (c : Thread nD τ) none) Set.univ (k0_part3 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  rw [k0_part3_eq_skeleton]; unfold k0_part3_skel
  iintro H Hk
  rw [wp_bind]
  iapply (step10 c x f 10 (by norm_num) 0 1152 1280 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 11 (by norm_num) 0 1664 1408 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 12 (by norm_num) 0 2176 1536 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 13 (by norm_num) 0 2688 1664 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 14 (by norm_num) 0 3200 1792 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 4 issued. -/
theorem part4_spec (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (f : Vec F S1024x8448 .bf16) (Q : PUnit → sProp 𝕄) :
    St10 c x f 15 ⊢ iprop((St10 c x f 20 -∗ Q ⟨⟩) -∗
      wp frame (wpE (defs₀ (F := F)) Variants.none (c : Thread nD τ) none) Set.univ (k0_part4 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  rw [k0_part4_eq_skeleton]; unfold k0_part4_skel
  iintro H Hk
  rw [wp_bind]
  iapply (step10 c x f 15 (by norm_num) 0 3712 1920 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 16 (by norm_num) 1 768 128 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 17 (by norm_num) 1 1280 256 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 18 (by norm_num) 1 1792 384 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 19 (by norm_num) 1 2304 512 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 5 issued. -/
theorem part5_spec (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (f : Vec F S1024x8448 .bf16) (Q : PUnit → sProp 𝕄) :
    St10 c x f 20 ⊢ iprop((St10 c x f 25 -∗ Q ⟨⟩) -∗
      wp frame (wpE (defs₀ (F := F)) Variants.none (c : Thread nD τ) none) Set.univ (k0_part5 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  rw [k0_part5_eq_skeleton]; unfold k0_part5_skel
  iintro H Hk
  rw [wp_bind]
  iapply (step10 c x f 20 (by norm_num) 1 2816 640 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 21 (by norm_num) 1 3328 768 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 22 (by norm_num) 1 3840 896 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 23 (by norm_num) 1 384 1024 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 24 (by norm_num) 1 896 1152 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 6 issued. -/
theorem part6_spec (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (f : Vec F S1024x8448 .bf16) (Q : PUnit → sProp 𝕄) :
    St10 c x f 25 ⊢ iprop((St10 c x f 30 -∗ Q ⟨⟩) -∗
      wp frame (wpE (defs₀ (F := F)) Variants.none (c : Thread nD τ) none) Set.univ (k0_part6 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  rw [k0_part6_eq_skeleton]; unfold k0_part6_skel
  iintro H Hk
  rw [wp_bind]
  iapply (step10 c x f 25 (by norm_num) 1 1408 1280 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 26 (by norm_num) 1 1920 1408 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 27 (by norm_num) 1 2432 1536 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 28 (by norm_num) 1 2944 1664 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 29 (by norm_num) 1 3456 1792 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 7 issued. -/
theorem part7_spec (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (f : Vec F S1024x8448 .bf16) (g : Vec F S4x1024x128 .bf16) (Q : PUnit → sProp 𝕄) :
    iprop(St10 c x f 30 ∗ St11 c x g 0) ⊢ iprop(((St10 c x f 33 ∗ St11 c x g 1) -∗ Q ⟨⟩) -∗
      wp frame (wpE (defs₀ (F := F)) Variants.none (c : Thread nD τ) none) Set.univ (k0_part7 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  rw [k0_part7_eq_skeleton]; unfold k0_part7_skel
  iintro ⟨H, H11⟩ Hk
  rw [wp_bind]
  iapply (step10 c x f 30 (by norm_num) 1 3968 1920 256 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 31 (by norm_num) 2 4224 0 2048 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 32 (by norm_num) 3 6400 128 2048 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step11 c x g 0 (by norm_num) 0 0 2048 rfl rfl rfl (fun _ => ⟨rfl, rfl⟩) ((cc0_scratch2.slice (Rect.unit (s := S2) ![1] S1.size inb_S2_S1_1)).squeeze S_ squeezes_S1_S_).sem rfl _) $$ H11
  iintro H11
  rw [wp_pure]; imodintro
  iapply Hk
  isplitl [H]; · iexact H
  iexact H11

end Cert.PrenormIdeal.Hand

end
-- ==== Proof.PrenormLoadAll.lean ====
/- The normalisation-and-projection kernel: the whole load of the weights. -/
module

public import proofs.«01_k».proof.Proof.PrenormParts
public import Idealize.ShloMosaic.Lib.WritesUnit
public import Idealize.ShloMosaic.Lib.VecWindow
public import Idealize.ShloMosaic.Lib.MixedBatch
public import Idealize.ShloMosaic.Lib.ValueIdx
public import Idealize.ShloMosaic.Lib.ValueLayout

@[expose] public section

-- the blocks' axes are long
set_option maxRecDepth 16384

noncomputable section

namespace Cert.PrenormIdeal.Hand

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD) (x : Vec F S4x1024x2176 .bf16)

/-- What the first grid point does before its own rows: copies, waits, and the two sums of halves. -/
noncomputable def loadBody (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) : Prog (TpuEff nD τ sig (Elt F) Λ₀ .tc) PUnit := do
  k0_part1 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2
  k0_part2 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2
  k0_part3 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2
  k0_part4 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2
  k0_part5 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2
  k0_part6 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2
  k0_part7 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2
  let ⟨v239, v240⟩ : Σ' (v239 : FVec F S1024x128 .bf16), Vec F S1024x128 .bf16 ← k0_part8 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2
  Prog.lift (.store scM0_0 (Rect.unit (s := S1024x8448) ![0, 256] S1024x128.size inb_S1024x8448_S1024x128_0_256) (k0_pay4 v239) Finset.univ (View.stores_vmem h_S1024x128 ((Memref.isWhole_whole cc0_scratch0).storeExact_slice rfl _ packedbf16_S1024x8448_S1024x128_0_256) (fun _ => rfl)) (.inl rfl))
  let v243 : Vec F S1x1024x128 .bf16 ← Prog.lift (.load scM0_1 (Rect.unit (s := S4x1024x128) ![2, 0, 0] S1x1024x128.size inb_S4x1024x128_S1x1024x128_2_0_0).toLoadRect (View.loadsAt_vmem h_S1x1024x128))
  let v245 : Vec F S1x1024x128 .bf16 ← Prog.lift (.load scM0_1 (Rect.unit (s := S4x1024x128) ![3, 0, 0] S1x1024x128.size inb_S4x1024x128_S1x1024x128_3_0_0).toLoadRect (View.loadsAt_vmem h_S1x1024x128))
  let v248 : Vec F S1024x128 .bf16 ← Prog.lift (.load scM0_0 (Rect.unit (s := S1024x8448) ![0, 6272] S1024x128.size inb_S1024x8448_S1024x128_0_6272).toLoadRect (View.loadsAt_vmem h_S1024x128))
  Prog.lift (.store scM0_0 (Rect.unit (s := S1024x8448) ![0, 6272] S1024x128.size inb_S1024x8448_S1024x128_0_6272) (k0_pay5 v243 v245) Finset.univ (View.stores_vmem h_S1024x128 ((Memref.isWhole_whole cc0_scratch0).storeExact_slice rfl _ packedbf16_S1024x8448_S1024x128_0_6272) (fun _ => rfl)) (.inl rfl))

/-- The copies' counts are positive. -/
theorem A10_pos : ∀ t, 0 < A10 t := by decide
/-- Every half has bytes. -/
theorem A11_pos : ∀ t, 0 < A11 t := by decide

/-- A buffer held whole, piece by piece or as its memref. -/
theorem p10_univ (f : Vec F S1024x8448 .bf16) : p10 c Finset.univ f = (scM0_0.view.loc (c : Thread nD τ) ↦[scM0_0.view.set]{fullShare} f : sProp 𝕄) := by
  rw [show scM0_0.view.set = Finset.univ from View.set_whole _]
/-- The whole buffer of halves, as one piece. -/
theorem p11_univ (f : Vec F S4x1024x128 .bf16) : p11 c Finset.univ f = (scM0_1.view.loc (c : Thread nD τ) ↦[scM0_1.view.set]{fullShare} f : sProp 𝕄) := by
  rw [show scM0_1.view.set = Finset.univ from View.set_whole _]

/-- What the weights' buffer holds once every copy has landed, over what it held before. -/
def landed10 (f : Vec F S1024x8448 .bf16) : Vec F S1024x8448 .bf16 := fun i => if i ∈ rest D10 33 then f i else G10 x i

instance (j : Fin 33) : Storable (upEmb : UEmb _ 𝕄) (deliv10 c x j) := by unfold deliv10; infer_instance
instance (j : Fin 4) : Storable (upEmb : UEmb _ 𝕄) (deliv11 c x j) := by unfold deliv11; infer_instance

/-- All that is delivered, destinations and sources apart. -/
theorem deliv10_all : (bigSep Finset.univ (deliv10 c x) : sProp 𝕄) = iprop(bigSep Finset.univ (fun j => p10 c (D10 j) (G10 x)) ∗ bigSep Finset.univ (fun j => p3 c fullShare.left (S3 j) x)) :=
  bigSep_sep' Finset.univ _ _
/-- What the copies of the halves deliver together. -/
theorem deliv11_all : (bigSep Finset.univ (deliv11 c x) : sProp 𝕄) = iprop(bigSep Finset.univ (fun j => p11 c (D11 j) (G11 x)) ∗ bigSep Finset.univ (fun j => p3 c fullShare.right (S4 j) x)) :=
  bigSep_sep' Finset.univ _ _

/-- No slot is left out. -/
theorem rest11 : rest D11 4 = ∅ := by
  ext i
  simp only [rest, D11, slot, Finset.mem_filter, Finset.mem_univ, true_and, Finset.notMem_empty, iff_false, not_forall]
  exact ⟨(i 0 : Fin 4), (i 0).isLt, fun h => h rfl⟩

/-- The weights' buffer whole again. -/
theorem regain10 (f : Vec F S1024x8448 .bf16) : iprop(p10 c (rest D10 33) f ∗ bigSep Finset.univ (fun j => p10 c (D10 j) (G10 x))) ⊢ (p10 c Finset.univ (landed10 x f) : sProp 𝕄) :=
  regain (ℓ := scM0_0.view.loc (c : Thread nD τ)) D10 f (G10 x) (landed10 x f) D10_disj (fun i hi => by
      unfold landed10
      have hi' : i ∈ rest D10 33 := hi
      rw [if_pos hi'])
    (fun j i hi => by
      unfold landed10
      have hn : i ∉ rest D10 33 := by
        intro hr
        unfold rest at hr
        exact (Finset.mem_filter.mp hr).2 j j.isLt hi
      rw [if_neg hn])
/-- The shards whole again, the first counter's half. -/
theorem regain3 : iprop(p3 c fullShare.left (rest S3 33) x ∗ bigSep Finset.univ (fun j => p3 c fullShare.left (S3 j) x)) ⊢ (p3 c fullShare.left Finset.univ x : sProp 𝕄) :=
  regain (ℓ := hbM0_0.view.loc (c : Thread nD τ)) S3 x x x S3_disj (fun _ _ => rfl) (fun _ _ _ => rfl)
/-- The second counter's half. -/
theorem regain4 : iprop(p3 c fullShare.right (rest S4 4) x ∗ bigSep Finset.univ (fun j => p3 c fullShare.right (S4 j) x)) ⊢ (p3 c fullShare.right Finset.univ x : sProp 𝕄) :=
  regain (ℓ := hbM0_0.view.loc (c : Thread nD τ)) S4 x x x S4_disj (fun _ _ => rfl) (fun _ _ _ => rfl)
/-- The small scratch whole again. -/
theorem regain11 (g : Vec F S4x1024x128 .bf16) : iprop(p11 c (rest D11 4) g ∗ bigSep Finset.univ (fun j => p11 c (D11 j) (G11 x))) ⊢ (p11 c Finset.univ (G11 x) : sProp 𝕄) :=
  regain (ℓ := scM0_1.view.loc (c : Thread nD τ)) D11 g (G11 x) (G11 x) D11_disj (fun i hi => by
    have hi' : i ∈ rest D11 4 := hi
    rw [rest11] at hi'
    exact absurd hi' (Finset.notMem_empty _)) (fun _ _ _ => rfl)

/-- Every column but those of the two sums is a piece's. -/
theorem tiles_cover : ∀ t : Fin 66, t.val = 2 ∨ t.val = 49 ∨ ∃ j : Fin 33, o10 j ≤ 128 * t.val ∧ 128 * t.val + 128 ≤ o10 j + w10 j := by decide

/-- The two sums of halves. -/
def sum1 : FVec F S1024x128 .bf16 :=
  k0_pay4 (k0_pay3 (View.readAt (Elt F) scM0_1.view (Rect.unit (s := S4x1024x128) ![0, 0, 0] S1x1024x128.size inb_S4x1024x128_S1x1024x128_0_0_0).toLoadRect (G11 x))
    (View.readAt (Elt F) scM0_1.view (Rect.unit (s := S4x1024x128) ![1, 0, 0] S1x1024x128.size inb_S4x1024x128_S1x1024x128_1_0_0).toLoadRect (G11 x)))
/-- The second sum of halves. -/
def sum2 : FVec F S1024x128 .bf16 :=
  k0_pay5 (View.readAt (Elt F) scM0_1.view (Rect.unit (s := S4x1024x128) ![2, 0, 0] S1x1024x128.size inb_S4x1024x128_S1x1024x128_2_0_0).toLoadRect (G11 x))
    (View.readAt (Elt F) scM0_1.view (Rect.unit (s := S4x1024x128) ![3, 0, 0] S1x1024x128.size inb_S4x1024x128_S1x1024x128_3_0_0).toLoadRect (G11 x))

/-- The weights as every grid point multiplies by them: the gathered columns and the two sums. -/
def W10 : Vec F S1024x8448 .bf16 :=
  VecWindow.put (VecWindow.put (G10 x) ![0, 256] S1024x128.size (sum1 x)) ![0, 6272] S1024x128.size (sum2 x)

/-- Off the two sums' columns the landed copies are the gathered weights. -/
theorem landed_at (f : Vec F S1024x8448 .bf16) (y : S1024x8448.Idx) (h1 : ¬ (256 ≤ (y 1).val ∧ (y 1).val < 384)) (h2 : ¬ (6272 ≤ (y 1).val ∧ (y 1).val < 6400)) :
    landed10 x f y = G10 x y := by
  have hn : y ∉ rest D10 33 := by
    intro hr
    have hy : (y 1).val < 8448 := (y 1).isLt
    unfold rest at hr
    have hr' := (Finset.mem_filter.mp hr).2
    rcases tiles_cover ⟨(y 1).val / 128, by omega⟩ with h | h | ⟨j, hj1, hj2⟩
    · dsimp only at h; omega
    · dsimp only at h; omega
    · refine hr' j j.isLt (Finset.mem_filter.mpr ⟨Finset.mem_univ _, ?_⟩)
      dsimp only at hj1 hj2
      omega
  unfold landed10
  exact if_neg hn

/-- Two payloads put over contents that agree elsewhere. -/
theorem put_congr {s : Shape} {α : Type} (f g : s.Idx → α) (off size : Fin s.rank → ℕ) (w) (y : s.Idx)
    (h : (¬ ∀ a, off a ≤ (y a).val ∧ (y a).val < off a + size a) → f y = g y) : VecWindow.put f off size w y = VecWindow.put g off size w y := by
  unfold VecWindow.put
  split_ifs with hc
  · rfl
  · exact h hc

/-- Two tiles stored over given contents, read back. -/
theorem read_two (v : View sig .tc .vmem S1024x8448 .bf16) (f0 : v.ty.Contents (Elt F)) (w1 w2 : FVec F S1024x128 .bf16) :
    v.read (Elt F) (v.writes (Elt F) f0
      [⟨Rect.unit ![0, 6272] S1024x128.size inb_S1024x8448_S1024x128_0_6272, w2⟩, ⟨Rect.unit ![0, 256] S1024x128.size inb_S1024x8448_S1024x128_0_256, w1⟩])
      = VecWindow.put (VecWindow.put (v.read (Elt F) f0) ![0, 256] S1024x128.size w1) ![0, 6272] S1024x128.size w2 := by
  refine (View.read_writes_cons_put v f0 inb_S1024x8448_S1024x128_0_6272 w2 _ rfl).trans ?_
  have e := View.read_writes_cons_put v f0 inb_S1024x8448_S1024x128_0_256 w1 [] rfl
  rw [e]; rfl

/-- The whole buffer read. -/
theorem read_big (h : Vec F S1024x8448 .bf16) : scM0_0.view.read (Elt F) h = h := rfl

/-- What the buffer holds after the two sums are stored is that, whatever it held before the load. -/
theorem landed_read (f : Vec F S1024x8448 .bf16) :
    scM0_0.view.read (Elt F) (scM0_0.view.writes (Elt F) (landed10 x f)
      [⟨Rect.unit ![0, 6272] S1024x128.size inb_S1024x8448_S1024x128_0_6272, sum2 x⟩, ⟨Rect.unit ![0, 256] S1024x128.size inb_S1024x8448_S1024x128_0_256, sum1 x⟩])
      = W10 x := by
  refine (read_two scM0_0.view (landed10 x f) (sum1 x) (sum2 x)).trans ?_
  rw [read_big (landed10 x f)]
  unfold W10
  funext y
  have hy0 : (y 0).val < 1024 := (y 0).isLt
  refine put_congr _ _ _ _ _ y fun h2 => put_congr _ _ _ _ _ y fun h1 => landed_at x f y ?_ ?_
  · intro h
    refine h1 fun a => ?_
    match a with
    | ⟨0, _⟩ => exact ⟨Nat.zero_le _, by show (y 0).val < 0 + 1024; omega⟩
    | ⟨1, _⟩ => exact h
  · intro h
    refine h2 fun a => ?_
    match a with
    | ⟨0, _⟩ => exact ⟨Nat.zero_le _, by show (y 0).val < 0 + 1024; omega⟩
    | ⟨1, _⟩ => exact h

set_option maxHeartbeats 4000000 in
/-- The load, run. -/
theorem load_spec (i : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (f : Vec F S1024x8448 .bf16) (g : Vec F S4x1024x128 .bf16) (W : Waits sig Unit) (Q : PUnit → sProp 𝕄) :
    iprop(p10 c Finset.univ f ∗ p11 c Finset.univ g ∗ p3 c fullShare Finset.univ x ∗ semVal ((c : Thread nD τ), SemLoc.dma 15) 0 ∗ semVal ((c : Thread nD τ), SemLoc.dma 16) 0 ∗ owes (c : Thread nD τ) (0 : CellTallies nD τ sig Unit) W)
      ⊢ iprop((iprop(owns (c : Thread nD τ) scM0_0 fullShare (W10 x) ∗ (∃ d, owns (c : Thread nD τ) scM0_1 fullShare d) ∗ p3 c fullShare Finset.univ x ∗ semVal ((c : Thread nD τ), SemLoc.dma 15) 0 ∗ semVal ((c : Thread nD τ), SemLoc.dma 16) 0 ∗ (∃ W', owes (c : Thread nD τ) (0 : CellTallies nD τ sig Unit) W')) -∗ Q ⟨⟩) -∗
        wp frame (wpE (defs₀ (F := F)) Variants.none (c : Thread nD τ) none) Set.univ (loadBody i arg1 harg1 arg2 harg2 arg4 harg4 arg5 harg5 arg6 harg6 arg7 harg7 arg8 harg8 arg9 harg9) Q) := by
  iintro ⟨H10, Hp11, H3, Hq0, Hq1, HW⟩ Hk
  ihave H3 := (pointsTo_share (PosShare.mem_left_op_right fullShare)).1 $$ H3
  icases H3 with ⟨H3, H3r⟩
  imod (Transfers.mixedBatch_alloc' (Lvl := ℕ) (Name := ℕ) countersEmb (c : Thread nD τ) () A10 (deliv10 c x) (E := Set.univ)) $$ Hq0 with HB
  imod (Transfers.mixedBatch_alloc' (Lvl := ℕ) (Name := ℕ) countersEmb (c : Thread nD τ) () A11 (deliv11 c x) (E := Set.univ)) $$ Hq1 with HB1
  ihave H : St10 c x f 0 $$ [H10 H3 HB]
  · unfold St10
    rw [rest_zero, rest_zero]
    isplitl [H10]; · iexact H10
    isplitl [H3]; · iexact H3
    iexact HB
  ihave H11 : St11 c x g 0 $$ [Hp11 H3r HB1]
  · unfold St11
    rw [rest_zero, rest_zero]
    isplitl [Hp11]; · iexact Hp11
    isplitl [H3r]; · iexact H3r
    iexact HB1
  unfold loadBody
  rw [wp_bind]
  iapply (part1_spec c x i arg1 harg1 arg2 harg2 arg4 harg4 arg5 harg5 arg6 harg6 arg7 harg7 arg8 harg8 arg9 harg9 f _) $$ H
  iintro H
  rw [wp_bind]
  iapply (part2_spec c x i arg1 harg1 arg2 harg2 arg4 harg4 arg5 harg5 arg6 harg6 arg7 harg7 arg8 harg8 arg9 harg9 f _) $$ H
  iintro H
  rw [wp_bind]
  iapply (part3_spec c x i arg1 harg1 arg2 harg2 arg4 harg4 arg5 harg5 arg6 harg6 arg7 harg7 arg8 harg8 arg9 harg9 f _) $$ H
  iintro H
  rw [wp_bind]
  iapply (part4_spec c x i arg1 harg1 arg2 harg2 arg4 harg4 arg5 harg5 arg6 harg6 arg7 harg7 arg8 harg8 arg9 harg9 f _) $$ H
  iintro H
  rw [wp_bind]
  iapply (part5_spec c x i arg1 harg1 arg2 harg2 arg4 harg4 arg5 harg5 arg6 harg6 arg7 harg7 arg8 harg8 arg9 harg9 f _) $$ H
  iintro H
  rw [wp_bind]
  iapply (part6_spec c x i arg1 harg1 arg2 harg2 arg4 harg4 arg5 harg5 arg6 harg6 arg7 harg7 arg8 harg8 arg9 harg9 f _) $$ H
  iintro H
  rw [wp_bind]
  iapply (part7_spec c x i arg1 harg1 arg2 harg2 arg4 harg4 arg5 harg5 arg6 harg6 arg7 harg7 arg8 harg8 arg9 harg9 f g _) $$ [H H11]
  · isplitl [H]; · iexact H
    iexact H11
  iintro ⟨H, H11⟩
  rw [wp_bind]
  rw [k0_part8_eq_skeleton]; unfold k0_part8_skel
  rw [wp_bind]
  iapply (step11 c x g 1 (by norm_num) 1 1 0 rfl rfl rfl (fun _ => ⟨rfl, rfl⟩) ((cc0_scratch2.slice (Rect.unit (s := S2) ![1] S1.size inb_S2_S1_1)).squeeze S_ squeezes_S1_S_).sem rfl _) $$ H11
  iintro H11
  rw [wp_bind]
  iapply (step11 c x g 2 (by norm_num) 2 2 2048 rfl rfl rfl (fun _ => ⟨rfl, rfl⟩) ((cc0_scratch2.slice (Rect.unit (s := S2) ![1] S1.size inb_S2_S1_1)).squeeze S_ squeezes_S1_S_).sem rfl _) $$ H11
  iintro H11
  rw [wp_bind]
  iapply (step11 c x g 3 (by norm_num) 3 3 0 rfl rfl rfl (fun _ => ⟨rfl, rfl⟩) ((cc0_scratch2.slice (Rect.unit (s := S2) ![1] S1.size inb_S2_S1_1)).squeeze S_ squeezes_S1_S_).sem rfl _) $$ H11
  iintro H11
  unfold St10 St11
  icases H with ⟨H10, H3, HB⟩
  icases H11 with ⟨Hp11, H3r, HB1⟩
  rw [wp_bind]
  iapply (Transfers.wp_waitMixedBatchAll countersEmb Variants.none (c : Thread nD τ) none () (A := A10) (J := Transfers.sumTo A10 33) (by decide) A10_pos (u := 0) (by decide)) $$ [HB HW]
  · isplitl [HB]; · iexact HB
    iexact HW
  iintro ⟨HD, Hq0, HW⟩
  rw [wp_ret]; imodintro
  rw [wp_bind]
  iapply (Transfers.wp_waitMixedBatchAll countersEmb Variants.none (c : Thread nD τ) none () (A := A11) (J := Transfers.sumTo A11 4) (by decide) A11_pos (u := 0) (by decide)) $$ [HB1 HW]
  · isplitl [HB1]; · iexact HB1
    iexact HW
  iintro ⟨HD1, Hq1, HW⟩
  rw [wp_ret]; imodintro
  ihave HD := (Entails.of_eq (deliv10_all c x)) $$ HD
  ihave HD1 := (Entails.of_eq (deliv11_all c x)) $$ HD1
  icases HD with ⟨HDd, HDs⟩
  icases HD1 with ⟨HD1d, HD1s⟩
  ihave H10 := (regain10 c x f) $$ [H10 HDd]
  · isplitl [H10]; · iexact H10
    iexact HDd
  ihave H3 := (regain3 c x) $$ [H3 HDs]
  · isplitl [H3]; · iexact H3
    iexact HDs
  ihave H11 := (regain11 c x g) $$ [Hp11 HD1d]
  · isplitl [Hp11]; · iexact Hp11
    iexact HD1d
  ihave H3r := (regain4 c x) $$ [H3r HD1s]
  · isplitl [H3r]; · iexact H3r
    iexact HD1s
  ihave H3 := (pointsTo_share (PosShare.mem_left_op_right fullShare)).2 $$ [H3 H3r]
  · isplitl [H3]; · iexact H3
    iexact H3r
  ihave H10 := (Entails.of_eq (p10_univ c _)) $$ H10
  ihave H11 := (Entails.of_eq (p11_univ c _)) $$ H11
  sl_exec
  sl_step
  iapply Hk
  isplitl [H10]
  · unfold owns; iexists _; isplitr
    swap; · iexact H10
    ipureintro; exact landed_read x f
  isplitl [H11]
  · unfold owns; iexists _, _; isplitr
    swap; · iexact H11
    ipureintro; rfl
  isplitl [H3]; · iexact H3
  isplitl [Hq0]; · iexact Hq0
  isplitl [Hq1]; · iexact Hq1
  iexists _; iexact HW

end Cert.PrenormIdeal.Hand

end
-- ==== Proof.PrenormFrame.lean ====
/- The normalisation-and-projection kernel: what each grid point leaves, and the whole launch. -/
module

public import proofs.«01_k».proof.Proof.PrenormRun
public import proofs.«01_k».proof.Proof.PrenormLoadAll
public import Idealize.ShloMosaic.Lib.Claim

@[expose] public section

-- the blocks' axes are long
set_option maxRecDepth 16384

noncomputable section

namespace Cert.PrenormIdeal.Hand

open Cert.PrenormIdeal Cert.PrenormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The first point is the load, followed by what every point does. -/
theorem part9_first (c : Dev nD) (i i' : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (hc : cond0_0 i) (hc' : ¬ cond0_0 i') (Q : (Σ' (v17 : FVec F S512x1024 .bf16), FVec F S512x256 .bf16) → sProp 𝕄) :
    wp frame (wpE (defs₀ (F := F)) Variants.none (c : Thread nD τ) none) Set.univ (k0_part9 i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q = wp frame (wpE (defs₀ (F := F)) Variants.none (c : Thread nD τ) none) Set.univ (loadBody i arg1 harg1 arg2 harg2 arg4 harg4 arg5 harg5 arg6 harg6 arg7 harg7 arg8 harg8 arg9 harg9) (fun _ => wp frame (wpE (defs₀ (F := F)) Variants.none (c : Thread nD τ) none) Set.univ (k0_part9 i' arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  simp only [k0_part9_eq_skeleton]
  unfold k0_part9_skel
  dsimp only
  rw [dif_pos hc, dif_neg hc']
  unfold loadBody
  simp only [wp_bind]

/-- The same of the whole body. -/
theorem first_step (c : Dev nD) (i i' : grid0.Coords) (arg1 : Memref sig .tc .vmem S512x1024 .f32) (harg1 : arg1.IsWhole) (arg2 : Memref sig .tc .vmem S1x1024 .f32) (harg2 : arg2.IsWhole) (arg4 : Memref sig .tc .vmem S512x4096 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x1024 .bf16) (harg7 : arg7.IsWhole) (arg8 : Memref sig .tc .vmem S512x2048 .bf16) (harg8 : arg8.IsWhole) (arg9 : Memref sig .tc .vmem S1024x512 .bf16) (harg9 : arg9.IsWhole) (hc : cond0_0 i) (hc' : ¬ cond0_0 i') (Q : PUnit → sProp 𝕄) :
    wp frame (wpE (defs₀ (F := F)) Variants.none (c : Thread nD τ) none) Set.univ (cc0_rms_inproj i arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q = wp frame (wpE (defs₀ (F := F)) Variants.none (c : Thread nD τ) none) Set.univ (loadBody i arg1 harg1 arg2 harg2 arg4 harg4 arg5 harg5 arg6 harg6 arg7 harg7 arg8 harg8 arg9 harg9) (fun _ => wp frame (wpE (defs₀ (F := F)) Variants.none (c : Thread nD τ) none) Set.univ (cc0_rms_inproj i' arg1 harg1 arg2 harg2 hbM0_0 (Memref.isWhole_whole _) arg4 harg4 arg5 harg5 arg6 harg6 arg7 harg7 arg8 harg8 arg9 harg9 scM0_0 (Memref.isWhole_whole _) scM0_1 (Memref.isWhole_whole _) cc0_scratch2) Q) := by
  simp only [cc0_rms_inproj_eq_skeleton]
  unfold cc0_rms_inproj_skel
  rw [wp_bind, part9_first c i i' arg1 harg1 arg2 harg2 arg4 harg4 arg5 harg5 arg6 harg6 arg7 harg7 arg8 harg8 arg9 harg9 hc hc']
  simp only [wp_bind]

/-- The coordinates of a point that finds the weights gathered: the point's own, the second point's for the first. -/
def iT (t : Fin cfg0.N) : grid0.Coords := if t.val = 0 then grid0.coords ⟨1, by rw [show grid0.N = 16 from N_0]; omega⟩ else grid0.coords t

/-- They are not the first point's. -/
theorem hcT (t : Fin cfg0.N) : ¬ cond0_0 (iT t) := by
  unfold iT
  split_ifs with h
  · exact fun e => absurd ((hcond0_0 _).mp e) (by decide)
  · exact fun e => h ((hcond0_0 t).mp e)

/-- What a point computes from its own rows, the weights gathered. -/
def run (c : Dev nD) (t : Fin cfg0.N) :=
  kernelRun0 c (iT t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (hcT t) (iblk m c 0 t) (iblk m c 1 t) (W10 (V m c main_arg2))

/-- What the body leaves in output 2 at point `t`. -/
def out2 (c : Dev nD) (t : Fin cfg0.N) : Vec F S512x4096 .bf16 :=
  VO0_2.read (Elt F) (VO0_2.writes (Elt F) VO0_2.junk (run m c t).1)

/-- Its stores cover output 2's block. -/
theorem cover2 (c : Dev nD) (t : Fin cfg0.N) (y : S512x4096.Idx) : ∃ pc ∈ (run m c t).1, y ∈ pc.1.set :=
  View.cover_of_tiledL (run m c t).1 S512x4096.size (by sl_kernel_rfl) y

/-- What the body leaves in output 3 at point `t`. -/
def out3 (c : Dev nD) (t : Fin cfg0.N) : Vec F S512x1024 .bf16 :=
  VO0_3.read (Elt F) (VO0_3.writes (Elt F) VO0_3.junk (run m c t).2.1)

/-- Its stores cover output 3's block. -/
theorem cover3 (c : Dev nD) (t : Fin cfg0.N) (y : S512x1024.Idx) : ∃ pc ∈ (run m c t).2.1, y ∈ pc.1.set :=
  View.cover_of_tiledL (run m c t).2.1 S512x1024.size (by sl_kernel_rfl) y

/-- What the body leaves in output 4 at point `t`. -/
def out4 (c : Dev nD) (t : Fin cfg0.N) : Vec F S512x256 .bf16 :=
  VO0_4.read (Elt F) (VO0_4.writes (Elt F) VO0_4.junk (run m c t).2.2.1)

/-- Its stores cover output 4's block. -/
theorem cover4 (c : Dev nD) (t : Fin cfg0.N) (y : S512x256.Idx) : ∃ pc ∈ (run m c t).2.2.1, y ∈ pc.1.set :=
  View.cover_of_tiledL (run m c t).2.2.1 S512x256.size (by sl_kernel_rfl) y

/-- What the body leaves in output 5 at point `t`. -/
def out5 (c : Dev nD) (t : Fin cfg0.N) : Vec F S512x1024 .bf16 :=
  VO0_5.read (Elt F) (VO0_5.writes (Elt F) VO0_5.junk (run m c t).2.2.2.1)

/-- Its stores cover output 5's block. -/
theorem cover5 (c : Dev nD) (t : Fin cfg0.N) (y : S512x1024.Idx) : ∃ pc ∈ (run m c t).2.2.2.1, y ∈ pc.1.set :=
  View.cover_of_tiledL (run m c t).2.2.2.1 S512x1024.size (by sl_kernel_rfl) y

/-- What the body leaves in output 6 at point `t`. -/
def out6 (c : Dev nD) (t : Fin cfg0.N) : Vec F S512x2048 .bf16 :=
  VO0_6.read (Elt F) (VO0_6.writes (Elt F) VO0_6.junk (run m c t).2.2.2.2.1)

/-- Its stores cover output 6's block. -/
theorem cover6 (c : Dev nD) (t : Fin cfg0.N) (y : S512x2048.Idx) : ∃ pc ∈ (run m c t).2.2.2.2.1, y ∈ pc.1.set :=
  View.cover_of_tiledL (run m c t).2.2.2.2.1 S512x2048.size (by sl_kernel_rfl) y

/-- What the body leaves in output 7 at point `t`. -/
def out7 (c : Dev nD) (t : Fin cfg0.N) : Vec F S1024x512 .bf16 :=
  VO0_7.read (Elt F) (VO0_7.writes (Elt F) VO0_7.junk (run m c t).2.2.2.2.2.1)

/-- Its stores cover output 7's block. -/
theorem cover7 (c : Dev nD) (t : Fin cfg0.N) (y : S1024x512.Idx) : ∃ pc ∈ (run m c t).2.2.2.2.2.1, y ∈ pc.1.set :=
  View.cover_of_tiledL (run m c t).2.2.2.2.2.1 S1024x512.size (by sl_kernel_rfl) y

/-- The invariant before position `n`: before the first point everything as launched, afterwards the scratch holding the weights. -/
def PhiS (c : Dev nD) : ℕ → sProp 𝕄
  | 0 => Pipeline.ΦD osem0 spec0 H0 (V m) c
  | _ + 1 => iprop(iprop(owns (c : Thread nD τ) scM0_0 fullShare (W10 (V m c main_arg2)) ∗ (∃ d, owns (c : Thread nD τ) scM0_1 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg2)))

/-- The invariant before the first point. -/
theorem PhiS_zero (c : Dev nD) (n : ℕ) (hz : n = 0) : PhiS m c n = Pipeline.ΦD osem0 spec0 H0 (V m) c := by
  subst hz; rfl
/-- The invariant before a later point. -/
theorem PhiS_pos (c : Dev nD) (n : ℕ) (hz : n ≠ 0) :
    PhiS m c n = iprop(iprop(owns (c : Thread nD τ) scM0_0 fullShare (W10 (V m c main_arg2)) ∗ (∃ d, owns (c : Thread nD τ) scM0_1 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg2))) := by
  cases n with
  | zero => exact absurd rfl hz
  | succ n => rfl

/-- The launch's proof data: the arrays as launched; after each point an input's buffer at its block, an output's at what the body leaves; the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => out2 m c t
    | ⟨3, _⟩ => out3 m c t
    | ⟨4, _⟩ => out4 m c t
    | ⟨5, _⟩ => out5 m c t
    | ⟨6, _⟩ => out6 m c t
    | ⟨7, _⟩ => out7 m c t
  Φ t := PhiS m c t.val
  q _ := fullShare
  owed _ := 0

/-- The proof data's arrays are the launched ones. -/
theorem A_eq (c : Dev nD) (w : Fin cfg0.W) : (dats m 0 c).A w = V m c (Pipeline.arrRef spec0 w) := by
  dsimp only [dats]

/-- Window 0 after a point. -/
theorem after_0 (c : Dev nD) (t : Fin cfg0.N) : (dats m 0 c).after 0 t = iblk m c 0 t := by dsimp only [dats]
/-- Window 1 after a point. -/
theorem after_1 (c : Dev nD) (t : Fin cfg0.N) : (dats m 0 c).after 1 t = iblk m c 1 t := by dsimp only [dats]
/-- Window 2 after a point. -/
theorem after_2 (c : Dev nD) (t : Fin cfg0.N) : (dats m 0 c).after 2 t = out2 m c t := by dsimp only [dats]
/-- Window 3 after a point. -/
theorem after_3 (c : Dev nD) (t : Fin cfg0.N) : (dats m 0 c).after 3 t = out3 m c t := by dsimp only [dats]
/-- Window 4 after a point. -/
theorem after_4 (c : Dev nD) (t : Fin cfg0.N) : (dats m 0 c).after 4 t = out4 m c t := by dsimp only [dats]
/-- Window 5 after a point. -/
theorem after_5 (c : Dev nD) (t : Fin cfg0.N) : (dats m 0 c).after 5 t = out5 m c t := by dsimp only [dats]
/-- Window 6 after a point. -/
theorem after_6 (c : Dev nD) (t : Fin cfg0.N) : (dats m 0 c).after 6 t = out6 m c t := by dsimp only [dats]
/-- Window 7 after a point. -/
theorem after_7 (c : Dev nD) (t : Fin cfg0.N) : (dats m 0 c).after 7 t = out7 m c t := by dsimp only [dats]
/-- Input window 0 holds its block before a point. -/
theorem before_0 (c : Dev nD) (t : Fin cfg0.N) (d) : (dats m 0 c).before 0 t d = iblk m c 0 t :=
  before0_0_of m (dats m 0 c) (A_eq m c 0) (after_0 m c) t d
/-- Input window 1 holds its block before a point. -/
theorem before_1 (c : Dev nD) (t : Fin cfg0.N) (d) : (dats m 0 c).before 1 t d = iblk m c 1 t :=
  before0_1_of m (dats m 0 c) (A_eq m c 1) (after_1 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- What a point does with the weights gathered. -/
theorem rest_body (c : Dev nD) (t : Fin cfg0.N) (W : Waits sig Unit) :
    iprop(iprop(iprop(owns (c : Thread nD τ) scM0_0 fullShare (W10 (V m c main_arg2)) ∗ (∃ d, owns (c : Thread nD τ) scM0_1 fullShare d)) ∗ (∃ r, prngReg c r) ∗ iprop(semVal ((c : Thread nD τ), SemLoc.dma 15) 0 ∗ semVal ((c : Thread nD τ), SemLoc.dma 16) 0) ∗ iprop(hbPt0 c hbM0_0 (V m c main_arg2))) ∗ owes (c : Thread nD τ) (0 : CellTallies nD τ sig Unit) W ∗ owns (c : Thread nD τ) (ms0_0 t) fullShare (iblk m c 0 t) ∗ owns (c : Thread nD τ) (ms0_1 t) fullShare (iblk m c 1 t) ∗ (∃ d, owns (c : Thread nD τ) (ms0_2 t) fullShare d) ∗ (∃ d, owns (c : Thread nD τ) (ms0_3 t) fullShare d) ∗ (∃ d, owns (c : Thread nD τ) (ms0_4 t) fullShare d) ∗ (∃ d, owns (c : Thread nD τ) (ms0_5 t) fullShare d) ∗ (∃ d, owns (c : Thread nD τ) (ms0_6 t) fullShare d) ∗ (∃ d, owns (c : Thread nD τ) (ms0_7 t) fullShare d))
      ⊢ wp frame (wpE (defs₀ (F := F)) Variants.none (c : Thread nD τ) none) Set.univ (cc0_rms_inproj (iT t) (ms0_0 t) (hs0_0 t) (ms0_1 t) (hs0_1 t) hbM0_0 (Memref.isWhole_whole _) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) cc0_scratch2) (fun _ => bodyPost m c t) := by
  unfold bodyPost
  rw [show (dats m 0 c).Φ t.succ = PhiS m c (t.val + 1) from rfl, PhiS_pos m c _ (Nat.succ_ne_zero _),
    after_0, after_1, after_2, after_3, after_4, after_5, after_6, after_7]
  unfold Dat.owesAt Pipeline.owesWithin
  rw [show (dats m 0 c).owed t.succ = 0 from rfl]
  unfold out2 out3 out4 out5 out6 out7
  iintro ⟨⟨⟨HS0, HS1⟩, Hg, ⟨Hq0, Hq1⟩, Hh0⟩, HW, H0, H1, ⟨%d2, H2⟩, ⟨%d3, H3⟩, ⟨%d4, H4⟩, ⟨%d5, H5⟩, ⟨%d6, H6⟩, ⟨%d7, H7⟩⟩
  iapply ((run m c t).2.2.2.2.2.2 W _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [HS0]; · iexact HS0
  isplitl [HW]; · iexact HW
  iintro ⟨H0, H1, ⟨%e2, H2⟩, ⟨%e3, H3⟩, ⟨%e4, H4⟩, ⟨%e5, H5⟩, ⟨%e6, H6⟩, ⟨%e7, H7⟩, HS0, ⟨%W', HW'⟩⟩
  isplitl [HS0 HS1 Hg Hq0 Hq1 Hh0]
  · isplitl [HS0 HS1]
    · isplitl [HS0]; · iexact HS0
      iexact HS1
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro; exact View.read_writes_of_cover _ _ _ _ _ (cover2 m c t)
  isplitl [H3]
  · unfold owns; iexists _; isplitr
    swap; · iexact H3
    ipureintro; exact View.read_writes_of_cover _ _ _ _ _ (cover3 m c t)
  isplitl [H4]
  · unfold owns; iexists _; isplitr
    swap; · iexact H4
    ipureintro; exact View.read_writes_of_cover _ _ _ _ _ (cover4 m c t)
  isplitl [H5]
  · unfold owns; iexists _; isplitr
    swap; · iexact H5
    ipureintro; exact View.read_writes_of_cover _ _ _ _ _ (cover5 m c t)
  isplitl [H6]
  · unfold owns; iexists _; isplitr
    swap; · iexact H6
    ipureintro; exact View.read_writes_of_cover _ _ _ _ _ (cover6 m c t)
  unfold owns; iexists _; isplitr
  swap; · iexact H7
  ipureintro; exact View.read_writes_of_cover _ _ _ _ _ (cover7 m c t)

/-- The weights' scratch as launched, for the load. -/
theorem owns_p10 (c : Dev nD) (d) : (owns (c : Thread nD τ) scM0_0 fullShare d : sProp 𝕄) ⊢ iprop(∃ f, p10 c Finset.univ f) := by
  unfold owns
  iintro ⟨%f, -, H⟩
  iexists f
  ihave H := (Entails.of_eq (p10_univ c f).symm) $$ H
  iexact H
/-- The small scratch as launched, for the load. -/
theorem owns_p11 (c : Dev nD) (d) : (owns (c : Thread nD τ) scM0_1 fullShare d : sProp 𝕄) ⊢ iprop(∃ f, p11 c Finset.univ f) := by
  unfold owns
  iintro ⟨%f, -, H⟩
  iexists f
  ihave H := (Entails.of_eq (p11_univ c f).symm) $$ H
  iexact H

/-- The body at any point: from the inputs' blocks and the invariant to what the point leaves and the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1]
  rw [show (dats m 0 c).Φ t.castSucc = PhiS m c t.val from rfl]
  unfold Dat.owesAt Pipeline.owesWithin
  rw [show (dats m 0 c).owed t.castSucc = 0 from rfl]
  by_cases hz : t.val = 0
  · rw [PhiS_zero m c _ hz, PhiD0_eq]
    rw [first_step c (grid0.coords t) (iT t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr hz) (hcT t)]
    iintro ⟨⟨⟨⟨%ds, HS0⟩, ⟨%ds1, HS1⟩⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    ihave HS0 := (owns_p10 c ds) $$ HS0
    ihave HS1 := (owns_p11 c ds1) $$ HS1
    icases HS0 with ⟨%f, HS0⟩
    icases HS1 with ⟨%g, HS1⟩
    iapply (load_spec c (V m c main_arg2) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) f g W _) $$ [HS0 HS1 Hh0 Hq0 Hq1 HW]
    · isplitl [HS0]; · iexact HS0
      isplitl [HS1]; · iexact HS1
      isplitl [Hh0]; · iexact Hh0
      isplitl [Hq0]; · iexact Hq0
      isplitl [Hq1]; · iexact Hq1
      iexact HW
    iintro ⟨HS0, HS1, Hh0, Hq0, Hq1, ⟨%W2, HW⟩⟩
    iapply (rest_body m c t W2)
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW]; · iexact HW
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7
  · rw [PhiS_pos m c _ hz]
    have e : grid0.coords t = iT t := by unfold iT; rw [if_neg hz]
    rw [e]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (rest_body m c t W)
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW]; · iexact HW
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

/-- The body at point `t`'s buffers. -/
theorem defs₀_row (t : Fin cfg0.N) :
    defs₀ (F := F) .tc cfg0.body (cfg0.bodyArgs t (cfg0.slots t)) = bodyAt0 t := by
  unfold defs₀; rw [Defs.onTc_tc]

/-- The body's triple at every point, as the launch rule asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦD osem0 spec0 H0 (V m) c ⊢ (dats m 0 c).Φ 0 := by
  rw [show (dats m 0 c).Φ 0 = PhiS m c 0 from rfl, PhiS_zero m c 0 rfl]
  try exact Idealize.SL.BI.Entails.refl _

/-- After any point but the first the invariant gives the launch's own back, the scratch's contents forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val from rfl, PhiS_pos m c _ ht, PhiD0_eq]
  iintro ⟨⟨HS0, HS1⟩, Hg, ⟨Hq0, Hq1⟩, Hh0⟩
  isplitl [HS0 HS1]
  · isplitl [HS0]
    · iexists _; iexact HS0
    iexact HS1
  isplitl [Hg]; · iexact Hg
  isplitl [Hq0 Hq1]
  · isplitl [Hq0]; · iexact Hq0
    iexact Hq1
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
/-- The launch: every array at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.PrenormIdeal.Hand

end
-- ==== Proof.PrenormArray.lean ====
/- What the normalisation-and-projection kernel leaves in its results: the normalised rows, and their product with the assembled weights. -/
module

public import proofs.«01_k».proof.Proof.PrenormFrame
public import Idealize.ShloMosaic.Lib.Pointwise
public import Idealize.ShloMosaic.Lib.WholeRead
public import Idealize.ShloMosaic.Lib.WritesUnit
public import Idealize.ShloMosaic.Lib.Pipeline.ValueKit
public import Idealize.ShloMosaic.Lib.Pipeline.ReadBack

@[expose] public section

set_option maxRecDepth 16384

noncomputable section

namespace Cert.Pn

open Cert.PrenormIdeal Cert.PrenormIdeal.Gen Cert.PrenormIdeal.Hand Idealize.ShloMosaic Idealize.ShloMosaic.TcCoe Idealize.SL.Sem
open Idealize.ShloMosaic.Pipeline (Dat)

/-- The mean square of row `n`, with the norm's small constant added. -/
def ms {N : ℕ} (X : (⟨2, ![N, 1024]⟩ : Shape).Idx → EReal) (n : Fin N) : EReal :=
  Ideal.div (∑ k : Fin 1024, X (ix2 n k) * X (ix2 n k)) (Ideal.ofBits .f32 0x44800000#32) + Ideal.ofBits .f32 0x358637BD#32

/-- The normalised row `n`, scaled by the gain. -/
def hid {N : ℕ} (X : (⟨2, ![N, 1024]⟩ : Shape).Idx → EReal) (G : (⟨2, ![1, 1024]⟩ : Shape).Idx → EReal) (n : Fin N) (k : Fin 1024) : EReal :=
  X (ix2 n k) * Ideal.rsqrt (ms X n) * G (ix2 0 k)

/-- Its product with a column of the weights. -/
def proj {N : ℕ} (X : (⟨2, ![N, 1024]⟩ : Shape).Idx → EReal) (G : (⟨2, ![1, 1024]⟩ : Shape).Idx → EReal) (Wt : (⟨2, ![1024, 8448]⟩ : Shape).Idx → EReal)
    (n : Fin N) (q : Fin 8448) : EReal := ∑ k, hid X G n k * Wt (ix2 k q)

/-- The product with the columns from `o` on. -/
def colsArr (o W : ℕ) (h : o + W ≤ 8448) (X : (⟨2, ![8192, 1024]⟩ : Shape).Idx → EReal) (G : (⟨2, ![1, 1024]⟩ : Shape).Idx → EReal)
    (Wt : (⟨2, ![1024, 8448]⟩ : Shape).Idx → EReal) (i : (⟨2, ![8192, W]⟩ : Shape).Idx) : EReal :=
  have h0 : (i 0).val < 8192 := (i 0).isLt
  have h1 : (i 1).val < W := (i 1).isLt
  proj X G Wt ⟨(i 0).val, h0⟩ ⟨o + (i 1).val, by omega⟩

/-- That array at an index. -/
theorem colsArr_at (o W : ℕ) (h : o + W ≤ 8448) (X : (⟨2, ![8192, 1024]⟩ : Shape).Idx → EReal) (G : (⟨2, ![1, 1024]⟩ : Shape).Idx → EReal)
    (Wt : (⟨2, ![1024, 8448]⟩ : Shape).Idx → EReal) (n : Fin 8192) (q : Fin W) (i : (⟨2, ![8192, W]⟩ : Shape).Idx) (h0 : (i 0).val = n.val) (h1 : (i 1).val = q.val) :
    colsArr o W h X G Wt i = proj X G Wt n ⟨o + q.val, by omega⟩ := by
  unfold colsArr
  dsimp only
  congr 1 <;> exact Fin.ext (by dsimp only; omega)

/-- The normalised rows, transposed. -/
def hidArr (X : (⟨2, ![8192, 1024]⟩ : Shape).Idx → EReal) (G : (⟨2, ![1, 1024]⟩ : Shape).Idx → EReal) (i : (⟨2, ![1024, 8192]⟩ : Shape).Idx) : EReal :=
  have h0 : (i 0).val < 1024 := (i 0).isLt
  have h1 : (i 1).val < 8192 := (i 1).isLt
  hid X G ⟨(i 1).val, h1⟩ ⟨(i 0).val, h0⟩

/-- That array at an index. -/
theorem hidArr_at (X : (⟨2, ![8192, 1024]⟩ : Shape).Idx → EReal) (G : (⟨2, ![1, 1024]⟩ : Shape).Idx → EReal)
    (n : Fin 8192) (k : Fin 1024) (i : (⟨2, ![1024, 8192]⟩ : Shape).Idx) (h0 : (i 0).val = k.val) (h1 : (i 1).val = n.val) :
    hidArr X G i = hid X G n k := by
  unfold hidArr
  dsimp only
  congr 1 <;> exact Fin.ext (by assumption)

/-! ## The payloads -/

/-- The normalised block. -/
theorem pay6_at (v3 : Vec Ideal S512x1024 .f32) (v14 : Vec Ideal S1x1024 .f32) (r : Fin 512) (k : Fin 1024) :
    k0_pay6 (F := Ideal) v3 v14 (ix2 r k) = hid (N := 512) v3 v14 r k := by
  unfold k0_pay6
  pointwise
  rfl

/-- Its transpose. -/
theorem pay7_at (v3 : Vec Ideal S512x1024 .f32) (v14 : Vec Ideal S1x1024 .f32) (r : Fin 512) (k : Fin 1024) :
    k0_pay7 (F := Ideal) v3 v14 (ix2 k r) = hid (N := 512) v3 v14 r k := by
  have e := pay6_at v3 v14
  unfold k0_pay7
  generalize k0_pay6 (F := Ideal) v3 v14 = z at e ⊢
  pointwise
  exact e r k

/-- The product of output 2. -/
theorem prod2_at (v3 : Vec Ideal S512x1024 .f32) (v14 : Vec Ideal S1x1024 .f32) (w : Vec Ideal S1024x4096 .bf16) (r : Fin 512) (q : Fin 4096) :
    k0_pay8 (F := Ideal) v3 v14 w (ix2 r q) = ∑ k, hid (N := 512) v3 v14 r k * w (ix2 k q) := by
  have e := pay6_at v3 v14
  unfold k0_pay8
  generalize k0_pay6 (F := Ideal) v3 v14 = z at e ⊢
  pointwise
  simp only [e]

/-- The product of output 3. -/
theorem prod3_at (v3 : Vec Ideal S512x1024 .f32) (v14 : Vec Ideal S1x1024 .f32) (w : Vec Ideal S1024x1024 .bf16) (r : Fin 512) (q : Fin 1024) :
    k0_pay9 (F := Ideal) v3 v14 w (ix2 r q) = ∑ k, hid (N := 512) v3 v14 r k * w (ix2 k q) := by
  have e := pay6_at v3 v14
  unfold k0_pay9
  generalize k0_pay6 (F := Ideal) v3 v14 = z at e ⊢
  pointwise
  simp only [e]

/-- The product of output 4. -/
theorem prod4_at (v3 : Vec Ideal S512x1024 .f32) (v14 : Vec Ideal S1x1024 .f32) (w : Vec Ideal S1024x256 .bf16) (r : Fin 512) (q : Fin 256) :
    k0_pay10 (F := Ideal) v3 v14 w (ix2 r q) = ∑ k, hid (N := 512) v3 v14 r k * w (ix2 k q) := by
  have e := pay6_at v3 v14
  unfold k0_pay10
  generalize k0_pay6 (F := Ideal) v3 v14 = z at e ⊢
  pointwise
  simp only [e]

/-- The product of output 5. -/
theorem prod5_at (v3 : Vec Ideal S512x1024 .f32) (v14 : Vec Ideal S1x1024 .f32) (w : Vec Ideal S1024x1024 .bf16) (r : Fin 512) (q : Fin 1024) :
    k0_pay1 (F := Ideal) (k0_pay6 (F := Ideal) v3 v14) w (ix2 r q) = ∑ k, hid (N := 512) v3 v14 r k * w (ix2 k q) := by
  have e := pay6_at v3 v14
  unfold k0_pay1
  generalize k0_pay6 (F := Ideal) v3 v14 = z at e ⊢
  pointwise
  simp only [e]

/-- The product of output 6. -/
theorem prod6_at (v3 : Vec Ideal S512x1024 .f32) (v14 : Vec Ideal S1x1024 .f32) (w : Vec Ideal S1024x2048 .bf16) (r : Fin 512) (q : Fin 2048) :
    k0_pay2 (F := Ideal) (k0_pay6 (F := Ideal) v3 v14) w (ix2 r q) = ∑ k, hid (N := 512) v3 v14 r k * w (ix2 k q) := by
  have e := pay6_at v3 v14
  unfold k0_pay2
  generalize k0_pay6 (F := Ideal) v3 v14 = z at e ⊢
  pointwise
  simp only [e]

variable (m : (ℓ : Loc nD τ sig) → Buf (Elt Ideal) ℓ) (c : Dev nD) (t : Fin cfg0.N)

/-- The weights as the first point assembles them. -/
abbrev wts : Vec Ideal S1024x8448 .bf16 := W10 (F := Ideal) (m ((c : Thread nD τ).loc main_arg2))

/-- What a point reads of its input block is that block. -/
theorem read_x (x : Vec Ideal S512x1024 .f32) :
    View.readAt (Elt Ideal) (ms0_0 t).view (Rect.unit ![0, 0] S512x1024.size inb_S512x1024_S512x1024_0_0).toLoadRect ((hs0_0 t).unread x) = x := by
  rw [View.readAt_eq_ld, Memref.IsWhole.read_unread]
  funext i
  idx_vars i
  pointwise

/-- And of the gain's. -/
theorem read_g (x : Vec Ideal S1x1024 .f32) :
    View.readAt (Elt Ideal) (ms0_1 t).view (Rect.unit ![0, 0] S1x1024.size inb_S1x1024_S1x1024_0_0).toLoadRect ((hs0_1 t).unread x) = x := by
  rw [View.readAt_eq_ld, Memref.IsWhole.read_unread]
  funext i
  idx_vars i
  pointwise
  obtain rfl : i0 = 0 := Subsingleton.elim _ _
  rfl

/-- Which block of each array a point works on. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, t.val] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, t.val])

/-- Row `r` of point `t`'s input block. -/
theorem x_at (r : Fin 512) (k : Fin 1024) (n : Fin 8192) (hn : n.val = t.val * 512 + r.val) :
    iblk m c 0 t (ix2 r k) = m ((c : Thread nD τ).loc main_arg0) (ix2 n k) := by
  obtain ⟨e0, -⟩ := idx t
  have hN : t.val < 16 := t.isLt
  blk_ext [iblk, V, e0]

/-- The gain. -/
theorem g_at (k : Fin 1024) : iblk m c 1 t (ix2 0 k) = m ((c : Thread nD τ).loc main_arg1) (ix2 0 k) := by
  obtain ⟨-, e1, -⟩ := idx t
  have hN : t.val < 16 := t.isLt
  blk_ext [iblk, V, e1]

/-- The normalised block's row is the array's. -/
theorem hid_blk (r : Fin 512) (k : Fin 1024) (n : Fin 8192) (hn : n.val = t.val * 512 + r.val) :
    hid (N := 512) (iblk m c 0 t) (iblk m c 1 t) r k = hid (m ((c : Thread nD τ).loc main_arg0)) (m ((c : Thread nD τ).loc main_arg1)) n k := by
  unfold hid ms
  rw [g_at m c t k]
  have e := fun k => x_at m c t r k n hn
  simp only [e]

/-- What a point reads of the weights for output 2. -/
theorem read_w2 (Wt : Vec Ideal S1024x8448 .bf16) (k : Fin 1024) (q : Fin 4096) :
    View.readAt (Elt Ideal) scM0_0.view (Rect.unit (s := S1024x8448) ![0, 0] S1024x4096.size inb_S1024x8448_S1024x4096_0_0).toLoadRect ((Memref.isWhole_whole cc0_scratch0).unread Wt) (ix2 k q)
      = Wt (ix2 k ⟨0 + q.val, by omega⟩) := by
  rw [View.readAt_eq_ld, Memref.IsWhole.read_unread]
  pointwise

/-- What a point leaves in output 2. -/
theorem out2_at (r : Fin 512) (q : Fin 4096) (n : Fin 8192) (hn : n.val = t.val * 512 + r.val) :
    out2 m c t (ix2 r q) = proj (m ((c : Thread nD τ).loc main_arg0)) (m ((c : Thread nD τ).loc main_arg1)) (wts m c) n ⟨0 + q.val, by omega⟩ := by
  unfold out2
  refine (View.read_writes_cons_unit_of_mem (off' := ![0, 0]) VO0_2 _ inb_S512x4096_S512x4096_0_0 _ [] (ix2 r q) (ix2 r q) rfl (fun a => match a with
    | ⟨0, _⟩ => (Nat.zero_add _).symm
    | ⟨1, _⟩ => (Nat.zero_add _).symm)).trans ?_
  refine (prod2_at _ _ _ r q).trans ?_
  unfold proj
  refine Finset.sum_congr rfl fun k _ => congrArg₂ (· * ·) ?_ (read_w2 _ k q)
  rw [← hid_blk m c t r k n hn]
  exact congrArg₂ (fun a b => hid (N := 512) a b r k) (read_x t _) (read_g t _)

/-- The array of output 2. -/
theorem final2 : (dats (F := Ideal) m 0 c).arrAt 2 cfg0.N
    = colsArr 0 4096 (by norm_num) (m ((c : Thread nD τ).loc main_arg0)) (m ((c : Thread nD τ).loc main_arg1)) (wts m c) := by
  refine (dats m 0 c).arrAt_eq_of_covers 2 _ (by decide +kernel) fun t hf y => ?_
  obtain ⟨-, -, e, -⟩ := idx t
  blk_simp
  rw [after_2]
  have ho := out2_at m c t
  generalize out2 m c t = z at ho ⊢
  generalize wts m c = Wt at ho ⊢
  generalize m ((c : Thread nD τ).loc main_arg0) = X at ho ⊢
  generalize m ((c : Thread nD τ).loc main_arg1) = G at ho ⊢
  have hN : t.val < 16 := t.isLt
  have hy0 : (y 0).val < 512 := (y 0).isLt
  have hy1 : (y 1).val < 4096 := (y 1).isLt
  refine (congrArg z (eq_ix2 y)).trans ((ho (y 0) (y 1) ⟨t.val * 512 + (y 0).val, by omega⟩ rfl).trans ?_)
  refine (colsArr_at 0 4096 _ _ _ _ ⟨t.val * 512 + (y 0).val, by omega⟩ (y 1) _ ?_ ?_).symm
  all_goals
    blk_simp [e]
    try dsimp only
    try omega

/-- What a point reads of the weights for output 3. -/
theorem read_w3 (Wt : Vec Ideal S1024x8448 .bf16) (k : Fin 1024) (q : Fin 1024) :
    View.readAt (Elt Ideal) scM0_0.view (Rect.unit (s := S1024x8448) ![0, 4096] S1024x1024.size inb_S1024x8448_S1024x1024_0_4096).toLoadRect ((Memref.isWhole_whole cc0_scratch0).unread Wt) (ix2 k q)
      = Wt (ix2 k ⟨4096 + q.val, by omega⟩) := by
  rw [View.readAt_eq_ld, Memref.IsWhole.read_unread]
  pointwise

/-- What a point leaves in output 3. -/
theorem out3_at (r : Fin 512) (q : Fin 1024) (n : Fin 8192) (hn : n.val = t.val * 512 + r.val) :
    out3 m c t (ix2 r q) = proj (m ((c : Thread nD τ).loc main_arg0)) (m ((c : Thread nD τ).loc main_arg1)) (wts m c) n ⟨4096 + q.val, by omega⟩ := by
  unfold out3
  refine (View.read_writes_cons_unit_of_mem (off' := ![0, 0]) VO0_3 _ inb_S512x1024_S512x1024_0_0 _ [] (ix2 r q) (ix2 r q) rfl (fun a => match a with
    | ⟨0, _⟩ => (Nat.zero_add _).symm
    | ⟨1, _⟩ => (Nat.zero_add _).symm)).trans ?_
  refine (prod3_at _ _ _ r q).trans ?_
  unfold proj
  refine Finset.sum_congr rfl fun k _ => congrArg₂ (· * ·) ?_ (read_w3 _ k q)
  rw [← hid_blk m c t r k n hn]
  exact congrArg₂ (fun a b => hid (N := 512) a b r k) (read_x t _) (read_g t _)

/-- The array of output 3. -/
theorem final3 : (dats (F := Ideal) m 0 c).arrAt 3 cfg0.N
    = colsArr 4096 1024 (by norm_num) (m ((c : Thread nD τ).loc main_arg0)) (m ((c : Thread nD τ).loc main_arg1)) (wts m c) := by
  refine (dats m 0 c).arrAt_eq_of_covers 3 _ (by decide +kernel) fun t hf y => ?_
  obtain ⟨-, -, -, e, -⟩ := idx t
  blk_simp
  rw [after_3]
  have ho := out3_at m c t
  generalize out3 m c t = z at ho ⊢
  generalize wts m c = Wt at ho ⊢
  generalize m ((c : Thread nD τ).loc main_arg0) = X at ho ⊢
  generalize m ((c : Thread nD τ).loc main_arg1) = G at ho ⊢
  have hN : t.val < 16 := t.isLt
  have hy0 : (y 0).val < 512 := (y 0).isLt
  have hy1 : (y 1).val < 1024 := (y 1).isLt
  refine (congrArg z (eq_ix2 y)).trans ((ho (y 0) (y 1) ⟨t.val * 512 + (y 0).val, by omega⟩ rfl).trans ?_)
  refine (colsArr_at 4096 1024 _ _ _ _ ⟨t.val * 512 + (y 0).val, by omega⟩ (y 1) _ ?_ ?_).symm
  all_goals
    blk_simp [e]
    try dsimp only
    try omega

/-- What a point reads of the weights for output 4. -/
theorem read_w4 (Wt : Vec Ideal S1024x8448 .bf16) (k : Fin 1024) (q : Fin 256) :
    View.readAt (Elt Ideal) scM0_0.view (Rect.unit (s := S1024x8448) ![0, 5120] S1024x256.size inb_S1024x8448_S1024x256_0_5120).toLoadRect ((Memref.isWhole_whole cc0_scratch0).unread Wt) (ix2 k q)
      = Wt (ix2 k ⟨5120 + q.val, by omega⟩) := by
  rw [View.readAt_eq_ld, Memref.IsWhole.read_unread]
  pointwise

/-- What a point leaves in output 4. -/
theorem out4_at (r : Fin 512) (q : Fin 256) (n : Fin 8192) (hn : n.val = t.val * 512 + r.val) :
    out4 m c t (ix2 r q) = proj (m ((c : Thread nD τ).loc main_arg0)) (m ((c : Thread nD τ).loc main_arg1)) (wts m c) n ⟨5120 + q.val, by omega⟩ := by
  unfold out4
  refine (View.read_writes_cons_unit_of_mem (off' := ![0, 0]) VO0_4 _ inb_S512x256_S512x256_0_0 _ [] (ix2 r q) (ix2 r q) rfl (fun a => match a with
    | ⟨0, _⟩ => (Nat.zero_add _).symm
    | ⟨1, _⟩ => (Nat.zero_add _).symm)).trans ?_
  refine (prod4_at _ _ _ r q).trans ?_
  unfold proj
  refine Finset.sum_congr rfl fun k _ => congrArg₂ (· * ·) ?_ (read_w4 _ k q)
  rw [← hid_blk m c t r k n hn]
  exact congrArg₂ (fun a b => hid (N := 512) a b r k) (read_x t _) (read_g t _)

/-- The array of output 4. -/
theorem final4 : (dats (F := Ideal) m 0 c).arrAt 4 cfg0.N
    = colsArr 5120 256 (by norm_num) (m ((c : Thread nD τ).loc main_arg0)) (m ((c : Thread nD τ).loc main_arg1)) (wts m c) := by
  refine (dats m 0 c).arrAt_eq_of_covers 4 _ (by decide +kernel) fun t hf y => ?_
  obtain ⟨-, -, -, -, e, -⟩ := idx t
  blk_simp
  rw [after_4]
  have ho := out4_at m c t
  generalize out4 m c t = z at ho ⊢
  generalize wts m c = Wt at ho ⊢
  generalize m ((c : Thread nD τ).loc main_arg0) = X at ho ⊢
  generalize m ((c : Thread nD τ).loc main_arg1) = G at ho ⊢
  have hN : t.val < 16 := t.isLt
  have hy0 : (y 0).val < 512 := (y 0).isLt
  have hy1 : (y 1).val < 256 := (y 1).isLt
  refine (congrArg z (eq_ix2 y)).trans ((ho (y 0) (y 1) ⟨t.val * 512 + (y 0).val, by omega⟩ rfl).trans ?_)
  refine (colsArr_at 5120 256 _ _ _ _ ⟨t.val * 512 + (y 0).val, by omega⟩ (y 1) _ ?_ ?_).symm
  all_goals
    blk_simp [e]
    try dsimp only
    try omega

/-- What a point reads of the weights for output 5. -/
theorem read_w5 (Wt : Vec Ideal S1024x8448 .bf16) (k : Fin 1024) (q : Fin 1024) :
    View.readAt (Elt Ideal) scM0_0.view (Rect.unit (s := S1024x8448) ![0, 5376] S1024x1024.size inb_S1024x8448_S1024x1024_0_5376).toLoadRect ((Memref.isWhole_whole cc0_scratch0).unread Wt) (ix2 k q)
      = Wt (ix2 k ⟨5376 + q.val, by omega⟩) := by
  rw [View.readAt_eq_ld, Memref.IsWhole.read_unread]
  pointwise

/-- What a point leaves in output 5. -/
theorem out5_at (r : Fin 512) (q : Fin 1024) (n : Fin 8192) (hn : n.val = t.val * 512 + r.val) :
    out5 m c t (ix2 r q) = proj (m ((c : Thread nD τ).loc main_arg0)) (m ((c : Thread nD τ).loc main_arg1)) (wts m c) n ⟨5376 + q.val, by omega⟩ := by
  unfold out5
  refine (View.read_writes_cons_unit_of_mem (off' := ![0, 0]) VO0_5 _ inb_S512x1024_S512x1024_0_0 _ [] (ix2 r q) (ix2 r q) rfl (fun a => match a with
    | ⟨0, _⟩ => (Nat.zero_add _).symm
    | ⟨1, _⟩ => (Nat.zero_add _).symm)).trans ?_
  refine (prod5_at _ _ _ r q).trans ?_
  unfold proj
  refine Finset.sum_congr rfl fun k _ => congrArg₂ (· * ·) ?_ (read_w5 _ k q)
  rw [← hid_blk m c t r k n hn]
  exact congrArg₂ (fun a b => hid (N := 512) a b r k) (read_x t _) (read_g t _)

/-- The array of output 5. -/
theorem final5 : (dats (F := Ideal) m 0 c).arrAt 5 cfg0.N
    = colsArr 5376 1024 (by norm_num) (m ((c : Thread nD τ).loc main_arg0)) (m ((c : Thread nD τ).loc main_arg1)) (wts m c) := by
  refine (dats m 0 c).arrAt_eq_of_covers 5 _ (by decide +kernel) fun t hf y => ?_
  obtain ⟨-, -, -, -, -, e, -⟩ := idx t
  blk_simp
  rw [after_5]
  have ho := out5_at m c t
  generalize out5 m c t = z at ho ⊢
  generalize wts m c = Wt at ho ⊢
  generalize m ((c : Thread nD τ).loc main_arg0) = X at ho ⊢
  generalize m ((c : Thread nD τ).loc main_arg1) = G at ho ⊢
  have hN : t.val < 16 := t.isLt
  have hy0 : (y 0).val < 512 := (y 0).isLt
  have hy1 : (y 1).val < 1024 := (y 1).isLt
  refine (congrArg z (eq_ix2 y)).trans ((ho (y 0) (y 1) ⟨t.val * 512 + (y 0).val, by omega⟩ rfl).trans ?_)
  refine (colsArr_at 5376 1024 _ _ _ _ ⟨t.val * 512 + (y 0).val, by omega⟩ (y 1) _ ?_ ?_).symm
  all_goals
    blk_simp [e]
    try dsimp only
    try omega

/-- What a point reads of the weights for output 6. -/
theorem read_w6 (Wt : Vec Ideal S1024x8448 .bf16) (k : Fin 1024) (q : Fin 2048) :
    View.readAt (Elt Ideal) scM0_0.view (Rect.unit (s := S1024x8448) ![0, 6400] S1024x2048.size inb_S1024x8448_S1024x2048_0_6400).toLoadRect ((Memref.isWhole_whole cc0_scratch0).unread Wt) (ix2 k q)
      = Wt (ix2 k ⟨6400 + q.val, by omega⟩) := by
  rw [View.readAt_eq_ld, Memref.IsWhole.read_unread]
  pointwise

/-- What a point leaves in output 6. -/
theorem out6_at (r : Fin 512) (q : Fin 2048) (n : Fin 8192) (hn : n.val = t.val * 512 + r.val) :
    out6 m c t (ix2 r q) = proj (m ((c : Thread nD τ).loc main_arg0)) (m ((c : Thread nD τ).loc main_arg1)) (wts m c) n ⟨6400 + q.val, by omega⟩ := by
  unfold out6
  refine (View.read_writes_cons_unit_of_mem (off' := ![0, 0]) VO0_6 _ inb_S512x2048_S512x2048_0_0 _ [] (ix2 r q) (ix2 r q) rfl (fun a => match a with
    | ⟨0, _⟩ => (Nat.zero_add _).symm
    | ⟨1, _⟩ => (Nat.zero_add _).symm)).trans ?_
  refine (prod6_at _ _ _ r q).trans ?_
  unfold proj
  refine Finset.sum_congr rfl fun k _ => congrArg₂ (· * ·) ?_ (read_w6 _ k q)
  rw [← hid_blk m c t r k n hn]
  exact congrArg₂ (fun a b => hid (N := 512) a b r k) (read_x t _) (read_g t _)

/-- The array of output 6. -/
theorem final6 : (dats (F := Ideal) m 0 c).arrAt 6 cfg0.N
    = colsArr 6400 2048 (by norm_num) (m ((c : Thread nD τ).loc main_arg0)) (m ((c : Thread nD τ).loc main_arg1)) (wts m c) := by
  refine (dats m 0 c).arrAt_eq_of_covers 6 _ (by decide +kernel) fun t hf y => ?_
  obtain ⟨-, -, -, -, -, -, e, -⟩ := idx t
  blk_simp
  rw [after_6]
  have ho := out6_at m c t
  generalize out6 m c t = z at ho ⊢
  generalize wts m c = Wt at ho ⊢
  generalize m ((c : Thread nD τ).loc main_arg0) = X at ho ⊢
  generalize m ((c : Thread nD τ).loc main_arg1) = G at ho ⊢
  have hN : t.val < 16 := t.isLt
  have hy0 : (y 0).val < 512 := (y 0).isLt
  have hy1 : (y 1).val < 2048 := (y 1).isLt
  refine (congrArg z (eq_ix2 y)).trans ((ho (y 0) (y 1) ⟨t.val * 512 + (y 0).val, by omega⟩ rfl).trans ?_)
  refine (colsArr_at 6400 2048 _ _ _ _ ⟨t.val * 512 + (y 0).val, by omega⟩ (y 1) _ ?_ ?_).symm
  all_goals
    blk_simp [e]
    try dsimp only
    try omega

/-- What a point leaves in output 7. -/
theorem out7_at (r : Fin 512) (k : Fin 1024) (n : Fin 8192) (hn : n.val = t.val * 512 + r.val) :
    out7 m c t (ix2 k r) = hid (m ((c : Thread nD τ).loc main_arg0)) (m ((c : Thread nD τ).loc main_arg1)) n k := by
  unfold out7
  refine (View.read_writes_cons_unit_of_mem (off' := ![0, 0]) VO0_7 _ inb_S1024x512_S1024x512_0_0 _ [] (ix2 k r) (ix2 k r) rfl (fun a => match a with
    | ⟨0, _⟩ => (Nat.zero_add _).symm
    | ⟨1, _⟩ => (Nat.zero_add _).symm)).trans ?_
  refine (pay7_at _ _ r k).trans ?_
  rw [← hid_blk m c t r k n hn]
  exact congrArg₂ (fun a b => hid (N := 512) a b r k) (read_x t _) (read_g t _)

/-- The array of output 7. -/
theorem final7 : (dats (F := Ideal) m 0 c).arrAt 7 cfg0.N
    = hidArr (m ((c : Thread nD τ).loc main_arg0)) (m ((c : Thread nD τ).loc main_arg1)) := by
  refine (dats m 0 c).arrAt_eq_of_covers 7 _ (by decide +kernel) fun t hf y => ?_
  obtain ⟨-, -, -, -, -, -, -, e⟩ := idx t
  blk_simp
  rw [after_7]
  have ho := out7_at m c t
  generalize out7 m c t = z at ho ⊢
  generalize m ((c : Thread nD τ).loc main_arg0) = X at ho ⊢
  generalize m ((c : Thread nD τ).loc main_arg1) = G at ho ⊢
  have hN : t.val < 16 := t.isLt
  have hy0 : (y 0).val < 1024 := (y 0).isLt
  have hy1 : (y 1).val < 512 := (y 1).isLt
  refine (congrArg z (eq_ix2 y)).trans ((ho (y 1) (y 0) ⟨t.val * 512 + (y 1).val, by omega⟩ rfl).trans ?_)
  refine (hidArr_at _ _ ⟨t.val * 512 + (y 1).val, by omega⟩ (y 0) _ ?_ ?_).symm
  all_goals
    blk_simp [e]
    try dsimp only
    try omega

/-- The kernel's run: each result array in closed form, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = colsArr 0 4096 (by norm_num) (m ((c : Thread nD τ).loc main_arg0)) (m ((c : Thread nD τ).loc main_arg1)) (wts m c)
      ∧ r.2.mem ((c.tc : Thread nD τ).loc main_v0_1) = colsArr 4096 1024 (by norm_num) (m ((c : Thread nD τ).loc main_arg0)) (m ((c : Thread nD τ).loc main_arg1)) (wts m c)
      ∧ r.2.mem ((c.tc : Thread nD τ).loc main_v0_2) = colsArr 5120 256 (by norm_num) (m ((c : Thread nD τ).loc main_arg0)) (m ((c : Thread nD τ).loc main_arg1)) (wts m c)
      ∧ r.2.mem ((c.tc : Thread nD τ).loc main_v0_3) = colsArr 5376 1024 (by norm_num) (m ((c : Thread nD τ).loc main_arg0)) (m ((c : Thread nD τ).loc main_arg1)) (wts m c)
      ∧ r.2.mem ((c.tc : Thread nD τ).loc main_v0_4) = colsArr 6400 2048 (by norm_num) (m ((c : Thread nD τ).loc main_arg0)) (m ((c : Thread nD τ).loc main_arg1)) (wts m c)
      ∧ r.2.mem ((c.tc : Thread nD τ).loc main_v0_5) = hidArr (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 2).trans (final2 m c), ((h.1 c).1 3).trans (final3 m c), ((h.1 c).1 4).trans (final4 m c),
    ((h.1 c).1 5).trans (final5 m c), ((h.1 c).1 6).trans (final6 m c), ((h.1 c).1 7).trans (final7 m c), h.2 c⟩)
    (θ_run_and (run_main m ρ) (unchanged m ρ))

end Cert.Pn

end
-- ==== Proof.PrenormW.lean ====
/- The weights the kernel assembles, column by column, against the gathered weights in their own order. -/
module

public import proofs.«01_k».proof.Proof.PrenormLoadAll
public import Idealize.ShloMosaic.Lib.Pointwise
public import Idealize.ShloMosaic.Lib.WholeRead
public import Idealize.ShloMosaic.Lib.Pipeline.ValueKit

@[expose] public section

set_option maxRecDepth 16384

noncomputable section

namespace Cert.Pn

open Cert.PrenormIdeal Cert.PrenormIdeal.Gen Cert.PrenormIdeal.Hand Idealize.ShloMosaic Idealize.ShloMosaic.TcCoe Idealize.SL.Sem

/-- Column `a` of shard `j`, at feature `k`. -/
def el (x : (⟨3, ![4, 1024, 2176]⟩ : Shape).Idx → EReal) (j : Fin 4) (k : Fin 1024) (a : ℕ) : EReal := x (ix3 j k (Fin.ofNat 2176 a))

/-- A shard's element, its column's number written in two ways. -/
theorem el_eq (x : (⟨3, ![4, 1024, 2176]⟩ : Shape).Idx → EReal) (j : Fin 4) (k : Fin 1024) (a b : ℕ) (h : a < 2176) (e : a = b) :
    x (ix3 j k ⟨a, h⟩) = el x j k b := by
  subst e
  exact congrArg (fun z => x (ix3 j k z)) (Fin.ext (Nat.mod_eq_of_lt h).symm)

/-- The gathered weights at column `p`: a shard's, or the sum of two shards' on the columns they share. -/
def gathered (x : (⟨3, ![4, 1024, 2176]⟩ : Shape).Idx → EReal) (k : Fin 1024) (p : ℕ) : EReal :=
  if p < 2048 then el x 0 k p else if p < 2176 then el x 0 k p + el x 1 k (p - 2048) else if p < 4224 then el x 1 k (p - 2048)
  else if p < 6272 then el x 2 k (p - 4224) else if p < 6400 then el x 2 k (p - 4224) + el x 3 k (p - 6272) else el x 3 k (p - 6272)

/-- Which gathered column the kernel keeps at column `q`: of the first 4096, the four parts of a tile side by side. -/
def perm (q : ℕ) : ℕ := if q < 4096 then q / 128 % 4 * 1024 + q / 512 * 128 + q % 128 else q

/-- A tile of columns put over an array. -/
theorem put_at (A : (⟨2, ![1024, 8448]⟩ : Shape).Idx → EReal) (o : ℕ) (w : (⟨2, ![1024, 128]⟩ : Shape).Idx → EReal) (k : Fin 1024) (q : Fin 8448) :
    VecWindow.put A ![0, o] (⟨2, ![1024, 128]⟩ : Shape).size w (ix2 k q)
      = if h : o ≤ q.val ∧ q.val < o + 128 then w (ix2 k ⟨q.val - o, by omega⟩) else A (ix2 k q) := by
  unfold VecWindow.put
  by_cases h : o ≤ q.val ∧ q.val < o + 128
  · rw [dif_pos h, dif_pos (fun a => match a with
      | ⟨0, _⟩ => ⟨Nat.zero_le _, by show k.val < 0 + 1024; omega⟩
      | ⟨1, _⟩ => h)]
    refine congrArg w ?_
    funext a
    match a with
    | ⟨0, _⟩ => exact Fin.ext (Nat.sub_zero _)
    | ⟨1, _⟩ => exact Fin.ext rfl
  · rw [dif_neg h, dif_neg (fun hh => h (hh 1))]

variable (x : Vec Ideal S4x1024x2176 .bf16)

/-- The first sum of halves. -/
theorem sum1_at (k : Fin 1024) (l : Fin 128) : sum1 (F := Ideal) x (ix2 k l) = el x 0 k (2048 + l.val) + el x 1 k l.val := by
  have e0 : G11 (F := Ideal) x (ix3 0 k l) = el x 0 k (2048 + l.val) := el_eq x 0 k _ _ _ rfl
  have e1 : G11 (F := Ideal) x (ix3 1 k l) = el x 1 k l.val := el_eq x 1 k _ _ _ (Nat.zero_add _)
  unfold sum1 k0_pay4 k0_pay3
  generalize G11 (F := Ideal) x = g at e0 e1 ⊢
  simp only [View.readAt_eq_ld]
  rw [show scM0_1.view.read (Elt Ideal) g = g from rfl]
  pointwise
  rw [← e0, ← e1]

/-- The second. -/
theorem sum2_at (k : Fin 1024) (l : Fin 128) : sum2 (F := Ideal) x (ix2 k l) = el x 2 k (2048 + l.val) + el x 3 k l.val := by
  have e0 : G11 (F := Ideal) x (ix3 2 k l) = el x 2 k (2048 + l.val) := el_eq x 2 k _ _ _ rfl
  have e1 : G11 (F := Ideal) x (ix3 3 k l) = el x 3 k l.val := el_eq x 3 k _ _ _ (Nat.zero_add _)
  unfold sum2 k0_pay5
  generalize G11 (F := Ideal) x = g at e0 e1 ⊢
  simp only [View.readAt_eq_ld]
  rw [show scM0_1.view.read (Elt Ideal) g = g from rfl]
  pointwise
  rw [← e0, ← e1]

/-- A shard's element, shard and column's numbers written in two ways. -/
theorem el_eq' (j j' : Fin 4) (k : Fin 1024) (a b : ℕ) (h : a % 2176 < 2176) (hj : j.val = j'.val) (e : a = b) :
    x (ix3 j k ⟨a % 2176, h⟩) = el x j' k b := by
  obtain rfl : j = j' := Fin.ext hj
  subst e
  rfl

/-- The kernel's weights are the gathered ones, their columns permuted. -/
theorem W10_at (k : Fin 1024) (q : Fin 8448) : W10 (F := Ideal) x (ix2 k q) = gathered x k (perm q.val) := by
  have hq : q.val < 8448 := q.isLt
  unfold W10
  refine (put_at _ 6272 (sum2 (F := Ideal) x) k q).trans ?_
  by_cases h2 : 6272 ≤ q.val ∧ q.val < 6272 + 128
  · rw [dif_pos h2]
    refine (sum2_at x k _).trans ?_
    unfold gathered perm
    rw [if_neg (show ¬q.val < 4096 by omega), if_neg (by omega), if_neg (by omega), if_neg (by omega), if_neg (by omega), if_pos (by omega)]
    exact congrArg₂ (fun a b => el x 2 k a + el x 3 k b) (by dsimp only; omega) (by dsimp only)
  rw [dif_neg h2]
  refine (put_at _ 256 (sum1 (F := Ideal) x) k q).trans ?_
  by_cases h1 : 256 ≤ q.val ∧ q.val < 256 + 128
  · rw [dif_pos h1]
    refine (sum1_at x k _).trans ?_
    unfold gathered perm
    have ep : q.val / 128 % 4 * 1024 + q.val / 512 * 128 + q.val % 128 = 2048 + (q.val - 256) := by omega
    rw [if_pos (show q.val < 4096 by omega), ep, if_neg (by omega), if_pos (by omega)]
    exact congrArg₂ (fun a b => el x 0 k a + el x 1 k b) (by dsimp only) (by dsimp only; omega)
  rw [dif_neg h1]
  unfold G10
  by_cases c0 : q.val < 4096
  · have b1 : q.val / 512 = q.val / 128 / 4 := by omega
    have b2 : q.val / 128 % 2 = q.val / 128 % 4 % 2 := by omega
    have b3 : q.val / 128 / 4 < 8 := by omega
    have b4 : q.val / 128 % 4 < 4 := by omega
    have b5 : q.val % 128 < 128 := by omega
    have b6 : ¬(q.val / 128 % 4 = 2 ∧ q.val / 128 / 4 = 0) := by omega
    have ep : perm q.val = q.val / 128 % 4 * 1024 + q.val / 128 / 4 * 128 + q.val % 128 := by
      unfold perm; rw [if_pos c0, b1]
    have es : scN q.val = q.val / 128 / 4 * 128 + (if q.val / 128 % 4 % 2 = 1 then 1024 else 0) + q.val % 128 := by
      unfold scN; rw [if_pos c0, b1, b2]
    have eh : shN q.val = if q.val / 128 % 4 < 2 then 0 else 1 := by unfold shN; rw [if_pos c0]
    rw [ep]
    unfold gathered
    generalize q.val / 128 % 4 = j at *
    generalize q.val / 128 / 4 = T at *
    generalize q.val % 128 = l at *
    by_cases hj : j < 2
    · rw [if_pos (by omega)]
      rw [if_pos hj] at eh
      refine el_eq' x _ 0 k _ _ _ eh (es.trans ?_)
      split <;> omega
    · rw [if_neg (by omega), if_neg (by omega), if_pos (by omega)]
      rw [if_neg hj] at eh
      refine el_eq' x _ 1 k _ _ _ eh (es.trans ?_)
      split <;> omega
  have ep : perm q.val = q.val := if_neg c0
  rw [ep]
  unfold gathered
  rw [if_neg (by omega), if_neg (by omega)]
  by_cases c1 : q.val < 4224
  · rw [if_pos c1]
    exact el_eq' x _ 1 k _ _ _ (by show shN q.val = 1; unfold shN; rw [if_neg c0, if_pos c1]) (by show scN q.val = _; unfold scN; rw [if_neg c0, if_pos c1])
  rw [if_neg c1]
  by_cases c2 : q.val < 6272
  · rw [if_pos c2]
    exact el_eq' x _ 2 k _ _ _ (by show shN q.val = 2; unfold shN; rw [if_neg c0, if_neg c1, if_pos c2]) (by show scN q.val = _; unfold scN; rw [if_neg c0, if_neg c1, if_pos c2])
  rw [if_neg c2, if_neg (by omega)]
  exact el_eq' x _ 3 k _ _ _ (by show shN q.val = 3; unfold shN; rw [if_neg c0, if_neg c1, if_neg c2]) (by show scN q.val = _; unfold scN; rw [if_neg c0, if_neg c1, if_neg c2])

end Cert.Pn

end
-- ==== Proof.PrenormPre.lean ====
/- The normalisation-and-projection kernel: its two printed texts are one, and both leave their arguments unchanged. -/
module

public import proofs.«01_k».proof.Proof.PrenormFrame
public import proofs.«01_k».proof.Defs
public import proofs.«01_k».proof.Proof.Gen.Prenorm.Skeleton

@[expose] public section

set_option maxRecDepth 16384

noncomputable section

namespace Cert.Pn

open Idealize.ShloMosaic Idealize.ShloMosaic.TcCoe Idealize.SL.Sem

variable {F : FTy → Type} [FloatOps F]

/-- The two printed texts' body tables are one. -/
theorem defs₀_eq : @Cert.Prenorm.defs₀ F _ Cert.Prenorm.Gen.facts = @Cert.PrenormIdeal.defs₀ F _ Cert.PrenormIdeal.Gen.facts := by
  unfold Cert.Prenorm.defs₀ Cert.PrenormIdeal.defs₀
  refine congrArg Defs.onTc ?_
  funext l a
  match l, a with
  | 0, (t, s) => rfl
  | ⟨_ + 1, h⟩, _ => exact absurd h (Nat.not_lt.2 (Nat.le_add_left _ _))

/-- And so are the tables with the launch's rounds. -/
theorem defs_eq : @Cert.Prenorm.defs F _ Cert.Prenorm.Gen.facts = @Cert.PrenormIdeal.defs F _ Cert.PrenormIdeal.Gen.facts := by
  unfold Cert.Prenorm.defs Cert.PrenormIdeal.defs
  exact congrArg (Idealize.ShloMosaic.Pipeline.defs (Cert.PrenormIdeal.pcfgs (F := F))) defs₀_eq

/-- The frame of the bit-exact reading. -/
theorem frame : Cert.quiescent_Prenorm := fun m ρ _ => by
  rw [defs_eq]
  exact Cert.PrenormIdeal.Hand.frame (F := Bits) m ρ

/-- The frame of the ideal reading. -/
theorem frameIdeal : Cert.quiescent_PrenormIdeal := fun m ρ _ =>
  Cert.PrenormIdeal.Hand.frame (F := Ideal) m ρ

end Cert.Pn

end
-- ==== Proof.PrenormRef.lean ====
/- The reference of the normalisation and projection: its run and its frame. -/
module

public import proofs.«01_k».proof.Proof.PrenormPre
public import proofs.«01_k».proof.Proof.Gen.PrenormReferenceIdeal.Read

@[expose] public section

set_option maxRecDepth 16384

noncomputable section

namespace Cert.Pn

open Cert.PrenormReferenceIdeal Cert.PrenormReferenceIdeal.Gen Cert.PrenormReferenceIdeal.Read Idealize.ShloMosaic Idealize.ShloMosaic.TcCoe Idealize.SL.Sem Idealize.ShloMosaic.StableHlo

/-- The reference's run: the results in its operations' terms, the arguments unchanged. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = val_main_v41 (F := Ideal) (m ((c.tc : Thread nD τ).loc main_arg0)) (m ((c.tc : Thread nD τ).loc main_arg1)) (m ((c.tc : Thread nD τ).loc main_arg2))
      ∧ r.2.mem ((c.tc : Thread nD τ).loc main_v42) = val_main_v42 (F := Ideal) (m ((c.tc : Thread nD τ).loc main_arg0)) (m ((c.tc : Thread nD τ).loc main_arg1)) (m ((c.tc : Thread nD τ).loc main_arg2))
      ∧ r.2.mem ((c.tc : Thread nD τ).loc main_v43) = val_main_v43 (F := Ideal) (m ((c.tc : Thread nD τ).loc main_arg0)) (m ((c.tc : Thread nD τ).loc main_arg1)) (m ((c.tc : Thread nD τ).loc main_arg2))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg2))
      ∧ r.2.mem ((c.tc : Thread nD τ).loc main_v45) = val_main_v45 (F := Ideal) (m ((c.tc : Thread nD τ).loc main_arg0)) (m ((c.tc : Thread nD τ).loc main_arg1)) (m ((c.tc : Thread nD τ).loc main_arg2))
      ∧ r.2.mem ((c.tc : Thread nD τ).loc main_v47) = val_main_v47 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v41_eq _ _ _), (h c).2.1.trans (val_main_v42_eq _ _ _), (h c).2.2.1.trans (val_main_v43_eq _ _ _),
    (h c).2.2.2.1.trans (val_main_v44_eq _ _ _), (h c).2.2.2.2.1.trans (val_main_v45_eq _ _ _), (h c).2.2.2.2.2.1.trans (val_main_v47_eq _ _), (h c).2.2.2.2.2.2⟩)
    (Cert.PrenormReferenceIdeal.Value.run (F := Ideal) m ρ)

/-- The frame of the reference, which declares no semaphore. -/
theorem frameReference : Cert.quiescent_PrenormReferenceIdeal := fun m ρ _ =>
  (θ_run Cert.PrenormReferenceIdeal.defs _ _).mono (fun _ h => ⟨fun c => (h c).2.2.2.2.2.2, funext nofun⟩) (refRun m ρ)

end Cert.Pn

end
-- ==== Proof.PrenormEq.lean ====
/- The normalisation-and-projection kernel and its reference agree. -/
module

public import proofs.«01_k».proof.Proof.PrenormArray
public import proofs.«01_k».proof.Proof.PrenormW
public import proofs.«01_k».proof.Proof.PrenormRef

@[expose] public section

set_option maxRecDepth 16384

noncomputable section

namespace Cert.Pn

open Cert.PrenormReferenceIdeal Cert.PrenormReferenceIdeal.Gen Cert.PrenormReferenceIdeal.Read Idealize.ShloMosaic Idealize.ShloMosaic.TcCoe Idealize.SL.Sem Idealize.ShloMosaic.StableHlo

variable (x0 : S8192x1024.Idx → EReal) (x1 : S1x1024.Idx → EReal) (x2 : S4x1024x2176.Idx → EReal)

/-- The mean square. -/
theorem v6_at (n : Fin 8192) : val_main_v6 (F := Ideal) x0 (ix2 n 0) = ms x0 n := by
  unfold val_main_v6 val_main_v5 val_main_v4 val_main_v3 val_main_v2 val_main_v1 val_main_v0 val_main_cst val_main_cst_0 val_main_cst_1
  pointwise
  rfl

/-- The normalised rows. -/
theorem v11_at (n : Fin 8192) (k : Fin 1024) : val_main_v11 (F := Ideal) x0 x1 (ix2 n k) = hid x0 x1 n k := by
  have e : val_main_v7 (F := Ideal) x0 (ix2 n 0) = Ideal.rsqrt (ms x0 n) := congrArg Ideal.rsqrt (v6_at x0 n)
  unfold val_main_v11 val_main_v10 val_main_v9 val_main_v8
  generalize val_main_v7 (F := Ideal) x0 = y at e ⊢
  pointwise
  rw [e]
  rfl

/-- A slice of shard 0. -/
theorem v20_at (k : Fin 1024) (l : Fin 2048) : val_main_v20 (F := Ideal) x2 (ix2 k l) = el x2 0 k (0 + l.val) := by
  rw [val_main_v20_apply, val_main_v13_apply, val_main_v12_apply]
  have hk : k.val < 1024 := k.isLt
  have hl : l.val < 2048 := l.isLt
  refine congrArg x2 ?_
  funext d
  match d with
  | ⟨0, _⟩ => exact Fin.ext rfl
  | ⟨1, _⟩ =>
    refine Fin.ext ?_
    show (k.val * 2176 + (l.val)) / 2176 % 1024 = k.val
    omega
  | ⟨2, _⟩ =>
    refine Fin.ext ?_
    show (k.val * 2176 + (l.val)) % 2176 = (0 + l.val) % 2176
    omega

/-- A slice of shard 0. -/
theorem v21_at (k : Fin 1024) (l : Fin 128) : val_main_v21 (F := Ideal) x2 (ix2 k l) = el x2 0 k (2048 + l.val) := by
  rw [val_main_v21_apply, val_main_v13_apply, val_main_v12_apply]
  have hk : k.val < 1024 := k.isLt
  have hl : l.val < 128 := l.isLt
  refine congrArg x2 ?_
  funext d
  match d with
  | ⟨0, _⟩ => exact Fin.ext rfl
  | ⟨1, _⟩ =>
    refine Fin.ext ?_
    show (k.val * 2176 + (2048 + l.val)) / 2176 % 1024 = k.val
    omega
  | ⟨2, _⟩ =>
    refine Fin.ext ?_
    show (k.val * 2176 + (2048 + l.val)) % 2176 = (2048 + l.val) % 2176
    omega

/-- A slice of shard 1. -/
theorem v22_at (k : Fin 1024) (l : Fin 128) : val_main_v22 (F := Ideal) x2 (ix2 k l) = el x2 1 k (0 + l.val) := by
  rw [val_main_v22_apply, val_main_v15_apply, val_main_v14_apply]
  have hk : k.val < 1024 := k.isLt
  have hl : l.val < 128 := l.isLt
  refine congrArg x2 ?_
  funext d
  match d with
  | ⟨0, _⟩ => exact Fin.ext rfl
  | ⟨1, _⟩ =>
    refine Fin.ext ?_
    show (k.val * 2176 + (l.val)) / 2176 % 1024 = k.val
    omega
  | ⟨2, _⟩ =>
    refine Fin.ext ?_
    show (k.val * 2176 + (l.val)) % 2176 = (0 + l.val) % 2176
    omega

/-- A slice of shard 1. -/
theorem v24_at (k : Fin 1024) (l : Fin 2048) : val_main_v24 (F := Ideal) x2 (ix2 k l) = el x2 1 k (128 + l.val) := by
  rw [val_main_v24_apply, val_main_v15_apply, val_main_v14_apply]
  have hk : k.val < 1024 := k.isLt
  have hl : l.val < 2048 := l.isLt
  refine congrArg x2 ?_
  funext d
  match d with
  | ⟨0, _⟩ => exact Fin.ext rfl
  | ⟨1, _⟩ =>
    refine Fin.ext ?_
    show (k.val * 2176 + (128 + l.val)) / 2176 % 1024 = k.val
    omega
  | ⟨2, _⟩ =>
    refine Fin.ext ?_
    show (k.val * 2176 + (128 + l.val)) % 2176 = (128 + l.val) % 2176
    omega

/-- A slice of shard 2. -/
theorem v25_at (k : Fin 1024) (l : Fin 2048) : val_main_v25 (F := Ideal) x2 (ix2 k l) = el x2 2 k (0 + l.val) := by
  rw [val_main_v25_apply, val_main_v17_apply, val_main_v16_apply]
  have hk : k.val < 1024 := k.isLt
  have hl : l.val < 2048 := l.isLt
  refine congrArg x2 ?_
  funext d
  match d with
  | ⟨0, _⟩ => exact Fin.ext rfl
  | ⟨1, _⟩ =>
    refine Fin.ext ?_
    show (k.val * 2176 + (l.val)) / 2176 % 1024 = k.val
    omega
  | ⟨2, _⟩ =>
    refine Fin.ext ?_
    show (k.val * 2176 + (l.val)) % 2176 = (0 + l.val) % 2176
    omega

/-- A slice of shard 2. -/
theorem v26_at (k : Fin 1024) (l : Fin 128) : val_main_v26 (F := Ideal) x2 (ix2 k l) = el x2 2 k (2048 + l.val) := by
  rw [val_main_v26_apply, val_main_v17_apply, val_main_v16_apply]
  have hk : k.val < 1024 := k.isLt
  have hl : l.val < 128 := l.isLt
  refine congrArg x2 ?_
  funext d
  match d with
  | ⟨0, _⟩ => exact Fin.ext rfl
  | ⟨1, _⟩ =>
    refine Fin.ext ?_
    show (k.val * 2176 + (2048 + l.val)) / 2176 % 1024 = k.val
    omega
  | ⟨2, _⟩ =>
    refine Fin.ext ?_
    show (k.val * 2176 + (2048 + l.val)) % 2176 = (2048 + l.val) % 2176
    omega

/-- A slice of shard 3. -/
theorem v27_at (k : Fin 1024) (l : Fin 128) : val_main_v27 (F := Ideal) x2 (ix2 k l) = el x2 3 k (0 + l.val) := by
  rw [val_main_v27_apply, val_main_v19_apply, val_main_v18_apply]
  have hk : k.val < 1024 := k.isLt
  have hl : l.val < 128 := l.isLt
  refine congrArg x2 ?_
  funext d
  match d with
  | ⟨0, _⟩ => exact Fin.ext rfl
  | ⟨1, _⟩ =>
    refine Fin.ext ?_
    show (k.val * 2176 + (l.val)) / 2176 % 1024 = k.val
    omega
  | ⟨2, _⟩ =>
    refine Fin.ext ?_
    show (k.val * 2176 + (l.val)) % 2176 = (0 + l.val) % 2176
    omega

/-- A slice of shard 3. -/
theorem v29_at (k : Fin 1024) (l : Fin 2048) : val_main_v29 (F := Ideal) x2 (ix2 k l) = el x2 3 k (128 + l.val) := by
  rw [val_main_v29_apply, val_main_v19_apply, val_main_v18_apply]
  have hk : k.val < 1024 := k.isLt
  have hl : l.val < 2048 := l.isLt
  refine congrArg x2 ?_
  funext d
  match d with
  | ⟨0, _⟩ => exact Fin.ext rfl
  | ⟨1, _⟩ =>
    refine Fin.ext ?_
    show (k.val * 2176 + (128 + l.val)) / 2176 % 1024 = k.val
    omega
  | ⟨2, _⟩ =>
    refine Fin.ext ?_
    show (k.val * 2176 + (128 + l.val)) % 2176 = (128 + l.val) % 2176
    omega

/-- The gathered weights, as the reference assembles them. -/
theorem v30_at (k : Fin 1024) (p : Fin 8448) : val_main_v30 (F := Ideal) x2 (ix2 k p) = gathered x2 k p.val := by
  have e20 := v20_at x2
  have e23 : ∀ (k : Fin 1024) (l : Fin 128), val_main_v23 (F := Ideal) x2 (ix2 k l) = el x2 0 k (2048 + l.val) + el x2 1 k (0 + l.val) :=
    fun k l => congrArg₂ (· + ·) (v21_at x2 k l) (v22_at x2 k l)
  have e24 := v24_at x2
  have e25 := v25_at x2
  have e28 : ∀ (k : Fin 1024) (l : Fin 128), val_main_v28 (F := Ideal) x2 (ix2 k l) = el x2 2 k (2048 + l.val) + el x2 3 k (0 + l.val) :=
    fun k l => congrArg₂ (· + ·) (v26_at x2 k l) (v27_at x2 k l)
  have e29 := v29_at x2
  unfold val_main_v30
  generalize val_main_v20 (F := Ideal) x2 = y20 at e20 ⊢
  generalize val_main_v23 (F := Ideal) x2 = y23 at e23 ⊢
  generalize val_main_v24 (F := Ideal) x2 = y24 at e24 ⊢
  generalize val_main_v25 (F := Ideal) x2 = y25 at e25 ⊢
  generalize val_main_v28 (F := Ideal) x2 = y28 at e28 ⊢
  generalize val_main_v29 (F := Ideal) x2 = y29 at e29 ⊢
  pointwise
  have hp : p.val < 8448 := p.isLt
  unfold gathered
  by_cases h1 : p.val < 2048
  · rw [dif_pos h1, if_pos h1, e20]
    exact congrArg (el x2 0 k) (by dsimp only; omega)
  rw [dif_neg h1, if_neg h1]
  by_cases h2 : p.val < 2176
  · rw [dif_pos (by omega), if_pos h2, e23]
    exact congrArg₂ (fun a b => el x2 0 k a + el x2 1 k b) (by dsimp only; omega) (by dsimp only; omega)
  rw [dif_neg (by omega), if_neg h2]
  by_cases h3 : p.val < 4224
  · rw [dif_pos (by omega), if_pos h3, e24]
    exact congrArg (el x2 1 k) (by dsimp only; omega)
  rw [dif_neg (by omega), if_neg h3]
  by_cases h4 : p.val < 6272
  · rw [dif_pos (by omega), if_pos h4, e25]
    exact congrArg (el x2 2 k) (by dsimp only; omega)
  rw [dif_neg (by omega), if_neg h4]
  by_cases h5 : p.val < 6400
  · rw [dif_pos (by omega), if_pos h5, e28]
    exact congrArg₂ (fun a b => el x2 2 k a + el x2 3 k b) (by dsimp only; omega) (by dsimp only; omega)
  rw [dif_neg (by omega), if_neg h5, e29]
  exact congrArg (el x2 3 k) (by dsimp only; omega)

/-- The product. -/
theorem v32_at (n : Fin 8192) (p : Fin 8448) : val_main_v32 (F := Ideal) x0 x1 x2 (ix2 n p) = ∑ k, hid x0 x1 n k * gathered x2 k p.val := by
  rw [val_main_v32_apply]
  refine Finset.sum_congr rfl fun k _ => ?_
  refine congrArg₂ (· * ·) ((congrArg (val_main_v11 (F := Ideal) x0 x1) ?_).trans (v11_at x0 x1 n k)) ?_
  · funext d; match d with | ⟨0, _⟩ => rfl | ⟨1, _⟩ => rfl
  · refine Eq.trans ?_ (v30_at x2 k p)
    exact congrArg (val_main_v30 (F := Ideal) x2) (by funext d; match d with | ⟨0, _⟩ => rfl | ⟨1, _⟩ => rfl)

/-- The kernel's product, on the same terms. -/
theorem proj_at (n : Fin 8192) (q : Fin 8448) (p : Fin 8448) (hp : perm q.val = p.val) :
    proj x0 x1 (Cert.PrenormIdeal.Hand.W10 (F := Ideal) x2) n q = val_main_v32 (F := Ideal) x0 x1 x2 (ix2 n p) := by
  rw [v32_at, ← hp]
  unfold proj
  exact Finset.sum_congr rfl fun k _ => congrArg₂ (· * ·) rfl (W10_at x2 k q)

/-- The first piece, its columns regrouped tile by tile. -/
theorem v36_at (n : Fin 8192) (q : Fin 4096) (p : Fin 8448) (hp : perm q.val = p.val) :
    val_main_v36 (F := Ideal) x0 x1 x2 (ix2 n q) = val_main_v32 (F := Ideal) x0 x1 x2 (ix2 n p) := by
  rw [val_main_v36_apply, val_main_v35_apply, val_main_v34_apply, val_main_v33_apply]
  have hn : n.val < 8192 := n.isLt
  have hc : q.val < 4096 := q.isLt
  have a1 : (n.val * 4096 + q.val) / 4096 = n.val := by omega
  have a2 : (n.val * 4096 + q.val) / 512 % 8 = q.val / 512 := by omega
  have a3 : (n.val * 4096 + q.val) / 128 % 4 = q.val / 128 % 4 := by omega
  have a4 : (n.val * 4096 + q.val) % 128 = q.val % 128 := by omega
  have ep : p.val = q.val / 128 % 4 * 1024 + q.val / 512 * 128 + q.val % 128 := by
    rw [← hp]; exact if_pos hc
  refine congrArg (val_main_v32 (F := Ideal) x0 x1 x2) ?_
  have b1 : q.val / 128 % 4 < 4 := by omega
  have b2 : q.val / 512 < 8 := by omega
  have b3 : q.val % 128 < 128 := by omega
  funext d
  match d with
  | ⟨0, _⟩ =>
    refine Fin.ext ?_
    show ((((n.val * 4096 + q.val) / 4096 * 4 + (n.val * 4096 + q.val) / 128 % 4) * 8 + (n.val * 4096 + q.val) / 512 % 8) * 128
      + (n.val * 4096 + q.val) % 128) / 4096 = n.val
    rw [a1, a2, a3, a4]
    generalize q.val / 128 % 4 = u at b1 ⊢
    generalize q.val / 512 = v at b2 ⊢
    generalize q.val % 128 = w at b3 ⊢
    omega
  | ⟨1, _⟩ =>
    refine Fin.ext (Eq.trans ?_ ep.symm)
    show ((((n.val * 4096 + q.val) / 4096 * 4 + (n.val * 4096 + q.val) / 128 % 4) * 8 + (n.val * 4096 + q.val) / 512 % 8) * 128
      + (n.val * 4096 + q.val) % 128) % 4096 = _
    rw [a1, a2, a3, a4]
    generalize q.val / 128 % 4 = u at b1 ⊢
    generalize q.val / 512 = v at b2 ⊢
    generalize q.val % 128 = w at b3 ⊢
    omega

/-- The first piece agrees. -/
theorem eq41 : colsArr 0 4096 (by norm_num) x0 x1 (Cert.PrenormIdeal.Hand.W10 (F := Ideal) x2) = val_main_v41 (F := Ideal) x0 x1 x2 := by
  funext i
  idx_vars i
  have h1 : i1.val < 4096 := i1.isLt
  have hb : i1.val / 128 % 4 * 1024 + i1.val / 512 * 128 + i1.val % 128 < 8448 := by omega
  refine (colsArr_at 0 4096 _ _ _ _ i0 i1 _ rfl rfl).trans ?_
  refine (proj_at x0 x1 x2 i0 _ ⟨_, hb⟩ ?_).trans (v36_at x0 x1 x2 i0 i1 ⟨_, hb⟩ (if_pos h1)).symm
  show perm (0 + i1.val) = _
  rw [Nat.zero_add]
  exact if_pos h1

/-- The piece of the columns from 4096 on agrees. -/
theorem eq42 : colsArr 4096 1024 (by norm_num) x0 x1 (Cert.PrenormIdeal.Hand.W10 (F := Ideal) x2) = val_main_v42 (F := Ideal) x0 x1 x2 := by
  funext i
  idx_vars i
  have h1 : i1.val < 1024 := i1.isLt
  refine (colsArr_at 4096 1024 _ _ _ _ i0 i1 _ rfl rfl).trans ?_
  refine (proj_at x0 x1 x2 i0 _ ⟨4096 + i1.val, by omega⟩ (if_neg (by dsimp only; omega))).trans ?_
  refine Eq.trans ?_ (val_main_v37_apply (F := Ideal) x0 x1 x2 (ix2 i0 i1)).symm
  exact congrArg (val_main_v32 (F := Ideal) x0 x1 x2) (by funext d; match d with | ⟨0, _⟩ => rfl | ⟨1, _⟩ => rfl)

/-- The piece of the columns from 5120 on agrees. -/
theorem eq43 : colsArr 5120 256 (by norm_num) x0 x1 (Cert.PrenormIdeal.Hand.W10 (F := Ideal) x2) = val_main_v43 (F := Ideal) x0 x1 x2 := by
  funext i
  idx_vars i
  have h1 : i1.val < 256 := i1.isLt
  refine (colsArr_at 5120 256 _ _ _ _ i0 i1 _ rfl rfl).trans ?_
  refine (proj_at x0 x1 x2 i0 _ ⟨5120 + i1.val, by omega⟩ (if_neg (by dsimp only; omega))).trans ?_
  refine Eq.trans ?_ (val_main_v38_apply (F := Ideal) x0 x1 x2 (ix2 i0 i1)).symm
  exact congrArg (val_main_v32 (F := Ideal) x0 x1 x2) (by funext d; match d with | ⟨0, _⟩ => rfl | ⟨1, _⟩ => rfl)

/-- The piece of the columns from 5376 on agrees. -/
theorem eq44 : colsArr 5376 1024 (by norm_num) x0 x1 (Cert.PrenormIdeal.Hand.W10 (F := Ideal) x2) = val_main_v44 (F := Ideal) x0 x1 x2 := by
  funext i
  idx_vars i
  have h1 : i1.val < 1024 := i1.isLt
  refine (colsArr_at 5376 1024 _ _ _ _ i0 i1 _ rfl rfl).trans ?_
  refine (proj_at x0 x1 x2 i0 _ ⟨5376 + i1.val, by omega⟩ (if_neg (by dsimp only; omega))).trans ?_
  refine Eq.trans ?_ (val_main_v39_apply (F := Ideal) x0 x1 x2 (ix2 i0 i1)).symm
  exact congrArg (val_main_v32 (F := Ideal) x0 x1 x2) (by funext d; match d with | ⟨0, _⟩ => rfl | ⟨1, _⟩ => rfl)

/-- The piece of the columns from 6400 on agrees. -/
theorem eq45 : colsArr 6400 2048 (by norm_num) x0 x1 (Cert.PrenormIdeal.Hand.W10 (F := Ideal) x2) = val_main_v45 (F := Ideal) x0 x1 x2 := by
  funext i
  idx_vars i
  have h1 : i1.val < 2048 := i1.isLt
  refine (colsArr_at 6400 2048 _ _ _ _ i0 i1 _ rfl rfl).trans ?_
  refine (proj_at x0 x1 x2 i0 _ ⟨6400 + i1.val, by omega⟩ (if_neg (by dsimp only; omega))).trans ?_
  refine Eq.trans ?_ (val_main_v40_apply (F := Ideal) x0 x1 x2 (ix2 i0 i1)).symm
  exact congrArg (val_main_v32 (F := Ideal) x0 x1 x2) (by funext d; match d with | ⟨0, _⟩ => rfl | ⟨1, _⟩ => rfl)

/-- The transposed rows agree. -/
theorem eq47 : hidArr x0 x1 = val_main_v47 (F := Ideal) x0 x1 := by
  funext i
  idx_vars i
  refine (hidArr_at x0 x1 i1 i0 _ rfl rfl).trans ?_
  refine (v11_at x0 x1 i1 i0).symm.trans ?_
  refine Eq.trans ?_ (val_main_v46_apply (F := Ideal) x0 x1 (ix2 i0 i1)).symm
  exact congrArg (val_main_v11 (F := Ideal) x0 x1) (by funext d; match d with | ⟨0, _⟩ => rfl | ⟨1, _⟩ => rfl)

/-- The claim of equal results. -/
theorem algebraic : Cert.algebraic_PrenormIdeal_PrenormReferenceIdeal := by
  intro m g m' g' hpre hagree
  refine ⟨_, _, _, _, _, _, run m g, ?_⟩
  refine (θ_run _ _ _).mono (fun r h c => ?_) (refRun m' g')
  obtain ⟨e0, e1, e2⟩ := hagree c
  obtain ⟨h0, h1, h2, h3, h4, h5, hargs⟩ := h c
  rw [e0, e1, e2] at h0 h1 h2 h3 h4
  rw [e0, e1] at h5
  exact ⟨h0.trans (eq41 ..).symm, h1.trans (eq42 ..).symm, h2.trans (eq43 ..).symm, h3.trans (eq44 ..).symm, h4.trans (eq45 ..).symm,
    h5.trans (eq47 ..).symm, hargs⟩

end Cert.Pn

end
-- ==== Proof.PrenormGradRuns.lean ====
/- The set-up of the run of the normalisation-and-projection kernel: windows, blocks, conditions, invariant. -/
module

public import proofs.«01_k».proof.Proof.Gen.PrenormGradIdeal.Launch
public import proofs.«01_k».proof.Proof.Gen.PrenormGradIdeal.Skeleton
public import proofs.«01_k».proof.Proof.Gen.PrenormGradIdeal.Points
public import Idealize.ShloMosaic.Lib.Pipeline.FrameBody
public import Idealize.ShloMosaic.Lib.Ring
public import Idealize.ShloMosaic.Lib.Tactic
public import Idealize.ShloMosaic.Lib.WordCmp

@[expose] public section

-- the blocks' axes are long
set_option maxRecDepth 16384

noncomputable section

namespace Cert.PrenormGradIdeal.Hand

open Cert.PrenormGradIdeal Cert.PrenormGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Argument 0 is what the launch finds. -/
theorem V_main_arg0 (c : Dev nD) : V m c main_arg0 = m ((c : Thread nD τ).loc main_arg0) := rfl
/-- Argument 1 is what the launch finds. -/
theorem V_main_arg1 (c : Dev nD) : V m c main_arg1 = m ((c : Thread nD τ).loc main_arg1) := rfl
/-- Argument 2 is what the launch finds. -/
theorem V_main_arg2 (c : Dev nD) : V m c main_arg2 = m ((c : Thread nD τ).loc main_arg2) := rfl
/-- Argument 3 is what the launch finds. -/
theorem V_main_arg3 (c : Dev nD) : V m c main_arg3 = m ((c : Thread nD τ).loc main_arg3) := rfl
/-- Argument 4 is what the launch finds. -/
theorem V_main_arg4 (c : Dev nD) : V m c main_arg4 = m ((c : Thread nD τ).loc main_arg4) := rfl
/-- Argument 5 is what the launch finds. -/
theorem V_main_arg5 (c : Dev nD) : V m c main_arg5 = m ((c : Thread nD τ).loc main_arg5) := rfl
/-- Argument 6 is what the launch finds. -/
theorem V_main_arg6 (c : Dev nD) : V m c main_arg6 = m ((c : Thread nD τ).loc main_arg6) := rfl
/-- Argument 7 is what the launch finds. -/
theorem V_main_arg7 (c : Dev nD) : V m c main_arg7 = m ((c : Thread nD τ).loc main_arg7) := rfl
/-- Argument 8 is what the launch finds. -/
theorem V_main_arg8 (c : Dev nD) : V m c main_arg8 = m ((c : Thread nD τ).loc main_arg8) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_PrenormIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (V_main_arg8 m c)⟩) h

/-! ## The body's branch condition -/

/-- The condition under which the body loads the weights, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : cond0_0 (grid0.coords t) ↔ t.val / 1 % 16 = 0 := by
      simp only [cond0_0, e0]
      word_cmp
    rw [e1]; omega
   : ∀ t : Fin grid0.N, cond0_0 (grid0.coords t) ↔ t.val = 0)

/-- One staging buffer of output window 8, through which its contents are stated. -/
abbrev VO0_8 : View sig .tc .vmem S512x1024 .f32 := (Memref.whole cc0_stg8_0 : Memref sig .tc .vmem S512x1024 .f32).view
/-- One staging buffer of output window 9, through which its contents are stated. -/
abbrev VO0_9 : View sig .tc .vmem S8x1024 .f32 := (Memref.whole cc0_stg9_0 : Memref sig .tc .vmem S8x1024 .f32).view
/-- Window 0's block at a point. -/
abbrev ms0_0 (t : Fin cfg0.N) : Memref sig .tc .vmem S512x4096 .bf16 := win0_0.stage (cfg0.slots t 0)
/-- It is a whole buffer. -/
abbrev hs0_0 (t : Fin cfg0.N) : (ms0_0 t).IsWhole := hstage0_0 ((cfg0.slots t 0).cast nbuf0_0)
/-- Window 1's block at a point. -/
abbrev ms0_1 (t : Fin cfg0.N) : Memref sig .tc .vmem S512x1024 .bf16 := win0_1.stage (cfg0.slots t 1)
/-- It is a whole buffer. -/
abbrev hs0_1 (t : Fin cfg0.N) : (ms0_1 t).IsWhole := hstage0_1 ((cfg0.slots t 1).cast nbuf0_1)
/-- Window 2's block at a point. -/
abbrev ms0_2 (t : Fin cfg0.N) : Memref sig .tc .vmem S512x256 .bf16 := win0_2.stage (cfg0.slots t 2)
/-- It is a whole buffer. -/
abbrev hs0_2 (t : Fin cfg0.N) : (ms0_2 t).IsWhole := hstage0_2 ((cfg0.slots t 2).cast nbuf0_2)
/-- Window 3's block at a point. -/
abbrev ms0_3 (t : Fin cfg0.N) : Memref sig .tc .vmem S512x1024 .bf16 := win0_3.stage (cfg0.slots t 3)
/-- It is a whole buffer. -/
abbrev hs0_3 (t : Fin cfg0.N) : (ms0_3 t).IsWhole := hstage0_3 ((cfg0.slots t 3).cast nbuf0_3)
/-- Window 4's block at a point. -/
abbrev ms0_4 (t : Fin cfg0.N) : Memref sig .tc .vmem S512x2048 .bf16 := win0_4.stage (cfg0.slots t 4)
/-- It is a whole buffer. -/
abbrev hs0_4 (t : Fin cfg0.N) : (ms0_4 t).IsWhole := hstage0_4 ((cfg0.slots t 4).cast nbuf0_4)
/-- Window 5's block at a point. -/
abbrev ms0_5 (t : Fin cfg0.N) : Memref sig .tc .vmem S512x1024 .f32 := win0_5.stage (cfg0.slots t 5)
/-- It is a whole buffer. -/
abbrev hs0_5 (t : Fin cfg0.N) : (ms0_5 t).IsWhole := hstage0_5 ((cfg0.slots t 5).cast nbuf0_5)
/-- Window 6's block at a point. -/
abbrev ms0_6 (t : Fin cfg0.N) : Memref sig .tc .vmem S512x1024 .f32 := win0_6.stage (cfg0.slots t 6)
/-- It is a whole buffer. -/
abbrev hs0_6 (t : Fin cfg0.N) : (ms0_6 t).IsWhole := hstage0_6 ((cfg0.slots t 6).cast nbuf0_6)
/-- Window 7's block at a point. -/
abbrev ms0_7 (t : Fin cfg0.N) : Memref sig .tc .vmem S1x1024 .f32 := win0_7.stage (cfg0.slots t 7)
/-- It is a whole buffer. -/
abbrev hs0_7 (t : Fin cfg0.N) : (ms0_7 t).IsWhole := hstage0_7 ((cfg0.slots t 7).cast nbuf0_7)
/-- Window 8's block at a point. -/
abbrev ms0_8 (t : Fin cfg0.N) : Memref sig .tc .vmem S512x1024 .f32 := win0_8.stage (cfg0.slots t 8)
/-- It is a whole buffer. -/
abbrev hs0_8 (t : Fin cfg0.N) : (ms0_8 t).IsWhole := hstage0_8 ((cfg0.slots t 8).cast nbuf0_8)
/-- Window 9's block at a point. -/
abbrev ms0_9 (t : Fin cfg0.N) : Memref sig .tc .vmem S8x1024 .f32 := win0_9.stage (cfg0.slots t 9)
/-- It is a whole buffer. -/
abbrev hs0_9 (t : Fin cfg0.N) : (ms0_9 t).IsWhole := hstage0_9 ((cfg0.slots t 9).cast nbuf0_9)
/-- The scratch that holds the assembled weights, and the one for the two tiles that are sums of halves. -/
abbrev scM0_0 : Memref sig .tc .vmem S1024x8448 .bf16 := Memref.whole cc0_scratch0
/-- The scratch of the halves. -/
abbrev scM0_1 : Memref sig .tc .vmem S4x1024x128 .bf16 := Memref.whole cc0_scratch1
/-- The weights as they are stored, left in HBM, whole. -/
abbrev hbM0_0 : Memref sig .tc .hbm S4x1024x2176 .bf16 := Memref.whole main_arg8
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
/-- A buffer held whole at given contents. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA counters. -/
abbrev osem0 : Fin 2 → SemLoc sig := fun j => (![SemLoc.dma 18, SemLoc.dma 19] : Fin 2 → SemLoc sig) j
/-- The body's counters are not the pipeline's. -/
theorem ownSemFacts0 : Pipeline.OwnSemFacts spec0 osem0 := by decide
/-- The counters at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0 ∗ semVal ((c : Thread nD τ), SemLoc.dma 19) 0) := by
  rw [Pipeline.ownSems0_eq_of_list c osem0 [0, 1] (by decide) (by decide)]; rfl
/-- The operand the body copies from itself. -/
def H0 : Finset (Ref sig .tc) := {main_arg8}
/-- That operand is not a window of the pipeline. -/
theorem H0_sub : H0 ⊆ Pipeline.restRefs sig spec0 := by decide
/-- It is held at what the launch finds in it. -/
theorem hbmPts0_eq (c : Dev nD) :
    (bigSep H0 (fun b => ((c : Thread nD τ).loc b) ↦{fullShare} V m c b) : sProp 𝕄) = iprop(hbPt0 c hbM0_0 (V m c main_arg8)) := by
  rw [BI.bigSep_eq_bigSepL_of_eq [main_arg8] (by decide) (by decide)]; rfl

/-- What a body with transfers of its own keeps between points, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 18) 0 ∗ semVal ((c : Thread nD τ), SemLoc.dma 19) 0) ∗ iprop(hbPt0 c hbM0_0 (V m c main_arg8))) := by
  rw [Pipeline.ΦD_eq, scopedRest0_eq, ownSems00_eq, hbmPts0_eq]; simp only [scM0_0, scM0_1, owns_whole]; try rfl

end Cert.PrenormGradIdeal.Hand

end
-- ==== Proof.PrenormGradRun.lean ====
/- The kernel of the gradient at the normalised rows: the run of a grid point that finds the weights gathered. -/
module

public import proofs.«01_k».proof.Proof.PrenormGradRuns
public import Idealize.ShloMosaic.Lib.MixedBatch
public import Idealize.ShloMosaic.Lib.ValueIdx
public import Idealize.ShloMosaic.Lib.ValueLayout

@[expose] public section

-- the blocks' axes are long
set_option maxRecDepth 16384

noncomputable section

namespace Cert.PrenormGradIdeal.Hand

open Cert.PrenormGradIdeal Cert.PrenormGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large)
set_option maxHeartbeats 1000000 in
/-- The body at a grid point that does not load, run once: what its stores leave in each output, and the proof that it runs.  It reads the weights the
    scratch holds; the inputs and the scratch are left as they were. -/
noncomputable def kernelRun0 (c : Dev nD) (i : grid0.Coords) (arg1 : Memref sig .tc .vmem S512x4096 .bf16) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg10 : Memref sig .tc .vmem S512x1024 .f32) (harg10 : arg10.IsWhole) (arg11 : Memref sig .tc .vmem S8x1024 .f32) (harg11 : arg11.IsWhole)
    (hc0 : ¬ cond0_0 i) (x1 : Vec F S512x4096 .bf16) (x2 : Vec F S512x1024 .bf16) (x3 : Vec F S512x256 .bf16) (x4 : Vec F S512x1024 .bf16) (x5 : Vec F S512x2048 .bf16) (x6 : Vec F S512x1024 .f32) (x7 : Vec F S512x1024 .f32) (x8 : Vec F S1x1024 .f32) (x11 : Vec F S8x1024 .f32) (xs0 : Vec F S1024x8448 .bf16) :
    Σ' (L10 : List (View.Piece (Elt F) S512x1024 .f32)), { L11 : List (View.Piece (Elt F) S8x1024 .f32) //
      ∀ (W : Waits sig Unit) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg10 fullShare d) ∗ owns (c : Thread nD τ) arg11 fullShare x11 ∗ owns (c : Thread nD τ) scM0_0 fullShare xs0 ∗ owes (c : Thread nD τ) (0 : CellTallies nD τ sig Unit) W
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg10.view.loc (c : Thread nD τ) ↦[arg10.view.set]{fullShare} arg10.view.writes (Elt F) f L10) ∗ (arg11.view.loc (c : Thread nD τ) ↦[arg11.view.set]{fullShare} arg11.view.writes (Elt F) (harg11.unread x11) L11) ∗ owns (c : Thread nD τ) scM0_0 fullShare xs0 ∗ (∃ W', owes (c : Thread nD τ) (0 : CellTallies nD τ sig Unit) W')) -∗ K ⟨⟩))
          ⊢ wp frame (wpE (defs₀ (F := F)) Variants.none c none) Set.univ (cc0_dh_prenorm i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) K } := by
  refine ⟨?_, ?_, fun W K => ?run⟩
  case run =>
    simp only [cc0_dh_prenorm_eq_skeleton]; unfold cc0_dh_prenorm_skel
    simp only [k0_part9_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%f11, %hf11, H11⟩, ⟨%fs0, %hfs0, HS0⟩, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11; obtain rfl := (Memref.isWhole_whole cc0_scratch0).eq_unread hfs0
    sl_exec (disch := first | sl_exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H10]; · iexists _; iexact H10
    isplitl [H11]; · iexact H11
    isplitl [HS0]
    · iexists _; isplitr; · ipureintro; exact (Memref.isWhole_whole cc0_scratch0).read_unread _
      iexact HS0
    iexists _; iexact HW

end Cert.PrenormGradIdeal.Hand

end
-- ==== Proof.PrenormGradLoad.lean ====
/- The kernel of the gradient at the normalised rows: how the first grid point gathers the weights. -/
module

public import proofs.«01_k».proof.Proof.PrenormGradRuns
public import proofs.«01_k».proof.Proof.PrenormLoadAll
public import Idealize.ShloMosaic.Lib.MixedBatch
public import Idealize.ShloMosaic.Lib.ValueIdx
public import Idealize.ShloMosaic.Lib.ValueLayout

@[expose] public section

-- the blocks' axes are long
set_option maxRecDepth 16384

noncomputable section

namespace Cert.PrenormGradIdeal.Hand

open Cert.PrenormGradIdeal Cert.PrenormGradIdeal.Gen
open Cert.PrenormIdeal.Hand (o10 w10 k3 o3 k4 o4 rest rest_zero sub_rest rest_succ univ_sdiff_rest cols scols slot set_cols set_scols set_slot D10 S3 D11 S4 D10_disj S3_disj D11_disj S4_disj shN scN G10 G11)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Splitting off the next piece of a partly lent buffer. -/
theorem lend {ℓ : Loc nD τ sig} {q : PosShare TreeShare} {n : ℕ} (K : Fin n → Finset (Idx ℓ)) (f : Buf (Elt F) ℓ)
    (hK : ∀ a b, a ≠ b → Disjoint (K a) (K b)) (t : ℕ) (ht : t < n) :
    (ℓ ↦[rest K t]{q} f : sProp 𝕄) ⊢ iprop((ℓ ↦[K ⟨t, ht⟩]{q} f) ∗ ℓ ↦[rest K (t + 1)]{q} f) := by
  rw [← rest_succ K t ht]
  exact (pointsTo_split_subset (sub_rest K hK t ht)).1

/-- The pieces returned, all at contents `g`, over what was left at `f`: the whole buffer. -/
theorem regain {ℓ : Loc nD τ sig} {q : PosShare TreeShare} {n : ℕ} (K : Fin n → Finset (Idx ℓ)) (f g h : Buf (Elt F) ℓ)
    (hK : ∀ a b, a ≠ b → Disjoint (K a) (K b)) (hf : ∀ i ∈ rest K n, f i = h i) (hg : ∀ j, ∀ i ∈ K j, g i = h i) :
    iprop((ℓ ↦[rest K n]{q} f) ∗ bigSep Finset.univ (fun j => (ℓ ↦[K j]{q} g))) ⊢ (ℓ ↦[Finset.univ]{q} h : sProp 𝕄) := by
  rw [← pointsTo_biUnion Finset.univ K (fun a _ b _ hab => hK a b hab), ← univ_sdiff_rest, pointsTo_congr hf,
    pointsTo_congr (f := g) (g := h) (fun i hi => by
      rw [univ_sdiff_rest] at hi
      obtain ⟨j, -, hj⟩ := Finset.mem_biUnion.mp hi
      exact hg j i hj)]
  exact (pointsTo_split_subset (Finset.subset_univ _)).2

/-! ## One copy issued -/

/-- The bytes each copy is counted by. -/
def A10 (j : Fin 33) : ℕ := (cc0_scratch0 : Ref sig .tc).dmaCredit ⟨2, ![1024, w10 j]⟩ .bf16
/-- The bytes of a half. -/
def A11 (_ : Fin 4) : ℕ := (cc0_scratch1 : Ref sig .tc).dmaCredit S1024x128 .bf16

variable (c : Dev nD) (x : Vec F S4x1024x2176 .bf16)

/-- The two buffers and the shards, piecewise. -/
abbrev p10 (I : Finset S1024x8448.Idx) (f : Vec F S1024x8448 .bf16) : sProp 𝕄 := scM0_0.view.loc (c : Thread nD τ) ↦[I]{fullShare} f
/-- The buffer of halves, piecewise. -/
abbrev p11 (I : Finset S4x1024x128.Idx) (f : Vec F S4x1024x128 .bf16) : sProp 𝕄 := scM0_1.view.loc (c : Thread nD τ) ↦[I]{fullShare} f
/-- The shards, piecewise. -/
abbrev p3 (q : PosShare TreeShare) (I : Finset S4x1024x2176.Idx) (f : Vec F S4x1024x2176 .bf16) : sProp 𝕄 := hbM0_0.view.loc (c : Thread nD τ) ↦[I]{q} f

/-- What each copy delivers. -/
def deliv10 (j : Fin 33) : sProp 𝕄 := iprop(p10 c (D10 j) (G10 x) ∗ p3 c fullShare.left (S3 j) x)
/-- What the copy of a half delivers. -/
def deliv11 (j : Fin 4) : sProp 𝕄 := iprop(p11 c (D11 j) (G11 x) ∗ p3 c fullShare.right (S4 j) x)

/-- After `t` copies on the first counter. -/
def St10 (f : Vec F S1024x8448 .bf16) (t : ℕ) : sProp 𝕄 :=
  iprop(p10 c (rest D10 t) f ∗ p3 c fullShare.left (rest S3 t) x ∗ Transfers.MixedBatch (Lvl := ℕ) (Name := ℕ) countersEmb (c : Thread nD τ) (SemLoc.dma 18) () A10 (deliv10 c x) t 0)
/-- After `t` copies on the second. -/
def St11 (f : Vec F S4x1024x128 .bf16) (t : ℕ) : sProp 𝕄 :=
  iprop(p11 c (rest D11 t) f ∗ p3 c fullShare.right (rest S4 t) x ∗ Transfers.MixedBatch (Lvl := ℕ) (Name := ℕ) countersEmb (c : Thread nD τ) (SemLoc.dma 19) () A11 (deliv11 c x) t 0)

/-- Where a piece's destination and source sit, element by element. -/
theorem at10 {k o o' w : ℕ} {inb inb'} {hr hr'} {sq} (hgeo : ∀ b < w, shN (o + b) = k ∧ scN (o + b) % 2176 = o' + b) (y : (⟨2, ![1024, w]⟩ : Shape).Idx) :
    (((hbM0_0.slice (Rect.unit (s := S4x1024x2176) ![k, 0, o'] ![1, 1024, w] inb') hr').squeeze ⟨2, ![1024, w]⟩ sq).view.read (Elt F) x) y
      = G10 x ((scM0_0.slice (Rect.unit (s := S1024x8448) ![0, o] ![1024, w] inb) hr).view.emb y) := by
  have hy : y = ValueIdx.ix2 (y 0 : Fin 1024) (y 1 : Fin w) := by
    funext a
    match a with
    | ⟨0, _⟩ => rfl
    | ⟨1, _⟩ => rfl
  obtain ⟨h1, h2⟩ := hgeo (y 1).val (y 1).isLt
  have e : Shape.reshapeEquiv sq.numel_eq y = ValueIdx.ix3 (⟨0, Nat.one_pos⟩ : Fin 1) (y 0 : Fin 1024) (y 1 : Fin w) :=
    (congrArg _ hy).trans (ValueIdx.reshapeEquiv_ix2_1ab (a := 1024) (b := w) sq.numel_eq (y 0 : Fin 1024) (y 1 : Fin w))
  show x ((Rect.unit (s := S4x1024x2176) ![k, 0, o'] ![1, 1024, w] inb').emb (Shape.reshapeEquiv sq.numel_eq y)) = x _
  rw [e]
  congr 1
  funext a
  apply Fin.ext
  match a with
  | ⟨0, _⟩ =>
    show k + 1 * 0 = shN (o + 1 * (y 1).val)
    rw [Nat.one_mul (y 1).val, h1]; rfl
  | ⟨1, _⟩ =>
    show 0 + 1 * (y 0).val = 0 + 1 * (y 0).val
    rfl
  | ⟨2, _⟩ =>
    show o' + 1 * (y 1).val = scN (o + 1 * (y 1).val) % 2176
    rw [Nat.one_mul (y 1).val, h2]

set_option maxHeartbeats 800000 in
/-- One copy on the first counter issued. -/
theorem step10 (f : Vec F S1024x8448 .bf16) (t : ℕ) (ht : t < 33) (k o o' w : ℕ)
    (hk : k3 ⟨t, ht⟩ = k) (ho : o10 ⟨t, ht⟩ = o) (ho' : o3 ⟨t, ht⟩ = o') (hw : w10 ⟨t, ht⟩ = w)
    (hgeo : ∀ b < w, shN (o + b) = k ∧ scN (o + b) % 2176 = o' + b)
    {inb inb'} {hr hr'} {sq} (sem : DmaSem sig) (hs : sem = (18 : Fin 20)) {h1 h2 h3} (Q : PUnit → sProp 𝕄) :
    St10 c x f t ⊢ iprop((St10 c x f (t + 1) -∗ Q ⟨⟩) -∗
      wp frame (wpE (defs₀ (F := F)) Variants.none (c : Thread nD τ) none) Set.univ
        (Prog.lift (.enqueueDma ((hbM0_0.slice (Rect.unit (s := S4x1024x2176) ![k, 0, o'] ![1, 1024, w] inb') hr').squeeze ⟨2, ![1024, w]⟩ sq)
          (.here (scM0_0.slice (Rect.unit (s := S1024x8448) ![0, o] ![1024, w] inb) hr)) (.dma sem) h1 h2 h3)) Q) := by
  subst hs
  have hd : D10 ⟨t, ht⟩ = cols o w := by unfold D10; rw [ho, hw]
  have hsS : S3 ⟨t, ht⟩ = scols k o' w := by unfold S3; rw [hk, ho', hw]
  have hset : (scM0_0.slice (Rect.unit (s := S1024x8448) ![0, o] ![1024, w] inb) hr).view.set = cols o w :=
    (View.set_slice_whole _ _).trans set_cols
  have hsrc : ((hbM0_0.slice (Rect.unit (s := S4x1024x2176) ![k, 0, o'] ![1, 1024, w] inb') hr').squeeze ⟨2, ![1024, w]⟩ sq).view.set = scols k o' w :=
    (View.set_reshape _ _).trans ((View.set_slice_whole _ _).trans set_scols)
  have hDs : (((hbM0_0.slice (Rect.unit (s := S4x1024x2176) ![k, 0, o'] ![1, 1024, w] inb') hr').squeeze ⟨2, ![1024, w]⟩ sq).view.loc (c : Thread nD τ)
      ↦[((hbM0_0.slice (Rect.unit (s := S4x1024x2176) ![k, 0, o'] ![1, 1024, w] inb') hr').squeeze ⟨2, ![1024, w]⟩ sq).view.set]{fullShare.left} x : sProp 𝕄)
      = p3 c fullShare.left (S3 ⟨t, ht⟩) x := by rw [hsrc, hsS]
  iintro H Hk
  unfold St10
  icases H with ⟨H10, H3, HB⟩
  ihave H10 := (lend D10 f D10_disj t ht) $$ H10
  icases H10 with ⟨Hd, H10⟩
  ihave H3 := (lend S3 x S3_disj t ht) $$ H3
  icases H3 with ⟨Hs, H3⟩
  iapply (Transfers.wp_dmaMixedBatch countersEmb Variants.none (c : Thread nD τ) none () A10 (Sd := D10 ⟨t, ht⟩) (fd := f) (fs := x) (q := fullShare.left)
    (D := deliv10 c x) (j := t) (u := 0) (hset.trans hd.symm).le ht (by unfold A10; rw [hw]) (Nat.zero_le _) (by
      unfold deliv10
      refine BI.sep_mono ?_ ?_
      · refine Entails.of_eq (pointsTo_congr fun i hi => ?_)
        rw [hd, ← hset] at hi
        obtain ⟨y, -, rfl⟩ := Finset.mem_map.mp hi
        rw [View.write_emb_of_mem _ _ (Finset.mem_univ _)]
        exact at10 x hgeo y
      · exact Entails.of_eq hDs)) $$ [Hs Hd HB]
  · isplitl [Hs]
    · rw [hDs]; iexact Hs
    isplitl [Hd]; · iexact Hd
    iexact HB
  iintro HB
  rw [wp_ret]; imodintro
  iapply Hk
  isplitl [H10]; · iexact H10
  isplitl [H3]; · iexact H3
  iexact HB

/-- Where a piece's destination and source sit, element by element. -/
theorem at11 {k o o' : ℕ} {inb inb'} {hr hr'} {sq} {sq2} (hgeo : ∀ h : o < 4, k4 ⟨o, h⟩ = k ∧ o4 ⟨o, h⟩ = o') (y : (⟨2, ![1024, 128]⟩ : Shape).Idx) :
    (((hbM0_0.slice (Rect.unit (s := S4x1024x2176) ![k, 0, o'] ![1, 1024, 128] inb') hr').squeeze ⟨2, ![1024, 128]⟩ sq).view.read (Elt F) x) y
      = G11 x (((scM0_1.slice (Rect.unit (s := S4x1024x128) ![o, 0, 0] ![1, 1024, 128] inb) hr).squeeze ⟨2, ![1024, 128]⟩ sq2).view.emb y) := by
  have hy : y = ValueIdx.ix2 (y 0 : Fin 1024) (y 1 : Fin 128) := by
    funext a
    match a with
    | ⟨0, _⟩ => rfl
    | ⟨1, _⟩ => rfl
  have ho : o < 4 := by
    have h : o + 1 ≤ 4 := inb 0
    omega
  obtain ⟨h1, h2⟩ := hgeo ho
  have e : Shape.reshapeEquiv sq.numel_eq y = ValueIdx.ix3 (⟨0, Nat.one_pos⟩ : Fin 1) (y 0 : Fin 1024) (y 1 : Fin 128) :=
    (congrArg _ hy).trans (ValueIdx.reshapeEquiv_ix2_1ab (a := 1024) (b := 128) sq.numel_eq (y 0 : Fin 1024) (y 1 : Fin 128))
  show x ((Rect.unit (s := S4x1024x2176) ![k, 0, o'] ![1, 1024, 128] inb').emb (Shape.reshapeEquiv sq.numel_eq y)) = G11 x ((Rect.unit (s := S4x1024x128) ![o, 0, 0] ![1, 1024, 128] inb).emb (Shape.reshapeEquiv sq2.numel_eq y))
  rw [e]
  unfold G11
  have e0 : ((Rect.unit (s := S4x1024x128) ![o, 0, 0] ![1, 1024, 128] inb).emb (ValueIdx.ix3 (⟨0, Nat.one_pos⟩ : Fin 1) (y 0 : Fin 1024) (y 1 : Fin 128)) 0 : Fin 4) = ⟨o, ho⟩ :=
    Fin.ext (show o + 1 * 0 = o by omega)
  congr 1
  funext a
  apply Fin.ext
  match a with
  | ⟨0, _⟩ => exact (show k + 1 * 0 = k by omega).trans (h1.symm.trans (congrArg k4 e0.symm))
  | ⟨1, _⟩ =>
    show 0 + 1 * (y 0).val = 0 + 1 * (y 0).val
    rfl
  | ⟨2, _⟩ =>
    have e2 : o4 ((Rect.unit (s := S4x1024x128) ![o, 0, 0] ![1, 1024, 128] inb).emb (ValueIdx.ix3 (⟨0, Nat.one_pos⟩ : Fin 1) (y 0 : Fin 1024) (y 1 : Fin 128)) 0 : Fin 4) = o' :=
      (congrArg o4 e0).trans h2
    exact (show o' + 1 * (y 1).val = o' + (0 + 1 * (y 1).val) by omega).trans (congrArg (· + (0 + 1 * (y 1).val)) e2.symm)

set_option maxHeartbeats 800000 in
/-- One copy on the second counter issued. -/
theorem step11 (f : Vec F S4x1024x128 .bf16) (t : ℕ) (ht : t < 4) (k o o' : ℕ)
    (hk : k4 ⟨t, ht⟩ = k) (ho : t = o) (ho' : o4 ⟨t, ht⟩ = o')
    (hgeo : ∀ h : o < 4, k4 ⟨o, h⟩ = k ∧ o4 ⟨o, h⟩ = o')
    {inb inb'} {hr hr'} {sq} {sq2} (sem : DmaSem sig) (hs : sem = (19 : Fin 20)) {h1 h2 h3} (Q : PUnit → sProp 𝕄) :
    St11 c x f t ⊢ iprop((St11 c x f (t + 1) -∗ Q ⟨⟩) -∗
      wp frame (wpE (defs₀ (F := F)) Variants.none (c : Thread nD τ) none) Set.univ
        (Prog.lift (.enqueueDma ((hbM0_0.slice (Rect.unit (s := S4x1024x2176) ![k, 0, o'] ![1, 1024, 128] inb') hr').squeeze ⟨2, ![1024, 128]⟩ sq)
          (.here ((scM0_1.slice (Rect.unit (s := S4x1024x128) ![o, 0, 0] ![1, 1024, 128] inb) hr).squeeze ⟨2, ![1024, 128]⟩ sq2)) (.dma sem) h1 h2 h3)) Q) := by
  subst hs
  have hd : D11 ⟨t, ht⟩ = slot o := by unfold D11; rw [← ho]
  have hsS : S4 ⟨t, ht⟩ = scols k o' 128 := by unfold S4; rw [hk, ho']
  have hset : ((scM0_1.slice (Rect.unit (s := S4x1024x128) ![o, 0, 0] ![1, 1024, 128] inb) hr).squeeze ⟨2, ![1024, 128]⟩ sq2).view.set = slot o :=
    (View.set_reshape _ _).trans ((View.set_slice_whole _ _).trans set_slot)
  have hsrc : ((hbM0_0.slice (Rect.unit (s := S4x1024x2176) ![k, 0, o'] ![1, 1024, 128] inb') hr').squeeze ⟨2, ![1024, 128]⟩ sq).view.set = scols k o' 128 :=
    (View.set_reshape _ _).trans ((View.set_slice_whole _ _).trans set_scols)
  have hDs : (((hbM0_0.slice (Rect.unit (s := S4x1024x2176) ![k, 0, o'] ![1, 1024, 128] inb') hr').squeeze ⟨2, ![1024, 128]⟩ sq).view.loc (c : Thread nD τ)
      ↦[((hbM0_0.slice (Rect.unit (s := S4x1024x2176) ![k, 0, o'] ![1, 1024, 128] inb') hr').squeeze ⟨2, ![1024, 128]⟩ sq).view.set]{fullShare.right} x : sProp 𝕄)
      = p3 c fullShare.right (S4 ⟨t, ht⟩) x := by rw [hsrc, hsS]
  iintro H Hk
  unfold St11
  icases H with ⟨H11, H3, HB⟩
  ihave H11 := (lend D11 f D11_disj t ht) $$ H11
  icases H11 with ⟨Hd, H11⟩
  ihave H3 := (lend S4 x S4_disj t ht) $$ H3
  icases H3 with ⟨Hs, H3⟩
  iapply (Transfers.wp_dmaMixedBatch countersEmb Variants.none (c : Thread nD τ) none () A11 (Sd := D11 ⟨t, ht⟩) (fd := f) (fs := x) (q := fullShare.right)
    (D := deliv11 c x) (j := t) (u := 0) (hset.trans hd.symm).le ht rfl (Nat.zero_le _) (by
      unfold deliv11
      refine BI.sep_mono ?_ ?_
      · refine Entails.of_eq (pointsTo_congr fun i hi => ?_)
        rw [hd, ← hset] at hi
        obtain ⟨y, -, rfl⟩ := Finset.mem_map.mp hi
        rw [View.write_emb_of_mem _ _ (Finset.mem_univ _)]
        exact at11 x hgeo y
      · exact Entails.of_eq hDs)) $$ [Hs Hd HB]
  · isplitl [Hs]
    · rw [hDs]; iexact Hs
    isplitl [Hd]; · iexact Hd
    iexact HB
  iintro HB
  rw [wp_ret]; imodintro
  iapply Hk
  isplitl [H11]; · iexact H11
  isplitl [H3]; · iexact H3
  iexact HB

end Cert.PrenormGradIdeal.Hand

end
-- ==== Proof.PrenormGradParts.lean ====
/- The kernel of the gradient at the normalised rows: how the first grid point gathers the weights. -/
module

public import proofs.«01_k».proof.Proof.PrenormGradLoad
public import Idealize.ShloMosaic.Lib.MixedBatch
public import Idealize.ShloMosaic.Lib.ValueIdx
public import Idealize.ShloMosaic.Lib.ValueLayout

@[expose] public section

-- the blocks' axes are long
set_option maxRecDepth 16384

noncomputable section

namespace Cert.PrenormGradIdeal.Hand

open Cert.PrenormGradIdeal Cert.PrenormGradIdeal.Gen
open Cert.PrenormIdeal.Hand (o10 w10 k3 o3 k4 o4 rest rest_zero sub_rest rest_succ univ_sdiff_rest cols scols slot set_cols set_scols set_slot D10 S3 D11 S4 D10_disj S3_disj D11_disj S4_disj shN scN G10 G11)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD) (x : Vec F S4x1024x2176 .bf16)
variable (i : grid0.Coords) (arg1 : Memref sig .tc .vmem S512x4096 .bf16) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg10 : Memref sig .tc .vmem S512x1024 .f32) (harg10 : arg10.IsWhole) (arg11 : Memref sig .tc .vmem S8x1024 .f32) (harg11 : arg11.IsWhole)

/-- The copies of part 1 issued. -/
theorem part1_spec (f : Vec F S1024x8448 .bf16) (Q : PUnit → sProp 𝕄) :
    St10 c x f 0 ⊢ iprop((St10 c x f 5 -∗ Q ⟨⟩) -∗
      wp frame (wpE (defs₀ (F := F)) Variants.none (c : Thread nD τ) none) Set.univ (k0_part1 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q) := by
  rw [k0_part1_eq_skeleton]; unfold k0_part1_skel
  iintro H Hk
  rw [wp_bind]
  iapply (step10 c x f 0 (by norm_num) 0 0 0 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 1 (by norm_num) 0 512 128 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 2 (by norm_num) 0 1024 256 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 3 (by norm_num) 0 1536 384 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 4 (by norm_num) 0 2048 512 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 2 issued. -/
theorem part2_spec (f : Vec F S1024x8448 .bf16) (Q : PUnit → sProp 𝕄) :
    St10 c x f 5 ⊢ iprop((St10 c x f 10 -∗ Q ⟨⟩) -∗
      wp frame (wpE (defs₀ (F := F)) Variants.none (c : Thread nD τ) none) Set.univ (k0_part2 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q) := by
  rw [k0_part2_eq_skeleton]; unfold k0_part2_skel
  iintro H Hk
  rw [wp_bind]
  iapply (step10 c x f 5 (by norm_num) 0 2560 640 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 6 (by norm_num) 0 3072 768 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 7 (by norm_num) 0 3584 896 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 8 (by norm_num) 0 128 1024 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 9 (by norm_num) 0 640 1152 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 3 issued. -/
theorem part3_spec (f : Vec F S1024x8448 .bf16) (Q : PUnit → sProp 𝕄) :
    St10 c x f 10 ⊢ iprop((St10 c x f 15 -∗ Q ⟨⟩) -∗
      wp frame (wpE (defs₀ (F := F)) Variants.none (c : Thread nD τ) none) Set.univ (k0_part3 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q) := by
  rw [k0_part3_eq_skeleton]; unfold k0_part3_skel
  iintro H Hk
  rw [wp_bind]
  iapply (step10 c x f 10 (by norm_num) 0 1152 1280 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 11 (by norm_num) 0 1664 1408 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 12 (by norm_num) 0 2176 1536 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 13 (by norm_num) 0 2688 1664 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 14 (by norm_num) 0 3200 1792 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 4 issued. -/
theorem part4_spec (f : Vec F S1024x8448 .bf16) (Q : PUnit → sProp 𝕄) :
    St10 c x f 15 ⊢ iprop((St10 c x f 20 -∗ Q ⟨⟩) -∗
      wp frame (wpE (defs₀ (F := F)) Variants.none (c : Thread nD τ) none) Set.univ (k0_part4 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q) := by
  rw [k0_part4_eq_skeleton]; unfold k0_part4_skel
  iintro H Hk
  rw [wp_bind]
  iapply (step10 c x f 15 (by norm_num) 0 3712 1920 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 16 (by norm_num) 1 768 128 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 17 (by norm_num) 1 1280 256 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 18 (by norm_num) 1 1792 384 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 19 (by norm_num) 1 2304 512 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 5 issued. -/
theorem part5_spec (f : Vec F S1024x8448 .bf16) (Q : PUnit → sProp 𝕄) :
    St10 c x f 20 ⊢ iprop((St10 c x f 25 -∗ Q ⟨⟩) -∗
      wp frame (wpE (defs₀ (F := F)) Variants.none (c : Thread nD τ) none) Set.univ (k0_part5 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q) := by
  rw [k0_part5_eq_skeleton]; unfold k0_part5_skel
  iintro H Hk
  rw [wp_bind]
  iapply (step10 c x f 20 (by norm_num) 1 2816 640 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 21 (by norm_num) 1 3328 768 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 22 (by norm_num) 1 3840 896 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 23 (by norm_num) 1 384 1024 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 24 (by norm_num) 1 896 1152 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 6 issued. -/
theorem part6_spec (f : Vec F S1024x8448 .bf16) (Q : PUnit → sProp 𝕄) :
    St10 c x f 25 ⊢ iprop((St10 c x f 30 -∗ Q ⟨⟩) -∗
      wp frame (wpE (defs₀ (F := F)) Variants.none (c : Thread nD τ) none) Set.univ (k0_part6 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q) := by
  rw [k0_part6_eq_skeleton]; unfold k0_part6_skel
  iintro H Hk
  rw [wp_bind]
  iapply (step10 c x f 25 (by norm_num) 1 1408 1280 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 26 (by norm_num) 1 1920 1408 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 27 (by norm_num) 1 2432 1536 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 28 (by norm_num) 1 2944 1664 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 29 (by norm_num) 1 3456 1792 128 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_pure]; imodintro
  iapply Hk
  iexact H

/-- The copies of part 7 issued. -/
theorem part7_spec (f : Vec F S1024x8448 .bf16) (g : Vec F S4x1024x128 .bf16) (Q : PUnit → sProp 𝕄) :
    iprop(St10 c x f 30 ∗ St11 c x g 0) ⊢ iprop(((St10 c x f 33 ∗ St11 c x g 1) -∗ Q ⟨⟩) -∗
      wp frame (wpE (defs₀ (F := F)) Variants.none (c : Thread nD τ) none) Set.univ (k0_part7 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q) := by
  rw [k0_part7_eq_skeleton]; unfold k0_part7_skel
  iintro ⟨H, H11⟩ Hk
  rw [wp_bind]
  iapply (step10 c x f 30 (by norm_num) 1 3968 1920 256 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 31 (by norm_num) 2 4224 0 2048 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step10 c x f 32 (by norm_num) 3 6400 128 2048 rfl rfl rfl rfl (by intro b hb; simp only [shN, scN]; constructor <;> split_ifs <;> omega) ((cc0_scratch2.slice (Rect.unit (s := S2) ![0] S1.size inb_S2_S1_0)).squeeze S_ squeezes_S1_S_).sem rfl _) $$ H
  iintro H
  rw [wp_bind]
  iapply (step11 c x g 0 (by norm_num) 0 0 2048 rfl rfl rfl (fun _ => ⟨rfl, rfl⟩) ((cc0_scratch2.slice (Rect.unit (s := S2) ![1] S1.size inb_S2_S1_1)).squeeze S_ squeezes_S1_S_).sem rfl _) $$ H11
  iintro H11
  rw [wp_pure]; imodintro
  iapply Hk
  isplitl [H]; · iexact H
  iexact H11

end Cert.PrenormGradIdeal.Hand

end
-- ==== Proof.PrenormGradLoadAll.lean ====
/- The kernel of the gradient at the normalised rows: the whole load of the weights. -/
module

public import proofs.«01_k».proof.Proof.PrenormGradParts
public import Idealize.ShloMosaic.Lib.WritesUnit
public import Idealize.ShloMosaic.Lib.VecWindow
public import Idealize.ShloMosaic.Lib.MixedBatch
public import Idealize.ShloMosaic.Lib.ValueIdx
public import Idealize.ShloMosaic.Lib.ValueLayout

@[expose] public section

-- the blocks' axes are long
set_option maxRecDepth 16384

noncomputable section

namespace Cert.PrenormGradIdeal.Hand

open Cert.PrenormGradIdeal Cert.PrenormGradIdeal.Gen
open Cert.PrenormIdeal.Hand (o10 w10 k3 o3 k4 o4 rest rest_zero sub_rest rest_succ univ_sdiff_rest cols scols slot set_cols set_scols set_slot D10 S3 D11 S4 D10_disj S3_disj D11_disj S4_disj shN scN G10 G11 landed10 rest11 landed_at put_congr)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD) (x : Vec F S4x1024x2176 .bf16)
variable (i : grid0.Coords) (arg1 : Memref sig .tc .vmem S512x4096 .bf16) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg10 : Memref sig .tc .vmem S512x1024 .f32) (harg10 : arg10.IsWhole) (arg11 : Memref sig .tc .vmem S8x1024 .f32) (harg11 : arg11.IsWhole)

/-- What the first grid point does before its own rows: copies, waits, and the two sums of halves. -/
noncomputable def loadBody : Prog (TpuEff nD τ sig (Elt F) Λ₀ .tc) PUnit := do
  k0_part1 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2
  k0_part2 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2
  k0_part3 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2
  k0_part4 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2
  k0_part5 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2
  k0_part6 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2
  k0_part7 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2
  let ⟨v239, v240⟩ : Σ' (v239 : FVec F S1024x128 .bf16), Vec F S1024x128 .bf16 ← k0_part8 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2
  Prog.lift (.store scM0_0 (Rect.unit (s := S1024x8448) ![0, 256] S1024x128.size inb_S1024x8448_S1024x128_0_256) (k0_pay6 v239) Finset.univ (View.stores_vmem h_S1024x128 ((Memref.isWhole_whole cc0_scratch0).storeExact_slice rfl _ packedbf16_S1024x8448_S1024x128_0_256) (fun _ => rfl)) (.inl rfl))
  let v243 : Vec F S1x1024x128 .bf16 ← Prog.lift (.load scM0_1 (Rect.unit (s := S4x1024x128) ![2, 0, 0] S1x1024x128.size inb_S4x1024x128_S1x1024x128_2_0_0).toLoadRect (View.loadsAt_vmem h_S1x1024x128))
  let v245 : Vec F S1x1024x128 .bf16 ← Prog.lift (.load scM0_1 (Rect.unit (s := S4x1024x128) ![3, 0, 0] S1x1024x128.size inb_S4x1024x128_S1x1024x128_3_0_0).toLoadRect (View.loadsAt_vmem h_S1x1024x128))
  let v248 : Vec F S1024x128 .bf16 ← Prog.lift (.load scM0_0 (Rect.unit (s := S1024x8448) ![0, 6272] S1024x128.size inb_S1024x8448_S1024x128_0_6272).toLoadRect (View.loadsAt_vmem h_S1024x128))
  Prog.lift (.store scM0_0 (Rect.unit (s := S1024x8448) ![0, 6272] S1024x128.size inb_S1024x8448_S1024x128_0_6272) (k0_pay7 v243 v245) Finset.univ (View.stores_vmem h_S1024x128 ((Memref.isWhole_whole cc0_scratch0).storeExact_slice rfl _ packedbf16_S1024x8448_S1024x128_0_6272) (fun _ => rfl)) (.inl rfl))

/-- The copies' counts are positive. -/
theorem A10_pos : ∀ t, 0 < A10 t := by decide
/-- Every half has bytes. -/
theorem A11_pos : ∀ t, 0 < A11 t := by decide

/-- A buffer held whole, piece by piece or as its memref. -/
theorem p10_univ (f : Vec F S1024x8448 .bf16) : p10 c Finset.univ f = (scM0_0.view.loc (c : Thread nD τ) ↦[scM0_0.view.set]{fullShare} f : sProp 𝕄) := by
  rw [show scM0_0.view.set = Finset.univ from View.set_whole _]
/-- The whole buffer of halves, as one piece. -/
theorem p11_univ (f : Vec F S4x1024x128 .bf16) : p11 c Finset.univ f = (scM0_1.view.loc (c : Thread nD τ) ↦[scM0_1.view.set]{fullShare} f : sProp 𝕄) := by
  rw [show scM0_1.view.set = Finset.univ from View.set_whole _]

instance (j : Fin 33) : Storable (upEmb : UEmb _ 𝕄) (deliv10 c x j) := by unfold deliv10; infer_instance
instance (j : Fin 4) : Storable (upEmb : UEmb _ 𝕄) (deliv11 c x j) := by unfold deliv11; infer_instance

/-- All that is delivered, destinations and sources apart. -/
theorem deliv10_all : (bigSep Finset.univ (deliv10 c x) : sProp 𝕄) = iprop(bigSep Finset.univ (fun j => p10 c (D10 j) (G10 x)) ∗ bigSep Finset.univ (fun j => p3 c fullShare.left (S3 j) x)) :=
  bigSep_sep' Finset.univ _ _
/-- What the copies of the halves deliver together. -/
theorem deliv11_all : (bigSep Finset.univ (deliv11 c x) : sProp 𝕄) = iprop(bigSep Finset.univ (fun j => p11 c (D11 j) (G11 x)) ∗ bigSep Finset.univ (fun j => p3 c fullShare.right (S4 j) x)) :=
  bigSep_sep' Finset.univ _ _

/-- The weights' buffer whole again. -/
theorem regain10 (f : Vec F S1024x8448 .bf16) : iprop(p10 c (rest D10 33) f ∗ bigSep Finset.univ (fun j => p10 c (D10 j) (G10 x))) ⊢ (p10 c Finset.univ (landed10 x f) : sProp 𝕄) :=
  regain (ℓ := scM0_0.view.loc (c : Thread nD τ)) D10 f (G10 x) (landed10 x f) D10_disj (fun i hi => by
      unfold landed10
      have hi' : i ∈ rest D10 33 := hi
      rw [if_pos hi'])
    (fun j i hi => by
      unfold landed10
      have hn : i ∉ rest D10 33 := by
        intro hr
        unfold rest at hr
        exact (Finset.mem_filter.mp hr).2 j j.isLt hi
      rw [if_neg hn])
/-- The shards whole again, the first counter's half. -/
theorem regain3 : iprop(p3 c fullShare.left (rest S3 33) x ∗ bigSep Finset.univ (fun j => p3 c fullShare.left (S3 j) x)) ⊢ (p3 c fullShare.left Finset.univ x : sProp 𝕄) :=
  regain (ℓ := hbM0_0.view.loc (c : Thread nD τ)) S3 x x x S3_disj (fun _ _ => rfl) (fun _ _ _ => rfl)
/-- The second counter's half. -/
theorem regain4 : iprop(p3 c fullShare.right (rest S4 4) x ∗ bigSep Finset.univ (fun j => p3 c fullShare.right (S4 j) x)) ⊢ (p3 c fullShare.right Finset.univ x : sProp 𝕄) :=
  regain (ℓ := hbM0_0.view.loc (c : Thread nD τ)) S4 x x x S4_disj (fun _ _ => rfl) (fun _ _ _ => rfl)
/-- The small scratch whole again. -/
theorem regain11 (g : Vec F S4x1024x128 .bf16) : iprop(p11 c (rest D11 4) g ∗ bigSep Finset.univ (fun j => p11 c (D11 j) (G11 x))) ⊢ (p11 c Finset.univ (G11 x) : sProp 𝕄) :=
  regain (ℓ := scM0_1.view.loc (c : Thread nD τ)) D11 g (G11 x) (G11 x) D11_disj (fun i hi => by
    have hi' : i ∈ rest D11 4 := hi
    rw [rest11] at hi'
    exact absurd hi' (Finset.notMem_empty _)) (fun _ _ _ => rfl)

/-- The two sums of halves. -/
def sum1 : FVec F S1024x128 .bf16 :=
  k0_pay6 (k0_pay5 (View.readAt (Elt F) scM0_1.view (Rect.unit (s := S4x1024x128) ![0, 0, 0] S1x1024x128.size inb_S4x1024x128_S1x1024x128_0_0_0).toLoadRect (G11 x))
    (View.readAt (Elt F) scM0_1.view (Rect.unit (s := S4x1024x128) ![1, 0, 0] S1x1024x128.size inb_S4x1024x128_S1x1024x128_1_0_0).toLoadRect (G11 x)))
/-- The second sum of halves. -/
def sum2 : FVec F S1024x128 .bf16 :=
  k0_pay7 (View.readAt (Elt F) scM0_1.view (Rect.unit (s := S4x1024x128) ![2, 0, 0] S1x1024x128.size inb_S4x1024x128_S1x1024x128_2_0_0).toLoadRect (G11 x))
    (View.readAt (Elt F) scM0_1.view (Rect.unit (s := S4x1024x128) ![3, 0, 0] S1x1024x128.size inb_S4x1024x128_S1x1024x128_3_0_0).toLoadRect (G11 x))

/-- The weights as every grid point multiplies by them: the gathered columns and the two sums. -/
def W10 : Vec F S1024x8448 .bf16 :=
  VecWindow.put (VecWindow.put (G10 x) ![0, 256] S1024x128.size (sum1 x)) ![0, 6272] S1024x128.size (sum2 x)

/-- Two tiles stored over given contents, read back. -/
theorem read_two (v : View sig .tc .vmem S1024x8448 .bf16) (f0 : v.ty.Contents (Elt F)) (w1 w2 : FVec F S1024x128 .bf16) :
    v.read (Elt F) (v.writes (Elt F) f0
      [⟨Rect.unit ![0, 6272] S1024x128.size inb_S1024x8448_S1024x128_0_6272, w2⟩, ⟨Rect.unit ![0, 256] S1024x128.size inb_S1024x8448_S1024x128_0_256, w1⟩])
      = VecWindow.put (VecWindow.put (v.read (Elt F) f0) ![0, 256] S1024x128.size w1) ![0, 6272] S1024x128.size w2 := by
  refine (View.read_writes_cons_put v f0 inb_S1024x8448_S1024x128_0_6272 w2 _ rfl).trans ?_
  have e := View.read_writes_cons_put v f0 inb_S1024x8448_S1024x128_0_256 w1 [] rfl
  rw [e]; rfl

/-- The whole buffer read. -/
theorem read_big (h : Vec F S1024x8448 .bf16) : scM0_0.view.read (Elt F) h = h := rfl

/-- What the buffer holds after the two sums are stored is that, whatever it held before the load. -/
theorem landed_read (f : Vec F S1024x8448 .bf16) :
    scM0_0.view.read (Elt F) (scM0_0.view.writes (Elt F) (landed10 x f)
      [⟨Rect.unit ![0, 6272] S1024x128.size inb_S1024x8448_S1024x128_0_6272, sum2 x⟩, ⟨Rect.unit ![0, 256] S1024x128.size inb_S1024x8448_S1024x128_0_256, sum1 x⟩])
      = W10 x := by
  refine (read_two scM0_0.view (landed10 x f) (sum1 x) (sum2 x)).trans ?_
  rw [read_big (landed10 x f)]
  unfold W10
  funext y
  have hy0 : (y 0).val < 1024 := (y 0).isLt
  refine put_congr _ _ _ _ _ y fun h2 => put_congr _ _ _ _ _ y fun h1 => landed_at x f y ?_ ?_
  · intro h
    refine h1 fun a => ?_
    match a with
    | ⟨0, _⟩ => exact ⟨Nat.zero_le _, by show (y 0).val < 0 + 1024; omega⟩
    | ⟨1, _⟩ => exact h
  · intro h
    refine h2 fun a => ?_
    match a with
    | ⟨0, _⟩ => exact ⟨Nat.zero_le _, by show (y 0).val < 0 + 1024; omega⟩
    | ⟨1, _⟩ => exact h

set_option maxHeartbeats 4000000 in
/-- The load, run. -/
theorem load_spec (f : Vec F S1024x8448 .bf16) (g : Vec F S4x1024x128 .bf16) (W : Waits sig Unit) (Q : PUnit → sProp 𝕄) :
    iprop(p10 c Finset.univ f ∗ p11 c Finset.univ g ∗ p3 c fullShare Finset.univ x ∗ semVal ((c : Thread nD τ), SemLoc.dma 18) 0 ∗ semVal ((c : Thread nD τ), SemLoc.dma 19) 0 ∗ owes (c : Thread nD τ) (0 : CellTallies nD τ sig Unit) W)
      ⊢ iprop((iprop(owns (c : Thread nD τ) scM0_0 fullShare (W10 x) ∗ (∃ d, owns (c : Thread nD τ) scM0_1 fullShare d) ∗ p3 c fullShare Finset.univ x ∗ semVal ((c : Thread nD τ), SemLoc.dma 18) 0 ∗ semVal ((c : Thread nD τ), SemLoc.dma 19) 0 ∗ (∃ W', owes (c : Thread nD τ) (0 : CellTallies nD τ sig Unit) W')) -∗ Q ⟨⟩) -∗
        wp frame (wpE (defs₀ (F := F)) Variants.none (c : Thread nD τ) none) Set.univ (loadBody i arg1 harg1 arg2 harg2 arg3 harg3 arg4 harg4 arg5 harg5 arg6 harg6 arg7 harg7 arg8 harg8 arg10 harg10 arg11 harg11) Q) := by
  iintro ⟨H10, Hp11, H3, Hq0, Hq1, HW⟩ Hk
  ihave H3 := (pointsTo_share (PosShare.mem_left_op_right fullShare)).1 $$ H3
  icases H3 with ⟨H3, H3r⟩
  imod (Transfers.mixedBatch_alloc' (Lvl := ℕ) (Name := ℕ) countersEmb (c : Thread nD τ) () A10 (deliv10 c x) (E := Set.univ)) $$ Hq0 with HB
  imod (Transfers.mixedBatch_alloc' (Lvl := ℕ) (Name := ℕ) countersEmb (c : Thread nD τ) () A11 (deliv11 c x) (E := Set.univ)) $$ Hq1 with HB1
  ihave H : St10 c x f 0 $$ [H10 H3 HB]
  · unfold St10
    rw [rest_zero, rest_zero]
    isplitl [H10]; · iexact H10
    isplitl [H3]; · iexact H3
    iexact HB
  ihave H11 : St11 c x g 0 $$ [Hp11 H3r HB1]
  · unfold St11
    rw [rest_zero, rest_zero]
    isplitl [Hp11]; · iexact Hp11
    isplitl [H3r]; · iexact H3r
    iexact HB1
  unfold loadBody
  rw [wp_bind]
  iapply (part1_spec c x i arg1 harg1 arg2 harg2 arg3 harg3 arg4 harg4 arg5 harg5 arg6 harg6 arg7 harg7 arg8 harg8 arg10 harg10 arg11 harg11 f _) $$ H
  iintro H
  rw [wp_bind]
  iapply (part2_spec c x i arg1 harg1 arg2 harg2 arg3 harg3 arg4 harg4 arg5 harg5 arg6 harg6 arg7 harg7 arg8 harg8 arg10 harg10 arg11 harg11 f _) $$ H
  iintro H
  rw [wp_bind]
  iapply (part3_spec c x i arg1 harg1 arg2 harg2 arg3 harg3 arg4 harg4 arg5 harg5 arg6 harg6 arg7 harg7 arg8 harg8 arg10 harg10 arg11 harg11 f _) $$ H
  iintro H
  rw [wp_bind]
  iapply (part4_spec c x i arg1 harg1 arg2 harg2 arg3 harg3 arg4 harg4 arg5 harg5 arg6 harg6 arg7 harg7 arg8 harg8 arg10 harg10 arg11 harg11 f _) $$ H
  iintro H
  rw [wp_bind]
  iapply (part5_spec c x i arg1 harg1 arg2 harg2 arg3 harg3 arg4 harg4 arg5 harg5 arg6 harg6 arg7 harg7 arg8 harg8 arg10 harg10 arg11 harg11 f _) $$ H
  iintro H
  rw [wp_bind]
  iapply (part6_spec c x i arg1 harg1 arg2 harg2 arg3 harg3 arg4 harg4 arg5 harg5 arg6 harg6 arg7 harg7 arg8 harg8 arg10 harg10 arg11 harg11 f _) $$ H
  iintro H
  rw [wp_bind]
  iapply (part7_spec c x i arg1 harg1 arg2 harg2 arg3 harg3 arg4 harg4 arg5 harg5 arg6 harg6 arg7 harg7 arg8 harg8 arg10 harg10 arg11 harg11 f g _) $$ [H H11]
  · isplitl [H]; · iexact H
    iexact H11
  iintro ⟨H, H11⟩
  rw [wp_bind]
  rw [k0_part8_eq_skeleton]; unfold k0_part8_skel
  rw [wp_bind]
  iapply (step11 c x g 1 (by norm_num) 1 1 0 rfl rfl rfl (fun _ => ⟨rfl, rfl⟩) ((cc0_scratch2.slice (Rect.unit (s := S2) ![1] S1.size inb_S2_S1_1)).squeeze S_ squeezes_S1_S_).sem rfl _) $$ H11
  iintro H11
  rw [wp_bind]
  iapply (step11 c x g 2 (by norm_num) 2 2 2048 rfl rfl rfl (fun _ => ⟨rfl, rfl⟩) ((cc0_scratch2.slice (Rect.unit (s := S2) ![1] S1.size inb_S2_S1_1)).squeeze S_ squeezes_S1_S_).sem rfl _) $$ H11
  iintro H11
  rw [wp_bind]
  iapply (step11 c x g 3 (by norm_num) 3 3 0 rfl rfl rfl (fun _ => ⟨rfl, rfl⟩) ((cc0_scratch2.slice (Rect.unit (s := S2) ![1] S1.size inb_S2_S1_1)).squeeze S_ squeezes_S1_S_).sem rfl _) $$ H11
  iintro H11
  unfold St10 St11
  icases H with ⟨H10, H3, HB⟩
  icases H11 with ⟨Hp11, H3r, HB1⟩
  rw [wp_bind]
  iapply (Transfers.wp_waitMixedBatchAll countersEmb Variants.none (c : Thread nD τ) none () (A := A10) (J := Transfers.sumTo A10 33) (by decide) A10_pos (u := 0) (by decide)) $$ [HB HW]
  · isplitl [HB]; · iexact HB
    iexact HW
  iintro ⟨HD, Hq0, HW⟩
  rw [wp_ret]; imodintro
  rw [wp_bind]
  iapply (Transfers.wp_waitMixedBatchAll countersEmb Variants.none (c : Thread nD τ) none () (A := A11) (J := Transfers.sumTo A11 4) (by decide) A11_pos (u := 0) (by decide)) $$ [HB1 HW]
  · isplitl [HB1]; · iexact HB1
    iexact HW
  iintro ⟨HD1, Hq1, HW⟩
  rw [wp_ret]; imodintro
  ihave HD := (Entails.of_eq (deliv10_all c x)) $$ HD
  ihave HD1 := (Entails.of_eq (deliv11_all c x)) $$ HD1
  icases HD with ⟨HDd, HDs⟩
  icases HD1 with ⟨HD1d, HD1s⟩
  ihave H10 := (regain10 c x f) $$ [H10 HDd]
  · isplitl [H10]; · iexact H10
    iexact HDd
  ihave H3 := (regain3 c x) $$ [H3 HDs]
  · isplitl [H3]; · iexact H3
    iexact HDs
  ihave H11 := (regain11 c x g) $$ [Hp11 HD1d]
  · isplitl [Hp11]; · iexact Hp11
    iexact HD1d
  ihave H3r := (regain4 c x) $$ [H3r HD1s]
  · isplitl [H3r]; · iexact H3r
    iexact HD1s
  ihave H3 := (pointsTo_share (PosShare.mem_left_op_right fullShare)).2 $$ [H3 H3r]
  · isplitl [H3]; · iexact H3
    iexact H3r
  ihave H10 := (Entails.of_eq (p10_univ c _)) $$ H10
  ihave H11 := (Entails.of_eq (p11_univ c _)) $$ H11
  sl_exec
  sl_step
  iapply Hk
  isplitl [H10]
  · unfold owns; iexists _; isplitr
    swap; · iexact H10
    ipureintro; exact landed_read x f
  isplitl [H11]
  · unfold owns; iexists _, _; isplitr
    swap; · iexact H11
    ipureintro; rfl
  isplitl [H3]; · iexact H3
  isplitl [Hq0]; · iexact Hq0
  isplitl [Hq1]; · iexact Hq1
  iexists _; iexact HW

end Cert.PrenormGradIdeal.Hand

end
-- ==== Proof.PrenormGradFrame.lean ====
/- The kernel of the gradient at the normalised rows: what each grid point leaves, and the whole launch. -/
module

public import proofs.«01_k».proof.Proof.PrenormGradRun
public import proofs.«01_k».proof.Proof.PrenormGradLoadAll
public import Idealize.ShloMosaic.Lib.Claim

@[expose] public section

-- the blocks' axes are long
set_option maxRecDepth 16384

noncomputable section

namespace Cert.PrenormGradIdeal.Hand

open Cert.PrenormGradIdeal Cert.PrenormGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The zeros that the first point stores in the block of row sums. -/
noncomputable def zeroBody (arg11 : Memref sig .tc .vmem S8x1024 .f32) (harg11 : arg11.IsWhole) : Prog (TpuEff nD τ sig (Elt F) Λ₀ .tc) PUnit := do
  let v268 : Vec F S8x1024 .f32 ← Prog.lift (.load arg11 (Rect.unit (s := S8x1024) ![0, 0] S8x1024.size inb_S8x1024_S8x1024_0_0).toLoadRect (View.loadsAt_vmem h_S8x1024))
  Prog.lift (.store arg11 (Rect.unit (s := S8x1024) ![0, 0] S8x1024.size inb_S8x1024_S8x1024_0_0) (k0_pay8 (F := F)) Finset.univ (View.stores_vmem_bits_univ h_S8x1024 rfl) (.inl rfl))

/-- The zeros stored. -/
theorem zero_spec (c : Dev nD) (arg11 : Memref sig .tc .vmem S8x1024 .f32) (harg11 : arg11.IsWhole) (d) (Q : PUnit → sProp 𝕄) :
    (owns (c : Thread nD τ) arg11 fullShare d : sProp 𝕄) ⊢ iprop((owns (c : Thread nD τ) arg11 fullShare (k0_pay8 (F := F)) -∗ Q ⟨⟩) -∗ wp frame (wpE (defs₀ (F := F)) Variants.none (c : Thread nD τ) none) Set.univ (zeroBody arg11 harg11) Q) := by
  unfold owns zeroBody
  iintro ⟨%f, %hf, H⟩ Hk
  obtain rfl := harg11.eq_unread hf
  sl_exec
  sl_step
  iapply Hk
  iexists _; isplitr
  swap; · iexact H
  ipureintro
  funext y
  exact View.read_writes_cons_unit_of_mem (off' := ![0, 0]) _ _ inb_S8x1024_S8x1024_0_0 _ [] y y rfl (fun a => match a with
    | ⟨0, _⟩ => (Nat.zero_add _).symm
    | ⟨1, _⟩ => (Nat.zero_add _).symm)

section First
variable (c : Dev nD) (i i' : grid0.Coords) (arg1 : Memref sig .tc .vmem S512x4096 .bf16) (harg1 : arg1.IsWhole) (arg2 : Memref sig .tc .vmem S512x1024 .bf16) (harg2 : arg2.IsWhole) (arg3 : Memref sig .tc .vmem S512x256 .bf16) (harg3 : arg3.IsWhole) (arg4 : Memref sig .tc .vmem S512x1024 .bf16) (harg4 : arg4.IsWhole) (arg5 : Memref sig .tc .vmem S512x2048 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole) (arg10 : Memref sig .tc .vmem S512x1024 .f32) (harg10 : arg10.IsWhole) (arg11 : Memref sig .tc .vmem S8x1024 .f32) (harg11 : arg11.IsWhole)

set_option maxHeartbeats 4000000 in
/-- The first point is the load and the zeros, followed by what every point does. -/
theorem part9_first (hc : cond0_0 i) (hc' : ¬ cond0_0 i') (Q : (Σ' (v21 : FVec F S512x1024 .f32) (v22 : Vec F S512x1024 .f32) (v25 : FVec F S512x1 .f32), FVec F S512x1 .f32) → sProp 𝕄) :
    wp frame (wpE (defs₀ (F := F)) Variants.none (c : Thread nD τ) none) Set.univ (k0_part9 i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q = wp frame (wpE (defs₀ (F := F)) Variants.none (c : Thread nD τ) none) Set.univ (loadBody i arg1 harg1 arg2 harg2 arg3 harg3 arg4 harg4 arg5 harg5 arg6 harg6 arg7 harg7 arg8 harg8 arg10 harg10 arg11 harg11) (fun _ => wp frame (wpE (defs₀ (F := F)) Variants.none (c : Thread nD τ) none) Set.univ (zeroBody arg11 harg11) (fun _ => wp frame (wpE (defs₀ (F := F)) Variants.none (c : Thread nD τ) none) Set.univ (k0_part9 i' arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q)) := by
  simp only [k0_part9_eq_skeleton]
  unfold k0_part9_skel
  dsimp only
  rw [dif_pos hc, dif_neg hc']
  unfold loadBody zeroBody
  simp only [wp_bind, wp_pure]

/-- The same of the whole body. -/
theorem first_step (hc : cond0_0 i) (hc' : ¬ cond0_0 i') (Q : PUnit → sProp 𝕄) :
    wp frame (wpE (defs₀ (F := F)) Variants.none (c : Thread nD τ) none) Set.univ (cc0_dh_prenorm i arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q = wp frame (wpE (defs₀ (F := F)) Variants.none (c : Thread nD τ) none) Set.univ (loadBody i arg1 harg1 arg2 harg2 arg3 harg3 arg4 harg4 arg5 harg5 arg6 harg6 arg7 harg7 arg8 harg8 arg10 harg10 arg11 harg11) (fun _ => wp frame (wpE (defs₀ (F := F)) Variants.none (c : Thread nD τ) none) Set.univ (zeroBody arg11 harg11) (fun _ => wp frame (wpE (defs₀ (F := F)) Variants.none (c : Thread nD τ) none) Set.univ (cc0_dh_prenorm i' arg1 harg1 arg2 harg2 arg3 harg3 arg4 harg4 arg5 harg5 arg6 harg6 arg7 harg7 arg8 harg8 hbM0_0 (Memref.isWhole_whole _) arg10 harg10 arg11 harg11 scM0_0 (Memref.isWhole_whole _) scM0_1 (Memref.isWhole_whole _) cc0_scratch2) Q)) := by
  simp only [cc0_dh_prenorm_eq_skeleton]
  unfold cc0_dh_prenorm_skel
  rw [wp_bind, part9_first c i i' arg1 harg1 arg2 harg2 arg3 harg3 arg4 harg4 arg5 harg5 arg6 harg6 arg7 harg7 arg8 harg8 arg10 harg10 arg11 harg11 hc hc']
  simp only [wp_bind]

end First

/-- The coordinates of a point that finds the weights gathered: the point's own, the second point's for the first. -/
def iT (t : Fin cfg0.N) : grid0.Coords := if t.val = 0 then grid0.coords ⟨1, by rw [show grid0.N = 16 from N_0]; omega⟩ else grid0.coords t

/-- They are not the first point's. -/
theorem hcT (t : Fin cfg0.N) : ¬ cond0_0 (iT t) := by
  unfold iT
  split_ifs with h
  · exact fun e => absurd ((hcond0_0 _).mp e) (by decide)
  · exact fun e => h ((hcond0_0 t).mp e)

/-- What a point computes from its own rows, the weights gathered, over the row sums `s` so far. -/
def run (c : Dev nD) (t : Fin cfg0.N) (s : Vec F S8x1024 .f32) :=
  kernelRun0 c (iT t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (hcT t) (iblk m c 0 t) (iblk m c 1 t) (iblk m c 2 t) (iblk m c 3 t) (iblk m c 4 t) (iblk m c 5 t) (iblk m c 6 t) (iblk m c 7 t) s (W10 (V m c main_arg8))

/-- The row sums after a point, over those before it. -/
def step9 (c : Dev nD) (t : Fin cfg0.N) (s : Vec F S8x1024 .f32) : Vec F S8x1024 .f32 :=
  (ms0_9 t).view.read (Elt F) ((ms0_9 t).view.writes (Elt F) ((hs0_9 t).unread s) (run m c t s).2.1)

/-- The row sums before the body at position `n`. -/
def sumAt (c : Dev nD) : ℕ → Vec F S8x1024 .f32
  | 0 => k0_pay8
  | n + 1 => if h : n < cfg0.N then step9 m c ⟨n, h⟩ (sumAt c n) else sumAt c n

/-- The row sums after a point. -/
theorem sumAt_succ (c : Dev nD) (t : Fin cfg0.N) : sumAt m c (t.val + 1) = step9 m c t (sumAt m c t.val) := by
  rw [sumAt, dif_pos t.isLt]

/-- What the body leaves in output 8 at point `t`. -/
def out8 (c : Dev nD) (t : Fin cfg0.N) : Vec F S512x1024 .f32 :=
  VO0_8.read (Elt F) (VO0_8.writes (Elt F) VO0_8.junk (run m c t (sumAt m c t.val)).1)

/-- Its stores cover output 8's block. -/
theorem cover8 (c : Dev nD) (t : Fin cfg0.N) (y : S512x1024.Idx) : ∃ pc ∈ (run m c t (sumAt m c t.val)).1, y ∈ pc.1.set :=
  View.cover_of_tiledL (run m c t (sumAt m c t.val)).1 S512x1024.size (by sl_kernel_rfl) y

/-- The invariant before position `n`: before the first point everything as launched, afterwards the scratch holding the weights. -/
def PhiS (c : Dev nD) : ℕ → sProp 𝕄
  | 0 => Pipeline.ΦD osem0 spec0 H0 (V m) c
  | _ + 1 => iprop(iprop(owns (c : Thread nD τ) scM0_0 fullShare (W10 (V m c main_arg8)) ∗ (∃ d, owns (c : Thread nD τ) scM0_1 fullShare d)) ∗ (∃ r, prngReg c r) ∗ iprop(semVal ((c : Thread nD τ), SemLoc.dma 18) 0 ∗ semVal ((c : Thread nD τ), SemLoc.dma 19) 0) ∗ iprop(hbPt0 c hbM0_0 (V m c main_arg8)))

/-- The invariant before the first point. -/
theorem PhiS_zero (c : Dev nD) (n : ℕ) (hz : n = 0) : PhiS m c n = Pipeline.ΦD osem0 spec0 H0 (V m) c := by
  subst hz; rfl
/-- The invariant before a later point. -/
theorem PhiS_pos (c : Dev nD) (n : ℕ) (hz : n ≠ 0) :
    PhiS m c n = iprop(iprop(owns (c : Thread nD τ) scM0_0 fullShare (W10 (V m c main_arg8)) ∗ (∃ d, owns (c : Thread nD τ) scM0_1 fullShare d)) ∗ (∃ r, prngReg c r) ∗ iprop(semVal ((c : Thread nD τ), SemLoc.dma 18) 0 ∗ semVal ((c : Thread nD τ), SemLoc.dma 19) 0) ∗ iprop(hbPt0 c hbM0_0 (V m c main_arg8))) := by
  cases n with
  | zero => exact absurd rfl hz
  | succ n => rfl

/-- The launch's proof data: the arrays as launched; after each point an input's buffer at its block, an output's at what the body leaves; the invariant above. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 m c t
    | ⟨9, _⟩ => sumAt m c (t.val + 1)
  Φ t := PhiS m c t.val
  q _ := fullShare
  owed _ := 0

/-- The proof data's arrays are the launched ones. -/
theorem A_eq (c : Dev nD) (w : Fin cfg0.W) : (dats m 0 c).A w = V m c (Pipeline.arrRef spec0 w) := by
  dsimp only [dats]

/-- Window 0 after a point. -/
theorem after_0 (c : Dev nD) (t : Fin cfg0.N) : (dats m 0 c).after 0 t = iblk m c 0 t := by dsimp only [dats]
/-- Window 1 after a point. -/
theorem after_1 (c : Dev nD) (t : Fin cfg0.N) : (dats m 0 c).after 1 t = iblk m c 1 t := by dsimp only [dats]
/-- Window 2 after a point. -/
theorem after_2 (c : Dev nD) (t : Fin cfg0.N) : (dats m 0 c).after 2 t = iblk m c 2 t := by dsimp only [dats]
/-- Window 3 after a point. -/
theorem after_3 (c : Dev nD) (t : Fin cfg0.N) : (dats m 0 c).after 3 t = iblk m c 3 t := by dsimp only [dats]
/-- Window 4 after a point. -/
theorem after_4 (c : Dev nD) (t : Fin cfg0.N) : (dats m 0 c).after 4 t = iblk m c 4 t := by dsimp only [dats]
/-- Window 5 after a point. -/
theorem after_5 (c : Dev nD) (t : Fin cfg0.N) : (dats m 0 c).after 5 t = iblk m c 5 t := by dsimp only [dats]
/-- Window 6 after a point. -/
theorem after_6 (c : Dev nD) (t : Fin cfg0.N) : (dats m 0 c).after 6 t = iblk m c 6 t := by dsimp only [dats]
/-- Window 7 after a point. -/
theorem after_7 (c : Dev nD) (t : Fin cfg0.N) : (dats m 0 c).after 7 t = iblk m c 7 t := by dsimp only [dats]
/-- Window 8 after a point. -/
theorem after_8 (c : Dev nD) (t : Fin cfg0.N) : (dats m 0 c).after 8 t = out8 m c t := by dsimp only [dats]
/-- Window 9 after a point. -/
theorem after_9 (c : Dev nD) (t : Fin cfg0.N) : (dats m 0 c).after 9 t = sumAt m c (t.val + 1) := by dsimp only [dats]
/-- Input window 0 holds its block before a point. -/
theorem before_0 (c : Dev nD) (t : Fin cfg0.N) (d) : (dats m 0 c).before 0 t d = iblk m c 0 t :=
  before0_0_of m (dats m 0 c) (A_eq m c 0) (after_0 m c) t d
/-- Input window 1 holds its block before a point. -/
theorem before_1 (c : Dev nD) (t : Fin cfg0.N) (d) : (dats m 0 c).before 1 t d = iblk m c 1 t :=
  before0_1_of m (dats m 0 c) (A_eq m c 1) (after_1 m c) t d
/-- Input window 2 holds its block before a point. -/
theorem before_2 (c : Dev nD) (t : Fin cfg0.N) (d) : (dats m 0 c).before 2 t d = iblk m c 2 t :=
  before0_2_of m (dats m 0 c) (A_eq m c 2) (after_2 m c) t d
/-- Input window 3 holds its block before a point. -/
theorem before_3 (c : Dev nD) (t : Fin cfg0.N) (d) : (dats m 0 c).before 3 t d = iblk m c 3 t :=
  before0_3_of m (dats m 0 c) (A_eq m c 3) (after_3 m c) t d
/-- Input window 4 holds its block before a point. -/
theorem before_4 (c : Dev nD) (t : Fin cfg0.N) (d) : (dats m 0 c).before 4 t d = iblk m c 4 t :=
  before0_4_of m (dats m 0 c) (A_eq m c 4) (after_4 m c) t d
/-- Input window 5 holds its block before a point. -/
theorem before_5 (c : Dev nD) (t : Fin cfg0.N) (d) : (dats m 0 c).before 5 t d = iblk m c 5 t :=
  before0_5_of m (dats m 0 c) (A_eq m c 5) (after_5 m c) t d
/-- Input window 6 holds its block before a point. -/
theorem before_6 (c : Dev nD) (t : Fin cfg0.N) (d) : (dats m 0 c).before 6 t d = iblk m c 6 t :=
  before0_6_of m (dats m 0 c) (A_eq m c 6) (after_6 m c) t d
/-- Input window 7 holds its block before a point. -/
theorem before_7 (c : Dev nD) (t : Fin cfg0.N) (d) : (dats m 0 c).before 7 t d = iblk m c 7 t :=
  before0_7_of m (dats m 0 c) (A_eq m c 7) (after_7 m c) t d
/-- At a later point the block of row sums still holds what the point before left. -/
theorem before_9 (c : Dev nD) (t : Fin cfg0.N) (h0 : t.val ≠ 0) (d) : (dats m 0 c).before 9 t d = sumAt m c t.val := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
  rw [Nat.sub_add_cancel (Nat.pos_of_ne_zero h0)]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- What a point does with the weights gathered. -/
theorem rest_body (c : Dev nD) (t : Fin cfg0.N) (W : Waits sig Unit) :
    iprop(iprop(iprop(owns (c : Thread nD τ) scM0_0 fullShare (W10 (V m c main_arg8)) ∗ (∃ d, owns (c : Thread nD τ) scM0_1 fullShare d)) ∗ (∃ r, prngReg c r) ∗ iprop(semVal ((c : Thread nD τ), SemLoc.dma 18) 0 ∗ semVal ((c : Thread nD τ), SemLoc.dma 19) 0) ∗ iprop(hbPt0 c hbM0_0 (V m c main_arg8))) ∗ owes (c : Thread nD τ) (0 : CellTallies nD τ sig Unit) W ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ owns (c : Thread nD τ) (ms0_9 t) fullShare (sumAt m c t.val))
      ⊢ wp frame (wpE (defs₀ (F := F)) Variants.none (c : Thread nD τ) none) Set.univ (cc0_dh_prenorm (iT t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hbM0_0 (Memref.isWhole_whole _) (ms0_8 t) (hs0_8 t) (ms0_9 t) (hs0_9 t) scM0_0 (Memref.isWhole_whole _) scM0_1 (Memref.isWhole_whole _) cc0_scratch2) (fun _ => bodyPost m c t) := by
  unfold bodyPost
  rw [show (dats m 0 c).Φ t.succ = PhiS m c (t.val + 1) from rfl, PhiS_pos m c _ (Nat.succ_ne_zero _),
    after_0, after_1, after_2, after_3, after_4, after_5, after_6, after_7, after_8, after_9, sumAt_succ]
  unfold Dat.owesAt Pipeline.owesWithin
  rw [show (dats m 0 c).owed t.succ = 0 from rfl]
  unfold out8 step9
  iintro ⟨⟨⟨HS0, HS1⟩, Hg, ⟨Hq0, Hq1⟩, Hh0⟩, HW, H0, H1, H2, H3, H4, H5, H6, H7, ⟨%d8, H8⟩, H9⟩
  iapply ((run m c t (sumAt m c t.val)).2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  isplitl [HW]; · iexact HW
  iintro ⟨H0, H1, H2, H3, H4, H5, H6, H7, ⟨%e8, H8⟩, H9, HS0, ⟨%W', HW'⟩⟩
  isplitl [HS0 HS1 Hg Hq0 Hq1 Hh0]
  · isplitl [HS0 HS1]
    · isplitl [HS0]; · iexact HS0
      iexact HS1
    isplitl [Hg]; · iexact Hg
    isplitl [Hq0 Hq1]
    · isplitl [Hq0]; · iexact Hq0
      iexact Hq1
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover8 m c t)
  unfold owns; iexists _; isplitr
  swap; · iexact H9
  ipureintro; rfl

/-- The weights' scratch as launched, for the load. -/
theorem owns_p10 (c : Dev nD) (d) : (owns (c : Thread nD τ) scM0_0 fullShare d : sProp 𝕄) ⊢ iprop(∃ f, p10 c Finset.univ f) := by
  unfold owns
  iintro ⟨%f, -, H⟩
  iexists f
  ihave H := (Entails.of_eq (p10_univ c f).symm) $$ H
  iexact H
/-- The small scratch as launched, for the load. -/
theorem owns_p11 (c : Dev nD) (d) : (owns (c : Thread nD τ) scM0_1 fullShare d : sProp 𝕄) ⊢ iprop(∃ f, p11 c Finset.univ f) := by
  unfold owns
  iintro ⟨%f, -, H⟩
  iexists f
  ihave H := (Entails.of_eq (p11_univ c f).symm) $$ H
  iexact H

/-- The body at any point: from the inputs' blocks and the invariant to what the point leaves and the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before_0, before_1, before_2, before_3, before_4, before_5, before_6, before_7]
  rw [show (dats m 0 c).Φ t.castSucc = PhiS m c t.val from rfl]
  unfold Dat.owesAt Pipeline.owesWithin
  rw [show (dats m 0 c).owed t.castSucc = 0 from rfl]
  by_cases hz : t.val = 0
  · rw [PhiS_zero m c _ hz, PhiD0_eq]
    rw [first_step c (grid0.coords t) (iT t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr hz) (hcT t)]
    iintro ⟨⟨⟨⟨%ds, HS0⟩, ⟨%ds1, HS1⟩⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HS0 := (owns_p10 c ds) $$ HS0
    ihave HS1 := (owns_p11 c ds1) $$ HS1
    icases HS0 with ⟨%f, HS0⟩
    icases HS1 with ⟨%g, HS1⟩
    iapply (load_spec c (V m c main_arg8) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) f g W _) $$ [HS0 HS1 Hh0 Hq0 Hq1 HW]
    · isplitl [HS0]; · iexact HS0
      isplitl [HS1]; · iexact HS1
      isplitl [Hh0]; · iexact Hh0
      isplitl [Hq0]; · iexact Hq0
      isplitl [Hq1]; · iexact Hq1
      iexact HW
    iintro ⟨HS0, HS1, Hh0, Hq0, Hq1, ⟨%W2, HW⟩⟩
    iapply (zero_spec c (ms0_9 t) (hs0_9 t) _ _) $$ H9
    iintro H9
    ihave H9 := (Entails.of_eq (show owns (c : Thread nD τ) (ms0_9 t) fullShare (k0_pay8 (F := F)) = owns (c : Thread nD τ) (ms0_9 t) fullShare (sumAt m c t.val) by rw [hz]; rfl)) $$ H9
    iapply (rest_body m c t W2)
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexact H9
  · rw [PhiS_pos m c _ hz]
    simp only [before_9 m c t hz]
    have e : grid0.coords t = iT t := by unfold iT; rw [if_neg hz]
    rw [e]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (rest_body m c t W)
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexact H9

/-- The body at point `t`'s buffers. -/
theorem defs₀_row (t : Fin cfg0.N) :
    defs₀ (F := F) .tc cfg0.body (cfg0.bodyArgs t (cfg0.slots t)) = bodyAt0 t := by
  unfold defs₀; rw [Defs.onTc_tc]

/-- The body's triple at every point, as the launch rule asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦD osem0 spec0 H0 (V m) c ⊢ (dats m 0 c).Φ 0 := by
  rw [show (dats m 0 c).Φ 0 = PhiS m c 0 from rfl, PhiS_zero m c 0 rfl]
  try exact Idealize.SL.BI.Entails.refl _

/-- After any point but the first the invariant gives the launch's own back, the scratch's contents forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val from rfl, PhiS_pos m c _ ht, PhiD0_eq]
  iintro ⟨⟨HS0, HS1⟩, Hg, ⟨Hq0, Hq1⟩, Hh0⟩
  isplitl [HS0 HS1]
  · isplitl [HS0]
    · iexists _; iexact HS0
    iexact HS1
  isplitl [Hg]; · iexact Hg
  isplitl [Hq0 Hq1]
  · isplitl [Hq0]; · iexact Hq0
    iexact Hq1
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

set_option backward.isDefEq.respectTransparency.types false in
/-- The launch: every array at what the proof data computes, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.PrenormGradIdeal.Hand

end
-- ==== Proof.PrenormGradBlock.lean ====
/- What the kernel of the gradient at the normalised rows computes from one block. -/
module

public import proofs.«01_k».proof.Proof.PrenormGradFrame
public import proofs.«01_k».proof.Proof.PrenormArray
public import proofs.«01_k».proof.Proof.PrenormW

@[expose] public section

set_option maxRecDepth 16384

noncomputable section

namespace Cert.Pg

open Cert.PrenormGradIdeal Cert.PrenormGradIdeal.Gen Cert.PrenormGradIdeal.Hand Idealize.ShloMosaic Idealize.ShloMosaic.TcCoe Idealize.SL.Sem
open Idealize.ShloMosaic.Pipeline (Dat)
open Cert.Pn (ms el el_eq gathered perm)

/-- The gradient at the normalised row `n`: the five pieces times the weights' columns of theirs. -/
def dh {N : ℕ} (A0 : (⟨2, ![N, 4096]⟩ : Shape).Idx → EReal) (A1 : (⟨2, ![N, 1024]⟩ : Shape).Idx → EReal) (A2 : (⟨2, ![N, 256]⟩ : Shape).Idx → EReal)
    (A3 : (⟨2, ![N, 1024]⟩ : Shape).Idx → EReal) (A4 : (⟨2, ![N, 2048]⟩ : Shape).Idx → EReal) (Wt : (⟨2, ![1024, 8448]⟩ : Shape).Idx → EReal) (n : Fin N) (k : Fin 1024) : EReal :=
  (∑ q : Fin 4096, A0 (ix2 n q) * Wt (ix2 k ⟨0 + q.val, by omega⟩)) + (∑ q : Fin 1024, A1 (ix2 n q) * Wt (ix2 k ⟨4096 + q.val, by omega⟩))
    + (∑ q : Fin 256, A2 (ix2 n q) * Wt (ix2 k ⟨5120 + q.val, by omega⟩)) + (∑ q : Fin 1024, A3 (ix2 n q) * Wt (ix2 k ⟨5376 + q.val, by omega⟩))
    + (∑ q : Fin 2048, A4 (ix2 n q) * Wt (ix2 k ⟨6400 + q.val, by omega⟩))

/-- The normalised row, without the gain. -/
def xh {N : ℕ} (X : (⟨2, ![N, 1024]⟩ : Shape).Idx → EReal) (n : Fin N) (k : Fin 1024) : EReal := X (ix2 n k) * Ideal.rsqrt (ms X n)

/-- The gradient in the row before the norm, added to the residual's. -/
def gx {N : ℕ} (D : Fin N → Fin 1024 → EReal) (X Do : (⟨2, ![N, 1024]⟩ : Shape).Idx → EReal) (G : (⟨2, ![1, 1024]⟩ : Shape).Idx → EReal) (n : Fin N) (k : Fin 1024) : EReal :=
  Do (ix2 n k) + Ideal.rsqrt (ms X n) * (D n k * G (ix2 0 k) - xh X n k * Ideal.div (∑ j, D n j * G (ix2 0 j) * xh X n j) (Ideal.ofBits .f32 0x44800000#32))

/-- The block's product. -/
theorem pay9_at (v3 : Vec Ideal S512x4096 .bf16) (v4 : Vec Ideal S1024x4096 .bf16) (v6 : Vec Ideal S512x1024 .bf16) (v7 : Vec Ideal S1024x1024 .bf16)
    (v10 : Vec Ideal S512x256 .bf16) (v11 : Vec Ideal S1024x256 .bf16) (v14 : Vec Ideal S512x1024 .bf16) (v15 : Vec Ideal S1024x1024 .bf16)
    (v18 : Vec Ideal S512x2048 .bf16) (v19 : Vec Ideal S1024x2048 .bf16) (r : Fin 512) (k : Fin 1024) :
    k0_pay9 (F := Ideal) v3 v4 v6 v7 v10 v11 v14 v15 v18 v19 (ix2 r k)
      = (∑ q : Fin 4096, v3 (ix2 r q) * v4 (ix2 k q)) + (∑ q : Fin 1024, v6 (ix2 r q) * v7 (ix2 k q)) + (∑ q : Fin 256, v10 (ix2 r q) * v11 (ix2 k q))
        + (∑ q : Fin 1024, v14 (ix2 r q) * v15 (ix2 k q)) + (∑ q : Fin 2048, v18 (ix2 r q) * v19 (ix2 k q)) := by
  unfold k0_pay9
  pointwise

/-- The row's factor. -/
theorem pay1_at (x : Vec Ideal S512x1024 .f32) (r : Fin 512) :
    k0_pay1 (F := Ideal) (k0_pay10 x) k0_pay11 (ix2 r 0) = Ideal.rsqrt (ms (N := 512) x r) := by
  unfold k0_pay1 k0_pay10 k0_pay11
  pointwise
  rfl

/-- The normalised block. -/
theorem pay2_at (x : Vec Ideal S512x1024 .f32) (r : Fin 512) (k : Fin 1024) :
    k0_pay2 (F := Ideal) x (k0_pay10 x) k0_pay11 (ix2 r k) = xh (N := 512) x r k := by
  have e := pay1_at x
  unfold k0_pay2
  generalize k0_pay1 (F := Ideal) (k0_pay10 x) k0_pay11 = z at e ⊢
  pointwise
  rw [e]
  rfl

/-- The block's addition to the gain's gradient. -/
theorem pay3_at (D : FVec Ideal S512x1024 .f32) (x : Vec Ideal S512x1024 .f32) (v : Vec Ideal S1x1024 .f32) (k : Fin 1024) :
    k0_pay3 (F := Ideal) D x (k0_pay10 x) k0_pay11 v (ix2 0 k) = v (ix2 0 k) + ∑ r : Fin 512, D (ix2 r k) * xh (N := 512) x r k := by
  have e := pay2_at x
  unfold k0_pay3
  generalize k0_pay2 (F := Ideal) x (k0_pay10 x) k0_pay11 = z at e ⊢
  pointwise
  simp only [e]

/-- The block's gradient before the norm. -/
theorem pay4_at (D : FVec Ideal S512x1024 .f32) (x : Vec Ideal S512x1024 .f32) (g : Vec Ideal S1x1024 .f32) (d : Vec Ideal S512x1024 .f32) (r : Fin 512) (k : Fin 1024) :
    k0_pay4 (F := Ideal) D x (k0_pay10 x) k0_pay11 g d (ix2 r k) = gx (N := 512) (fun r k => D (ix2 r k)) x d g r k := by
  have e := pay2_at x
  have e1 := pay1_at x
  unfold k0_pay4
  generalize k0_pay2 (F := Ideal) x (k0_pay10 x) k0_pay11 = z at e ⊢
  generalize k0_pay1 (F := Ideal) (k0_pay10 x) k0_pay11 = z1 at e1 ⊢
  pointwise
  simp only [e, e1]
  rfl

variable (x : Vec Ideal S4x1024x2176 .bf16)

/-- The first sum of halves. -/
theorem sum1_at (k : Fin 1024) (l : Fin 128) : sum1 (F := Ideal) x (ix2 k l) = el x 0 k (2048 + l.val) + el x 1 k l.val := by
  have e0 : Cert.PrenormIdeal.Hand.G11 (F := Ideal) x (ix3 0 k l) = el x 0 k (2048 + l.val) := el_eq x 0 k _ _ _ rfl
  have e1 : Cert.PrenormIdeal.Hand.G11 (F := Ideal) x (ix3 1 k l) = el x 1 k l.val := el_eq x 1 k _ _ _ (Nat.zero_add _)
  unfold sum1 k0_pay6 k0_pay5
  generalize Cert.PrenormIdeal.Hand.G11 (F := Ideal) x = g at e0 e1 ⊢
  simp only [View.readAt_eq_ld]
  rw [show scM0_1.view.read (Elt Ideal) g = g from rfl]
  pointwise
  rw [← e0, ← e1]

/-- The second. -/
theorem sum2_at (k : Fin 1024) (l : Fin 128) : sum2 (F := Ideal) x (ix2 k l) = el x 2 k (2048 + l.val) + el x 3 k l.val := by
  have e0 : Cert.PrenormIdeal.Hand.G11 (F := Ideal) x (ix3 2 k l) = el x 2 k (2048 + l.val) := el_eq x 2 k _ _ _ rfl
  have e1 : Cert.PrenormIdeal.Hand.G11 (F := Ideal) x (ix3 3 k l) = el x 3 k l.val := el_eq x 3 k _ _ _ (Nat.zero_add _)
  unfold sum2 k0_pay7
  generalize Cert.PrenormIdeal.Hand.G11 (F := Ideal) x = g at e0 e1 ⊢
  simp only [View.readAt_eq_ld]
  rw [show scM0_1.view.read (Elt Ideal) g = g from rfl]
  pointwise
  rw [← e0, ← e1]

/-- The weights are assembled as before the normalised rows' product. -/
theorem W10_eq : W10 (F := Ideal) x = Cert.PrenormIdeal.Hand.W10 (F := Ideal) x := by
  have h1 : sum1 (F := Ideal) x = Cert.PrenormIdeal.Hand.sum1 (F := Ideal) x := by
    funext i
    idx_vars i
    exact (sum1_at x i0 i1).trans (Cert.Pn.sum1_at x i0 i1).symm
  have h2 : sum2 (F := Ideal) x = Cert.PrenormIdeal.Hand.sum2 (F := Ideal) x := by
    funext i
    idx_vars i
    exact (sum2_at x i0 i1).trans (Cert.Pn.sum2_at x i0 i1).symm
  unfold W10 Cert.PrenormIdeal.Hand.W10
  rw [h1, h2]

end Cert.Pg

end
-- ==== Proof.PrenormGradArray.lean ====
/- What the kernel of the gradient at the normalised rows leaves in its results. -/
module

public import proofs.«01_k».proof.Proof.PrenormGradBlock

@[expose] public section

set_option maxRecDepth 16384

noncomputable section

namespace Cert.Pg

open Cert.PrenormGradIdeal Cert.PrenormGradIdeal.Gen Cert.PrenormGradIdeal.Hand Idealize.ShloMosaic Idealize.ShloMosaic.TcCoe Idealize.SL.Sem
open Idealize.ShloMosaic.Pipeline (Dat)
open Cert.Pn (ms)

variable (m : (ℓ : Loc nD τ sig) → Buf (Elt Ideal) ℓ) (c : Dev nD) (t : Fin cfg0.N)

/-- The weights as the first point assembles them. -/
abbrev wts : Vec Ideal S1024x8448 .bf16 := W10 (F := Ideal) (m ((c : Thread nD τ).loc main_arg8))

/-- The gradient at each normalised row. -/
def dhm (n : Fin 8192) (k : Fin 1024) : EReal :=
  dh (m ((c : Thread nD τ).loc main_arg0)) (m ((c : Thread nD τ).loc main_arg1)) (m ((c : Thread nD τ).loc main_arg2)) (m ((c : Thread nD τ).loc main_arg3)) (m ((c : Thread nD τ).loc main_arg4)) (wts m c) n k

/-- Which block of each array a point works on. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![t.val, 0]
    ∧ win0_9.index t = ![0, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![t.val, 0]
    ∧ win0_9.index t = ![0, 0])

/-- Row `r` of what point `t` reads of argument 0. -/
theorem read_0 (r : Fin 512) (q : Fin 4096) (n : Fin 8192) (hn : n.val = t.val * 512 + r.val) :
    View.readAt (Elt Ideal) (ms0_0 t).view (Rect.unit (s := S512x4096) ![0, 0] S512x4096.size inb_S512x4096_S512x4096_0_0).toLoadRect ((hs0_0 t).unread (iblk m c 0 t)) (ix2 r q)
      = m ((c : Thread nD τ).loc main_arg0) (ix2 n q) := by
  have e' : iblk m c 0 t (ix2 r q) = m ((c : Thread nD τ).loc main_arg0) (ix2 n q) := by
    obtain ⟨e, -⟩ := idx t
    have hN : t.val < 16 := t.isLt
    blk_ext [iblk, V, e]
  refine Eq.trans ?_ e'
  generalize iblk m c 0 t = x
  rw [View.readAt_eq_ld, Memref.IsWhole.read_unread]
  pointwise

/-- Row `r` of what point `t` reads of argument 1. -/
theorem read_1 (r : Fin 512) (q : Fin 1024) (n : Fin 8192) (hn : n.val = t.val * 512 + r.val) :
    View.readAt (Elt Ideal) (ms0_1 t).view (Rect.unit (s := S512x1024) ![0, 0] S512x1024.size inb_S512x1024_S512x1024_0_0).toLoadRect ((hs0_1 t).unread (iblk m c 1 t)) (ix2 r q)
      = m ((c : Thread nD τ).loc main_arg1) (ix2 n q) := by
  have e' : iblk m c 1 t (ix2 r q) = m ((c : Thread nD τ).loc main_arg1) (ix2 n q) := by
    obtain ⟨-, e, -⟩ := idx t
    have hN : t.val < 16 := t.isLt
    blk_ext [iblk, V, e]
  refine Eq.trans ?_ e'
  generalize iblk m c 1 t = x
  rw [View.readAt_eq_ld, Memref.IsWhole.read_unread]
  pointwise

/-- Row `r` of what point `t` reads of argument 2. -/
theorem read_2 (r : Fin 512) (q : Fin 256) (n : Fin 8192) (hn : n.val = t.val * 512 + r.val) :
    View.readAt (Elt Ideal) (ms0_2 t).view (Rect.unit (s := S512x256) ![0, 0] S512x256.size inb_S512x256_S512x256_0_0).toLoadRect ((hs0_2 t).unread (iblk m c 2 t)) (ix2 r q)
      = m ((c : Thread nD τ).loc main_arg2) (ix2 n q) := by
  have e' : iblk m c 2 t (ix2 r q) = m ((c : Thread nD τ).loc main_arg2) (ix2 n q) := by
    obtain ⟨-, -, e, -⟩ := idx t
    have hN : t.val < 16 := t.isLt
    blk_ext [iblk, V, e]
  refine Eq.trans ?_ e'
  generalize iblk m c 2 t = x
  rw [View.readAt_eq_ld, Memref.IsWhole.read_unread]
  pointwise

/-- Row `r` of what point `t` reads of argument 3. -/
theorem read_3 (r : Fin 512) (q : Fin 1024) (n : Fin 8192) (hn : n.val = t.val * 512 + r.val) :
    View.readAt (Elt Ideal) (ms0_3 t).view (Rect.unit (s := S512x1024) ![0, 0] S512x1024.size inb_S512x1024_S512x1024_0_0).toLoadRect ((hs0_3 t).unread (iblk m c 3 t)) (ix2 r q)
      = m ((c : Thread nD τ).loc main_arg3) (ix2 n q) := by
  have e' : iblk m c 3 t (ix2 r q) = m ((c : Thread nD τ).loc main_arg3) (ix2 n q) := by
    obtain ⟨-, -, -, e, -⟩ := idx t
    have hN : t.val < 16 := t.isLt
    blk_ext [iblk, V, e]
  refine Eq.trans ?_ e'
  generalize iblk m c 3 t = x
  rw [View.readAt_eq_ld, Memref.IsWhole.read_unread]
  pointwise

/-- Row `r` of what point `t` reads of argument 4. -/
theorem read_4 (r : Fin 512) (q : Fin 2048) (n : Fin 8192) (hn : n.val = t.val * 512 + r.val) :
    View.readAt (Elt Ideal) (ms0_4 t).view (Rect.unit (s := S512x2048) ![0, 0] S512x2048.size inb_S512x2048_S512x2048_0_0).toLoadRect ((hs0_4 t).unread (iblk m c 4 t)) (ix2 r q)
      = m ((c : Thread nD τ).loc main_arg4) (ix2 n q) := by
  have e' : iblk m c 4 t (ix2 r q) = m ((c : Thread nD τ).loc main_arg4) (ix2 n q) := by
    obtain ⟨-, -, -, -, e, -⟩ := idx t
    have hN : t.val < 16 := t.isLt
    blk_ext [iblk, V, e]
  refine Eq.trans ?_ e'
  generalize iblk m c 4 t = x
  rw [View.readAt_eq_ld, Memref.IsWhole.read_unread]
  pointwise

/-- Row `r` of what point `t` reads of argument 5. -/
theorem read_5 (r : Fin 512) (q : Fin 1024) (n : Fin 8192) (hn : n.val = t.val * 512 + r.val) :
    View.readAt (Elt Ideal) (ms0_5 t).view (Rect.unit (s := S512x1024) ![0, 0] S512x1024.size inb_S512x1024_S512x1024_0_0).toLoadRect ((hs0_5 t).unread (iblk m c 5 t)) (ix2 r q)
      = m ((c : Thread nD τ).loc main_arg5) (ix2 n q) := by
  have e' : iblk m c 5 t (ix2 r q) = m ((c : Thread nD τ).loc main_arg5) (ix2 n q) := by
    obtain ⟨-, -, -, -, -, e, -⟩ := idx t
    have hN : t.val < 16 := t.isLt
    blk_ext [iblk, V, e]
  refine Eq.trans ?_ e'
  generalize iblk m c 5 t = x
  rw [View.readAt_eq_ld, Memref.IsWhole.read_unread]
  pointwise

/-- Row `r` of what point `t` reads of argument 6. -/
theorem read_6 (r : Fin 512) (q : Fin 1024) (n : Fin 8192) (hn : n.val = t.val * 512 + r.val) :
    View.readAt (Elt Ideal) (ms0_6 t).view (Rect.unit (s := S512x1024) ![0, 0] S512x1024.size inb_S512x1024_S512x1024_0_0).toLoadRect ((hs0_6 t).unread (iblk m c 6 t)) (ix2 r q)
      = m ((c : Thread nD τ).loc main_arg6) (ix2 n q) := by
  have e' : iblk m c 6 t (ix2 r q) = m ((c : Thread nD τ).loc main_arg6) (ix2 n q) := by
    obtain ⟨-, -, -, -, -, -, e, -⟩ := idx t
    have hN : t.val < 16 := t.isLt
    blk_ext [iblk, V, e]
  refine Eq.trans ?_ e'
  generalize iblk m c 6 t = x
  rw [View.readAt_eq_ld, Memref.IsWhole.read_unread]
  pointwise

/-- What a point reads of the gain. -/
theorem read_7 (q : Fin 1024) :
    View.readAt (Elt Ideal) (ms0_7 t).view (Rect.unit (s := S1x1024) ![0, 0] S1x1024.size inb_S1x1024_S1x1024_0_0).toLoadRect ((hs0_7 t).unread (iblk m c 7 t)) (ix2 0 q)
      = m ((c : Thread nD τ).loc main_arg7) (ix2 0 q) := by
  have e' : iblk m c 7 t (ix2 0 q) = m ((c : Thread nD τ).loc main_arg7) (ix2 0 q) := by
    obtain ⟨-, -, -, -, -, -, -, e, -⟩ := idx t
    have hN : t.val < 16 := t.isLt
    blk_ext [iblk, V, e]
  refine Eq.trans ?_ e'
  generalize iblk m c 7 t = x
  rw [View.readAt_eq_ld, Memref.IsWhole.read_unread]
  pointwise

/-- What a point reads of the weights' columns from 0 on. -/
theorem read_w0 (Wt : Vec Ideal S1024x8448 .bf16) (k : Fin 1024) (q : Fin 4096) :
    View.readAt (Elt Ideal) scM0_0.view (Rect.unit (s := S1024x8448) ![0, 0] S1024x4096.size inb_S1024x8448_S1024x4096_0_0).toLoadRect ((Memref.isWhole_whole cc0_scratch0).unread Wt) (ix2 k q)
      = Wt (ix2 k ⟨0 + q.val, by omega⟩) := by
  rw [View.readAt_eq_ld, Memref.IsWhole.read_unread]
  pointwise

/-- What a point reads of the weights' columns from 4096 on. -/
theorem read_w1 (Wt : Vec Ideal S1024x8448 .bf16) (k : Fin 1024) (q : Fin 1024) :
    View.readAt (Elt Ideal) scM0_0.view (Rect.unit (s := S1024x8448) ![0, 4096] S1024x1024.size inb_S1024x8448_S1024x1024_0_4096).toLoadRect ((Memref.isWhole_whole cc0_scratch0).unread Wt) (ix2 k q)
      = Wt (ix2 k ⟨4096 + q.val, by omega⟩) := by
  rw [View.readAt_eq_ld, Memref.IsWhole.read_unread]
  pointwise

/-- What a point reads of the weights' columns from 5120 on. -/
theorem read_w2 (Wt : Vec Ideal S1024x8448 .bf16) (k : Fin 1024) (q : Fin 256) :
    View.readAt (Elt Ideal) scM0_0.view (Rect.unit (s := S1024x8448) ![0, 5120] S1024x256.size inb_S1024x8448_S1024x256_0_5120).toLoadRect ((Memref.isWhole_whole cc0_scratch0).unread Wt) (ix2 k q)
      = Wt (ix2 k ⟨5120 + q.val, by omega⟩) := by
  rw [View.readAt_eq_ld, Memref.IsWhole.read_unread]
  pointwise

/-- What a point reads of the weights' columns from 5376 on. -/
theorem read_w3 (Wt : Vec Ideal S1024x8448 .bf16) (k : Fin 1024) (q : Fin 1024) :
    View.readAt (Elt Ideal) scM0_0.view (Rect.unit (s := S1024x8448) ![0, 5376] S1024x1024.size inb_S1024x8448_S1024x1024_0_5376).toLoadRect ((Memref.isWhole_whole cc0_scratch0).unread Wt) (ix2 k q)
      = Wt (ix2 k ⟨5376 + q.val, by omega⟩) := by
  rw [View.readAt_eq_ld, Memref.IsWhole.read_unread]
  pointwise

/-- What a point reads of the weights' columns from 6400 on. -/
theorem read_w4 (Wt : Vec Ideal S1024x8448 .bf16) (k : Fin 1024) (q : Fin 2048) :
    View.readAt (Elt Ideal) scM0_0.view (Rect.unit (s := S1024x8448) ![0, 6400] S1024x2048.size inb_S1024x8448_S1024x2048_0_6400).toLoadRect ((Memref.isWhole_whole cc0_scratch0).unread Wt) (ix2 k q)
      = Wt (ix2 k ⟨6400 + q.val, by omega⟩) := by
  rw [View.readAt_eq_ld, Memref.IsWhole.read_unread]
  pointwise

/-- The block's product, as a point reads its operands. -/
def blkD : FVec Ideal S512x1024 .f32 := k0_pay9 (F := Ideal) (View.readAt (Elt Ideal) (ms0_0 t).view (Rect.unit (s := S512x4096) ![0, 0] S512x4096.size inb_S512x4096_S512x4096_0_0).toLoadRect ((hs0_0 t).unread (iblk m c 0 t))) (View.readAt (Elt Ideal) scM0_0.view (Rect.unit (s := S1024x8448) ![0, 0] S1024x4096.size inb_S1024x8448_S1024x4096_0_0).toLoadRect ((Memref.isWhole_whole cc0_scratch0).unread (wts m c))) (View.readAt (Elt Ideal) (ms0_1 t).view (Rect.unit (s := S512x1024) ![0, 0] S512x1024.size inb_S512x1024_S512x1024_0_0).toLoadRect ((hs0_1 t).unread (iblk m c 1 t))) (View.readAt (Elt Ideal) scM0_0.view (Rect.unit (s := S1024x8448) ![0, 4096] S1024x1024.size inb_S1024x8448_S1024x1024_0_4096).toLoadRect ((Memref.isWhole_whole cc0_scratch0).unread (wts m c))) (View.readAt (Elt Ideal) (ms0_2 t).view (Rect.unit (s := S512x256) ![0, 0] S512x256.size inb_S512x256_S512x256_0_0).toLoadRect ((hs0_2 t).unread (iblk m c 2 t))) (View.readAt (Elt Ideal) scM0_0.view (Rect.unit (s := S1024x8448) ![0, 5120] S1024x256.size inb_S1024x8448_S1024x256_0_5120).toLoadRect ((Memref.isWhole_whole cc0_scratch0).unread (wts m c))) (View.readAt (Elt Ideal) (ms0_3 t).view (Rect.unit (s := S512x1024) ![0, 0] S512x1024.size inb_S512x1024_S512x1024_0_0).toLoadRect ((hs0_3 t).unread (iblk m c 3 t))) (View.readAt (Elt Ideal) scM0_0.view (Rect.unit (s := S1024x8448) ![0, 5376] S1024x1024.size inb_S1024x8448_S1024x1024_0_5376).toLoadRect ((Memref.isWhole_whole cc0_scratch0).unread (wts m c))) (View.readAt (Elt Ideal) (ms0_4 t).view (Rect.unit (s := S512x2048) ![0, 0] S512x2048.size inb_S512x2048_S512x2048_0_0).toLoadRect ((hs0_4 t).unread (iblk m c 4 t))) (View.readAt (Elt Ideal) scM0_0.view (Rect.unit (s := S1024x8448) ![0, 6400] S1024x2048.size inb_S1024x8448_S1024x2048_0_6400).toLoadRect ((Memref.isWhole_whole cc0_scratch0).unread (wts m c)))

/-- It is the gradient at the block's rows. -/
theorem blkD_at (r : Fin 512) (k : Fin 1024) (n : Fin 8192) (hn : n.val = t.val * 512 + r.val) : blkD m c t (ix2 r k) = dhm m c n k := by
  unfold blkD
  refine (pay9_at _ _ _ _ _ _ _ _ _ _ r k).trans ?_
  unfold dhm dh
  refine congrArg₂ (· + ·) (congrArg₂ (· + ·) (congrArg₂ (· + ·) (congrArg₂ (· + ·) ?_ ?_) ?_) ?_) ?_
  · exact Finset.sum_congr rfl fun q _ => congrArg₂ (· * ·) (read_0 m c t r q n hn) (read_w0 _ k q)
  · exact Finset.sum_congr rfl fun q _ => congrArg₂ (· * ·) (read_1 m c t r q n hn) (read_w1 _ k q)
  · exact Finset.sum_congr rfl fun q _ => congrArg₂ (· * ·) (read_2 m c t r q n hn) (read_w2 _ k q)
  · exact Finset.sum_congr rfl fun q _ => congrArg₂ (· * ·) (read_3 m c t r q n hn) (read_w3 _ k q)
  · exact Finset.sum_congr rfl fun q _ => congrArg₂ (· * ·) (read_4 m c t r q n hn) (read_w4 _ k q)

/-- The rows before the norm, as a point reads them. -/
def blkX : Vec Ideal S512x1024 .f32 := (View.readAt (Elt Ideal) (ms0_5 t).view (Rect.unit (s := S512x1024) ![0, 0] S512x1024.size inb_S512x1024_S512x1024_0_0).toLoadRect ((hs0_5 t).unread (iblk m c 5 t)))

/-- Their normalised row is the array's. -/
theorem ms_blk (r : Fin 512) (n : Fin 8192) (hn : n.val = t.val * 512 + r.val) :
    ms (N := 512) (blkX m c t) r = ms (m ((c : Thread nD τ).loc main_arg5)) n := by
  unfold ms blkX
  have e := fun k => read_5 m c t r k n hn
  simp only [e]

/-- And without the gain. -/
theorem xh_blk (r : Fin 512) (k : Fin 1024) (n : Fin 8192) (hn : n.val = t.val * 512 + r.val) :
    xh (N := 512) (blkX m c t) r k = xh (m ((c : Thread nD τ).loc main_arg5)) n k := by
  unfold xh
  rw [ms_blk m c t r n hn]
  exact congrArg (· * _) (read_5 m c t r k n hn)

/-- What a point leaves in the first result. -/
theorem out8_at (r : Fin 512) (q : Fin 1024) (n : Fin 8192) (hn : n.val = t.val * 512 + r.val) :
    out8 m c t (ix2 r q) = gx (dhm m c) (m ((c : Thread nD τ).loc main_arg5)) (m ((c : Thread nD τ).loc main_arg6)) (m ((c : Thread nD τ).loc main_arg7)) n q := by
  unfold out8
  refine (View.read_writes_cons_unit_of_mem (off' := ![0, 0]) VO0_8 _ inb_S512x1024_S512x1024_0_0 _ [] (ix2 r q) (ix2 r q) rfl (fun a => match a with
    | ⟨0, _⟩ => (Nat.zero_add _).symm
    | ⟨1, _⟩ => (Nat.zero_add _).symm)).trans ?_
  refine (pay4_at (blkD m c t) (blkX m c t) _ _ r q).trans ?_
  unfold gx
  rw [ms_blk m c t r n hn, xh_blk m c t r q n hn]
  have eD := fun k => blkD_at m c t r k n hn
  have eX := fun k => xh_blk m c t r k n hn
  have eG := fun k => read_7 m c t k
  simp only [eD, eX]
  refine congrArg₂ (· + ·) (read_6 m c t r q n hn) (congrArg (Ideal.rsqrt _ * ·) (congrArg₂ (· - ·) (congrArg (_ * ·) (eG q)) ?_))
  refine congrArg (fun s => _ * Ideal.div s _) (Finset.sum_congr rfl fun k _ => congrArg (· * _) (congrArg (_ * ·) (eG k)))

/-- One block's addition to the gain's gradient. -/
def addRow (n : ℕ) (q : Fin 1024) : EReal :=
  if h : n < 16 then ∑ r : Fin 512, dhm m c ⟨n * 512 + r.val, by omega⟩ q * xh (m ((c : Thread nD τ).loc main_arg5)) ⟨n * 512 + r.val, by omega⟩ q else 0

/-- The row sums after a point. -/
theorem step9_at (s : Vec Ideal S8x1024 .f32) (p : Fin 8) (q : Fin 1024) :
    step9 m c t s (ix2 p q) = s (ix2 p q) + if p.val = 0 then addRow m c t.val q else 0 := by
  have hN : t.val < 16 := t.isLt
  unfold step9
  split
  · rename_i hp
    obtain rfl : p = 0 := Fin.ext hp
    refine (View.read_writes_cons_rows_of_mem (o := 0) _ _ inb_S8x1024_S1x1024_0_0 _ [] (ix2 0 q) (ix2 (n0 := 1) 0 q) rfl rfl rfl).trans ?_
    refine (pay3_at (blkD m c t) (blkX m c t) _ q).trans ?_
    unfold addRow
    rw [dif_pos hN]
    refine congrArg₂ (· + ·) ?_ (Finset.sum_congr rfl fun r _ => congrArg₂ (· * ·) (blkD_at m c t r q _ rfl) (xh_blk m c t r q _ rfl))
    refine (Memref.IsWhole.readAt_unread (hs0_9 t) s (Rect.unit (s := S8x1024) ![0, 0] S1x1024.size inb_S8x1024_S1x1024_0_0).toLoadRect (ix2 (n0 := 1) 0 q)).trans ?_
    exact congrArg s (by funext a; match a with | ⟨0, _⟩ => rfl | ⟨1, _⟩ => exact Fin.ext (by simp))
  · rename_i hp
    rw [add_zero]
    refine (View.read_writes_cons_rows_of_not_mem (o := 0) _ _ inb_S8x1024_S1x1024_0_0 _ [] (ix2 p q) (W := 1) rfl rfl (by show p.val < 0 ∨ 0 + 1 ≤ p.val; omega)).trans ?_
    exact congrFun ((hs0_9 t).read_unread s) _

/-- The row sums after `n` points. -/
theorem sumAt_at (p : Fin 8) (q : Fin 1024) : ∀ n : ℕ, n ≤ 16 → sumAt m c n (ix2 p q) = if p.val = 0 then ∑ s ∈ Finset.range n, addRow m c s q else 0 := by
  intro n
  induction n with
  | zero =>
    intro _
    have e : sumAt m c 0 (ix2 p q) = Ideal.ofBits .f32 0x00000000#32 := rfl
    rw [e, Finset.range_zero, Finset.sum_empty, ite_self]
    exact Ideal.ofBits_zero_f32
  | succ n ih =>
    intro hn
    have e := congrFun (sumAt_succ m c ⟨n, by show n < 16; omega⟩) (ix2 p q)
    refine e.trans ((step9_at m c _ _ p q).trans ?_)
    dsimp only
    rw [ih (by omega), Finset.sum_range_succ]
    split
    · rfl
    · rw [add_zero]

/-- The first result. -/
def gxArr (D : Fin 8192 → Fin 1024 → EReal) (X Do : (⟨2, ![8192, 1024]⟩ : Shape).Idx → EReal) (G : (⟨2, ![1, 1024]⟩ : Shape).Idx → EReal) (i : S8192x1024.Idx) : EReal :=
  have h0 : (i 0).val < 8192 := (i 0).isLt
  have h1 : (i 1).val < 1024 := (i 1).isLt
  gx D X Do G ⟨(i 0).val, h0⟩ ⟨(i 1).val, h1⟩

/-- The first result at an index. -/
theorem gxArr_at (D : Fin 8192 → Fin 1024 → EReal) (X Do : (⟨2, ![8192, 1024]⟩ : Shape).Idx → EReal) (G : (⟨2, ![1, 1024]⟩ : Shape).Idx → EReal)
    (n : Fin 8192) (q : Fin 1024) (i : S8192x1024.Idx) (h0 : (i 0).val = n.val) (h1 : (i 1).val = q.val) : gxArr D X Do G i = gx D X Do G n q := by
  unfold gxArr
  dsimp only
  congr 1 <;> exact Fin.ext (by assumption)

/-- The second: the gain's gradient in row 0, zeros below. -/
def ggArr (D : Fin 8192 → Fin 1024 → EReal) (X : (⟨2, ![8192, 1024]⟩ : Shape).Idx → EReal) (i : S8x1024.Idx) : EReal :=
  have h1 : (i 1).val < 1024 := (i 1).isLt
  if (i 0).val = 0 then ∑ n : Fin 8192, D n ⟨(i 1).val, h1⟩ * xh X n ⟨(i 1).val, h1⟩ else 0

/-- The second result at an index. -/
theorem ggArr_at (D : Fin 8192 → Fin 1024 → EReal) (X : (⟨2, ![8192, 1024]⟩ : Shape).Idx → EReal)
    (p : Fin 8) (q : Fin 1024) (i : S8x1024.Idx) (h0 : (i 0).val = p.val) (h1 : (i 1).val = q.val) :
    ggArr D X i = if p.val = 0 then ∑ n : Fin 8192, D n q * xh X n q else 0 := by
  obtain rfl : q = ⟨(i 1).val, (i 1).isLt⟩ := Fin.ext h1.symm
  unfold ggArr
  dsimp only
  rw [h0]

/-- The sixteen blocks' sums make the sum over every row. -/
theorem sum_blocks (q : Fin 1024) : ∑ s ∈ Finset.range 16, addRow m c s q = ∑ n : Fin 8192, dhm m c n q * xh (m ((c : Thread nD τ).loc main_arg5)) n q := by
  rw [Finset.sum_range, ← Fin.sum_mul_add_fin 16 512 (fun n => dhm m c n q * xh (m ((c : Thread nD τ).loc main_arg5)) n q) rfl]
  refine Finset.sum_congr rfl fun s _ => ?_
  unfold addRow
  rw [dif_pos s.isLt]

/-- The array of the first result. -/
theorem final8 : (dats (F := Ideal) m 0 c).arrAt 8 cfg0.N
    = gxArr (dhm m c) (m ((c : Thread nD τ).loc main_arg5)) (m ((c : Thread nD τ).loc main_arg6)) (m ((c : Thread nD τ).loc main_arg7)) := by
  refine (dats m 0 c).arrAt_eq_of_covers 8 _ (by decide +kernel) fun t hf y => ?_
  obtain ⟨-, -, -, -, -, -, -, -, e, -⟩ := idx t
  blk_simp
  rw [after_8]
  have ho := out8_at m c t
  generalize out8 m c t = z at ho ⊢
  generalize dhm m c = D at ho ⊢
  generalize m ((c : Thread nD τ).loc main_arg5) = X at ho ⊢
  generalize m ((c : Thread nD τ).loc main_arg6) = Do at ho ⊢
  generalize m ((c : Thread nD τ).loc main_arg7) = G at ho ⊢
  have hN : t.val < 16 := t.isLt
  have hy0 : (y 0).val < 512 := (y 0).isLt
  have hy1 : (y 1).val < 1024 := (y 1).isLt
  refine (congrArg z (eq_ix2 y)).trans ((ho (y 0) (y 1) ⟨t.val * 512 + (y 0).val, by omega⟩ rfl).trans ?_)
  refine (gxArr_at D X Do G ⟨t.val * 512 + (y 0).val, by omega⟩ (y 1) _ ?_ ?_).symm
  all_goals
    blk_simp [e]
    try dsimp only
    try omega

/-- The array of the second. -/
theorem final9 : (dats (F := Ideal) m 0 c).arrAt 9 cfg0.N = ggArr (dhm m c) (m ((c : Thread nD τ).loc main_arg5)) := by
  refine (dats m 0 c).arrAt_eq_of_covers 9 _ (by decide +kernel) fun t hf y => ?_
  obtain ⟨-, -, -, -, -, -, -, -, -, e⟩ := idx t
  blk_simp
  rw [after_9]
  have hN : t.val < 16 := t.isLt
  have hr : t.val % 16 = 15 := (flush0_9 t).mp hf
  have ht : t.val + 1 = 16 := by omega
  rw [ht]
  have ho := fun p q => sumAt_at m c p q 16 le_rfl
  have hb := sum_blocks m c
  generalize sumAt m c 16 = z at ho ⊢
  simp only [hb] at ho
  generalize dhm m c = D at ho ⊢
  generalize m ((c : Thread nD τ).loc main_arg5) = X at ho ⊢
  refine (congrArg z (eq_ix2 y)).trans ((ho (y 0) (y 1)).trans ?_)
  refine (ggArr_at D X (y 0) (y 1) _ ?_ ?_).symm
  all_goals
    blk_simp [e]
    try dsimp only
    try omega

/-- The kernel's run: each result array in closed form, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = gxArr (dhm m c) (m ((c : Thread nD τ).loc main_arg5)) (m ((c : Thread nD τ).loc main_arg6)) (m ((c : Thread nD τ).loc main_arg7))
      ∧ r.2.mem ((c.tc : Thread nD τ).loc main_v0_1) = ggArr (dhm m c) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.1 c).1 8).trans (final8 m c), ((h.1 c).1 9).trans (final9 m c), h.2 c⟩)
    (θ_run_and (run_main m ρ) (unchanged m ρ))

end Cert.Pg

end
-- ==== Proof.PrenormGradPre.lean ====
/- The kernel of the gradient at the normalised rows: its two printed texts are one, and both leave their arguments unchanged. -/
module

public import proofs.«01_k».proof.Proof.PrenormGradFrame
public import proofs.«01_k».proof.Defs
public import proofs.«01_k».proof.Proof.Gen.PrenormGrad.Skeleton

@[expose] public section

set_option maxRecDepth 16384

noncomputable section

namespace Cert.Pg

open Idealize.ShloMosaic Idealize.ShloMosaic.TcCoe Idealize.SL.Sem

variable {F : FTy → Type} [FloatOps F]

/-- The two printed texts' body tables are one. -/
theorem defs₀_eq : @Cert.PrenormGrad.defs₀ F _ Cert.PrenormGrad.Gen.facts = @Cert.PrenormGradIdeal.defs₀ F _ Cert.PrenormGradIdeal.Gen.facts := by
  unfold Cert.PrenormGrad.defs₀ Cert.PrenormGradIdeal.defs₀
  refine congrArg Defs.onTc ?_
  funext l a
  match l, a with
  | 0, (t, s) => rfl
  | ⟨_ + 1, h⟩, _ => exact absurd h (Nat.not_lt.2 (Nat.le_add_left _ _))

/-- And so are the tables with the launch's rounds. -/
theorem defs_eq : @Cert.PrenormGrad.defs F _ Cert.PrenormGrad.Gen.facts = @Cert.PrenormGradIdeal.defs F _ Cert.PrenormGradIdeal.Gen.facts := by
  unfold Cert.PrenormGrad.defs Cert.PrenormGradIdeal.defs
  exact congrArg (Idealize.ShloMosaic.Pipeline.defs (Cert.PrenormGradIdeal.pcfgs (F := F))) defs₀_eq

/-- The frame of the bit-exact reading. -/
theorem frame : Cert.quiescent_PrenormGrad := fun m ρ _ => by
  rw [defs_eq]
  exact Cert.PrenormGradIdeal.Hand.frame (F := Bits) m ρ

/-- The frame of the ideal reading. -/
theorem frameIdeal : Cert.quiescent_PrenormGradIdeal := fun m ρ _ =>
  Cert.PrenormGradIdeal.Hand.frame (F := Ideal) m ρ

end Cert.Pg

end
-- ==== Proof.PrenormGradRef.lean ====
/- The reference of the gradient at the normalised rows: its run and its frame. -/
module

public import proofs.«01_k».proof.Proof.PrenormGradPre
public import proofs.«01_k».proof.Proof.Gen.PrenormGradReferenceIdeal.Read

@[expose] public section

set_option maxRecDepth 16384

noncomputable section

namespace Cert.Pg

open Cert.PrenormGradReferenceIdeal Cert.PrenormGradReferenceIdeal.Gen Cert.PrenormGradReferenceIdeal.Read Idealize.ShloMosaic Idealize.ShloMosaic.TcCoe Idealize.SL.Sem Idealize.ShloMosaic.StableHlo

/-- The reference's run: the results in its operations' terms, the arguments unchanged. -/
theorem refRun (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v67) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (val_main_v65_eq _ _), (h c).2.1.trans (val_main_v67_eq _ _), (h c).2.2⟩)
    (Cert.PrenormGradReferenceIdeal.Value.run (F := Ideal) m ρ)

/-- The frame of the reference, which declares no semaphore. -/
theorem frameReference : Cert.quiescent_PrenormGradReferenceIdeal := fun m ρ _ =>
  (θ_run Cert.PrenormGradReferenceIdeal.defs _ _).mono (fun _ h => ⟨fun c => (h c).2.2, funext nofun⟩) (refRun m ρ)

end Cert.Pg

end
-- ==== Proof.PrenormGradEq.lean ====
/- The kernel of the gradient at the normalised rows and its reference agree. -/
module

public import proofs.«01_k».proof.Proof.PrenormGradArray
public import proofs.«01_k».proof.Proof.PrenormGradRef
public import proofs.«01_k».proof.Proof.MergeVjp

@[expose] public section

set_option maxRecDepth 16384

noncomputable section

namespace Cert.Pg

open Cert.PrenormGradReferenceIdeal Cert.PrenormGradReferenceIdeal.Gen Cert.PrenormGradReferenceIdeal.Read Idealize.ShloMosaic Idealize.ShloMosaic.TcCoe Idealize.SL.Sem Idealize.ShloMosaic.StableHlo
open Cert.Pn (ms el el_eq gathered perm)
open Cert.Merge (div_1024 bits_neg_half real_mul_sum add_self bits_1024 eps_pos sq_nonneg')

/-- The norm's gradient in the form the reverse pass gives it, and in the kernel's. -/
theorem vjp_eq (z : EReal) (hpos : 0 < z) (y c : Fin 1024 → EReal) (q : Fin 1024) :
    c q * Ideal.rsqrt z + y q * Ideal.div ((∑ k, y k * c k) * (Ideal.ofBits .f32 0xBF000000#32 * Ideal.div (Ideal.rsqrt z) z)) 1024
        + Ideal.div ((∑ k, y k * c k) * (Ideal.ofBits .f32 0xBF000000#32 * Ideal.div (Ideal.rsqrt z) z)) 1024 * y q
      = Ideal.rsqrt z * (c q - y q * Ideal.rsqrt z * Ideal.div (∑ k, c k * (y k * Ideal.rsqrt z)) 1024) := by
  rw [div_1024, div_1024, bits_neg_half]
  induction z with
  | bot => exact absurd hpos (by simp)
  | top =>
    have e : Ideal.rsqrt ⊤ = 0 := rfl
    have e' : Ideal.div 0 ⊤ = 0 := by unfold Ideal.div; rw [if_neg (by simp), zero_mul]
    simp only [e, e', mul_zero, zero_mul, add_zero]
  | coe a =>
    have ha : 0 < a := by exact_mod_cast hpos
    have e : Ideal.rsqrt (a : EReal) = (((Real.sqrt a)⁻¹ : ℝ) : EReal) := by
      show (if a < 0 then ⊥ else if a = 0 then ⊤ else (((Real.sqrt a)⁻¹ : ℝ) : EReal)) = _
      rw [if_neg (not_lt.2 ha.le), if_neg ha.ne']
    have hr : 0 < (Real.sqrt a)⁻¹ := inv_pos.2 (Real.sqrt_pos.2 ha)
    have hrr : (Real.sqrt a)⁻¹ * (Real.sqrt a)⁻¹ = a⁻¹ := by rw [← mul_inv, Real.mul_self_sqrt ha.le]
    have ed : Ideal.div (((Real.sqrt a)⁻¹ : ℝ) : EReal) (a : EReal) = (((Real.sqrt a)⁻¹ * a⁻¹ : ℝ) : EReal) := by
      unfold Ideal.div
      rw [if_neg (by exact_mod_cast ha.ne'), ← EReal.coe_inv, ← EReal.coe_mul]
    rw [e, ed]
    generalize (Real.sqrt a)⁻¹ = r at hr hrr ⊢
    rw [← hrr]
    have es : ∑ k, c k * (y k * (r : EReal)) = (r : EReal) * ∑ k, y k * c k := by
      rw [real_mul_sum _ r hr.le]
      exact Finset.sum_congr rfl fun k _ => by ac_rfl
    rw [es, sub_eq_add_neg, EReal.left_distrib_of_nonneg_of_ne_top (by exact_mod_cast hr.le) (EReal.coe_ne_top r), add_assoc]
    generalize (∑ k, y k * c k) = S
    generalize y q = y
    generalize c q = c
    refine congrArg₂ (· + ·) (mul_comm _ _) ?_
    rw [mul_comm _ y, add_self, mul_neg, EReal.coe_mul r, EReal.coe_mul r]
    have e2 : ((2 : ℝ) : EReal) * ((-(1 / 2) : ℝ) : EReal) = -1 := by rw [← EReal.coe_mul]; norm_num
    calc ((2 : ℝ) : EReal) * (y * (S * (((-(1 / 2) : ℝ) : EReal) * ((r : EReal) * ((r : EReal) * (r : EReal)))) * (1024 : EReal)⁻¹))
        = (((2 : ℝ) : EReal) * ((-(1 / 2) : ℝ) : EReal)) * ((r : EReal) * (y * (r : EReal) * ((r : EReal) * S * (1024 : EReal)⁻¹))) := by ac_rfl
      _ = -((r : EReal) * (y * (r : EReal) * ((r : EReal) * S * (1024 : EReal)⁻¹))) := by rw [e2, neg_one_mul]

/-- The mean square with the small constant is positive. -/
theorem ms_pos {N : ℕ} (X : (⟨2, ![N, 1024]⟩ : Shape).Idx → EReal) (n : Fin N) : 0 < ms X n := by
  unfold ms
  refine lt_of_lt_of_le eps_pos (le_add_of_nonneg_left ?_)
  rw [bits_1024, div_1024]
  refine EReal.mul_nonneg (Finset.sum_nonneg fun q _ => sq_nonneg' _) (EReal.inv_nonneg_of_nonneg ?_)
  exact_mod_cast (by norm_num : (0 : ℝ) ≤ 1024)

/-- A sum over the 8448 columns, split in the five pieces'. -/
theorem split5 (f : Fin 8448 → EReal) : ∑ p, f p = (∑ q : Fin 4096, f ⟨q.val, by omega⟩) + (∑ q : Fin 1024, f ⟨4096 + q.val, by omega⟩)
    + (∑ q : Fin 256, f ⟨5120 + q.val, by omega⟩) + (∑ q : Fin 1024, f ⟨5376 + q.val, by omega⟩) + (∑ q : Fin 2048, f ⟨6400 + q.val, by omega⟩) := by
  have s1 : ∑ p, f p = (∑ p : Fin 6400, f ⟨p.val, by omega⟩) + ∑ q : Fin 2048, f ⟨6400 + q.val, by omega⟩ := Fin.sum_univ_add (a := 6400) (b := 2048) f
  have s2 : ∑ p : Fin 6400, f ⟨p.val, by omega⟩ = (∑ p : Fin 5376, f ⟨p.val, by omega⟩) + ∑ q : Fin 1024, f ⟨5376 + q.val, by omega⟩ :=
    Fin.sum_univ_add (a := 5376) (b := 1024) fun p => f ⟨p.val, by omega⟩
  have s3 : ∑ p : Fin 5376, f ⟨p.val, by omega⟩ = (∑ p : Fin 5120, f ⟨p.val, by omega⟩) + ∑ q : Fin 256, f ⟨5120 + q.val, by omega⟩ :=
    Fin.sum_univ_add (a := 5120) (b := 256) fun p => f ⟨p.val, by omega⟩
  have s4 : ∑ p : Fin 5120, f ⟨p.val, by omega⟩ = (∑ p : Fin 4096, f ⟨p.val, by omega⟩) + ∑ q : Fin 1024, f ⟨4096 + q.val, by omega⟩ :=
    Fin.sum_univ_add (a := 4096) (b := 1024) fun p => f ⟨p.val, by omega⟩
  rw [s1, s2, s3, s4]

/-- The regrouped column of a column of the first piece. -/
def permF (q : Fin 4096) : Fin 4096 := ⟨perm q.val, by unfold perm; rw [if_pos q.isLt]; omega⟩

/-- Its number. -/
theorem permF_val (q : Fin 4096) : (permF q).val = q.val / 128 % 4 * 1024 + q.val / 512 * 128 + q.val % 128 := if_pos q.isLt

/-- The columns of the first piece, regrouped, are all of them. -/
theorem permF_bij : Function.Bijective permF := by
  refine Finite.injective_iff_bijective.mp fun a b h => Fin.ext ?_
  have e := (permF_val a).symm.trans ((congrArg Fin.val h).trans (permF_val b))
  have ha : a.val < 4096 := a.isLt
  have hb : b.val < 4096 := b.isLt
  have a0 : a.val = a.val / 512 * 512 + a.val / 128 % 4 * 128 + a.val % 128 := by omega
  have b0 : b.val = b.val / 512 * 512 + b.val / 128 % 4 * 128 + b.val % 128 := by omega
  have a1 : a.val / 512 < 8 := by omega
  have b1 : b.val / 512 < 8 := by omega
  have a2 : a.val / 128 % 4 < 4 := by omega
  have b2 : b.val / 128 % 4 < 4 := by omega
  have a3 : a.val % 128 < 128 := by omega
  have b3 : b.val % 128 < 128 := by omega
  rw [a0, b0]
  clear a0 b0 h ha hb
  generalize a.val / 512 = u at *
  generalize b.val / 512 = u' at *
  generalize a.val / 128 % 4 = v at *
  generalize b.val / 128 % 4 = v' at *
  generalize a.val % 128 = w at *
  generalize b.val % 128 = w' at *
  omega

variable (x0 : S8192x4096.Idx → EReal) (x1 : S8192x1024.Idx → EReal) (x2 : S8192x256.Idx → EReal) (x3 : S8192x1024.Idx → EReal) (x4 : S8192x2048.Idx → EReal)
  (x5 x6 : S8192x1024.Idx → EReal) (x7 : S1x1024.Idx → EReal) (x8 : S4x1024x2176.Idx → EReal)

/-- A slice of shard 0. -/
theorem v17_at (k : Fin 1024) (l : Fin 2048) : val_main_v17 (F := Ideal) x8 (ix2 k l) = el x8 0 k (0 + l.val) := by
  rw [val_main_v17_apply, val_main_v10_apply, val_main_v9_apply]
  have hk : k.val < 1024 := k.isLt
  have hl : l.val < 2048 := l.isLt
  refine congrArg x8 ?_
  funext d
  match d with
  | ⟨0, _⟩ => exact Fin.ext rfl
  | ⟨1, _⟩ =>
    refine Fin.ext ?_
    show (k.val * 2176 + (l.val)) / 2176 % 1024 = k.val
    omega
  | ⟨2, _⟩ =>
    refine Fin.ext ?_
    show (k.val * 2176 + (l.val)) % 2176 = (0 + l.val) % 2176
    omega

/-- A slice of shard 0. -/
theorem v18_at (k : Fin 1024) (l : Fin 128) : val_main_v18 (F := Ideal) x8 (ix2 k l) = el x8 0 k (2048 + l.val) := by
  rw [val_main_v18_apply, val_main_v10_apply, val_main_v9_apply]
  have hk : k.val < 1024 := k.isLt
  have hl : l.val < 128 := l.isLt
  refine congrArg x8 ?_
  funext d
  match d with
  | ⟨0, _⟩ => exact Fin.ext rfl
  | ⟨1, _⟩ =>
    refine Fin.ext ?_
    show (k.val * 2176 + (2048 + l.val)) / 2176 % 1024 = k.val
    omega
  | ⟨2, _⟩ =>
    refine Fin.ext ?_
    show (k.val * 2176 + (2048 + l.val)) % 2176 = (2048 + l.val) % 2176
    omega

/-- A slice of shard 1. -/
theorem v19_at (k : Fin 1024) (l : Fin 128) : val_main_v19 (F := Ideal) x8 (ix2 k l) = el x8 1 k (0 + l.val) := by
  rw [val_main_v19_apply, val_main_v12_apply, val_main_v11_apply]
  have hk : k.val < 1024 := k.isLt
  have hl : l.val < 128 := l.isLt
  refine congrArg x8 ?_
  funext d
  match d with
  | ⟨0, _⟩ => exact Fin.ext rfl
  | ⟨1, _⟩ =>
    refine Fin.ext ?_
    show (k.val * 2176 + (l.val)) / 2176 % 1024 = k.val
    omega
  | ⟨2, _⟩ =>
    refine Fin.ext ?_
    show (k.val * 2176 + (l.val)) % 2176 = (0 + l.val) % 2176
    omega

/-- A slice of shard 1. -/
theorem v21_at (k : Fin 1024) (l : Fin 2048) : val_main_v21 (F := Ideal) x8 (ix2 k l) = el x8 1 k (128 + l.val) := by
  rw [val_main_v21_apply, val_main_v12_apply, val_main_v11_apply]
  have hk : k.val < 1024 := k.isLt
  have hl : l.val < 2048 := l.isLt
  refine congrArg x8 ?_
  funext d
  match d with
  | ⟨0, _⟩ => exact Fin.ext rfl
  | ⟨1, _⟩ =>
    refine Fin.ext ?_
    show (k.val * 2176 + (128 + l.val)) / 2176 % 1024 = k.val
    omega
  | ⟨2, _⟩ =>
    refine Fin.ext ?_
    show (k.val * 2176 + (128 + l.val)) % 2176 = (128 + l.val) % 2176
    omega

/-- A slice of shard 2. -/
theorem v22_at (k : Fin 1024) (l : Fin 2048) : val_main_v22 (F := Ideal) x8 (ix2 k l) = el x8 2 k (0 + l.val) := by
  rw [val_main_v22_apply, val_main_v14_apply, val_main_v13_apply]
  have hk : k.val < 1024 := k.isLt
  have hl : l.val < 2048 := l.isLt
  refine congrArg x8 ?_
  funext d
  match d with
  | ⟨0, _⟩ => exact Fin.ext rfl
  | ⟨1, _⟩ =>
    refine Fin.ext ?_
    show (k.val * 2176 + (l.val)) / 2176 % 1024 = k.val
    omega
  | ⟨2, _⟩ =>
    refine Fin.ext ?_
    show (k.val * 2176 + (l.val)) % 2176 = (0 + l.val) % 2176
    omega

/-- A slice of shard 2. -/
theorem v23_at (k : Fin 1024) (l : Fin 128) : val_main_v23 (F := Ideal) x8 (ix2 k l) = el x8 2 k (2048 + l.val) := by
  rw [val_main_v23_apply, val_main_v14_apply, val_main_v13_apply]
  have hk : k.val < 1024 := k.isLt
  have hl : l.val < 128 := l.isLt
  refine congrArg x8 ?_
  funext d
  match d with
  | ⟨0, _⟩ => exact Fin.ext rfl
  | ⟨1, _⟩ =>
    refine Fin.ext ?_
    show (k.val * 2176 + (2048 + l.val)) / 2176 % 1024 = k.val
    omega
  | ⟨2, _⟩ =>
    refine Fin.ext ?_
    show (k.val * 2176 + (2048 + l.val)) % 2176 = (2048 + l.val) % 2176
    omega

/-- A slice of shard 3. -/
theorem v24_at (k : Fin 1024) (l : Fin 128) : val_main_v24 (F := Ideal) x8 (ix2 k l) = el x8 3 k (0 + l.val) := by
  rw [val_main_v24_apply, val_main_v16_apply, val_main_v15_apply]
  have hk : k.val < 1024 := k.isLt
  have hl : l.val < 128 := l.isLt
  refine congrArg x8 ?_
  funext d
  match d with
  | ⟨0, _⟩ => exact Fin.ext rfl
  | ⟨1, _⟩ =>
    refine Fin.ext ?_
    show (k.val * 2176 + (l.val)) / 2176 % 1024 = k.val
    omega
  | ⟨2, _⟩ =>
    refine Fin.ext ?_
    show (k.val * 2176 + (l.val)) % 2176 = (0 + l.val) % 2176
    omega

/-- A slice of shard 3. -/
theorem v26_at (k : Fin 1024) (l : Fin 2048) : val_main_v26 (F := Ideal) x8 (ix2 k l) = el x8 3 k (128 + l.val) := by
  rw [val_main_v26_apply, val_main_v16_apply, val_main_v15_apply]
  have hk : k.val < 1024 := k.isLt
  have hl : l.val < 2048 := l.isLt
  refine congrArg x8 ?_
  funext d
  match d with
  | ⟨0, _⟩ => exact Fin.ext rfl
  | ⟨1, _⟩ =>
    refine Fin.ext ?_
    show (k.val * 2176 + (128 + l.val)) / 2176 % 1024 = k.val
    omega
  | ⟨2, _⟩ =>
    refine Fin.ext ?_
    show (k.val * 2176 + (128 + l.val)) % 2176 = (128 + l.val) % 2176
    omega

/-- The gathered weights, as the reference assembles them. -/
theorem v27_at (k : Fin 1024) (p : Fin 8448) : val_main_v27 (F := Ideal) x8 (ix2 k p) = gathered x8 k p.val := by
  have e20 := v17_at x8
  have e23 : ∀ (k : Fin 1024) (l : Fin 128), val_main_v20 (F := Ideal) x8 (ix2 k l) = el x8 0 k (2048 + l.val) + el x8 1 k (0 + l.val) :=
    fun k l => congrArg₂ (· + ·) (v18_at x8 k l) (v19_at x8 k l)
  have e24 := v21_at x8
  have e25 := v22_at x8
  have e28 : ∀ (k : Fin 1024) (l : Fin 128), val_main_v25 (F := Ideal) x8 (ix2 k l) = el x8 2 k (2048 + l.val) + el x8 3 k (0 + l.val) :=
    fun k l => congrArg₂ (· + ·) (v23_at x8 k l) (v24_at x8 k l)
  have e29 := v26_at x8
  unfold val_main_v27
  generalize val_main_v17 (F := Ideal) x8 = y20 at e20 ⊢
  generalize val_main_v20 (F := Ideal) x8 = y23 at e23 ⊢
  generalize val_main_v21 (F := Ideal) x8 = y24 at e24 ⊢
  generalize val_main_v22 (F := Ideal) x8 = y25 at e25 ⊢
  generalize val_main_v25 (F := Ideal) x8 = y28 at e28 ⊢
  generalize val_main_v26 (F := Ideal) x8 = y29 at e29 ⊢
  pointwise
  have hp : p.val < 8448 := p.isLt
  unfold gathered
  by_cases h1 : p.val < 2048
  · rw [dif_pos h1, if_pos h1, e20]
    exact congrArg (el x8 0 k) (by dsimp only; omega)
  rw [dif_neg h1, if_neg h1]
  by_cases h2 : p.val < 2176
  · rw [dif_pos (by omega), if_pos h2, e23]
    exact congrArg₂ (fun a b => el x8 0 k a + el x8 1 k b) (by dsimp only; omega) (by dsimp only; omega)
  rw [dif_neg (by omega), if_neg h2]
  by_cases h3 : p.val < 4224
  · rw [dif_pos (by omega), if_pos h3, e24]
    exact congrArg (el x8 1 k) (by dsimp only; omega)
  rw [dif_neg (by omega), if_neg h3]
  by_cases h4 : p.val < 6272
  · rw [dif_pos (by omega), if_pos h4, e25]
    exact congrArg (el x8 2 k) (by dsimp only; omega)
  rw [dif_neg (by omega), if_neg h4]
  by_cases h5 : p.val < 6400
  · rw [dif_pos (by omega), if_pos h5, e28]
    exact congrArg₂ (fun a b => el x8 2 k a + el x8 3 k b) (by dsimp only; omega) (by dsimp only; omega)
  rw [dif_neg (by omega), if_neg h5, e29]
  exact congrArg (el x8 3 k) (by dsimp only; omega)

/-- The first piece, its columns regrouped. -/
theorem v7_at (n : Fin 8192) (q p : Fin 4096) (hp : p.val = perm q.val) : val_main_v7 (F := Ideal) x0 (ix2 n p) = x0 (ix2 n q) := by
  rw [val_main_v7_apply, val_main_v6_apply, val_main_v5_apply]
  have hn : n.val < 8192 := n.isLt
  have hc : q.val < 4096 := q.isLt
  have hq : p.val < 4096 := p.isLt
  have a1 : (n.val * 4096 + p.val) / 4096 = n.val := by omega
  have a2 : (n.val * 4096 + p.val) / 1024 % 4 = p.val / 1024 := by omega
  have a3 : (n.val * 4096 + p.val) / 128 % 8 = p.val / 128 % 8 := by omega
  have a4 : (n.val * 4096 + p.val) % 128 = p.val % 128 := by omega
  have ep : p.val = q.val / 128 % 4 * 1024 + q.val / 512 * 128 + q.val % 128 := hp.trans (if_pos hc)
  have c1 : p.val / 1024 = q.val / 128 % 4 := by omega
  have c2 : p.val / 128 % 8 = q.val / 512 := by omega
  have c3 : p.val % 128 = q.val % 128 := by omega
  have b1 : q.val / 128 % 4 < 4 := by omega
  have b2 : q.val / 512 < 8 := by omega
  have b3 : q.val % 128 < 128 := by omega
  have eq : q.val = (q.val / 512 * 4 + q.val / 128 % 4) * 128 + q.val % 128 := by omega
  refine congrArg x0 ?_
  funext d
  match d with
  | ⟨0, _⟩ =>
    refine Fin.ext ?_
    show ((((n.val * 4096 + p.val) / 4096 * 8 + (n.val * 4096 + p.val) / 128 % 8) * 4 + (n.val * 4096 + p.val) / 1024 % 4) * 128
      + (n.val * 4096 + p.val) % 128) / 4096 = n.val
    rw [a1, a2, a3, a4, c1, c2, c3]
    clear eq ep c1 c2 c3 hp a1 a2 a3 a4
    generalize q.val / 128 % 4 = u at b1 ⊢
    generalize q.val / 512 = v at b2 ⊢
    generalize q.val % 128 = w at b3 ⊢
    omega
  | ⟨1, _⟩ =>
    refine Fin.ext (Eq.trans ?_ eq.symm)
    show ((((n.val * 4096 + p.val) / 4096 * 8 + (n.val * 4096 + p.val) / 128 % 8) * 4 + (n.val * 4096 + p.val) / 1024 % 4) * 128
      + (n.val * 4096 + p.val) % 128) % 4096 = _
    rw [a1, a2, a3, a4, c1, c2, c3]
    clear eq ep c1 c2 c3 hp a1 a2 a3 a4
    generalize q.val / 128 % 4 = u at b1 ⊢
    generalize q.val / 512 = v at b2 ⊢
    generalize q.val % 128 = w at b3 ⊢
    omega

/-- The pieces side by side. -/
theorem v8_at (n : Fin 8192) (p : Fin 8448) : val_main_v8 (F := Ideal) x0 x1 x2 x3 x4 (ix2 n p)
    = if h : p.val < 4096 then val_main_v7 (F := Ideal) x0 (ix2 n ⟨p.val, h⟩) else if h : p.val < 5120 then x1 (ix2 n ⟨p.val - 4096, by omega⟩)
      else if h : p.val < 5376 then x2 (ix2 n ⟨p.val - 5120, by omega⟩) else if h : p.val < 6400 then x3 (ix2 n ⟨p.val - 5376, by omega⟩)
      else x4 (ix2 n ⟨p.val - 6400, by omega⟩) := by
  have e1 : ∀ i, val_main_v1 (F := Ideal) x1 i = x1 i := fun _ => rfl
  have e2 : ∀ i, val_main_v2 (F := Ideal) x2 i = x2 i := fun _ => rfl
  have e3 : ∀ i, val_main_v3 (F := Ideal) x3 i = x3 i := fun _ => rfl
  have e4 : ∀ i, val_main_v4 (F := Ideal) x4 i = x4 i := fun _ => rfl
  unfold val_main_v8
  generalize val_main_v7 (F := Ideal) x0 = y0
  generalize val_main_v1 (F := Ideal) x1 = y1 at e1 ⊢
  generalize val_main_v2 (F := Ideal) x2 = y2 at e2 ⊢
  generalize val_main_v3 (F := Ideal) x3 = y3 at e3 ⊢
  generalize val_main_v4 (F := Ideal) x4 = y4 at e4 ⊢
  pointwise
  simp only [e1, e2, e3, e4]
  have hp : p.val < 8448 := p.isLt
  by_cases h1 : p.val < 4096
  · rw [dif_pos (by omega), dif_pos h1]
  rw [dif_neg (by omega), dif_neg h1]
  by_cases h2 : p.val < 5120
  · rw [dif_pos (by omega), dif_pos h2]
  rw [dif_neg (by omega), dif_neg h2]
  by_cases h3 : p.val < 5376
  · rw [dif_pos (by omega), dif_pos h3]
    exact congrArg (fun z => x2 (ix2 n z)) (Fin.ext (by dsimp only; omega))
  rw [dif_neg (by omega), dif_neg h3]
  by_cases h4 : p.val < 6400
  · rw [dif_pos (by omega), dif_pos h4]
    exact congrArg (fun z => x3 (ix2 n z)) (Fin.ext (by dsimp only; omega))
  rw [dif_neg (by omega), dif_neg h4]
  exact congrArg (fun z => x4 (ix2 n z)) (Fin.ext (by dsimp only; omega))

/-- The reference's gradient at the normalised rows is the kernel's. -/
theorem v45_at (n : Fin 8192) (k : Fin 1024) : val_main_v45 (F := Ideal) x0 x1 x2 x3 x4 x8 (ix2 n k)
    = dh x0 x1 x2 x3 x4 (Cert.PrenormGradIdeal.Hand.W10 (F := Ideal) x8) n k := by
  have e : val_main_v45 (F := Ideal) x0 x1 x2 x3 x4 x8 (ix2 n k) = ∑ p : Fin 8448, val_main_v8 (F := Ideal) x0 x1 x2 x3 x4 (ix2 n p) * gathered x8 k p.val := by
    rw [val_main_v45_apply]
    refine Finset.sum_congr rfl fun p _ => congrArg₂ (· * ·) (congrArg (val_main_v8 (F := Ideal) x0 x1 x2 x3 x4) ?_) ?_
    · funext d; match d with | ⟨0, _⟩ => rfl | ⟨1, _⟩ => rfl
    · refine Eq.trans ?_ (v27_at x8 k p)
      exact congrArg (val_main_v27 (F := Ideal) x8) (by funext d; match d with | ⟨0, _⟩ => rfl | ⟨1, _⟩ => rfl)
  rw [e, split5]
  unfold dh
  rw [W10_eq]
  refine congrArg₂ (· + ·) (congrArg₂ (· + ·) (congrArg₂ (· + ·) (congrArg₂ (· + ·) ?_ ?_) ?_) ?_) ?_
  · refine (Function.Bijective.sum_comp permF_bij (fun p : Fin 4096 => val_main_v8 (F := Ideal) x0 x1 x2 x3 x4 (ix2 n ⟨p.val, by omega⟩) * gathered x8 k p.val)).symm.trans ?_
    refine Finset.sum_congr rfl fun q _ => congrArg₂ (· * ·) ?_ ?_
    · refine (v8_at x0 x1 x2 x3 x4 n _).trans ?_
      rw [dif_pos (show (permF q).val < 4096 from (permF q).isLt)]
      exact v7_at x0 n q (permF q) rfl
    · refine Eq.trans ?_ (Cert.Pn.W10_at x8 k _).symm
      exact congrArg (fun z => gathered x8 k (perm z)) (Nat.zero_add _).symm
  · refine Finset.sum_congr rfl fun q _ => congrArg₂ (· * ·) ?_ ?_
    · refine (v8_at x0 x1 x2 x3 x4 n _).trans ?_
      rw [dif_neg (by dsimp only; omega), dif_pos (by dsimp only; omega)]
      exact congrArg (fun z => x1 (ix2 n z)) (Fin.ext (by dsimp only; omega))
    · refine Eq.trans ?_ (Cert.Pn.W10_at x8 k _).symm
      exact congrArg (gathered x8 k) (if_neg (by dsimp only; omega)).symm
  · refine Finset.sum_congr rfl fun q _ => congrArg₂ (· * ·) ?_ ?_
    · refine (v8_at x0 x1 x2 x3 x4 n _).trans ?_
      rw [dif_neg (by dsimp only; omega), dif_neg (by dsimp only; omega), dif_pos (by dsimp only; omega)]
      exact congrArg (fun z => x2 (ix2 n z)) (Fin.ext (by dsimp only; omega))
    · refine Eq.trans ?_ (Cert.Pn.W10_at x8 k _).symm
      exact congrArg (gathered x8 k) (if_neg (by dsimp only; omega)).symm
  · refine Finset.sum_congr rfl fun q _ => congrArg₂ (· * ·) ?_ ?_
    · refine (v8_at x0 x1 x2 x3 x4 n _).trans ?_
      rw [dif_neg (by dsimp only; omega), dif_neg (by dsimp only; omega), dif_neg (by dsimp only; omega), dif_pos (by dsimp only; omega)]
      exact congrArg (fun z => x3 (ix2 n z)) (Fin.ext (by dsimp only; omega))
    · refine Eq.trans ?_ (Cert.Pn.W10_at x8 k _).symm
      exact congrArg (gathered x8 k) (if_neg (by dsimp only; omega)).symm
  · refine Finset.sum_congr rfl fun q _ => congrArg₂ (· * ·) ?_ ?_
    · refine (v8_at x0 x1 x2 x3 x4 n _).trans ?_
      rw [dif_neg (by dsimp only; omega), dif_neg (by dsimp only; omega), dif_neg (by dsimp only; omega), dif_neg (by dsimp only; omega)]
      exact congrArg (fun z => x4 (ix2 n z)) (Fin.ext (by dsimp only; omega))
    · refine Eq.trans ?_ (Cert.Pn.W10_at x8 k _).symm
      exact congrArg (gathered x8 k) (if_neg (by dsimp only; omega)).symm

/-- The mean square. -/
theorem v35_at (n : Fin 8192) : val_main_v35 (F := Ideal) x5 (ix2 n 0) = ms x5 n := by
  unfold val_main_v35 val_main_v34 val_main_v33 val_main_v32 val_main_v31 val_main_v30 val_main_v29 val_main_cst val_main_cst_0 val_main_cst_1
  pointwise
  rfl

/-- The row's factor. -/
theorem v36_at (n : Fin 8192) : val_main_v36 (F := Ideal) x5 (ix2 n 0) = Ideal.rsqrt (ms x5 n) := congrArg Ideal.rsqrt (v35_at x5 n)

/-- The normalised rows. -/
theorem v41_at (n : Fin 8192) (k : Fin 1024) : val_main_v41 (F := Ideal) x5 (ix2 n k) = xh x5 n k := by
  have e := v36_at x5
  unfold val_main_v41 val_main_v40
  generalize val_main_v36 (F := Ideal) x5 = y at e ⊢
  pointwise
  rw [e]
  rfl

/-- The gain's gradient. -/
theorem v48_at (q : Fin 1024) : val_main_v48 (F := Ideal) x0 x1 x2 x3 x4 x5 x8 (ix2 0 q)
    = ∑ n : Fin 8192, dh x0 x1 x2 x3 x4 (Cert.PrenormGradIdeal.Hand.W10 (F := Ideal) x8) n q * xh x5 n q := by
  have e := v45_at x0 x1 x2 x3 x4 x8
  have e1 := v41_at x5
  unfold val_main_v48 val_main_v47 val_main_v46 val_main_cst_3
  generalize val_main_v45 (F := Ideal) x0 x1 x2 x3 x4 x8 = y at e ⊢
  generalize val_main_v41 (F := Ideal) x5 = y1 at e1 ⊢
  pointwise
  simp only [e, e1]
  exact Finset.sum_congr rfl fun n _ => mul_comm _ _

/-- The second result. -/
theorem eq67 : ggArr (dh x0 x1 x2 x3 x4 (Cert.PrenormGradIdeal.Hand.W10 (F := Ideal) x8)) x5 = val_main_v67 (F := Ideal) x0 x1 x2 x3 x4 x5 x8 := by
  funext i
  idx_vars i
  refine (ggArr_at _ x5 i0 i1 _ rfl rfl).trans ?_
  have e := v48_at x0 x1 x2 x3 x4 x5 x8
  unfold val_main_v67 val_main_v66 val_main_cst_7
  generalize val_main_v48 (F := Ideal) x0 x1 x2 x3 x4 x5 x8 = y at e ⊢
  pointwise
  have h0 : i0.val < 8 := i0.isLt
  by_cases h : i0.val = 0
  · obtain rfl : i0 = 0 := Fin.ext h
    exact (e i1).symm
  · rw [if_neg h, dif_neg (by omega)]

/-- The gradient's row sum, scaled as the reverse pass does. -/
theorem v59_at (n : Fin 8192) : val_main_v59 (F := Ideal) x0 x1 x2 x3 x4 x5 x7 x8 (ix1 n)
    = Ideal.div ((∑ k : Fin 1024, x5 (ix2 n k) * (dh x0 x1 x2 x3 x4 (Cert.PrenormGradIdeal.Hand.W10 (F := Ideal) x8) n k * x7 (ix2 0 k)))
      * (Ideal.ofBits .f32 0xBF000000#32 * Ideal.div (Ideal.rsqrt (ms x5 n)) (ms x5 n))) (Ideal.ofBits .f32 0x44800000#32) := by
  have e := v45_at x0 x1 x2 x3 x4 x8
  have e1 := v36_at x5
  have e2 := v35_at x5
  unfold val_main_v59 val_main_v58 val_main_v57 val_main_v56 val_main_v53 val_main_v52 val_main_v51 val_main_v50 val_main_v49 val_main_v39 val_main_v38 val_main_v37
    val_main_cst_2 val_main_cst_4 val_main_cst_5 val_main_cst_6
  generalize val_main_v45 (F := Ideal) x0 x1 x2 x3 x4 x8 = y at e ⊢
  generalize val_main_v36 (F := Ideal) x5 = y1 at e1 ⊢
  generalize val_main_v35 (F := Ideal) x5 = y2 at e2 ⊢
  pointwise
  simp only [e]
  rw [Fin.sum_univ_one, e1, e2]

/-- The first result at an index. -/
theorem v65_at (n : Fin 8192) (q : Fin 1024) : val_main_v65 (F := Ideal) x0 x1 x2 x3 x4 x5 x6 x7 x8 (ix2 n q)
    = gx (dh x0 x1 x2 x3 x4 (Cert.PrenormGradIdeal.Hand.W10 (F := Ideal) x8)) x5 x6 x7 n q := by
  have e := v45_at x0 x1 x2 x3 x4 x8
  have e1 := v36_at x5
  have e2 := v59_at x0 x1 x2 x3 x4 x5 x7 x8
  unfold val_main_v65 val_main_v64 val_main_v63 val_main_v62 val_main_v61 val_main_v60 val_main_v55 val_main_v54 val_main_v50 val_main_v49
  generalize val_main_v45 (F := Ideal) x0 x1 x2 x3 x4 x8 = y at e ⊢
  generalize val_main_v36 (F := Ideal) x5 = y1 at e1 ⊢
  generalize val_main_v59 (F := Ideal) x0 x1 x2 x3 x4 x5 x7 x8 = y2 at e2 ⊢
  pointwise
  simp only [e, e1, e2]
  unfold gx xh
  rw [bits_1024]
  exact congrArg (x6 (ix2 n q) + ·) (vjp_eq (ms x5 n) (ms_pos x5 n) (fun k => x5 (ix2 n k))
    (fun k => dh x0 x1 x2 x3 x4 (Cert.PrenormGradIdeal.Hand.W10 (F := Ideal) x8) n k * x7 (ix2 0 k)) q)

/-- The first result. -/
theorem eq65 : gxArr (dh x0 x1 x2 x3 x4 (Cert.PrenormGradIdeal.Hand.W10 (F := Ideal) x8)) x5 x6 x7 = val_main_v65 (F := Ideal) x0 x1 x2 x3 x4 x5 x6 x7 x8 := by
  funext i
  idx_vars i
  exact (gxArr_at _ x5 x6 x7 i0 i1 _ rfl rfl).trans (v65_at x0 x1 x2 x3 x4 x5 x6 x7 x8 i0 i1).symm

/-- The claim of equal results. -/
theorem algebraic : Cert.algebraic_PrenormGradIdeal_PrenormGradReferenceIdeal := by
  intro m g m' g' hpre hagree
  refine ⟨_, _, run m g, ?_⟩
  refine (θ_run _ _ _).mono (fun r h c => ?_) (refRun m' g')
  obtain ⟨e0, e1, e2, e3, e4, e5, e6, e7, e8⟩ := hagree c
  obtain ⟨h0, h1, hargs⟩ := h c
  rw [e0, e1, e2, e3, e4, e5, e6, e7, e8] at h0
  rw [e0, e1, e2, e3, e4, e5, e8] at h1
  exact ⟨h0.trans (eq65 ..).symm, h1.trans (eq67 ..).symm, hargs⟩

end Cert.Pg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Pre_own_shard
public import proofs.«01_k».proof.Proof.Gen.ReferenceIdeal
public import proofs.«01_k».proof.Proof.Gen.Pre_finite_conv
public import proofs.«01_k».proof.Proof.Gen.KernelIdeal.Value
public import proofs.«01_k».proof.Proof.Gen.ReferenceIdeal.Run
public import proofs.«01_k».proof.Proof.Gen.ReferenceIdeal.Read
public import proofs.«01_k».proof.Proof.ConvEq
public import proofs.«01_k».proof.Proof.MergePre
public import proofs.«01_k».proof.Proof.MergeRefRun
public import proofs.«01_k».proof.Proof.MergeEq
public import proofs.«01_k».proof.Proof.ProjPre
public import proofs.«01_k».proof.Proof.ProjEq
public import proofs.«01_k».proof.Proof.GinPre
public import proofs.«01_k».proof.Proof.GinEq
public import proofs.«01_k».proof.Proof.PrenormEq
public import proofs.«01_k».proof.Proof.PrenormGradEq
public import proofs.«01_k».proof.Proof.Gen.Projections
public import proofs.«01_k».proof.Proof.Gen.Projections.Skeleton
public import proofs.«01_k».proof.Proof.Gen.Projections.Launch
public import proofs.«01_k».proof.Proof.Gen.Projections.Points
public import proofs.«01_k».proof.Proof.Gen.Projections.Frame
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Points
public import proofs.«01_k».proof.Proof.Gen.ProjectionsIdeal.Frame
public import proofs.«01_k».proof.Proof.Gen.ProjectionsReferenceIdeal
public import proofs.«01_k».proof.Proof.Gen.ProjectionsReferenceIdeal.Run
public import proofs.«01_k».proof.Proof.Gen.ProjectionsReferenceIdeal.Read
public import proofs.«01_k».proof.Proof.Gen.InputProjection
public import proofs.«01_k».proof.Proof.Gen.InputProjection.Skeleton
public import proofs.«01_k».proof.Proof.Gen.InputProjectionIdeal
public import proofs.«01_k».proof.Proof.Gen.InputProjectionIdeal.Skeleton
public import proofs.«01_k».proof.Proof.Gen.InputProjectionIdeal.Launch
public import proofs.«01_k».proof.Proof.Gen.InputProjectionIdeal.Points
public import proofs.«01_k».proof.Proof.Gen.InputProjectionIdeal.Frame
public import proofs.«01_k».proof.Proof.Gen.InputProjectionReferenceIdeal
public import proofs.«01_k».proof.Proof.Gen.InputProjectionReferenceIdeal.Run
public import proofs.«01_k».proof.Proof.Gen.InputProjectionReferenceIdeal.Read
public import proofs.«01_k».proof.Proof.Gen.Prenorm
public import proofs.«01_k».proof.Proof.Gen.PrenormGrad
public import proofs.«01_k».proof.Proof.Gen.Prenorm.Skeleton
public import proofs.«01_k».proof.Proof.Gen.PrenormGrad.Skeleton
public import proofs.«01_k».proof.Proof.Gen.PrenormIdeal
public import proofs.«01_k».proof.Proof.Gen.PrenormGradIdeal
public import proofs.«01_k».proof.Proof.Gen.PrenormIdeal.Skeleton
public import proofs.«01_k».proof.Proof.Gen.PrenormGradIdeal.Skeleton
public import proofs.«01_k».proof.Proof.Gen.PrenormIdeal.Launch
public import proofs.«01_k».proof.Proof.Gen.PrenormGradIdeal.Launch
public import proofs.«01_k».proof.Proof.Gen.PrenormIdeal.Points
public import proofs.«01_k».proof.Proof.Gen.PrenormGradIdeal.Points
public import proofs.«01_k».proof.Proof.Gen.PrenormIdeal.Frame
public import proofs.«01_k».proof.Proof.Gen.PrenormGradIdeal.Frame
public import proofs.«01_k».proof.Proof.Gen.PrenormReferenceIdeal
public import proofs.«01_k».proof.Proof.Gen.PrenormGradReferenceIdeal
public import proofs.«01_k».proof.Proof.Gen.PrenormReferenceIdeal.Run
public import proofs.«01_k».proof.Proof.Gen.PrenormGradReferenceIdeal.Run
public import proofs.«01_k».proof.Proof.Gen.PrenormReferenceIdeal.Read
public import proofs.«01_k».proof.Proof.Gen.PrenormGradReferenceIdeal.Read
public import Idealize.ShloMosaic.Adequacy
public import Idealize.ShloMosaic.Init

@[expose] public section

noncomputable section

namespace Cert.Proof

open Idealize.ShloMosaic Idealize.SL.Sem Cert.Kernel

/-- The reference runs and leaves its arguments; it declares no semaphore. -/
theorem conv_frame_reference : Cert.quiescent_ReferenceIdeal := fun m ρ _ =>
  (θ_run Cert.ReferenceIdeal.defs _ _).mono (fun _ h => ⟨fun c => (h c).2.2, funext nofun⟩) (Cert.ReferenceIdeal.Value.run (F := Ideal) m ρ)

/-- The merge reference runs and leaves its arguments; it declares no semaphore. -/
theorem merge_frame_reference : Cert.quiescent_MergeReferenceIdeal := fun m ρ _ =>
  (θ_run Cert.MergeReferenceIdeal.defs _ _).mono (fun _ h => ⟨fun c => (h c).2.2.2.2.2.2, funext nofun⟩)
    (Cert.Merge.refRun m ρ)

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Projections.Gen.facts, Cert.ProjectionsIdeal.Gen.facts, Cert.ProjectionsReferenceIdeal.Gen.facts,
  Cert.InputProjection.Gen.facts, Cert.InputProjectionIdeal.Gen.facts, Cert.InputProjectionReferenceIdeal.Gen.facts,
  Cert.Prenorm.Gen.facts, Cert.PrenormIdeal.Gen.facts, Cert.PrenormReferenceIdeal.Gen.facts,
  Cert.PrenormGrad.Gen.facts, Cert.PrenormGradIdeal.Gen.facts, Cert.PrenormGradReferenceIdeal.Gen.facts,
  Cert.Pre_finite_conv.Gen.facts, Cert.Pre_own_shard.Gen.facts,
  fun m ρ _ => Cert.Kernel.Gen.frame m ρ,
  fun m ρ _ => Cert.KernelIdeal.Gen.frame m ρ,
  fun m ρ _ => Cert.KernelIdeal.Gen.frame m ρ,
  conv_frame_reference,
  fun m ρ _ => conv_frame_reference m ρ trivial,
  Cert.MergeIdeal.Hand.merge_frame,
  Cert.MergeIdeal.Hand.mergeIdeal_frame,
  merge_frame_reference,
  fun m ρ _ => merge_frame_reference m ρ trivial,
  Cert.Proj.frame,
  Cert.Proj.frameIdeal,
  Cert.Proj.frameReference,
  Cert.Gin.frame,
  Cert.Gin.frameIdeal,
  Cert.Gin.frameReference,
  Cert.Pn.frame,
  Cert.Pn.frameIdeal,
  Cert.Pn.frameReference,
  Cert.Pg.frame,
  Cert.Pg.frameIdeal,
  Cert.Pg.frameReference,
  trivial,
  Cert.Conv.algebraic,
  trivial,
  Cert.Merge.algebraic,
  trivial,
  Cert.Proj.algebraic,
  trivial,
  Cert.Gin.algebraic,
  trivial,
  Cert.Pn.algebraic,
  trivial,
  Cert.Pg.algebraic⟩

end Cert.Proof

end
